-- ==== Defs.lean ====
def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_finite_ffn_in [hPre_finite_ffn_in : Cert.Pre_finite_ffn_in.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_finite_ffn_in.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6)) (m ((c.tc : Thread Cert.FfnInIdeal.nD Cert.FfnInIdeal.τ).loc Cert.FfnInIdeal.main_arg7))).1 = (fun _ => 1#1)
    ∧ (Cert.Pre_finite_ffn_in.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6)) (m ((c.tc : Thread Cert.FfnInIdeal.nD Cert.FfnInIdeal.τ).loc Cert.FfnInIdeal.main_arg7))).2.1 = (fun _ => 1#1)
    ∧ (Cert.Pre_finite_ffn_in.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6)) (m ((c.tc : Thread Cert.FfnInIdeal.nD Cert.FfnInIdeal.τ).loc Cert.FfnInIdeal.main_arg7))).2.2.1 = (fun _ => 1#1)
    ∧ (Cert.Pre_finite_ffn_in.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6)) (m ((c.tc : Thread Cert.FfnInIdeal.nD Cert.FfnInIdeal.τ).loc Cert.FfnInIdeal.main_arg7))).2.2.2.1 = (fun _ => 1#1)
    ∧ (Cert.Pre_finite_ffn_in.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6)) (m ((c.tc : Thread Cert.FfnInIdeal.nD Cert.FfnInIdeal.τ).loc Cert.FfnInIdeal.main_arg7))).2.2.2.2.1 = (fun _ => 1#1)
    ∧ (Cert.Pre_finite_ffn_in.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6)) (m ((c.tc : Thread Cert.FfnInIdeal.nD Cert.FfnInIdeal.τ).loc Cert.FfnInIdeal.main_arg7))).2.2.2.2.2.1 = (fun _ => 1#1)
    ∧ (Cert.Pre_finite_ffn_in.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6)) (m ((c.tc : Thread Cert.FfnInIdeal.nD Cert.FfnInIdeal.τ).loc Cert.FfnInIdeal.main_arg7))).2.2.2.2.2.2 = (fun _ => 1#1)

def Pre_FfnInRefIdeal (m : (ℓ : Loc Cert.FfnInRefIdeal.nD Cert.FfnInRefIdeal.τ Cert.FfnInRefIdeal.sig) → Buf (Elt Ideal) ℓ) : Prop :=
  True

def Pre_FfnInRefIdeal_finite_ffn_in [hPre_finite_ffn_in : Cert.Pre_finite_ffn_in.Facts] (m : (ℓ : Loc Cert.FfnInRefIdeal.nD Cert.FfnInRefIdeal.τ Cert.FfnInRefIdeal.sig) → Buf (Elt Ideal) ℓ) : Prop :=
  ∀ c : Dev Cert.FfnInRefIdeal.nD,
    (Cert.Pre_finite_ffn_in.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6)) (m ((c.tc : Thread Cert.FfnInRefIdeal.nD Cert.FfnInRefIdeal.τ).loc Cert.FfnInRefIdeal.main_arg7))).1 = (fun _ => 1#1)
    ∧ (Cert.Pre_finite_ffn_in.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6)) (m ((c.tc : Thread Cert.FfnInRefIdeal.nD Cert.FfnInRefIdeal.τ).loc Cert.FfnInRefIdeal.main_arg7))).2.1 = (fun _ => 1#1)
    ∧ (Cert.Pre_finite_ffn_in.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6)) (m ((c.tc : Thread Cert.FfnInRefIdeal.nD Cert.FfnInRefIdeal.τ).loc Cert.FfnInRefIdeal.main_arg7))).2.2.1 = (fun _ => 1#1)
    ∧ (Cert.Pre_finite_ffn_in.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6)) (m ((c.tc : Thread Cert.FfnInRefIdeal.nD Cert.FfnInRefIdeal.τ).loc Cert.FfnInRefIdeal.main_arg7))).2.2.2.1 = (fun _ => 1#1)
    ∧ (Cert.Pre_finite_ffn_in.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6)) (m ((c.tc : Thread Cert.FfnInRefIdeal.nD Cert.FfnInRefIdeal.τ).loc Cert.FfnInRefIdeal.main_arg7))).2.2.2.2.1 = (fun _ => 1#1)
    ∧ (Cert.Pre_finite_ffn_in.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6)) (m ((c.tc : Thread Cert.FfnInRefIdeal.nD Cert.FfnInRefIdeal.τ).loc Cert.FfnInRefIdeal.main_arg7))).2.2.2.2.2.1 = (fun _ => 1#1)
    ∧ (Cert.Pre_finite_ffn_in.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6)) (m ((c.tc : Thread Cert.FfnInRefIdeal.nD Cert.FfnInRefIdeal.τ).loc Cert.FfnInRefIdeal.main_arg7))).2.2.2.2.2.2 = (fun _ => 1#1)

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInIdeal_finite_conv_in [hPre_finite_conv_in : Cert.Pre_finite_conv_in.Facts] (m : (ℓ : Loc Cert.ConvInIdeal.nD Cert.ConvInIdeal.τ Cert.ConvInIdeal.sig) → Buf (Elt Ideal) ℓ) : Prop :=
  ∀ c : Dev Cert.ConvInIdeal.nD,
    (Cert.Pre_finite_conv_in.fn (F := Ideal) (m ((c.tc : Thread Cert.ConvInIdeal.nD Cert.ConvInIdeal.τ).loc Cert.ConvInIdeal.main_arg0)) (m ((c.tc : Thread Cert.ConvInIdeal.nD Cert.ConvInIdeal.τ).loc Cert.ConvInIdeal.main_arg1)) (m ((c.tc : Thread Cert.ConvInIdeal.nD Cert.ConvInIdeal.τ).loc Cert.ConvInIdeal.main_arg2)) (m ((c.tc : Thread Cert.ConvInIdeal.nD Cert.ConvInIdeal.τ).loc Cert.ConvInIdeal.main_arg3)) (m ((c.tc : Thread Cert.ConvInIdeal.nD Cert.ConvInIdeal.τ).loc Cert.ConvInIdeal.main_arg4))).1 = (fun _ => 1#1)
    ∧ (Cert.Pre_finite_conv_in.fn (F := Ideal) (m ((c.tc : Thread Cert.ConvInIdeal.nD Cert.ConvInIdeal.τ).loc Cert.ConvInIdeal.main_arg0)) (m ((c.tc : Thread Cert.ConvInIdeal.nD Cert.ConvInIdeal.τ).loc Cert.ConvInIdeal.main_arg1)) (m ((c.tc : Thread Cert.ConvInIdeal.nD Cert.ConvInIdeal.τ).loc Cert.ConvInIdeal.main_arg2)) (m ((c.tc : Thread Cert.ConvInIdeal.nD Cert.ConvInIdeal.τ).loc Cert.ConvInIdeal.main_arg3)) (m ((c.tc : Thread Cert.ConvInIdeal.nD Cert.ConvInIdeal.τ).loc Cert.ConvInIdeal.main_arg4))).2.1 = (fun _ => 1#1)
    ∧ (Cert.Pre_finite_conv_in.fn (F := Ideal) (m ((c.tc : Thread Cert.ConvInIdeal.nD Cert.ConvInIdeal.τ).loc Cert.ConvInIdeal.main_arg0)) (m ((c.tc : Thread Cert.ConvInIdeal.nD Cert.ConvInIdeal.τ).loc Cert.ConvInIdeal.main_arg1)) (m ((c.tc : Thread Cert.ConvInIdeal.nD Cert.ConvInIdeal.τ).loc Cert.ConvInIdeal.main_arg2)) (m ((c.tc : Thread Cert.ConvInIdeal.nD Cert.ConvInIdeal.τ).loc Cert.ConvInIdeal.main_arg3)) (m ((c.tc : Thread Cert.ConvInIdeal.nD Cert.ConvInIdeal.τ).loc Cert.ConvInIdeal.main_arg4))).2.2.1 = (fun _ => 1#1)
    ∧ (Cert.Pre_finite_conv_in.fn (F := Ideal) (m ((c.tc : Thread Cert.ConvInIdeal.nD Cert.ConvInIdeal.τ).loc Cert.ConvInIdeal.main_arg0)) (m ((c.tc : Thread Cert.ConvInIdeal.nD Cert.ConvInIdeal.τ).loc Cert.ConvInIdeal.main_arg1)) (m ((c.tc : Thread Cert.ConvInIdeal.nD Cert.ConvInIdeal.τ).loc Cert.ConvInIdeal.main_arg2)) (m ((c.tc : Thread Cert.ConvInIdeal.nD Cert.ConvInIdeal.τ).loc Cert.ConvInIdeal.main_arg3)) (m ((c.tc : Thread Cert.ConvInIdeal.nD Cert.ConvInIdeal.τ).loc Cert.ConvInIdeal.main_arg4))).2.2.2 = (fun _ => 1#1)

def Pre_ConvInRefIdeal (m : (ℓ : Loc Cert.ConvInRefIdeal.nD Cert.ConvInRefIdeal.τ Cert.ConvInRefIdeal.sig) → Buf (Elt Ideal) ℓ) : Prop :=
  True

def Pre_ConvInRefIdeal_finite_conv_in [hPre_finite_conv_in : Cert.Pre_finite_conv_in.Facts] (m : (ℓ : Loc Cert.ConvInRefIdeal.nD Cert.ConvInRefIdeal.τ Cert.ConvInRefIdeal.sig) → Buf (Elt Ideal) ℓ) : Prop :=
  ∀ c : Dev Cert.ConvInRefIdeal.nD,
    (Cert.Pre_finite_conv_in.fn (F := Ideal) (m ((c.tc : Thread Cert.ConvInRefIdeal.nD Cert.ConvInRefIdeal.τ).loc Cert.ConvInRefIdeal.main_arg0)) (m ((c.tc : Thread Cert.ConvInRefIdeal.nD Cert.ConvInRefIdeal.τ).loc Cert.ConvInRefIdeal.main_arg1)) (m ((c.tc : Thread Cert.ConvInRefIdeal.nD Cert.ConvInRefIdeal.τ).loc Cert.ConvInRefIdeal.main_arg2)) (m ((c.tc : Thread Cert.ConvInRefIdeal.nD Cert.ConvInRefIdeal.τ).loc Cert.ConvInRefIdeal.main_arg3)) (m ((c.tc : Thread Cert.ConvInRefIdeal.nD Cert.ConvInRefIdeal.τ).loc Cert.ConvInRefIdeal.main_arg4))).1 = (fun _ => 1#1)
    ∧ (Cert.Pre_finite_conv_in.fn (F := Ideal) (m ((c.tc : Thread Cert.ConvInRefIdeal.nD Cert.ConvInRefIdeal.τ).loc Cert.ConvInRefIdeal.main_arg0)) (m ((c.tc : Thread Cert.ConvInRefIdeal.nD Cert.ConvInRefIdeal.τ).loc Cert.ConvInRefIdeal.main_arg1)) (m ((c.tc : Thread Cert.ConvInRefIdeal.nD Cert.ConvInRefIdeal.τ).loc Cert.ConvInRefIdeal.main_arg2)) (m ((c.tc : Thread Cert.ConvInRefIdeal.nD Cert.ConvInRefIdeal.τ).loc Cert.ConvInRefIdeal.main_arg3)) (m ((c.tc : Thread Cert.ConvInRefIdeal.nD Cert.ConvInRefIdeal.τ).loc Cert.ConvInRefIdeal.main_arg4))).2.1 = (fun _ => 1#1)
    ∧ (Cert.Pre_finite_conv_in.fn (F := Ideal) (m ((c.tc : Thread Cert.ConvInRefIdeal.nD Cert.ConvInRefIdeal.τ).loc Cert.ConvInRefIdeal.main_arg0)) (m ((c.tc : Thread Cert.ConvInRefIdeal.nD Cert.ConvInRefIdeal.τ).loc Cert.ConvInRefIdeal.main_arg1)) (m ((c.tc : Thread Cert.ConvInRefIdeal.nD Cert.ConvInRefIdeal.τ).loc Cert.ConvInRefIdeal.main_arg2)) (m ((c.tc : Thread Cert.ConvInRefIdeal.nD Cert.ConvInRefIdeal.τ).loc Cert.ConvInRefIdeal.main_arg3)) (m ((c.tc : Thread Cert.ConvInRefIdeal.nD Cert.ConvInRefIdeal.τ).loc Cert.ConvInRefIdeal.main_arg4))).2.2.1 = (fun _ => 1#1)
    ∧ (Cert.Pre_finite_conv_in.fn (F := Ideal) (m ((c.tc : Thread Cert.ConvInRefIdeal.nD Cert.ConvInRefIdeal.τ).loc Cert.ConvInRefIdeal.main_arg0)) (m ((c.tc : Thread Cert.ConvInRefIdeal.nD Cert.ConvInRefIdeal.τ).loc Cert.ConvInRefIdeal.main_arg1)) (m ((c.tc : Thread Cert.ConvInRefIdeal.nD Cert.ConvInRefIdeal.τ).loc Cert.ConvInRefIdeal.main_arg2)) (m ((c.tc : Thread Cert.ConvInRefIdeal.nD Cert.ConvInRefIdeal.τ).loc Cert.ConvInRefIdeal.main_arg3)) (m ((c.tc : Thread Cert.ConvInRefIdeal.nD Cert.ConvInRefIdeal.τ).loc Cert.ConvInRefIdeal.main_arg4))).2.2.2 = (fun _ => 1#1)

def Pre_AttnIn (m : (ℓ : Loc Cert.AttnIn.nD Cert.AttnIn.τ Cert.AttnIn.sig) → Buf (Elt Bits) ℓ) : Prop :=
  True

def Pre_AttnInIdeal (m : (ℓ : Loc Cert.AttnInIdeal.nD Cert.AttnInIdeal.τ Cert.AttnInIdeal.sig) → Buf (Elt Ideal) ℓ) : Prop :=
  True

def Pre_AttnInIdeal_finite_attn_in [hPre_finite_attn_in : Cert.Pre_finite_attn_in.Facts] (m : (ℓ : Loc Cert.AttnInIdeal.nD Cert.AttnInIdeal.τ Cert.AttnInIdeal.sig) → Buf (Elt Ideal) ℓ) : Prop :=
  ∀ c : Dev Cert.AttnInIdeal.nD,
    (Cert.Pre_finite_attn_in.fn (F := Ideal) (m ((c.tc : Thread Cert.AttnInIdeal.nD Cert.AttnInIdeal.τ).loc Cert.AttnInIdeal.main_arg0)) (m ((c.tc : Thread Cert.AttnInIdeal.nD Cert.AttnInIdeal.τ).loc Cert.AttnInIdeal.main_arg1)) (m ((c.tc : Thread Cert.AttnInIdeal.nD Cert.AttnInIdeal.τ).loc Cert.AttnInIdeal.main_arg2)) (m ((c.tc : Thread Cert.AttnInIdeal.nD Cert.AttnInIdeal.τ).loc Cert.AttnInIdeal.main_arg3)) (m ((c.tc : Thread Cert.AttnInIdeal.nD Cert.AttnInIdeal.τ).loc Cert.AttnInIdeal.main_arg4))).1 = (fun _ => 1#1)
    ∧ (Cert.Pre_finite_attn_in.fn (F := Ideal) (m ((c.tc : Thread Cert.AttnInIdeal.nD Cert.AttnInIdeal.τ).loc Cert.AttnInIdeal.main_arg0)) (m ((c.tc : Thread Cert.AttnInIdeal.nD Cert.AttnInIdeal.τ).loc Cert.AttnInIdeal.main_arg1)) (m ((c.tc : Thread Cert.AttnInIdeal.nD Cert.AttnInIdeal.τ).loc Cert.AttnInIdeal.main_arg2)) (m ((c.tc : Thread Cert.AttnInIdeal.nD Cert.AttnInIdeal.τ).loc Cert.AttnInIdeal.main_arg3)) (m ((c.tc : Thread Cert.AttnInIdeal.nD Cert.AttnInIdeal.τ).loc Cert.AttnInIdeal.main_arg4))).2.1 = (fun _ => 1#1)
    ∧ (Cert.Pre_finite_attn_in.fn (F := Ideal) (m ((c.tc : Thread Cert.AttnInIdeal.nD Cert.AttnInIdeal.τ).loc Cert.AttnInIdeal.main_arg0)) (m ((c.tc : Thread Cert.AttnInIdeal.nD Cert.AttnInIdeal.τ).loc Cert.AttnInIdeal.main_arg1)) (m ((c.tc : Thread Cert.AttnInIdeal.nD Cert.AttnInIdeal.τ).loc Cert.AttnInIdeal.main_arg2)) (m ((c.tc : Thread Cert.AttnInIdeal.nD Cert.AttnInIdeal.τ).loc Cert.AttnInIdeal.main_arg3)) (m ((c.tc : Thread Cert.AttnInIdeal.nD Cert.AttnInIdeal.τ).loc Cert.AttnInIdeal.main_arg4))).2.2.1 = (fun _ => 1#1)
    ∧ (Cert.Pre_finite_attn_in.fn (F := Ideal) (m ((c.tc : Thread Cert.AttnInIdeal.nD Cert.AttnInIdeal.τ).loc Cert.AttnInIdeal.main_arg0)) (m ((c.tc : Thread Cert.AttnInIdeal.nD Cert.AttnInIdeal.τ).loc Cert.AttnInIdeal.main_arg1)) (m ((c.tc : Thread Cert.AttnInIdeal.nD Cert.AttnInIdeal.τ).loc Cert.AttnInIdeal.main_arg2)) (m ((c.tc : Thread Cert.AttnInIdeal.nD Cert.AttnInIdeal.τ).loc Cert.AttnInIdeal.main_arg3)) (m ((c.tc : Thread Cert.AttnInIdeal.nD Cert.AttnInIdeal.τ).loc Cert.AttnInIdeal.main_arg4))).2.2.2 = (fun _ => 1#1)

def Pre_AttnInRefIdeal (m : (ℓ : Loc Cert.AttnInRefIdeal.nD Cert.AttnInRefIdeal.τ Cert.AttnInRefIdeal.sig) → Buf (Elt Ideal) ℓ) : Prop :=
  True

def Pre_AttnInRefIdeal_finite_attn_in [hPre_finite_attn_in : Cert.Pre_finite_attn_in.Facts] (m : (ℓ : Loc Cert.AttnInRefIdeal.nD Cert.AttnInRefIdeal.τ Cert.AttnInRefIdeal.sig) → Buf (Elt Ideal) ℓ) : Prop :=
  ∀ c : Dev Cert.AttnInRefIdeal.nD,
    (Cert.Pre_finite_attn_in.fn (F := Ideal) (m ((c.tc : Thread Cert.AttnInRefIdeal.nD Cert.AttnInRefIdeal.τ).loc Cert.AttnInRefIdeal.main_arg0)) (m ((c.tc : Thread Cert.AttnInRefIdeal.nD Cert.AttnInRefIdeal.τ).loc Cert.AttnInRefIdeal.main_arg1)) (m ((c.tc : Thread Cert.AttnInRefIdeal.nD Cert.AttnInRefIdeal.τ).loc Cert.AttnInRefIdeal.main_arg2)) (m ((c.tc : Thread Cert.AttnInRefIdeal.nD Cert.AttnInRefIdeal.τ).loc Cert.AttnInRefIdeal.main_arg3)) (m ((c.tc : Thread Cert.AttnInRefIdeal.nD Cert.AttnInRefIdeal.τ).loc Cert.AttnInRefIdeal.main_arg4))).1 = (fun _ => 1#1)
    ∧ (Cert.Pre_finite_attn_in.fn (F := Ideal) (m ((c.tc : Thread Cert.AttnInRefIdeal.nD Cert.AttnInRefIdeal.τ).loc Cert.AttnInRefIdeal.main_arg0)) (m ((c.tc : Thread Cert.AttnInRefIdeal.nD Cert.AttnInRefIdeal.τ).loc Cert.AttnInRefIdeal.main_arg1)) (m ((c.tc : Thread Cert.AttnInRefIdeal.nD Cert.AttnInRefIdeal.τ).loc Cert.AttnInRefIdeal.main_arg2)) (m ((c.tc : Thread Cert.AttnInRefIdeal.nD Cert.AttnInRefIdeal.τ).loc Cert.AttnInRefIdeal.main_arg3)) (m ((c.tc : Thread Cert.AttnInRefIdeal.nD Cert.AttnInRefIdeal.τ).loc Cert.AttnInRefIdeal.main_arg4))).2.1 = (fun _ => 1#1)
    ∧ (Cert.Pre_finite_attn_in.fn (F := Ideal) (m ((c.tc : Thread Cert.AttnInRefIdeal.nD Cert.AttnInRefIdeal.τ).loc Cert.AttnInRefIdeal.main_arg0)) (m ((c.tc : Thread Cert.AttnInRefIdeal.nD Cert.AttnInRefIdeal.τ).loc Cert.AttnInRefIdeal.main_arg1)) (m ((c.tc : Thread Cert.AttnInRefIdeal.nD Cert.AttnInRefIdeal.τ).loc Cert.AttnInRefIdeal.main_arg2)) (m ((c.tc : Thread Cert.AttnInRefIdeal.nD Cert.AttnInRefIdeal.τ).loc Cert.AttnInRefIdeal.main_arg3)) (m ((c.tc : Thread Cert.AttnInRefIdeal.nD Cert.AttnInRefIdeal.τ).loc Cert.AttnInRefIdeal.main_arg4))).2.2.1 = (fun _ => 1#1)
    ∧ (Cert.Pre_finite_attn_in.fn (F := Ideal) (m ((c.tc : Thread Cert.AttnInRefIdeal.nD Cert.AttnInRefIdeal.τ).loc Cert.AttnInRefIdeal.main_arg0)) (m ((c.tc : Thread Cert.AttnInRefIdeal.nD Cert.AttnInRefIdeal.τ).loc Cert.AttnInRefIdeal.main_arg1)) (m ((c.tc : Thread Cert.AttnInRefIdeal.nD Cert.AttnInRefIdeal.τ).loc Cert.AttnInRefIdeal.main_arg2)) (m ((c.tc : Thread Cert.AttnInRefIdeal.nD Cert.AttnInRefIdeal.τ).loc Cert.AttnInRefIdeal.main_arg3)) (m ((c.tc : Thread Cert.AttnInRefIdeal.nD Cert.AttnInRefIdeal.τ).loc Cert.AttnInRefIdeal.main_arg4))).2.2.2 = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_finite_down [hPre_finite_down : Cert.Pre_finite_down.Facts] (m : (ℓ : Loc Cert.DownIdeal.nD Cert.DownIdeal.τ Cert.DownIdeal.sig) → Buf (Elt Ideal) ℓ) : Prop :=
  ∀ c : Dev Cert.DownIdeal.nD,
    (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))).1 = (fun _ => 1#1)
    ∧ (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))).2.1 = (fun _ => 1#1)
    ∧ (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))).2.2.1 = (fun _ => 1#1)
    ∧ (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))).2.2.2 = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_finite_down [hPre_finite_down : Cert.Pre_finite_down.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))).1 = (fun _ => 1#1)
    ∧ (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))).2.1 = (fun _ => 1#1)
    ∧ (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))).2.2.1 = (fun _ => 1#1)
    ∧ (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))).2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.2 = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_fwd [hPre_finite_fwd : Cert.Pre_finite_fwd.Facts] (m : (ℓ : Loc Cert.FwdIdeal.nD Cert.FwdIdeal.τ Cert.FwdIdeal.sig) → Buf (Elt Ideal) ℓ) : Prop :=
  ∀ c : Dev Cert.FwdIdeal.nD,
    (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3))).1 = (fun _ => 1#1)
    ∧ (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3))).2.1 = (fun _ => 1#1)
    ∧ (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3))).2.2 = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite_fwd [hPre_finite_fwd : Cert.Pre_finite_fwd.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3))).1 = (fun _ => 1#1)
    ∧ (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3))).2.1 = (fun _ => 1#1)
    ∧ (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3))).2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_finite_up [hPre_finite_up : Cert.Pre_finite_up.Facts] (m : (ℓ : Loc Cert.UpIdeal.nD Cert.UpIdeal.τ Cert.UpIdeal.sig) → Buf (Elt Ideal) ℓ) : Prop :=
  ∀ c : Dev Cert.UpIdeal.nD,
    (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2))).1 = (fun _ => 1#1)
    ∧ (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2))).2.1 = (fun _ => 1#1)
    ∧ (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2))).2.2 = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_finite_up [hPre_finite_up : Cert.Pre_finite_up.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2))).1 = (fun _ => 1#1)
    ∧ (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2))).2.1 = (fun _ => 1#1)
    ∧ (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2))).2.2 = (fun _ => 1#1)

def Pre_Pw1 (m : (ℓ : Loc Cert.Pw1.nD Cert.Pw1.τ Cert.Pw1.sig) → Buf (Elt Bits) ℓ) : Prop :=
  True

def Pre_Pw1Ideal (m : (ℓ : Loc Cert.Pw1Ideal.nD Cert.Pw1Ideal.τ Cert.Pw1Ideal.sig) → Buf (Elt Ideal) ℓ) : Prop :=
  True

def Pre_Pw1RefIdeal (m : (ℓ : Loc Cert.Pw1RefIdeal.nD Cert.Pw1RefIdeal.τ Cert.Pw1RefIdeal.sig) → Buf (Elt Ideal) ℓ) : Prop :=
  True

def Pre_Res (m : (ℓ : Loc Cert.Res.nD Cert.Res.τ Cert.Res.sig) → Buf (Elt Bits) ℓ) : Prop :=
  True

def Pre_ResIdeal (m : (ℓ : Loc Cert.ResIdeal.nD Cert.ResIdeal.τ Cert.ResIdeal.sig) → Buf (Elt Ideal) ℓ) : Prop :=
  True

def Pre_ResRefIdeal (m : (ℓ : Loc Cert.ResRefIdeal.nD Cert.ResRefIdeal.τ Cert.ResRefIdeal.sig) → Buf (Elt Ideal) ℓ) : Prop :=
  True

def Pre_Dn (m : (ℓ : Loc Cert.Dn.nD Cert.Dn.τ Cert.Dn.sig) → Buf (Elt Bits) ℓ) : Prop :=
  True

def Pre_DnIdeal (m : (ℓ : Loc Cert.DnIdeal.nD Cert.DnIdeal.τ Cert.DnIdeal.sig) → Buf (Elt Ideal) ℓ) : Prop :=
  True

def Pre_DnRefIdeal (m : (ℓ : Loc Cert.DnRefIdeal.nD Cert.DnRefIdeal.τ Cert.DnRefIdeal.sig) → Buf (Elt Ideal) ℓ) : Prop :=
  True

def Pre_Nt (m : (ℓ : Loc Cert.Nt.nD Cert.Nt.τ Cert.Nt.sig) → Buf (Elt Bits) ℓ) : Prop :=
  True

def Pre_NtIdeal (m : (ℓ : Loc Cert.NtIdeal.nD Cert.NtIdeal.τ Cert.NtIdeal.sig) → Buf (Elt Ideal) ℓ) : Prop :=
  True

def Pre_NtRefIdeal (m : (ℓ : Loc Cert.NtRefIdeal.nD Cert.NtRefIdeal.τ Cert.NtRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Tn (m : (ℓ : Loc Cert.Tn.nD Cert.Tn.τ Cert.Tn.sig) → Buf (Elt Bits) ℓ) : Prop :=
  True

def Pre_TnIdeal (m : (ℓ : Loc Cert.TnIdeal.nD Cert.TnIdeal.τ Cert.TnIdeal.sig) → Buf (Elt Ideal) ℓ) : Prop :=
  True

def Pre_TnRefIdeal (m : (ℓ : Loc Cert.TnRefIdeal.nD Cert.TnRefIdeal.τ Cert.TnRefIdeal.sig) → Buf (Elt Ideal) ℓ) : Prop :=
  True

def Pre_Half (m : (ℓ : Loc Cert.Half.nD Cert.Half.τ Cert.Half.sig) → Buf (Elt Bits) ℓ) : Prop :=
  True

def Pre_HalfIdeal (m : (ℓ : Loc Cert.HalfIdeal.nD Cert.HalfIdeal.τ Cert.HalfIdeal.sig) → Buf (Elt Ideal) ℓ) : Prop :=
  True

def Pre_HalfRefIdeal (m : (ℓ : Loc Cert.HalfRefIdeal.nD Cert.HalfRefIdeal.τ Cert.HalfRefIdeal.sig) → Buf (Elt Ideal) ℓ) : Prop :=
  True

def Pre_Part (m : (ℓ : Loc Cert.Part.nD Cert.Part.τ Cert.Part.sig) → Buf (Elt Bits) ℓ) : Prop :=
  True

def Pre_PartIdeal (m : (ℓ : Loc Cert.PartIdeal.nD Cert.PartIdeal.τ Cert.PartIdeal.sig) → Buf (Elt Ideal) ℓ) : Prop :=
  True

def Pre_PartRefIdeal (m : (ℓ : Loc Cert.PartRefIdeal.nD Cert.PartRefIdeal.τ Cert.PartRefIdeal.sig) → Buf (Elt Ideal) ℓ) : Prop :=
  True

def Pre_Cast (m : (ℓ : Loc Cert.Cast.nD Cert.Cast.τ Cert.Cast.sig) → Buf (Elt Bits) ℓ) : Prop :=
  True

def Pre_CastIdeal (m : (ℓ : Loc Cert.CastIdeal.nD Cert.CastIdeal.τ Cert.CastIdeal.sig) → Buf (Elt Ideal) ℓ) : Prop :=
  True

def Pre_CastRefIdeal (m : (ℓ : Loc Cert.CastRefIdeal.nD Cert.CastRefIdeal.τ Cert.CastRefIdeal.sig) → Buf (Elt Ideal) ℓ) : Prop :=
  True

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5)
      ∧ r.2.mem ((c.tc : Thread Cert.FfnIn.nD Cert.FfnIn.τ).loc Cert.FfnIn.main_arg6) = m ((c.tc : Thread Cert.FfnIn.nD Cert.FfnIn.τ).loc Cert.FfnIn.main_arg6)
      ∧ r.2.mem ((c.tc : Thread Cert.FfnIn.nD Cert.FfnIn.τ).loc Cert.FfnIn.main_arg7) = m ((c.tc : Thread Cert.FfnIn.nD Cert.FfnIn.τ).loc Cert.FfnIn.main_arg7))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6)
      ∧ r.2.mem ((c.tc : Thread Cert.FfnInIdeal.nD Cert.FfnInIdeal.τ).loc Cert.FfnInIdeal.main_arg7) = m ((c.tc : Thread Cert.FfnInIdeal.nD Cert.FfnInIdeal.τ).loc Cert.FfnInIdeal.main_arg7))
      ∧ r.2.sem = fun _ => 0)

def quiescent_FfnInIdeal_pre_finite_ffn_in [hFfnInIdeal : Cert.FfnInIdeal.Facts] [hPre_finite_ffn_in : Cert.Pre_finite_ffn_in.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_finite_ffn_in m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6)
      ∧ r.2.mem ((c.tc : Thread Cert.FfnInIdeal.nD Cert.FfnInIdeal.τ).loc Cert.FfnInIdeal.main_arg7) = m ((c.tc : Thread Cert.FfnInIdeal.nD Cert.FfnInIdeal.τ).loc Cert.FfnInIdeal.main_arg7))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6)
      ∧ r.2.mem ((c.tc : Thread Cert.FfnInRefIdeal.nD Cert.FfnInRefIdeal.τ).loc Cert.FfnInRefIdeal.main_arg7) = m ((c.tc : Thread Cert.FfnInRefIdeal.nD Cert.FfnInRefIdeal.τ).loc Cert.FfnInRefIdeal.main_arg7))
      ∧ r.2.sem = fun _ => 0)

def quiescent_FfnInRefIdeal_pre_finite_ffn_in [hFfnInRefIdeal : Cert.FfnInRefIdeal.Facts] [hPre_finite_ffn_in : Cert.Pre_finite_ffn_in.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal_finite_ffn_in m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6)
      ∧ r.2.mem ((c.tc : Thread Cert.FfnInRefIdeal.nD Cert.FfnInRefIdeal.τ).loc Cert.FfnInRefIdeal.main_arg7) = m ((c.tc : Thread Cert.FfnInRefIdeal.nD Cert.FfnInRefIdeal.τ).loc Cert.FfnInRefIdeal.main_arg7))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1)
      ∧ r.2.mem ((c.tc : Thread Cert.ConvIn.nD Cert.ConvIn.τ).loc Cert.ConvIn.main_arg2) = m ((c.tc : Thread Cert.ConvIn.nD Cert.ConvIn.τ).loc Cert.ConvIn.main_arg2)
      ∧ r.2.mem ((c.tc : Thread Cert.ConvIn.nD Cert.ConvIn.τ).loc Cert.ConvIn.main_arg3) = m ((c.tc : Thread Cert.ConvIn.nD Cert.ConvIn.τ).loc Cert.ConvIn.main_arg3)
      ∧ r.2.mem ((c.tc : Thread Cert.ConvIn.nD Cert.ConvIn.τ).loc Cert.ConvIn.main_arg4) = m ((c.tc : Thread Cert.ConvIn.nD Cert.ConvIn.τ).loc Cert.ConvIn.main_arg4))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
      ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2)
      ∧ r.2.mem ((c.tc : Thread Cert.ConvInIdeal.nD Cert.ConvInIdeal.τ).loc Cert.ConvInIdeal.main_arg3) = m ((c.tc : Thread Cert.ConvInIdeal.nD Cert.ConvInIdeal.τ).loc Cert.ConvInIdeal.main_arg3)
      ∧ r.2.mem ((c.tc : Thread Cert.ConvInIdeal.nD Cert.ConvInIdeal.τ).loc Cert.ConvInIdeal.main_arg4) = m ((c.tc : Thread Cert.ConvInIdeal.nD Cert.ConvInIdeal.τ).loc Cert.ConvInIdeal.main_arg4))
      ∧ r.2.sem = fun _ => 0)

def quiescent_ConvInIdeal_pre_finite_conv_in [hConvInIdeal : Cert.ConvInIdeal.Facts] [hPre_finite_conv_in : Cert.Pre_finite_conv_in.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal_finite_conv_in m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
      ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2)
      ∧ r.2.mem ((c.tc : Thread Cert.ConvInIdeal.nD Cert.ConvInIdeal.τ).loc Cert.ConvInIdeal.main_arg3) = m ((c.tc : Thread Cert.ConvInIdeal.nD Cert.ConvInIdeal.τ).loc Cert.ConvInIdeal.main_arg3)
      ∧ r.2.mem ((c.tc : Thread Cert.ConvInIdeal.nD Cert.ConvInIdeal.τ).loc Cert.ConvInIdeal.main_arg4) = m ((c.tc : Thread Cert.ConvInIdeal.nD Cert.ConvInIdeal.τ).loc Cert.ConvInIdeal.main_arg4))
      ∧ r.2.sem = fun _ => 0)

def quiescent_ConvInRefIdeal [hConvInRefIdeal : Cert.ConvInRefIdeal.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1)
      ∧ r.2.mem ((c.tc : Thread Cert.ConvInRefIdeal.nD Cert.ConvInRefIdeal.τ).loc Cert.ConvInRefIdeal.main_arg2) = m ((c.tc : Thread Cert.ConvInRefIdeal.nD Cert.ConvInRefIdeal.τ).loc Cert.ConvInRefIdeal.main_arg2)
      ∧ r.2.mem ((c.tc : Thread Cert.ConvInRefIdeal.nD Cert.ConvInRefIdeal.τ).loc Cert.ConvInRefIdeal.main_arg3) = m ((c.tc : Thread Cert.ConvInRefIdeal.nD Cert.ConvInRefIdeal.τ).loc Cert.ConvInRefIdeal.main_arg3)
      ∧ r.2.mem ((c.tc : Thread Cert.ConvInRefIdeal.nD Cert.ConvInRefIdeal.τ).loc Cert.ConvInRefIdeal.main_arg4) = m ((c.tc : Thread Cert.ConvInRefIdeal.nD Cert.ConvInRefIdeal.τ).loc Cert.ConvInRefIdeal.main_arg4))
      ∧ r.2.sem = fun _ => 0)

def quiescent_ConvInRefIdeal_pre_finite_conv_in [hConvInRefIdeal : Cert.ConvInRefIdeal.Facts] [hPre_finite_conv_in : Cert.Pre_finite_conv_in.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal_finite_conv_in m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1)
      ∧ r.2.mem ((c.tc : Thread Cert.ConvInRefIdeal.nD Cert.ConvInRefIdeal.τ).loc Cert.ConvInRefIdeal.main_arg2) = m ((c.tc : Thread Cert.ConvInRefIdeal.nD Cert.ConvInRefIdeal.τ).loc Cert.ConvInRefIdeal.main_arg2)
      ∧ r.2.mem ((c.tc : Thread Cert.ConvInRefIdeal.nD Cert.ConvInRefIdeal.τ).loc Cert.ConvInRefIdeal.main_arg3) = m ((c.tc : Thread Cert.ConvInRefIdeal.nD Cert.ConvInRefIdeal.τ).loc Cert.ConvInRefIdeal.main_arg3)
      ∧ r.2.mem ((c.tc : Thread Cert.ConvInRefIdeal.nD Cert.ConvInRefIdeal.τ).loc Cert.ConvInRefIdeal.main_arg4) = m ((c.tc : Thread Cert.ConvInRefIdeal.nD Cert.ConvInRefIdeal.τ).loc Cert.ConvInRefIdeal.main_arg4))
      ∧ r.2.sem = fun _ => 0)

def quiescent_AttnIn [hAttnIn : Cert.AttnIn.Facts] : Prop :=
  ∀ (m : (ℓ : Loc Cert.AttnIn.nD Cert.AttnIn.τ Cert.AttnIn.sig) → Buf (Elt Bits) ℓ) (g : Dev Cert.AttnIn.nD → PrngReg), Pre_AttnIn m →
    θ_run (Cert.AttnIn.defs (F := Bits)) (onTc (τ := Cert.AttnIn.τ) (Cert.AttnIn.main (F := Bits))) ⟨m, fun _ => 0, g⟩ (fun r => (∀ c : Dev Cert.AttnIn.nD,
      r.2.mem ((c.tc : Thread Cert.AttnIn.nD Cert.AttnIn.τ).loc Cert.AttnIn.main_arg0) = m ((c.tc : Thread Cert.AttnIn.nD Cert.AttnIn.τ).loc Cert.AttnIn.main_arg0)
      ∧ r.2.mem ((c.tc : Thread Cert.AttnIn.nD Cert.AttnIn.τ).loc Cert.AttnIn.main_arg1) = m ((c.tc : Thread Cert.AttnIn.nD Cert.AttnIn.τ).loc Cert.AttnIn.main_arg1)
      ∧ r.2.mem ((c.tc : Thread Cert.AttnIn.nD Cert.AttnIn.τ).loc Cert.AttnIn.main_arg2) = m ((c.tc : Thread Cert.AttnIn.nD Cert.AttnIn.τ).loc Cert.AttnIn.main_arg2)
      ∧ r.2.mem ((c.tc : Thread Cert.AttnIn.nD Cert.AttnIn.τ).loc Cert.AttnIn.main_arg3) = m ((c.tc : Thread Cert.AttnIn.nD Cert.AttnIn.τ).loc Cert.AttnIn.main_arg3)
      ∧ r.2.mem ((c.tc : Thread Cert.AttnIn.nD Cert.AttnIn.τ).loc Cert.AttnIn.main_arg4) = m ((c.tc : Thread Cert.AttnIn.nD Cert.AttnIn.τ).loc Cert.AttnIn.main_arg4))
      ∧ r.2.sem = fun _ => 0)

def quiescent_AttnInIdeal [hAttnInIdeal : Cert.AttnInIdeal.Facts] : Prop :=
  ∀ (m : (ℓ : Loc Cert.AttnInIdeal.nD Cert.AttnInIdeal.τ Cert.AttnInIdeal.sig) → Buf (Elt Ideal) ℓ) (g : Dev Cert.AttnInIdeal.nD → PrngReg), Pre_AttnInIdeal m →
    θ_run (Cert.AttnInIdeal.defs (F := Ideal)) (onTc (τ := Cert.AttnInIdeal.τ) (Cert.AttnInIdeal.main (F := Ideal))) ⟨m, fun _ => 0, g⟩ (fun r => (∀ c : Dev Cert.AttnInIdeal.nD,
      r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
      ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1)
      ∧ r.2.mem ((c.tc : Thread Cert.AttnInIdeal.nD Cert.AttnInIdeal.τ).loc Cert.AttnInIdeal.main_arg2) = m ((c.tc : Thread Cert.AttnInIdeal.nD Cert.AttnInIdeal.τ).loc Cert.AttnInIdeal.main_arg2)
      ∧ r.2.mem ((c.tc : Thread Cert.AttnInIdeal.nD Cert.AttnInIdeal.τ).loc Cert.AttnInIdeal.main_arg3) = m ((c.tc : Thread Cert.AttnInIdeal.nD Cert.AttnInIdeal.τ).loc Cert.AttnInIdeal.main_arg3)
      ∧ r.2.mem ((c.tc : Thread Cert.AttnInIdeal.nD Cert.AttnInIdeal.τ).loc Cert.AttnInIdeal.main_arg4) = m ((c.tc : Thread Cert.AttnInIdeal.nD Cert.AttnInIdeal.τ).loc Cert.AttnInIdeal.main_arg4))
      ∧ r.2.sem = fun _ => 0)

def quiescent_AttnInIdeal_pre_finite_attn_in [hAttnInIdeal : Cert.AttnInIdeal.Facts] [hPre_finite_attn_in : Cert.Pre_finite_attn_in.Facts] : Prop :=
  ∀ (m : (ℓ : Loc Cert.AttnInIdeal.nD Cert.AttnInIdeal.τ Cert.AttnInIdeal.sig) → Buf (Elt Ideal) ℓ) (g : Dev Cert.AttnInIdeal.nD → PrngReg), Pre_AttnInIdeal_finite_attn_in m →
    θ_run (Cert.AttnInIdeal.defs (F := Ideal)) (onTc (τ := Cert.AttnInIdeal.τ) (Cert.AttnInIdeal.main (F := Ideal))) ⟨m, fun _ => 0, g⟩ (fun r => (∀ c : Dev Cert.AttnInIdeal.nD,
      r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
      ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1)
      ∧ r.2.mem ((c.tc : Thread Cert.AttnInIdeal.nD Cert.AttnInIdeal.τ).loc Cert.AttnInIdeal.main_arg2) = m ((c.tc : Thread Cert.AttnInIdeal.nD Cert.AttnInIdeal.τ).loc Cert.AttnInIdeal.main_arg2)
      ∧ r.2.mem ((c.tc : Thread Cert.AttnInIdeal.nD Cert.AttnInIdeal.τ).loc Cert.AttnInIdeal.main_arg3) = m ((c.tc : Thread Cert.AttnInIdeal.nD Cert.AttnInIdeal.τ).loc Cert.AttnInIdeal.main_arg3)
      ∧ r.2.mem ((c.tc : Thread Cert.AttnInIdeal.nD Cert.AttnInIdeal.τ).loc Cert.AttnInIdeal.main_arg4) = m ((c.tc : Thread Cert.AttnInIdeal.nD Cert.AttnInIdeal.τ).loc Cert.AttnInIdeal.main_arg4))
      ∧ r.2.sem = fun _ => 0)

def quiescent_AttnInRefIdeal [hAttnInRefIdeal : Cert.AttnInRefIdeal.Facts] : Prop :=
  ∀ (m : (ℓ : Loc Cert.AttnInRefIdeal.nD Cert.AttnInRefIdeal.τ Cert.AttnInRefIdeal.sig) → Buf (Elt Ideal) ℓ) (g : Dev Cert.AttnInRefIdeal.nD → PrngReg), Pre_AttnInRefIdeal m →
    θ_run (Cert.AttnInRefIdeal.defs (F := Ideal)) (onTc (τ := Cert.AttnInRefIdeal.τ) (Cert.AttnInRefIdeal.main (F := Ideal))) ⟨m, fun _ => 0, g⟩ (fun r => (∀ c : Dev Cert.AttnInRefIdeal.nD,
      r.2.mem ((c.tc : Thread Cert.AttnInRefIdeal.nD Cert.AttnInRefIdeal.τ).loc Cert.AttnInRefIdeal.main_arg0) = m ((c.tc : Thread Cert.AttnInRefIdeal.nD Cert.AttnInRefIdeal.τ).loc Cert.AttnInRefIdeal.main_arg0)
      ∧ r.2.mem ((c.tc : Thread Cert.AttnInRefIdeal.nD Cert.AttnInRefIdeal.τ).loc Cert.AttnInRefIdeal.main_arg1) = m ((c.tc : Thread Cert.AttnInRefIdeal.nD Cert.AttnInRefIdeal.τ).loc Cert.AttnInRefIdeal.main_arg1)
      ∧ r.2.mem ((c.tc : Thread Cert.AttnInRefIdeal.nD Cert.AttnInRefIdeal.τ).loc Cert.AttnInRefIdeal.main_arg2) = m ((c.tc : Thread Cert.AttnInRefIdeal.nD Cert.AttnInRefIdeal.τ).loc Cert.AttnInRefIdeal.main_arg2)
      ∧ r.2.mem ((c.tc : Thread Cert.AttnInRefIdeal.nD Cert.AttnInRefIdeal.τ).loc Cert.AttnInRefIdeal.main_arg3) = m ((c.tc : Thread Cert.AttnInRefIdeal.nD Cert.AttnInRefIdeal.τ).loc Cert.AttnInRefIdeal.main_arg3)
      ∧ r.2.mem ((c.tc : Thread Cert.AttnInRefIdeal.nD Cert.AttnInRefIdeal.τ).loc Cert.AttnInRefIdeal.main_arg4) = m ((c.tc : Thread Cert.AttnInRefIdeal.nD Cert.AttnInRefIdeal.τ).loc Cert.AttnInRefIdeal.main_arg4))
      ∧ r.2.sem = fun _ => 0)

def quiescent_AttnInRefIdeal_pre_finite_attn_in [hAttnInRefIdeal : Cert.AttnInRefIdeal.Facts] [hPre_finite_attn_in : Cert.Pre_finite_attn_in.Facts] : Prop :=
  ∀ (m : (ℓ : Loc Cert.AttnInRefIdeal.nD Cert.AttnInRefIdeal.τ Cert.AttnInRefIdeal.sig) → Buf (Elt Ideal) ℓ) (g : Dev Cert.AttnInRefIdeal.nD → PrngReg), Pre_AttnInRefIdeal_finite_attn_in m →
    θ_run (Cert.AttnInRefIdeal.defs (F := Ideal)) (onTc (τ := Cert.AttnInRefIdeal.τ) (Cert.AttnInRefIdeal.main (F := Ideal))) ⟨m, fun _ => 0, g⟩ (fun r => (∀ c : Dev Cert.AttnInRefIdeal.nD,
      r.2.mem ((c.tc : Thread Cert.AttnInRefIdeal.nD Cert.AttnInRefIdeal.τ).loc Cert.AttnInRefIdeal.main_arg0) = m ((c.tc : Thread Cert.AttnInRefIdeal.nD Cert.AttnInRefIdeal.τ).loc Cert.AttnInRefIdeal.main_arg0)
      ∧ r.2.mem ((c.tc : Thread Cert.AttnInRefIdeal.nD Cert.AttnInRefIdeal.τ).loc Cert.AttnInRefIdeal.main_arg1) = m ((c.tc : Thread Cert.AttnInRefIdeal.nD Cert.AttnInRefIdeal.τ).loc Cert.AttnInRefIdeal.main_arg1)
      ∧ r.2.mem ((c.tc : Thread Cert.AttnInRefIdeal.nD Cert.AttnInRefIdeal.τ).loc Cert.AttnInRefIdeal.main_arg2) = m ((c.tc : Thread Cert.AttnInRefIdeal.nD Cert.AttnInRefIdeal.τ).loc Cert.AttnInRefIdeal.main_arg2)
      ∧ r.2.mem ((c.tc : Thread Cert.AttnInRefIdeal.nD Cert.AttnInRefIdeal.τ).loc Cert.AttnInRefIdeal.main_arg3) = m ((c.tc : Thread Cert.AttnInRefIdeal.nD Cert.AttnInRefIdeal.τ).loc Cert.AttnInRefIdeal.main_arg3)
      ∧ r.2.mem ((c.tc : Thread Cert.AttnInRefIdeal.nD Cert.AttnInRefIdeal.τ).loc Cert.AttnInRefIdeal.main_arg4) = m ((c.tc : Thread Cert.AttnInRefIdeal.nD Cert.AttnInRefIdeal.τ).loc Cert.AttnInRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownIdeal_pre_finite_down [hDownIdeal : Cert.DownIdeal.Facts] [hPre_finite_down : Cert.Pre_finite_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal_finite_down m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_DownRefIdeal_pre_finite_down [hDownRefIdeal : Cert.DownRefIdeal.Facts] [hPre_finite_down : Cert.Pre_finite_down.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_finite_down m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ r.2.sem = fun _ => 0)

def quiescent_FwdIdeal_pre_finite_fwd [hFwdIdeal : Cert.FwdIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_fwd m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3))
      ∧ r.2.sem = fun _ => 0)

def quiescent_FwdRefIdeal_pre_finite_fwd [hFwdRefIdeal : Cert.FwdRefIdeal.Facts] [hPre_finite_fwd : Cert.Pre_finite_fwd.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite_fwd m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpIdeal_pre_finite_up [hUpIdeal : Cert.UpIdeal.Facts] [hPre_finite_up : Cert.Pre_finite_up.Facts] : Prop :=
  ∀ (m : (ℓ : Loc Cert.UpIdeal.nD Cert.UpIdeal.τ Cert.UpIdeal.sig) → Buf (Elt Ideal) ℓ) (g : Dev Cert.UpIdeal.nD → PrngReg), Pre_UpIdeal_finite_up m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_UpRefIdeal_pre_finite_up [hUpRefIdeal : Cert.UpRefIdeal.Facts] [hPre_finite_up : Cert.Pre_finite_up.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_finite_up m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Pw1 [hPw1 : Cert.Pw1.Facts] : Prop :=
  ∀ (m : (ℓ : Loc Cert.Pw1.nD Cert.Pw1.τ Cert.Pw1.sig) → Buf (Elt Bits) ℓ) (g : Dev Cert.Pw1.nD → PrngReg), Pre_Pw1 m →
    θ_run (Cert.Pw1.defs (F := Bits)) (onTc (τ := Cert.Pw1.τ) (Cert.Pw1.main (F := Bits))) ⟨m, fun _ => 0, g⟩ (fun r => (∀ c : Dev Cert.Pw1.nD,
      r.2.mem ((c.tc : Thread Cert.Pw1.nD Cert.Pw1.τ).loc Cert.Pw1.main_arg0) = m ((c.tc : Thread Cert.Pw1.nD Cert.Pw1.τ).loc Cert.Pw1.main_arg0)
      ∧ r.2.mem ((c.tc : Thread Cert.Pw1.nD Cert.Pw1.τ).loc Cert.Pw1.main_arg1) = m ((c.tc : Thread Cert.Pw1.nD Cert.Pw1.τ).loc Cert.Pw1.main_arg1)
      ∧ r.2.mem ((c.tc : Thread Cert.Pw1.nD Cert.Pw1.τ).loc Cert.Pw1.main_arg2) = m ((c.tc : Thread Cert.Pw1.nD Cert.Pw1.τ).loc Cert.Pw1.main_arg2)
      ∧ r.2.mem ((c.tc : Thread Cert.Pw1.nD Cert.Pw1.τ).loc Cert.Pw1.main_arg3) = m ((c.tc : Thread Cert.Pw1.nD Cert.Pw1.τ).loc Cert.Pw1.main_arg3))
      ∧ r.2.sem = fun _ => 0)

def quiescent_Pw1Ideal [hPw1Ideal : Cert.Pw1Ideal.Facts] : Prop :=
  ∀ (m : (ℓ : Loc Cert.Pw1Ideal.nD Cert.Pw1Ideal.τ Cert.Pw1Ideal.sig) → Buf (Elt Ideal) ℓ) (g : Dev Cert.Pw1Ideal.nD → PrngReg), Pre_Pw1Ideal m →
    θ_run (Cert.Pw1Ideal.defs (F := Ideal)) (onTc (τ := Cert.Pw1Ideal.τ) (Cert.Pw1Ideal.main (F := Ideal))) ⟨m, fun _ => 0, g⟩ (fun r => (∀ c : Dev Cert.Pw1Ideal.nD,
      r.2.mem ((c.tc : Thread Cert.Pw1Ideal.nD Cert.Pw1Ideal.τ).loc Cert.Pw1Ideal.main_arg0) = m ((c.tc : Thread Cert.Pw1Ideal.nD Cert.Pw1Ideal.τ).loc Cert.Pw1Ideal.main_arg0)
      ∧ r.2.mem ((c.tc : Thread Cert.Pw1Ideal.nD Cert.Pw1Ideal.τ).loc Cert.Pw1Ideal.main_arg1) = m ((c.tc : Thread Cert.Pw1Ideal.nD Cert.Pw1Ideal.τ).loc Cert.Pw1Ideal.main_arg1)
      ∧ r.2.mem ((c.tc : Thread Cert.Pw1Ideal.nD Cert.Pw1Ideal.τ).loc Cert.Pw1Ideal.main_arg2) = m ((c.tc : Thread Cert.Pw1Ideal.nD Cert.Pw1Ideal.τ).loc Cert.Pw1Ideal.main_arg2)
      ∧ r.2.mem ((c.tc : Thread Cert.Pw1Ideal.nD Cert.Pw1Ideal.τ).loc Cert.Pw1Ideal.main_arg3) = m ((c.tc : Thread Cert.Pw1Ideal.nD Cert.Pw1Ideal.τ).loc Cert.Pw1Ideal.main_arg3))
      ∧ r.2.sem = fun _ => 0)

def quiescent_Pw1RefIdeal [hPw1RefIdeal : Cert.Pw1RefIdeal.Facts] : Prop :=
  ∀ (m : (ℓ : Loc Cert.Pw1RefIdeal.nD Cert.Pw1RefIdeal.τ Cert.Pw1RefIdeal.sig) → Buf (Elt Ideal) ℓ) (g : Dev Cert.Pw1RefIdeal.nD → PrngReg), Pre_Pw1RefIdeal m →
    θ_run (Cert.Pw1RefIdeal.defs (F := Ideal)) (onTc (τ := Cert.Pw1RefIdeal.τ) (Cert.Pw1RefIdeal.main (F := Ideal))) ⟨m, fun _ => 0, g⟩ (fun r => (∀ c : Dev Cert.Pw1RefIdeal.nD,
      r.2.mem ((c.tc : Thread Cert.Pw1RefIdeal.nD Cert.Pw1RefIdeal.τ).loc Cert.Pw1RefIdeal.main_arg0) = m ((c.tc : Thread Cert.Pw1RefIdeal.nD Cert.Pw1RefIdeal.τ).loc Cert.Pw1RefIdeal.main_arg0)
      ∧ r.2.mem ((c.tc : Thread Cert.Pw1RefIdeal.nD Cert.Pw1RefIdeal.τ).loc Cert.Pw1RefIdeal.main_arg1) = m ((c.tc : Thread Cert.Pw1RefIdeal.nD Cert.Pw1RefIdeal.τ).loc Cert.Pw1RefIdeal.main_arg1)
      ∧ r.2.mem ((c.tc : Thread Cert.Pw1RefIdeal.nD Cert.Pw1RefIdeal.τ).loc Cert.Pw1RefIdeal.main_arg2) = m ((c.tc : Thread Cert.Pw1RefIdeal.nD Cert.Pw1RefIdeal.τ).loc Cert.Pw1RefIdeal.main_arg2)
      ∧ r.2.mem ((c.tc : Thread Cert.Pw1RefIdeal.nD Cert.Pw1RefIdeal.τ).loc Cert.Pw1RefIdeal.main_arg3) = m ((c.tc : Thread Cert.Pw1RefIdeal.nD Cert.Pw1RefIdeal.τ).loc Cert.Pw1RefIdeal.main_arg3))
      ∧ r.2.sem = fun _ => 0)

def quiescent_Res [hRes : Cert.Res.Facts] : Prop :=
  ∀ (m : (ℓ : Loc Cert.Res.nD Cert.Res.τ Cert.Res.sig) → Buf (Elt Bits) ℓ) (g : Dev Cert.Res.nD → PrngReg), Pre_Res m →
    θ_run (Cert.Res.defs (F := Bits)) (onTc (τ := Cert.Res.τ) (Cert.Res.main (F := Bits))) ⟨m, fun _ => 0, g⟩ (fun r => (∀ c : Dev Cert.Res.nD,
      r.2.mem ((c.tc : Thread Cert.Res.nD Cert.Res.τ).loc Cert.Res.main_arg0) = m ((c.tc : Thread Cert.Res.nD Cert.Res.τ).loc Cert.Res.main_arg0)
      ∧ r.2.mem ((c.tc : Thread Cert.Res.nD Cert.Res.τ).loc Cert.Res.main_arg1) = m ((c.tc : Thread Cert.Res.nD Cert.Res.τ).loc Cert.Res.main_arg1)
      ∧ r.2.mem ((c.tc : Thread Cert.Res.nD Cert.Res.τ).loc Cert.Res.main_arg2) = m ((c.tc : Thread Cert.Res.nD Cert.Res.τ).loc Cert.Res.main_arg2)
      ∧ r.2.mem ((c.tc : Thread Cert.Res.nD Cert.Res.τ).loc Cert.Res.main_arg3) = m ((c.tc : Thread Cert.Res.nD Cert.Res.τ).loc Cert.Res.main_arg3)
      ∧ r.2.mem ((c.tc : Thread Cert.Res.nD Cert.Res.τ).loc Cert.Res.main_arg4) = m ((c.tc : Thread Cert.Res.nD Cert.Res.τ).loc Cert.Res.main_arg4))
      ∧ r.2.sem = fun _ => 0)

def quiescent_ResIdeal [hResIdeal : Cert.ResIdeal.Facts] : Prop :=
  ∀ (m : (ℓ : Loc Cert.ResIdeal.nD Cert.ResIdeal.τ Cert.ResIdeal.sig) → Buf (Elt Ideal) ℓ) (g : Dev Cert.ResIdeal.nD → PrngReg), Pre_ResIdeal m →
    θ_run (Cert.ResIdeal.defs (F := Ideal)) (onTc (τ := Cert.ResIdeal.τ) (Cert.ResIdeal.main (F := Ideal))) ⟨m, fun _ => 0, g⟩ (fun r => (∀ c : Dev Cert.ResIdeal.nD,
      r.2.mem ((c.tc : Thread Cert.ResIdeal.nD Cert.ResIdeal.τ).loc Cert.ResIdeal.main_arg0) = m ((c.tc : Thread Cert.ResIdeal.nD Cert.ResIdeal.τ).loc Cert.ResIdeal.main_arg0)
      ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
      ∧ r.2.mem ((c.tc : Thread Cert.ResIdeal.nD Cert.ResIdeal.τ).loc Cert.ResIdeal.main_arg2) = m ((c.tc : Thread Cert.ResIdeal.nD Cert.ResIdeal.τ).loc Cert.ResIdeal.main_arg2)
      ∧ r.2.mem ((c.tc : Thread Cert.ResIdeal.nD Cert.ResIdeal.τ).loc Cert.ResIdeal.main_arg3) = m ((c.tc : Thread Cert.ResIdeal.nD Cert.ResIdeal.τ).loc Cert.ResIdeal.main_arg3)
      ∧ r.2.mem ((c.tc : Thread Cert.ResIdeal.nD Cert.ResIdeal.τ).loc Cert.ResIdeal.main_arg4) = m ((c.tc : Thread Cert.ResIdeal.nD Cert.ResIdeal.τ).loc Cert.ResIdeal.main_arg4))
      ∧ r.2.sem = fun _ => 0)

def quiescent_ResRefIdeal [hResRefIdeal : Cert.ResRefIdeal.Facts] : Prop :=
  ∀ (m : (ℓ : Loc Cert.ResRefIdeal.nD Cert.ResRefIdeal.τ Cert.ResRefIdeal.sig) → Buf (Elt Ideal) ℓ) (g : Dev Cert.ResRefIdeal.nD → PrngReg), Pre_ResRefIdeal m →
    θ_run (Cert.ResRefIdeal.defs (F := Ideal)) (onTc (τ := Cert.ResRefIdeal.τ) (Cert.ResRefIdeal.main (F := Ideal))) ⟨m, fun _ => 0, g⟩ (fun r => (∀ c : Dev Cert.ResRefIdeal.nD,
      r.2.mem ((c.tc : Thread Cert.ResRefIdeal.nD Cert.ResRefIdeal.τ).loc Cert.ResRefIdeal.main_arg0) = m ((c.tc : Thread Cert.ResRefIdeal.nD Cert.ResRefIdeal.τ).loc Cert.ResRefIdeal.main_arg0)
      ∧ r.2.mem ((c.tc : Thread Cert.ResRefIdeal.nD Cert.ResRefIdeal.τ).loc Cert.ResRefIdeal.main_arg1) = m ((c.tc : Thread Cert.ResRefIdeal.nD Cert.ResRefIdeal.τ).loc Cert.ResRefIdeal.main_arg1)
      ∧ r.2.mem ((c.tc : Thread Cert.ResRefIdeal.nD Cert.ResRefIdeal.τ).loc Cert.ResRefIdeal.main_arg2) = m ((c.tc : Thread Cert.ResRefIdeal.nD Cert.ResRefIdeal.τ).loc Cert.ResRefIdeal.main_arg2)
      ∧ r.2.mem ((c.tc : Thread Cert.ResRefIdeal.nD Cert.ResRefIdeal.τ).loc Cert.ResRefIdeal.main_arg3) = m ((c.tc : Thread Cert.ResRefIdeal.nD Cert.ResRefIdeal.τ).loc Cert.ResRefIdeal.main_arg3)
      ∧ r.2.mem ((c.tc : Thread Cert.ResRefIdeal.nD Cert.ResRefIdeal.τ).loc Cert.ResRefIdeal.main_arg4) = m ((c.tc : Thread Cert.ResRefIdeal.nD Cert.ResRefIdeal.τ).loc Cert.ResRefIdeal.main_arg4))
      ∧ r.2.sem = fun _ => 0)

def quiescent_Dn [hDn : Cert.Dn.Facts] : Prop :=
  ∀ (m : (ℓ : Loc Cert.Dn.nD Cert.Dn.τ Cert.Dn.sig) → Buf (Elt Bits) ℓ) (g : Dev Cert.Dn.nD → PrngReg), Pre_Dn m →
    θ_run (Cert.Dn.defs (F := Bits)) (onTc (τ := Cert.Dn.τ) (Cert.Dn.main (F := Bits))) ⟨m, fun _ => 0, g⟩ (fun r => (∀ c : Dev Cert.Dn.nD,
      r.2.mem ((c.tc : Thread Cert.Dn.nD Cert.Dn.τ).loc Cert.Dn.main_arg0) = m ((c.tc : Thread Cert.Dn.nD Cert.Dn.τ).loc Cert.Dn.main_arg0)
      ∧ r.2.mem ((c.tc : Thread Cert.Dn.nD Cert.Dn.τ).loc Cert.Dn.main_arg1) = m ((c.tc : Thread Cert.Dn.nD Cert.Dn.τ).loc Cert.Dn.main_arg1)
      ∧ r.2.mem ((c.tc : Thread Cert.Dn.nD Cert.Dn.τ).loc Cert.Dn.main_arg2) = m ((c.tc : Thread Cert.Dn.nD Cert.Dn.τ).loc Cert.Dn.main_arg2))
      ∧ r.2.sem = fun _ => 0)

def quiescent_DnIdeal [hDnIdeal : Cert.DnIdeal.Facts] : Prop :=
  ∀ (m : (ℓ : Loc Cert.DnIdeal.nD Cert.DnIdeal.τ Cert.DnIdeal.sig) → Buf (Elt Ideal) ℓ) (g : Dev Cert.DnIdeal.nD → PrngReg), Pre_DnIdeal m →
    θ_run (Cert.DnIdeal.defs (F := Ideal)) (onTc (τ := Cert.DnIdeal.τ) (Cert.DnIdeal.main (F := Ideal))) ⟨m, fun _ => 0, g⟩ (fun r => (∀ c : Dev Cert.DnIdeal.nD,
      r.2.mem ((c.tc : Thread Cert.DnIdeal.nD Cert.DnIdeal.τ).loc Cert.DnIdeal.main_arg0) = m ((c.tc : Thread Cert.DnIdeal.nD Cert.DnIdeal.τ).loc Cert.DnIdeal.main_arg0)
      ∧ r.2.mem ((c.tc : Thread Cert.DnIdeal.nD Cert.DnIdeal.τ).loc Cert.DnIdeal.main_arg1) = m ((c.tc : Thread Cert.DnIdeal.nD Cert.DnIdeal.τ).loc Cert.DnIdeal.main_arg1)
      ∧ r.2.mem ((c.tc : Thread Cert.DnIdeal.nD Cert.DnIdeal.τ).loc Cert.DnIdeal.main_arg2) = m ((c.tc : Thread Cert.DnIdeal.nD Cert.DnIdeal.τ).loc Cert.DnIdeal.main_arg2))
      ∧ r.2.sem = fun _ => 0)

def quiescent_DnRefIdeal [hDnRefIdeal : Cert.DnRefIdeal.Facts] : Prop :=
  ∀ (m : (ℓ : Loc Cert.DnRefIdeal.nD Cert.DnRefIdeal.τ Cert.DnRefIdeal.sig) → Buf (Elt Ideal) ℓ) (g : Dev Cert.DnRefIdeal.nD → PrngReg), Pre_DnRefIdeal m →
    θ_run (Cert.DnRefIdeal.defs (F := Ideal)) (onTc (τ := Cert.DnRefIdeal.τ) (Cert.DnRefIdeal.main (F := Ideal))) ⟨m, fun _ => 0, g⟩ (fun r => (∀ c : Dev Cert.DnRefIdeal.nD,
      r.2.mem ((c.tc : Thread Cert.DnRefIdeal.nD Cert.DnRefIdeal.τ).loc Cert.DnRefIdeal.main_arg0) = m ((c.tc : Thread Cert.DnRefIdeal.nD Cert.DnRefIdeal.τ).loc Cert.DnRefIdeal.main_arg0)
      ∧ r.2.mem ((c.tc : Thread Cert.DnRefIdeal.nD Cert.DnRefIdeal.τ).loc Cert.DnRefIdeal.main_arg1) = m ((c.tc : Thread Cert.DnRefIdeal.nD Cert.DnRefIdeal.τ).loc Cert.DnRefIdeal.main_arg1)
      ∧ r.2.mem ((c.tc : Thread Cert.DnRefIdeal.nD Cert.DnRefIdeal.τ).loc Cert.DnRefIdeal.main_arg2) = m ((c.tc : Thread Cert.DnRefIdeal.nD Cert.DnRefIdeal.τ).loc Cert.DnRefIdeal.main_arg2))
      ∧ r.2.sem = fun _ => 0)

def quiescent_Nt [hNt : Cert.Nt.Facts] : Prop :=
  ∀ (m : (ℓ : Loc Cert.Nt.nD Cert.Nt.τ Cert.Nt.sig) → Buf (Elt Bits) ℓ) (g : Dev Cert.Nt.nD → PrngReg), Pre_Nt m →
    θ_run (Cert.Nt.defs (F := Bits)) (onTc (τ := Cert.Nt.τ) (Cert.Nt.main (F := Bits))) ⟨m, fun _ => 0, g⟩ (fun r => (∀ c : Dev Cert.Nt.nD,
      r.2.mem ((c.tc : Thread Cert.Nt.nD Cert.Nt.τ).loc Cert.Nt.main_arg0) = m ((c.tc : Thread Cert.Nt.nD Cert.Nt.τ).loc Cert.Nt.main_arg0)
      ∧ r.2.mem ((c.tc : Thread Cert.Nt.nD Cert.Nt.τ).loc Cert.Nt.main_arg1) = m ((c.tc : Thread Cert.Nt.nD Cert.Nt.τ).loc Cert.Nt.main_arg1))
      ∧ r.2.sem = fun _ => 0)

def quiescent_NtIdeal [hNtIdeal : Cert.NtIdeal.Facts] : Prop :=
  ∀ (m : (ℓ : Loc Cert.NtIdeal.nD Cert.NtIdeal.τ Cert.NtIdeal.sig) → Buf (Elt Ideal) ℓ) (g : Dev Cert.NtIdeal.nD → PrngReg), Pre_NtIdeal m →
    θ_run (Cert.NtIdeal.defs (F := Ideal)) (onTc (τ := Cert.NtIdeal.τ) (Cert.NtIdeal.main (F := Ideal))) ⟨m, fun _ => 0, g⟩ (fun r => (∀ c : Dev Cert.NtIdeal.nD,
      r.2.mem ((c.tc : Thread Cert.NtIdeal.nD Cert.NtIdeal.τ).loc Cert.NtIdeal.main_arg0) = m ((c.tc : Thread Cert.NtIdeal.nD Cert.NtIdeal.τ).loc Cert.NtIdeal.main_arg0)
      ∧ r.2.mem ((c.tc : Thread Cert.NtIdeal.nD Cert.NtIdeal.τ).loc Cert.NtIdeal.main_arg1) = m ((c.tc : Thread Cert.NtIdeal.nD Cert.NtIdeal.τ).loc Cert.NtIdeal.main_arg1))
      ∧ r.2.sem = fun _ => 0)

def quiescent_NtRefIdeal [hNtRefIdeal : Cert.NtRefIdeal.Facts] : Prop :=
  ∀ (m : (ℓ : Loc Cert.NtRefIdeal.nD Cert.NtRefIdeal.τ Cert.NtRefIdeal.sig) → Buf (Elt Ideal) ℓ) (g : Dev Cert.NtRefIdeal.nD → PrngReg), Pre_NtRefIdeal m →
    θ_run (Cert.NtRefIdeal.defs (F := Ideal)) (onTc (τ := Cert.NtRefIdeal.τ) (Cert.NtRefIdeal.main (F := Ideal))) ⟨m, fun _ => 0, g⟩ (fun r => (∀ c : Dev Cert.NtRefIdeal.nD,
      r.2.mem ((c.tc : Thread Cert.NtRefIdeal.nD Cert.NtRefIdeal.τ).loc Cert.NtRefIdeal.main_arg0) = m ((c.tc : Thread Cert.NtRefIdeal.nD Cert.NtRefIdeal.τ).loc Cert.NtRefIdeal.main_arg0)
      ∧ r.2.mem ((c.tc : Thread Cert.NtRefIdeal.nD Cert.NtRefIdeal.τ).loc Cert.NtRefIdeal.main_arg1) = m ((c.tc : Thread Cert.NtRefIdeal.nD Cert.NtRefIdeal.τ).loc Cert.NtRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3))
      ∧ r.2.sem = fun _ => 0)

def quiescent_Tn [hTn : Cert.Tn.Facts] : Prop :=
  ∀ (m : (ℓ : Loc Cert.Tn.nD Cert.Tn.τ Cert.Tn.sig) → Buf (Elt Bits) ℓ) (g : Dev Cert.Tn.nD → PrngReg), Pre_Tn m →
    θ_run (Cert.Tn.defs (F := Bits)) (onTc (τ := Cert.Tn.τ) (Cert.Tn.main (F := Bits))) ⟨m, fun _ => 0, g⟩ (fun r => (∀ c : Dev Cert.Tn.nD,
      r.2.mem ((c.tc : Thread Cert.Tn.nD Cert.Tn.τ).loc Cert.Tn.main_arg0) = m ((c.tc : Thread Cert.Tn.nD Cert.Tn.τ).loc Cert.Tn.main_arg0)
      ∧ r.2.mem ((c.tc : Thread Cert.Tn.nD Cert.Tn.τ).loc Cert.Tn.main_arg1) = m ((c.tc : Thread Cert.Tn.nD Cert.Tn.τ).loc Cert.Tn.main_arg1))
      ∧ r.2.sem = fun _ => 0)

def quiescent_TnIdeal [hTnIdeal : Cert.TnIdeal.Facts] : Prop :=
  ∀ (m : (ℓ : Loc Cert.TnIdeal.nD Cert.TnIdeal.τ Cert.TnIdeal.sig) → Buf (Elt Ideal) ℓ) (g : Dev Cert.TnIdeal.nD → PrngReg), Pre_TnIdeal m →
    θ_run (Cert.TnIdeal.defs (F := Ideal)) (onTc (τ := Cert.TnIdeal.τ) (Cert.TnIdeal.main (F := Ideal))) ⟨m, fun _ => 0, g⟩ (fun r => (∀ c : Dev Cert.TnIdeal.nD,
      r.2.mem ((c.tc : Thread Cert.TnIdeal.nD Cert.TnIdeal.τ).loc Cert.TnIdeal.main_arg0) = m ((c.tc : Thread Cert.TnIdeal.nD Cert.TnIdeal.τ).loc Cert.TnIdeal.main_arg0)
      ∧ r.2.mem ((c.tc : Thread Cert.TnIdeal.nD Cert.TnIdeal.τ).loc Cert.TnIdeal.main_arg1) = m ((c.tc : Thread Cert.TnIdeal.nD Cert.TnIdeal.τ).loc Cert.TnIdeal.main_arg1))
      ∧ r.2.sem = fun _ => 0)

def quiescent_TnRefIdeal [hTnRefIdeal : Cert.TnRefIdeal.Facts] : Prop :=
  ∀ (m : (ℓ : Loc Cert.TnRefIdeal.nD Cert.TnRefIdeal.τ Cert.TnRefIdeal.sig) → Buf (Elt Ideal) ℓ) (g : Dev Cert.TnRefIdeal.nD → PrngReg), Pre_TnRefIdeal m →
    θ_run (Cert.TnRefIdeal.defs (F := Ideal)) (onTc (τ := Cert.TnRefIdeal.τ) (Cert.TnRefIdeal.main (F := Ideal))) ⟨m, fun _ => 0, g⟩ (fun r => (∀ c : Dev Cert.TnRefIdeal.nD,
      r.2.mem ((c.tc : Thread Cert.TnRefIdeal.nD Cert.TnRefIdeal.τ).loc Cert.TnRefIdeal.main_arg0) = m ((c.tc : Thread Cert.TnRefIdeal.nD Cert.TnRefIdeal.τ).loc Cert.TnRefIdeal.main_arg0)
      ∧ r.2.mem ((c.tc : Thread Cert.TnRefIdeal.nD Cert.TnRefIdeal.τ).loc Cert.TnRefIdeal.main_arg1) = m ((c.tc : Thread Cert.TnRefIdeal.nD Cert.TnRefIdeal.τ).loc Cert.TnRefIdeal.main_arg1))
      ∧ r.2.sem = fun _ => 0)

def quiescent_Half [hHalf : Cert.Half.Facts] : Prop :=
  ∀ (m : (ℓ : Loc Cert.Half.nD Cert.Half.τ Cert.Half.sig) → Buf (Elt Bits) ℓ) (g : Dev Cert.Half.nD → PrngReg), Pre_Half m →
    θ_run (Cert.Half.defs (F := Bits)) (onTc (τ := Cert.Half.τ) (Cert.Half.main (F := Bits))) ⟨m, fun _ => 0, g⟩ (fun r => (∀ c : Dev Cert.Half.nD,
      r.2.mem ((c.tc : Thread Cert.Half.nD Cert.Half.τ).loc Cert.Half.main_arg0) = m ((c.tc : Thread Cert.Half.nD Cert.Half.τ).loc Cert.Half.main_arg0)
      ∧ r.2.mem ((c.tc : Thread Cert.Half.nD Cert.Half.τ).loc Cert.Half.main_arg1) = m ((c.tc : Thread Cert.Half.nD Cert.Half.τ).loc Cert.Half.main_arg1))
      ∧ r.2.sem = fun _ => 0)

def quiescent_HalfIdeal [hHalfIdeal : Cert.HalfIdeal.Facts] : Prop :=
  ∀ (m : (ℓ : Loc Cert.HalfIdeal.nD Cert.HalfIdeal.τ Cert.HalfIdeal.sig) → Buf (Elt Ideal) ℓ) (g : Dev Cert.HalfIdeal.nD → PrngReg), Pre_HalfIdeal m →
    θ_run (Cert.HalfIdeal.defs (F := Ideal)) (onTc (τ := Cert.HalfIdeal.τ) (Cert.HalfIdeal.main (F := Ideal))) ⟨m, fun _ => 0, g⟩ (fun r => (∀ c : Dev Cert.HalfIdeal.nD,
      r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
      ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1))
      ∧ r.2.sem = fun _ => 0)

def quiescent_HalfRefIdeal [hHalfRefIdeal : Cert.HalfRefIdeal.Facts] : Prop :=
  ∀ (m : (ℓ : Loc Cert.HalfRefIdeal.nD Cert.HalfRefIdeal.τ Cert.HalfRefIdeal.sig) → Buf (Elt Ideal) ℓ) (g : Dev Cert.HalfRefIdeal.nD → PrngReg), Pre_HalfRefIdeal m →
    θ_run (Cert.HalfRefIdeal.defs (F := Ideal)) (onTc (τ := Cert.HalfRefIdeal.τ) (Cert.HalfRefIdeal.main (F := Ideal))) ⟨m, fun _ => 0, g⟩ (fun r => (∀ c : Dev Cert.HalfRefIdeal.nD,
      r.2.mem ((c.tc : Thread Cert.HalfRefIdeal.nD Cert.HalfRefIdeal.τ).loc Cert.HalfRefIdeal.main_arg0) = m ((c.tc : Thread Cert.HalfRefIdeal.nD Cert.HalfRefIdeal.τ).loc Cert.HalfRefIdeal.main_arg0)
      ∧ r.2.mem ((c.tc : Thread Cert.HalfRefIdeal.nD Cert.HalfRefIdeal.τ).loc Cert.HalfRefIdeal.main_arg1) = m ((c.tc : Thread Cert.HalfRefIdeal.nD Cert.HalfRefIdeal.τ).loc Cert.HalfRefIdeal.main_arg1))
      ∧ r.2.sem = fun _ => 0)

def quiescent_Part [hPart : Cert.Part.Facts] : Prop :=
  ∀ (m : (ℓ : Loc Cert.Part.nD Cert.Part.τ Cert.Part.sig) → Buf (Elt Bits) ℓ) (g : Dev Cert.Part.nD → PrngReg), Pre_Part m →
    θ_run (Cert.Part.defs (F := Bits)) (onTc (τ := Cert.Part.τ) (Cert.Part.main (F := Bits))) ⟨m, fun _ => 0, g⟩ (fun r => (∀ c : Dev Cert.Part.nD,
      r.2.mem ((c.tc : Thread Cert.Part.nD Cert.Part.τ).loc Cert.Part.main_arg0) = m ((c.tc : Thread Cert.Part.nD Cert.Part.τ).loc Cert.Part.main_arg0)
      ∧ r.2.mem ((c.tc : Thread Cert.Part.nD Cert.Part.τ).loc Cert.Part.main_arg1) = m ((c.tc : Thread Cert.Part.nD Cert.Part.τ).loc Cert.Part.main_arg1)
      ∧ r.2.mem ((c.tc : Thread Cert.Part.nD Cert.Part.τ).loc Cert.Part.main_arg2) = m ((c.tc : Thread Cert.Part.nD Cert.Part.τ).loc Cert.Part.main_arg2)
      ∧ r.2.mem ((c.tc : Thread Cert.Part.nD Cert.Part.τ).loc Cert.Part.main_arg3) = m ((c.tc : Thread Cert.Part.nD Cert.Part.τ).loc Cert.Part.main_arg3))
      ∧ r.2.sem = fun _ => 0)

def quiescent_PartIdeal [hPartIdeal : Cert.PartIdeal.Facts] : Prop :=
  ∀ (m : (ℓ : Loc Cert.PartIdeal.nD Cert.PartIdeal.τ Cert.PartIdeal.sig) → Buf (Elt Ideal) ℓ) (g : Dev Cert.PartIdeal.nD → PrngReg), Pre_PartIdeal m →
    θ_run (Cert.PartIdeal.defs (F := Ideal)) (onTc (τ := Cert.PartIdeal.τ) (Cert.PartIdeal.main (F := Ideal))) ⟨m, fun _ => 0, g⟩ (fun r => (∀ c : Dev Cert.PartIdeal.nD,
      r.2.mem ((c.tc : Thread Cert.PartIdeal.nD Cert.PartIdeal.τ).loc Cert.PartIdeal.main_arg0) = m ((c.tc : Thread Cert.PartIdeal.nD Cert.PartIdeal.τ).loc Cert.PartIdeal.main_arg0)
      ∧ r.2.mem ((c.tc : Thread Cert.PartIdeal.nD Cert.PartIdeal.τ).loc Cert.PartIdeal.main_arg1) = m ((c.tc : Thread Cert.PartIdeal.nD Cert.PartIdeal.τ).loc Cert.PartIdeal.main_arg1)
      ∧ r.2.mem ((c.tc : Thread Cert.PartIdeal.nD Cert.PartIdeal.τ).loc Cert.PartIdeal.main_arg2) = m ((c.tc : Thread Cert.PartIdeal.nD Cert.PartIdeal.τ).loc Cert.PartIdeal.main_arg2)
      ∧ r.2.mem ((c.tc : Thread Cert.PartIdeal.nD Cert.PartIdeal.τ).loc Cert.PartIdeal.main_arg3) = m ((c.tc : Thread Cert.PartIdeal.nD Cert.PartIdeal.τ).loc Cert.PartIdeal.main_arg3))
      ∧ r.2.sem = fun _ => 0)

def quiescent_PartRefIdeal [hPartRefIdeal : Cert.PartRefIdeal.Facts] : Prop :=
  ∀ (m : (ℓ : Loc Cert.PartRefIdeal.nD Cert.PartRefIdeal.τ Cert.PartRefIdeal.sig) → Buf (Elt Ideal) ℓ) (g : Dev Cert.PartRefIdeal.nD → PrngReg), Pre_PartRefIdeal m →
    θ_run (Cert.PartRefIdeal.defs (F := Ideal)) (onTc (τ := Cert.PartRefIdeal.τ) (Cert.PartRefIdeal.main (F := Ideal))) ⟨m, fun _ => 0, g⟩ (fun r => (∀ c : Dev Cert.PartRefIdeal.nD,
      r.2.mem ((c.tc : Thread Cert.PartRefIdeal.nD Cert.PartRefIdeal.τ).loc Cert.PartRefIdeal.main_arg0) = m ((c.tc : Thread Cert.PartRefIdeal.nD Cert.PartRefIdeal.τ).loc Cert.PartRefIdeal.main_arg0)
      ∧ r.2.mem ((c.tc : Thread Cert.PartRefIdeal.nD Cert.PartRefIdeal.τ).loc Cert.PartRefIdeal.main_arg1) = m ((c.tc : Thread Cert.PartRefIdeal.nD Cert.PartRefIdeal.τ).loc Cert.PartRefIdeal.main_arg1)
      ∧ r.2.mem ((c.tc : Thread Cert.PartRefIdeal.nD Cert.PartRefIdeal.τ).loc Cert.PartRefIdeal.main_arg2) = m ((c.tc : Thread Cert.PartRefIdeal.nD Cert.PartRefIdeal.τ).loc Cert.PartRefIdeal.main_arg2)
      ∧ r.2.mem ((c.tc : Thread Cert.PartRefIdeal.nD Cert.PartRefIdeal.τ).loc Cert.PartRefIdeal.main_arg3) = m ((c.tc : Thread Cert.PartRefIdeal.nD Cert.PartRefIdeal.τ).loc Cert.PartRefIdeal.main_arg3))
      ∧ r.2.sem = fun _ => 0)

def quiescent_Cast [hCast : Cert.Cast.Facts] : Prop :=
  ∀ (m : (ℓ : Loc Cert.Cast.nD Cert.Cast.τ Cert.Cast.sig) → Buf (Elt Bits) ℓ) (g : Dev Cert.Cast.nD → PrngReg), Pre_Cast m →
    θ_run (Cert.Cast.defs (F := Bits)) (onTc (τ := Cert.Cast.τ) (Cert.Cast.main (F := Bits))) ⟨m, fun _ => 0, g⟩ (fun r => (∀ c : Dev Cert.Cast.nD,
      r.2.mem ((c.tc : Thread Cert.Cast.nD Cert.Cast.τ).loc Cert.Cast.main_arg0) = m ((c.tc : Thread Cert.Cast.nD Cert.Cast.τ).loc Cert.Cast.main_arg0)
      ∧ r.2.mem ((c.tc : Thread Cert.Cast.nD Cert.Cast.τ).loc Cert.Cast.main_arg1) = m ((c.tc : Thread Cert.Cast.nD Cert.Cast.τ).loc Cert.Cast.main_arg1))
      ∧ r.2.sem = fun _ => 0)

def quiescent_CastIdeal [hCastIdeal : Cert.CastIdeal.Facts] : Prop :=
  ∀ (m : (ℓ : Loc Cert.CastIdeal.nD Cert.CastIdeal.τ Cert.CastIdeal.sig) → Buf (Elt Ideal) ℓ) (g : Dev Cert.CastIdeal.nD → PrngReg), Pre_CastIdeal m →
    θ_run (Cert.CastIdeal.defs (F := Ideal)) (onTc (τ := Cert.CastIdeal.τ) (Cert.CastIdeal.main (F := Ideal))) ⟨m, fun _ => 0, g⟩ (fun r => (∀ c : Dev Cert.CastIdeal.nD,
      r.2.mem ((c.tc : Thread Cert.CastIdeal.nD Cert.CastIdeal.τ).loc Cert.CastIdeal.main_arg0) = m ((c.tc : Thread Cert.CastIdeal.nD Cert.CastIdeal.τ).loc Cert.CastIdeal.main_arg0)
      ∧ r.2.mem ((c.tc : Thread Cert.CastIdeal.nD Cert.CastIdeal.τ).loc Cert.CastIdeal.main_arg1) = m ((c.tc : Thread Cert.CastIdeal.nD Cert.CastIdeal.τ).loc Cert.CastIdeal.main_arg1))
      ∧ r.2.sem = fun _ => 0)

def quiescent_CastRefIdeal [hCastRefIdeal : Cert.CastRefIdeal.Facts] : Prop :=
  ∀ (m : (ℓ : Loc Cert.CastRefIdeal.nD Cert.CastRefIdeal.τ Cert.CastRefIdeal.sig) → Buf (Elt Ideal) ℓ) (g : Dev Cert.CastRefIdeal.nD → PrngReg), Pre_CastRefIdeal m →
    θ_run (Cert.CastRefIdeal.defs (F := Ideal)) (onTc (τ := Cert.CastRefIdeal.τ) (Cert.CastRefIdeal.main (F := Ideal))) ⟨m, fun _ => 0, g⟩ (fun r => (∀ c : Dev Cert.CastRefIdeal.nD,
      r.2.mem ((c.tc : Thread Cert.CastRefIdeal.nD Cert.CastRefIdeal.τ).loc Cert.CastRefIdeal.main_arg0) = m ((c.tc : Thread Cert.CastRefIdeal.nD Cert.CastRefIdeal.τ).loc Cert.CastRefIdeal.main_arg0)
      ∧ r.2.mem ((c.tc : Thread Cert.CastRefIdeal.nD Cert.CastRefIdeal.τ).loc Cert.CastRefIdeal.main_arg1) = m ((c.tc : Thread Cert.CastRefIdeal.nD Cert.CastRefIdeal.τ).loc Cert.CastRefIdeal.main_arg1))
      ∧ r.2.sem = fun _ => 0)

def preserves_FfnIn_FfnInIdeal : Prop :=
  True

def algebraic_FfnInIdeal_FfnInRefIdeal_pre_finite_ffn_in [hFfnInIdeal : Cert.FfnInIdeal.Facts] [hFfnInRefIdeal : Cert.FfnInRefIdeal.Facts] [hPre_finite_ffn_in : Cert.Pre_finite_ffn_in.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal_finite_ffn_in m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)
      ∧ m' ((c.tc : Thread Cert.FfnInRefIdeal.nD Cert.FfnInRefIdeal.τ).loc Cert.FfnInRefIdeal.main_arg6) = m ((c.tc : Thread Cert.FfnInIdeal.nD Cert.FfnInIdeal.τ).loc Cert.FfnInIdeal.main_arg6)
      ∧ m' ((c.tc : Thread Cert.FfnInRefIdeal.nD Cert.FfnInRefIdeal.τ).loc Cert.FfnInRefIdeal.main_arg7) = m ((c.tc : Thread Cert.FfnInIdeal.nD Cert.FfnInIdeal.τ).loc Cert.FfnInIdeal.main_arg7)) →
    ∃ (v0 : (c : Dev Cert.FfnInIdeal.nD) → Buf (Elt Ideal) ((c.tc : Thread Cert.FfnInIdeal.nD Cert.FfnInIdeal.τ).loc Cert.FfnInIdeal.main_v16_0)) (v1 : (c : Dev Cert.FfnInIdeal.nD) → Buf (Elt Ideal) ((c.tc : Thread Cert.FfnInIdeal.nD Cert.FfnInIdeal.τ).loc Cert.FfnInIdeal.main_v16_1)) (v2 : (c : Dev Cert.FfnInIdeal.nD) → Buf (Elt Ideal) ((c.tc : Thread Cert.FfnInIdeal.nD Cert.FfnInIdeal.τ).loc Cert.FfnInIdeal.main_v16_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v16_0) = v0 c
          ∧ r.2.mem ((c.tc : Thread Cert.FfnInIdeal.nD Cert.FfnInIdeal.τ).loc Cert.FfnInIdeal.main_v16_1) = v1 c
          ∧ r.2.mem ((c.tc : Thread Cert.FfnInIdeal.nD Cert.FfnInIdeal.τ).loc Cert.FfnInIdeal.main_v16_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
          ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6)
          ∧ r.2.mem ((c.tc : Thread Cert.FfnInIdeal.nD Cert.FfnInIdeal.τ).loc Cert.FfnInIdeal.main_arg7) = m ((c.tc : Thread Cert.FfnInIdeal.nD Cert.FfnInIdeal.τ).loc Cert.FfnInIdeal.main_arg7))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v49) = v0 c
          ∧ r.2.mem ((c.tc : Thread Cert.FfnInRefIdeal.nD Cert.FfnInRefIdeal.τ).loc Cert.FfnInRefIdeal.main_v52) = v1 c
          ∧ r.2.mem ((c.tc : Thread Cert.FfnInRefIdeal.nD Cert.FfnInRefIdeal.τ).loc Cert.FfnInRefIdeal.main_v51) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5)
          ∧ r.2.mem ((c.tc : Thread Cert.FfnInRefIdeal.nD Cert.FfnInRefIdeal.τ).loc Cert.FfnInRefIdeal.main_arg6) = m' ((c.tc : Thread Cert.FfnInRefIdeal.nD Cert.FfnInRefIdeal.τ).loc Cert.FfnInRefIdeal.main_arg6)
          ∧ r.2.mem ((c.tc : Thread Cert.FfnInRefIdeal.nD Cert.FfnInRefIdeal.τ).loc Cert.FfnInRefIdeal.main_arg7) = m' ((c.tc : Thread Cert.FfnInRefIdeal.nD Cert.FfnInRefIdeal.τ).loc Cert.FfnInRefIdeal.main_arg7))

def preserves_ConvIn_ConvInIdeal : Prop :=
  True

def algebraic_ConvInIdeal_ConvInRefIdeal_pre_finite_conv_in [hConvInIdeal : Cert.ConvInIdeal.Facts] [hConvInRefIdeal : Cert.ConvInRefIdeal.Facts] [hPre_finite_conv_in : Cert.Pre_finite_conv_in.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInRefIdeal.nD Cert.ConvInRefIdeal.τ Cert.ConvInRefIdeal.sig) → Buf (Elt Ideal) ℓ) (g' : Dev Cert.ConvInRefIdeal.nD → PrngReg), Pre_ConvInIdeal_finite_conv_in m →
    (∀ c : Dev Cert.ConvInIdeal.nD,
      m' ((c.tc : Thread Cert.ConvInRefIdeal.nD Cert.ConvInRefIdeal.τ).loc Cert.ConvInRefIdeal.main_arg0) = m ((c.tc : Thread Cert.ConvInIdeal.nD Cert.ConvInIdeal.τ).loc Cert.ConvInIdeal.main_arg0)
      ∧ m' ((c.tc : Thread Cert.ConvInRefIdeal.nD Cert.ConvInRefIdeal.τ).loc Cert.ConvInRefIdeal.main_arg1) = m ((c.tc : Thread Cert.ConvInIdeal.nD Cert.ConvInIdeal.τ).loc Cert.ConvInIdeal.main_arg1)
      ∧ m' ((c.tc : Thread Cert.ConvInRefIdeal.nD Cert.ConvInRefIdeal.τ).loc Cert.ConvInRefIdeal.main_arg2) = m ((c.tc : Thread Cert.ConvInIdeal.nD Cert.ConvInIdeal.τ).loc Cert.ConvInIdeal.main_arg2)
      ∧ m' ((c.tc : Thread Cert.ConvInRefIdeal.nD Cert.ConvInRefIdeal.τ).loc Cert.ConvInRefIdeal.main_arg3) = m ((c.tc : Thread Cert.ConvInIdeal.nD Cert.ConvInIdeal.τ).loc Cert.ConvInIdeal.main_arg3)
      ∧ m' ((c.tc : Thread Cert.ConvInRefIdeal.nD Cert.ConvInRefIdeal.τ).loc Cert.ConvInRefIdeal.main_arg4) = m ((c.tc : Thread Cert.ConvInIdeal.nD Cert.ConvInIdeal.τ).loc Cert.ConvInIdeal.main_arg4)) →
    ∃ (v0 : (c : Dev Cert.ConvInIdeal.nD) → Buf (Elt Ideal) ((c.tc : Thread Cert.ConvInIdeal.nD Cert.ConvInIdeal.τ).loc Cert.ConvInIdeal.main_v7_0)) (v1 : (c : Dev Cert.ConvInIdeal.nD) → Buf (Elt Ideal) ((c.tc : Thread Cert.ConvInIdeal.nD Cert.ConvInIdeal.τ).loc Cert.ConvInIdeal.main_v7_1)) (v2 : (c : Dev Cert.ConvInIdeal.nD) → Buf (Elt Ideal) ((c.tc : Thread Cert.ConvInIdeal.nD Cert.ConvInIdeal.τ).loc Cert.ConvInIdeal.main_v7_2)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v7_0) = v0 c
          ∧ r.2.mem ((c.tc : Thread Cert.ConvInIdeal.nD Cert.ConvInIdeal.τ).loc Cert.ConvInIdeal.main_v7_1) = v1 c
          ∧ r.2.mem ((c.tc : Thread Cert.ConvInIdeal.nD Cert.ConvInIdeal.τ).loc Cert.ConvInIdeal.main_v7_2) = v2 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
          ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2)
          ∧ r.2.mem ((c.tc : Thread Cert.ConvInIdeal.nD Cert.ConvInIdeal.τ).loc Cert.ConvInIdeal.main_arg3) = m ((c.tc : Thread Cert.ConvInIdeal.nD Cert.ConvInIdeal.τ).loc Cert.ConvInIdeal.main_arg3)
          ∧ r.2.mem ((c.tc : Thread Cert.ConvInIdeal.nD Cert.ConvInIdeal.τ).loc Cert.ConvInIdeal.main_arg4) = m ((c.tc : Thread Cert.ConvInIdeal.nD Cert.ConvInIdeal.τ).loc Cert.ConvInIdeal.main_arg4))
      ∧ θ_run (Cert.ConvInRefIdeal.defs (F := Ideal)) (onTc (τ := Cert.ConvInRefIdeal.τ) (Cert.ConvInRefIdeal.main (F := Ideal))) ⟨m', fun _ => 0, g'⟩ (fun r => ∀ c : Dev Cert.ConvInRefIdeal.nD,
          r.2.mem ((c.tc : Thread Cert.ConvInRefIdeal.nD Cert.ConvInRefIdeal.τ).loc Cert.ConvInRefIdeal.main_v41) = v0 c
          ∧ r.2.mem ((c.tc : Thread Cert.ConvInRefIdeal.nD Cert.ConvInRefIdeal.τ).loc Cert.ConvInRefIdeal.main_v42) = v1 c
          ∧ r.2.mem ((c.tc : Thread Cert.ConvInRefIdeal.nD Cert.ConvInRefIdeal.τ).loc Cert.ConvInRefIdeal.main_v44) = v2 c
          ∧ r.2.mem ((c.tc : Thread Cert.ConvInRefIdeal.nD Cert.ConvInRefIdeal.τ).loc Cert.ConvInRefIdeal.main_arg0) = m' ((c.tc : Thread Cert.ConvInRefIdeal.nD Cert.ConvInRefIdeal.τ).loc Cert.ConvInRefIdeal.main_arg0)
          ∧ r.2.mem ((c.tc : Thread Cert.ConvInRefIdeal.nD Cert.ConvInRefIdeal.τ).loc Cert.ConvInRefIdeal.main_arg1) = m' ((c.tc : Thread Cert.ConvInRefIdeal.nD Cert.ConvInRefIdeal.τ).loc Cert.ConvInRefIdeal.main_arg1)
          ∧ r.2.mem ((c.tc : Thread Cert.ConvInRefIdeal.nD Cert.ConvInRefIdeal.τ).loc Cert.ConvInRefIdeal.main_arg2) = m' ((c.tc : Thread Cert.ConvInRefIdeal.nD Cert.ConvInRefIdeal.τ).loc Cert.ConvInRefIdeal.main_arg2)
          ∧ r.2.mem ((c.tc : Thread Cert.ConvInRefIdeal.nD Cert.ConvInRefIdeal.τ).loc Cert.ConvInRefIdeal.main_arg3) = m' ((c.tc : Thread Cert.ConvInRefIdeal.nD Cert.ConvInRefIdeal.τ).loc Cert.ConvInRefIdeal.main_arg3)
          ∧ r.2.mem ((c.tc : Thread Cert.ConvInRefIdeal.nD Cert.ConvInRefIdeal.τ).loc Cert.ConvInRefIdeal.main_arg4) = m' ((c.tc : Thread Cert.ConvInRefIdeal.nD Cert.ConvInRefIdeal.τ).loc Cert.ConvInRefIdeal.main_arg4))

def preserves_AttnIn_AttnInIdeal : Prop :=
  True

def algebraic_AttnInIdeal_AttnInRefIdeal_pre_finite_attn_in [hAttnInIdeal : Cert.AttnInIdeal.Facts] [hAttnInRefIdeal : Cert.AttnInRefIdeal.Facts] [hPre_finite_attn_in : Cert.Pre_finite_attn_in.Facts] : Prop :=
  ∀ (m : (ℓ : Loc Cert.AttnInIdeal.nD Cert.AttnInIdeal.τ Cert.AttnInIdeal.sig) → Buf (Elt Ideal) ℓ) (g : Dev Cert.AttnInIdeal.nD → PrngReg)
    (m' : (ℓ : Loc Cert.AttnInRefIdeal.nD Cert.AttnInRefIdeal.τ Cert.AttnInRefIdeal.sig) → Buf (Elt Ideal) ℓ) (g' : Dev Cert.AttnInRefIdeal.nD → PrngReg), Pre_AttnInIdeal_finite_attn_in m →
    (∀ c : Dev Cert.AttnInIdeal.nD,
      m' ((c.tc : Thread Cert.AttnInRefIdeal.nD Cert.AttnInRefIdeal.τ).loc Cert.AttnInRefIdeal.main_arg0) = m ((c.tc : Thread Cert.AttnInIdeal.nD Cert.AttnInIdeal.τ).loc Cert.AttnInIdeal.main_arg0)
      ∧ m' ((c.tc : Thread Cert.AttnInRefIdeal.nD Cert.AttnInRefIdeal.τ).loc Cert.AttnInRefIdeal.main_arg1) = m ((c.tc : Thread Cert.AttnInIdeal.nD Cert.AttnInIdeal.τ).loc Cert.AttnInIdeal.main_arg1)
      ∧ m' ((c.tc : Thread Cert.AttnInRefIdeal.nD Cert.AttnInRefIdeal.τ).loc Cert.AttnInRefIdeal.main_arg2) = m ((c.tc : Thread Cert.AttnInIdeal.nD Cert.AttnInIdeal.τ).loc Cert.AttnInIdeal.main_arg2)
      ∧ m' ((c.tc : Thread Cert.AttnInRefIdeal.nD Cert.AttnInRefIdeal.τ).loc Cert.AttnInRefIdeal.main_arg3) = m ((c.tc : Thread Cert.AttnInIdeal.nD Cert.AttnInIdeal.τ).loc Cert.AttnInIdeal.main_arg3)
      ∧ m' ((c.tc : Thread Cert.AttnInRefIdeal.nD Cert.AttnInRefIdeal.τ).loc Cert.AttnInRefIdeal.main_arg4) = m ((c.tc : Thread Cert.AttnInIdeal.nD Cert.AttnInIdeal.τ).loc Cert.AttnInIdeal.main_arg4)) →
    ∃ (v0 : (c : Dev Cert.AttnInIdeal.nD) → Buf (Elt Ideal) ((c.tc : Thread Cert.AttnInIdeal.nD Cert.AttnInIdeal.τ).loc Cert.AttnInIdeal.main_v10_0)) (v1 : (c : Dev Cert.AttnInIdeal.nD) → Buf (Elt Ideal) ((c.tc : Thread Cert.AttnInIdeal.nD Cert.AttnInIdeal.τ).loc Cert.AttnInIdeal.main_v10_1)) (v2 : (c : Dev Cert.AttnInIdeal.nD) → Buf (Elt Ideal) ((c.tc : Thread Cert.AttnInIdeal.nD Cert.AttnInIdeal.τ).loc Cert.AttnInIdeal.main_v10_2)),
      θ_run (Cert.AttnInIdeal.defs (F := Ideal)) (onTc (τ := Cert.AttnInIdeal.τ) (Cert.AttnInIdeal.main (F := Ideal))) ⟨m, fun _ => 0, g⟩ (fun r => ∀ c : Dev Cert.AttnInIdeal.nD,
          r.2.mem ((c.tc : Thread Cert.AttnInIdeal.nD Cert.AttnInIdeal.τ).loc Cert.AttnInIdeal.main_v10_0) = v0 c
          ∧ r.2.mem ((c.tc : Thread Cert.AttnInIdeal.nD Cert.AttnInIdeal.τ).loc Cert.AttnInIdeal.main_v10_1) = v1 c
          ∧ r.2.mem ((c.tc : Thread Cert.AttnInIdeal.nD Cert.AttnInIdeal.τ).loc Cert.AttnInIdeal.main_v10_2) = v2 c
          ∧ r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
          ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1)
          ∧ r.2.mem ((c.tc : Thread Cert.AttnInIdeal.nD Cert.AttnInIdeal.τ).loc Cert.AttnInIdeal.main_arg2) = m ((c.tc : Thread Cert.AttnInIdeal.nD Cert.AttnInIdeal.τ).loc Cert.AttnInIdeal.main_arg2)
          ∧ r.2.mem ((c.tc : Thread Cert.AttnInIdeal.nD Cert.AttnInIdeal.τ).loc Cert.AttnInIdeal.main_arg3) = m ((c.tc : Thread Cert.AttnInIdeal.nD Cert.AttnInIdeal.τ).loc Cert.AttnInIdeal.main_arg3)
          ∧ r.2.mem ((c.tc : Thread Cert.AttnInIdeal.nD Cert.AttnInIdeal.τ).loc Cert.AttnInIdeal.main_arg4) = m ((c.tc : Thread Cert.AttnInIdeal.nD Cert.AttnInIdeal.τ).loc Cert.AttnInIdeal.main_arg4))
      ∧ θ_run (Cert.AttnInRefIdeal.defs (F := Ideal)) (onTc (τ := Cert.AttnInRefIdeal.τ) (Cert.AttnInRefIdeal.main (F := Ideal))) ⟨m', fun _ => 0, g'⟩ (fun r => ∀ c : Dev Cert.AttnInRefIdeal.nD,
          r.2.mem ((c.tc : Thread Cert.AttnInRefIdeal.nD Cert.AttnInRefIdeal.τ).loc Cert.AttnInRefIdeal.main_v41) = v0 c
          ∧ r.2.mem ((c.tc : Thread Cert.AttnInRefIdeal.nD Cert.AttnInRefIdeal.τ).loc Cert.AttnInRefIdeal.main_v42) = v1 c
          ∧ r.2.mem ((c.tc : Thread Cert.AttnInRefIdeal.nD Cert.AttnInRefIdeal.τ).loc Cert.AttnInRefIdeal.main_v44) = v2 c
          ∧ r.2.mem ((c.tc : Thread Cert.AttnInRefIdeal.nD Cert.AttnInRefIdeal.τ).loc Cert.AttnInRefIdeal.main_arg0) = m' ((c.tc : Thread Cert.AttnInRefIdeal.nD Cert.AttnInRefIdeal.τ).loc Cert.AttnInRefIdeal.main_arg0)
          ∧ r.2.mem ((c.tc : Thread Cert.AttnInRefIdeal.nD Cert.AttnInRefIdeal.τ).loc Cert.AttnInRefIdeal.main_arg1) = m' ((c.tc : Thread Cert.AttnInRefIdeal.nD Cert.AttnInRefIdeal.τ).loc Cert.AttnInRefIdeal.main_arg1)
          ∧ r.2.mem ((c.tc : Thread Cert.AttnInRefIdeal.nD Cert.AttnInRefIdeal.τ).loc Cert.AttnInRefIdeal.main_arg2) = m' ((c.tc : Thread Cert.AttnInRefIdeal.nD Cert.AttnInRefIdeal.τ).loc Cert.AttnInRefIdeal.main_arg2)
          ∧ r.2.mem ((c.tc : Thread Cert.AttnInRefIdeal.nD Cert.AttnInRefIdeal.τ).loc Cert.AttnInRefIdeal.main_arg3) = m' ((c.tc : Thread Cert.AttnInRefIdeal.nD Cert.AttnInRefIdeal.τ).loc Cert.AttnInRefIdeal.main_arg3)
          ∧ r.2.mem ((c.tc : Thread Cert.AttnInRefIdeal.nD Cert.AttnInRefIdeal.τ).loc Cert.AttnInRefIdeal.main_arg4) = m' ((c.tc : Thread Cert.AttnInRefIdeal.nD Cert.AttnInRefIdeal.τ).loc Cert.AttnInRefIdeal.main_arg4))

def preserves_Down_DownIdeal : Prop :=
  True

def algebraic_DownIdeal_DownRefIdeal_pre_finite_down [hDownIdeal : Cert.DownIdeal.Facts] [hDownRefIdeal : Cert.DownRefIdeal.Facts] [hPre_finite_down : Cert.Pre_finite_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal_finite_down m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v27_0)) (v1 : (c : Dev Cert.DownIdeal.nD) → Buf (Elt Ideal) ((c.tc : Thread Cert.DownIdeal.nD Cert.DownIdeal.τ).loc Cert.DownIdeal.main_v27_1)) (v2 : (c : Dev Cert.DownIdeal.nD) → Buf (Elt Ideal) ((c.tc : Thread Cert.DownIdeal.nD Cert.DownIdeal.τ).loc Cert.DownIdeal.main_v27_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v27_0) = v0 c
          ∧ r.2.mem ((c.tc : Thread Cert.DownIdeal.nD Cert.DownIdeal.τ).loc Cert.DownIdeal.main_v27_1) = v1 c
          ∧ r.2.mem ((c.tc : Thread Cert.DownIdeal.nD Cert.DownIdeal.τ).loc Cert.DownIdeal.main_v27_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v13) = v0 c
          ∧ r.2.mem ((c.tc : Thread Cert.DownRefIdeal.nD Cert.DownRefIdeal.τ).loc Cert.DownRefIdeal.main_v16) = v1 c
          ∧ r.2.mem ((c.tc : Thread Cert.DownRefIdeal.nD Cert.DownRefIdeal.τ).loc Cert.DownRefIdeal.main_v17) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v7_0)) (v1 : (c : Dev Cert.LossIdeal.nD) → Buf (Elt Ideal) ((c.tc : Thread Cert.LossIdeal.nD Cert.LossIdeal.τ).loc Cert.LossIdeal.main_v7_1)) (v2 : (c : Dev Cert.LossIdeal.nD) → Buf (Elt Ideal) ((c.tc : Thread Cert.LossIdeal.nD Cert.LossIdeal.τ).loc Cert.LossIdeal.main_v7_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v7_0) = v0 c
          ∧ r.2.mem ((c.tc : Thread Cert.LossIdeal.nD Cert.LossIdeal.τ).loc Cert.LossIdeal.main_v7_1) = v1 c
          ∧ r.2.mem ((c.tc : Thread Cert.LossIdeal.nD Cert.LossIdeal.τ).loc Cert.LossIdeal.main_v7_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v54) = v0 c
          ∧ r.2.mem ((c.tc : Thread Cert.LossRefIdeal.nD Cert.LossRefIdeal.τ).loc Cert.LossRefIdeal.main_v55) = v1 c
          ∧ r.2.mem ((c.tc : Thread Cert.LossRefIdeal.nD Cert.LossRefIdeal.τ).loc Cert.LossRefIdeal.main_v56) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Fwd_FwdIdeal : Prop :=
  IdealRules.named_const.Statement Cert.FwdIdeal.κ "mask" .f32 0xF2C9F2CA#32 ⊥

def algebraic_FwdIdeal_FwdRefIdeal_pre_finite_fwd [hFwdIdeal : Cert.FwdIdeal.Facts] [hFwdRefIdeal : Cert.FwdRefIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite_fwd m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)) →
    ∃ (v0 : (c : Dev Cert.FwdIdeal.nD) → Buf (Elt Ideal) ((c.tc : Thread Cert.FwdIdeal.nD Cert.FwdIdeal.τ).loc Cert.FwdIdeal.main_v5_0)) (v1 : (c : Dev Cert.FwdIdeal.nD) → Buf (Elt Ideal) ((c.tc : Thread Cert.FwdIdeal.nD Cert.FwdIdeal.τ).loc Cert.FwdIdeal.main_v5_1)) (v2 : (c : Dev Cert.FwdIdeal.nD) → Buf (Elt Ideal) ((c.tc : Thread Cert.FwdIdeal.nD Cert.FwdIdeal.τ).loc Cert.FwdIdeal.main_v5_2)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v5_0) = v0 c
          ∧ r.2.mem ((c.tc : Thread Cert.FwdIdeal.nD Cert.FwdIdeal.τ).loc Cert.FwdIdeal.main_v5_1) = v1 c
          ∧ r.2.mem ((c.tc : Thread Cert.FwdIdeal.nD Cert.FwdIdeal.τ).loc Cert.FwdIdeal.main_v5_2) = v2 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v92) = v0 c
          ∧ r.2.mem ((c.tc : Thread Cert.FwdRefIdeal.nD Cert.FwdRefIdeal.τ).loc Cert.FwdRefIdeal.main_v93) = v1 c
          ∧ r.2.mem ((c.tc : Thread Cert.FwdRefIdeal.nD Cert.FwdRefIdeal.τ).loc Cert.FwdRefIdeal.main_v91) = v2 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3))

def preserves_Up_UpIdeal : Prop :=
  True

def algebraic_UpIdeal_UpRefIdeal_pre_finite_up [hUpIdeal : Cert.UpIdeal.Facts] [hUpRefIdeal : Cert.UpRefIdeal.Facts] [hPre_finite_up : Cert.Pre_finite_up.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_finite_up m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v7_0)) (v1 : (c : Dev Cert.UpIdeal.nD) → Buf (Elt Ideal) ((c.tc : Thread Cert.UpIdeal.nD Cert.UpIdeal.τ).loc Cert.UpIdeal.main_v7_1)) (v2 : (c : Dev Cert.UpIdeal.nD) → Buf (Elt Ideal) ((c.tc : Thread Cert.UpIdeal.nD Cert.UpIdeal.τ).loc Cert.UpIdeal.main_v7_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v7_0) = v0 c
          ∧ r.2.mem ((c.tc : Thread Cert.UpIdeal.nD Cert.UpIdeal.τ).loc Cert.UpIdeal.main_v7_1) = v1 c
          ∧ r.2.mem ((c.tc : Thread Cert.UpIdeal.nD Cert.UpIdeal.τ).loc Cert.UpIdeal.main_v7_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v9) = v0 c
          ∧ r.2.mem ((c.tc : Thread Cert.UpRefIdeal.nD Cert.UpRefIdeal.τ).loc Cert.UpRefIdeal.main_v13) = v1 c
          ∧ r.2.mem ((c.tc : Thread Cert.UpRefIdeal.nD Cert.UpRefIdeal.τ).loc Cert.UpRefIdeal.main_v17) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Pw1_Pw1Ideal : Prop :=
  True

def algebraic_Pw1Ideal_Pw1RefIdeal [hPw1Ideal : Cert.Pw1Ideal.Facts] [hPw1RefIdeal : Cert.Pw1RefIdeal.Facts] : Prop :=
  ∀ (m : (ℓ : Loc Cert.Pw1Ideal.nD Cert.Pw1Ideal.τ Cert.Pw1Ideal.sig) → Buf (Elt Ideal) ℓ) (g : Dev Cert.Pw1Ideal.nD → PrngReg)
    (m' : (ℓ : Loc Cert.Pw1RefIdeal.nD Cert.Pw1RefIdeal.τ Cert.Pw1RefIdeal.sig) → Buf (Elt Ideal) ℓ) (g' : Dev Cert.Pw1RefIdeal.nD → PrngReg), Pre_Pw1Ideal m →
    (∀ c : Dev Cert.Pw1Ideal.nD,
      m' ((c.tc : Thread Cert.Pw1RefIdeal.nD Cert.Pw1RefIdeal.τ).loc Cert.Pw1RefIdeal.main_arg0) = m ((c.tc : Thread Cert.Pw1Ideal.nD Cert.Pw1Ideal.τ).loc Cert.Pw1Ideal.main_arg0)
      ∧ m' ((c.tc : Thread Cert.Pw1RefIdeal.nD Cert.Pw1RefIdeal.τ).loc Cert.Pw1RefIdeal.main_arg1) = m ((c.tc : Thread Cert.Pw1Ideal.nD Cert.Pw1Ideal.τ).loc Cert.Pw1Ideal.main_arg1)
      ∧ m' ((c.tc : Thread Cert.Pw1RefIdeal.nD Cert.Pw1RefIdeal.τ).loc Cert.Pw1RefIdeal.main_arg2) = m ((c.tc : Thread Cert.Pw1Ideal.nD Cert.Pw1Ideal.τ).loc Cert.Pw1Ideal.main_arg2)
      ∧ m' ((c.tc : Thread Cert.Pw1RefIdeal.nD Cert.Pw1RefIdeal.τ).loc Cert.Pw1RefIdeal.main_arg3) = m ((c.tc : Thread Cert.Pw1Ideal.nD Cert.Pw1Ideal.τ).loc Cert.Pw1Ideal.main_arg3)) →
    ∃ (v0 : (c : Dev Cert.Pw1Ideal.nD) → Buf (Elt Ideal) ((c.tc : Thread Cert.Pw1Ideal.nD Cert.Pw1Ideal.τ).loc Cert.Pw1Ideal.main_v5_0)) (v1 : (c : Dev Cert.Pw1Ideal.nD) → Buf (Elt Ideal) ((c.tc : Thread Cert.Pw1Ideal.nD Cert.Pw1Ideal.τ).loc Cert.Pw1Ideal.main_v5_1)),
      θ_run (Cert.Pw1Ideal.defs (F := Ideal)) (onTc (τ := Cert.Pw1Ideal.τ) (Cert.Pw1Ideal.main (F := Ideal))) ⟨m, fun _ => 0, g⟩ (fun r => ∀ c : Dev Cert.Pw1Ideal.nD,
          r.2.mem ((c.tc : Thread Cert.Pw1Ideal.nD Cert.Pw1Ideal.τ).loc Cert.Pw1Ideal.main_v5_0) = v0 c
          ∧ r.2.mem ((c.tc : Thread Cert.Pw1Ideal.nD Cert.Pw1Ideal.τ).loc Cert.Pw1Ideal.main_v5_1) = v1 c
          ∧ r.2.mem ((c.tc : Thread Cert.Pw1Ideal.nD Cert.Pw1Ideal.τ).loc Cert.Pw1Ideal.main_arg0) = m ((c.tc : Thread Cert.Pw1Ideal.nD Cert.Pw1Ideal.τ).loc Cert.Pw1Ideal.main_arg0)
          ∧ r.2.mem ((c.tc : Thread Cert.Pw1Ideal.nD Cert.Pw1Ideal.τ).loc Cert.Pw1Ideal.main_arg1) = m ((c.tc : Thread Cert.Pw1Ideal.nD Cert.Pw1Ideal.τ).loc Cert.Pw1Ideal.main_arg1)
          ∧ r.2.mem ((c.tc : Thread Cert.Pw1Ideal.nD Cert.Pw1Ideal.τ).loc Cert.Pw1Ideal.main_arg2) = m ((c.tc : Thread Cert.Pw1Ideal.nD Cert.Pw1Ideal.τ).loc Cert.Pw1Ideal.main_arg2)
          ∧ r.2.mem ((c.tc : Thread Cert.Pw1Ideal.nD Cert.Pw1Ideal.τ).loc Cert.Pw1Ideal.main_arg3) = m ((c.tc : Thread Cert.Pw1Ideal.nD Cert.Pw1Ideal.τ).loc Cert.Pw1Ideal.main_arg3))
      ∧ θ_run (Cert.Pw1RefIdeal.defs (F := Ideal)) (onTc (τ := Cert.Pw1RefIdeal.τ) (Cert.Pw1RefIdeal.main (F := Ideal))) ⟨m', fun _ => 0, g'⟩ (fun r => ∀ c : Dev Cert.Pw1RefIdeal.nD,
          r.2.mem ((c.tc : Thread Cert.Pw1RefIdeal.nD Cert.Pw1RefIdeal.τ).loc Cert.Pw1RefIdeal.main_v15) = v0 c
          ∧ r.2.mem ((c.tc : Thread Cert.Pw1RefIdeal.nD Cert.Pw1RefIdeal.τ).loc Cert.Pw1RefIdeal.main_v19) = v1 c
          ∧ r.2.mem ((c.tc : Thread Cert.Pw1RefIdeal.nD Cert.Pw1RefIdeal.τ).loc Cert.Pw1RefIdeal.main_arg0) = m' ((c.tc : Thread Cert.Pw1RefIdeal.nD Cert.Pw1RefIdeal.τ).loc Cert.Pw1RefIdeal.main_arg0)
          ∧ r.2.mem ((c.tc : Thread Cert.Pw1RefIdeal.nD Cert.Pw1RefIdeal.τ).loc Cert.Pw1RefIdeal.main_arg1) = m' ((c.tc : Thread Cert.Pw1RefIdeal.nD Cert.Pw1RefIdeal.τ).loc Cert.Pw1RefIdeal.main_arg1)
          ∧ r.2.mem ((c.tc : Thread Cert.Pw1RefIdeal.nD Cert.Pw1RefIdeal.τ).loc Cert.Pw1RefIdeal.main_arg2) = m' ((c.tc : Thread Cert.Pw1RefIdeal.nD Cert.Pw1RefIdeal.τ).loc Cert.Pw1RefIdeal.main_arg2)
          ∧ r.2.mem ((c.tc : Thread Cert.Pw1RefIdeal.nD Cert.Pw1RefIdeal.τ).loc Cert.Pw1RefIdeal.main_arg3) = m' ((c.tc : Thread Cert.Pw1RefIdeal.nD Cert.Pw1RefIdeal.τ).loc Cert.Pw1RefIdeal.main_arg3))

def preserves_Res_ResIdeal : Prop :=
  True

def algebraic_ResIdeal_ResRefIdeal [hResIdeal : Cert.ResIdeal.Facts] [hResRefIdeal : Cert.ResRefIdeal.Facts] : Prop :=
  ∀ (m : (ℓ : Loc Cert.ResIdeal.nD Cert.ResIdeal.τ Cert.ResIdeal.sig) → Buf (Elt Ideal) ℓ) (g : Dev Cert.ResIdeal.nD → PrngReg)
    (m' : (ℓ : Loc Cert.ResRefIdeal.nD Cert.ResRefIdeal.τ Cert.ResRefIdeal.sig) → Buf (Elt Ideal) ℓ) (g' : Dev Cert.ResRefIdeal.nD → PrngReg), Pre_ResIdeal m →
    (∀ c : Dev Cert.ResIdeal.nD,
      m' ((c.tc : Thread Cert.ResRefIdeal.nD Cert.ResRefIdeal.τ).loc Cert.ResRefIdeal.main_arg0) = m ((c.tc : Thread Cert.ResIdeal.nD Cert.ResIdeal.τ).loc Cert.ResIdeal.main_arg0)
      ∧ m' ((c.tc : Thread Cert.ResRefIdeal.nD Cert.ResRefIdeal.τ).loc Cert.ResRefIdeal.main_arg1) = m ((c.tc : Thread Cert.ResIdeal.nD Cert.ResIdeal.τ).loc Cert.ResIdeal.main_arg1)
      ∧ m' ((c.tc : Thread Cert.ResRefIdeal.nD Cert.ResRefIdeal.τ).loc Cert.ResRefIdeal.main_arg2) = m ((c.tc : Thread Cert.ResIdeal.nD Cert.ResIdeal.τ).loc Cert.ResIdeal.main_arg2)
      ∧ m' ((c.tc : Thread Cert.ResRefIdeal.nD Cert.ResRefIdeal.τ).loc Cert.ResRefIdeal.main_arg3) = m ((c.tc : Thread Cert.ResIdeal.nD Cert.ResIdeal.τ).loc Cert.ResIdeal.main_arg3)
      ∧ m' ((c.tc : Thread Cert.ResRefIdeal.nD Cert.ResRefIdeal.τ).loc Cert.ResRefIdeal.main_arg4) = m ((c.tc : Thread Cert.ResIdeal.nD Cert.ResIdeal.τ).loc Cert.ResIdeal.main_arg4)) →
    ∃ (v0 : (c : Dev Cert.ResIdeal.nD) → Buf (Elt Ideal) ((c.tc : Thread Cert.ResIdeal.nD Cert.ResIdeal.τ).loc Cert.ResIdeal.main_v4_0)) (v1 : (c : Dev Cert.ResIdeal.nD) → Buf (Elt Ideal) ((c.tc : Thread Cert.ResIdeal.nD Cert.ResIdeal.τ).loc Cert.ResIdeal.main_v4_1)),
      θ_run (Cert.ResIdeal.defs (F := Ideal)) (onTc (τ := Cert.ResIdeal.τ) (Cert.ResIdeal.main (F := Ideal))) ⟨m, fun _ => 0, g⟩ (fun r => ∀ c : Dev Cert.ResIdeal.nD,
          r.2.mem ((c.tc : Thread Cert.ResIdeal.nD Cert.ResIdeal.τ).loc Cert.ResIdeal.main_v4_0) = v0 c
          ∧ r.2.mem ((c.tc : Thread Cert.ResIdeal.nD Cert.ResIdeal.τ).loc Cert.ResIdeal.main_v4_1) = v1 c
          ∧ r.2.mem ((c.tc : Thread Cert.ResIdeal.nD Cert.ResIdeal.τ).loc Cert.ResIdeal.main_arg0) = m ((c.tc : Thread Cert.ResIdeal.nD Cert.ResIdeal.τ).loc Cert.ResIdeal.main_arg0)
          ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
          ∧ r.2.mem ((c.tc : Thread Cert.ResIdeal.nD Cert.ResIdeal.τ).loc Cert.ResIdeal.main_arg2) = m ((c.tc : Thread Cert.ResIdeal.nD Cert.ResIdeal.τ).loc Cert.ResIdeal.main_arg2)
          ∧ r.2.mem ((c.tc : Thread Cert.ResIdeal.nD Cert.ResIdeal.τ).loc Cert.ResIdeal.main_arg3) = m ((c.tc : Thread Cert.ResIdeal.nD Cert.ResIdeal.τ).loc Cert.ResIdeal.main_arg3)
          ∧ r.2.mem ((c.tc : Thread Cert.ResIdeal.nD Cert.ResIdeal.τ).loc Cert.ResIdeal.main_arg4) = m ((c.tc : Thread Cert.ResIdeal.nD Cert.ResIdeal.τ).loc Cert.ResIdeal.main_arg4))
      ∧ θ_run (Cert.ResRefIdeal.defs (F := Ideal)) (onTc (τ := Cert.ResRefIdeal.τ) (Cert.ResRefIdeal.main (F := Ideal))) ⟨m', fun _ => 0, g'⟩ (fun r => ∀ c : Dev Cert.ResRefIdeal.nD,
          r.2.mem ((c.tc : Thread Cert.ResRefIdeal.nD Cert.ResRefIdeal.τ).loc Cert.ResRefIdeal.main_v4) = v0 c
          ∧ r.2.mem ((c.tc : Thread Cert.ResRefIdeal.nD Cert.ResRefIdeal.τ).loc Cert.ResRefIdeal.main_v20) = v1 c
          ∧ r.2.mem ((c.tc : Thread Cert.ResRefIdeal.nD Cert.ResRefIdeal.τ).loc Cert.ResRefIdeal.main_arg0) = m' ((c.tc : Thread Cert.ResRefIdeal.nD Cert.ResRefIdeal.τ).loc Cert.ResRefIdeal.main_arg0)
          ∧ r.2.mem ((c.tc : Thread Cert.ResRefIdeal.nD Cert.ResRefIdeal.τ).loc Cert.ResRefIdeal.main_arg1) = m' ((c.tc : Thread Cert.ResRefIdeal.nD Cert.ResRefIdeal.τ).loc Cert.ResRefIdeal.main_arg1)
          ∧ r.2.mem ((c.tc : Thread Cert.ResRefIdeal.nD Cert.ResRefIdeal.τ).loc Cert.ResRefIdeal.main_arg2) = m' ((c.tc : Thread Cert.ResRefIdeal.nD Cert.ResRefIdeal.τ).loc Cert.ResRefIdeal.main_arg2)
          ∧ r.2.mem ((c.tc : Thread Cert.ResRefIdeal.nD Cert.ResRefIdeal.τ).loc Cert.ResRefIdeal.main_arg3) = m' ((c.tc : Thread Cert.ResRefIdeal.nD Cert.ResRefIdeal.τ).loc Cert.ResRefIdeal.main_arg3)
          ∧ r.2.mem ((c.tc : Thread Cert.ResRefIdeal.nD Cert.ResRefIdeal.τ).loc Cert.ResRefIdeal.main_arg4) = m' ((c.tc : Thread Cert.ResRefIdeal.nD Cert.ResRefIdeal.τ).loc Cert.ResRefIdeal.main_arg4))

def preserves_Dn_DnIdeal : Prop :=
  True

def algebraic_DnIdeal_DnRefIdeal [hDnIdeal : Cert.DnIdeal.Facts] [hDnRefIdeal : Cert.DnRefIdeal.Facts] : Prop :=
  ∀ (m : (ℓ : Loc Cert.DnIdeal.nD Cert.DnIdeal.τ Cert.DnIdeal.sig) → Buf (Elt Ideal) ℓ) (g : Dev Cert.DnIdeal.nD → PrngReg)
    (m' : (ℓ : Loc Cert.DnRefIdeal.nD Cert.DnRefIdeal.τ Cert.DnRefIdeal.sig) → Buf (Elt Ideal) ℓ) (g' : Dev Cert.DnRefIdeal.nD → PrngReg), Pre_DnIdeal m →
    (∀ c : Dev Cert.DnIdeal.nD,
      m' ((c.tc : Thread Cert.DnRefIdeal.nD Cert.DnRefIdeal.τ).loc Cert.DnRefIdeal.main_arg0) = m ((c.tc : Thread Cert.DnIdeal.nD Cert.DnIdeal.τ).loc Cert.DnIdeal.main_arg0)
      ∧ m' ((c.tc : Thread Cert.DnRefIdeal.nD Cert.DnRefIdeal.τ).loc Cert.DnRefIdeal.main_arg1) = m ((c.tc : Thread Cert.DnIdeal.nD Cert.DnIdeal.τ).loc Cert.DnIdeal.main_arg1)
      ∧ m' ((c.tc : Thread Cert.DnRefIdeal.nD Cert.DnRefIdeal.τ).loc Cert.DnRefIdeal.main_arg2) = m ((c.tc : Thread Cert.DnIdeal.nD Cert.DnIdeal.τ).loc Cert.DnIdeal.main_arg2)) →
    ∃ (v0 : (c : Dev Cert.DnIdeal.nD) → Buf (Elt Ideal) ((c.tc : Thread Cert.DnIdeal.nD Cert.DnIdeal.τ).loc Cert.DnIdeal.main_v6)),
      θ_run (Cert.DnIdeal.defs (F := Ideal)) (onTc (τ := Cert.DnIdeal.τ) (Cert.DnIdeal.main (F := Ideal))) ⟨m, fun _ => 0, g⟩ (fun r => ∀ c : Dev Cert.DnIdeal.nD,
          r.2.mem ((c.tc : Thread Cert.DnIdeal.nD Cert.DnIdeal.τ).loc Cert.DnIdeal.main_v6) = v0 c
          ∧ r.2.mem ((c.tc : Thread Cert.DnIdeal.nD Cert.DnIdeal.τ).loc Cert.DnIdeal.main_arg0) = m ((c.tc : Thread Cert.DnIdeal.nD Cert.DnIdeal.τ).loc Cert.DnIdeal.main_arg0)
          ∧ r.2.mem ((c.tc : Thread Cert.DnIdeal.nD Cert.DnIdeal.τ).loc Cert.DnIdeal.main_arg1) = m ((c.tc : Thread Cert.DnIdeal.nD Cert.DnIdeal.τ).loc Cert.DnIdeal.main_arg1)
          ∧ r.2.mem ((c.tc : Thread Cert.DnIdeal.nD Cert.DnIdeal.τ).loc Cert.DnIdeal.main_arg2) = m ((c.tc : Thread Cert.DnIdeal.nD Cert.DnIdeal.τ).loc Cert.DnIdeal.main_arg2))
      ∧ θ_run (Cert.DnRefIdeal.defs (F := Ideal)) (onTc (τ := Cert.DnRefIdeal.τ) (Cert.DnRefIdeal.main (F := Ideal))) ⟨m', fun _ => 0, g'⟩ (fun r => ∀ c : Dev Cert.DnRefIdeal.nD,
          r.2.mem ((c.tc : Thread Cert.DnRefIdeal.nD Cert.DnRefIdeal.τ).loc Cert.DnRefIdeal.main_v3) = v0 c
          ∧ r.2.mem ((c.tc : Thread Cert.DnRefIdeal.nD Cert.DnRefIdeal.τ).loc Cert.DnRefIdeal.main_arg0) = m' ((c.tc : Thread Cert.DnRefIdeal.nD Cert.DnRefIdeal.τ).loc Cert.DnRefIdeal.main_arg0)
          ∧ r.2.mem ((c.tc : Thread Cert.DnRefIdeal.nD Cert.DnRefIdeal.τ).loc Cert.DnRefIdeal.main_arg1) = m' ((c.tc : Thread Cert.DnRefIdeal.nD Cert.DnRefIdeal.τ).loc Cert.DnRefIdeal.main_arg1)
          ∧ r.2.mem ((c.tc : Thread Cert.DnRefIdeal.nD Cert.DnRefIdeal.τ).loc Cert.DnRefIdeal.main_arg2) = m' ((c.tc : Thread Cert.DnRefIdeal.nD Cert.DnRefIdeal.τ).loc Cert.DnRefIdeal.main_arg2))

def preserves_Nt_NtIdeal : Prop :=
  True

def algebraic_NtIdeal_NtRefIdeal [hNtIdeal : Cert.NtIdeal.Facts] [hNtRefIdeal : Cert.NtRefIdeal.Facts] : Prop :=
  ∀ (m : (ℓ : Loc Cert.NtIdeal.nD Cert.NtIdeal.τ Cert.NtIdeal.sig) → Buf (Elt Ideal) ℓ) (g : Dev Cert.NtIdeal.nD → PrngReg)
    (m' : (ℓ : Loc Cert.NtRefIdeal.nD Cert.NtRefIdeal.τ Cert.NtRefIdeal.sig) → Buf (Elt Ideal) ℓ) (g' : Dev Cert.NtRefIdeal.nD → PrngReg), Pre_NtIdeal m →
    (∀ c : Dev Cert.NtIdeal.nD,
      m' ((c.tc : Thread Cert.NtRefIdeal.nD Cert.NtRefIdeal.τ).loc Cert.NtRefIdeal.main_arg0) = m ((c.tc : Thread Cert.NtIdeal.nD Cert.NtIdeal.τ).loc Cert.NtIdeal.main_arg0)
      ∧ m' ((c.tc : Thread Cert.NtRefIdeal.nD Cert.NtRefIdeal.τ).loc Cert.NtRefIdeal.main_arg1) = m ((c.tc : Thread Cert.NtIdeal.nD Cert.NtIdeal.τ).loc Cert.NtIdeal.main_arg1)) →
    ∃ (v0 : (c : Dev Cert.NtIdeal.nD) → Buf (Elt Ideal) ((c.tc : Thread Cert.NtIdeal.nD Cert.NtIdeal.τ).loc Cert.NtIdeal.main_v2)),
      θ_run (Cert.NtIdeal.defs (F := Ideal)) (onTc (τ := Cert.NtIdeal.τ) (Cert.NtIdeal.main (F := Ideal))) ⟨m, fun _ => 0, g⟩ (fun r => ∀ c : Dev Cert.NtIdeal.nD,
          r.2.mem ((c.tc : Thread Cert.NtIdeal.nD Cert.NtIdeal.τ).loc Cert.NtIdeal.main_v2) = v0 c
          ∧ r.2.mem ((c.tc : Thread Cert.NtIdeal.nD Cert.NtIdeal.τ).loc Cert.NtIdeal.main_arg0) = m ((c.tc : Thread Cert.NtIdeal.nD Cert.NtIdeal.τ).loc Cert.NtIdeal.main_arg0)
          ∧ r.2.mem ((c.tc : Thread Cert.NtIdeal.nD Cert.NtIdeal.τ).loc Cert.NtIdeal.main_arg1) = m ((c.tc : Thread Cert.NtIdeal.nD Cert.NtIdeal.τ).loc Cert.NtIdeal.main_arg1))
      ∧ θ_run (Cert.NtRefIdeal.defs (F := Ideal)) (onTc (τ := Cert.NtRefIdeal.τ) (Cert.NtRefIdeal.main (F := Ideal))) ⟨m', fun _ => 0, g'⟩ (fun r => ∀ c : Dev Cert.NtRefIdeal.nD,
          r.2.mem ((c.tc : Thread Cert.NtRefIdeal.nD Cert.NtRefIdeal.τ).loc Cert.NtRefIdeal.main_v4) = v0 c
          ∧ r.2.mem ((c.tc : Thread Cert.NtRefIdeal.nD Cert.NtRefIdeal.τ).loc Cert.NtRefIdeal.main_arg0) = m' ((c.tc : Thread Cert.NtRefIdeal.nD Cert.NtRefIdeal.τ).loc Cert.NtRefIdeal.main_arg0)
          ∧ r.2.mem ((c.tc : Thread Cert.NtRefIdeal.nD Cert.NtRefIdeal.τ).loc Cert.NtRefIdeal.main_arg1) = m' ((c.tc : Thread Cert.NtRefIdeal.nD Cert.NtRefIdeal.τ).loc Cert.NtRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_arg1) = v0 c
          ∧ r.2.mem ((c.tc : Thread Cert.AdamRefIdeal.nD Cert.AdamRefIdeal.τ).loc Cert.AdamRefIdeal.main_v23) = v1 c
          ∧ r.2.mem ((c.tc : Thread Cert.AdamRefIdeal.nD Cert.AdamRefIdeal.τ).loc Cert.AdamRefIdeal.main_v4) = v2 c
          ∧ r.2.mem ((c.tc : Thread Cert.AdamRefIdeal.nD Cert.AdamRefIdeal.τ).loc Cert.AdamRefIdeal.main_v10) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)) →
    ∃ (v0 : (c : Dev Cert.QkvIdeal.nD) → Buf (Elt Ideal) ((c.tc : Thread Cert.QkvIdeal.nD Cert.QkvIdeal.τ).loc Cert.QkvIdeal.main_v34_0)) (v1 : (c : Dev Cert.QkvIdeal.nD) → Buf (Elt Ideal) ((c.tc : Thread Cert.QkvIdeal.nD Cert.QkvIdeal.τ).loc Cert.QkvIdeal.main_v34_1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v34_0) = v0 c
          ∧ r.2.mem ((c.tc : Thread Cert.QkvIdeal.nD Cert.QkvIdeal.τ).loc Cert.QkvIdeal.main_v34_1) = v1 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v73) = v0 c
          ∧ r.2.mem ((c.tc : Thread Cert.QkvRefIdeal.nD Cert.QkvRefIdeal.τ).loc Cert.QkvRefIdeal.main_v74) = v1 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3))

def preserves_Tn_TnIdeal : Prop :=
  True

def algebraic_TnIdeal_TnRefIdeal [hTnIdeal : Cert.TnIdeal.Facts] [hTnRefIdeal : Cert.TnRefIdeal.Facts] : Prop :=
  ∀ (m : (ℓ : Loc Cert.TnIdeal.nD Cert.TnIdeal.τ Cert.TnIdeal.sig) → Buf (Elt Ideal) ℓ) (g : Dev Cert.TnIdeal.nD → PrngReg)
    (m' : (ℓ : Loc Cert.TnRefIdeal.nD Cert.TnRefIdeal.τ Cert.TnRefIdeal.sig) → Buf (Elt Ideal) ℓ) (g' : Dev Cert.TnRefIdeal.nD → PrngReg), Pre_TnIdeal m →
    (∀ c : Dev Cert.TnIdeal.nD,
      m' ((c.tc : Thread Cert.TnRefIdeal.nD Cert.TnRefIdeal.τ).loc Cert.TnRefIdeal.main_arg0) = m ((c.tc : Thread Cert.TnIdeal.nD Cert.TnIdeal.τ).loc Cert.TnIdeal.main_arg0)
      ∧ m' ((c.tc : Thread Cert.TnRefIdeal.nD Cert.TnRefIdeal.τ).loc Cert.TnRefIdeal.main_arg1) = m ((c.tc : Thread Cert.TnIdeal.nD Cert.TnIdeal.τ).loc Cert.TnIdeal.main_arg1)) →
    ∃ (v0 : (c : Dev Cert.TnIdeal.nD) → Buf (Elt Ideal) ((c.tc : Thread Cert.TnIdeal.nD Cert.TnIdeal.τ).loc Cert.TnIdeal.main_v4)),
      θ_run (Cert.TnIdeal.defs (F := Ideal)) (onTc (τ := Cert.TnIdeal.τ) (Cert.TnIdeal.main (F := Ideal))) ⟨m, fun _ => 0, g⟩ (fun r => ∀ c : Dev Cert.TnIdeal.nD,
          r.2.mem ((c.tc : Thread Cert.TnIdeal.nD Cert.TnIdeal.τ).loc Cert.TnIdeal.main_v4) = v0 c
          ∧ r.2.mem ((c.tc : Thread Cert.TnIdeal.nD Cert.TnIdeal.τ).loc Cert.TnIdeal.main_arg0) = m ((c.tc : Thread Cert.TnIdeal.nD Cert.TnIdeal.τ).loc Cert.TnIdeal.main_arg0)
          ∧ r.2.mem ((c.tc : Thread Cert.TnIdeal.nD Cert.TnIdeal.τ).loc Cert.TnIdeal.main_arg1) = m ((c.tc : Thread Cert.TnIdeal.nD Cert.TnIdeal.τ).loc Cert.TnIdeal.main_arg1))
      ∧ θ_run (Cert.TnRefIdeal.defs (F := Ideal)) (onTc (τ := Cert.TnRefIdeal.τ) (Cert.TnRefIdeal.main (F := Ideal))) ⟨m', fun _ => 0, g'⟩ (fun r => ∀ c : Dev Cert.TnRefIdeal.nD,
          r.2.mem ((c.tc : Thread Cert.TnRefIdeal.nD Cert.TnRefIdeal.τ).loc Cert.TnRefIdeal.main_v5) = v0 c
          ∧ r.2.mem ((c.tc : Thread Cert.TnRefIdeal.nD Cert.TnRefIdeal.τ).loc Cert.TnRefIdeal.main_arg0) = m' ((c.tc : Thread Cert.TnRefIdeal.nD Cert.TnRefIdeal.τ).loc Cert.TnRefIdeal.main_arg0)
          ∧ r.2.mem ((c.tc : Thread Cert.TnRefIdeal.nD Cert.TnRefIdeal.τ).loc Cert.TnRefIdeal.main_arg1) = m' ((c.tc : Thread Cert.TnRefIdeal.nD Cert.TnRefIdeal.τ).loc Cert.TnRefIdeal.main_arg1))

def preserves_Half_HalfIdeal : Prop :=
  True

def algebraic_HalfIdeal_HalfRefIdeal [hHalfIdeal : Cert.HalfIdeal.Facts] [hHalfRefIdeal : Cert.HalfRefIdeal.Facts] : Prop :=
  ∀ (m : (ℓ : Loc Cert.HalfIdeal.nD Cert.HalfIdeal.τ Cert.HalfIdeal.sig) → Buf (Elt Ideal) ℓ) (g : Dev Cert.HalfIdeal.nD → PrngReg)
    (m' : (ℓ : Loc Cert.HalfRefIdeal.nD Cert.HalfRefIdeal.τ Cert.HalfRefIdeal.sig) → Buf (Elt Ideal) ℓ) (g' : Dev Cert.HalfRefIdeal.nD → PrngReg), Pre_HalfIdeal m →
    (∀ c : Dev Cert.HalfIdeal.nD,
      m' ((c.tc : Thread Cert.HalfRefIdeal.nD Cert.HalfRefIdeal.τ).loc Cert.HalfRefIdeal.main_arg0) = m ((c.tc : Thread Cert.HalfIdeal.nD Cert.HalfIdeal.τ).loc Cert.HalfIdeal.main_arg0)
      ∧ m' ((c.tc : Thread Cert.HalfRefIdeal.nD Cert.HalfRefIdeal.τ).loc Cert.HalfRefIdeal.main_arg1) = m ((c.tc : Thread Cert.HalfIdeal.nD Cert.HalfIdeal.τ).loc Cert.HalfIdeal.main_arg1)) →
    ∃ (v0 : (c : Dev Cert.HalfIdeal.nD) → Buf (Elt Ideal) ((c.tc : Thread Cert.HalfIdeal.nD Cert.HalfIdeal.τ).loc Cert.HalfIdeal.main_v1)),
      θ_run (Cert.HalfIdeal.defs (F := Ideal)) (onTc (τ := Cert.HalfIdeal.τ) (Cert.HalfIdeal.main (F := Ideal))) ⟨m, fun _ => 0, g⟩ (fun r => ∀ c : Dev Cert.HalfIdeal.nD,
          r.2.mem ((c.tc : Thread Cert.HalfIdeal.nD Cert.HalfIdeal.τ).loc Cert.HalfIdeal.main_v1) = v0 c
          ∧ r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
          ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1))
      ∧ θ_run (Cert.HalfRefIdeal.defs (F := Ideal)) (onTc (τ := Cert.HalfRefIdeal.τ) (Cert.HalfRefIdeal.main (F := Ideal))) ⟨m', fun _ => 0, g'⟩ (fun r => ∀ c : Dev Cert.HalfRefIdeal.nD,
          r.2.mem ((c.tc : Thread Cert.HalfRefIdeal.nD Cert.HalfRefIdeal.τ).loc Cert.HalfRefIdeal.main_v2) = v0 c
          ∧ r.2.mem ((c.tc : Thread Cert.HalfRefIdeal.nD Cert.HalfRefIdeal.τ).loc Cert.HalfRefIdeal.main_arg0) = m' ((c.tc : Thread Cert.HalfRefIdeal.nD Cert.HalfRefIdeal.τ).loc Cert.HalfRefIdeal.main_arg0)
          ∧ r.2.mem ((c.tc : Thread Cert.HalfRefIdeal.nD Cert.HalfRefIdeal.τ).loc Cert.HalfRefIdeal.main_arg1) = m' ((c.tc : Thread Cert.HalfRefIdeal.nD Cert.HalfRefIdeal.τ).loc Cert.HalfRefIdeal.main_arg1))

def preserves_Part_PartIdeal : Prop :=
  True

def algebraic_PartIdeal_PartRefIdeal [hPartIdeal : Cert.PartIdeal.Facts] [hPartRefIdeal : Cert.PartRefIdeal.Facts] : Prop :=
  ∀ (m : (ℓ : Loc Cert.PartIdeal.nD Cert.PartIdeal.τ Cert.PartIdeal.sig) → Buf (Elt Ideal) ℓ) (g : Dev Cert.PartIdeal.nD → PrngReg)
    (m' : (ℓ : Loc Cert.PartRefIdeal.nD Cert.PartRefIdeal.τ Cert.PartRefIdeal.sig) → Buf (Elt Ideal) ℓ) (g' : Dev Cert.PartRefIdeal.nD → PrngReg), Pre_PartIdeal m →
    (∀ c : Dev Cert.PartIdeal.nD,
      m' ((c.tc : Thread Cert.PartRefIdeal.nD Cert.PartRefIdeal.τ).loc Cert.PartRefIdeal.main_arg0) = m ((c.tc : Thread Cert.PartIdeal.nD Cert.PartIdeal.τ).loc Cert.PartIdeal.main_arg0)
      ∧ m' ((c.tc : Thread Cert.PartRefIdeal.nD Cert.PartRefIdeal.τ).loc Cert.PartRefIdeal.main_arg1) = m ((c.tc : Thread Cert.PartIdeal.nD Cert.PartIdeal.τ).loc Cert.PartIdeal.main_arg1)
      ∧ m' ((c.tc : Thread Cert.PartRefIdeal.nD Cert.PartRefIdeal.τ).loc Cert.PartRefIdeal.main_arg2) = m ((c.tc : Thread Cert.PartIdeal.nD Cert.PartIdeal.τ).loc Cert.PartIdeal.main_arg2)
      ∧ m' ((c.tc : Thread Cert.PartRefIdeal.nD Cert.PartRefIdeal.τ).loc Cert.PartRefIdeal.main_arg3) = m ((c.tc : Thread Cert.PartIdeal.nD Cert.PartIdeal.τ).loc Cert.PartIdeal.main_arg3)) →
    ∃ (v0 : (c : Dev Cert.PartIdeal.nD) → Buf (Elt Ideal) ((c.tc : Thread Cert.PartIdeal.nD Cert.PartIdeal.τ).loc Cert.PartIdeal.main_v1)),
      θ_run (Cert.PartIdeal.defs (F := Ideal)) (onTc (τ := Cert.PartIdeal.τ) (Cert.PartIdeal.main (F := Ideal))) ⟨m, fun _ => 0, g⟩ (fun r => ∀ c : Dev Cert.PartIdeal.nD,
          r.2.mem ((c.tc : Thread Cert.PartIdeal.nD Cert.PartIdeal.τ).loc Cert.PartIdeal.main_v1) = v0 c
          ∧ r.2.mem ((c.tc : Thread Cert.PartIdeal.nD Cert.PartIdeal.τ).loc Cert.PartIdeal.main_arg0) = m ((c.tc : Thread Cert.PartIdeal.nD Cert.PartIdeal.τ).loc Cert.PartIdeal.main_arg0)
          ∧ r.2.mem ((c.tc : Thread Cert.PartIdeal.nD Cert.PartIdeal.τ).loc Cert.PartIdeal.main_arg1) = m ((c.tc : Thread Cert.PartIdeal.nD Cert.PartIdeal.τ).loc Cert.PartIdeal.main_arg1)
          ∧ r.2.mem ((c.tc : Thread Cert.PartIdeal.nD Cert.PartIdeal.τ).loc Cert.PartIdeal.main_arg2) = m ((c.tc : Thread Cert.PartIdeal.nD Cert.PartIdeal.τ).loc Cert.PartIdeal.main_arg2)
          ∧ r.2.mem ((c.tc : Thread Cert.PartIdeal.nD Cert.PartIdeal.τ).loc Cert.PartIdeal.main_arg3) = m ((c.tc : Thread Cert.PartIdeal.nD Cert.PartIdeal.τ).loc Cert.PartIdeal.main_arg3))
      ∧ θ_run (Cert.PartRefIdeal.defs (F := Ideal)) (onTc (τ := Cert.PartRefIdeal.τ) (Cert.PartRefIdeal.main (F := Ideal))) ⟨m', fun _ => 0, g'⟩ (fun r => ∀ c : Dev Cert.PartRefIdeal.nD,
          r.2.mem ((c.tc : Thread Cert.PartRefIdeal.nD Cert.PartRefIdeal.τ).loc Cert.PartRefIdeal.main_v15) = v0 c
          ∧ r.2.mem ((c.tc : Thread Cert.PartRefIdeal.nD Cert.PartRefIdeal.τ).loc Cert.PartRefIdeal.main_arg0) = m' ((c.tc : Thread Cert.PartRefIdeal.nD Cert.PartRefIdeal.τ).loc Cert.PartRefIdeal.main_arg0)
          ∧ r.2.mem ((c.tc : Thread Cert.PartRefIdeal.nD Cert.PartRefIdeal.τ).loc Cert.PartRefIdeal.main_arg1) = m' ((c.tc : Thread Cert.PartRefIdeal.nD Cert.PartRefIdeal.τ).loc Cert.PartRefIdeal.main_arg1)
          ∧ r.2.mem ((c.tc : Thread Cert.PartRefIdeal.nD Cert.PartRefIdeal.τ).loc Cert.PartRefIdeal.main_arg2) = m' ((c.tc : Thread Cert.PartRefIdeal.nD Cert.PartRefIdeal.τ).loc Cert.PartRefIdeal.main_arg2)
          ∧ r.2.mem ((c.tc : Thread Cert.PartRefIdeal.nD Cert.PartRefIdeal.τ).loc Cert.PartRefIdeal.main_arg3) = m' ((c.tc : Thread Cert.PartRefIdeal.nD Cert.PartRefIdeal.τ).loc Cert.PartRefIdeal.main_arg3))

def preserves_Cast_CastIdeal : Prop :=
  True

def algebraic_CastIdeal_CastRefIdeal [hCastIdeal : Cert.CastIdeal.Facts] [hCastRefIdeal : Cert.CastRefIdeal.Facts] : Prop :=
  ∀ (m : (ℓ : Loc Cert.CastIdeal.nD Cert.CastIdeal.τ Cert.CastIdeal.sig) → Buf (Elt Ideal) ℓ) (g : Dev Cert.CastIdeal.nD → PrngReg)
    (m' : (ℓ : Loc Cert.CastRefIdeal.nD Cert.CastRefIdeal.τ Cert.CastRefIdeal.sig) → Buf (Elt Ideal) ℓ) (g' : Dev Cert.CastRefIdeal.nD → PrngReg), Pre_CastIdeal m →
    (∀ c : Dev Cert.CastIdeal.nD,
      m' ((c.tc : Thread Cert.CastRefIdeal.nD Cert.CastRefIdeal.τ).loc Cert.CastRefIdeal.main_arg0) = m ((c.tc : Thread Cert.CastIdeal.nD Cert.CastIdeal.τ).loc Cert.CastIdeal.main_arg0)
      ∧ m' ((c.tc : Thread Cert.CastRefIdeal.nD Cert.CastRefIdeal.τ).loc Cert.CastRefIdeal.main_arg1) = m ((c.tc : Thread Cert.CastIdeal.nD Cert.CastIdeal.τ).loc Cert.CastIdeal.main_arg1)) →
    ∃ (v0 : (c : Dev Cert.CastIdeal.nD) → Buf (Elt Ideal) ((c.tc : Thread Cert.CastIdeal.nD Cert.CastIdeal.τ).loc Cert.CastIdeal.main_v2)),
      θ_run (Cert.CastIdeal.defs (F := Ideal)) (onTc (τ := Cert.CastIdeal.τ) (Cert.CastIdeal.main (F := Ideal))) ⟨m, fun _ => 0, g⟩ (fun r => ∀ c : Dev Cert.CastIdeal.nD,
          r.2.mem ((c.tc : Thread Cert.CastIdeal.nD Cert.CastIdeal.τ).loc Cert.CastIdeal.main_v2) = v0 c
          ∧ r.2.mem ((c.tc : Thread Cert.CastIdeal.nD Cert.CastIdeal.τ).loc Cert.CastIdeal.main_arg0) = m ((c.tc : Thread Cert.CastIdeal.nD Cert.CastIdeal.τ).loc Cert.CastIdeal.main_arg0)
          ∧ r.2.mem ((c.tc : Thread Cert.CastIdeal.nD Cert.CastIdeal.τ).loc Cert.CastIdeal.main_arg1) = m ((c.tc : Thread Cert.CastIdeal.nD Cert.CastIdeal.τ).loc Cert.CastIdeal.main_arg1))
      ∧ θ_run (Cert.CastRefIdeal.defs (F := Ideal)) (onTc (τ := Cert.CastRefIdeal.τ) (Cert.CastRefIdeal.main (F := Ideal))) ⟨m', fun _ => 0, g'⟩ (fun r => ∀ c : Dev Cert.CastRefIdeal.nD,
          r.2.mem ((c.tc : Thread Cert.CastRefIdeal.nD Cert.CastRefIdeal.τ).loc Cert.CastRefIdeal.main_v3) = v0 c
          ∧ r.2.mem ((c.tc : Thread Cert.CastRefIdeal.nD Cert.CastRefIdeal.τ).loc Cert.CastRefIdeal.main_arg0) = m' ((c.tc : Thread Cert.CastRefIdeal.nD Cert.CastRefIdeal.τ).loc Cert.CastRefIdeal.main_arg0)
          ∧ r.2.mem ((c.tc : Thread Cert.CastRefIdeal.nD Cert.CastRefIdeal.τ).loc Cert.CastRefIdeal.main_arg1) = m' ((c.tc : Thread Cert.CastRefIdeal.nD Cert.CastRefIdeal.τ).loc Cert.CastRefIdeal.main_arg1))

def Claim : Prop :=
  ∃ (hFfnIn : Cert.FfnIn.Facts) (hFfnInIdeal : Cert.FfnInIdeal.Facts) (hFfnInRefIdeal : Cert.FfnInRefIdeal.Facts) (hConvIn : Cert.ConvIn.Facts) (hConvInIdeal : Cert.ConvInIdeal.Facts) (hConvInRefIdeal : Cert.ConvInRefIdeal.Facts) (hAttnIn : Cert.AttnIn.Facts) (hAttnInIdeal : Cert.AttnInIdeal.Facts) (hAttnInRefIdeal : Cert.AttnInRefIdeal.Facts) (hDown : Cert.Down.Facts) (hDownIdeal : Cert.DownIdeal.Facts) (hDownRefIdeal : Cert.DownRefIdeal.Facts) (hLoss : Cert.Loss.Facts) (hLossIdeal : Cert.LossIdeal.Facts) (hLossRefIdeal : Cert.LossRefIdeal.Facts) (hFwd : Cert.Fwd.Facts) (hFwdIdeal : Cert.FwdIdeal.Facts) (hFwdRefIdeal : Cert.FwdRefIdeal.Facts) (hUp : Cert.Up.Facts) (hUpIdeal : Cert.UpIdeal.Facts) (hUpRefIdeal : Cert.UpRefIdeal.Facts) (hPw1 : Cert.Pw1.Facts) (hPw1Ideal : Cert.Pw1Ideal.Facts) (hPw1RefIdeal : Cert.Pw1RefIdeal.Facts) (hRes : Cert.Res.Facts) (hResIdeal : Cert.ResIdeal.Facts) (hResRefIdeal : Cert.ResRefIdeal.Facts) (hDn : Cert.Dn.Facts) (hDnIdeal : Cert.DnIdeal.Facts) (hDnRefIdeal : Cert.DnRefIdeal.Facts) (hNt : Cert.Nt.Facts) (hNtIdeal : Cert.NtIdeal.Facts) (hNtRefIdeal : Cert.NtRefIdeal.Facts) (hAdam : Cert.Adam.Facts) (hAdamIdeal : Cert.AdamIdeal.Facts) (hAdamRefIdeal : Cert.AdamRefIdeal.Facts) (hQkv : Cert.Qkv.Facts) (hQkvIdeal : Cert.QkvIdeal.Facts) (hQkvRefIdeal : Cert.QkvRefIdeal.Facts) (hTn : Cert.Tn.Facts) (hTnIdeal : Cert.TnIdeal.Facts) (hTnRefIdeal : Cert.TnRefIdeal.Facts) (hHalf : Cert.Half.Facts) (hHalfIdeal : Cert.HalfIdeal.Facts) (hHalfRefIdeal : Cert.HalfRefIdeal.Facts) (hPart : Cert.Part.Facts) (hPartIdeal : Cert.PartIdeal.Facts) (hPartRefIdeal : Cert.PartRefIdeal.Facts) (hCast : Cert.Cast.Facts) (hCastIdeal : Cert.CastIdeal.Facts) (hCastRefIdeal : Cert.CastRefIdeal.Facts) (hPre_finite_ffn_in : Cert.Pre_finite_ffn_in.Facts) (hPre_finite_conv_in : Cert.Pre_finite_conv_in.Facts) (hPre_finite_attn_in : Cert.Pre_finite_attn_in.Facts) (hPre_finite_down : Cert.Pre_finite_down.Facts) (hPre_finite_loss : Cert.Pre_finite_loss.Facts) (hPre_finite_fwd : Cert.Pre_finite_fwd.Facts) (hPre_finite_up : Cert.Pre_finite_up.Facts),
    quiescent_FfnIn (hFfnIn := hFfnIn)
    ∧ quiescent_FfnInIdeal (hFfnInIdeal := hFfnInIdeal)
    ∧ quiescent_FfnInIdeal_pre_finite_ffn_in (hFfnInIdeal := hFfnInIdeal) (hPre_finite_ffn_in := hPre_finite_ffn_in)
    ∧ quiescent_FfnInRefIdeal (hFfnInRefIdeal := hFfnInRefIdeal)
    ∧ quiescent_FfnInRefIdeal_pre_finite_ffn_in (hFfnInRefIdeal := hFfnInRefIdeal) (hPre_finite_ffn_in := hPre_finite_ffn_in)
    ∧ quiescent_ConvIn (hConvIn := hConvIn)
    ∧ quiescent_ConvInIdeal (hConvInIdeal := hConvInIdeal)
    ∧ quiescent_ConvInIdeal_pre_finite_conv_in (hConvInIdeal := hConvInIdeal) (hPre_finite_conv_in := hPre_finite_conv_in)
    ∧ quiescent_ConvInRefIdeal (hConvInRefIdeal := hConvInRefIdeal)
    ∧ quiescent_ConvInRefIdeal_pre_finite_conv_in (hConvInRefIdeal := hConvInRefIdeal) (hPre_finite_conv_in := hPre_finite_conv_in)
    ∧ quiescent_AttnIn (hAttnIn := hAttnIn)
    ∧ quiescent_AttnInIdeal (hAttnInIdeal := hAttnInIdeal)
    ∧ quiescent_AttnInIdeal_pre_finite_attn_in (hAttnInIdeal := hAttnInIdeal) (hPre_finite_attn_in := hPre_finite_attn_in)
    ∧ quiescent_AttnInRefIdeal (hAttnInRefIdeal := hAttnInRefIdeal)
    ∧ quiescent_AttnInRefIdeal_pre_finite_attn_in (hAttnInRefIdeal := hAttnInRefIdeal) (hPre_finite_attn_in := hPre_finite_attn_in)
    ∧ quiescent_Down (hDown := hDown)
    ∧ quiescent_DownIdeal (hDownIdeal := hDownIdeal)
    ∧ quiescent_DownIdeal_pre_finite_down (hDownIdeal := hDownIdeal) (hPre_finite_down := hPre_finite_down)
    ∧ quiescent_DownRefIdeal (hDownRefIdeal := hDownRefIdeal)
    ∧ quiescent_DownRefIdeal_pre_finite_down (hDownRefIdeal := hDownRefIdeal) (hPre_finite_down := hPre_finite_down)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_Fwd (hFwd := hFwd)
    ∧ quiescent_FwdIdeal (hFwdIdeal := hFwdIdeal)
    ∧ quiescent_FwdIdeal_pre_finite_fwd (hFwdIdeal := hFwdIdeal) (hPre_finite_fwd := hPre_finite_fwd)
    ∧ quiescent_FwdRefIdeal (hFwdRefIdeal := hFwdRefIdeal)
    ∧ quiescent_FwdRefIdeal_pre_finite_fwd (hFwdRefIdeal := hFwdRefIdeal) (hPre_finite_fwd := hPre_finite_fwd)
    ∧ quiescent_Up (hUp := hUp)
    ∧ quiescent_UpIdeal (hUpIdeal := hUpIdeal)
    ∧ quiescent_UpIdeal_pre_finite_up (hUpIdeal := hUpIdeal) (hPre_finite_up := hPre_finite_up)
    ∧ quiescent_UpRefIdeal (hUpRefIdeal := hUpRefIdeal)
    ∧ quiescent_UpRefIdeal_pre_finite_up (hUpRefIdeal := hUpRefIdeal) (hPre_finite_up := hPre_finite_up)
    ∧ quiescent_Pw1 (hPw1 := hPw1)
    ∧ quiescent_Pw1Ideal (hPw1Ideal := hPw1Ideal)
    ∧ quiescent_Pw1RefIdeal (hPw1RefIdeal := hPw1RefIdeal)
    ∧ quiescent_Res (hRes := hRes)
    ∧ quiescent_ResIdeal (hResIdeal := hResIdeal)
    ∧ quiescent_ResRefIdeal (hResRefIdeal := hResRefIdeal)
    ∧ quiescent_Dn (hDn := hDn)
    ∧ quiescent_DnIdeal (hDnIdeal := hDnIdeal)
    ∧ quiescent_DnRefIdeal (hDnRefIdeal := hDnRefIdeal)
    ∧ quiescent_Nt (hNt := hNt)
    ∧ quiescent_NtIdeal (hNtIdeal := hNtIdeal)
    ∧ quiescent_NtRefIdeal (hNtRefIdeal := hNtRefIdeal)
    ∧ quiescent_Adam (hAdam := hAdam)
    ∧ quiescent_AdamIdeal (hAdamIdeal := hAdamIdeal)
    ∧ quiescent_AdamRefIdeal (hAdamRefIdeal := hAdamRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Tn (hTn := hTn)
    ∧ quiescent_TnIdeal (hTnIdeal := hTnIdeal)
    ∧ quiescent_TnRefIdeal (hTnRefIdeal := hTnRefIdeal)
    ∧ quiescent_Half (hHalf := hHalf)
    ∧ quiescent_HalfIdeal (hHalfIdeal := hHalfIdeal)
    ∧ quiescent_HalfRefIdeal (hHalfRefIdeal := hHalfRefIdeal)
    ∧ quiescent_Part (hPart := hPart)
    ∧ quiescent_PartIdeal (hPartIdeal := hPartIdeal)
    ∧ quiescent_PartRefIdeal (hPartRefIdeal := hPartRefIdeal)
    ∧ quiescent_Cast (hCast := hCast)
    ∧ quiescent_CastIdeal (hCastIdeal := hCastIdeal)
    ∧ quiescent_CastRefIdeal (hCastRefIdeal := hCastRefIdeal)
    ∧ preserves_FfnIn_FfnInIdeal
    ∧ algebraic_FfnInIdeal_FfnInRefIdeal_pre_finite_ffn_in (hFfnInIdeal := hFfnInIdeal) (hFfnInRefIdeal := hFfnInRefIdeal) (hPre_finite_ffn_in := hPre_finite_ffn_in)
    ∧ preserves_ConvIn_ConvInIdeal
    ∧ algebraic_ConvInIdeal_ConvInRefIdeal_pre_finite_conv_in (hConvInIdeal := hConvInIdeal) (hConvInRefIdeal := hConvInRefIdeal) (hPre_finite_conv_in := hPre_finite_conv_in)
    ∧ preserves_AttnIn_AttnInIdeal
    ∧ algebraic_AttnInIdeal_AttnInRefIdeal_pre_finite_attn_in (hAttnInIdeal := hAttnInIdeal) (hAttnInRefIdeal := hAttnInRefIdeal) (hPre_finite_attn_in := hPre_finite_attn_in)
    ∧ preserves_Down_DownIdeal
    ∧ algebraic_DownIdeal_DownRefIdeal_pre_finite_down (hDownIdeal := hDownIdeal) (hDownRefIdeal := hDownRefIdeal) (hPre_finite_down := hPre_finite_down)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_Fwd_FwdIdeal
    ∧ algebraic_FwdIdeal_FwdRefIdeal_pre_finite_fwd (hFwdIdeal := hFwdIdeal) (hFwdRefIdeal := hFwdRefIdeal) (hPre_finite_fwd := hPre_finite_fwd)
    ∧ preserves_Up_UpIdeal
    ∧ algebraic_UpIdeal_UpRefIdeal_pre_finite_up (hUpIdeal := hUpIdeal) (hUpRefIdeal := hUpRefIdeal) (hPre_finite_up := hPre_finite_up)
    ∧ preserves_Pw1_Pw1Ideal
    ∧ algebraic_Pw1Ideal_Pw1RefIdeal (hPw1Ideal := hPw1Ideal) (hPw1RefIdeal := hPw1RefIdeal)
    ∧ preserves_Res_ResIdeal
    ∧ algebraic_ResIdeal_ResRefIdeal (hResIdeal := hResIdeal) (hResRefIdeal := hResRefIdeal)
    ∧ preserves_Dn_DnIdeal
    ∧ algebraic_DnIdeal_DnRefIdeal (hDnIdeal := hDnIdeal) (hDnRefIdeal := hDnRefIdeal)
    ∧ preserves_Nt_NtIdeal
    ∧ algebraic_NtIdeal_NtRefIdeal (hNtIdeal := hNtIdeal) (hNtRefIdeal := hNtRefIdeal)
    ∧ preserves_Adam_AdamIdeal
    ∧ algebraic_AdamIdeal_AdamRefIdeal (hAdamIdeal := hAdamIdeal) (hAdamRefIdeal := hAdamRefIdeal)
    ∧ preserves_Qkv_QkvIdeal
    ∧ algebraic_QkvIdeal_QkvRefIdeal (hQkvIdeal := hQkvIdeal) (hQkvRefIdeal := hQkvRefIdeal)
    ∧ preserves_Tn_TnIdeal
    ∧ algebraic_TnIdeal_TnRefIdeal (hTnIdeal := hTnIdeal) (hTnRefIdeal := hTnRefIdeal)
    ∧ preserves_Half_HalfIdeal
    ∧ algebraic_HalfIdeal_HalfRefIdeal (hHalfIdeal := hHalfIdeal) (hHalfRefIdeal := hHalfRefIdeal)
    ∧ preserves_Part_PartIdeal
    ∧ algebraic_PartIdeal_PartRefIdeal (hPartIdeal := hPartIdeal) (hPartRefIdeal := hPartRefIdeal)
    ∧ preserves_Cast_CastIdeal
    ∧ algebraic_CastIdeal_CastRefIdeal (hCastIdeal := hCastIdeal) (hCastRefIdeal := hCastRefIdeal)
-- ==== Pre_finite_attn_in.lean ====
abbrev S8192x1024 : Shape := ⟨2, ![8192, 1024]⟩
abbrev S2x1024 : Shape := ⟨2, ![2, 1024]⟩
abbrev S1x1024x1280 : Shape := ⟨3, ![1, 1024, 1280]⟩
abbrev S8192x1280 : Shape := ⟨2, ![8192, 1280]⟩
abbrev S_ : Shape := ⟨0, ![]⟩

class Facts : Prop where
  bcast_S_S8192x1024 : S_.BroadcastsInDim S8192x1024 (![] : Fin 0 → Fin S8192x1024.rank)
  bcast_S_S2x1024 : S_.BroadcastsInDim S2x1024 (![] : Fin 0 → Fin S2x1024.rank)
  bcast_S_S1x1024x1280 : S_.BroadcastsInDim S1x1024x1280 (![] : Fin 0 → Fin S1x1024x1280.rank)
  bcast_S_S8192x1280 : S_.BroadcastsInDim S8192x1280 (![] : Fin 0 → Fin S8192x1280.rank)

variable [Facts]

def fn {F : FTy → Type} [FloatOps F] (main_arg0 : FVec F S8192x1024 .f32) (main_arg1 : FVec F S2x1024 .f32) (main_arg2 : FVec F S1x1024x1280 .f32) (main_arg3 : FVec F S8192x1024 .f32) (main_arg4 : FVec F S8192x1280 .f32) : IVec S8192x1024 1 × IVec S2x1024 1 × IVec S1x1024x1280 1 × IVec S8192x1280 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S1x1024x1280 .f32 := Host.absf main_arg2
  let main_cst_1 : FVec F S_ .f32 := constant S_ .f32 0x7F800000#32
  let main_v7 : FVec F S1x1024x1280 .f32 := broadcastInDim S1x1024x1280 ![] bcast_S_S1x1024x1280 main_cst_1
  let main_v8 : IVec S1x1024x1280 1 := cmpf .olt main_v6 main_v7
  let main_v9 : FVec F S8192x1280 .f32 := Host.absf main_arg4
  let main_cst_2 : FVec F S_ .f32 := constant S_ .f32 0x7F800000#32
  let main_v10 : FVec F S8192x1280 .f32 := broadcastInDim S8192x1280 ![] bcast_S_S8192x1280 main_cst_2
  let main_v11 : IVec S8192x1280 1 := cmpf .olt main_v9 main_v10
  (main_v2, main_v5, main_v8, main_v11)
-- ==== Pre_finite_conv_in.lean ====
abbrev S8192x1024 : Shape := ⟨2, ![8192, 1024]⟩
abbrev S2x1024 : Shape := ⟨2, ![2, 1024]⟩
abbrev S1x1024x2048 : Shape := ⟨3, ![1, 1024, 2048]⟩
abbrev S8192x2048 : Shape := ⟨2, ![8192, 2048]⟩
abbrev S_ : Shape := ⟨0, ![]⟩

class Facts : Prop where
  bcast_S_S8192x1024 : S_.BroadcastsInDim S8192x1024 (![] : Fin 0 → Fin S8192x1024.rank)
  bcast_S_S2x1024 : S_.BroadcastsInDim S2x1024 (![] : Fin 0 → Fin S2x1024.rank)
  bcast_S_S1x1024x2048 : S_.BroadcastsInDim S1x1024x2048 (![] : Fin 0 → Fin S1x1024x2048.rank)
  bcast_S_S8192x2048 : S_.BroadcastsInDim S8192x2048 (![] : Fin 0 → Fin S8192x2048.rank)

variable [Facts]

def fn {F : FTy → Type} [FloatOps F] (main_arg0 : FVec F S8192x1024 .f32) (main_arg1 : FVec F S2x1024 .f32) (main_arg2 : FVec F S1x1024x2048 .f32) (main_arg3 : FVec F S8192x1024 .f32) (main_arg4 : FVec F S8192x2048 .f32) : IVec S8192x1024 1 × IVec S2x1024 1 × IVec S1x1024x2048 1 × IVec S8192x2048 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S1x1024x2048 .f32 := Host.absf main_arg2
  let main_cst_1 : FVec F S_ .f32 := constant S_ .f32 0x7F800000#32
  let main_v7 : FVec F S1x1024x2048 .f32 := broadcastInDim S1x1024x2048 ![] bcast_S_S1x1024x2048 main_cst_1
  let main_v8 : IVec S1x1024x2048 1 := cmpf .olt main_v6 main_v7
  let main_v9 : FVec F S8192x2048 .f32 := Host.absf main_arg4
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  (main_v2, main_v5, main_v8, main_v11)
-- ==== Pre_finite_down.lean ====
abbrev S8192x2816 : Shape := ⟨2, ![8192, 2816]⟩
abbrev S2x2816x1024 : Shape := ⟨3, ![2, 2816, 1024]⟩
abbrev S8192x1024 : Shape := ⟨2, ![8192, 1024]⟩
abbrev S_ : Shape := ⟨0, ![]⟩

class Facts : Prop where
  bcast_S_S8192x2816 : S_.BroadcastsInDim S8192x2816 (![] : Fin 0 → Fin S8192x2816.rank)
  bcast_S_S2x2816x1024 : S_.BroadcastsInDim S2x2816x1024 (![] : Fin 0 → Fin S2x2816x1024.rank)
  bcast_S_S8192x1024 : S_.BroadcastsInDim S8192x1024 (![] : Fin 0 → Fin S8192x1024.rank)

variable [Facts]

def fn {F : FTy → Type} [FloatOps F] (main_arg0 : FVec F S8192x2816 .f32) (main_arg1 : FVec F S8192x2816 .f32) (main_arg2 : FVec F S2x2816x1024 .f32) (main_arg3 : FVec F S8192x1024 .f32) : IVec S8192x2816 1 × IVec S8192x2816 1 × IVec S2x2816x1024 1 × IVec S8192x1024 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_v3 : FVec F S8192x2816 .f32 := Host.absf main_arg1
  let main_cst_0 : FVec F S_ .f32 := constant S_ .f32 0x7F800000#32
  let main_v4 : FVec F S8192x2816 .f32 := broadcastInDim S8192x2816 ![] bcast_S_S8192x2816 main_cst_0
  let main_v5 : IVec S8192x2816 1 := cmpf .olt main_v3 main_v4
  let main_v6 : FVec F S2x2816x1024 .f32 := Host.absf main_arg2
  let main_cst_1 : FVec F S_ .f32 := constant S_ .f32 0x7F800000#32
  let main_v7 : FVec F S2x2816x1024 .f32 := broadcastInDim S2x2816x1024 ![] bcast_S_S2x2816x1024 main_cst_1
  let main_v8 : IVec S2x2816x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_finite_ffn_in.lean ====
abbrev S8192x1024 : Shape := ⟨2, ![8192, 1024]⟩
abbrev S1x1024 : Shape := ⟨2, ![1, 1024]⟩
abbrev S2x1024 : Shape := ⟨2, ![2, 1024]⟩
abbrev S2x1024x2816 : Shape := ⟨3, ![2, 1024, 2816]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S2x1024 : S_.BroadcastsInDim S2x1024 (![] : Fin 0 → Fin S2x1024.rank)
  bcast_S_S2x1024x2816 : S_.BroadcastsInDim S2x1024x2816 (![] : Fin 0 → Fin S2x1024x2816.rank)
  bcast_S_S8192x2816 : S_.BroadcastsInDim S8192x2816 (![] : Fin 0 → Fin S8192x2816.rank)

variable [Facts]

def fn_part1 {F : FTy → Type} [FloatOps F] (main_arg7 : FVec F S8192x2816 .f32) (main_v2 : IVec S8192x1024 1) (main_v5 : IVec S1x1024 1) (main_v8 : IVec S2x1024 1) (main_v11 : IVec S2x1024x2816 1) (main_v14 : IVec S2x1024x2816 1) (main_v17 : IVec S8192x2816 1) : IVec S8192x1024 1 × IVec S1x1024 1 × IVec S2x1024 1 × IVec S2x1024x2816 1 × IVec S2x1024x2816 1 × IVec S8192x2816 1 × IVec S8192x2816 1 :=
  let main_v18 : FVec F S8192x2816 .f32 := Host.absf main_arg7
  let main_cst_5 : FVec F S_ .f32 := constant S_ .f32 0x7F800000#32
  let main_v19 : FVec F S8192x2816 .f32 := broadcastInDim S8192x2816 ![] bcast_S_S8192x2816 main_cst_5
  let main_v20 : IVec S8192x2816 1 := cmpf .olt main_v18 main_v19
  (main_v2, main_v5, main_v8, main_v11, main_v14, main_v17, main_v20)

def fn {F : FTy → Type} [FloatOps F] (main_arg0 : FVec F S8192x1024 .f32) (main_arg1 : FVec F S1x1024 .f32) (main_arg2 : FVec F S2x1024 .f32) (main_arg3 : FVec F S2x1024x2816 .f32) (main_arg4 : FVec F S2x1024x2816 .f32) (main_arg5 : FVec F S8192x1024 .f32) (main_arg6 : FVec F S8192x2816 .f32) (main_arg7 : FVec F S8192x2816 .f32) : IVec S8192x1024 1 × IVec S1x1024 1 × IVec S2x1024 1 × IVec S2x1024x2816 1 × IVec S2x1024x2816 1 × IVec S8192x2816 1 × IVec S8192x2816 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S2x1024 .f32 := Host.absf main_arg2
  let main_cst_1 : FVec F S_ .f32 := constant S_ .f32 0x7F800000#32
  let main_v7 : FVec F S2x1024 .f32 := broadcastInDim S2x1024 ![] bcast_S_S2x1024 main_cst_1
  let main_v8 : IVec S2x1024 1 := cmpf .olt main_v6 main_v7
  let main_v9 : FVec F S2x1024x2816 .f32 := Host.absf main_arg3
  let main_cst_2 : FVec F S_ .f32 := constant S_ .f32 0x7F800000#32
  let main_v10 : FVec F S2x1024x2816 .f32 := broadcastInDim S2x1024x2816 ![] bcast_S_S2x1024x2816 main_cst_2
  let main_v11 : IVec S2x1024x2816 1 := cmpf .olt main_v9 main_v10
  let main_v12 : FVec F S2x1024x2816 .f32 := Host.absf main_arg4
  let main_cst_3 : FVec F S_ .f32 := constant S_ .f32 0x7F800000#32
  let main_v13 : FVec F S2x1024x2816 .f32 := broadcastInDim S2x1024x2816 ![] bcast_S_S2x1024x2816 main_cst_3
  let main_v14 : IVec S2x1024x2816 1 := cmpf .olt main_v12 main_v13
  let main_v15 : FVec F S8192x2816 .f32 := Host.absf main_arg6
  let main_cst_4 : FVec F S_ .f32 := constant S_ .f32 0x7F800000#32
  let main_v16 : FVec F S8192x2816 .f32 := broadcastInDim S8192x2816 ![] bcast_S_S8192x2816 main_cst_4
  let main_v17 : IVec S8192x2816 1 := cmpf .olt main_v15 main_v16
  fn_part1 (F := F) main_arg7 main_v2 main_v5 main_v8 main_v11 main_v14 main_v17
-- ==== Pre_finite_fwd.lean ====
abbrev S8192x16x64 : Shape := ⟨3, ![8192, 16, 64]⟩
abbrev S8192x2x64 : Shape := ⟨3, ![8192, 2, 64]⟩
abbrev S1x16 : Shape := ⟨2, ![1, 16]⟩
abbrev S_ : Shape := ⟨0, ![]⟩

class Facts : Prop where
  bcast_S_S8192x16x64 : S_.BroadcastsInDim S8192x16x64 (![] : Fin 0 → Fin S8192x16x64.rank)
  bcast_S_S8192x2x64 : S_.BroadcastsInDim S8192x2x64 (![] : Fin 0 → Fin S8192x2x64.rank)
  bcast_S_S1x16 : S_.BroadcastsInDim S1x16 (![] : Fin 0 → Fin S1x16.rank)

variable [Facts]

def fn {F : FTy → Type} [FloatOps F] (main_arg0 : FVec F S8192x16x64 .f32) (main_arg1 : FVec F S8192x2x64 .f32) (main_arg2 : FVec F S8192x2x64 .f32) (main_arg3 : FVec F S1x16 .f32) : IVec S8192x16x64 1 × IVec S8192x2x64 1 × IVec S1x16 1 :=
  let main_v0 : FVec F S8192x16x64 .f32 := Host.absf main_arg0
  let main_cst : FVec F S_ .f32 := constant S_ .f32 0x7F800000#32
  let main_v1 : FVec F S8192x16x64 .f32 := broadcastInDim S8192x16x64 ![] bcast_S_S8192x16x64 main_cst
  let main_v2 : IVec S8192x16x64 1 := cmpf .olt main_v0 main_v1
  let main_v3 : FVec F S8192x2x64 .f32 := Host.absf main_arg1
  let main_cst_0 : FVec F S_ .f32 := constant S_ .f32 0x7F800000#32
  let main_v4 : FVec F S8192x2x64 .f32 := broadcastInDim S8192x2x64 ![] bcast_S_S8192x2x64 main_cst_0
  let main_v5 : IVec S8192x2x64 1 := cmpf .olt main_v3 main_v4
  let main_v6 : FVec F S1x16 .f32 := Host.absf main_arg3
  let main_cst_1 : FVec F S_ .f32 := constant S_ .f32 0x7F800000#32
  let main_v7 : FVec F S1x16 .f32 := broadcastInDim S1x16 ![] bcast_S_S1x16 main_cst_1
  let main_v8 : IVec S1x16 1 := cmpf .olt main_v6 main_v7
  (main_v2, main_v5, main_v8)
-- ==== Pre_finite_loss.lean ====
abbrev S8192x2816 : Shape := ⟨2, ![8192, 2816]⟩
abbrev S2x2816x1024 : Shape := ⟨3, ![2, 2816, 1024]⟩
abbrev S8192x1024 : Shape := ⟨2, ![8192, 1024]⟩
abbrev S1024 : Shape := ⟨1, ![1024]⟩
abbrev S_ : Shape := ⟨0, ![]⟩

class Facts : Prop where
  bcast_S_S8192x2816 : S_.BroadcastsInDim S8192x2816 (![] : Fin 0 → Fin S8192x2816.rank)
  bcast_S_S2x2816x1024 : S_.BroadcastsInDim S2x2816x1024 (![] : Fin 0 → Fin S2x2816x1024.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x2816 .f32) (main_arg1 : FVec F S2x2816x1024 .f32) (main_arg2 : FVec F S8192x1024 .f32) (main_arg3 : FVec F S1024 .f32) (main_arg4 : FVec F S8192x1024 .f32) : IVec S8192x2816 1 × IVec S2x2816x1024 1 × IVec S8192x1024 1 × IVec S1024 1 × IVec S8192x1024 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_v3 : FVec F S2x2816x1024 .f32 := Host.absf main_arg1
  let main_cst_0 : FVec F S_ .f32 := constant S_ .f32 0x7F800000#32
  let main_v4 : FVec F S2x2816x1024 .f32 := broadcastInDim S2x2816x1024 ![] bcast_S_S2x2816x1024 main_cst_0
  let main_v5 : IVec S2x2816x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_finite_up.lean ====
abbrev S8192x1024 : Shape := ⟨2, ![8192, 1024]⟩
abbrev S2x1024x2816 : Shape := ⟨3, ![2, 1024, 2816]⟩
abbrev S_ : Shape := ⟨0, ![]⟩

class Facts : Prop where
  bcast_S_S8192x1024 : S_.BroadcastsInDim S8192x1024 (![] : Fin 0 → Fin S8192x1024.rank)
  bcast_S_S2x1024x2816 : S_.BroadcastsInDim S2x1024x2816 (![] : Fin 0 → Fin S2x1024x2816.rank)

variable [Facts]

def fn {F : FTy → Type} [FloatOps F] (main_arg0 : FVec F S8192x1024 .f32) (main_arg1 : FVec F S2x1024x2816 .f32) (main_arg2 : FVec F S2x1024x2816 .f32) : IVec S8192x1024 1 × IVec S2x1024x2816 1 × IVec S2x1024x2816 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S2x1024x2816 .f32 := Host.absf main_arg1
  let main_cst_0 : FVec F S_ .f32 := constant S_ .f32 0x7F800000#32
  let main_v4 : FVec F S2x1024x2816 .f32 := broadcastInDim S2x1024x2816 ![] bcast_S_S2x1024x2816 main_cst_0
  let main_v5 : IVec S2x1024x2816 1 := cmpf .olt main_v3 main_v4
  let main_v6 : FVec F S2x1024x2816 .f32 := Host.absf main_arg2
  let main_cst_1 : FVec F S_ .f32 := constant S_ .f32 0x7F800000#32
  let main_v7 : FVec F S2x1024x2816 .f32 := broadcastInDim S2x1024x2816 ![] bcast_S_S2x1024x2816 main_cst_1
  let main_v8 : IVec S2x1024x2816 1 := cmpf .olt main_v6 main_v7
  (main_v2, main_v5, main_v8)
-- ==== FfnIn.lean ====
abbrev S8192x1024 : Shape := ⟨2, ![8192, 1024]⟩
abbrev S1x1024 : Shape := ⟨2, ![1, 1024]⟩
abbrev S2x1024 : Shape := ⟨2, ![2, 1024]⟩
abbrev S2x1024x2816 : Shape := ⟨3, ![2, 1024, 2816]⟩
abbrev S8192x2816 : Shape := ⟨2, ![8192, 2816]⟩
abbrev S8192x4x704 : Shape := ⟨3, ![8192, 4, 704]⟩
abbrev S4x8192x704 : Shape := ⟨3, ![4, 8192, 704]⟩
abbrev S2x1024x4x704 : Shape := ⟨4, ![2, 1024, 4, 704]⟩
abbrev S4x2x704x1024 : Shape := ⟨4, ![4, 2, 704, 1024]⟩
abbrev S_ : Shape := ⟨0, ![]⟩
abbrev S8x128 : Shape := ⟨2, ![8, 128]⟩
abbrev S4x512x704 : Shape := ⟨3, ![4, 512, 704]⟩
abbrev S4x1x704x1024 : Shape := ⟨4, ![4, 1, 704, 1024]⟩
abbrev S512x1024 : Shape := ⟨2, ![512, 1024]⟩
abbrev S1x512x704 : Shape := ⟨3, ![1, 512, 704]⟩
abbrev S512x704 : Shape := ⟨2, ![512, 704]⟩
abbrev S1x1x704x1024 : Shape := ⟨4, ![1, 1, 704, 1024]⟩
abbrev S704x1024 : Shape := ⟨2, ![704, 1024]⟩
abbrev S512 : Shape := ⟨1, ![512]⟩
abbrev S512x1 : Shape := ⟨2, ![512, 1]⟩
abbrev S1024 : Shape := ⟨1, ![1024]⟩

abbrev nBuf : Space → Nat
  | .hbm => 28
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2x1024, .f32⟩
  | .hbm, ⟨3, _⟩ => ⟨S2x1024x2816, .f32⟩
  | .hbm, ⟨4, _⟩ => ⟨S2x1024x2816, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S8192x1024, .f32⟩
  | .hbm, ⟨9, _⟩ => ⟨S8192x1024, .f32⟩
  | .hbm, ⟨10, _⟩ => ⟨S8192x4x704, .f32⟩
  | .hbm, ⟨11, _⟩ => ⟨S4x8192x704, .f32⟩
  | .hbm, ⟨12, _⟩ => ⟨S4x8192x704, .bf16⟩
  | .hbm, ⟨13, _⟩ => ⟨S2x1024x4x704, .f32⟩
  | .hbm, ⟨14, _⟩ => ⟨S4x2x704x1024, .f32⟩
  | .hbm, ⟨15, _⟩ => ⟨S4x2x704x1024, .bf16⟩
  | .hbm, ⟨16, _⟩ => ⟨S8192x4x704, .f32⟩
  | .hbm, ⟨17, _⟩ => ⟨S4x8192x704, .f32⟩
  | .hbm, ⟨18, _⟩ => ⟨S4x8192x704, .bf16⟩
  | .hbm, ⟨19, _⟩ => ⟨S2x1024x4x704, .f32⟩
  | .hbm, ⟨20, _⟩ => ⟨S4x2x704x1024, .f32⟩
  | .hbm, ⟨21, _⟩ => ⟨S4x2x704x1024, .bf16⟩
  | .hbm, ⟨22, _⟩ => ⟨S1x1024, .f32⟩
  | .hbm, ⟨23, _⟩ => ⟨S_, .f32⟩
  | .hbm, ⟨24, _⟩ => ⟨S8x128, .f32⟩
  | .hbm, ⟨25, _⟩ => ⟨S8192x1024, .f32⟩
  | .hbm, ⟨26, _⟩ => ⟨S1x1024, .f32⟩
  | .hbm, ⟨27, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S4x1x704x1024, .bf16⟩
  | .local _ .vmem, ⟨5, _⟩ => ⟨S4x1x704x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnInRefIdeal.lean ====
abbrev S8192x1024 : Shape := ⟨2, ![8192, 1024]⟩
abbrev S1x1024 : Shape := ⟨2, ![1, 1024]⟩
abbrev S2x1024 : Shape := ⟨2, ![2, 1024]⟩
abbrev S2x1024x2816 : Shape := ⟨3, ![2, 1024, 2816]⟩
abbrev S8192x2816 : Shape := ⟨2, ![8192, 2816]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024x2816 : Shape := ⟨3, ![1, 1024, 2816]⟩
abbrev S1024x2816 : Shape := ⟨2, ![1024, 2816]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2x1024, .f32⟩
  | .hbm, ⟨3, _⟩ => ⟨S2x1024x2816, .f32⟩
  | .hbm, ⟨4, _⟩ => ⟨S2x1024x2816, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S1x1024, .f32⟩
  | .hbm, ⟨9, _⟩ => ⟨S1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1x1024x2816, .f32⟩
  | .hbm, ⟨33, _⟩ => ⟨S1024x2816, .f32⟩
  | .hbm, ⟨34, _⟩ => ⟨S8192x2816, .f32⟩
  | .hbm, ⟨35, _⟩ => ⟨S1x1024x2816, .f32⟩
  | .hbm, ⟨36, _⟩ => ⟨S1024x2816, .f32⟩
  | .hbm, ⟨37, _⟩ => ⟨S8192x2816, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== ConvIn.lean ====
abbrev S8192x1024 : Shape := ⟨2, ![8192, 1024]⟩
abbrev S2x1024 : Shape := ⟨2, ![2, 1024]⟩
abbrev S1x1024x2048 : Shape := ⟨3, ![1, 1024, 2048]⟩
abbrev S8192x2048 : Shape := ⟨2, ![8192, 2048]⟩
abbrev S1024x2048 : Shape := ⟨2, ![1024, 2048]⟩
abbrev S1024x4x512 : Shape := ⟨3, ![1024, 4, 512]⟩
abbrev S4x1024x512 : Shape := ⟨3, ![4, 1024, 512]⟩
abbrev S1x1024 : Shape := ⟨2, ![1, 1024]⟩
abbrev S_ : Shape := ⟨0, ![]⟩
abbrev S8x128 : Shape := ⟨2, ![8, 128]⟩
abbrev S512x2048 : Shape := ⟨2, ![512, 2048]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 16
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1x1024x2048, .f32⟩
  | .hbm, ⟨3, _⟩ => ⟨S8192x1024, .f32⟩
  | .hbm, ⟨4, _⟩ => ⟨S8192x2048, .f32⟩
  | .hbm, ⟨5, _⟩ => ⟨S8192x2048, .bf16⟩
  | .hbm, ⟨6, _⟩ => ⟨S1024x2048, .f32⟩
  | .hbm, ⟨7, _⟩ => ⟨S1024x4x512, .f32⟩
  | .hbm, ⟨8, _⟩ => ⟨S4x1024x512, .f32⟩
  | .hbm, ⟨9, _⟩ => ⟨S4x1024x512, .bf16⟩
  | .hbm, ⟨10, _⟩ => ⟨S1x1024, .f32⟩
  | .hbm, ⟨11, _⟩ => ⟨S_, .f32⟩
  | .hbm, ⟨12, _⟩ => ⟨S8x128, .f32⟩
  | .hbm, ⟨13, _⟩ => ⟨S8192x1024, .f32⟩
  | .hbm, ⟨14, _⟩ => ⟨S1x1024, .f32⟩
  | .hbm, ⟨15, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S4x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvInRefIdeal.lean ====
abbrev S8192x1024 : Shape := ⟨2, ![8192, 1024]⟩
abbrev S2x1024 : Shape := ⟨2, ![2, 1024]⟩
abbrev S1x1024x2048 : Shape := ⟨3, ![1, 1024, 2048]⟩
abbrev S8192x2048 : Shape := ⟨2, ![8192, 2048]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2048 : Shape := ⟨2, ![1024, 2048]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1x1024x2048, .f32⟩
  | .hbm, ⟨3, _⟩ => ⟨S8192x1024, .f32⟩
  | .hbm, ⟨4, _⟩ => ⟨S8192x2048, .f32⟩
  | .hbm, ⟨5, _⟩ => ⟨S1x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S1024x2048, .f32⟩
  | .hbm, ⟨28, _⟩ => ⟨S8192x2048, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== AttnIn.lean ====
abbrev S8192x1024 : Shape := ⟨2, ![8192, 1024]⟩
abbrev S2x1024 : Shape := ⟨2, ![2, 1024]⟩
abbrev S1x1024x1280 : Shape := ⟨3, ![1, 1024, 1280]⟩
abbrev S8192x1280 : Shape := ⟨2, ![8192, 1280]⟩
abbrev S1024x1280 : Shape := ⟨2, ![1024, 1280]⟩
abbrev S1280x1024 : Shape := ⟨2, ![1280, 1024]⟩
abbrev S1024x1024 : Shape := ⟨2, ![1024, 1024]⟩
abbrev S8192x256 : Shape := ⟨2, ![8192, 256]⟩
abbrev S256x1024 : Shape := ⟨2, ![256, 1024]⟩
abbrev S1x1024 : Shape := ⟨2, ![1, 1024]⟩
abbrev S_ : Shape := ⟨0, ![]⟩
abbrev S8x128 : Shape := ⟨2, ![8, 128]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1024 : Shape := ⟨1, ![1024]⟩

abbrev nBuf : Space → Nat
  | .hbm => 19
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1x1024x1280, .f32⟩
  | .hbm, ⟨3, _⟩ => ⟨S8192x1024, .f32⟩
  | .hbm, ⟨4, _⟩ => ⟨S8192x1280, .f32⟩
  | .hbm, ⟨5, _⟩ => ⟨S1024x1280, .f32⟩
  | .hbm, ⟨6, _⟩ => ⟨S1280x1024, .f32⟩
  | .hbm, ⟨7, _⟩ => ⟨S1280x1024, .bf16⟩
  | .hbm, ⟨8, _⟩ => ⟨S8192x1280, .bf16⟩
  | .hbm, ⟨9, _⟩ => ⟨S8192x1024, .bf16⟩
  | .hbm, ⟨10, _⟩ => ⟨S1024x1024, .bf16⟩
  | .hbm, ⟨11, _⟩ => ⟨S8192x256, .bf16⟩
  | .hbm, ⟨12, _⟩ => ⟨S256x1024, .bf16⟩
  | .hbm, ⟨13, _⟩ => ⟨S1x1024, .f32⟩
  | .hbm, ⟨14, _⟩ => ⟨S_, .f32⟩
  | .hbm, ⟨15, _⟩ => ⟨S8x128, .f32⟩
  | .hbm, ⟨16, _⟩ => ⟨S8192x1024, .f32⟩
  | .hbm, ⟨17, _⟩ => ⟨S1x1024, .f32⟩
  | .hbm, ⟨18, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x256, .bf16⟩
  | .local _ .vmem, ⟨3, _⟩ => ⟨S512x256, .bf16⟩
  | .local _ .vmem, ⟨4, _⟩ => ⟨S1024x1024, .bf16⟩
  | .local _ .vmem, ⟨5, _⟩ => ⟨S256x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AttnInRefIdeal.lean ====
abbrev S8192x1024 : Shape := ⟨2, ![8192, 1024]⟩
abbrev S2x1024 : Shape := ⟨2, ![2, 1024]⟩
abbrev S1x1024x1280 : Shape := ⟨3, ![1, 1024, 1280]⟩
abbrev S8192x1280 : Shape := ⟨2, ![8192, 1280]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x1280 : Shape := ⟨2, ![1024, 1280]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1x1024x1280, .f32⟩
  | .hbm, ⟨3, _⟩ => ⟨S8192x1024, .f32⟩
  | .hbm, ⟨4, _⟩ => ⟨S8192x1280, .f32⟩
  | .hbm, ⟨5, _⟩ => ⟨S1x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S1024x1280, .f32⟩
  | .hbm, ⟨28, _⟩ => ⟨S8192x1280, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Down.lean ====
abbrev S8192x2816 : Shape := ⟨2, ![8192, 2816]⟩
abbrev S2x2816x1024 : Shape := ⟨3, ![2, 2816, 1024]⟩
abbrev S8192x1024 : Shape := ⟨2, ![8192, 1024]⟩
abbrev S_ : Shape := ⟨0, ![]⟩
abbrev S2x4x704x1024 : Shape := ⟨4, ![2, 4, 704, 1024]⟩
abbrev S4x2x704x1024 : Shape := ⟨4, ![4, 2, 704, 1024]⟩
abbrev S8192x4x704 : Shape := ⟨3, ![8192, 4, 704]⟩
abbrev S4x8192x704 : Shape := ⟨3, ![4, 8192, 704]⟩
abbrev S4x704x1024 : Shape := ⟨3, ![4, 704, 1024]⟩
abbrev S256x1024 : Shape := ⟨2, ![256, 1024]⟩
abbrev S4x1x704x1024 : Shape := ⟨4, ![4, 1, 704, 1024]⟩
abbrev S4x256x704 : Shape := ⟨3, ![4, 256, 704]⟩
abbrev S1x1x704x1024 : Shape := ⟨4, ![1, 1, 704, 1024]⟩
abbrev S704x1024 : Shape := ⟨2, ![704, 1024]⟩
abbrev S256x704 : Shape := ⟨2, ![256, 704]⟩
abbrev S1x256x704 : Shape := ⟨3, ![1, 256, 704]⟩
abbrev S1x704x1024 : Shape := ⟨3, ![1, 704, 1024]⟩

abbrev nBuf : Space → Nat
  | .hbm => 38
  | .vmem => 14
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2x2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S2x4x704x1024, .f32⟩
  | .hbm, ⟨22, _⟩ => ⟨S4x2x704x1024, .f32⟩
  | .hbm, ⟨23, _⟩ => ⟨S4x2x704x1024, .bf16⟩
  | .hbm, ⟨24, _⟩ => ⟨S8192x4x704, .f32⟩
  | .hbm, ⟨25, _⟩ => ⟨S4x8192x704, .f32⟩
  | .hbm, ⟨26, _⟩ => ⟨S4x8192x704, .bf16⟩
  | .hbm, ⟨27, _⟩ => ⟨S8192x2816, .f32⟩
  | .hbm, ⟨28, _⟩ => ⟨S8192x4x704, .f32⟩
  | .hbm, ⟨29, _⟩ => ⟨S4x8192x704, .f32⟩
  | .hbm, ⟨30, _⟩ => ⟨S4x8192x704, .bf16⟩
  | .hbm, ⟨31, _⟩ => ⟨S8192x2816, .f32⟩
  | .hbm, ⟨32, _⟩ => ⟨S8192x4x704, .f32⟩
  | .hbm, ⟨33, _⟩ => ⟨S4x8192x704, .f32⟩
  | .hbm, ⟨34, _⟩ => ⟨S4x8192x704, .bf16⟩
  | .hbm, ⟨35, _⟩ => ⟨S4x8192x704, .bf16⟩
  | .hbm, ⟨36, _⟩ => ⟨S4x8192x704, .bf16⟩
  | .hbm, ⟨37, _⟩ => ⟨S4x704x1024, .f32⟩
  | .local _ .vmem, ⟨0, _⟩ => ⟨S256x1024, .f32⟩
  | .local _ .vmem, ⟨1, _⟩ => ⟨S256x1024, .f32⟩
  | .local _ .vmem, ⟨2, _⟩ => ⟨S4x1x704x1024, .bf16⟩
  | .local _ .vmem, ⟨3, _⟩ => ⟨S4x256x704, .bf16⟩
  | .local _ .vmem, ⟨4, _⟩ => ⟨S4x256x704, .bf16⟩
  | .local _ .vmem, ⟨5, _⟩ => ⟨S4x256x704, .bf16⟩
  | .local _ .vmem, ⟨6, _⟩ => ⟨S4x256x704, .bf16⟩
  | .local _ .vmem, ⟨7, _⟩ => ⟨S4x256x704, .bf16⟩
  | .local _ .vmem, ⟨8, _⟩ => ⟨S4x256x704, .bf16⟩
  | .local _ .vmem, ⟨9, _⟩ => ⟨S4x256x704, .bf16⟩
  | .local _ .vmem, ⟨10, _⟩ => ⟨S4x256x704, .bf16⟩
  | .local _ .vmem, ⟨11, _⟩ => ⟨S4x256x704, .bf16⟩
  | .local _ .vmem, ⟨12, _⟩ => ⟨S4x256x704, .bf16⟩
  | .local _ .vmem, ⟨13, _⟩ => ⟨S4x704x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27_0 : Ref sig .tc := ⟨.hbm, 35, rfl⟩
abbrev main_v27_1 : Ref sig .tc := ⟨.hbm, 36, rfl⟩
abbrev main_v27_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x704x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DownRefIdeal.lean ====
abbrev S8192x2816 : Shape := ⟨2, ![8192, 2816]⟩
abbrev S2x2816x1024 : Shape := ⟨3, ![2, 2816, 1024]⟩
abbrev S8192x1024 : Shape := ⟨2, ![8192, 1024]⟩
abbrev S1x2816x1024 : Shape := ⟨3, ![1, 2816, 1024]⟩
abbrev S2816x1024 : Shape := ⟨2, ![2816, 1024]⟩
abbrev S_ : Shape := ⟨0, ![]⟩
abbrev S1024x2816 : Shape := ⟨2, ![1024, 2816]⟩
abbrev S8192x4x704 : Shape := ⟨3, ![8192, 4, 704]⟩
abbrev S4x8192x704 : Shape := ⟨3, ![4, 8192, 704]⟩
abbrev S4x704x1024 : Shape := ⟨3, ![4, 704, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2x2816x1024, .f32⟩
  | .hbm, ⟨3, _⟩ => ⟨S8192x1024, .f32⟩
  | .hbm, ⟨4, _⟩ => ⟨S1x2816x1024, .f32⟩
  | .hbm, ⟨5, _⟩ => ⟨S2816x1024, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x1024, .f32⟩
  | .hbm, ⟨21, _⟩ => ⟨S1024x2816, .f32⟩
  | .hbm, ⟨22, _⟩ => ⟨S2816x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x4x704, .f32⟩
  | .hbm, ⟨31, _⟩ => ⟨S4x8192x704, .f32⟩
  | .hbm, ⟨32, _⟩ => ⟨S4x8192x704, .bf16⟩
  | .hbm, ⟨33, _⟩ => ⟨S8192x4x704, .f32⟩
  | .hbm, ⟨34, _⟩ => ⟨S4x8192x704, .f32⟩
  | .hbm, ⟨35, _⟩ => ⟨S4x8192x704, .bf16⟩
  | .hbm, ⟨36, _⟩ => ⟨S4x704x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩

abbrev nD : Nat := 1
abbrev τ : Topo := Topo.v7x

variable {F : FTy → Type} [FloatOps F]
-- ==== Loss.lean ====
abbrev S8192x2816 : Shape := ⟨2, ![8192, 2816]⟩
abbrev S2x2816x1024 : Shape := ⟨3, ![2, 2816, 1024]⟩
abbrev S8192x1024 : Shape := ⟨2, ![8192, 1024]⟩
abbrev S1024 : Shape := ⟨1, ![1024]⟩
abbrev S8192x4x704 : Shape := ⟨3, ![8192, 4, 704]⟩
abbrev S4x8192x704 : Shape := ⟨3, ![4, 8192, 704]⟩
abbrev S2x4x704x1024 : Shape := ⟨4, ![2, 4, 704, 1024]⟩
abbrev S4x2x704x1024 : Shape := ⟨4, ![4, 2, 704, 1024]⟩
abbrev S1x1024 : Shape := ⟨2, ![1, 1024]⟩
abbrev S1x1 : Shape := ⟨2, ![1, 1]⟩
abbrev S4x512x704 : Shape := ⟨3, ![4, 512, 704]⟩
abbrev S4x1x704x1024 : Shape := ⟨4, ![4, 1, 704, 1024]⟩
abbrev S512x1024 : Shape := ⟨2, ![512, 1024]⟩
abbrev S1x512x704 : Shape := ⟨3, ![1, 512, 704]⟩
abbrev S512x704 : Shape := ⟨2, ![512, 704]⟩
abbrev S1x1x704x1024 : Shape := ⟨4, ![1, 1, 704, 1024]⟩
abbrev S704x1024 : Shape := ⟨2, ![704, 1024]⟩
abbrev S512 : Shape := ⟨1, ![512]⟩
abbrev S512x1 : Shape := ⟨2, ![512, 1]⟩
abbrev S1 : Shape := ⟨1, ![1]⟩

abbrev nBuf : Space → Nat
  | .hbm => 15
  | .vmem => 12
  | .smem => 0
  | _ => 0

abbrev bufTy : (tb : Table) → Fin (tcTables nBuf tb) → BufTy
  | .hbm, ⟨0, _⟩ => ⟨S8192x2816, .f32⟩
  | .hbm, ⟨1, _⟩ => ⟨S2x2816x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x4x704, .f32⟩
  | .hbm, ⟨6, _⟩ => ⟨S4x8192x704, .f32⟩
  | .hbm, ⟨7, _⟩ => ⟨S4x8192x704, .bf16⟩
  | .hbm, ⟨8, _⟩ => ⟨S2x4x704x1024, .f32⟩
  | .hbm, ⟨9, _⟩ => ⟨S4x2x704x1024, .f32⟩
  | .hbm, ⟨10, _⟩ => ⟨S4x2x704x1024, .bf16⟩
  | .hbm, ⟨11, _⟩ => ⟨S1x1024, .f32⟩
  | .hbm, ⟨12, _⟩ => ⟨S8192x1024, .f32⟩
  | .hbm, ⟨13, _⟩ => ⟨S1x1, .f32⟩
  | .hbm, ⟨14, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x1x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1, .f32⟩
  | .local _ .vmem, ⟨11, _⟩ => ⟨S1x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S8192x2816 : Shape := ⟨2, ![8192, 2816]⟩
abbrev S2x2816x1024 : Shape := ⟨3, ![2, 2816, 1024]⟩
abbrev S8192x1024 : Shape := ⟨2, ![8192, 1024]⟩
abbrev S1024 : Shape := ⟨1, ![1024]⟩
abbrev S1x2816x1024 : Shape := ⟨3, ![1, 2816, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1 : Shape := ⟨2, ![1, 1]⟩

abbrev nBuf : Space → Nat
  | .hbm => 79
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2x2816x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x2816x1024, .f32⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S1x1, .f32⟩
  | .hbm, ⟨78, _⟩ => ⟨S1x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Fwd.lean ====
abbrev S8192x16x64 : Shape := ⟨3, ![8192, 16, 64]⟩
abbrev S8192x2x64 : Shape := ⟨3, ![8192, 2, 64]⟩
abbrev S1x16 : Shape := ⟨2, ![1, 16]⟩
abbrev S8192x1024 : Shape := ⟨2, ![8192, 1024]⟩
abbrev S8192x128 : Shape := ⟨2, ![8192, 128]⟩
abbrev S8192x1280 : Shape := ⟨2, ![8192, 1280]⟩
abbrev S64x2048x128 : Shape := ⟨3, ![64, 2048, 128]⟩
abbrev S128x1024 : Shape := ⟨2, ![128, 1024]⟩
abbrev S128x128 : Shape := ⟨2, ![128, 128]⟩
abbrev S1x2048x128 : Shape := ⟨3, ![1, 2048, 128]⟩
abbrev S2048x128 : Shape := ⟨2, ![2048, 128]⟩
abbrev S512x128 : Shape := ⟨2, ![512, 128]⟩
abbrev S1x1 : Shape := ⟨2, ![1, 1]⟩
abbrev S128x1 : Shape := ⟨2, ![128, 1]⟩
abbrev S2048x1 : Shape := ⟨2, ![2048, 1]⟩
abbrev S2048 : Shape := ⟨1, ![2048]⟩

abbrev nBuf : Space → Nat
  | .hbm => 12
  | .vmem => 17
  | .smem => 0
  | _ => 0

abbrev bufTy : (tb : Table) → Fin (tcTables nBuf tb) → BufTy
  | .hbm, ⟨0, _⟩ => ⟨S8192x16x64, .f32⟩
  | .hbm, ⟨1, _⟩ => ⟨S8192x2x64, .f32⟩
  | .hbm, ⟨2, _⟩ => ⟨S8192x2x64, .f32⟩
  | .hbm, ⟨3, _⟩ => ⟨S1x16, .f32⟩
  | .hbm, ⟨4, _⟩ => ⟨S8192x1024, .f32⟩
  | .hbm, ⟨5, _⟩ => ⟨S8192x128, .f32⟩
  | .hbm, ⟨6, _⟩ => ⟨S8192x128, .f32⟩
  | .hbm, ⟨7, _⟩ => ⟨S8192x1280, .f32⟩
  | .hbm, ⟨8, _⟩ => ⟨S8192x1280, .bf16⟩
  | .hbm, ⟨9, _⟩ => ⟨S8192x1024, .bf16⟩
  | .hbm, ⟨10, _⟩ => ⟨S64x2048x128, .bf16⟩
  | .hbm, ⟨11, _⟩ => ⟨S8192x128, .f32⟩
  | .local _ .vmem, ⟨0, _⟩ => ⟨S128x1024, .bf16⟩
  | .local _ .vmem, ⟨1, _⟩ => ⟨S128x1024, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S1x16, .f32⟩
  | .local _ .vmem, ⟨11, _⟩ => ⟨S128x1024, .bf16⟩
  | .local _ .vmem, ⟨12, _⟩ => ⟨S128x1024, .bf16⟩
  | .local _ .vmem, ⟨13, _⟩ => ⟨S1x2048x128, .bf16⟩
  | .local _ .vmem, ⟨14, _⟩ => ⟨S1x2048x128, .bf16⟩
  | .local _ .vmem, ⟨15, _⟩ => ⟨S128x128, .f32⟩
  | .local _ .vmem, ⟨16, _⟩ => ⟨S128x128, .f32⟩
  | _, _ => ⟨S8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let c0_i32 : BitVec 32 := 0#32
  ![v0.toNat, c8_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c9_i32 : BitVec 32 := 9#32
  let c0_i32 : BitVec 32 := 0#32
  ![v0.toNat, c9_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![v2.toNat, c9_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FwdIdeal.lean ====
variable {F : FTy → Type} [FloatOps F] [Named F]
def κ : String → Option EReal := fun
  | "mask" => some ⊥
  | _ => none
-- ==== FwdRefIdeal.lean ====
abbrev S8192x16x64 : Shape := ⟨3, ![8192, 16, 64]⟩
abbrev S8192x2x64 : Shape := ⟨3, ![8192, 2, 64]⟩
abbrev S1x16 : Shape := ⟨2, ![1, 16]⟩
abbrev S64x128x2x8x64 : Shape := ⟨5, ![64, 128, 2, 8, 64]⟩
abbrev S64x128x2x64 : Shape := ⟨4, ![64, 128, 2, 64]⟩
abbrev S1x128x2x64 : Shape := ⟨4, ![1, 128, 2, 64]⟩
abbrev S_ : Shape := ⟨0, ![]⟩
abbrev S63x128x2x64 : Shape := ⟨4, ![63, 128, 2, 64]⟩
abbrev S64x256x2x64 : Shape := ⟨4, ![64, 256, 2, 64]⟩
abbrev S64x2x256x128x8 : Shape := ⟨5, ![64, 2, 256, 128, 8]⟩
abbrev S64x2x8x128x256 : Shape := ⟨5, ![64, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S64x1x1x128x256 : Shape := ⟨5, ![64, 1, 1, 128, 256]⟩
abbrev S2x8 : Shape := ⟨2, ![2, 8]⟩
abbrev S1x2x8x1x1 : Shape := ⟨5, ![1, 2, 8, 1, 1]⟩
abbrev S64x2x8x128 : Shape := ⟨4, ![64, 2, 8, 128]⟩
abbrev S64x2x8x128x1 : Shape := ⟨5, ![64, 2, 8, 128, 1]⟩
abbrev S64x2x64x8x128 : Shape := ⟨5, ![64, 2, 64, 8, 128]⟩
abbrev S8192x1024 : Shape := ⟨2, ![8192, 1024]⟩
abbrev S1x128 : Shape := ⟨2, ![1, 128]⟩
abbrev S128x128 : Shape := ⟨2, ![128, 128]⟩
abbrev S64x2x8x128x128 : Shape := ⟨5, ![64, 2, 8, 128, 128]⟩
abbrev S64x2x4x2x128x128 : Shape := ⟨6, ![64, 2, 4, 2, 128, 128]⟩
abbrev S64x2x2x4x128x128 : Shape := ⟨6, ![64, 2, 2, 4, 128, 128]⟩
abbrev S64x2048x128 : Shape := ⟨3, ![64, 2048, 128]⟩
abbrev S64x128x2x8x1 : Shape := ⟨5, ![64, 128, 2, 8, 1]⟩
abbrev S8192x16 : Shape := ⟨2, ![8192, 16]⟩
abbrev S8192x112 : Shape := ⟨2, ![8192, 112]⟩
abbrev S8192x128 : Shape := ⟨2, ![8192, 128]⟩

abbrev nBuf : Space → Nat
  | .hbm => 115
  | .vmem => 0
  | .smem => 0
  | _ => 0

abbrev bufTy : (tb : Table) → Fin (tcTables nBuf tb) → BufTy
  | .hbm, ⟨0, _⟩ => ⟨S8192x16x64, .f32⟩
  | .hbm, ⟨1, _⟩ => ⟨S8192x2x64, .f32⟩
  | .hbm, ⟨2, _⟩ => ⟨S8192x2x64, .f32⟩
  | .hbm, ⟨3, _⟩ => ⟨S1x16, .f32⟩
  | .hbm, ⟨4, _⟩ => ⟨S64x128x2x8x64, .f32⟩
  | .hbm, ⟨5, _⟩ => ⟨S64x128x2x64, .f32⟩
  | .hbm, ⟨6, _⟩ => ⟨S64x128x2x64, .f32⟩
  | .hbm, ⟨7, _⟩ => ⟨S1x128x2x64, .f32⟩
  | .hbm, ⟨8, _⟩ => ⟨S_, .f32⟩
  | .hbm, ⟨9, _⟩ => ⟨S1x128x2x64, .f32⟩
  | .hbm, ⟨10, _⟩ => ⟨S63x128x2x64, .f32⟩
  | .hbm, ⟨11, _⟩ => ⟨S64x128x2x64, .f32⟩
  | .hbm, ⟨12, _⟩ => ⟨S64x256x2x64, .f32⟩
  | .hbm, ⟨13, _⟩ => ⟨S1x128x2x64, .f32⟩
  | .hbm, ⟨14, _⟩ => ⟨S_, .f32⟩
  | .hbm, ⟨15, _⟩ => ⟨S1x128x2x64, .f32⟩
  | .hbm, ⟨16, _⟩ => ⟨S63x128x2x64, .f32⟩
  | .hbm, ⟨17, _⟩ => ⟨S64x128x2x64, .f32⟩
  | .hbm, ⟨18, _⟩ => ⟨S64x256x2x64, .f32⟩
  | .hbm, ⟨19, _⟩ => ⟨S64x2x256x128x8, .f32⟩
  | .hbm, ⟨20, _⟩ => ⟨S64x2x8x128x256, .f32⟩
  | .hbm, ⟨21, _⟩ => ⟨S_, .f32⟩
  | .hbm, ⟨22, _⟩ => ⟨S64x2x8x128x256, .f32⟩
  | .hbm, ⟨23, _⟩ => ⟨S64x2x8x128x256, .f32⟩
  | .hbm, ⟨24, _⟩ => ⟨S128, .i32⟩
  | .hbm, ⟨25, _⟩ => ⟨S128x1, .i32⟩
  | .hbm, ⟨26, _⟩ => ⟨S256, .i32⟩
  | .hbm, ⟨27, _⟩ => ⟨S1x256, .i32⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S128x256, .i32⟩
  | .hbm, ⟨32, _⟩ => ⟨S128x256, .i32⟩
  | .hbm, ⟨33, _⟩ => ⟨S128x256, .i32⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S128x256, .i1⟩
  | .hbm, ⟨41, _⟩ => ⟨S64, .i32⟩
  | .hbm, ⟨42, _⟩ => ⟨S64x1, .i32⟩
  | .hbm, ⟨43, _⟩ => ⟨S_, .i32⟩
  | .hbm, ⟨44, _⟩ => ⟨S64x1, .i32⟩
  | .hbm, ⟨45, _⟩ => ⟨S64x1, .i32⟩
  | .hbm, ⟨46, _⟩ => ⟨S_, .i32⟩
  | .hbm, ⟨47, _⟩ => ⟨S64x1, .i32⟩
  | .hbm, ⟨48, _⟩ => ⟨S64x1, .i32⟩
  | .hbm, ⟨49, _⟩ => ⟨S256, .i32⟩
  | .hbm, ⟨50, _⟩ => ⟨S1x256, .i32⟩
  | .hbm, ⟨51, _⟩ => ⟨S64x256, .i32⟩
  | .hbm, ⟨52, _⟩ => ⟨S64x256, .i32⟩
  | .hbm, ⟨53, _⟩ => ⟨S64x256, .i32⟩
  | .hbm, ⟨54, _⟩ => ⟨S1x128x256, .i1⟩
  | .hbm, ⟨55, _⟩ => ⟨S_, .i32⟩
  | .hbm, ⟨56, _⟩ => ⟨S64x256, .i32⟩
  | .hbm, ⟨57, _⟩ => ⟨S64x256, .i1⟩
  | .hbm, ⟨58, _⟩ => ⟨S64x1x256, .i1⟩
  | .hbm, ⟨59, _⟩ => ⟨S64x128x256, .i1⟩
  | .hbm, ⟨60, _⟩ => ⟨S64x128x256, .i1⟩
  | .hbm, ⟨61, _⟩ => ⟨S64x128x256, .i1⟩
  | .hbm, ⟨62, _⟩ => ⟨S64x1x1x128x256, .i1⟩
  | .hbm, ⟨63, _⟩ => ⟨S_, .f32⟩
  | .hbm, ⟨64, _⟩ => ⟨S_, .f32⟩
  | .hbm, ⟨65, _⟩ => ⟨S64x2x8x128x256, .i1⟩
  | .hbm, ⟨66, _⟩ => ⟨S64x2x8x128x256, .f32⟩
  | .hbm, ⟨67, _⟩ => ⟨S64x2x8x128x256, .f32⟩
  | .hbm, ⟨68, _⟩ => ⟨S2x8, .f32⟩
  | .hbm, ⟨69, _⟩ => ⟨S1x2x8x1x1, .f32⟩
  | .hbm, ⟨70, _⟩ => ⟨S_, .f32⟩
  | .hbm, ⟨71, _⟩ => ⟨S64x2x8x128, .f32⟩
  | .hbm, ⟨72, _⟩ => ⟨S64x2x8x128x1, .f32⟩
  | .hbm, ⟨73, _⟩ => ⟨S64x2x8x128x1, .f32⟩
  | .hbm, ⟨74, _⟩ => ⟨S64x2x8x128x1, .f32⟩
  | .hbm, ⟨75, _⟩ => ⟨S64x2x8x128x256, .f32⟩
  | .hbm, ⟨76, _⟩ => ⟨S64x2x8x128x256, .f32⟩
  | .hbm, ⟨77, _⟩ => ⟨S64x2x8x128x256, .f32⟩
  | .hbm, ⟨78, _⟩ => ⟨S_, .f32⟩
  | .hbm, ⟨79, _⟩ => ⟨S64x2x8x128, .f32⟩
  | .hbm, ⟨80, _⟩ => ⟨S64x2x8x128x1, .f32⟩
  | .hbm, ⟨81, _⟩ => ⟨S64x2x8x128x1, .f32⟩
  | .hbm, ⟨82, _⟩ => ⟨S64x2x8x128x1, .f32⟩
  | .hbm, ⟨83, _⟩ => ⟨S64x2x8x128x1, .f32⟩
  | .hbm, ⟨84, _⟩ => ⟨S64x2x8x128x1, .f32⟩
  | .hbm, ⟨85, _⟩ => ⟨S64x2x8x128x256, .f32⟩
  | .hbm, ⟨86, _⟩ => ⟨S64x2x8x128x256, .f32⟩
  | .hbm, ⟨87, _⟩ => ⟨S64x2x8x128x1, .f32⟩
  | .hbm, ⟨88, _⟩ => ⟨S64x2x8x128x1, .f32⟩
  | .hbm, ⟨89, _⟩ => ⟨S64x2x8x128x1, .f32⟩
  | .hbm, ⟨90, _⟩ => ⟨S64x2x8x128x1, .f32⟩
  | .hbm, ⟨91, _⟩ => ⟨S64x2x64x8x128, .f32⟩
  | .hbm, ⟨92, _⟩ => ⟨S64x128x2x8x64, .f32⟩
  | .hbm, ⟨93, _⟩ => ⟨S8192x1024, .f32⟩
  | .hbm, ⟨94, _⟩ => ⟨S128, .i32⟩
  | .hbm, ⟨95, _⟩ => ⟨S1x128, .i32⟩
  | .hbm, ⟨96, _⟩ => ⟨S128, .i32⟩
  | .hbm, ⟨97, _⟩ => ⟨S128x1, .i32⟩
  | .hbm, ⟨98, _⟩ => ⟨S128x128, .i32⟩
  | .hbm, ⟨99, _⟩ => ⟨S128x128, .i32⟩
  | .hbm, ⟨100, _⟩ => ⟨S128x128, .i1⟩
  | .hbm, ⟨101, _⟩ => ⟨S64x2x8x128x128, .f32⟩
  | .hbm, ⟨102, _⟩ => ⟨S64x2x8x128x128, .f32⟩
  | .hbm, ⟨103, _⟩ => ⟨S64x2x8x128x128, .i1⟩
  | .hbm, ⟨104, _⟩ => ⟨S64x2x8x128x128, .f32⟩
  | .hbm, ⟨105, _⟩ => ⟨S64x2x4x2x128x128, .f32⟩
  | .hbm, ⟨106, _⟩ => ⟨S64x2x2x4x128x128, .f32⟩
  | .hbm, ⟨107, _⟩ => ⟨S64x2048x128, .f32⟩
  | .hbm, ⟨108, _⟩ => ⟨S64x128x2x8x1, .f32⟩
  | .hbm, ⟨109, _⟩ => ⟨S8192x16, .f32⟩
  | .hbm, ⟨110, _⟩ => ⟨S_, .f32⟩
  | .hbm, ⟨111, _⟩ => ⟨S8192x112, .f32⟩
  | .hbm, ⟨112, _⟩ => ⟨S8192x128, .f32⟩
  | .hbm, ⟨113, _⟩ => ⟨S8192x1024, .bf16⟩
  | .hbm, ⟨114, _⟩ => ⟨S64x2048x128, .bf16⟩
  | _, _ => ⟨S8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_4 : Ref sig .tc := ⟨.hbm, 43, rfl⟩
abbrev main_v33 : Ref sig .tc := ⟨.hbm, 44, rfl⟩
abbrev main_v34 : Ref sig .tc := ⟨.hbm, 45, rfl⟩
abbrev main_c_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_9 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_call1_v0 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_cst_10 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩

abbrev nD : Nat := 1
abbrev τ : Topo := Topo.v7x

variable {F : FTy → Type} [FloatOps F]
-- ==== Up.lean ====
abbrev S8192x1024 : Shape := ⟨2, ![8192, 1024]⟩
abbrev S2x1024x2816 : Shape := ⟨3, ![2, 1024, 2816]⟩
abbrev S2x1024x4x704 : Shape := ⟨4, ![2, 1024, 4, 704]⟩
abbrev S4x2x704x1024 : Shape := ⟨4, ![4, 2, 704, 1024]⟩
abbrev S4x8192x704 : Shape := ⟨3, ![4, 8192, 704]⟩
abbrev S1024x1024 : Shape := ⟨2, ![1024, 1024]⟩
abbrev S1x1x704x1024 : Shape := ⟨4, ![1, 1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 13
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S2x1024x2816, .f32⟩
  | .hbm, ⟨2, _⟩ => ⟨S2x1024x2816, .f32⟩
  | .hbm, ⟨3, _⟩ => ⟨S8192x1024, .bf16⟩
  | .hbm, ⟨4, _⟩ => ⟨S2x1024x4x704, .f32⟩
  | .hbm, ⟨5, _⟩ => ⟨S4x2x704x1024, .f32⟩
  | .hbm, ⟨6, _⟩ => ⟨S4x2x704x1024, .bf16⟩
  | .hbm, ⟨7, _⟩ => ⟨S2x1024x4x704, .f32⟩
  | .hbm, ⟨8, _⟩ => ⟨S4x2x704x1024, .f32⟩
  | .hbm, ⟨9, _⟩ => ⟨S4x2x704x1024, .bf16⟩
  | .hbm, ⟨10, _⟩ => ⟨S4x8192x704, .bf16⟩
  | .hbm, ⟨11, _⟩ => ⟨S4x8192x704, .bf16⟩
  | .hbm, ⟨12, _⟩ => ⟨S4x8192x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpRefIdeal.lean ====
abbrev S8192x1024 : Shape := ⟨2, ![8192, 1024]⟩
abbrev S2x1024x2816 : Shape := ⟨3, ![2, 1024, 2816]⟩
abbrev S1x1024x2816 : Shape := ⟨3, ![1, 1024, 2816]⟩
abbrev S1024x2816 : Shape := ⟨2, ![1024, 2816]⟩
abbrev S8192x2816 : Shape := ⟨2, ![8192, 2816]⟩
abbrev S_ : Shape := ⟨0, ![]⟩
abbrev S8192x4x704 : Shape := ⟨3, ![8192, 4, 704]⟩
abbrev S4x8192x704 : Shape := ⟨3, ![4, 8192, 704]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024x2816, .f32⟩
  | .hbm, ⟨2, _⟩ => ⟨S2x1024x2816, .f32⟩
  | .hbm, ⟨3, _⟩ => ⟨S1x1024x2816, .f32⟩
  | .hbm, ⟨4, _⟩ => ⟨S1024x2816, .f32⟩
  | .hbm, ⟨5, _⟩ => ⟨S8192x2816, .f32⟩
  | .hbm, ⟨6, _⟩ => ⟨S1x1024x2816, .f32⟩
  | .hbm, ⟨7, _⟩ => ⟨S1024x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x4x704, .f32⟩
  | .hbm, ⟨23, _⟩ => ⟨S4x8192x704, .f32⟩
  | .hbm, ⟨24, _⟩ => ⟨S4x8192x704, .bf16⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x4x704, .f32⟩
  | .hbm, ⟨30, _⟩ => ⟨S4x8192x704, .f32⟩
  | .hbm, ⟨31, _⟩ => ⟨S4x8192x704, .bf16⟩
  | .hbm, ⟨32, _⟩ => ⟨S8192x2816, .f32⟩
  | .hbm, ⟨33, _⟩ => ⟨S8192x4x704, .f32⟩
  | .hbm, ⟨34, _⟩ => ⟨S4x8192x704, .f32⟩
  | .hbm, ⟨35, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v6_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v6_1 : Ref sig .tc := ⟨.hbm, 20, rfl⟩
abbrev main_v6_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩

abbrev nD : Nat := 1
abbrev τ : Topo := Topo.v7x

variable {F : FTy → Type} [FloatOps F]
-- ==== Pw1.lean ====
abbrev S8192x1024 : Shape := ⟨2, ![8192, 1024]⟩
abbrev S2x1024 : Shape := ⟨2, ![2, 1024]⟩
abbrev S1x1024x2048 : Shape := ⟨3, ![1, 1024, 2048]⟩
abbrev S1x2048 : Shape := ⟨2, ![1, 2048]⟩
abbrev S1x1024 : Shape := ⟨2, ![1, 1024]⟩
abbrev S1024x2048 : Shape := ⟨2, ![1024, 2048]⟩
abbrev S1024x4x512 : Shape := ⟨3, ![1024, 4, 512]⟩
abbrev S4x1024x512 : Shape := ⟨3, ![4, 1024, 512]⟩
abbrev S8192x2048 : Shape := ⟨2, ![8192, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x512 : Shape := ⟨2, ![1, 512]⟩

abbrev nBuf : Space → Nat
  | .hbm => 11
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1x1024x2048, .f32⟩
  | .hbm, ⟨3, _⟩ => ⟨S1x2048, .f32⟩
  | .hbm, ⟨4, _⟩ => ⟨S1x1024, .f32⟩
  | .hbm, ⟨5, _⟩ => ⟨S1024x2048, .f32⟩
  | .hbm, ⟨6, _⟩ => ⟨S1024x4x512, .f32⟩
  | .hbm, ⟨7, _⟩ => ⟨S4x1024x512, .f32⟩
  | .hbm, ⟨8, _⟩ => ⟨S4x1024x512, .bf16⟩
  | .hbm, ⟨9, _⟩ => ⟨S8192x1024, .bf16⟩
  | .hbm, ⟨10, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x512, .bf16⟩
  | .local _ .vmem, ⟨4, _⟩ => ⟨S1x2048, .f32⟩
  | .local _ .vmem, ⟨5, _⟩ => ⟨S512x1024, .bf16⟩
  | .local _ .vmem, ⟨6, _⟩ => ⟨S512x1024, .bf16⟩
  | .local _ .vmem, ⟨7, _⟩ => ⟨S512x2048, .f32⟩
  | .local _ .vmem, ⟨8, _⟩ => ⟨S512x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Pw1RefIdeal.lean ====
abbrev S8192x1024 : Shape := ⟨2, ![8192, 1024]⟩
abbrev S2x1024 : Shape := ⟨2, ![2, 1024]⟩
abbrev S1x1024x2048 : Shape := ⟨3, ![1, 1024, 2048]⟩
abbrev S1x2048 : Shape := ⟨2, ![1, 2048]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2048 : Shape := ⟨2, ![1024, 2048]⟩
abbrev S8192x2048 : Shape := ⟨2, ![8192, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1x1024x2048, .f32⟩
  | .hbm, ⟨3, _⟩ => ⟨S1x2048, .f32⟩
  | .hbm, ⟨4, _⟩ => ⟨S1x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S1024x2048, .f32⟩
  | .hbm, ⟨24, _⟩ => ⟨S8192x2048, .f32⟩
  | .hbm, ⟨25, _⟩ => ⟨S8192x2048, .f32⟩
  | .hbm, ⟨26, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Res.lean ====
abbrev S8192x1024 : Shape := ⟨2, ![8192, 1024]⟩
abbrev S1x1024x1024 : Shape := ⟨3, ![1, 1024, 1024]⟩
abbrev S1x1024 : Shape := ⟨2, ![1, 1024]⟩
abbrev S2x1024 : Shape := ⟨2, ![2, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S1x1024, .f32⟩
  | .hbm, ⟨3, _⟩ => ⟨S8192x1024, .f32⟩
  | .hbm, ⟨4, _⟩ => ⟨S2x1024, .f32⟩
  | .hbm, ⟨5, _⟩ => ⟨S8192x1024, .bf16⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S8192x1024, .f32⟩
  | .hbm, ⟨10, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ResRefIdeal.lean ====
abbrev S8192x1024 : Shape := ⟨2, ![8192, 1024]⟩
abbrev S1x1024x1024 : Shape := ⟨3, ![1, 1024, 1024]⟩
abbrev S1x1024 : Shape := ⟨2, ![1, 1024]⟩
abbrev S2x1024 : Shape := ⟨2, ![2, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S1x1024, .f32⟩
  | .hbm, ⟨3, _⟩ => ⟨S8192x1024, .f32⟩
  | .hbm, ⟨4, _⟩ => ⟨S2x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Dn.lean ====
abbrev S8192x2816 : Shape := ⟨2, ![8192, 2816]⟩
abbrev S2x2816x1024 : Shape := ⟨3, ![2, 2816, 1024]⟩
abbrev S8192x1024 : Shape := ⟨2, ![8192, 1024]⟩
abbrev S8192x4x704 : Shape := ⟨3, ![8192, 4, 704]⟩
abbrev S4x8192x704 : Shape := ⟨3, ![4, 8192, 704]⟩
abbrev S2x4x704x1024 : Shape := ⟨4, ![2, 4, 704, 1024]⟩
abbrev S4x2x704x1024 : Shape := ⟨4, ![4, 2, 704, 1024]⟩
abbrev S4x512x704 : Shape := ⟨3, ![4, 512, 704]⟩
abbrev S4x1x704x1024 : Shape := ⟨4, ![4, 1, 704, 1024]⟩
abbrev S512x1024 : Shape := ⟨2, ![512, 1024]⟩
abbrev S1x512x704 : Shape := ⟨3, ![1, 512, 704]⟩
abbrev S512x704 : Shape := ⟨2, ![512, 704]⟩
abbrev S1x1x704x1024 : Shape := ⟨4, ![1, 1, 704, 1024]⟩
abbrev S704x1024 : Shape := ⟨2, ![704, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2x2816x1024, .f32⟩
  | .hbm, ⟨2, _⟩ => ⟨S8192x1024, .f32⟩
  | .hbm, ⟨3, _⟩ => ⟨S8192x4x704, .f32⟩
  | .hbm, ⟨4, _⟩ => ⟨S4x8192x704, .f32⟩
  | .hbm, ⟨5, _⟩ => ⟨S4x8192x704, .bf16⟩
  | .hbm, ⟨6, _⟩ => ⟨S2x4x704x1024, .f32⟩
  | .hbm, ⟨7, _⟩ => ⟨S4x2x704x1024, .f32⟩
  | .hbm, ⟨8, _⟩ => ⟨S4x2x704x1024, .bf16⟩
  | .hbm, ⟨9, _⟩ => ⟨S8192x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x1x704x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DnRefIdeal.lean ====
abbrev S8192x2816 : Shape := ⟨2, ![8192, 2816]⟩
abbrev S2x2816x1024 : Shape := ⟨3, ![2, 2816, 1024]⟩
abbrev S8192x1024 : Shape := ⟨2, ![8192, 1024]⟩
abbrev S1x2816x1024 : Shape := ⟨3, ![1, 2816, 1024]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2x2816x1024, .f32⟩
  | .hbm, ⟨2, _⟩ => ⟨S8192x1024, .f32⟩
  | .hbm, ⟨3, _⟩ => ⟨S1x2816x1024, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Nt.lean ====
abbrev S8192x1024 : Shape := ⟨2, ![8192, 1024]⟩
abbrev S1x1024x1024 : Shape := ⟨3, ![1, 1024, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S1024x1024, .f32⟩
  | .hbm, ⟨3, _⟩ => ⟨S1024x1024, .bf16⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NtRefIdeal.lean ====
abbrev S8192x1024 : Shape := ⟨2, ![8192, 1024]⟩
abbrev S1x1024x1024 : Shape := ⟨3, ![1, 1024, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Adam.lean ====
abbrev S1408x1024 : Shape := ⟨2, ![1408, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Qkv.lean ====
abbrev S8192x1024 : Shape := ⟨2, ![8192, 1024]⟩
abbrev S2x1024 : Shape := ⟨2, ![2, 1024]⟩
abbrev S1x1024x1280 : Shape := ⟨3, ![1, 1024, 1280]⟩
abbrev S1x1280 : Shape := ⟨2, ![1, 1280]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S8192x128 : Shape := ⟨2, ![8192, 128]⟩
abbrev S1x1024 : Shape := ⟨2, ![1, 1024]⟩
abbrev S1024x1280 : Shape := ⟨2, ![1024, 1280]⟩
abbrev S1280x1024 : Shape := ⟨2, ![1280, 1024]⟩
abbrev S8x128 : Shape := ⟨2, ![8, 128]⟩
abbrev S8192x1280 : Shape := ⟨2, ![8192, 1280]⟩
abbrev S512x1024 : Shape := ⟨2, ![512, 1024]⟩
abbrev S512x128 : Shape := ⟨2, ![512, 128]⟩
abbrev S512x1280 : Shape := ⟨2, ![512, 1280]⟩
abbrev S512 : Shape := ⟨1, ![512]⟩
abbrev S512x1 : Shape := ⟨2, ![512, 1]⟩
abbrev S512x1152 : Shape := ⟨2, ![512, 1152]⟩

abbrev nBuf : Space → Nat
  | .hbm => 68
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1x1024x1280, .f32⟩
  | .hbm, ⟨3, _⟩ => ⟨S1x1280, .f32⟩
  | .hbm, ⟨4, _⟩ => ⟨S8192, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S8192x1, .f32⟩
  | .hbm, ⟨20, _⟩ => ⟨S1x32, .f32⟩
  | .hbm, ⟨21, _⟩ => ⟨S4x32, .f32⟩
  | .hbm, ⟨22, _⟩ => ⟨S128, .f32⟩
  | .hbm, ⟨23, _⟩ => ⟨S1x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S128, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S128, .i32⟩
  | .hbm, ⟨35, _⟩ => ⟨S128, .i32⟩
  | .hbm, ⟨36, _⟩ => ⟨S_, .i32⟩
  | .hbm, ⟨37, _⟩ => ⟨S128, .i32⟩
  | .hbm, ⟨38, _⟩ => ⟨S128, .i1⟩
  | .hbm, ⟨39, _⟩ => ⟨S_, .i32⟩
  | .hbm, ⟨40, _⟩ => ⟨S128, .i32⟩
  | .hbm, ⟨41, _⟩ => ⟨S128, .i1⟩
  | .hbm, ⟨42, _⟩ => ⟨S_, .i32⟩
  | .hbm, ⟨43, _⟩ => ⟨S_, .i1⟩
  | .hbm, ⟨44, _⟩ => ⟨S128, .i1⟩
  | .hbm, ⟨45, _⟩ => ⟨S128, .i1⟩
  | .hbm, ⟨46, _⟩ => ⟨S128, .i1⟩
  | .hbm, ⟨47, _⟩ => ⟨S128, .i32⟩
  | .hbm, ⟨48, _⟩ => ⟨S128, .i32⟩
  | .hbm, ⟨49, _⟩ => ⟨S128, .i32⟩
  | .hbm, ⟨50, _⟩ => ⟨S_, .i32⟩
  | .hbm, ⟨51, _⟩ => ⟨S128, .i32⟩
  | .hbm, ⟨52, _⟩ => ⟨S128, .i1⟩
  | .hbm, ⟨53, _⟩ => ⟨S8192x128, .f32⟩
  | .hbm, ⟨54, _⟩ => ⟨S1x128, .i1⟩
  | .hbm, ⟨55, _⟩ => ⟨S8192x128, .f32⟩
  | .hbm, ⟨56, _⟩ => ⟨S8192x128, .f32⟩
  | .hbm, ⟨57, _⟩ => ⟨S8192x128, .f32⟩
  | .hbm, ⟨58, _⟩ => ⟨S8192x128, .i1⟩
  | .hbm, ⟨59, _⟩ => ⟨S8192x128, .f32⟩
  | .hbm, ⟨60, _⟩ => ⟨S1x1024, .f32⟩
  | .hbm, ⟨61, _⟩ => ⟨S1024x1280, .f32⟩
  | .hbm, ⟨62, _⟩ => ⟨S1280x1024, .f32⟩
  | .hbm, ⟨63, _⟩ => ⟨S1280x1024, .bf16⟩
  | .hbm, ⟨64, _⟩ => ⟨S_, .f32⟩
  | .hbm, ⟨65, _⟩ => ⟨S8x128, .f32⟩
  | .hbm, ⟨66, _⟩ => ⟨S8192x1024, .bf16⟩
  | .hbm, ⟨67, _⟩ => ⟨S8192x1280, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1280x1024, .bf16⟩
  | .local _ .vmem, ⟨4, _⟩ => ⟨S1x1280, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1024, .bf16⟩
  | .local _ .vmem, ⟨10, _⟩ => ⟨S512x1024, .bf16⟩
  | .local _ .vmem, ⟨11, _⟩ => ⟨S512x1280, .bf16⟩
  | .local _ .vmem, ⟨12, _⟩ => ⟨S512x1280, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_c_1 : Ref sig .tc := ⟨.hbm, 36, rfl⟩
abbrev main_call0_v5 : Ref sig .tc := ⟨.hbm, 37, rfl⟩
abbrev main_call0_v6 : Ref sig .tc := ⟨.hbm, 38, rfl⟩
abbrev main_call0_c_2 : Ref sig .tc := ⟨.hbm, 39, rfl⟩
abbrev main_call0_v7 : Ref sig .tc := ⟨.hbm, 40, rfl⟩
abbrev main_call0_v8 : Ref sig .tc := ⟨.hbm, 41, rfl⟩
abbrev main_call0_c_3 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_v20 : Ref sig .tc := ⟨.hbm, 49, rfl⟩
abbrev main_c_3 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_call1_v0 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_4 : Ref sig .tc := ⟨.hbm, 64, rfl⟩
abbrev main_v33 : Ref sig .tc := ⟨.hbm, 65, rfl⟩
abbrev main_v34_0 : Ref sig .tc := ⟨.hbm, 66, rfl⟩
abbrev main_v34_1 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1280 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QkvRefIdeal.lean ====
abbrev S8192x1024 : Shape := ⟨2, ![8192, 1024]⟩
abbrev S2x1024 : Shape := ⟨2, ![2, 1024]⟩
abbrev S1x1024x1280 : Shape := ⟨3, ![1, 1024, 1280]⟩
abbrev S1x1280 : Shape := ⟨2, ![1, 1280]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S1x1024 : Shape := ⟨2, ![1, 1024]⟩
abbrev S1024 : Shape := ⟨1, ![1024]⟩
abbrev S1024x1280 : Shape := ⟨2, ![1024, 1280]⟩
abbrev S8192x1280 : Shape := ⟨2, ![8192, 1280]⟩
abbrev S8192x16x64 : Shape := ⟨3, ![8192, 16, 64]⟩
abbrev S8192x16x32 : Shape := ⟨3, ![8192, 16, 32]⟩
abbrev S8192x128 : Shape := ⟨2, ![8192, 128]⟩
abbrev S8192x2x64 : Shape := ⟨3, ![8192, 2, 64]⟩
abbrev S8192x2x32 : Shape := ⟨3, ![8192, 2, 32]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1x1024x1280, .f32⟩
  | .hbm, ⟨3, _⟩ => ⟨S1x1280, .f32⟩
  | .hbm, ⟨4, _⟩ => ⟨S8192, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S8192x1, .f32⟩
  | .hbm, ⟨20, _⟩ => ⟨S1x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x1x32, .f32⟩
  | .hbm, ⟨26, _⟩ => ⟨S8192x32, .f32⟩
  | .hbm, ⟨27, _⟩ => ⟨S8192x1x32, .f32⟩
  | .hbm, ⟨28, _⟩ => ⟨S1x1024, .f32⟩
  | .hbm, ⟨29, _⟩ => ⟨S1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S1024x1280, .f32⟩
  | .hbm, ⟨47, _⟩ => ⟨S8192x1280, .f32⟩
  | .hbm, ⟨48, _⟩ => ⟨S8192x1280, .f32⟩
  | .hbm, ⟨49, _⟩ => ⟨S8192x1280, .f32⟩
  | .hbm, ⟨50, _⟩ => ⟨S8192x1024, .f32⟩
  | .hbm, ⟨51, _⟩ => ⟨S8192x16x64, .f32⟩
  | .hbm, ⟨52, _⟩ => ⟨S8192x16x32, .f32⟩
  | .hbm, ⟨53, _⟩ => ⟨S8192x16x32, .f32⟩
  | .hbm, ⟨54, _⟩ => ⟨S8192x16x32, .f32⟩
  | .hbm, ⟨55, _⟩ => ⟨S8192x16x32, .f32⟩
  | .hbm, ⟨56, _⟩ => ⟨S8192x16x32, .f32⟩
  | .hbm, ⟨57, _⟩ => ⟨S8192x16x32, .f32⟩
  | .hbm, ⟨58, _⟩ => ⟨S8192x16x32, .f32⟩
  | .hbm, ⟨59, _⟩ => ⟨S8192x16x32, .f32⟩
  | .hbm, ⟨60, _⟩ => ⟨S8192x16x32, .f32⟩
  | .hbm, ⟨61, _⟩ => ⟨S8192x16x32, .f32⟩
  | .hbm, ⟨62, _⟩ => ⟨S8192x16x32, .f32⟩
  | .hbm, ⟨63, _⟩ => ⟨S8192x16x32, .f32⟩
  | .hbm, ⟨64, _⟩ => ⟨S8192x16x64, .f32⟩
  | .hbm, ⟨65, _⟩ => ⟨S8192x128, .f32⟩
  | .hbm, ⟨66, _⟩ => ⟨S8192x2x64, .f32⟩
  | .hbm, ⟨67, _⟩ => ⟨S8192x2x32, .f32⟩
  | .hbm, ⟨68, _⟩ => ⟨S8192x2x32, .f32⟩
  | .hbm, ⟨69, _⟩ => ⟨S8192x2x32, .f32⟩
  | .hbm, ⟨70, _⟩ => ⟨S8192x2x32, .f32⟩
  | .hbm, ⟨71, _⟩ => ⟨S8192x2x32, .f32⟩
  | .hbm, ⟨72, _⟩ => ⟨S8192x2x32, .f32⟩
  | .hbm, ⟨73, _⟩ => ⟨S8192x2x32, .f32⟩
  | .hbm, ⟨74, _⟩ => ⟨S8192x2x32, .f32⟩
  | .hbm, ⟨75, _⟩ => ⟨S8192x2x32, .f32⟩
  | .hbm, ⟨76, _⟩ => ⟨S8192x2x32, .f32⟩
  | .hbm, ⟨77, _⟩ => ⟨S8192x2x32, .f32⟩
  | .hbm, ⟨78, _⟩ => ⟨S8192x2x32, .f32⟩
  | .hbm, ⟨79, _⟩ => ⟨S8192x2x64, .f32⟩
  | .hbm, ⟨80, _⟩ => ⟨S8192x1024, .f32⟩
  | .hbm, ⟨81, _⟩ => ⟨S8192x128, .f32⟩
  | .hbm, ⟨82, _⟩ => ⟨S8192x128, .f32⟩
  | .hbm, ⟨83, _⟩ => ⟨S8192x1280, .f32⟩
  | .hbm, ⟨84, _⟩ => ⟨S8192x1024, .bf16⟩
  | .hbm, ⟨85, _⟩ => ⟨S8192x1280, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩

abbrev nD : Nat := 1
abbrev τ : Topo := Topo.v7x

variable {F : FTy → Type} [FloatOps F]
-- ==== Tn.lean ====
abbrev S8192x1024 : Shape := ⟨2, ![8192, 1024]⟩
abbrev S8192x2816 : Shape := ⟨2, ![8192, 2816]⟩
abbrev S8192x4x704 : Shape := ⟨3, ![8192, 4, 704]⟩
abbrev S4x8192x704 : Shape := ⟨3, ![4, 8192, 704]⟩
abbrev S4x704x1024 : Shape := ⟨3, ![4, 704, 1024]⟩
abbrev S4x1024x704 : Shape := ⟨3, ![4, 1024, 704]⟩
abbrev S1024x1024 : Shape := ⟨2, ![1024, 1024]⟩
abbrev S1x704x1024 : Shape := ⟨3, ![1, 704, 1024]⟩
abbrev S704x1024 : Shape := ⟨2, ![704, 1024]⟩
abbrev S1x1024x704 : Shape := ⟨3, ![1, 1024, 704]⟩
abbrev S1024x704 : Shape := ⟨2, ![1024, 704]⟩

abbrev nBuf : Space → Nat
  | .hbm => 7
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x4x704, .f32⟩
  | .hbm, ⟨3, _⟩ => ⟨S4x8192x704, .f32⟩
  | .hbm, ⟨4, _⟩ => ⟨S4x8192x704, .bf16⟩
  | .hbm, ⟨5, _⟩ => ⟨S8192x1024, .bf16⟩
  | .hbm, ⟨6, _⟩ => ⟨S4x704x1024, .f32⟩
  | .local _ .vmem, ⟨0, _⟩ => ⟨S4x1024x704, .bf16⟩
  | .local _ .vmem, ⟨1, _⟩ => ⟨S4x1024x704, .bf16⟩
  | .local _ .vmem, ⟨2, _⟩ => ⟨S1024x1024, .bf16⟩
  | .local _ .vmem, ⟨3, _⟩ => ⟨S1024x1024, .bf16⟩
  | .local _ .vmem, ⟨4, _⟩ => ⟨S4x704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x704x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== TnRefIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S4x704x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Half.lean ====
abbrev S4x704x1024 : Shape := ⟨3, ![4, 704, 1024]⟩
abbrev S4x352x1024 : Shape := ⟨3, ![4, 352, 1024]⟩
abbrev S_ : Shape := ⟨0, ![]⟩
abbrev S1 : Shape := ⟨1, ![1]⟩
abbrev S1x352x1024 : Shape := ⟨3, ![1, 352, 1024]⟩

abbrev nBuf : Space → Nat
  | .hbm => 4
  | .vmem => 6
  | .smem => 1
  | _ => 0

abbrev bufTy : (tb : Table) → Fin (tcTables nBuf tb) → BufTy
  | .hbm, ⟨0, _⟩ => ⟨S4x704x1024, .f32⟩
  | .hbm, ⟨1, _⟩ => ⟨S4x352x1024, .f32⟩
  | .hbm, ⟨2, _⟩ => ⟨S_, .i32⟩
  | .hbm, ⟨3, _⟩ => ⟨S4x352x1024, .bf16⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .bf16⟩
  | .local _ .vmem, ⟨5, _⟩ => ⟨S1x352x1024, .bf16⟩
  | .local _ .smem, ⟨0, _⟩ => ⟨S1, .i32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HalfRefIdeal.lean ====
abbrev S4x704x1024 : Shape := ⟨3, ![4, 704, 1024]⟩
abbrev S4x352x1024 : Shape := ⟨3, ![4, 352, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .bf16⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Part.lean ====
abbrev S4x704x1024 : Shape := ⟨3, ![4, 704, 1024]⟩
abbrev S4x352x1024 : Shape := ⟨3, ![4, 352, 1024]⟩
abbrev S3x352x1024 : Shape := ⟨3, ![3, 352, 1024]⟩
abbrev S1408x1024 : Shape := ⟨2, ![1408, 1024]⟩
abbrev S2 : Shape := ⟨1, ![2]⟩
abbrev S1x352x1024 : Shape := ⟨3, ![1, 352, 1024]⟩
abbrev S1 : Shape := ⟨1, ![1]⟩
abbrev S352x1024 : Shape := ⟨2, ![352, 1024]⟩

abbrev nBuf : Space → Nat
  | .hbm => 6
  | .vmem => 4
  | .smem => 1
  | _ => 0

abbrev bufTy : (tb : Table) → Fin (tcTables nBuf tb) → BufTy
  | .hbm, ⟨0, _⟩ => ⟨S4x704x1024, .f32⟩
  | .hbm, ⟨1, _⟩ => ⟨S4x352x1024, .f32⟩
  | .hbm, ⟨2, _⟩ => ⟨S3x352x1024, .f32⟩
  | .hbm, ⟨3, _⟩ => ⟨S1408x1024, .f32⟩
  | .hbm, ⟨4, _⟩ => ⟨S3x352x1024, .bf16⟩
  | .hbm, ⟨5, _⟩ => ⟨S1408x1024, .f32⟩
  | .local _ .vmem, ⟨0, _⟩ => ⟨S1x352x1024, .f32⟩
  | .local _ .vmem, ⟨1, _⟩ => ⟨S1x352x1024, .f32⟩
  | .local _ .vmem, ⟨2, _⟩ => ⟨S3x352x1024, .bf16⟩
  | .local _ .vmem, ⟨3, _⟩ => ⟨S352x1024, .f32⟩
  | .local _ .smem, ⟨0, _⟩ => ⟨S2, .i32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c1 : Index := 1#32
  let v1 : BitVec 32 := pf.at 0 (Rect.unit (s := S2) ![1] S1.size inb_S2_S1_1) numel1_S1
  let c1_i32 : BitVec 32 := 1#32
  let v2 : BitVec 32 := Scalar.muli v1 c1_i32
  let v3 : BitVec 32 := Scalar.addi v2 arg0
  let c0_i32 : BitVec 32 := 0#32
  let c0_i32_0 : BitVec 32 := 0#32
  ![v0.toNat, v3.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c2_i32 : BitVec 32 := 2#32
  let v1 : BitVec 32 := Scalar.addi c2_i32 v0
  let c1_i32 : BitVec 32 := 1#32
  let v2 : BitVec 32 := Scalar.muli v1 c1_i32
  let v3 : BitVec 32 := Scalar.addi v2 arg0
  let c0_i32 : BitVec 32 := 0#32
  let c0_i32_0 : BitVec 32 := 0#32
  ![v3.toNat, c0_i32.toNat]

abbrev stage0_0 : Fin 1 → Memref sig .tc .vmem S1x352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== PartRefIdeal.lean ====
abbrev S4x704x1024 : Shape := ⟨3, ![4, 704, 1024]⟩
abbrev S4x352x1024 : Shape := ⟨3, ![4, 352, 1024]⟩
abbrev S3x352x1024 : Shape := ⟨3, ![3, 352, 1024]⟩
abbrev S1408x1024 : Shape := ⟨2, ![1408, 1024]⟩
abbrev S1x352x1024 : Shape := ⟨3, ![1, 352, 1024]⟩
abbrev S352x1024 : Shape := ⟨2, ![352, 1024]⟩
abbrev S1056x1024 : Shape := ⟨2, ![1056, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x352x1024, .f32⟩
  | .hbm, ⟨2, _⟩ => ⟨S3x352x1024, .f32⟩
  | .hbm, ⟨3, _⟩ => ⟨S1408x1024, .f32⟩
  | .hbm, ⟨4, _⟩ => ⟨S1x352x1024, .f32⟩
  | .hbm, ⟨5, _⟩ => ⟨S352x1024, .f32⟩
  | .hbm, ⟨6, _⟩ => ⟨S1x352x1024, .f32⟩
  | .hbm, ⟨7, _⟩ => ⟨S352x1024, .f32⟩
  | .hbm, ⟨8, _⟩ => ⟨S352x1024, .f32⟩
  | .hbm, ⟨9, _⟩ => ⟨S1x352x1024, .f32⟩
  | .hbm, ⟨10, _⟩ => ⟨S352x1024, .f32⟩
  | .hbm, ⟨11, _⟩ => ⟨S352x1024, .f32⟩
  | .hbm, ⟨12, _⟩ => ⟨S1x352x1024, .f32⟩
  | .hbm, ⟨13, _⟩ => ⟨S352x1024, .f32⟩
  | .hbm, ⟨14, _⟩ => ⟨S352x1024, .f32⟩
  | .hbm, ⟨15, _⟩ => ⟨S1x352x1024, .f32⟩
  | .hbm, ⟨16, _⟩ => ⟨S352x1024, .f32⟩
  | .hbm, ⟨17, _⟩ => ⟨S352x1024, .f32⟩
  | .hbm, ⟨18, _⟩ => ⟨S1056x1024, .f32⟩
  | .hbm, ⟨19, _⟩ => ⟨S1408x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Cast.lean ====
abbrev S4x1408x1024 : Shape := ⟨3, ![4, 1408, 1024]⟩
abbrev S1408x1024 : Shape := ⟨2, ![1408, 1024]⟩
abbrev S_ : Shape := ⟨0, ![]⟩
abbrev S1 : Shape := ⟨1, ![1]⟩
abbrev S352x1024 : Shape := ⟨2, ![352, 1024]⟩
abbrev S1x352x1024 : Shape := ⟨3, ![1, 352, 1024]⟩

abbrev nBuf : Space → Nat
  | .hbm => 5
  | .vmem => 4
  | .smem => 1
  | _ => 0

abbrev bufTy : (tb : Table) → Fin (tcTables nBuf tb) → BufTy
  | .hbm, ⟨0, _⟩ => ⟨S4x1408x1024, .f32⟩
  | .hbm, ⟨1, _⟩ => ⟨S1408x1024, .f32⟩
  | .hbm, ⟨2, _⟩ => ⟨S4x1408x1024, .bf16⟩
  | .hbm, ⟨3, _⟩ => ⟨S_, .i32⟩
  | .hbm, ⟨4, _⟩ => ⟨S4x1408x1024, .bf16⟩
  | .local _ .vmem, ⟨0, _⟩ => ⟨S352x1024, .f32⟩
  | .local _ .vmem, ⟨1, _⟩ => ⟨S352x1024, .f32⟩
  | .local _ .vmem, ⟨2, _⟩ => ⟨S1x352x1024, .bf16⟩
  | .local _ .vmem, ⟨3, _⟩ => ⟨S1x352x1024, .bf16⟩
  | .local _ .smem, ⟨0, _⟩ => ⟨S1, .i32⟩
  | _, _ => ⟨S4x1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v2 : Ref sig .tc := ⟨.hbm, 4, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastRefIdeal.lean ====
abbrev S4x1408x1024 : Shape := ⟨3, ![4, 1408, 1024]⟩
abbrev S1408x1024 : Shape := ⟨2, ![1408, 1024]⟩
abbrev S3x1408x1024 : Shape := ⟨3, ![3, 1408, 1024]⟩
abbrev S1x1408x1024 : Shape := ⟨3, ![1, 1408, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x1408x1024, .f32⟩
  | .hbm, ⟨1, _⟩ => ⟨S1408x1024, .f32⟩
  | .hbm, ⟨2, _⟩ => ⟨S3x1408x1024, .f32⟩
  | .hbm, ⟨3, _⟩ => ⟨S1x1408x1024, .f32⟩
  | .hbm, ⟨4, _⟩ => ⟨S4x1408x1024, .f32⟩
  | .hbm, ⟨5, _⟩ => ⟨S4x1408x1024, .bf16⟩
  | _, _ => ⟨S4x1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Real.lean ====
/-
  Finite extended reals. A finite array is the coercion of a real one, and the operations of the ideal instance on
  coercions are coercions again: the lemmas `lift` lists carry a formula over finite extended reals to the same formula
  over the reals, where ring identities hold.
-/
module

public import Idealize.ShloMosaic.Lib.Pointwise

@[expose] public section

noncomputable section

open Idealize.ShloMosaic

namespace Cert.Lift

/-- Where `|x| < ∞` holds elementwise, `x` is an array of real numbers. -/
theorem exists_real {S : Shape} {x : FVec Ideal S .f32} {hb : (⟨0, ![]⟩ : Shape).BroadcastsInDim S (![] : Fin 0 → Fin S.rank)}
    (h : cmpf .olt (Host.absf x) (broadcastInDim S ![] hb (constant ⟨0, ![]⟩ .f32 0x7F800000#32)) = fun _ => 1#1) :
    ∃ X : S.Idx → ℝ, x = fun i => (X i : EReal) := by
  have key : ∀ i, ∃ r : ℝ, x i = r := by
    intro i
    have hi : Ideal.cmp .olt (max (x i) (-(x i))) (Ideal.ofBits .f32 0x7F800000#32) = 1#1 := congrFun h i
    have hinf : Ideal.ofBits .f32 0x7F800000#32 = ⊤ := by simp [Ideal.ofBits, Ideal.ieee]
    rw [hinf] at hi
    have hlt : max (x i) (-(x i)) < ⊤ := by
      by_contra hn
      simp [Ideal.cmp, hn] at hi
    rw [max_lt_iff] at hlt
    refine ⟨(x i).toReal, (EReal.coe_toReal hlt.1.ne fun hb => ?_).symm⟩
    rw [hb] at hlt
    exact absurd hlt.2 (by simp)
  choose X hX using key
  exact ⟨X, funext hX⟩

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_coe {x y : ℝ} (h : y ≠ 0) : Ideal.div (x : EReal) (y : EReal) = ((x / y : ℝ) : EReal) := by
  rw [Ideal.div_coe h, ← EReal.coe_mul]; congr 1; ring

theorem rsqrt_coe {x : ℝ} (h : 0 < x) : Ideal.rsqrt (x : EReal) = (((Real.sqrt x)⁻¹ : ℝ) : EReal) := by
  rw [Ideal.rsqrt_coe, if_neg (not_lt.mpr h.le), if_neg h.ne']

theorem bits_1024 : Ideal.ofBits .f32 1149239296#32 = ((1024 : ℝ) : EReal) := by
  simp [Ideal.ofBits, Ideal.ieee]; rw [← EReal.coe_mul]; norm_num

/-- The norms' `1e-5`, rounded to a float word. -/
def eps : ℝ := 10995116 / 2 ^ 40

theorem bits_eps : Ideal.ofBits .f32 925353388#32 = ((eps : ℝ) : EReal) := by
  simp [Ideal.ofBits, Ideal.ieee, eps]; rw [← EReal.coe_mul]; norm_num

theorem bits_neg_half : Ideal.ofBits .f32 3204448256#32 = ((-(1 / 2) : ℝ) : EReal) := by
  simp [Ideal.ofBits, Ideal.ieee]; rw [← EReal.coe_mul]; norm_num

theorem eps_pos : 0 < eps := by unfold eps; norm_num

/-- A sum accumulated block of rows by block of rows is the sum over all rows. -/
theorem sum_rows {T B K : ℕ} (hT : (K + 1) * B = T) (f : Fin T → EReal) (a : (n : ℕ) → n < K + 1 → EReal)
    (h0 : ∀ h, a 0 h = ∑ r : Fin B, f ⟨0 * B + r.val, by have := r.isLt; nlinarith⟩)
    (hs : ∀ n (h : n + 1 < K + 1), a (n + 1) h = a n (Nat.lt_of_succ_lt h)
      + ∑ r : Fin B, f ⟨(n + 1) * B + r.val, by have := r.isLt; nlinarith⟩) :
    a K (Nat.lt_succ_self K) = ∑ R, f R := by
  have key : ∀ n (h : n < K + 1), a n h = ∑ R ∈ Finset.range ((n + 1) * B), if h : R < T then f ⟨R, h⟩ else 0 := by
    intro n
    induction n with
    | zero =>
      intro h
      rw [h0, Finset.sum_range, zero_add, one_mul]
      refine Finset.sum_congr rfl fun r _ => ?_
      have := r.isLt
      rw [dif_pos (by nlinarith)]
      congr 1; apply Fin.ext; simp
    | succ n ih =>
      intro h
      rw [hs, ih, show (n + 1 + 1) * B = (n + 1) * B + B by ring, Finset.sum_range_add, Finset.sum_range (n := B)]
      congr 1
      refine Finset.sum_congr rfl fun r _ => ?_
      have := r.isLt
      rw [dif_pos (by nlinarith)]
  rw [key, hT, Finset.sum_range]
  exact Finset.sum_congr rfl fun R _ => dif_pos R.isLt

/-- A sum over rows, block by block. -/
theorem sum_blocks {T B K : ℕ} (hT : (K + 1) * B = T) (f : Fin T → EReal) :
    ∑ R, f R = ∑ n : Fin (K + 1), ∑ r : Fin B, f ⟨n.val * B + r.val, by have := r.isLt; have := n.isLt; nlinarith⟩ := by
  refine (sum_rows hT f (fun n h => ∑ k : Fin (n + 1), ∑ r : Fin B, f ⟨k.val * B + r.val, by have := r.isLt; have := k.isLt; nlinarith⟩) ?_ ?_).symm
  · intro h
    rw [Fin.sum_univ_one]
    rfl
  · intro n h
    rw [Fin.sum_univ_castSucc]
    rfl

end Cert.Lift

end
-- ==== Proof.Norm.lean ====
/-
  The gradient of an RMS norm of a row of 1024 numbers, in the two forms the programs write it: the kernel's (one formula
  with the cube of the reciprocal root) and the derivative's (the chain rule through square, mean, root and product), and
  their equality where the row and the gradient that arrives are real numbers.
-/
module

public import proofs.«01_k».proof.Proof.Real

@[expose] public section

noncomputable section

open Idealize.ShloMosaic

namespace Cert.Norm

/-- The reciprocal root of the row's mean square. -/
def rstd (x : Fin 1024 → EReal) : EReal :=
  Ideal.rsqrt (Ideal.div (∑ k, x k * x k) (Ideal.ofBits .f32 1149239296#32) + Ideal.ofBits .f32 925353388#32)

/-- The kernel's row: `e` is the gradient that goes past the norm, `d` the one that arrives at its result, `g` the gain. -/
def out (x d g e : Fin 1024 → EReal) (j : Fin 1024) : EReal :=
  e j + (rstd x * (d j * g j) - x j * (rstd x * rstd x * rstd x) * Ideal.div (∑ k, d k * g k * x k) (Ideal.ofBits .f32 1149239296#32))

/-- A row's part of the gain's gradient. -/
def gain (x d : Fin 1024 → EReal) (j : Fin 1024) : EReal := d j * (x j * rstd x)

/-- The derivative through the mean square, as the chain rule writes it. -/
def chain (x d g : Fin 1024 → EReal) : EReal :=
  Ideal.div ((∑ k, x k * (d k * g k)) * (Ideal.ofBits .f32 3204448256#32 * Ideal.div (rstd x)
    (Ideal.div (∑ k, x k * x k) (Ideal.ofBits .f32 1149239296#32) + Ideal.ofBits .f32 925353388#32))) (Ideal.ofBits .f32 1149239296#32)

/-- The derivative's row. -/
def vjp (x d g e : Fin 1024 → EReal) (j : Fin 1024) : EReal :=
  e j + d j * g j * rstd x + x j * chain x d g + chain x d g * x j

theorem meanSq_pos (X : Fin 1024 → ℝ) : 0 < (∑ k, X k * X k) / 1024 + Lift.eps :=
  add_pos_of_nonneg_of_pos (div_nonneg (Finset.sum_nonneg fun k _ => mul_self_nonneg _) (by norm_num)) Lift.eps_pos

theorem vjp_eq_out (X D G : Fin 1024 → ℝ) (e : Fin 1024 → EReal) (j : Fin 1024) :
    vjp (fun k => X k) (fun k => D k) (fun k => G k) e j = out (fun k => X k) (fun k => D k) (fun k => G k) e j := by
  have hs := meanSq_pos X
  have hr : 0 < Real.sqrt ((∑ k, X k * X k) / 1024 + Lift.eps) := Real.sqrt_pos.mpr hs
  simp only [vjp, out, chain, rstd, Lift.bits_1024, Lift.bits_eps, Lift.bits_neg_half, ← EReal.coe_mul, Lift.coe_sum,
    Lift.div_coe (show (1024 : ℝ) ≠ 0 by norm_num), ← EReal.coe_add, ← EReal.coe_sub, Lift.rsqrt_coe hs, Lift.div_coe hs.ne', add_assoc]
  congr 2
  have hc : (∑ k, X k * (D k * G k)) = ∑ k, D k * G k * X k := Finset.sum_congr rfl fun k _ => by ring
  rw [hc]
  have hq : Real.sqrt ((∑ k, X k * X k) / 1024 + Lift.eps) ^ 2 = (∑ k, X k * X k) / 1024 + Lift.eps := Real.sq_sqrt hs.le
  generalize (∑ k, D k * G k * X k) = q
  generalize hS : (∑ k, X k * X k) / 1024 + Lift.eps = s at *
  generalize Real.sqrt s = t at *
  rw [← hq]
  field_simp
  ring

/-- The chain rule's row is the kernel's wherever the row, the arriving gradient and the gain are finite. -/
theorem vjp_eq_out' {x d g : Fin 1024 → EReal} (hx : ∃ X : Fin 1024 → ℝ, x = fun k => (X k : EReal))
    (hd : ∃ D : Fin 1024 → ℝ, d = fun k => (D k : EReal)) (hg : ∃ G : Fin 1024 → ℝ, g = fun k => (G k : EReal))
    (e : Fin 1024 → EReal) (j : Fin 1024) : vjp x d g e j = out x d g e j := by
  obtain ⟨X, rfl⟩ := hx
  obtain ⟨D, rfl⟩ := hd
  obtain ⟨G, rfl⟩ := hg
  exact vjp_eq_out X D G e j

end Cert.Norm

end
-- ==== Proof.FfnIn.Points.lean ====
/-
  The FFN input's gradient, one grid point at a time: what a point leaves in its three output buffers, read at an index,
  as the norm's gradient of the point's 512 rows.
-/
module

public import proofs.«01_k».proof.Proof.Norm
public import proofs.«01_k».proof.Proof.Gen.FfnInIdeal.Value

@[expose] public section

noncomputable section

open Idealize.ShloMosaic Idealize.ShloMosaic.TcCoe Idealize.SL.Sem
open Idealize.ShloMosaic.Pipeline (Dat)

namespace Cert.FfnInIdeal.Value
open Cert.FfnInIdeal Cert.FfnInIdeal.Gen

variable (m : (ℓ : Loc nD τ sig) → Buf (Elt Ideal) ℓ)

theorem hz : (![0, 0] : Fin 2 → Nat) = fun _ => 0 := funext fun a => by fin_cases a <;> rfl

/-- The gradient that arrives at the norm's result, of a block's row: the eight slab products, in the body's order. -/
def df (x0 x1 : Vec Ideal S4x512x704 .bf16) (x2 x3 : Vec Ideal S4x1x704x1024 .bf16) (r : Fin 512) (j : Fin 1024) : EReal :=
  ∑ x, x0 (ix3 0 r x) * x2 (ix4 0 0 x j) + ∑ x, x0 (ix3 1 r x) * x2 (ix4 1 0 x j) + ∑ x, x0 (ix3 2 r x) * x2 (ix4 2 0 x j)
    + ∑ x, x0 (ix3 3 r x) * x2 (ix4 3 0 x j) + ∑ x, x1 (ix3 0 r x) * x3 (ix4 0 0 x j) + ∑ x, x1 (ix3 1 r x) * x3 (ix4 1 0 x j)
    + ∑ x, x1 (ix3 2 r x) * x3 (ix4 2 0 x j) + ∑ x, x1 (ix3 3 r x) * x3 (ix4 3 0 x j)

/-- Row `r` of the block the norm's gradient is taken of, at point `t`. -/
def row (c : Dev nD) (t : Fin cfg0.N) (r : Fin 512) (j : Fin 1024) : EReal := (iblk m c 4 t : Vec Ideal S512x1024 .f32) (ix2 r j)

/-- The gradient that arrives at the norm's result. -/
def grad (c : Dev nD) (t : Fin cfg0.N) (r : Fin 512) (j : Fin 1024) : EReal := df (iblk m c 0 t) (iblk m c 1 t) (iblk m c 2 t) (iblk m c 3 t) r j

/-- The norm's gain. -/
def gains (c : Dev nD) (t : Fin cfg0.N) (j : Fin 1024) : EReal := (iblk m c 5 t : Vec Ideal S1x1024 .f32) (ix2 0 j)

/-- The gradient that goes past the norm. -/
def past (c : Dev nD) (t : Fin cfg0.N) (r : Fin 512) (j : Fin 1024) : EReal := (iblk m c 6 t : Vec Ideal S512x1024 .f32) (ix2 r j)

set_option maxHeartbeats 2000000 in
theorem out_A (c : Dev nD) (t : Fin cfg0.N) (h0 : t.val % 16 = 0) (r : Fin 512) (j : Fin 1024) :
    (outsAt0 m c t.val t.isLt).1 (ix2 r j) = Norm.out (row m c t r) (grad m c t r) (gains m c t) (past m c t r) j := by
  rw [outsAt0_A m c t h0]
  dsimp only
  unfold out0_A_7
  rw [View.read_writes_eq_canon _ _ _ (fun _ => cover0_A_7 ..)]
  unfold kernelRun0_A row grad gains past
  dsimp only
  sl_unfold_words
  rw [View.canon_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, View.ld_unit_zero (S := S512x1024) hz, View.ld_unit_zero (S := S1x1024) hz]
  generalize iblk m c 0 t = x0, iblk m c 1 t = x1, iblk m c 2 t = x2, iblk m c 3 t = x3, iblk m c 4 t = x4, iblk m c 5 t = x5, iblk m c 6 t = x6
  unfold_payloads
  pointwise [dot_S512x704_S704x1024_S512x1024_1_0_0_1_n_n]
  rfl

set_option maxHeartbeats 2000000 in
theorem out_B (c : Dev nD) (t : Fin cfg0.N) (h0 : ¬t.val % 16 = 0) (r : Fin 512) (j : Fin 1024) :
    (outsAt0 m c t.val t.isLt).1 (ix2 r j) = Norm.out (row m c t r) (grad m c t r) (gains m c t) (past m c t r) j := by
  rw [outsAt0_B m c t h0]
  dsimp only
  unfold out0_B_7
  rw [View.read_writes_eq_canon _ _ _ (fun _ => cover0_B_7 ..)]
  unfold kernelRun0_B row grad gains past
  dsimp only
  sl_unfold_words
  rw [View.canon_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, View.ld_unit_zero (S := S512x1024) hz, View.ld_unit_zero (S := S1x1024) hz]
  generalize iblk m c 0 t = x0, iblk m c 1 t = x1, iblk m c 2 t = x2, iblk m c 3 t = x3, iblk m c 4 t = x4, iblk m c 5 t = x5, iblk m c 6 t = x6
  unfold_payloads
  pointwise [dot_S512x704_S704x1024_S512x1024_1_0_0_1_n_n]
  rfl

set_option maxHeartbeats 2000000 in
theorem sum_A (c : Dev nD) (t : Fin cfg0.N) (h0 : t.val % 16 = 0) (j : Fin 1024) :
    (outsAt0 m c t.val t.isLt).2.1 (ix2 0 j) = ∑ r, Norm.gain (row m c t r) (grad m c t r) j := by
  rw [outsAt0_A m c t h0]
  dsimp only
  unfold out0_A_8
  rw [View.read_writes_eq_canon _ _ _ (fun _ => cover0_A_8 ..)]
  unfold kernelRun0_A row grad
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread, (hs0_3 t).read_unread,
    (hs0_4 t).read_unread, (hs0_5 t).read_unread, (hs0_6 t).read_unread, View.ld_unit_zero (S := S512x1024) hz, View.ld_unit_zero (S := S1x1024) hz]
  generalize iblk m c 0 t = x0, iblk m c 1 t = x1, iblk m c 2 t = x2, iblk m c 3 t = x3, iblk m c 4 t = x4
  unfold_payloads
  pointwise [dot_S512x704_S704x1024_S512x1024_1_0_0_1_n_n]
  rfl

set_option maxHeartbeats 2000000 in
theorem sum_B (c : Dev nD) (t : Fin cfg0.N) (h0 : ¬t.val % 16 = 0) (j : Fin 1024) :
    (outsAt0 m c t.val t.isLt).2.1 (ix2 0 j) = (outsAt0 m c (t.val - 1) (Nat.lt_of_le_of_lt (Nat.sub_le _ _) t.isLt)).2.1 (ix2 0 j)
      + ∑ r, Norm.gain (row m c t r) (grad m c t r) j := by
  rw [outsAt0_B m c t h0]
  dsimp only
  unfold out0_B_8
  rw [View.read_writes_eq_canon _ _ _ (fun _ => cover0_B_8 ..)]
  unfold kernelRun0_B row grad
  dsimp only
  sl_unfold_words
  rw [View.canon_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_8 t).read_unread, View.ld_unit_zero (S := S512x1024) hz, View.ld_unit_zero (S := S1x1024) hz]
  generalize iblk m c 0 t = x0, iblk m c 1 t = x1, iblk m c 2 t = x2, iblk m c 3 t = x3, iblk m c 4 t = x4
  unfold_payloads
  pointwise [dot_S512x704_S704x1024_S512x1024_1_0_0_1_n_n]
  rfl

set_option maxHeartbeats 2000000 in
theorem col_A (c : Dev nD) (t : Fin cfg0.N) (h0 : t.val % 16 = 0) (j : Fin 1024) :
    (outsAt0 m c t.val t.isLt).2.2 (ix2 0 j) = ∑ r, Norm.out (row m c t r) (grad m c t r) (gains m c t) (past m c t r) j := by
  rw [outsAt0_A m c t h0]
  dsimp only
  unfold out0_A_9
  rw [View.read_writes_eq_canon _ _ _ (fun _ => cover0_A_9 ..)]
  unfold kernelRun0_A row grad gains past
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread, (hs0_3 t).read_unread,
    (hs0_4 t).read_unread, (hs0_5 t).read_unread, (hs0_6 t).read_unread, View.ld_unit_zero (S := S512x1024) hz, View.ld_unit_zero (S := S1x1024) hz]
  generalize iblk m c 0 t = x0, iblk m c 1 t = x1, iblk m c 2 t = x2, iblk m c 3 t = x3, iblk m c 4 t = x4, iblk m c 5 t = x5, iblk m c 6 t = x6
  unfold_payloads
  pointwise [dot_S512x704_S704x1024_S512x1024_1_0_0_1_n_n]
  rfl

set_option maxHeartbeats 2000000 in
theorem col_B (c : Dev nD) (t : Fin cfg0.N) (h0 : ¬t.val % 16 = 0) (j : Fin 1024) :
    (outsAt0 m c t.val t.isLt).2.2 (ix2 0 j) = (outsAt0 m c (t.val - 1) (Nat.lt_of_le_of_lt (Nat.sub_le _ _) t.isLt)).2.2 (ix2 0 j)
      + ∑ r, Norm.out (row m c t r) (grad m c t r) (gains m c t) (past m c t r) j := by
  rw [outsAt0_B m c t h0]
  dsimp only
  unfold out0_B_9
  rw [View.read_writes_eq_canon _ _ _ (fun _ => cover0_B_9 ..)]
  unfold kernelRun0_B row grad gains past
  dsimp only
  sl_unfold_words
  rw [View.canon_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_9 t).read_unread, View.ld_unit_zero (S := S512x1024) hz, View.ld_unit_zero (S := S1x1024) hz]
  generalize iblk m c 0 t = x0, iblk m c 1 t = x1, iblk m c 2 t = x2, iblk m c 3 t = x3, iblk m c 4 t = x4, iblk m c 5 t = x5, iblk m c 6 t = x6
  unfold_payloads
  pointwise [dot_S512x704_S704x1024_S512x1024_1_0_0_1_n_n]
  rfl

end Cert.FfnInIdeal.Value

end
-- ==== Proof.FfnIn.Kernel.lean ====
/-
  The FFN input's gradient: the three results as functions of the arguments. A block is a part of the array the host
  prepared, the host's slabs are parts of the arguments, the sixteen row blocks make up the first result, and the two
  accumulated rows end as sums over all rows.
-/
module

public import proofs.«01_k».proof.Proof.FfnIn.Points

@[expose] public section

noncomputable section

open Idealize.ShloMosaic Idealize.ShloMosaic.TcCoe Idealize.SL.Sem
open Idealize.ShloMosaic.Pipeline (Dat)

namespace Cert.FfnInIdeal.Value
open Cert.FfnInIdeal Cert.FfnInIdeal.Gen

variable (m : (ℓ : Loc nD τ sig) → Buf (Elt Ideal) ℓ)

/-- The row the norm is taken of. -/
def hrow (a0 : FVec Ideal S8192x1024 .f32) (a1 : FVec Ideal S1x1024 .f32) (R : Fin 8192) (k : Fin 1024) : EReal := a0 (ix2 R k) + a1 (ix2 0 k)

/-- The gradient that arrives at the norm's result. -/
def arriving (a3 a4 : FVec Ideal S2x1024x2816 .f32) (a6 a7 : FVec Ideal S8192x2816 .f32) (R : Fin 8192) (j : Fin 1024) : EReal :=
  ∑ n : Fin 2816, a6 (ix2 R n) * a3 (ix3 1 j n) + ∑ n : Fin 2816, a7 (ix2 R n) * a4 (ix3 1 j n)

/-! ## What the host prepares -/

theorem v4 (c : Dev nD) (a : Fin 4) (R : Fin 8192) (x : Fin 704) :
    V m c main_v4 (ix3 a R x) = m ((c : Thread nD τ).loc main_arg6) (ix2 R ⟨a.val * 704 + x.val, by omega⟩) := by
  have e : V m c main_v4 = truncf (F := Ideal) .bf16 (transpose S4x8192x704 [1, 0, 2] (shapeCast S8192x4x704 (m ((c : Thread nD τ).loc main_arg6))
      shapeCasts_S8192x2816_S8192x4x704) transposes_S8192x4x704_S4x8192x704_1_0_2) bitsLt_bf16_f32 := by
    unfold V
    after_results_simp
    rfl
  rw [e]
  pointwise

theorem v10 (c : Dev nD) (a : Fin 4) (R : Fin 8192) (x : Fin 704) :
    V m c main_v10 (ix3 a R x) = m ((c : Thread nD τ).loc main_arg7) (ix2 R ⟨a.val * 704 + x.val, by omega⟩) := by
  have e : V m c main_v10 = truncf (F := Ideal) .bf16 (transpose S4x8192x704 [1, 0, 2] (shapeCast S8192x4x704 (m ((c : Thread nD τ).loc main_arg7))
      shapeCasts_S8192x2816_S8192x4x704) transposes_S8192x4x704_S4x8192x704_1_0_2) bitsLt_bf16_f32 := by
    unfold V
    after_results_simp
    rfl
  rw [e]
  pointwise

theorem v7 (c : Dev nD) (a : Fin 4) (l : Fin 2) (x : Fin 704) (j : Fin 1024) :
    V m c main_v7 (ix4 a l x j) = m ((c : Thread nD τ).loc main_arg3) (ix3 l j ⟨a.val * 704 + x.val, by omega⟩) := by
  have e : V m c main_v7 = truncf (F := Ideal) .bf16 (transpose S4x2x704x1024 [2, 0, 3, 1] (shapeCast S2x1024x4x704 (m ((c : Thread nD τ).loc main_arg3))
      shapeCasts_S2x1024x2816_S2x1024x4x704) transposes_S2x1024x4x704_S4x2x704x1024_2_0_3_1) bitsLt_bf16_f32 := by
    unfold V
    after_results_simp
    rfl
  rw [e]
  pointwise

theorem v13 (c : Dev nD) (a : Fin 4) (l : Fin 2) (x : Fin 704) (j : Fin 1024) :
    V m c main_v13 (ix4 a l x j) = m ((c : Thread nD τ).loc main_arg4) (ix3 l j ⟨a.val * 704 + x.val, by omega⟩) := by
  have e : V m c main_v13 = truncf (F := Ideal) .bf16 (transpose S4x2x704x1024 [2, 0, 3, 1] (shapeCast S2x1024x4x704 (m ((c : Thread nD τ).loc main_arg4))
      shapeCasts_S2x1024x2816_S2x1024x4x704) transposes_S2x1024x4x704_S4x2x704x1024_2_0_3_1) bitsLt_bf16_f32 := by
    unfold V
    after_results_simp
    rfl
  rw [e]
  pointwise

theorem v1 (c : Dev nD) (R : Fin 8192) (j : Fin 1024) :
    V m c main_v1 (ix2 R j) = hrow (m ((c : Thread nD τ).loc main_arg0)) (m ((c : Thread nD τ).loc main_arg1)) R j := by
  have e : V m c main_v1 = addf (F := Ideal) (φ := .f32) (m ((c : Thread nD τ).loc main_arg0)) (broadcastInDim S8192x1024 ![0, 1] bcast_S1x1024_S8192x1024_0_1
      (m ((c : Thread nD τ).loc main_arg1) : FVec Ideal S1x1024 .f32)) := by
    unfold V
    after_results_simp
  rw [e]
  unfold hrow
  pointwise

theorem v14 (c : Dev nD) (j : Fin 1024) :
    V m c main_v14 (ix2 0 j) = m ((c : Thread nD τ).loc main_arg2) (ix2 1 j) := by
  have e : V m c main_v14 = extractStridedSlice S1x1024 ![1, 0] (m ((c : Thread nD τ).loc main_arg2)) slices_S2x1024_S1x1024_1_0 := by
    unfold V
    after_results_simp
  rw [e]
  pointwise

/-! ## The blocks a point sees -/

theorem index0 : ∀ t : Fin grid0.N, win0_0.index t = ![0, t.val, 0] := by decide +kernel
theorem index1 : ∀ t : Fin grid0.N, win0_1.index t = ![0, t.val, 0] := by decide +kernel
theorem index2 : ∀ t : Fin grid0.N, win0_2.index t = ![0, 1, 0, 0] := by decide +kernel
theorem index3 : ∀ t : Fin grid0.N, win0_3.index t = ![0, 1, 0, 0] := by decide +kernel
theorem index4 : ∀ t : Fin grid0.N, win0_4.index t = ![t.val, 0] := by decide +kernel
theorem index5 : ∀ t : Fin grid0.N, win0_5.index t = ![0, 0] := by decide +kernel
theorem index6 : ∀ t : Fin grid0.N, win0_6.index t = ![t.val, 0] := by decide +kernel
theorem index7 : ∀ t : Fin grid0.N, win0_7.index t = ![t.val, 0] := by decide +kernel

/-- Row `r` of point `t`'s block, among all rows. -/
def at_ (t : Fin cfg0.N) (r : Fin 512) : Fin 8192 := ⟨t.val * 512 + r.val, by have := t.isLt; have : cfg0.N = 16 := N_0; omega⟩

theorem blk0 (c : Dev nD) (t : Fin cfg0.N) (a : Fin 4) (r : Fin 512) (x : Fin 704) :
    (iblk m c 0 t : Vec Ideal S4x512x704 .bf16) (ix3 a r x) = V m c main_v4 (ix3 a (at_ t r) x) := by
  unfold iblk
  rw [View.read_apply]
  show V m c main_v4 _ = _
  congr 1
  funext a'
  apply Fin.ext
  have hi := index0 t
  match a' with
  | ⟨0, _⟩ => show win0_0.index t 0 * 4 + 1 * a.val = a.val; rw [hi]; simp
  | ⟨1, _⟩ => show win0_0.index t 1 * 512 + 1 * r.val = t.val * 512 + r.val; rw [hi]; simp
  | ⟨2, _⟩ => show win0_0.index t 2 * 704 + 1 * x.val = x.val; rw [hi]; simp

theorem blk1 (c : Dev nD) (t : Fin cfg0.N) (a : Fin 4) (r : Fin 512) (x : Fin 704) :
    (iblk m c 1 t : Vec Ideal S4x512x704 .bf16) (ix3 a r x) = V m c main_v10 (ix3 a (at_ t r) x) := by
  unfold iblk
  rw [View.read_apply]
  show V m c main_v10 _ = _
  congr 1
  funext a'
  apply Fin.ext
  have hi := index1 t
  match a' with
  | ⟨0, _⟩ => show win0_1.index t 0 * 4 + 1 * a.val = a.val; rw [hi]; simp
  | ⟨1, _⟩ => show win0_1.index t 1 * 512 + 1 * r.val = t.val * 512 + r.val; rw [hi]; simp
  | ⟨2, _⟩ => show win0_1.index t 2 * 704 + 1 * x.val = x.val; rw [hi]; simp

theorem blk2 (c : Dev nD) (t : Fin cfg0.N) (a : Fin 4) (x : Fin 704) (j : Fin 1024) :
    (iblk m c 2 t : Vec Ideal S4x1x704x1024 .bf16) (ix4 a 0 x j) = V m c main_v7 (ix4 a 1 x j) := by
  unfold iblk
  rw [View.read_apply]
  show V m c main_v7 _ = _
  congr 1
  funext a'
  apply Fin.ext
  have hi := index2 t
  match a' with
  | ⟨0, _⟩ => show win0_2.index t 0 * 4 + 1 * a.val = a.val; rw [hi]; simp
  | ⟨1, _⟩ => show win0_2.index t 1 * 1 + 1 * 0 = 1; rw [hi]; simp
  | ⟨2, _⟩ => show win0_2.index t 2 * 704 + 1 * x.val = x.val; rw [hi]; simp
  | ⟨3, _⟩ => show win0_2.index t 3 * 1024 + 1 * j.val = j.val; rw [hi]; simp

theorem blk3 (c : Dev nD) (t : Fin cfg0.N) (a : Fin 4) (x : Fin 704) (j : Fin 1024) :
    (iblk m c 3 t : Vec Ideal S4x1x704x1024 .bf16) (ix4 a 0 x j) = V m c main_v13 (ix4 a 1 x j) := by
  unfold iblk
  rw [View.read_apply]
  show V m c main_v13 _ = _
  congr 1
  funext a'
  apply Fin.ext
  have hi := index3 t
  match a' with
  | ⟨0, _⟩ => show win0_3.index t 0 * 4 + 1 * a.val = a.val; rw [hi]; simp
  | ⟨1, _⟩ => show win0_3.index t 1 * 1 + 1 * 0 = 1; rw [hi]; simp
  | ⟨2, _⟩ => show win0_3.index t 2 * 704 + 1 * x.val = x.val; rw [hi]; simp
  | ⟨3, _⟩ => show win0_3.index t 3 * 1024 + 1 * j.val = j.val; rw [hi]; simp

theorem blk4 (c : Dev nD) (t : Fin cfg0.N) (r : Fin 512) (j : Fin 1024) :
    (iblk m c 4 t : Vec Ideal S512x1024 .f32) (ix2 r j) = V m c main_v1 (ix2 (at_ t r) j) := by
  unfold iblk
  rw [View.read_apply]
  show V m c main_v1 _ = _
  congr 1
  funext a'
  apply Fin.ext
  have hi := index4 t
  match a' with
  | ⟨0, _⟩ => show win0_4.index t 0 * 512 + 1 * r.val = t.val * 512 + r.val; rw [hi]; simp
  | ⟨1, _⟩ => show win0_4.index t 1 * 1024 + 1 * j.val = j.val; rw [hi]; simp

theorem blk5 (c : Dev nD) (t : Fin cfg0.N) (j : Fin 1024) :
    (iblk m c 5 t : Vec Ideal S1x1024 .f32) (ix2 0 j) = V m c main_v14 (ix2 0 j) := by
  unfold iblk
  rw [View.read_apply]
  show V m c main_v14 _ = _
  congr 1
  funext a'
  apply Fin.ext
  have hi := index5 t
  match a' with
  | ⟨0, _⟩ => show win0_5.index t 0 * 1 + 1 * 0 = 0; rw [hi]; simp
  | ⟨1, _⟩ => show win0_5.index t 1 * 1024 + 1 * j.val = j.val; rw [hi]; simp

theorem blk6 (c : Dev nD) (t : Fin cfg0.N) (r : Fin 512) (j : Fin 1024) :
    (iblk m c 6 t : Vec Ideal S512x1024 .f32) (ix2 r j) = V m c main_arg5 (ix2 (at_ t r) j) := by
  unfold iblk
  rw [View.read_apply]
  show V m c main_arg5 _ = _
  congr 1
  funext a'
  apply Fin.ext
  have hi := index6 t
  match a' with
  | ⟨0, _⟩ => show win0_6.index t 0 * 512 + 1 * r.val = t.val * 512 + r.val; rw [hi]; simp
  | ⟨1, _⟩ => show win0_6.index t 1 * 1024 + 1 * j.val = j.val; rw [hi]; simp

/-- A sum over the hidden width, slab by slab. -/
theorem sum_slabs (f : Fin 2816 → EReal) :
    ∑ n, f n = ∑ x : Fin 704, f ⟨0 * 704 + x.val, by omega⟩ + ∑ x : Fin 704, f ⟨1 * 704 + x.val, by omega⟩
      + ∑ x : Fin 704, f ⟨2 * 704 + x.val, by omega⟩ + ∑ x : Fin 704, f ⟨3 * 704 + x.val, by omega⟩ := by
  rw [Lift.sum_blocks (T := 2816) (B := 704) (K := 3) rfl f, Fin.sum_univ_four]
  rfl

theorem row_eq (c : Dev nD) (t : Fin cfg0.N) (r : Fin 512) :
    row m c t r = hrow (m ((c : Thread nD τ).loc main_arg0)) (m ((c : Thread nD τ).loc main_arg1)) (at_ t r) := by
  funext j
  unfold row
  rw [blk4, v1]

theorem grad_eq (c : Dev nD) (t : Fin cfg0.N) (r : Fin 512) :
    grad m c t r = arriving (m ((c : Thread nD τ).loc main_arg3)) (m ((c : Thread nD τ).loc main_arg4)) (m ((c : Thread nD τ).loc main_arg6))
      (m ((c : Thread nD τ).loc main_arg7)) (at_ t r) := by
  funext j
  unfold grad df arriving
  have e0 := fun a x => (blk0 m c t a r x).trans (v4 m c a (at_ t r) x)
  have e1 := fun a x => (blk1 m c t a r x).trans (v10 m c a (at_ t r) x)
  have e2 := fun a x => (blk2 m c t a x j).trans (v7 m c a 1 x j)
  have e3 := fun a x => (blk3 m c t a x j).trans (v13 m c a 1 x j)
  generalize (iblk m c 0 t : Vec Ideal S4x512x704 .bf16) = x0 at e0 ⊢
  generalize (iblk m c 1 t : Vec Ideal S4x512x704 .bf16) = x1 at e1 ⊢
  generalize (iblk m c 2 t : Vec Ideal S4x1x704x1024 .bf16) = x2 at e2 ⊢
  generalize (iblk m c 3 t : Vec Ideal S4x1x704x1024 .bf16) = x3 at e3 ⊢
  simp only [e0, e1, e2, e3]
  rw [sum_slabs, sum_slabs, ← add_assoc, ← add_assoc, ← add_assoc]
  rfl

theorem gains_eq (c : Dev nD) (t : Fin cfg0.N) : gains m c t = fun j => m ((c : Thread nD τ).loc main_arg2) (ix2 1 j) := by
  funext j
  unfold gains
  rw [blk5, v14]

theorem past_eq (c : Dev nD) (t : Fin cfg0.N) (r : Fin 512) : past m c t r = fun j => m ((c : Thread nD τ).loc main_arg5) (ix2 (at_ t r) j) := by
  funext j
  unfold past
  rw [blk6, V_main_arg5]

/-! ## The results -/

/-- The first result's row `R`. -/
def outRow (c : Dev nD) (R : Fin 8192) (j : Fin 1024) : EReal :=
  Norm.out (hrow (m ((c : Thread nD τ).loc main_arg0)) (m ((c : Thread nD τ).loc main_arg1)) R)
    (arriving (m ((c : Thread nD τ).loc main_arg3)) (m ((c : Thread nD τ).loc main_arg4)) (m ((c : Thread nD τ).loc main_arg6)) (m ((c : Thread nD τ).loc main_arg7)) R)
    (fun j => m ((c : Thread nD τ).loc main_arg2) (ix2 1 j)) (fun j => m ((c : Thread nD τ).loc main_arg5) (ix2 R j)) j

/-- Row `R`'s part of the gain's gradient. -/
def gainRow (c : Dev nD) (R : Fin 8192) (j : Fin 1024) : EReal :=
  Norm.gain (hrow (m ((c : Thread nD τ).loc main_arg0)) (m ((c : Thread nD τ).loc main_arg1)) R)
    (arriving (m ((c : Thread nD τ).loc main_arg3)) (m ((c : Thread nD τ).loc main_arg4)) (m ((c : Thread nD τ).loc main_arg6)) (m ((c : Thread nD τ).loc main_arg7)) R) j

theorem outsAt_1 (c : Dev nD) (t : Fin cfg0.N) (r : Fin 512) (j : Fin 1024) : (outsAt0 m c t.val t.isLt).1 (ix2 r j) = outRow m c (at_ t r) j := by
  unfold outRow
  rw [← row_eq, ← grad_eq, ← gains_eq m c t, ← past_eq]
  by_cases h0 : t.val % 16 = 0
  · exact out_A m c t h0 r j
  · exact out_B m c t h0 r j

theorem gainRow_eq (c : Dev nD) (t : Fin cfg0.N) (r : Fin 512) (j : Fin 1024) : Norm.gain (row m c t r) (grad m c t r) j = gainRow m c (at_ t r) j := by
  rw [row_eq, grad_eq]; rfl

theorem outRow_eq (c : Dev nD) (t : Fin cfg0.N) (r : Fin 512) (j : Fin 1024) :
    Norm.out (row m c t r) (grad m c t r) (gains m c t) (past m c t r) j = outRow m c (at_ t r) j := by
  rw [row_eq, grad_eq, gains_eq, past_eq]; rfl

/-- The accumulated gain gradient after the last point. -/
theorem gain_last (c : Dev nD) (j : Fin 1024) : (outsAt0 m c 15 (by decide)).2.1 (ix2 0 j) = ∑ R, gainRow m c R j := by
  refine Lift.sum_rows (T := 8192) (B := 512) (K := 15) rfl (fun R => gainRow m c R j) (fun n h => (outsAt0 m c n h).2.1 (ix2 0 j)) ?_ ?_
  · intro h
    exact (sum_A m c ⟨0, h⟩ rfl j).trans (Finset.sum_congr rfl fun r _ => gainRow_eq m c ⟨0, h⟩ r j)
  · intro n h
    exact (sum_B m c ⟨n + 1, h⟩ (by dsimp only; omega) j).trans (congrArg _ (Finset.sum_congr rfl fun r _ => gainRow_eq m c ⟨n + 1, h⟩ r j))

/-- The accumulated column sums after the last point. -/
theorem col_last (c : Dev nD) (j : Fin 1024) : (outsAt0 m c 15 (by decide)).2.2 (ix2 0 j) = ∑ R, outRow m c R j := by
  refine Lift.sum_rows (T := 8192) (B := 512) (K := 15) rfl (fun R => outRow m c R j) (fun n h => (outsAt0 m c n h).2.2 (ix2 0 j)) ?_ ?_
  · intro h
    exact (col_A m c ⟨0, h⟩ rfl j).trans (Finset.sum_congr rfl fun r _ => outRow_eq m c ⟨0, h⟩ r j)
  · intro n h
    exact (col_B m c ⟨n + 1, h⟩ (by dsimp only; omega) j).trans (congrArg _ (Finset.sum_congr rfl fun r _ => outRow_eq m c ⟨n + 1, h⟩ r j))

theorem final7 (c : Dev nD) (R : Fin 8192) (j : Fin 1024) : (dats m 0 c).arrAt 7 cfg0.N (ix2 R j) = outRow m c R j := by
  have hN : cfg0.N = 16 := N_0
  have hR := R.isLt
  have ht : R.val / 512 < cfg0.N := by omega
  have h := congrFun (blocks7 m c ⟨R.val / 512, ht⟩ (flush0_7 _)) (ix2 ⟨R.val % 512, by omega⟩ j)
  rw [View.read_apply, flushed7] at h
  have e := outsAt_1 m c ⟨R.val / 512, ht⟩ ⟨R.val % 512, by omega⟩ j
  rw [show at_ ⟨R.val / 512, ht⟩ ⟨R.val % 512, by omega⟩ = R from Fin.ext (by unfold at_; dsimp only; omega)] at e
  rw [← e]
  refine Eq.trans (congrArg _ ?_) h
  funext a'
  apply Fin.ext
  have hi := index7 ⟨R.val / 512, ht⟩
  match a' with
  | ⟨0, _⟩ => show R.val = win0_7.index ⟨R.val / 512, _⟩ 0 * 512 + 1 * (R.val % 512); rw [hi]; simp; omega
  | ⟨1, _⟩ => show j.val = win0_7.index ⟨R.val / 512, _⟩ 1 * 1024 + 1 * j.val; rw [hi]; simp

/-- The last point. -/
abbrev last : Fin cfg0.N := ⟨15, by decide⟩

/-- The row of sums the second result ends as. -/
def gainSum (c : Dev nD) : Buf (Elt Ideal) ((c : Thread nD τ).loc main_v16_1) := (outsAt0 m c 15 (by decide)).2.1

/-- The row of sums the third result ends as. -/
def colSum (c : Dev nD) : Buf (Elt Ideal) ((c : Thread nD τ).loc main_v16_2) := (outsAt0 m c 15 (by decide)).2.2

theorem final8 (c : Dev nD) : (dats m 0 c).arrAt 8 cfg0.N = gainSum m c := by
  have hN : cfg0.N = 16 := N_0
  have hz' : (fun a => win0_8.index last a * main_v16_1.ty.shape.size a) = fun _ => 0 := funext fun a => by fin_cases a <;> decide
  refine (dats m 0 c).arrAt_eq_of_cover 8 (gainSum m c) (fun t hf => ?_) fun i => ⟨last, (flush0_8 _).mpr (by decide), ?_⟩
  · obtain rfl : t = last := Fin.ext (by have := (flush0_8 t).mp hf; have := t.isLt; show t.val = 15; omega)
    rw [flushed8]
    exact (Memref.read_access_unit_zero (Elt Ideal) main_v16_1 hz' (fun a => by rw [congrFun hz' a]; simp) (gainSum m c)).symm
  · show i ∈ ((View.whole main_v16_1).slice (win0_8.rect last)).set
    rw [View.set_slice_whole, Rect.mem_set_unit]
    intro a
    have h0 : (i 0 : Nat) < 1 := (i 0).isLt
    have h1 : (i 1 : Nat) < 1024 := (i 1).isLt
    match a with
    | ⟨0, _⟩ => show win0_8.index _ 0 * win0_8.size 0 ≤ (i 0 : Nat) ∧ (i 0 : Nat) < win0_8.index _ 0 * win0_8.size 0 + win0_8.xsize (grid0.coords _) 0
                rw [show win0_8.index last 0 * win0_8.size 0 = 0 from by decide +kernel, show win0_8.xsize (grid0.coords last) 0 = 1 from by decide +kernel]; omega
    | ⟨1, _⟩ => show win0_8.index _ 1 * win0_8.size 1 ≤ (i 1 : Nat) ∧ (i 1 : Nat) < win0_8.index _ 1 * win0_8.size 1 + win0_8.xsize (grid0.coords _) 1
                rw [show win0_8.index last 1 * win0_8.size 1 = 0 from by decide +kernel, show win0_8.xsize (grid0.coords last) 1 = 1024 from by decide +kernel]; omega

theorem final9 (c : Dev nD) : (dats m 0 c).arrAt 9 cfg0.N = colSum m c := by
  have hN : cfg0.N = 16 := N_0
  have hz' : (fun a => win0_9.index last a * main_v16_2.ty.shape.size a) = fun _ => 0 := funext fun a => by fin_cases a <;> decide
  refine (dats m 0 c).arrAt_eq_of_cover 9 (colSum m c) (fun t hf => ?_) fun i => ⟨last, (flush0_9 _).mpr (by decide), ?_⟩
  · obtain rfl : t = last := Fin.ext (by have := (flush0_9 t).mp hf; have := t.isLt; show t.val = 15; omega)
    rw [flushed9]
    exact (Memref.read_access_unit_zero (Elt Ideal) main_v16_2 hz' (fun a => by rw [congrFun hz' a]; simp) (colSum m c)).symm
  · show i ∈ ((View.whole main_v16_2).slice (win0_9.rect last)).set
    rw [View.set_slice_whole, Rect.mem_set_unit]
    intro a
    have h0 : (i 0 : Nat) < 1 := (i 0).isLt
    have h1 : (i 1 : Nat) < 1024 := (i 1).isLt
    match a with
    | ⟨0, _⟩ => show win0_9.index _ 0 * win0_9.size 0 ≤ (i 0 : Nat) ∧ (i 0 : Nat) < win0_9.index _ 0 * win0_9.size 0 + win0_9.xsize (grid0.coords _) 0
                rw [show win0_9.index last 0 * win0_9.size 0 = 0 from by decide +kernel, show win0_9.xsize (grid0.coords last) 0 = 1 from by decide +kernel]; omega
    | ⟨1, _⟩ => show win0_9.index _ 1 * win0_9.size 1 ≤ (i 1 : Nat) ∧ (i 1 : Nat) < win0_9.index _ 1 * win0_9.size 1 + win0_9.xsize (grid0.coords _) 1
                rw [show win0_9.index last 1 * win0_9.size 1 = 0 from by decide +kernel, show win0_9.xsize (grid0.coords last) 1 = 1024 from by decide +kernel]; omega

end Cert.FfnInIdeal.Value

end
-- ==== Proof.FfnIn.Reference.lean ====
/-
  The FFN input's gradient by the chain rule: the reference's results, read at an index.
-/
module

public import proofs.«01_k».proof.Proof.FfnIn.Kernel
public import proofs.«01_k».proof.Proof.Gen.FfnInRefIdeal.Read

@[expose] public section

noncomputable section

open Idealize.ShloMosaic Idealize.ShloMosaic.TcCoe Idealize.SL.Sem

namespace Cert.FfnInRefIdeal.Read
open Cert.FfnInRefIdeal Cert.FfnInRefIdeal.Gen
open Cert.FfnInIdeal.Value (hrow arriving)

variable (x0 : FVec Ideal S8192x1024 .f32) (x1 : FVec Ideal S1x1024 .f32) (x2 : FVec Ideal S2x1024 .f32)
  (x3 x4 : FVec Ideal S2x1024x2816 .f32) (x5 : FVec Ideal S8192x1024 .f32) (x6 x7 : FVec Ideal S8192x2816 .f32)

theorem at3 (R : Fin 8192) (j : Fin 1024) : val_main_v3 (F := Ideal) x0 x1 (ix2 R j) = hrow x0 x1 R j := by
  unfold val_main_v3 val_main_v2 hrow
  pointwise

theorem at10 (R : Fin 8192) (z : Fin 1) : val_main_v10 (F := Ideal) x0 x1 (ix2 R z)
    = Ideal.div (∑ k, hrow x0 x1 R k * hrow x0 x1 R k) (Ideal.ofBits .f32 1149239296#32) + Ideal.ofBits .f32 925353388#32 := by
  unfold val_main_v10 val_main_v9 val_main_v8 val_main_v7 val_main_v6 val_main_v5 val_main_v4 val_main_cst val_main_cst_0 val_main_cst_1
  pointwise [at3]

theorem at11 (R : Fin 8192) (z : Fin 1) : val_main_v11 (F := Ideal) x0 x1 (ix2 R z) = Norm.rstd (hrow x0 x1 R) := by
  unfold val_main_v11 Norm.rstd
  pointwise [at10]

theorem at28 (R : Fin 8192) (j : Fin 1024) : val_main_v28 (F := Ideal) x3 x4 x6 x7 (ix2 R j) = arriving x3 x4 x6 x7 R j := by
  unfold val_main_v28 val_main_v27 val_main_v26 val_main_v24 val_main_v23 val_main_v21 val_main_v20 arriving
  pointwise [dot_S8192x2816_S1024x2816_S8192x1024_1_1_0_0_n_n]
  exact add_comm _ _

theorem at33 (R : Fin 8192) (j : Fin 1024) : val_main_v33 (F := Ideal) x2 x3 x4 x6 x7 (ix2 R j) = arriving x3 x4 x6 x7 R j * x2 (ix2 1 j) := by
  unfold val_main_v33 val_main_v32 val_main_v17 val_main_v1 val_main_v0
  pointwise [at28]

theorem at45 (R : Fin 8192) (j : Fin 1024) : val_main_v45 (F := Ideal) x0 x1 x2 x3 x4 x6 x7 (ix2 R j)
    = Norm.chain (hrow x0 x1 R) (arriving x3 x4 x6 x7 R) (fun j => x2 (ix2 1 j)) := by
  unfold val_main_v45 val_main_v44 val_main_v43 val_main_v42 val_main_v41 val_main_v37 val_main_v36 val_main_v35 val_main_v14 val_main_v13 val_main_v12
    val_main_cst_2 val_main_cst_5 val_main_cst_6 val_main_cst_7 Norm.chain
  pointwise [at3, at33, at10, at11]
  exact Fintype.sum_unique _

theorem at49 (R : Fin 8192) (j : Fin 1024) : val_main_v49 (F := Ideal) x0 x1 x2 x3 x4 x5 x6 x7 (ix2 R j)
    = Norm.vjp (hrow x0 x1 R) (arriving x3 x4 x6 x7 R) (fun j => x2 (ix2 1 j)) (fun j => x5 (ix2 R j)) j := by
  have e38 : val_main_v38 (F := Ideal) x0 x1 (ix2 R j) = Norm.rstd (hrow x0 x1 R) := by
    unfold val_main_v38
    pointwise [at11]
  rw [val_main_v49_apply, val_main_v48_apply, val_main_v47_apply, val_main_v46_apply, val_main_v40_apply, val_main_v39_apply, e38, at3, at33, at45]
  rfl

theorem at52 (j : Fin 1024) : val_main_v52 (F := Ideal) x0 x1 x3 x4 x6 x7 (ix2 0 j)
    = ∑ R, Norm.gain (hrow x0 x1 R) (arriving x3 x4 x6 x7 R) j := by
  unfold val_main_v52 val_main_v34 val_main_v31 val_main_v30 val_main_v29 val_main_v16 val_main_v15 val_main_cst_3 val_main_cst_4 Norm.gain
  pointwise [at3, at28, at11]
  refine (Fintype.sum_unique _).trans ?_
  exact Finset.sum_congr rfl fun R _ => mul_comm _ _

theorem at51 (j : Fin 1024) : val_main_v51 (F := Ideal) x0 x1 x2 x3 x4 x5 x6 x7 (ix2 0 j)
    = ∑ R, Norm.vjp (hrow x0 x1 R) (arriving x3 x4 x6 x7 R) (fun j => x2 (ix2 1 j)) (fun j => x5 (ix2 R j)) j := by
  unfold val_main_v51 val_main_v50 val_main_cst_8
  pointwise [at49]

end Cert.FfnInRefIdeal.Read

end
-- ==== Proof.FfnIn.Value.lean ====
/-
  The FFN input's gradient: both programs end with the same three results.
-/
module

public import proofs.«01_k».proof.Defs
public import proofs.«01_k».proof.Proof.FfnIn.Reference
public import proofs.«01_k».proof.Proof.Gen.Pre_finite_ffn_in

@[expose] public section

noncomputable section

open Idealize.ShloMosaic Idealize.ShloMosaic.TcCoe Idealize.SL.Sem

namespace Cert.FfnInIdeal.Value
open Cert.FfnInIdeal Cert.FfnInIdeal.Gen
open Cert.FfnInRefIdeal.Read

variable (m : (ℓ : Loc nD τ sig) → Buf (Elt Ideal) ℓ)

/-- On finite arguments the chain rule's row is the kernel's. -/
theorem row_agrees (hpre : Cert.Pre_FfnInIdeal_finite_ffn_in m) (c : Dev nD) (R : Fin 8192) (j : Fin 1024) :
    Norm.vjp (hrow (m ((c : Thread nD τ).loc main_arg0)) (m ((c : Thread nD τ).loc main_arg1)) R) (arriving (m ((c : Thread nD τ).loc main_arg3)) (m ((c : Thread nD τ).loc main_arg4)) (m ((c : Thread nD τ).loc main_arg6)) (m ((c : Thread nD τ).loc main_arg7)) R) (fun j => m ((c : Thread nD τ).loc main_arg2) (ix2 1 j)) (fun j => m ((c : Thread nD τ).loc main_arg5) (ix2 R j)) j = outRow m c R j := by
  unfold outRow
  obtain ⟨h0, h1, h2, h3, h4, h6, h7⟩ := hpre c
  obtain ⟨X0, e0⟩ := Lift.exists_real h0
  obtain ⟨X1, e1⟩ := Lift.exists_real h1
  obtain ⟨X2, e2⟩ := Lift.exists_real h2
  obtain ⟨X3, e3⟩ := Lift.exists_real h3
  obtain ⟨X4, e4⟩ := Lift.exists_real h4
  obtain ⟨X6, e6⟩ := Lift.exists_real h6
  obtain ⟨X7, e7⟩ := Lift.exists_real h7
  refine Norm.vjp_eq_out' ⟨fun k => X0 (ix2 R k) + X1 (ix2 0 k), ?_⟩
    ⟨fun j => ∑ n : Fin 2816, X6 (ix2 R n) * X3 (ix3 1 j n) + ∑ n : Fin 2816, X7 (ix2 R n) * X4 (ix3 1 j n), ?_⟩ ⟨fun j => X2 (ix2 1 j), ?_⟩ _ j
  · funext k
    unfold hrow
    rw [e0, e1]
    exact (EReal.coe_add _ _).symm
  · funext k
    unfold arriving
    rw [e3, e4, e6, e7]
    simp only [← EReal.coe_mul, Lift.coe_sum, ← EReal.coe_add]
  · rw [e2]

theorem value : Cert.algebraic_FfnInIdeal_FfnInRefIdeal_pre_finite_ffn_in := by
  intro m g m' g' hpre harg
  refine ⟨fun c => (dats m 0 c).arrAt 7 cfg0.N, fun c => gainSum m c, fun c => colSum m c, ?_, ?_⟩
  · refine (θ_run defs _ _).mono (fun r h c => ?_) (run_blocks m g)
    obtain ⟨h0, h1, h2, hr⟩ := h c
    exact ⟨h0, h1.trans (final8 m c), h2.trans (final9 m c), hr⟩
  · refine (θ_run Cert.FfnInRefIdeal.defs _ _).mono (fun r h c => ?_) (Cert.FfnInRefIdeal.Value.run m' g')
    obtain ⟨h0, h1, h2, hr⟩ := h c
    obtain ⟨a0, a1, a2, a3, a4, a5, a6, a7⟩ := harg c
    refine ⟨h0.trans ?_, h1.trans ?_, h2.trans ?_, hr⟩
    · refine (val_main_v49_eq m' c).trans ?_
      rw [a0, a1, a2, a3, a4, a5, a6, a7]
      funext i
      obtain ⟨R, j, rfl⟩ : ∃ R j, i = ix2 R j := ⟨i 0, i 1, eq_ix2 i⟩
      exact (at49 _ _ _ _ _ _ _ _ R j).trans ((row_agrees m hpre c R j).trans (final7 m c R j).symm)
    · refine (val_main_v52_eq _ _ _ _ _ _).trans ?_
      rw [a0, a1, a3, a4, a6, a7]
      funext i
      obtain ⟨z, j, rfl⟩ : ∃ z j, i = ix2 z j := ⟨i 0, i 1, eq_ix2 i⟩
      obtain rfl : z = 0 := Subsingleton.elim _ _
      exact (at52 _ _ _ _ _ _ j).trans (gain_last m c j).symm
    · refine (val_main_v51_eq m' c).trans ?_
      rw [a0, a1, a2, a3, a4, a5, a6, a7]
      funext i
      obtain ⟨z, j, rfl⟩ : ∃ z j, i = ix2 z j := ⟨i 0, i 1, eq_ix2 i⟩
      obtain rfl : z = 0 := Subsingleton.elim _ _
      exact (at51 _ _ _ _ _ _ _ _ j).trans ((Finset.sum_congr rfl fun R _ => row_agrees m hpre c R j).trans (col_last m c j).symm)

/-- The reference leaves its arguments and its counters as they were. -/
theorem frame_ref : Cert.quiescent_FfnInRefIdeal := fun m g _ =>
  (θ_run Cert.FfnInRefIdeal.defs _ _).mono (fun r h => ⟨fun c => (h c).2.2.2, sem_eq_zero_of_no_sems (by decide) r.2⟩)
    (Cert.FfnInRefIdeal.Value.run (F := Ideal) m g)

end Cert.FfnInIdeal.Value

end
-- ==== Proof.ConvIn.Points.lean ====
/-
  The gradient of the convolution's input product and norm, one grid point at a time: what a point leaves in its three output buffers, read at an index,
  as the norm's gradient of the point's 512 rows.
-/
module

public import proofs.«01_k».proof.Proof.Norm
public import proofs.«01_k».proof.Proof.Gen.ConvInIdeal.Value

@[expose] public section

noncomputable section

open Idealize.ShloMosaic Idealize.ShloMosaic.TcCoe Idealize.SL.Sem
open Idealize.ShloMosaic.Pipeline (Dat)

namespace Cert.ConvInIdeal.Value
open Cert.ConvInIdeal Cert.ConvInIdeal.Gen

variable (m : (ℓ : Loc nD τ sig) → Buf (Elt Ideal) ℓ)

theorem hz : (![0, 0] : Fin 2 → Nat) = fun _ => 0 := funext fun a => by fin_cases a <;> rfl

/-- The gradient that arrives at the norm's result, of a block's row: the four quarter products, in the body's order. -/
def df (x0 : Vec Ideal S512x2048 .bf16) (x1 : Vec Ideal S4x1024x512 .bf16) (r : Fin 512) (j : Fin 1024) : EReal :=
  ∑ x : Fin 512, x0 (ix2 r ⟨x, by omega⟩) * x1 (ix3 0 j x) + ∑ x : Fin 512, x0 (ix2 r ⟨512 + x, by omega⟩) * x1 (ix3 1 j x)
    + ∑ x : Fin 512, x0 (ix2 r ⟨1024 + x, by omega⟩) * x1 (ix3 2 j x) + ∑ x : Fin 512, x0 (ix2 r ⟨1536 + x, by omega⟩) * x1 (ix3 3 j x)

/-- Row `r` of the block the norm's gradient is taken of, at point `t`. -/
def row (c : Dev nD) (t : Fin cfg0.N) (r : Fin 512) (j : Fin 1024) : EReal := (iblk m c 2 t : Vec Ideal S512x1024 .f32) (ix2 r j)

/-- The gradient that arrives at the norm's result. -/
def grad (c : Dev nD) (t : Fin cfg0.N) (r : Fin 512) (j : Fin 1024) : EReal := df (iblk m c 0 t) (iblk m c 1 t) r j

/-- The norm's gain. -/
def gains (c : Dev nD) (t : Fin cfg0.N) (j : Fin 1024) : EReal := (iblk m c 3 t : Vec Ideal S1x1024 .f32) (ix2 0 j)

/-- The gradient that goes past the norm. -/
def past (c : Dev nD) (t : Fin cfg0.N) (r : Fin 512) (j : Fin 1024) : EReal := (iblk m c 4 t : Vec Ideal S512x1024 .f32) (ix2 r j)

set_option maxHeartbeats 2000000 in
theorem out_A (c : Dev nD) (t : Fin cfg0.N) (h0 : t.val % 16 = 0) (r : Fin 512) (j : Fin 1024) :
    (outsAt0 m c t.val t.isLt).1 (ix2 r j) = Norm.out (row m c t r) (grad m c t r) (gains m c t) (past m c t r) j := by
  rw [outsAt0_A m c t h0]
  dsimp only
  unfold out0_A_5
  rw [View.read_writes_eq_canon _ _ _ (fun _ => cover0_A_5 ..)]
  unfold kernelRun0_A row grad gains past
  dsimp only
  sl_unfold_words
  rw [View.canon_unit_zero hz]
  simp only [View.readAt_eq_ld, (hs0_0 t).read_unread, (hs0_1 t).read_unread, (hs0_2 t).read_unread, (hs0_3 t).read_unread, (hs0_4 t).read_unread, View.ld_unit_zero (S := S512x1024) hz, View.ld_unit_zero (S := S1x1024) hz]
  generalize iblk m c 0 t = x0, iblk m c 1 t = x1, iblk m c 2 t = x2
  unfold_payloads
  pointwise [dot_S512x512_S1024x512_S512x1024_1_1_0_0_n_n]
  rfl

set_option maxHeartbeats 2000000 in
theorem out_B (c : Dev nD) (t : Fin cfg0.N) (h0 : ¬t.val % 16 = 0) (r : Fin 512) (j : Fin 1024) :
    (outsAt0 m c t.val t.isLt).1 (ix2 r j) = Norm.out (row m c t r) (grad m c t r) (gains m c t) (past m c t r) j := by
  rw [outsAt0_B m c t h0]
  dsimp only
  unfold out0_B_5
  rw [View.read_writes_eq_canon _ _ _ (fun _ => cover0_B_5 ..)]
  unfold kernelRun0_B row grad gains past
  dsimp only
  sl_unfold_words
  rw [View.canon_unit_zero hz]
  simp only [View.readAt_eq_ld, (hs0_0 t).read_unread, (hs0_1 t).read_unread, (hs0_2 t).read_unread, (hs0_3 t).read_unread, (hs0_4 t).read_unread, View.ld_unit_zero (S := S512x1024) hz, View.ld_unit_zero (S := S1x1024) hz]
  generalize iblk m c 0 t = x0, iblk m c 1 t = x1, iblk m c 2 t = x2
  unfold_payloads
  pointwise [dot_S512x512_S1024x512_S512x1024_1_1_0_0_n_n]
  rfl

set_option maxHeartbeats 2000000 in
theorem sum_A (c : Dev nD) (t : Fin cfg0.N) (h0 : t.val % 16 = 0) (j : Fin 1024) :
    (outsAt0 m c t.val t.isLt).2.1 (ix2 0 j) = ∑ r, Norm.gain (row m c t r) (grad m c t r) j := by
  rw [outsAt0_A m c t h0]
  dsimp only
  unfold out0_A_6
  rw [View.read_writes_eq_canon _ _ _ (fun _ => cover0_A_6 ..)]
  unfold kernelRun0_A row grad
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread, (hs0_3 t).read_unread, (hs0_4 t).read_unread, View.ld_unit_zero (S := S512x1024) hz, View.ld_unit_zero (S := S1x1024) hz]
  generalize iblk m c 0 t = x0, iblk m c 1 t = x1, iblk m c 2 t = x2
  unfold_payloads
  pointwise [dot_S512x512_S1024x512_S512x1024_1_1_0_0_n_n]
  rfl

set_option maxHeartbeats 2000000 in
theorem sum_B (c : Dev nD) (t : Fin cfg0.N) (h0 : ¬t.val % 16 = 0) (j : Fin 1024) :
    (outsAt0 m c t.val t.isLt).2.1 (ix2 0 j) = (outsAt0 m c (t.val - 1) (Nat.lt_of_le_of_lt (Nat.sub_le _ _) t.isLt)).2.1 (ix2 0 j)
      + ∑ r, Norm.gain (row m c t r) (grad m c t r) j := by
  rw [outsAt0_B m c t h0]
  dsimp only
  unfold out0_B_6
  rw [View.read_writes_eq_canon _ _ _ (fun _ => cover0_B_6 ..)]
  unfold kernelRun0_B row grad
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_6 t).read_unread, View.ld_unit_zero (S := S512x1024) hz, View.ld_unit_zero (S := S1x1024) hz]
  generalize iblk m c 0 t = x0, iblk m c 1 t = x1, iblk m c 2 t = x2
  unfold_payloads
  pointwise [dot_S512x512_S1024x512_S512x1024_1_1_0_0_n_n]
  rfl

set_option maxHeartbeats 2000000 in
theorem col_A (c : Dev nD) (t : Fin cfg0.N) (h0 : t.val % 16 = 0) (j : Fin 1024) :
    (outsAt0 m c t.val t.isLt).2.2 (ix2 0 j) = ∑ r, Norm.out (row m c t r) (grad m c t r) (gains m c t) (past m c t r) j := by
  rw [outsAt0_A m c t h0]
  dsimp only
  unfold out0_A_7
  rw [View.read_writes_eq_canon _ _ _ (fun _ => cover0_A_7 ..)]
  unfold kernelRun0_A row grad gains past
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread, (hs0_3 t).read_unread, (hs0_4 t).read_unread, View.ld_unit_zero (S := S512x1024) hz, View.ld_unit_zero (S := S1x1024) hz]
  generalize iblk m c 0 t = x0, iblk m c 1 t = x1, iblk m c 2 t = x2
  unfold_payloads
  pointwise [dot_S512x512_S1024x512_S512x1024_1_1_0_0_n_n]
  rfl

set_option maxHeartbeats 2000000 in
theorem col_B (c : Dev nD) (t : Fin cfg0.N) (h0 : ¬t.val % 16 = 0) (j : Fin 1024) :
    (outsAt0 m c t.val t.isLt).2.2 (ix2 0 j) = (outsAt0 m c (t.val - 1) (Nat.lt_of_le_of_lt (Nat.sub_le _ _) t.isLt)).2.2 (ix2 0 j)
      + ∑ r, Norm.out (row m c t r) (grad m c t r) (gains m c t) (past m c t r) j := by
  rw [outsAt0_B m c t h0]
  dsimp only
  unfold out0_B_7
  rw [View.read_writes_eq_canon _ _ _ (fun _ => cover0_B_7 ..)]
  unfold kernelRun0_B row grad gains past
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_7 t).read_unread, View.ld_unit_zero (S := S512x1024) hz, View.ld_unit_zero (S := S1x1024) hz]
  generalize iblk m c 0 t = x0, iblk m c 1 t = x1, iblk m c 2 t = x2
  unfold_payloads
  pointwise [dot_S512x512_S1024x512_S512x1024_1_1_0_0_n_n]
  rfl

end Cert.ConvInIdeal.Value

end
-- ==== Proof.ConvIn.Kernel.lean ====
/-
  The convolution input's gradient: the three results as functions of the arguments. A block is a part of the array the host
  prepared, what the host prepared is a part of the arguments, the sixteen row blocks make up the first result, and the two
  accumulated rows end as sums over all rows.
-/
module

public import proofs.«01_k».proof.Proof.ConvIn.Points

@[expose] public section

noncomputable section

open Idealize.ShloMosaic Idealize.ShloMosaic.TcCoe Idealize.SL.Sem
open Idealize.ShloMosaic.Pipeline (Dat)

namespace Cert.ConvInIdeal.Value
open Cert.ConvInIdeal Cert.ConvInIdeal.Gen

variable (m : (ℓ : Loc nD τ sig) → Buf (Elt Ideal) ℓ)

/-- The row the norm is taken of. -/
def hrow (a0 : FVec Ideal S8192x1024 .f32) (R : Fin 8192) (k : Fin 1024) : EReal := a0 (ix2 R k)

/-- The gradient that arrives at the norm's result. -/
def arriving (a2 : FVec Ideal S1x1024x2048 .f32) (a4 : FVec Ideal S8192x2048 .f32) (R : Fin 8192) (j : Fin 1024) : EReal :=
  ∑ n : Fin 2048, a4 (ix2 R n) * a2 (ix3 0 j n)

/-! ## What the host prepares -/

theorem v0 (c : Dev nD) (R : Fin 8192) (n : Fin 2048) : V m c main_v0 (ix2 R n) = (m ((c : Thread nD τ).loc main_arg4)) (ix2 R n) := by
  have e : V m c main_v0 = truncf (F := Ideal) (φ := .f32) .bf16 (m ((c : Thread nD τ).loc main_arg4)) bitsLt_bf16_f32 := by
    unfold V
    after_results_simp
  rw [e]
  pointwise

theorem squeeze (y : FVec Ideal S1x1024x2048 .f32) (j : Fin 1024) (n : Fin 2048) :
    (shapeCast S1024x2048 y shapeCasts_S1x1024x2048_S1024x2048) (ix2 j n) = y (ix3 0 j n) := by
  pointwise

theorem quarters (y : FVec Ideal S1x1024x2048 .f32) (a : Fin 4) (j : Fin 1024) (x : Fin 512) :
    (truncf (F := Ideal) .bf16 (transpose S4x1024x512 [1, 0, 2] (shapeCast S1024x4x512 (shapeCast S1024x2048 y
      shapeCasts_S1x1024x2048_S1024x2048) shapeCasts_S1024x2048_S1024x4x512) transposes_S1024x4x512_S4x1024x512_1_0_2) bitsLt_bf16_f32) (ix3 a j x)
      = y (ix3 0 j ⟨a.val * 512 + x.val, by omega⟩) := by
  generalize e : shapeCast S1024x2048 y shapeCasts_S1x1024x2048_S1024x2048 = z
  have hz := fun j n => (congrFun e (ix2 j n)).symm.trans (squeeze y j n)
  pointwise [hz]

theorem v4 (c : Dev nD) (a : Fin 4) (j : Fin 1024) (x : Fin 512) :
    V m c main_v4 (ix3 a j x) = (m ((c : Thread nD τ).loc main_arg2)) (ix3 0 j ⟨a.val * 512 + x.val, by omega⟩) := by
  have e : V m c main_v4 = truncf (F := Ideal) .bf16 (transpose S4x1024x512 [1, 0, 2] (shapeCast S1024x4x512 (shapeCast S1024x2048 (m ((c : Thread nD τ).loc main_arg2))
      shapeCasts_S1x1024x2048_S1024x2048) shapeCasts_S1024x2048_S1024x4x512) transposes_S1024x4x512_S4x1024x512_1_0_2) bitsLt_bf16_f32 := by
    unfold V
    after_results_simp
    rfl
  rw [e]
  exact quarters _ a j x

theorem v5 (c : Dev nD) (j : Fin 1024) : V m c main_v5 (ix2 0 j) = (m ((c : Thread nD τ).loc main_arg1)) (ix2 1 j) := by
  have e : V m c main_v5 = extractStridedSlice S1x1024 ![1, 0] (m ((c : Thread nD τ).loc main_arg1)) slices_S2x1024_S1x1024_1_0 := by
    unfold V
    after_results_simp
  rw [e]
  pointwise

/-! ## The blocks a point sees -/

theorem index0 : ∀ t : Fin grid0.N, win0_0.index t = ![t.val, 0] := by decide +kernel
theorem index1 : ∀ t : Fin grid0.N, win0_1.index t = ![0, 0, 0] := by decide +kernel
theorem index2 : ∀ t : Fin grid0.N, win0_2.index t = ![t.val, 0] := by decide +kernel
theorem index3 : ∀ t : Fin grid0.N, win0_3.index t = ![0, 0] := by decide +kernel
theorem index4 : ∀ t : Fin grid0.N, win0_4.index t = ![t.val, 0] := by decide +kernel
theorem index5 : ∀ t : Fin grid0.N, win0_5.index t = ![t.val, 0] := by decide +kernel

/-- Row `r` of point `t`'s block, among all rows. -/
def at_ (t : Fin cfg0.N) (r : Fin 512) : Fin 8192 := ⟨t.val * 512 + r.val, by have := t.isLt; have : cfg0.N = 16 := N_0; omega⟩

theorem blk0 (c : Dev nD) (t : Fin cfg0.N) (r : Fin 512) (x : Fin 2048) :
    (iblk m c 0 t : Vec Ideal S512x2048 .bf16) (ix2 r x) = V m c main_v0 (ix2 (at_ t r) x) := by
  unfold iblk
  rw [View.read_apply]
  show V m c main_v0 _ = _
  congr 1
  funext a'
  apply Fin.ext
  have hi := index0 t
  match a' with
  | ⟨0, _⟩ => show win0_0.index t 0 * 512 + 1 * r.val = t.val * 512 + r.val; rw [hi]; simp
  | ⟨1, _⟩ => show win0_0.index t 1 * 2048 + 1 * x.val = x.val; rw [hi]; simp

theorem blk1 (c : Dev nD) (t : Fin cfg0.N) (a : Fin 4) (j : Fin 1024) (x : Fin 512) :
    (iblk m c 1 t : Vec Ideal S4x1024x512 .bf16) (ix3 a j x) = V m c main_v4 (ix3 a j x) := by
  unfold iblk
  rw [View.read_apply]
  show V m c main_v4 _ = _
  congr 1
  funext a'
  apply Fin.ext
  have hi := index1 t
  match a' with
  | ⟨0, _⟩ => show win0_1.index t 0 * 4 + 1 * a.val = a.val; rw [hi]; simp
  | ⟨1, _⟩ => show win0_1.index t 1 * 1024 + 1 * j.val = j.val; rw [hi]; simp
  | ⟨2, _⟩ => show win0_1.index t 2 * 512 + 1 * x.val = x.val; rw [hi]; simp

theorem blk2 (c : Dev nD) (t : Fin cfg0.N) (r : Fin 512) (j : Fin 1024) :
    (iblk m c 2 t : Vec Ideal S512x1024 .f32) (ix2 r j) = V m c main_arg0 (ix2 (at_ t r) j) := by
  unfold iblk
  rw [View.read_apply]
  show V m c main_arg0 _ = _
  congr 1
  funext a'
  apply Fin.ext
  have hi := index2 t
  match a' with
  | ⟨0, _⟩ => show win0_2.index t 0 * 512 + 1 * r.val = t.val * 512 + r.val; rw [hi]; simp
  | ⟨1, _⟩ => show win0_2.index t 1 * 1024 + 1 * j.val = j.val; rw [hi]; simp

theorem blk3 (c : Dev nD) (t : Fin cfg0.N) (j : Fin 1024) :
    (iblk m c 3 t : Vec Ideal S1x1024 .f32) (ix2 0 j) = V m c main_v5 (ix2 0 j) := by
  unfold iblk
  rw [View.read_apply]
  show V m c main_v5 _ = _
  congr 1
  funext a'
  apply Fin.ext
  have hi := index3 t
  match a' with
  | ⟨0, _⟩ => show win0_3.index t 0 * 1 + 1 * 0 = 0; rw [hi]; simp
  | ⟨1, _⟩ => show win0_3.index t 1 * 1024 + 1 * j.val = j.val; rw [hi]; simp

theorem blk4 (c : Dev nD) (t : Fin cfg0.N) (r : Fin 512) (j : Fin 1024) :
    (iblk m c 4 t : Vec Ideal S512x1024 .f32) (ix2 r j) = V m c main_arg3 (ix2 (at_ t r) j) := by
  unfold iblk
  rw [View.read_apply]
  show V m c main_arg3 _ = _
  congr 1
  funext a'
  apply Fin.ext
  have hi := index4 t
  match a' with
  | ⟨0, _⟩ => show win0_4.index t 0 * 512 + 1 * r.val = t.val * 512 + r.val; rw [hi]; simp
  | ⟨1, _⟩ => show win0_4.index t 1 * 1024 + 1 * j.val = j.val; rw [hi]; simp

theorem row_eq (c : Dev nD) (t : Fin cfg0.N) (r : Fin 512) : row m c t r = hrow (m ((c : Thread nD τ).loc main_arg0)) (at_ t r) := by
  funext j
  unfold row
  rw [blk2, V_main_arg0]
  rfl

theorem grad_eq (c : Dev nD) (t : Fin cfg0.N) (r : Fin 512) : grad m c t r = arriving (m ((c : Thread nD τ).loc main_arg2)) (m ((c : Thread nD τ).loc main_arg4)) (at_ t r) := by
  funext j
  unfold grad df arriving
  have e0 := fun x => (blk0 m c t r x).trans (v0 m c (at_ t r) x)
  have e1 := fun a x => (blk1 m c t a j x).trans (v4 m c a j x)
  generalize (iblk m c 0 t : Vec Ideal S512x2048 .bf16) = x0 at e0 ⊢
  generalize (iblk m c 1 t : Vec Ideal S4x1024x512 .bf16) = x1 at e1 ⊢
  simp only [e0, e1]
  rw [Lift.sum_blocks (T := 2048) (B := 512) (K := 3) rfl, Fin.sum_univ_four]
  simp only [Fin.coe_ofNat_eq_mod]
  rfl

theorem gains_eq (c : Dev nD) (t : Fin cfg0.N) : gains m c t = fun j => m ((c : Thread nD τ).loc main_arg1) (ix2 1 j) := by
  funext j
  unfold gains
  rw [blk3, v5]

theorem past_eq (c : Dev nD) (t : Fin cfg0.N) (r : Fin 512) : past m c t r = fun j => m ((c : Thread nD τ).loc main_arg3) (ix2 (at_ t r) j) := by
  funext j
  unfold past
  rw [blk4, V_main_arg3]

/-! ## The results -/

/-- The first result's row `R`. -/
def outRow (c : Dev nD) (R : Fin 8192) (j : Fin 1024) : EReal :=
  Norm.out (hrow (m ((c : Thread nD τ).loc main_arg0)) R)
    (arriving (m ((c : Thread nD τ).loc main_arg2)) (m ((c : Thread nD τ).loc main_arg4)) R)
    (fun j => m ((c : Thread nD τ).loc main_arg1) (ix2 1 j)) (fun j => m ((c : Thread nD τ).loc main_arg3) (ix2 R j)) j

/-- Row `R`'s part of the gain's gradient. -/
def gainRow (c : Dev nD) (R : Fin 8192) (j : Fin 1024) : EReal :=
  Norm.gain (hrow (m ((c : Thread nD τ).loc main_arg0)) R)
    (arriving (m ((c : Thread nD τ).loc main_arg2)) (m ((c : Thread nD τ).loc main_arg4)) R) j

theorem outsAt_1 (c : Dev nD) (t : Fin cfg0.N) (r : Fin 512) (j : Fin 1024) : (outsAt0 m c t.val t.isLt).1 (ix2 r j) = outRow m c (at_ t r) j := by
  unfold outRow
  rw [← row_eq, ← grad_eq, ← gains_eq m c t, ← past_eq]
  by_cases h0 : t.val % 16 = 0
  · exact out_A m c t h0 r j
  · exact out_B m c t h0 r j

theorem gainRow_eq (c : Dev nD) (t : Fin cfg0.N) (r : Fin 512) (j : Fin 1024) : Norm.gain (row m c t r) (grad m c t r) j = gainRow m c (at_ t r) j := by
  rw [row_eq, grad_eq]; rfl

theorem outRow_eq (c : Dev nD) (t : Fin cfg0.N) (r : Fin 512) (j : Fin 1024) :
    Norm.out (row m c t r) (grad m c t r) (gains m c t) (past m c t r) j = outRow m c (at_ t r) j := by
  rw [row_eq, grad_eq, gains_eq, past_eq]; rfl

/-- The accumulated gain gradient after the last point. -/
theorem gain_last (c : Dev nD) (j : Fin 1024) : (outsAt0 m c 15 (by decide)).2.1 (ix2 0 j) = ∑ R, gainRow m c R j := by
  refine Lift.sum_rows (T := 8192) (B := 512) (K := 15) rfl (fun R => gainRow m c R j) (fun n h => (outsAt0 m c n h).2.1 (ix2 0 j)) ?_ ?_
  · intro h
    exact (sum_A m c ⟨0, h⟩ rfl j).trans (Finset.sum_congr rfl fun r _ => gainRow_eq m c ⟨0, h⟩ r j)
  · intro n h
    exact (sum_B m c ⟨n + 1, h⟩ (by dsimp only; omega) j).trans (congrArg _ (Finset.sum_congr rfl fun r _ => gainRow_eq m c ⟨n + 1, h⟩ r j))

/-- The accumulated column sums after the last point. -/
theorem col_last (c : Dev nD) (j : Fin 1024) : (outsAt0 m c 15 (by decide)).2.2 (ix2 0 j) = ∑ R, outRow m c R j := by
  refine Lift.sum_rows (T := 8192) (B := 512) (K := 15) rfl (fun R => outRow m c R j) (fun n h => (outsAt0 m c n h).2.2 (ix2 0 j)) ?_ ?_
  · intro h
    exact (col_A m c ⟨0, h⟩ rfl j).trans (Finset.sum_congr rfl fun r _ => outRow_eq m c ⟨0, h⟩ r j)
  · intro n h
    exact (col_B m c ⟨n + 1, h⟩ (by dsimp only; omega) j).trans (congrArg _ (Finset.sum_congr rfl fun r _ => outRow_eq m c ⟨n + 1, h⟩ r j))

theorem final5 (c : Dev nD) (R : Fin 8192) (j : Fin 1024) : (dats m 0 c).arrAt 5 cfg0.N (ix2 R j) = outRow m c R j := by
  have hN : cfg0.N = 16 := N_0
  have hR := R.isLt
  have ht : R.val / 512 < cfg0.N := by omega
  have h := congrFun (blocks5 m c ⟨R.val / 512, ht⟩ (flush0_5 _)) (ix2 ⟨R.val % 512, by omega⟩ j)
  rw [View.read_apply, flushed5] at h
  have e := outsAt_1 m c ⟨R.val / 512, ht⟩ ⟨R.val % 512, by omega⟩ j
  rw [show at_ ⟨R.val / 512, ht⟩ ⟨R.val % 512, by omega⟩ = R from Fin.ext (by unfold at_; dsimp only; omega)] at e
  rw [← e]
  refine Eq.trans (congrArg _ ?_) h
  funext a'
  apply Fin.ext
  have hi := index5 ⟨R.val / 512, ht⟩
  match a' with
  | ⟨0, _⟩ => show R.val = win0_5.index ⟨R.val / 512, _⟩ 0 * 512 + 1 * (R.val % 512); rw [hi]; simp; omega
  | ⟨1, _⟩ => show j.val = win0_5.index ⟨R.val / 512, _⟩ 1 * 1024 + 1 * j.val; rw [hi]; simp

/-- The last point. -/
abbrev last : Fin cfg0.N := ⟨15, by decide⟩

/-- The row of sums the second result ends as. -/
def gainSum (c : Dev nD) : Buf (Elt Ideal) ((c : Thread nD τ).loc main_v7_1) := (outsAt0 m c 15 (by decide)).2.1

/-- The row of sums the third result ends as. -/
def colSum (c : Dev nD) : Buf (Elt Ideal) ((c : Thread nD τ).loc main_v7_2) := (outsAt0 m c 15 (by decide)).2.2

theorem final6 (c : Dev nD) : (dats m 0 c).arrAt 6 cfg0.N = gainSum m c := by
  have hN : cfg0.N = 16 := N_0
  have hz' : (fun a => win0_6.index last a * main_v7_1.ty.shape.size a) = fun _ => 0 := funext fun a => by fin_cases a <;> decide
  refine (dats m 0 c).arrAt_eq_of_cover 6 (gainSum m c) (fun t hf => ?_) fun i => ⟨last, (flush0_6 _).mpr (by decide), ?_⟩
  · obtain rfl : t = last := Fin.ext (by have := (flush0_6 t).mp hf; have := t.isLt; show t.val = 15; omega)
    rw [flushed6]
    exact (Memref.read_access_unit_zero (Elt Ideal) main_v7_1 hz' (fun a => by rw [congrFun hz' a]; simp) (gainSum m c)).symm
  · show i ∈ ((View.whole main_v7_1).slice (win0_6.rect last)).set
    rw [View.set_slice_whole, Rect.mem_set_unit]
    intro a
    have h0 : (i 0 : Nat) < 1 := (i 0).isLt
    have h1 : (i 1 : Nat) < 1024 := (i 1).isLt
    match a with
    | ⟨0, _⟩ => show win0_6.index _ 0 * win0_6.size 0 ≤ (i 0 : Nat) ∧ (i 0 : Nat) < win0_6.index _ 0 * win0_6.size 0 + win0_6.xsize (grid0.coords _) 0
                rw [show win0_6.index last 0 * win0_6.size 0 = 0 from by decide +kernel, show win0_6.xsize (grid0.coords last) 0 = 1 from by decide +kernel]; omega
    | ⟨1, _⟩ => show win0_6.index _ 1 * win0_6.size 1 ≤ (i 1 : Nat) ∧ (i 1 : Nat) < win0_6.index _ 1 * win0_6.size 1 + win0_6.xsize (grid0.coords _) 1
                rw [show win0_6.index last 1 * win0_6.size 1 = 0 from by decide +kernel, show win0_6.xsize (grid0.coords last) 1 = 1024 from by decide +kernel]; omega

theorem final7 (c : Dev nD) : (dats m 0 c).arrAt 7 cfg0.N = colSum m c := by
  have hN : cfg0.N = 16 := N_0
  have hz' : (fun a => win0_7.index last a * main_v7_2.ty.shape.size a) = fun _ => 0 := funext fun a => by fin_cases a <;> decide
  refine (dats m 0 c).arrAt_eq_of_cover 7 (colSum m c) (fun t hf => ?_) fun i => ⟨last, (flush0_7 _).mpr (by decide), ?_⟩
  · obtain rfl : t = last := Fin.ext (by have := (flush0_7 t).mp hf; have := t.isLt; show t.val = 15; omega)
    rw [flushed7]
    exact (Memref.read_access_unit_zero (Elt Ideal) main_v7_2 hz' (fun a => by rw [congrFun hz' a]; simp) (colSum m c)).symm
  · show i ∈ ((View.whole main_v7_2).slice (win0_7.rect last)).set
    rw [View.set_slice_whole, Rect.mem_set_unit]
    intro a
    have h0 : (i 0 : Nat) < 1 := (i 0).isLt
    have h1 : (i 1 : Nat) < 1024 := (i 1).isLt
    match a with
    | ⟨0, _⟩ => show win0_7.index _ 0 * win0_7.size 0 ≤ (i 0 : Nat) ∧ (i 0 : Nat) < win0_7.index _ 0 * win0_7.size 0 + win0_7.xsize (grid0.coords _) 0
                rw [show win0_7.index last 0 * win0_7.size 0 = 0 from by decide +kernel, show win0_7.xsize (grid0.coords last) 0 = 1 from by decide +kernel]; omega
    | ⟨1, _⟩ => show win0_7.index _ 1 * win0_7.size 1 ≤ (i 1 : Nat) ∧ (i 1 : Nat) < win0_7.index _ 1 * win0_7.size 1 + win0_7.xsize (grid0.coords _) 1
                rw [show win0_7.index last 1 * win0_7.size 1 = 0 from by decide +kernel, show win0_7.xsize (grid0.coords last) 1 = 1024 from by decide +kernel]; omega

end Cert.ConvInIdeal.Value

end
-- ==== Proof.ConvIn.Reference.lean ====
/-
  The convolution input's gradient by the chain rule: the reference's results, read at an index.
-/
module

public import proofs.«01_k».proof.Proof.ConvIn.Kernel
public import proofs.«01_k».proof.Proof.Gen.ConvInRefIdeal.Read

@[expose] public section

noncomputable section

open Idealize.ShloMosaic Idealize.ShloMosaic.TcCoe Idealize.SL.Sem

namespace Cert.ConvInRefIdeal.Read
open Cert.ConvInRefIdeal Cert.ConvInRefIdeal.Gen
open Cert.ConvInIdeal.Value (hrow arriving)

variable (x0 : FVec Ideal S8192x1024 .f32) (x1 : FVec Ideal S2x1024 .f32) (x2 : FVec Ideal S1x1024x2048 .f32)
  (x3 : FVec Ideal S8192x1024 .f32) (x4 : FVec Ideal S8192x2048 .f32)

theorem at8 (R : Fin 8192) (z : Fin 1) : val_main_v8 (F := Ideal) x0 (ix2 R z)
    = Ideal.div (∑ k, hrow x0 R k * hrow x0 R k) (Ideal.ofBits .f32 1149239296#32) + Ideal.ofBits .f32 925353388#32 := by
  unfold val_main_v8 val_main_v7 val_main_v6 val_main_v5 val_main_v4 val_main_v3 val_main_v2 val_main_cst val_main_cst_0 val_main_cst_1 hrow
  pointwise

theorem at9 (R : Fin 8192) (z : Fin 1) : val_main_v9 (F := Ideal) x0 (ix2 R z) = Norm.rstd (hrow x0 R) := by
  unfold val_main_v9 Norm.rstd
  pointwise [at8]

theorem at20 (R : Fin 8192) (j : Fin 1024) : val_main_v20 (F := Ideal) x2 x4 (ix2 R j) = arriving x2 x4 R j := by
  unfold val_main_v20 val_main_v18 arriving
  pointwise [dot_S8192x2048_S1024x2048_S8192x1024_1_1_0_0_n_n]

theorem at25 (R : Fin 8192) (j : Fin 1024) : val_main_v25 (F := Ideal) x1 x2 x4 (ix2 R j) = arriving x2 x4 R j * x1 (ix2 1 j) := by
  unfold val_main_v25 val_main_v24 val_main_v15 val_main_v1 val_main_v0
  pointwise [at20]

theorem at37 (R : Fin 8192) (j : Fin 1024) : val_main_v37 (F := Ideal) x0 x1 x2 x4 (ix2 R j)
    = Norm.chain (hrow x0 R) (arriving x2 x4 R) (fun j => x1 (ix2 1 j)) := by
  unfold val_main_v37 val_main_v36 val_main_v35 val_main_v34 val_main_v33 val_main_v29 val_main_v28 val_main_v27 val_main_v12 val_main_v11 val_main_v10
    val_main_cst_2 val_main_cst_5 val_main_cst_6 val_main_cst_7 Norm.chain
  pointwise [at25, at8, at9]
  exact Fintype.sum_unique _

theorem at41 (R : Fin 8192) (j : Fin 1024) : val_main_v41 (F := Ideal) x0 x1 x2 x3 x4 (ix2 R j)
    = Norm.vjp (hrow x0 R) (arriving x2 x4 R) (fun j => x1 (ix2 1 j)) (fun j => x3 (ix2 R j)) j := by
  have e30 : val_main_v30 (F := Ideal) x0 (ix2 R j) = Norm.rstd (hrow x0 R) := by
    unfold val_main_v30
    pointwise [at9]
  rw [val_main_v41_apply, val_main_v40_apply, val_main_v39_apply, val_main_v38_apply, val_main_v32_apply, val_main_v31_apply, e30, at25, at37]
  rfl

theorem at42 (j : Fin 1024) : val_main_v42 (F := Ideal) x0 x2 x4 (ix2 0 j) = ∑ R, Norm.gain (hrow x0 R) (arriving x2 x4 R) j := by
  unfold val_main_v42 val_main_v26 val_main_v23 val_main_v22 val_main_v21 val_main_v14 val_main_v13 val_main_cst_3 val_main_cst_4 Norm.gain
  pointwise [at20, at9]
  refine (Fintype.sum_unique _).trans ?_
  exact Finset.sum_congr rfl fun R _ => mul_comm _ _

theorem at44 (j : Fin 1024) : val_main_v44 (F := Ideal) x0 x1 x2 x3 x4 (ix2 0 j)
    = ∑ R, Norm.vjp (hrow x0 R) (arriving x2 x4 R) (fun j => x1 (ix2 1 j)) (fun j => x3 (ix2 R j)) j := by
  unfold val_main_v44 val_main_v43 val_main_cst_8
  pointwise [at41]

end Cert.ConvInRefIdeal.Read

end
-- ==== Proof.ConvIn.Value.lean ====
/-
  The convolution input's gradient: both programs end with the same three results.
-/
module

public import proofs.«01_k».proof.Defs
public import proofs.«01_k».proof.Proof.ConvIn.Reference
public import proofs.«01_k».proof.Proof.Gen.Pre_finite_conv_in

@[expose] public section

noncomputable section

open Idealize.ShloMosaic Idealize.ShloMosaic.TcCoe Idealize.SL.Sem

namespace Cert.ConvInIdeal.Value
open Cert.ConvInIdeal Cert.ConvInIdeal.Gen
open Cert.ConvInRefIdeal.Read

variable (m : (ℓ : Loc nD τ sig) → Buf (Elt Ideal) ℓ)

/-- On finite arguments the chain rule's row is the kernel's. -/
theorem row_agrees (hpre : Cert.Pre_ConvInIdeal_finite_conv_in m) (c : Dev nD) (R : Fin 8192) (j : Fin 1024) :
    Norm.vjp (hrow (m ((c : Thread nD τ).loc main_arg0)) R) (arriving (m ((c : Thread nD τ).loc main_arg2)) (m ((c : Thread nD τ).loc main_arg4)) R) (fun j => m ((c : Thread nD τ).loc main_arg1) (ix2 1 j)) (fun j => m ((c : Thread nD τ).loc main_arg3) (ix2 R j)) j = outRow m c R j := by
  unfold outRow
  obtain ⟨h0, h1, h2, h4⟩ := hpre c
  obtain ⟨X0, e0⟩ := Lift.exists_real h0
  obtain ⟨X1, e1⟩ := Lift.exists_real h1
  obtain ⟨X2, e2⟩ := Lift.exists_real h2
  obtain ⟨X4, e4⟩ := Lift.exists_real h4
  refine Norm.vjp_eq_out' ⟨fun k => X0 (ix2 R k), ?_⟩ ⟨fun j => ∑ n : Fin 2048, X4 (ix2 R n) * X2 (ix3 0 j n), ?_⟩ ⟨fun j => X1 (ix2 1 j), ?_⟩ _ j
  · funext k
    unfold hrow
    rw [e0]
  · funext k
    unfold arriving
    rw [e2, e4]
    simp only [← EReal.coe_mul, Lift.coe_sum]
  · rw [e1]

theorem value : Cert.algebraic_ConvInIdeal_ConvInRefIdeal_pre_finite_conv_in := by
  intro m g m' g' hpre harg
  refine ⟨fun c => (dats m 0 c).arrAt 5 cfg0.N, fun c => gainSum m c, fun c => colSum m c, ?_, ?_⟩
  · refine (θ_run defs _ _).mono (fun r h c => ?_) (run_blocks m g)
    obtain ⟨h0, h1, h2, hr⟩ := h c
    exact ⟨h0, h1.trans (final6 m c), h2.trans (final7 m c), hr⟩
  · refine (θ_run Cert.ConvInRefIdeal.defs _ _).mono (fun r h c => ?_) (Cert.ConvInRefIdeal.Value.run m' g')
    obtain ⟨h0, h1, h2, hr⟩ := h c
    obtain ⟨a0, a1, a2, a3, a4⟩ := harg c
    refine ⟨h0.trans ?_, h1.trans ?_, h2.trans ?_, hr⟩
    · refine (val_main_v41_eq m' c).trans ?_
      rw [a0, a1, a2, a3, a4]
      funext i
      obtain ⟨R, j, rfl⟩ : ∃ R j, i = ix2 R j := ⟨i 0, i 1, eq_ix2 i⟩
      exact (at41 _ _ _ _ _ R j).trans ((row_agrees m hpre c R j).trans (final5 m c R j).symm)
    · refine (val_main_v42_eq _ _ _).trans ?_
      rw [a0, a2, a4]
      funext i
      obtain ⟨z, j, rfl⟩ : ∃ z j, i = ix2 z j := ⟨i 0, i 1, eq_ix2 i⟩
      obtain rfl : z = 0 := Subsingleton.elim _ _
      exact (at42 _ _ _ j).trans (gain_last m c j).symm
    · refine (val_main_v44_eq m' c).trans ?_
      rw [a0, a1, a2, a3, a4]
      funext i
      obtain ⟨z, j, rfl⟩ : ∃ z j, i = ix2 z j := ⟨i 0, i 1, eq_ix2 i⟩
      obtain rfl : z = 0 := Subsingleton.elim _ _
      exact (at44 _ _ _ _ _ j).trans ((Finset.sum_congr rfl fun R _ => row_agrees m hpre c R j).trans (col_last m c j).symm)

/-- The reference leaves its arguments and its counters as they were. -/
theorem frame_ref : Cert.quiescent_ConvInRefIdeal := fun m g _ =>
  (θ_run Cert.ConvInRefIdeal.defs _ _).mono (fun r h => ⟨fun c => (h c).2.2.2, sem_eq_zero_of_no_sems (by decide) r.2⟩)
    (Cert.ConvInRefIdeal.Value.run (F := Ideal) m g)

end Cert.ConvInIdeal.Value

end
-- ==== Proof.AttnIn.Points.lean ====
/-
  The gradient of the attention's input product and norm, one grid point at a time: what a point leaves in its three output buffers, read at an index,
  as the norm's gradient of the point's 512 rows.
-/
module

public import proofs.«01_k».proof.Proof.Norm
public import proofs.«01_k».proof.Proof.Gen.AttnInIdeal.Value

@[expose] public section

noncomputable section

open Idealize.ShloMosaic Idealize.ShloMosaic.TcCoe Idealize.SL.Sem
open Idealize.ShloMosaic.Pipeline (Dat)

namespace Cert.AttnInIdeal.Value
open Cert.AttnInIdeal Cert.AttnInIdeal.Gen

variable (m : (ℓ : Loc nD τ sig) → Buf (Elt Ideal) ℓ)

theorem hz : (![0, 0] : Fin 2 → Nat) = fun _ => 0 := funext fun a => by fin_cases a <;> rfl

/-- The gradient that arrives at the norm's result, of a block's row: the two products, in the body's order. -/
def df (x0 : Vec Ideal S512x1024 .bf16) (x1 : Vec Ideal S512x256 .bf16) (x2 : Vec Ideal S1024x1024 .bf16) (x3 : Vec Ideal S256x1024 .bf16)
    (r : Fin 512) (j : Fin 1024) : EReal :=
  ∑ x, x0 (ix2 r x) * x2 (ix2 x j) + ∑ x, x1 (ix2 r x) * x3 (ix2 x j)

/-- Row `r` of the block the norm's gradient is taken of, at point `t`. -/
def row (c : Dev nD) (t : Fin cfg0.N) (r : Fin 512) (j : Fin 1024) : EReal := (iblk m c 4 t : Vec Ideal S512x1024 .f32) (ix2 r j)

/-- The gradient that arrives at the norm's result. -/
def grad (c : Dev nD) (t : Fin cfg0.N) (r : Fin 512) (j : Fin 1024) : EReal := df (iblk m c 0 t) (iblk m c 1 t) (iblk m c 2 t) (iblk m c 3 t) r j

/-- The norm's gain. -/
def gains (c : Dev nD) (t : Fin cfg0.N) (j : Fin 1024) : EReal := (iblk m c 5 t : Vec Ideal S1x1024 .f32) (ix2 0 j)

/-- The gradient that goes past the norm. -/
def past (c : Dev nD) (t : Fin cfg0.N) (r : Fin 512) (j : Fin 1024) : EReal := (iblk m c 6 t : Vec Ideal S512x1024 .f32) (ix2 r j)

set_option maxHeartbeats 2000000 in
theorem out_A (c : Dev nD) (t : Fin cfg0.N) (h0 : t.val % 16 = 0) (r : Fin 512) (j : Fin 1024) :
    (outsAt0 m c t.val t.isLt).1 (ix2 r j) = Norm.out (row m c t r) (grad m c t r) (gains m c t) (past m c t r) j := by
  rw [outsAt0_A m c t h0]
  dsimp only
  unfold out0_A_7
  rw [View.read_writes_eq_canon _ _ _ (fun _ => cover0_A_7 ..)]
  unfold kernelRun0_A row grad gains past
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S512x1024) hz, View.ld_unit_zero (S := S1x1024) hz]
  generalize iblk m c 0 t = x0, iblk m c 1 t = x1, iblk m c 2 t = x2, iblk m c 3 t = x3, iblk m c 4 t = x4, iblk m c 5 t = x5, iblk m c 6 t = x6
  unfold_payloads
  pointwise [dot_S512x1024_S1024x1024_S512x1024_1_0_0_1_n_n, dot_S512x256_S256x1024_S512x1024_1_0_0_1_n_n]
  rfl

set_option maxHeartbeats 2000000 in
theorem out_B (c : Dev nD) (t : Fin cfg0.N) (h0 : ¬t.val % 16 = 0) (r : Fin 512) (j : Fin 1024) :
    (outsAt0 m c t.val t.isLt).1 (ix2 r j) = Norm.out (row m c t r) (grad m c t r) (gains m c t) (past m c t r) j := by
  rw [outsAt0_B m c t h0]
  dsimp only
  unfold out0_B_7
  rw [View.read_writes_eq_canon _ _ _ (fun _ => cover0_B_7 ..)]
  unfold kernelRun0_B row grad gains past
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S512x1024) hz, View.ld_unit_zero (S := S1x1024) hz]
  generalize iblk m c 0 t = x0, iblk m c 1 t = x1, iblk m c 2 t = x2, iblk m c 3 t = x3, iblk m c 4 t = x4, iblk m c 5 t = x5, iblk m c 6 t = x6
  unfold_payloads
  pointwise [dot_S512x1024_S1024x1024_S512x1024_1_0_0_1_n_n, dot_S512x256_S256x1024_S512x1024_1_0_0_1_n_n]
  rfl

set_option maxHeartbeats 2000000 in
theorem sum_A (c : Dev nD) (t : Fin cfg0.N) (h0 : t.val % 16 = 0) (j : Fin 1024) :
    (outsAt0 m c t.val t.isLt).2.1 (ix2 0 j) = ∑ r, Norm.gain (row m c t r) (grad m c t r) j := by
  rw [outsAt0_A m c t h0]
  dsimp only
  unfold out0_A_8
  rw [View.read_writes_eq_canon _ _ _ (fun _ => cover0_A_8 ..)]
  unfold kernelRun0_A row grad
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S512x1024) hz, View.ld_unit_zero (S := S1x1024) hz]
  generalize iblk m c 0 t = x0, iblk m c 1 t = x1, iblk m c 2 t = x2, iblk m c 3 t = x3, iblk m c 4 t = x4
  unfold_payloads
  pointwise [dot_S512x1024_S1024x1024_S512x1024_1_0_0_1_n_n, dot_S512x256_S256x1024_S512x1024_1_0_0_1_n_n]
  rfl

set_option maxHeartbeats 2000000 in
theorem sum_B (c : Dev nD) (t : Fin cfg0.N) (h0 : ¬t.val % 16 = 0) (j : Fin 1024) :
    (outsAt0 m c t.val t.isLt).2.1 (ix2 0 j) = (outsAt0 m c (t.val - 1) (Nat.lt_of_le_of_lt (Nat.sub_le _ _) t.isLt)).2.1 (ix2 0 j)
      + ∑ r, Norm.gain (row m c t r) (grad m c t r) j := by
  rw [outsAt0_B m c t h0]
  dsimp only
  unfold out0_B_8
  rw [View.read_writes_eq_canon _ _ _ (fun _ => cover0_B_8 ..)]
  unfold kernelRun0_B row grad
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_8 t).read_unread, View.ld_unit_zero (S := S512x1024) hz, View.ld_unit_zero (S := S1x1024) hz]
  generalize iblk m c 0 t = x0, iblk m c 1 t = x1, iblk m c 2 t = x2, iblk m c 3 t = x3, iblk m c 4 t = x4
  unfold_payloads
  pointwise [dot_S512x1024_S1024x1024_S512x1024_1_0_0_1_n_n, dot_S512x256_S256x1024_S512x1024_1_0_0_1_n_n]
  rfl

set_option maxHeartbeats 2000000 in
theorem col_A (c : Dev nD) (t : Fin cfg0.N) (h0 : t.val % 16 = 0) (j : Fin 1024) :
    (outsAt0 m c t.val t.isLt).2.2 (ix2 0 j) = ∑ r, Norm.out (row m c t r) (grad m c t r) (gains m c t) (past m c t r) j := by
  rw [outsAt0_A m c t h0]
  dsimp only
  unfold out0_A_9
  rw [View.read_writes_eq_canon _ _ _ (fun _ => cover0_A_9 ..)]
  unfold kernelRun0_A row grad gains past
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S512x1024) hz, View.ld_unit_zero (S := S1x1024) hz]
  generalize iblk m c 0 t = x0, iblk m c 1 t = x1, iblk m c 2 t = x2, iblk m c 3 t = x3, iblk m c 4 t = x4, iblk m c 5 t = x5, iblk m c 6 t = x6
  unfold_payloads
  pointwise [dot_S512x1024_S1024x1024_S512x1024_1_0_0_1_n_n, dot_S512x256_S256x1024_S512x1024_1_0_0_1_n_n]
  rfl

set_option maxHeartbeats 2000000 in
theorem col_B (c : Dev nD) (t : Fin cfg0.N) (h0 : ¬t.val % 16 = 0) (j : Fin 1024) :
    (outsAt0 m c t.val t.isLt).2.2 (ix2 0 j) = (outsAt0 m c (t.val - 1) (Nat.lt_of_le_of_lt (Nat.sub_le _ _) t.isLt)).2.2 (ix2 0 j)
      + ∑ r, Norm.out (row m c t r) (grad m c t r) (gains m c t) (past m c t r) j := by
  rw [outsAt0_B m c t h0]
  dsimp only
  unfold out0_B_9
  rw [View.read_writes_eq_canon _ _ _ (fun _ => cover0_B_9 ..)]
  unfold kernelRun0_B row grad gains past
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_9 t).read_unread, View.ld_unit_zero (S := S512x1024) hz, View.ld_unit_zero (S := S1x1024) hz]
  generalize iblk m c 0 t = x0, iblk m c 1 t = x1, iblk m c 2 t = x2, iblk m c 3 t = x3, iblk m c 4 t = x4, iblk m c 5 t = x5, iblk m c 6 t = x6
  unfold_payloads
  pointwise [dot_S512x1024_S1024x1024_S512x1024_1_0_0_1_n_n, dot_S512x256_S256x1024_S512x1024_1_0_0_1_n_n]
  rfl

end Cert.AttnInIdeal.Value

end
-- ==== Proof.AttnIn.Kernel.lean ====
/-
  The attention input's gradient: the three results as functions of the arguments. A block is a part of the array the host
  prepared, what the host prepared is a part of the arguments, the sixteen row blocks make up the first result, and the two
  accumulated rows end as sums over all rows.
-/
module

public import proofs.«01_k».proof.Proof.AttnIn.Points

@[expose] public section

noncomputable section

open Idealize.ShloMosaic Idealize.ShloMosaic.TcCoe Idealize.SL.Sem
open Idealize.ShloMosaic.Pipeline (Dat)

namespace Cert.AttnInIdeal.Value
open Cert.AttnInIdeal Cert.AttnInIdeal.Gen

variable (m : (ℓ : Loc nD τ sig) → Buf (Elt Ideal) ℓ)

/-- The row the norm is taken of. -/
def hrow (a0 : FVec Ideal S8192x1024 .f32) (R : Fin 8192) (k : Fin 1024) : EReal := a0 (ix2 R k)

/-- The gradient that arrives at the norm's result. -/
def arriving (a2 : FVec Ideal S1x1024x1280 .f32) (a4 : FVec Ideal S8192x1280 .f32) (R : Fin 8192) (j : Fin 1024) : EReal :=
  ∑ n : Fin 1280, a4 (ix2 R n) * a2 (ix3 0 j n)

/-! ## What the host prepares -/

theorem squeeze (y : FVec Ideal S1x1024x1280 .f32) (j : Fin 1024) (n : Fin 1280) :
    (shapeCast S1024x1280 y shapeCasts_S1x1024x1280_S1024x1280) (ix2 j n) = y (ix3 0 j n) := by
  pointwise

theorem transposed (y : FVec Ideal S1x1024x1280 .f32) (n : Fin 1280) (j : Fin 1024) :
    (truncf (F := Ideal) .bf16 (transpose S1280x1024 [1, 0] (shapeCast S1024x1280 y shapeCasts_S1x1024x1280_S1024x1280) transposes_S1024x1280_S1280x1024_1_0) bitsLt_bf16_f32) (ix2 n j)
      = y (ix3 0 j n) := by
  pointwise [squeeze]

theorem v4 (c : Dev nD) (R : Fin 8192) (n : Fin 1024) : V m c main_v4 (ix2 R n) = (m ((c : Thread nD τ).loc main_arg4)) (ix2 R ⟨n.val, by omega⟩) := by
  have e : V m c main_v4 = extractStridedSlice S8192x1024 ![0, 0] (truncf (F := Ideal) (φ := .f32) .bf16 (m ((c : Thread nD τ).loc main_arg4)) bitsLt_bf16_f32) slices_S8192x1280_S8192x1024_0_0 := by
    unfold V
    after_results_simp
  rw [e]
  pointwise

theorem v6 (c : Dev nD) (R : Fin 8192) (n : Fin 256) : V m c main_v6 (ix2 R n) = (m ((c : Thread nD τ).loc main_arg4)) (ix2 R ⟨1024 + n.val, by omega⟩) := by
  have e : V m c main_v6 = extractStridedSlice S8192x256 ![0, 1024] (truncf (F := Ideal) (φ := .f32) .bf16 (m ((c : Thread nD τ).loc main_arg4)) bitsLt_bf16_f32) slices_S8192x1280_S8192x256_0_1024 := by
    unfold V
    after_results_simp
  rw [e]
  pointwise

theorem v5 (c : Dev nD) (n : Fin 1024) (j : Fin 1024) : V m c main_v5 (ix2 n j) = (m ((c : Thread nD τ).loc main_arg2)) (ix3 0 j ⟨n.val, by omega⟩) := by
  have e : V m c main_v5 = extractStridedSlice S1024x1024 ![0, 0] (truncf (F := Ideal) .bf16 (transpose S1280x1024 [1, 0] (shapeCast S1024x1280 (m ((c : Thread nD τ).loc main_arg2)) shapeCasts_S1x1024x1280_S1024x1280) transposes_S1024x1280_S1280x1024_1_0) bitsLt_bf16_f32) slices_S1280x1024_S1024x1024_0_0 := by
    unfold V
    after_results_simp
    rfl
  rw [e]
  generalize e' : (truncf (F := Ideal) .bf16 (transpose S1280x1024 [1, 0] (shapeCast S1024x1280 (m ((c : Thread nD τ).loc main_arg2)) shapeCasts_S1x1024x1280_S1024x1280) transposes_S1024x1280_S1280x1024_1_0) bitsLt_bf16_f32) = z
  have hz := fun n j => (congrFun e' (ix2 n j)).symm.trans (transposed _ n j)
  pointwise [hz]

theorem v7 (c : Dev nD) (n : Fin 256) (j : Fin 1024) : V m c main_v7 (ix2 n j) = (m ((c : Thread nD τ).loc main_arg2)) (ix3 0 j ⟨1024 + n.val, by omega⟩) := by
  have e : V m c main_v7 = extractStridedSlice S256x1024 ![1024, 0] (truncf (F := Ideal) .bf16 (transpose S1280x1024 [1, 0] (shapeCast S1024x1280 (m ((c : Thread nD τ).loc main_arg2)) shapeCasts_S1x1024x1280_S1024x1280) transposes_S1024x1280_S1280x1024_1_0) bitsLt_bf16_f32) slices_S1280x1024_S256x1024_1024_0 := by
    unfold V
    after_results_simp
    rfl
  rw [e]
  generalize e' : (truncf (F := Ideal) .bf16 (transpose S1280x1024 [1, 0] (shapeCast S1024x1280 (m ((c : Thread nD τ).loc main_arg2)) shapeCasts_S1x1024x1280_S1024x1280) transposes_S1024x1280_S1280x1024_1_0) bitsLt_bf16_f32) = z
  have hz := fun n j => (congrFun e' (ix2 n j)).symm.trans (transposed _ n j)
  pointwise [hz]

theorem v8 (c : Dev nD) (j : Fin 1024) : V m c main_v8 (ix2 0 j) = (m ((c : Thread nD τ).loc main_arg1)) (ix2 0 j) := by
  have e : V m c main_v8 = extractStridedSlice S1x1024 ![0, 0] (m ((c : Thread nD τ).loc main_arg1)) slices_S2x1024_S1x1024_0_0 := by
    unfold V
    after_results_simp
  rw [e]
  pointwise

/-! ## The blocks a point sees -/

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![t.val, 0] := by decide +kernel
theorem index5 : ∀ t : Fin grid0.N, win0_5.index t = ![0, 0] := by decide +kernel
theorem index6 : ∀ t : Fin grid0.N, win0_6.index t = ![t.val, 0] := by decide +kernel
theorem index7 : ∀ t : Fin grid0.N, win0_7.index t = ![t.val, 0] := by decide +kernel

/-- Row `r` of point `t`'s block, among all rows. -/
def at_ (t : Fin cfg0.N) (r : Fin 512) : Fin 8192 := ⟨t.val * 512 + r.val, by have := t.isLt; have : cfg0.N = 16 := N_0; omega⟩

theorem blk0 (c : Dev nD) (t : Fin cfg0.N) (r : Fin 512) (x : Fin 1024) :
    (iblk m c 0 t : Vec Ideal S512x1024 .bf16) (ix2 r x) = V m c main_v4 (ix2 (at_ t r) x) := by
  unfold iblk
  rw [View.read_apply]
  show V m c main_v4 _ = _
  congr 1
  funext a'
  apply Fin.ext
  have hi := index0 t
  match a' with
  | ⟨0, _⟩ => show win0_0.index t 0 * 512 + 1 * r.val = t.val * 512 + r.val; rw [hi]; simp
  | ⟨1, _⟩ => show win0_0.index t 1 * 1024 + 1 * x.val = x.val; rw [hi]; simp

theorem blk1 (c : Dev nD) (t : Fin cfg0.N) (r : Fin 512) (x : Fin 256) :
    (iblk m c 1 t : Vec Ideal S512x256 .bf16) (ix2 r x) = V m c main_v6 (ix2 (at_ t r) x) := by
  unfold iblk
  rw [View.read_apply]
  show V m c main_v6 _ = _
  congr 1
  funext a'
  apply Fin.ext
  have hi := index1 t
  match a' with
  | ⟨0, _⟩ => show win0_1.index t 0 * 512 + 1 * r.val = t.val * 512 + r.val; rw [hi]; simp
  | ⟨1, _⟩ => show win0_1.index t 1 * 256 + 1 * x.val = x.val; rw [hi]; simp

theorem blk2 (c : Dev nD) (t : Fin cfg0.N) (x : Fin 1024) (j : Fin 1024) :
    (iblk m c 2 t : Vec Ideal S1024x1024 .bf16) (ix2 x j) = V m c main_v5 (ix2 x j) := by
  unfold iblk
  rw [View.read_apply]
  show V m c main_v5 _ = _
  congr 1
  funext a'
  apply Fin.ext
  have hi := index2 t
  match a' with
  | ⟨0, _⟩ => show win0_2.index t 0 * 1024 + 1 * x.val = x.val; rw [hi]; simp
  | ⟨1, _⟩ => show win0_2.index t 1 * 1024 + 1 * j.val = j.val; rw [hi]; simp

theorem blk3 (c : Dev nD) (t : Fin cfg0.N) (x : Fin 256) (j : Fin 1024) :
    (iblk m c 3 t : Vec Ideal S256x1024 .bf16) (ix2 x j) = V m c main_v7 (ix2 x j) := by
  unfold iblk
  rw [View.read_apply]
  show V m c main_v7 _ = _
  congr 1
  funext a'
  apply Fin.ext
  have hi := index3 t
  match a' with
  | ⟨0, _⟩ => show win0_3.index t 0 * 256 + 1 * x.val = x.val; rw [hi]; simp
  | ⟨1, _⟩ => show win0_3.index t 1 * 1024 + 1 * j.val = j.val; rw [hi]; simp

theorem blk4 (c : Dev nD) (t : Fin cfg0.N) (r : Fin 512) (j : Fin 1024) :
    (iblk m c 4 t : Vec Ideal S512x1024 .f32) (ix2 r j) = V m c main_arg0 (ix2 (at_ t r) j) := by
  unfold iblk
  rw [View.read_apply]
  show V m c main_arg0 _ = _
  congr 1
  funext a'
  apply Fin.ext
  have hi := index4 t
  match a' with
  | ⟨0, _⟩ => show win0_4.index t 0 * 512 + 1 * r.val = t.val * 512 + r.val; rw [hi]; simp
  | ⟨1, _⟩ => show win0_4.index t 1 * 1024 + 1 * j.val = j.val; rw [hi]; simp

theorem blk5 (c : Dev nD) (t : Fin cfg0.N) (j : Fin 1024) :
    (iblk m c 5 t : Vec Ideal S1x1024 .f32) (ix2 0 j) = V m c main_v8 (ix2 0 j) := by
  unfold iblk
  rw [View.read_apply]
  show V m c main_v8 _ = _
  congr 1
  funext a'
  apply Fin.ext
  have hi := index5 t
  match a' with
  | ⟨0, _⟩ => show win0_5.index t 0 * 1 + 1 * 0 = 0; rw [hi]; simp
  | ⟨1, _⟩ => show win0_5.index t 1 * 1024 + 1 * j.val = j.val; rw [hi]; simp

theorem blk6 (c : Dev nD) (t : Fin cfg0.N) (r : Fin 512) (j : Fin 1024) :
    (iblk m c 6 t : Vec Ideal S512x1024 .f32) (ix2 r j) = V m c main_arg3 (ix2 (at_ t r) j) := by
  unfold iblk
  rw [View.read_apply]
  show V m c main_arg3 _ = _
  congr 1
  funext a'
  apply Fin.ext
  have hi := index6 t
  match a' with
  | ⟨0, _⟩ => show win0_6.index t 0 * 512 + 1 * r.val = t.val * 512 + r.val; rw [hi]; simp
  | ⟨1, _⟩ => show win0_6.index t 1 * 1024 + 1 * j.val = j.val; rw [hi]; simp

/-- A sum over the fused width, the queries' columns first. -/
theorem sum_parts (y : FVec Ideal S8192x1280 .f32) (w : FVec Ideal S1x1024x1280 .f32) (R : Fin 8192) (j : Fin 1024) :
    ∑ n : Fin 1280, y (ix2 R n) * w (ix3 0 j n)
      = ∑ n : Fin 1024, y (ix2 R ⟨n.val, by omega⟩) * w (ix3 0 j ⟨n.val, by omega⟩)
        + ∑ n : Fin 256, y (ix2 R ⟨1024 + n.val, by omega⟩) * w (ix3 0 j ⟨1024 + n.val, by omega⟩) :=
  Fin.sum_univ_add (a := 1024) (b := 256) fun n : Fin (1024 + 256) => y (ix2 R n) * w (ix3 0 j n)

theorem row_eq (c : Dev nD) (t : Fin cfg0.N) (r : Fin 512) : row m c t r = hrow (m ((c : Thread nD τ).loc main_arg0)) (at_ t r) := by
  funext j
  unfold row
  rw [blk4, V_main_arg0]
  rfl

theorem grad_eq (c : Dev nD) (t : Fin cfg0.N) (r : Fin 512) : grad m c t r = arriving (m ((c : Thread nD τ).loc main_arg2)) (m ((c : Thread nD τ).loc main_arg4)) (at_ t r) := by
  funext j
  unfold grad df arriving
  have e0 := fun x => (blk0 m c t r x).trans (v4 m c (at_ t r) x)
  have e1 := fun x => (blk1 m c t r x).trans (v6 m c (at_ t r) x)
  have e2 := fun x => (blk2 m c t x j).trans (v5 m c x j)
  have e3 := fun x => (blk3 m c t x j).trans (v7 m c x j)
  generalize (iblk m c 0 t : Vec Ideal S512x1024 .bf16) = x0 at e0 ⊢
  generalize (iblk m c 1 t : Vec Ideal S512x256 .bf16) = x1 at e1 ⊢
  generalize (iblk m c 2 t : Vec Ideal S1024x1024 .bf16) = x2 at e2 ⊢
  generalize (iblk m c 3 t : Vec Ideal S256x1024 .bf16) = x3 at e3 ⊢
  simp only [e0, e1, e2, e3]
  exact (sum_parts _ _ _ _).symm

theorem gains_eq (c : Dev nD) (t : Fin cfg0.N) : gains m c t = fun j => m ((c : Thread nD τ).loc main_arg1) (ix2 0 j) := by
  funext j
  unfold gains
  rw [blk5, v8]

theorem past_eq (c : Dev nD) (t : Fin cfg0.N) (r : Fin 512) : past m c t r = fun j => m ((c : Thread nD τ).loc main_arg3) (ix2 (at_ t r) j) := by
  funext j
  unfold past
  rw [blk6, V_main_arg3]

/-! ## The results -/

/-- The first result's row `R`. -/
def outRow (c : Dev nD) (R : Fin 8192) (j : Fin 1024) : EReal :=
  Norm.out (hrow (m ((c : Thread nD τ).loc main_arg0)) R)
    (arriving (m ((c : Thread nD τ).loc main_arg2)) (m ((c : Thread nD τ).loc main_arg4)) R)
    (fun j => m ((c : Thread nD τ).loc main_arg1) (ix2 0 j)) (fun j => m ((c : Thread nD τ).loc main_arg3) (ix2 R j)) j

/-- Row `R`'s part of the gain's gradient. -/
def gainRow (c : Dev nD) (R : Fin 8192) (j : Fin 1024) : EReal :=
  Norm.gain (hrow (m ((c : Thread nD τ).loc main_arg0)) R)
    (arriving (m ((c : Thread nD τ).loc main_arg2)) (m ((c : Thread nD τ).loc main_arg4)) R) j

theorem outsAt_1 (c : Dev nD) (t : Fin cfg0.N) (r : Fin 512) (j : Fin 1024) : (outsAt0 m c t.val t.isLt).1 (ix2 r j) = outRow m c (at_ t r) j := by
  unfold outRow
  rw [← row_eq, ← grad_eq, ← gains_eq m c t, ← past_eq]
  by_cases h0 : t.val % 16 = 0
  · exact out_A m c t h0 r j
  · exact out_B m c t h0 r j

theorem gainRow_eq (c : Dev nD) (t : Fin cfg0.N) (r : Fin 512) (j : Fin 1024) : Norm.gain (row m c t r) (grad m c t r) j = gainRow m c (at_ t r) j := by
  rw [row_eq, grad_eq]; rfl

theorem outRow_eq (c : Dev nD) (t : Fin cfg0.N) (r : Fin 512) (j : Fin 1024) :
    Norm.out (row m c t r) (grad m c t r) (gains m c t) (past m c t r) j = outRow m c (at_ t r) j := by
  rw [row_eq, grad_eq, gains_eq, past_eq]; rfl

/-- The accumulated gain gradient after the last point. -/
theorem gain_last (c : Dev nD) (j : Fin 1024) : (outsAt0 m c 15 (by decide)).2.1 (ix2 0 j) = ∑ R, gainRow m c R j := by
  refine Lift.sum_rows (T := 8192) (B := 512) (K := 15) rfl (fun R => gainRow m c R j) (fun n h => (outsAt0 m c n h).2.1 (ix2 0 j)) ?_ ?_
  · intro h
    exact (sum_A m c ⟨0, h⟩ rfl j).trans (Finset.sum_congr rfl fun r _ => gainRow_eq m c ⟨0, h⟩ r j)
  · intro n h
    exact (sum_B m c ⟨n + 1, h⟩ (by dsimp only; omega) j).trans (congrArg _ (Finset.sum_congr rfl fun r _ => gainRow_eq m c ⟨n + 1, h⟩ r j))

/-- The accumulated column sums after the last point. -/
theorem col_last (c : Dev nD) (j : Fin 1024) : (outsAt0 m c 15 (by decide)).2.2 (ix2 0 j) = ∑ R, outRow m c R j := by
  refine Lift.sum_rows (T := 8192) (B := 512) (K := 15) rfl (fun R => outRow m c R j) (fun n h => (outsAt0 m c n h).2.2 (ix2 0 j)) ?_ ?_
  · intro h
    exact (col_A m c ⟨0, h⟩ rfl j).trans (Finset.sum_congr rfl fun r _ => outRow_eq m c ⟨0, h⟩ r j)
  · intro n h
    exact (col_B m c ⟨n + 1, h⟩ (by dsimp only; omega) j).trans (congrArg _ (Finset.sum_congr rfl fun r _ => outRow_eq m c ⟨n + 1, h⟩ r j))

theorem final7 (c : Dev nD) (R : Fin 8192) (j : Fin 1024) : (dats m 0 c).arrAt 7 cfg0.N (ix2 R j) = outRow m c R j := by
  have hN : cfg0.N = 16 := N_0
  have hR := R.isLt
  have ht : R.val / 512 < cfg0.N := by omega
  have h := congrFun (blocks7 m c ⟨R.val / 512, ht⟩ (flush0_7 _)) (ix2 ⟨R.val % 512, by omega⟩ j)
  rw [View.read_apply, flushed7] at h
  have e := outsAt_1 m c ⟨R.val / 512, ht⟩ ⟨R.val % 512, by omega⟩ j
  rw [show at_ ⟨R.val / 512, ht⟩ ⟨R.val % 512, by omega⟩ = R from Fin.ext (by unfold at_; dsimp only; omega)] at e
  rw [← e]
  refine Eq.trans (congrArg _ ?_) h
  funext a'
  apply Fin.ext
  have hi := index7 ⟨R.val / 512, ht⟩
  match a' with
  | ⟨0, _⟩ => show R.val = win0_7.index ⟨R.val / 512, _⟩ 0 * 512 + 1 * (R.val % 512); rw [hi]; simp; omega
  | ⟨1, _⟩ => show j.val = win0_7.index ⟨R.val / 512, _⟩ 1 * 1024 + 1 * j.val; rw [hi]; simp

/-- The last point. -/
abbrev last : Fin cfg0.N := ⟨15, by decide⟩

/-- The row of sums the second result ends as. -/
def gainSum (c : Dev nD) : Buf (Elt Ideal) ((c : Thread nD τ).loc main_v10_1) := (outsAt0 m c 15 (by decide)).2.1

/-- The row of sums the third result ends as. -/
def colSum (c : Dev nD) : Buf (Elt Ideal) ((c : Thread nD τ).loc main_v10_2) := (outsAt0 m c 15 (by decide)).2.2

theorem final8 (c : Dev nD) : (dats m 0 c).arrAt 8 cfg0.N = gainSum m c := by
  have hN : cfg0.N = 16 := N_0
  have hz' : (fun a => win0_8.index last a * main_v10_1.ty.shape.size a) = fun _ => 0 := funext fun a => by fin_cases a <;> decide
  refine (dats m 0 c).arrAt_eq_of_cover 8 (gainSum m c) (fun t hf => ?_) fun i => ⟨last, (flush0_8 _).mpr (by decide), ?_⟩
  · obtain rfl : t = last := Fin.ext (by have := (flush0_8 t).mp hf; have := t.isLt; show t.val = 15; omega)
    rw [flushed8]
    exact (Memref.read_access_unit_zero (Elt Ideal) main_v10_1 hz' (fun a => by rw [congrFun hz' a]; simp) (gainSum m c)).symm
  · show i ∈ ((View.whole main_v10_1).slice (win0_8.rect last)).set
    rw [View.set_slice_whole, Rect.mem_set_unit]
    intro a
    have h0 : (i 0 : Nat) < 1 := (i 0).isLt
    have h1 : (i 1 : Nat) < 1024 := (i 1).isLt
    match a with
    | ⟨0, _⟩ => show win0_8.index _ 0 * win0_8.size 0 ≤ (i 0 : Nat) ∧ (i 0 : Nat) < win0_8.index _ 0 * win0_8.size 0 + win0_8.xsize (grid0.coords _) 0
                rw [show win0_8.index last 0 * win0_8.size 0 = 0 from by decide +kernel, show win0_8.xsize (grid0.coords last) 0 = 1 from by decide +kernel]; omega
    | ⟨1, _⟩ => show win0_8.index _ 1 * win0_8.size 1 ≤ (i 1 : Nat) ∧ (i 1 : Nat) < win0_8.index _ 1 * win0_8.size 1 + win0_8.xsize (grid0.coords _) 1
                rw [show win0_8.index last 1 * win0_8.size 1 = 0 from by decide +kernel, show win0_8.xsize (grid0.coords last) 1 = 1024 from by decide +kernel]; omega

theorem final9 (c : Dev nD) : (dats m 0 c).arrAt 9 cfg0.N = colSum m c := by
  have hN : cfg0.N = 16 := N_0
  have hz' : (fun a => win0_9.index last a * main_v10_2.ty.shape.size a) = fun _ => 0 := funext fun a => by fin_cases a <;> decide
  refine (dats m 0 c).arrAt_eq_of_cover 9 (colSum m c) (fun t hf => ?_) fun i => ⟨last, (flush0_9 _).mpr (by decide), ?_⟩
  · obtain rfl : t = last := Fin.ext (by have := (flush0_9 t).mp hf; have := t.isLt; show t.val = 15; omega)
    rw [flushed9]
    exact (Memref.read_access_unit_zero (Elt Ideal) main_v10_2 hz' (fun a => by rw [congrFun hz' a]; simp) (colSum m c)).symm
  · show i ∈ ((View.whole main_v10_2).slice (win0_9.rect last)).set
    rw [View.set_slice_whole, Rect.mem_set_unit]
    intro a
    have h0 : (i 0 : Nat) < 1 := (i 0).isLt
    have h1 : (i 1 : Nat) < 1024 := (i 1).isLt
    match a with
    | ⟨0, _⟩ => show win0_9.index _ 0 * win0_9.size 0 ≤ (i 0 : Nat) ∧ (i 0 : Nat) < win0_9.index _ 0 * win0_9.size 0 + win0_9.xsize (grid0.coords _) 0
                rw [show win0_9.index last 0 * win0_9.size 0 = 0 from by decide +kernel, show win0_9.xsize (grid0.coords last) 0 = 1 from by decide +kernel]; omega
    | ⟨1, _⟩ => show win0_9.index _ 1 * win0_9.size 1 ≤ (i 1 : Nat) ∧ (i 1 : Nat) < win0_9.index _ 1 * win0_9.size 1 + win0_9.xsize (grid0.coords _) 1
                rw [show win0_9.index last 1 * win0_9.size 1 = 0 from by decide +kernel, show win0_9.xsize (grid0.coords last) 1 = 1024 from by decide +kernel]; omega

end Cert.AttnInIdeal.Value

end
-- ==== Proof.AttnIn.Reference.lean ====
/-
  The attention input's gradient by the chain rule: the reference's results, read at an index.
-/
module

public import proofs.«01_k».proof.Proof.AttnIn.Kernel
public import proofs.«01_k».proof.Proof.Gen.AttnInRefIdeal.Read

@[expose] public section

noncomputable section

open Idealize.ShloMosaic Idealize.ShloMosaic.TcCoe Idealize.SL.Sem

namespace Cert.AttnInRefIdeal.Read
open Cert.AttnInRefIdeal Cert.AttnInRefIdeal.Gen
open Cert.AttnInIdeal.Value (hrow arriving)

variable (x0 : FVec Ideal S8192x1024 .f32) (x1 : FVec Ideal S2x1024 .f32) (x2 : FVec Ideal S1x1024x1280 .f32)
  (x3 : FVec Ideal S8192x1024 .f32) (x4 : FVec Ideal S8192x1280 .f32)

theorem at8 (R : Fin 8192) (z : Fin 1) : val_main_v8 (F := Ideal) x0 (ix2 R z)
    = Ideal.div (∑ k, hrow x0 R k * hrow x0 R k) (Ideal.ofBits .f32 1149239296#32) + Ideal.ofBits .f32 925353388#32 := by
  unfold val_main_v8 val_main_v7 val_main_v6 val_main_v5 val_main_v4 val_main_v3 val_main_v2 val_main_cst val_main_cst_0 val_main_cst_1 hrow
  pointwise

theorem at9 (R : Fin 8192) (z : Fin 1) : val_main_v9 (F := Ideal) x0 (ix2 R z) = Norm.rstd (hrow x0 R) := by
  unfold val_main_v9 Norm.rstd
  pointwise [at8]

theorem at20 (R : Fin 8192) (j : Fin 1024) : val_main_v20 (F := Ideal) x2 x4 (ix2 R j) = arriving x2 x4 R j := by
  unfold val_main_v20 val_main_v18 arriving
  pointwise [dot_S8192x1280_S1024x1280_S8192x1024_1_1_0_0_n_n]

theorem at25 (R : Fin 8192) (j : Fin 1024) : val_main_v25 (F := Ideal) x1 x2 x4 (ix2 R j) = arriving x2 x4 R j * x1 (ix2 0 j) := by
  unfold val_main_v25 val_main_v24 val_main_v15 val_main_v1 val_main_v0
  pointwise [at20]

theorem at37 (R : Fin 8192) (j : Fin 1024) : val_main_v37 (F := Ideal) x0 x1 x2 x4 (ix2 R j)
    = Norm.chain (hrow x0 R) (arriving x2 x4 R) (fun j => x1 (ix2 0 j)) := by
  unfold val_main_v37 val_main_v36 val_main_v35 val_main_v34 val_main_v33 val_main_v29 val_main_v28 val_main_v27 val_main_v12 val_main_v11 val_main_v10
    val_main_cst_2 val_main_cst_5 val_main_cst_6 val_main_cst_7 Norm.chain
  pointwise [at25, at8, at9]
  exact Fintype.sum_unique _

theorem at41 (R : Fin 8192) (j : Fin 1024) : val_main_v41 (F := Ideal) x0 x1 x2 x3 x4 (ix2 R j)
    = Norm.vjp (hrow x0 R) (arriving x2 x4 R) (fun j => x1 (ix2 0 j)) (fun j => x3 (ix2 R j)) j := by
  have e30 : val_main_v30 (F := Ideal) x0 (ix2 R j) = Norm.rstd (hrow x0 R) := by
    unfold val_main_v30
    pointwise [at9]
  rw [val_main_v41_apply, val_main_v40_apply, val_main_v39_apply, val_main_v38_apply, val_main_v32_apply, val_main_v31_apply, e30, at25, at37]
  rfl

theorem at42 (j : Fin 1024) : val_main_v42 (F := Ideal) x0 x2 x4 (ix2 0 j) = ∑ R, Norm.gain (hrow x0 R) (arriving x2 x4 R) j := by
  unfold val_main_v42 val_main_v26 val_main_v23 val_main_v22 val_main_v21 val_main_v14 val_main_v13 val_main_cst_3 val_main_cst_4 Norm.gain
  pointwise [at20, at9]
  refine (Fintype.sum_unique _).trans ?_
  exact Finset.sum_congr rfl fun R _ => mul_comm _ _

theorem at44 (j : Fin 1024) : val_main_v44 (F := Ideal) x0 x1 x2 x3 x4 (ix2 0 j)
    = ∑ R, Norm.vjp (hrow x0 R) (arriving x2 x4 R) (fun j => x1 (ix2 0 j)) (fun j => x3 (ix2 R j)) j := by
  unfold val_main_v44 val_main_v43 val_main_cst_8
  pointwise [at41]

end Cert.AttnInRefIdeal.Read

end
-- ==== Proof.AttnIn.Value.lean ====
/-
  The attention input's gradient: both programs end with the same three results.
-/
module

public import proofs.«01_k».proof.Defs
public import proofs.«01_k».proof.Proof.AttnIn.Reference
public import proofs.«01_k».proof.Proof.Gen.Pre_finite_attn_in

@[expose] public section

noncomputable section

open Idealize.ShloMosaic Idealize.ShloMosaic.TcCoe Idealize.SL.Sem

namespace Cert.AttnInIdeal.Value
open Cert.AttnInIdeal Cert.AttnInIdeal.Gen
open Cert.AttnInRefIdeal.Read

variable (m : (ℓ : Loc nD τ sig) → Buf (Elt Ideal) ℓ)

/-- On finite arguments the chain rule's row is the kernel's. -/
theorem row_agrees (hpre : Cert.Pre_AttnInIdeal_finite_attn_in m) (c : Dev nD) (R : Fin 8192) (j : Fin 1024) :
    Norm.vjp (hrow (m ((c : Thread nD τ).loc main_arg0)) R) (arriving (m ((c : Thread nD τ).loc main_arg2)) (m ((c : Thread nD τ).loc main_arg4)) R) (fun j => m ((c : Thread nD τ).loc main_arg1) (ix2 0 j)) (fun j => m ((c : Thread nD τ).loc main_arg3) (ix2 R j)) j = outRow m c R j := by
  unfold outRow
  obtain ⟨h0, h1, h2, h4⟩ := hpre c
  obtain ⟨X0, e0⟩ := Lift.exists_real h0
  obtain ⟨X1, e1⟩ := Lift.exists_real h1
  obtain ⟨X2, e2⟩ := Lift.exists_real h2
  obtain ⟨X4, e4⟩ := Lift.exists_real h4
  refine Norm.vjp_eq_out' ⟨fun k => X0 (ix2 R k), ?_⟩ ⟨fun j => ∑ n : Fin 1280, X4 (ix2 R n) * X2 (ix3 0 j n), ?_⟩ ⟨fun j => X1 (ix2 0 j), ?_⟩ _ j
  · funext k
    unfold hrow
    rw [e0]
  · funext k
    unfold arriving
    rw [e2, e4]
    simp only [← EReal.coe_mul, Lift.coe_sum]
  · rw [e1]

theorem value : Cert.algebraic_AttnInIdeal_AttnInRefIdeal_pre_finite_attn_in := by
  intro m g m' g' hpre harg
  refine ⟨fun c => (dats m 0 c).arrAt 7 cfg0.N, fun c => gainSum m c, fun c => colSum m c, ?_, ?_⟩
  · refine (θ_run defs _ _).mono (fun r h c => ?_) (run_blocks m g)
    obtain ⟨h0, h1, h2, hr⟩ := h c
    exact ⟨h0, h1.trans (final8 m c), h2.trans (final9 m c), hr⟩
  · refine (θ_run Cert.AttnInRefIdeal.defs _ _).mono (fun r h c => ?_) (Cert.AttnInRefIdeal.Value.run m' g')
    obtain ⟨h0, h1, h2, hr⟩ := h c
    obtain ⟨a0, a1, a2, a3, a4⟩ := harg c
    refine ⟨h0.trans ?_, h1.trans ?_, h2.trans ?_, hr⟩
    · refine (val_main_v41_eq m' c).trans ?_
      rw [a0, a1, a2, a3, a4]
      funext i
      obtain ⟨R, j, rfl⟩ : ∃ R j, i = ix2 R j := ⟨i 0, i 1, eq_ix2 i⟩
      exact (at41 _ _ _ _ _ R j).trans ((row_agrees m hpre c R j).trans (final7 m c R j).symm)
    · refine (val_main_v42_eq _ _ _).trans ?_
      rw [a0, a2, a4]
      funext i
      obtain ⟨z, j, rfl⟩ : ∃ z j, i = ix2 z j := ⟨i 0, i 1, eq_ix2 i⟩
      obtain rfl : z = 0 := Subsingleton.elim _ _
      exact (at42 _ _ _ j).trans (gain_last m c j).symm
    · refine (val_main_v44_eq m' c).trans ?_
      rw [a0, a1, a2, a3, a4]
      funext i
      obtain ⟨z, j, rfl⟩ : ∃ z j, i = ix2 z j := ⟨i 0, i 1, eq_ix2 i⟩
      obtain rfl : z = 0 := Subsingleton.elim _ _
      exact (at44 _ _ _ _ _ j).trans ((Finset.sum_congr rfl fun R _ => row_agrees m hpre c R j).trans (col_last m c j).symm)

/-- The reference leaves its arguments and its counters as they were. -/
theorem frame_ref : Cert.quiescent_AttnInRefIdeal := fun m g _ =>
  (θ_run Cert.AttnInRefIdeal.defs _ _).mono (fun r h => ⟨fun c => (h c).2.2.2, sem_eq_zero_of_no_sems (by decide) r.2⟩)
    (Cert.AttnInRefIdeal.Value.run (F := Ideal) m g)

end Cert.AttnInIdeal.Value

end
-- ==== Proof.Slab.lean ====
/-
  An FFN weight in four slabs of its hidden width, read at an index.
-/
module

public import proofs.«01_k».proof.Proof.Real
public import Idealize.ShloMosaic.Lib.ValueLayout
public import Idealize.ShloMosaic.Lib.Pipeline.ReadBack
public import Idealize.ShloMosaic.Lib.Pipeline.ValueKit.Tiles

@[expose] public section

noncomputable section

open Idealize.ShloMosaic

namespace Cert.Slab

/-- The weight with its hidden axis split in four, at an index. -/
theorem split (y : FVec Ideal ⟨3, ![2, 2816, 1024]⟩ .f32) (h : (⟨3, ![2, 2816, 1024]⟩ : Shape).ShapeCasts ⟨4, ![2, 4, 704, 1024]⟩)
    (l : Fin 2) (a : Fin 4) (x : Fin 704) (j : Fin 1024) :
    shapeCast ⟨4, ![2, 4, 704, 1024]⟩ y h (ix4 l a x j) = y (ix3 l ⟨a.val * 704 + x.val, by omega⟩ j) :=
  shapeCast_apply y h _ _ (by
    rw [Shape.rowMajor_val_three, Shape.rowMajor_val_four]
    show (l.val * 2816 + (a.val * 704 + x.val)) * 1024 + j.val = ((l.val * 4 + a.val) * 704 + x.val) * 1024 + j.val
    omega)

/-- A sum over the hidden width, slab by slab. -/
theorem sum_slabs (f : Fin 2816 → EReal) :
    ∑ n, f n = ∑ x : Fin 704, f ⟨0 * 704 + x.val, by omega⟩ + ∑ x : Fin 704, f ⟨1 * 704 + x.val, by omega⟩
      + ∑ x : Fin 704, f ⟨2 * 704 + x.val, by omega⟩ + ∑ x : Fin 704, f ⟨3 * 704 + x.val, by omega⟩ := by
  rw [Lift.sum_blocks (T := 2816) (B := 704) (K := 3) rfl f, Fin.sum_univ_four]
  rfl

/-- Stores over an earlier fill: at an index one of them covers, and where those that cover it agree, the fill is not seen. -/
theorem canon_over {Val : EltTy → Type} [∀ e, Nonempty (Val e)] {S : Shape} {e : EltTy} (L' : List (View.Piece Val S e)) :
    ∀ (L : List (View.Piece Val S e)) (y : S.Idx) (v : Val e), (∃ p ∈ L, y ∈ p.1.set) → View.AllAt L y v → View.canon (L ++ L') y = v
  | [], _, _, hc, _ => by obtain ⟨p, hp, _⟩ := hc; exact absurd hp List.not_mem_nil
  | p :: L, y, v, hc, h => by
    show View.canon (p :: (L ++ L')) y = v
    by_cases hm : y ∈ p.1.set
    · obtain ⟨x, rfl⟩ := p.1.exists_idx_of_mem hm
      rw [show p.1.idx x = p.1.emb x from rfl, View.canon_cons_emb]
      exact h p List.mem_cons_self x rfl
    · rw [View.canon_cons_of_not_mem p _ hm]
      refine canon_over L' L y v ?_ fun q hq => h q (List.mem_cons_of_mem _ hq)
      obtain ⟨q, hq, hyq⟩ := hc
      rcases List.mem_cons.mp hq with rfl | hq'
      · exact absurd hyq hm
      · exact ⟨q, hq', hyq⟩

end Cert.Slab

end
-- ==== Proof.Down.Points.lean ====
/-
  The gradient through the last FFN product and its gate, one grid point at a time: what a point leaves in its three
  output buffers, read at an index.
-/
module

public import proofs.«01_k».proof.Proof.Slab
public import proofs.«01_k».proof.Proof.Gen.DownIdeal.Value
public import Idealize.ShloMosaic.Lib.Pipeline.ReadBack
public import Idealize.ShloMosaic.Lib.Pipeline.ValueKit.Tiles

@[expose] public section

noncomputable section

open Idealize.ShloMosaic Idealize.ShloMosaic.TcCoe Idealize.SL.Sem
open Idealize.ShloMosaic.Pipeline (Dat)

namespace Cert.DownIdeal.Value
open Cert.DownIdeal Cert.DownIdeal.Gen

variable (m : (ℓ : Loc nD τ sig) → Buf (Elt Ideal) ℓ)

theorem hz : (![0, 0] : Fin 2 → Nat) = fun _ => 0 := funext fun a => by fin_cases a <;> rfl

/-- The gradient that arrives at slab `a` of the product's left operand, of a block's row. -/
def ds (x0 : Vec Ideal S256x1024 .f32) (x1 : Vec Ideal S4x1x704x1024 .bf16) (a : Fin 4) (r : Fin 256) (x : Fin 704) : EReal :=
  ∑ k : Fin 1024, x0 (ix2 r k) * x1 (ix4 a 0 x k)

/-- A block's part of slab `a` of the weight's gradient. -/
def dw (x0 : Vec Ideal S256x1024 .f32) (x4 : Vec Ideal S4x256x704 .bf16) (a : Fin 4) (x : Fin 704) (j : Fin 1024) : EReal :=
  ∑ r : Fin 256, x4 (ix3 a r x) * x0 (ix2 r j)

set_option maxHeartbeats 4000000 in
theorem out5_A (c : Dev nD) (t : Fin cfg0.N) (hc : t.val % 32 = 0) (a : Fin 4) (r : Fin 256) (n : Fin 704) :
    (outsAt0 m c t.val t.isLt).1 (ix3 a r n) = ds (iblk m c 0 t) (iblk m c 1 t) a r n * (iblk m c 3 t : Vec Ideal S4x256x704 .bf16) (ix3 a r n) := by
  rw [outsAt0_A m c t hc]
  dsimp only
  unfold out0_A_5
  rw [View.read_writes_eq_canon _ _ _ (fun _ => cover0_A_5 ..)]
  unfold kernelRun0_A ds
  dsimp only
  sl_unfold_words
  simp only [View.readAt_eq_ld, (hs0_0 t).read_unread, (hs0_1 t).read_unread, (hs0_2 t).read_unread, (hs0_3 t).read_unread,
    (hs0_4 t).read_unread, View.ld_unit_zero (S := S256x1024) hz]
  generalize iblk m c 0 t = x0, iblk m c 1 t = x1, iblk m c 2 t = x2, iblk m c 3 t = x3, iblk m c 4 t = x4
  canon_tiles
  · obtain ⟨z, p, q, rfl⟩ : ∃ (z : Fin 1) (p : Fin 256) (q : Fin 704), x = ix3 z p q := ⟨x 0, x 1, x 2, eq_ix3 x⟩
    obtain rfl : r = p := Fin.ext h1
    obtain rfl : n = q := Fin.ext h2
    obtain rfl : a = 3 := Fin.ext (Eq.trans h0 (by show 3 + z.val = 3; omega))
    unfold_payloads
    pointwise [dot_S256x1024_S704x1024_S256x704_1_1_0_0_n_n]
  · obtain ⟨z, p, q, rfl⟩ : ∃ (z : Fin 1) (p : Fin 256) (q : Fin 704), x = ix3 z p q := ⟨x 0, x 1, x 2, eq_ix3 x⟩
    obtain rfl : r = p := Fin.ext h1
    obtain rfl : n = q := Fin.ext h2
    obtain rfl : a = 2 := Fin.ext (Eq.trans h0 (by show 2 + z.val = 2; omega))
    unfold_payloads
    pointwise [dot_S256x1024_S704x1024_S256x704_1_1_0_0_n_n]
  · obtain ⟨z, p, q, rfl⟩ : ∃ (z : Fin 1) (p : Fin 256) (q : Fin 704), x = ix3 z p q := ⟨x 0, x 1, x 2, eq_ix3 x⟩
    obtain rfl : r = p := Fin.ext h1
    obtain rfl : n = q := Fin.ext h2
    obtain rfl : a = 1 := Fin.ext (Eq.trans h0 (by show 1 + z.val = 1; omega))
    unfold_payloads
    pointwise [dot_S256x1024_S704x1024_S256x704_1_1_0_0_n_n]
  · obtain ⟨z, p, q, rfl⟩ : ∃ (z : Fin 1) (p : Fin 256) (q : Fin 704), x = ix3 z p q := ⟨x 0, x 1, x 2, eq_ix3 x⟩
    obtain rfl : r = p := Fin.ext h1
    obtain rfl : n = q := Fin.ext h2
    obtain rfl : a = 0 := Fin.ext (Eq.trans h0 (by show z.val = 0; omega))
    unfold_payloads
    pointwise [dot_S256x1024_S704x1024_S256x704_1_1_0_0_n_n]

set_option maxHeartbeats 4000000 in
theorem out5_B (c : Dev nD) (t : Fin cfg0.N) (hc : ¬t.val % 32 = 0) (a : Fin 4) (r : Fin 256) (n : Fin 704) :
    (outsAt0 m c t.val t.isLt).1 (ix3 a r n) = ds (iblk m c 0 t) (iblk m c 1 t) a r n * (iblk m c 3 t : Vec Ideal S4x256x704 .bf16) (ix3 a r n) := by
  rw [outsAt0_B m c t hc]
  dsimp only
  unfold out0_B_5
  rw [View.read_writes_eq_canon _ _ _ (fun _ => cover0_B_5 ..)]
  unfold kernelRun0_B ds
  dsimp only
  sl_unfold_words
  simp only [View.readAt_eq_ld, (hs0_0 t).read_unread, (hs0_1 t).read_unread, (hs0_2 t).read_unread, (hs0_3 t).read_unread,
    (hs0_4 t).read_unread, View.ld_unit_zero (S := S256x1024) hz]
  generalize iblk m c 0 t = x0, iblk m c 1 t = x1, iblk m c 2 t = x2, iblk m c 3 t = x3, iblk m c 4 t = x4
  canon_tiles
  · obtain ⟨z, p, q, rfl⟩ : ∃ (z : Fin 1) (p : Fin 256) (q : Fin 704), x = ix3 z p q := ⟨x 0, x 1, x 2, eq_ix3 x⟩
    obtain rfl : r = p := Fin.ext h1
    obtain rfl : n = q := Fin.ext h2
    obtain rfl : a = 3 := Fin.ext (Eq.trans h0 (by show 3 + z.val = 3; omega))
    unfold_payloads
    pointwise [dot_S256x1024_S704x1024_S256x704_1_1_0_0_n_n]
  · obtain ⟨z, p, q, rfl⟩ : ∃ (z : Fin 1) (p : Fin 256) (q : Fin 704), x = ix3 z p q := ⟨x 0, x 1, x 2, eq_ix3 x⟩
    obtain rfl : r = p := Fin.ext h1
    obtain rfl : n = q := Fin.ext h2
    obtain rfl : a = 2 := Fin.ext (Eq.trans h0 (by show 2 + z.val = 2; omega))
    unfold_payloads
    pointwise [dot_S256x1024_S704x1024_S256x704_1_1_0_0_n_n]
  · obtain ⟨z, p, q, rfl⟩ : ∃ (z : Fin 1) (p : Fin 256) (q : Fin 704), x = ix3 z p q := ⟨x 0, x 1, x 2, eq_ix3 x⟩
    obtain rfl : r = p := Fin.ext h1
    obtain rfl : n = q := Fin.ext h2
    obtain rfl : a = 1 := Fin.ext (Eq.trans h0 (by show 1 + z.val = 1; omega))
    unfold_payloads
    pointwise [dot_S256x1024_S704x1024_S256x704_1_1_0_0_n_n]
  · obtain ⟨z, p, q, rfl⟩ : ∃ (z : Fin 1) (p : Fin 256) (q : Fin 704), x = ix3 z p q := ⟨x 0, x 1, x 2, eq_ix3 x⟩
    obtain rfl : r = p := Fin.ext h1
    obtain rfl : n = q := Fin.ext h2
    obtain rfl : a = 0 := Fin.ext (Eq.trans h0 (by show z.val = 0; omega))
    unfold_payloads
    pointwise [dot_S256x1024_S704x1024_S256x704_1_1_0_0_n_n]

set_option maxHeartbeats 4000000 in
theorem out6_A (c : Dev nD) (t : Fin cfg0.N) (hc : t.val % 32 = 0) (a : Fin 4) (r : Fin 256) (n : Fin 704) :
    (outsAt0 m c t.val t.isLt).2.1 (ix3 a r n) = ds (iblk m c 0 t) (iblk m c 1 t) a r n * (iblk m c 2 t : Vec Ideal S4x256x704 .bf16) (ix3 a r n) := by
  rw [outsAt0_A m c t hc]
  dsimp only
  unfold out0_A_6
  rw [View.read_writes_eq_canon _ _ _ (fun _ => cover0_A_6 ..)]
  unfold kernelRun0_A ds
  dsimp only
  sl_unfold_words
  simp only [View.readAt_eq_ld, (hs0_0 t).read_unread, (hs0_1 t).read_unread, (hs0_2 t).read_unread, (hs0_3 t).read_unread,
    (hs0_4 t).read_unread, View.ld_unit_zero (S := S256x1024) hz]
  generalize iblk m c 0 t = x0, iblk m c 1 t = x1, iblk m c 2 t = x2, iblk m c 3 t = x3, iblk m c 4 t = x4
  canon_tiles
  · obtain ⟨z, p, q, rfl⟩ : ∃ (z : Fin 1) (p : Fin 256) (q : Fin 704), x = ix3 z p q := ⟨x 0, x 1, x 2, eq_ix3 x⟩
    obtain rfl : r = p := Fin.ext h1
    obtain rfl : n = q := Fin.ext h2
    obtain rfl : a = 3 := Fin.ext (Eq.trans h0 (by show 3 + z.val = 3; omega))
    unfold_payloads
    pointwise [dot_S256x1024_S704x1024_S256x704_1_1_0_0_n_n]
  · obtain ⟨z, p, q, rfl⟩ : ∃ (z : Fin 1) (p : Fin 256) (q : Fin 704), x = ix3 z p q := ⟨x 0, x 1, x 2, eq_ix3 x⟩
    obtain rfl : r = p := Fin.ext h1
    obtain rfl : n = q := Fin.ext h2
    obtain rfl : a = 2 := Fin.ext (Eq.trans h0 (by show 2 + z.val = 2; omega))
    unfold_payloads
    pointwise [dot_S256x1024_S704x1024_S256x704_1_1_0_0_n_n]
  · obtain ⟨z, p, q, rfl⟩ : ∃ (z : Fin 1) (p : Fin 256) (q : Fin 704), x = ix3 z p q := ⟨x 0, x 1, x 2, eq_ix3 x⟩
    obtain rfl : r = p := Fin.ext h1
    obtain rfl : n = q := Fin.ext h2
    obtain rfl : a = 1 := Fin.ext (Eq.trans h0 (by show 1 + z.val = 1; omega))
    unfold_payloads
    pointwise [dot_S256x1024_S704x1024_S256x704_1_1_0_0_n_n]
  · obtain ⟨z, p, q, rfl⟩ : ∃ (z : Fin 1) (p : Fin 256) (q : Fin 704), x = ix3 z p q := ⟨x 0, x 1, x 2, eq_ix3 x⟩
    obtain rfl : r = p := Fin.ext h1
    obtain rfl : n = q := Fin.ext h2
    obtain rfl : a = 0 := Fin.ext (Eq.trans h0 (by show z.val = 0; omega))
    unfold_payloads
    pointwise [dot_S256x1024_S704x1024_S256x704_1_1_0_0_n_n]

set_option maxHeartbeats 4000000 in
theorem out6_B (c : Dev nD) (t : Fin cfg0.N) (hc : ¬t.val % 32 = 0) (a : Fin 4) (r : Fin 256) (n : Fin 704) :
    (outsAt0 m c t.val t.isLt).2.1 (ix3 a r n) = ds (iblk m c 0 t) (iblk m c 1 t) a r n * (iblk m c 2 t : Vec Ideal S4x256x704 .bf16) (ix3 a r n) := by
  rw [outsAt0_B m c t hc]
  dsimp only
  unfold out0_B_6
  rw [View.read_writes_eq_canon _ _ _ (fun _ => cover0_B_6 ..)]
  unfold kernelRun0_B ds
  dsimp only
  sl_unfold_words
  simp only [View.readAt_eq_ld, (hs0_0 t).read_unread, (hs0_1 t).read_unread, (hs0_2 t).read_unread, (hs0_3 t).read_unread,
    (hs0_4 t).read_unread, View.ld_unit_zero (S := S256x1024) hz]
  generalize iblk m c 0 t = x0, iblk m c 1 t = x1, iblk m c 2 t = x2, iblk m c 3 t = x3, iblk m c 4 t = x4
  canon_tiles
  · obtain ⟨z, p, q, rfl⟩ : ∃ (z : Fin 1) (p : Fin 256) (q : Fin 704), x = ix3 z p q := ⟨x 0, x 1, x 2, eq_ix3 x⟩
    obtain rfl : r = p := Fin.ext h1
    obtain rfl : n = q := Fin.ext h2
    obtain rfl : a = 3 := Fin.ext (Eq.trans h0 (by show 3 + z.val = 3; omega))
    unfold_payloads
    pointwise [dot_S256x1024_S704x1024_S256x704_1_1_0_0_n_n]
  · obtain ⟨z, p, q, rfl⟩ : ∃ (z : Fin 1) (p : Fin 256) (q : Fin 704), x = ix3 z p q := ⟨x 0, x 1, x 2, eq_ix3 x⟩
    obtain rfl : r = p := Fin.ext h1
    obtain rfl : n = q := Fin.ext h2
    obtain rfl : a = 2 := Fin.ext (Eq.trans h0 (by show 2 + z.val = 2; omega))
    unfold_payloads
    pointwise [dot_S256x1024_S704x1024_S256x704_1_1_0_0_n_n]
  · obtain ⟨z, p, q, rfl⟩ : ∃ (z : Fin 1) (p : Fin 256) (q : Fin 704), x = ix3 z p q := ⟨x 0, x 1, x 2, eq_ix3 x⟩
    obtain rfl : r = p := Fin.ext h1
    obtain rfl : n = q := Fin.ext h2
    obtain rfl : a = 1 := Fin.ext (Eq.trans h0 (by show 1 + z.val = 1; omega))
    unfold_payloads
    pointwise [dot_S256x1024_S704x1024_S256x704_1_1_0_0_n_n]
  · obtain ⟨z, p, q, rfl⟩ : ∃ (z : Fin 1) (p : Fin 256) (q : Fin 704), x = ix3 z p q := ⟨x 0, x 1, x 2, eq_ix3 x⟩
    obtain rfl : r = p := Fin.ext h1
    obtain rfl : n = q := Fin.ext h2
    obtain rfl : a = 0 := Fin.ext (Eq.trans h0 (by show z.val = 0; omega))
    unfold_payloads
    pointwise [dot_S256x1024_S704x1024_S256x704_1_1_0_0_n_n]

set_option maxHeartbeats 4000000 in
theorem acc_A (c : Dev nD) (t : Fin cfg0.N) (hc : t.val % 32 = 0) (a : Fin 4) (n : Fin 704) (j : Fin 1024) :
    (outsAt0 m c t.val t.isLt).2.2 (ix3 a n j) = dw (iblk m c 0 t) (iblk m c 4 t) a n j := by
  rw [outsAt0_A m c t hc]
  dsimp only
  unfold out0_A_7
  rw [View.read_writes_eq_canon _ _ _ (fun _ => cover0_A_7 ..)]
  unfold kernelRun0_A dw
  dsimp only
  sl_unfold_words
  simp only [View.readAt_eq_ld, (hs0_0 t).read_unread, (hs0_1 t).read_unread, (hs0_2 t).read_unread, (hs0_3 t).read_unread,
    (hs0_4 t).read_unread, View.ld_unit_zero (S := S256x1024) hz]
  generalize iblk m c 0 t = x0, iblk m c 1 t = x1, iblk m c 2 t = x2, iblk m c 3 t = x3, iblk m c 4 t = x4
  simp (disch := first | rfl | decide | (intro a; fin_cases a <;> rfl)) only [↓View.readCov_skip, ↓View.readCov_fill]
  refine Slab.canon_over [_] [_, _, _, _] _ _ (View.cover_of_tiled_head _ _ _ (by rfl) _) ?_
  refine View.allAt_cons_unit _ _ _ _ _ ?_ (View.allAt_cons_unit _ _ _ _ _ ?_ (View.allAt_cons_unit _ _ _ _ _ ?_ (View.allAt_cons_unit _ _ _ _ _ ?_ (View.allAt_nil _ _))))
  · intro x hx
    have h0 : a.val = 3 + (x 0).val := hx 0
    have h1 : n.val = 0 + (x 1).val := hx 1
    have h2 : j.val = 0 + (x 2).val := hx 2
    rw [Nat.zero_add] at h1 h2
    obtain ⟨z, p, q, rfl⟩ : ∃ (z : Fin 1) (p : Fin 704) (q : Fin 1024), x = ix3 z p q := ⟨x 0, x 1, x 2, eq_ix3 x⟩
    obtain rfl : n = p := Fin.ext h1
    obtain rfl : j = q := Fin.ext h2
    obtain rfl : a = 3 := Fin.ext (Eq.trans h0 (by show 3 + z.val = 3; omega))
    unfold_payloads
    pointwise [dot_S256x704_S256x1024_S704x1024_0_0_1_1_n_n]
  · intro x hx
    have h0 : a.val = 2 + (x 0).val := hx 0
    have h1 : n.val = 0 + (x 1).val := hx 1
    have h2 : j.val = 0 + (x 2).val := hx 2
    rw [Nat.zero_add] at h1 h2
    obtain ⟨z, p, q, rfl⟩ : ∃ (z : Fin 1) (p : Fin 704) (q : Fin 1024), x = ix3 z p q := ⟨x 0, x 1, x 2, eq_ix3 x⟩
    obtain rfl : n = p := Fin.ext h1
    obtain rfl : j = q := Fin.ext h2
    obtain rfl : a = 2 := Fin.ext (Eq.trans h0 (by show 2 + z.val = 2; omega))
    unfold_payloads
    pointwise [dot_S256x704_S256x1024_S704x1024_0_0_1_1_n_n]
  · intro x hx
    have h0 : a.val = 1 + (x 0).val := hx 0
    have h1 : n.val = 0 + (x 1).val := hx 1
    have h2 : j.val = 0 + (x 2).val := hx 2
    rw [Nat.zero_add] at h1 h2
    obtain ⟨z, p, q, rfl⟩ : ∃ (z : Fin 1) (p : Fin 704) (q : Fin 1024), x = ix3 z p q := ⟨x 0, x 1, x 2, eq_ix3 x⟩
    obtain rfl : n = p := Fin.ext h1
    obtain rfl : j = q := Fin.ext h2
    obtain rfl : a = 1 := Fin.ext (Eq.trans h0 (by show 1 + z.val = 1; omega))
    unfold_payloads
    pointwise [dot_S256x704_S256x1024_S704x1024_0_0_1_1_n_n]
  · intro x hx
    have h0 : a.val = 0 + (x 0).val := hx 0
    have h1 : n.val = 0 + (x 1).val := hx 1
    have h2 : j.val = 0 + (x 2).val := hx 2
    rw [Nat.zero_add] at h1 h2
    obtain ⟨z, p, q, rfl⟩ : ∃ (z : Fin 1) (p : Fin 704) (q : Fin 1024), x = ix3 z p q := ⟨x 0, x 1, x 2, eq_ix3 x⟩
    obtain rfl : n = p := Fin.ext h1
    obtain rfl : j = q := Fin.ext h2
    obtain rfl : a = 0 := Fin.ext (Eq.trans h0 (by show 0 + z.val = 0; omega))
    unfold_payloads
    pointwise [dot_S256x704_S256x1024_S704x1024_0_0_1_1_n_n]

set_option maxHeartbeats 4000000 in
theorem acc_B (c : Dev nD) (t : Fin cfg0.N) (hc : ¬t.val % 32 = 0) (a : Fin 4) (n : Fin 704) (j : Fin 1024) :
    (outsAt0 m c t.val t.isLt).2.2 (ix3 a n j) = (outsAt0 m c (t.val - 1) (Nat.lt_of_le_of_lt (Nat.sub_le _ _) t.isLt)).2.2 (ix3 a n j)
      + dw (iblk m c 0 t) (iblk m c 4 t) a n j := by
  rw [outsAt0_B m c t hc]
  dsimp only
  unfold out0_B_7
  rw [View.read_writes_eq_canon _ _ _ (fun _ => cover0_B_7 ..)]
  unfold kernelRun0_B dw
  dsimp only
  sl_unfold_words
  simp only [View.readAt_eq_ld, (hs0_0 t).read_unread, (hs0_1 t).read_unread, (hs0_2 t).read_unread, (hs0_3 t).read_unread,
    (hs0_4 t).read_unread, (hs0_7 t).read_unread, View.ld_unit_zero (S := S256x1024) hz]
  generalize iblk m c 0 t = x0, iblk m c 1 t = x1, iblk m c 2 t = x2, iblk m c 3 t = x3, iblk m c 4 t = x4
  generalize (outsAt0 m c (t.val - 1) (Nat.lt_of_le_of_lt (Nat.sub_le _ _) t.isLt)).2.2 = before
  canon_tiles
  · obtain ⟨z, p, q, rfl⟩ : ∃ (z : Fin 1) (p : Fin 704) (q : Fin 1024), x = ix3 z p q := ⟨x 0, x 1, x 2, eq_ix3 x⟩
    obtain rfl : n = p := Fin.ext h1
    obtain rfl : j = q := Fin.ext h2
    obtain rfl : a = 3 := Fin.ext (Eq.trans h0 (by show 3 + z.val = 3; omega))
    unfold_payloads
    pointwise [dot_S256x704_S256x1024_S704x1024_0_0_1_1_n_n]
  · obtain ⟨z, p, q, rfl⟩ : ∃ (z : Fin 1) (p : Fin 704) (q : Fin 1024), x = ix3 z p q := ⟨x 0, x 1, x 2, eq_ix3 x⟩
    obtain rfl : n = p := Fin.ext h1
    obtain rfl : j = q := Fin.ext h2
    obtain rfl : a = 2 := Fin.ext (Eq.trans h0 (by show 2 + z.val = 2; omega))
    unfold_payloads
    pointwise [dot_S256x704_S256x1024_S704x1024_0_0_1_1_n_n]
  · obtain ⟨z, p, q, rfl⟩ : ∃ (z : Fin 1) (p : Fin 704) (q : Fin 1024), x = ix3 z p q := ⟨x 0, x 1, x 2, eq_ix3 x⟩
    obtain rfl : n = p := Fin.ext h1
    obtain rfl : j = q := Fin.ext h2
    obtain rfl : a = 1 := Fin.ext (Eq.trans h0 (by show 1 + z.val = 1; omega))
    unfold_payloads
    pointwise [dot_S256x704_S256x1024_S704x1024_0_0_1_1_n_n]
  · obtain ⟨z, p, q, rfl⟩ : ∃ (z : Fin 1) (p : Fin 704) (q : Fin 1024), x = ix3 z p q := ⟨x 0, x 1, x 2, eq_ix3 x⟩
    obtain rfl : n = p := Fin.ext h1
    obtain rfl : j = q := Fin.ext h2
    obtain rfl : a = 0 := Fin.ext (Eq.trans h0 (by show z.val = 0; omega))
    unfold_payloads
    pointwise [dot_S256x704_S256x1024_S704x1024_0_0_1_1_n_n]

end Cert.DownIdeal.Value

end
-- ==== Proof.Down.Kernel.lean ====
/-
  The gradient through the last FFN product and its gate: the three results as functions of the arguments. A block is a
  part of the array the host prepared, the host's slabs are parts of the arguments, the thirty-two row blocks make up the
  first two results, and the weight's gradient ends as a sum over all rows.
-/
module

public import proofs.«01_k».proof.Proof.Down.Points

@[expose] public section

noncomputable section

open Idealize.ShloMosaic Idealize.ShloMosaic.TcCoe Idealize.SL.Sem
open Idealize.ShloMosaic.Pipeline (Dat)

namespace Cert.DownIdeal.Value
open Cert.DownIdeal Cert.DownIdeal.Gen

variable (m : (ℓ : Loc nD τ sig) → Buf (Elt Ideal) ℓ)

/-- The gate's argument. -/
abbrev arg0 (c : Dev nD) : FVec Ideal S8192x2816 .f32 := m ((c : Thread nD τ).loc main_arg0)
/-- The factor. -/
abbrev arg1 (c : Dev nD) : FVec Ideal S8192x2816 .f32 := m ((c : Thread nD τ).loc main_arg1)
/-- The weights. -/
abbrev arg2 (c : Dev nD) : FVec Ideal S2x2816x1024 .f32 := m ((c : Thread nD τ).loc main_arg2)
/-- The gradient that comes in. -/
abbrev arg3 (c : Dev nD) : FVec Ideal S8192x1024 .f32 := m ((c : Thread nD τ).loc main_arg3)

/-- The logistic function. -/
def sigmoid (z : EReal) : EReal := Ideal.div (Ideal.ofBits .f32 1065353216#32) (Ideal.ofBits .f32 1065353216#32 + Ideal.exp (-z))

/-- The gate's derivative as the kernel's host writes it. -/
def dsilu (z : EReal) : EReal := sigmoid z * (Ideal.ofBits .f32 1065353216#32 + z * (Ideal.ofBits .f32 1065353216#32 - sigmoid z))

/-- The gradient that arrives at the product's left operand. -/
def arriving (a2 : FVec Ideal S2x2816x1024 .f32) (a3 : FVec Ideal S8192x1024 .f32) (R : Fin 8192) (n : Fin 2816) : EReal :=
  ∑ k : Fin 1024, a3 (ix2 R k) * a2 (ix3 1 n k)

/-! ## What the host prepares -/

/-- The hidden width in four slabs. -/
def slabs (y : FVec Ideal S8192x2816 .f32) : FVec Ideal S4x8192x704 .bf16 :=
  truncf (F := Ideal) .bf16 (transpose S4x8192x704 [1, 0, 2] (shapeCast S8192x4x704 y shapeCasts_S8192x2816_S8192x4x704) transposes_S8192x4x704_S4x8192x704_1_0_2) bitsLt_bf16_f32

theorem slabs_apply (y : FVec Ideal S8192x2816 .f32) (a : Fin 4) (R : Fin 8192) (x : Fin 704) :
    slabs y (ix3 a R x) = y (ix2 R ⟨a.val * 704 + x.val, by omega⟩) := by
  unfold slabs
  pointwise

theorem v18 (c : Dev nD) (a : Fin 4) (R : Fin 8192) (x : Fin 704) :
    V m c main_v18 (ix3 a R x) = (arg0 m c) (ix2 R ⟨a.val * 704 + x.val, by omega⟩) * sigmoid ((arg0 m c) (ix2 R ⟨a.val * 704 + x.val, by omega⟩)) := by
  have e : V m c main_v18 = slabs (mulf (arg0 m c) (Host.divf (broadcastInDim S8192x2816 ![] bcast_S_S8192x2816 (constant (F := Ideal) S_ .f32 0x3F800000#32)) (addf (broadcastInDim S8192x2816 ![] bcast_S_S8192x2816 (constant (F := Ideal) S_ .f32 0x3F800000#32)) (Host.exp (Host.negf (arg0 m c)))))) := by
    unfold V slabs
    after_results_simp
    rfl
  rw [e, slabs_apply]
  unfold sigmoid
  pointwise

theorem v22 (c : Dev nD) (a : Fin 4) (R : Fin 8192) (x : Fin 704) :
    V m c main_v22 (ix3 a R x) = (arg1 m c) (ix2 R ⟨a.val * 704 + x.val, by omega⟩) * dsilu ((arg0 m c) (ix2 R ⟨a.val * 704 + x.val, by omega⟩)) := by
  have e : V m c main_v22 = slabs (mulf (arg1 m c) (mulf (Host.divf (broadcastInDim S8192x2816 ![] bcast_S_S8192x2816 (constant (F := Ideal) S_ .f32 0x3F800000#32)) (addf (broadcastInDim S8192x2816 ![] bcast_S_S8192x2816 (constant (F := Ideal) S_ .f32 0x3F800000#32)) (Host.exp (Host.negf (arg0 m c))))) (addf (broadcastInDim S8192x2816 ![] bcast_S_S8192x2816 (constant (F := Ideal) S_ .f32 0x3F800000#32)) (mulf (arg0 m c) (subf (broadcastInDim S8192x2816 ![] bcast_S_S8192x2816 (constant (F := Ideal) S_ .f32 0x3F800000#32)) (Host.divf (broadcastInDim S8192x2816 ![] bcast_S_S8192x2816 (constant (F := Ideal) S_ .f32 0x3F800000#32)) (addf (broadcastInDim S8192x2816 ![] bcast_S_S8192x2816 (constant (F := Ideal) S_ .f32 0x3F800000#32)) (Host.exp (Host.negf (arg0 m c)))))))))) := by
    unfold V slabs
    after_results_simp
    rfl
  rw [e, slabs_apply]
  unfold dsilu sigmoid
  pointwise

theorem v26 (c : Dev nD) (a : Fin 4) (R : Fin 8192) (x : Fin 704) :
    V m c main_v26 (ix3 a R x) = (arg0 m c) (ix2 R ⟨a.val * 704 + x.val, by omega⟩) * sigmoid ((arg0 m c) (ix2 R ⟨a.val * 704 + x.val, by omega⟩)) * (arg1 m c) (ix2 R ⟨a.val * 704 + x.val, by omega⟩) := by
  have e : V m c main_v26 = slabs (mulf (mulf (arg0 m c) (Host.divf (broadcastInDim S8192x2816 ![] bcast_S_S8192x2816 (constant (F := Ideal) S_ .f32 0x3F800000#32)) (addf (broadcastInDim S8192x2816 ![] bcast_S_S8192x2816 (constant (F := Ideal) S_ .f32 0x3F800000#32)) (Host.exp (Host.negf (arg0 m c)))))) (arg1 m c)) := by
    unfold V slabs
    after_results_simp
    rfl
  rw [e, slabs_apply]
  unfold sigmoid
  pointwise

theorem v15 (c : Dev nD) (a : Fin 4) (l : Fin 2) (x : Fin 704) (j : Fin 1024) :
    V m c main_v15 (ix4 a l x j) = m ((c : Thread nD τ).loc main_arg2) (ix3 l ⟨a.val * 704 + x.val, by omega⟩ j) := by
  have e : V m c main_v15 = truncf (F := Ideal) .bf16 (transpose S4x2x704x1024 [1, 0, 2, 3] (shapeCast S2x4x704x1024 (m ((c : Thread nD τ).loc main_arg2))
      shapeCasts_S2x2816x1024_S2x4x704x1024) transposes_S2x4x704x1024_S4x2x704x1024_1_0_2_3) bitsLt_bf16_f32 := by
    unfold V
    after_results_simp
    rfl
  rw [e]
  generalize hz : shapeCast S2x4x704x1024 (m ((c : Thread nD τ).loc main_arg2)) shapeCasts_S2x2816x1024_S2x4x704x1024 = z
  have hz' := fun l a x j => (congrFun hz (ix4 l a x j)).symm.trans (Slab.split _ _ l a x j)
  pointwise [hz']

/-! ## The blocks a point sees -/

theorem index0 : ∀ t : Fin grid0.N, win0_0.index t = ![t.val, 0] := by decide +kernel
theorem index1 : ∀ t : Fin grid0.N, win0_1.index t = ![0, 1, 0, 0] := by decide +kernel
theorem index2 : ∀ t : Fin grid0.N, win0_2.index t = ![0, t.val, 0] := by decide +kernel
theorem index3 : ∀ t : Fin grid0.N, win0_3.index t = ![0, t.val, 0] := by decide +kernel
theorem index4 : ∀ t : Fin grid0.N, win0_4.index t = ![0, t.val, 0] := by decide +kernel
theorem index5 : ∀ t : Fin grid0.N, win0_5.index t = ![0, t.val, 0] := by decide +kernel
theorem index6 : ∀ t : Fin grid0.N, win0_6.index t = ![0, t.val, 0] := by decide +kernel

/-- Row `r` of point `t`'s block, among all rows. -/
def at_ (t : Fin cfg0.N) (r : Fin 256) : Fin 8192 := ⟨t.val * 256 + r.val, by have := t.isLt; have : cfg0.N = 32 := N_0; omega⟩

theorem blk0 (c : Dev nD) (t : Fin cfg0.N) (r : Fin 256) (j : Fin 1024) :
    (iblk m c 0 t : Vec Ideal S256x1024 .f32) (ix2 r j) = V m c main_arg3 (ix2 (at_ t r) j) := by
  unfold iblk
  rw [View.read_apply]
  show V m c main_arg3 _ = _
  congr 1
  funext a'
  apply Fin.ext
  have hi := index0 t
  match a' with
  | ⟨0, _⟩ => show win0_0.index t 0 * 256 + 1 * r.val = t.val * 256 + r.val; rw [hi]; simp
  | ⟨1, _⟩ => show win0_0.index t 1 * 1024 + 1 * j.val = j.val; rw [hi]; simp

theorem blk1 (c : Dev nD) (t : Fin cfg0.N) (a : Fin 4) (x : Fin 704) (j : Fin 1024) :
    (iblk m c 1 t : Vec Ideal S4x1x704x1024 .bf16) (ix4 a 0 x j) = V m c main_v15 (ix4 a 1 x j) := by
  unfold iblk
  rw [View.read_apply]
  show V m c main_v15 _ = _
  congr 1
  funext a'
  apply Fin.ext
  have hi := index1 t
  match a' with
  | ⟨0, _⟩ => show win0_1.index t 0 * 4 + 1 * a.val = a.val; rw [hi]; simp
  | ⟨1, _⟩ => show win0_1.index t 1 * 1 + 1 * 0 = 1; rw [hi]; simp
  | ⟨2, _⟩ => show win0_1.index t 2 * 704 + 1 * x.val = x.val; rw [hi]; simp
  | ⟨3, _⟩ => show win0_1.index t 3 * 1024 + 1 * j.val = j.val; rw [hi]; simp

theorem blk2 (c : Dev nD) (t : Fin cfg0.N) (a : Fin 4) (r : Fin 256) (x : Fin 704) :
    (iblk m c 2 t : Vec Ideal S4x256x704 .bf16) (ix3 a r x) = V m c main_v18 (ix3 a (at_ t r) x) := by
  unfold iblk
  rw [View.read_apply]
  show V m c main_v18 _ = _
  congr 1
  funext a'
  apply Fin.ext
  have hi := index2 t
  match a' with
  | ⟨0, _⟩ => show win0_2.index t 0 * 4 + 1 * a.val = a.val; rw [hi]; simp
  | ⟨1, _⟩ => show win0_2.index t 1 * 256 + 1 * r.val = t.val * 256 + r.val; rw [hi]; simp
  | ⟨2, _⟩ => show win0_2.index t 2 * 704 + 1 * x.val = x.val; rw [hi]; simp

theorem blk3 (c : Dev nD) (t : Fin cfg0.N) (a : Fin 4) (r : Fin 256) (x : Fin 704) :
    (iblk m c 3 t : Vec Ideal S4x256x704 .bf16) (ix3 a r x) = V m c main_v22 (ix3 a (at_ t r) x) := by
  unfold iblk
  rw [View.read_apply]
  show V m c main_v22 _ = _
  congr 1
  funext a'
  apply Fin.ext
  have hi := index3 t
  match a' with
  | ⟨0, _⟩ => show win0_3.index t 0 * 4 + 1 * a.val = a.val; rw [hi]; simp
  | ⟨1, _⟩ => show win0_3.index t 1 * 256 + 1 * r.val = t.val * 256 + r.val; rw [hi]; simp
  | ⟨2, _⟩ => show win0_3.index t 2 * 704 + 1 * x.val = x.val; rw [hi]; simp

theorem blk4 (c : Dev nD) (t : Fin cfg0.N) (a : Fin 4) (r : Fin 256) (x : Fin 704) :
    (iblk m c 4 t : Vec Ideal S4x256x704 .bf16) (ix3 a r x) = V m c main_v26 (ix3 a (at_ t r) x) := by
  unfold iblk
  rw [View.read_apply]
  show V m c main_v26 _ = _
  congr 1
  funext a'
  apply Fin.ext
  have hi := index4 t
  match a' with
  | ⟨0, _⟩ => show win0_4.index t 0 * 4 + 1 * a.val = a.val; rw [hi]; simp
  | ⟨1, _⟩ => show win0_4.index t 1 * 256 + 1 * r.val = t.val * 256 + r.val; rw [hi]; simp
  | ⟨2, _⟩ => show win0_4.index t 2 * 704 + 1 * x.val = x.val; rw [hi]; simp

theorem ds_eq (c : Dev nD) (t : Fin cfg0.N) (a : Fin 4) (r : Fin 256) (n : Fin 704) :
    ds (iblk m c 0 t) (iblk m c 1 t) a r n = arriving (arg2 m c) (arg3 m c) (at_ t r) ⟨a.val * 704 + n.val, by omega⟩ := by
  unfold ds arriving
  have e0 := fun k => (blk0 m c t r k).trans (congrFun (V_main_arg3 m c) _)
  have e1 := fun k => (blk1 m c t a n k).trans (v15 m c a 1 n k)
  generalize (iblk m c 0 t : Vec Ideal S256x1024 .f32) = x0 at e0 ⊢
  generalize (iblk m c 1 t : Vec Ideal S4x1x704x1024 .bf16) = x1 at e1 ⊢
  exact Finset.sum_congr rfl fun k _ => by rw [e0, e1]

/-! ## The results -/

/-- The first result's row `R`: the gradient of the gate's argument. -/
def gateRow (c : Dev nD) (R : Fin 8192) (n : Fin 2816) : EReal :=
  arriving (arg2 m c) (arg3 m c) R n * ((arg1 m c) (ix2 R n) * dsilu ((arg0 m c) (ix2 R n)))

/-- The second result's row `R`: the gradient of the factor. -/
def factorRow (c : Dev nD) (R : Fin 8192) (n : Fin 2816) : EReal :=
  arriving (arg2 m c) (arg3 m c) R n * ((arg0 m c) (ix2 R n) * sigmoid ((arg0 m c) (ix2 R n)))

/-- Row `R`'s part of the weight's gradient. -/
def weightRow (c : Dev nD) (R : Fin 8192) (n : Fin 2816) (j : Fin 1024) : EReal :=
  (arg0 m c) (ix2 R n) * sigmoid ((arg0 m c) (ix2 R n)) * (arg1 m c) (ix2 R n) * (arg3 m c) (ix2 R j)

theorem outsAt_5 (c : Dev nD) (t : Fin cfg0.N) (a : Fin 4) (r : Fin 256) (n : Fin 704) :
    (outsAt0 m c t.val t.isLt).1 (ix3 a r n) = gateRow m c (at_ t r) ⟨a.val * 704 + n.val, by omega⟩ := by
  unfold gateRow
  rw [← ds_eq, ← v22, ← blk3]
  by_cases h0 : t.val % 32 = 0
  · exact out5_A m c t h0 a r n
  · exact out5_B m c t h0 a r n

theorem outsAt_6 (c : Dev nD) (t : Fin cfg0.N) (a : Fin 4) (r : Fin 256) (n : Fin 704) :
    (outsAt0 m c t.val t.isLt).2.1 (ix3 a r n) = factorRow m c (at_ t r) ⟨a.val * 704 + n.val, by omega⟩ := by
  unfold factorRow
  rw [← ds_eq, ← v18, ← blk2]
  by_cases h0 : t.val % 32 = 0
  · exact out6_A m c t h0 a r n
  · exact out6_B m c t h0 a r n

theorem dw_eq (c : Dev nD) (t : Fin cfg0.N) (a : Fin 4) (n : Fin 704) (j : Fin 1024) :
    dw (iblk m c 0 t) (iblk m c 4 t) a n j = ∑ r, weightRow m c (at_ t r) ⟨a.val * 704 + n.val, by omega⟩ j := by
  unfold dw weightRow
  have e0 := fun r => (blk0 m c t r j).trans (congrFun (V_main_arg3 m c) _)
  have e4 := fun r => (blk4 m c t a r n).trans (v26 m c a (at_ t r) n)
  generalize (iblk m c 0 t : Vec Ideal S256x1024 .f32) = x0 at e0 ⊢
  generalize (iblk m c 4 t : Vec Ideal S4x256x704 .bf16) = x4 at e4 ⊢
  exact Finset.sum_congr rfl fun r _ => by rw [e0, e4]

/-- The accumulator after point `k`. -/
@[irreducible] def accum (c : Dev nD) (k : Nat) (h : k < cfg0.N) : FVec Ideal S4x704x1024 .f32 := (outsAt0 m c k h).2.2

theorem accum_eq (c : Dev nD) (t : Fin cfg0.N) : (outsAt0 m c t.val t.isLt).2.2 = accum m c t.val t.isLt := by
  unfold accum
  rfl

/-- The accumulated weight gradient after the last point. -/
theorem weight_last (c : Dev nD) (a : Fin 4) (n : Fin 704) (j : Fin 1024) :
    accum m c 31 (by decide) (ix3 a n j) = ∑ R, weightRow m c R ⟨a.val * 704 + n.val, by omega⟩ j := by
  refine Lift.sum_rows (T := 8192) (B := 256) (K := 31) rfl (fun R => weightRow m c R ⟨a.val * 704 + n.val, by omega⟩ j) (fun k h => accum m c k h (ix3 a n j)) ?_ ?_
  · intro h
    unfold accum
    exact (acc_A m c ⟨0, h⟩ rfl a n j).trans (dw_eq m c ⟨0, h⟩ a n j)
  · intro k h
    unfold accum
    exact (acc_B m c ⟨k + 1, h⟩ (by dsimp only; omega) a n j).trans (congrArg _ (dw_eq m c ⟨k + 1, h⟩ a n j))

theorem final5 (c : Dev nD) (a : Fin 4) (R : Fin 8192) (n : Fin 704) : (dats m 0 c).arrAt 5 cfg0.N (ix3 a R n) = gateRow m c R ⟨a.val * 704 + n.val, by omega⟩ := by
  have hN : cfg0.N = 32 := N_0
  have hR := R.isLt
  have ht : R.val / 256 < cfg0.N := by omega
  have h := congrFun (blocks5 m c ⟨R.val / 256, ht⟩ (flush0_5 _)) (ix3 a ⟨R.val % 256, by omega⟩ n)
  rw [View.read_apply, flushed5] at h
  have e := outsAt_5 m c ⟨R.val / 256, ht⟩ a ⟨R.val % 256, by omega⟩ n
  rw [show at_ ⟨R.val / 256, ht⟩ ⟨R.val % 256, by omega⟩ = R from Fin.ext (by unfold at_; dsimp only; omega)] at e
  rw [← e]
  refine Eq.trans (congrArg _ ?_) h
  funext a'
  apply Fin.ext
  have hi := index5 ⟨R.val / 256, ht⟩
  match a' with
  | ⟨0, _⟩ => show a.val = win0_5.index ⟨R.val / 256, _⟩ 0 * 4 + 1 * a.val; rw [hi]; simp
  | ⟨1, _⟩ => show R.val = win0_5.index ⟨R.val / 256, _⟩ 1 * 256 + 1 * (R.val % 256); rw [hi]; simp; omega
  | ⟨2, _⟩ => show n.val = win0_5.index ⟨R.val / 256, _⟩ 2 * 704 + 1 * n.val; rw [hi]; simp

theorem final6 (c : Dev nD) (a : Fin 4) (R : Fin 8192) (n : Fin 704) : (dats m 0 c).arrAt 6 cfg0.N (ix3 a R n) = factorRow m c R ⟨a.val * 704 + n.val, by omega⟩ := by
  have hN : cfg0.N = 32 := N_0
  have hR := R.isLt
  have ht : R.val / 256 < cfg0.N := by omega
  have h := congrFun (blocks6 m c ⟨R.val / 256, ht⟩ (flush0_6 _)) (ix3 a ⟨R.val % 256, by omega⟩ n)
  rw [View.read_apply, flushed6] at h
  have e := outsAt_6 m c ⟨R.val / 256, ht⟩ a ⟨R.val % 256, by omega⟩ n
  rw [show at_ ⟨R.val / 256, ht⟩ ⟨R.val % 256, by omega⟩ = R from Fin.ext (by unfold at_; dsimp only; omega)] at e
  rw [← e]
  refine Eq.trans (congrArg _ ?_) h
  funext a'
  apply Fin.ext
  have hi := index6 ⟨R.val / 256, ht⟩
  match a' with
  | ⟨0, _⟩ => show a.val = win0_6.index ⟨R.val / 256, _⟩ 0 * 4 + 1 * a.val; rw [hi]; simp
  | ⟨1, _⟩ => show R.val = win0_6.index ⟨R.val / 256, _⟩ 1 * 256 + 1 * (R.val % 256); rw [hi]; simp; omega
  | ⟨2, _⟩ => show n.val = win0_6.index ⟨R.val / 256, _⟩ 2 * 704 + 1 * n.val; rw [hi]; simp

/-- The last point. -/
abbrev last : Fin cfg0.N := ⟨31, by decide⟩

/-- What the third result ends as. -/
def weightSum (c : Dev nD) : Buf (Elt Ideal) ((c : Thread nD τ).loc main_v27_2) := accum m c 31 (by decide)

theorem final7 (c : Dev nD) : (dats m 0 c).arrAt 7 cfg0.N = weightSum m c := by
  have hN : cfg0.N = 32 := N_0
  have hz' : (fun a => win0_7.index last a * main_v27_2.ty.shape.size a) = fun _ => 0 := funext fun a => by fin_cases a <;> decide
  refine (dats m 0 c).arrAt_eq_of_cover 7 (weightSum m c) (fun t hf => ?_) fun i => ⟨last, (flush0_7 _).mpr (by decide), ?_⟩
  · obtain rfl : t = last := Fin.ext (by have := (flush0_7 t).mp hf; have := t.isLt; show t.val = 31; omega)
    rw [flushed7, accum_eq]
    exact (Memref.read_access_unit_zero (Elt Ideal) main_v27_2 hz' (fun a => by rw [congrFun hz' a]; simp) (weightSum m c)).symm
  · show i ∈ ((View.whole main_v27_2).slice (win0_7.rect last)).set
    rw [View.set_slice_whole, Rect.mem_set_unit]
    intro a
    have h0 : (i 0 : Nat) < 4 := (i 0).isLt
    have h1 : (i 1 : Nat) < 704 := (i 1).isLt
    have h2 : (i 2 : Nat) < 1024 := (i 2).isLt
    match a with
    | ⟨0, _⟩ => show win0_7.index _ 0 * win0_7.size 0 ≤ (i 0 : Nat) ∧ (i 0 : Nat) < win0_7.index _ 0 * win0_7.size 0 + win0_7.xsize (grid0.coords _) 0
                rw [show win0_7.index last 0 * win0_7.size 0 = 0 from by decide +kernel, show win0_7.xsize (grid0.coords last) 0 = 4 from by decide +kernel]; omega
    | ⟨1, _⟩ => show win0_7.index _ 1 * win0_7.size 1 ≤ (i 1 : Nat) ∧ (i 1 : Nat) < win0_7.index _ 1 * win0_7.size 1 + win0_7.xsize (grid0.coords _) 1
                rw [show win0_7.index last 1 * win0_7.size 1 = 0 from by decide +kernel, show win0_7.xsize (grid0.coords last) 1 = 704 from by decide +kernel]; omega
    | ⟨2, _⟩ => show win0_7.index _ 2 * win0_7.size 2 ≤ (i 2 : Nat) ∧ (i 2 : Nat) < win0_7.index _ 2 * win0_7.size 2 + win0_7.xsize (grid0.coords _) 2
                rw [show win0_7.index last 2 * win0_7.size 2 = 0 from by decide +kernel, show win0_7.xsize (grid0.coords last) 2 = 1024 from by decide +kernel]; omega

end Cert.DownIdeal.Value

end
-- ==== Proof.Down.Reference.lean ====
/-
  The gradient through the last FFN product and its gate by the chain rule: the reference's results, read at an index.
-/
module

public import proofs.«01_k».proof.Proof.Down.Kernel
public import proofs.«01_k».proof.Proof.Gen.DownRefIdeal.Read

@[expose] public section

noncomputable section

open Idealize.ShloMosaic Idealize.ShloMosaic.TcCoe Idealize.SL.Sem

namespace Cert.DownRefIdeal.Read
open Cert.DownRefIdeal Cert.DownRefIdeal.Gen
open Cert.DownIdeal.Value (sigmoid dsilu arriving)

variable (x0 x1 : FVec Ideal S8192x2816 .f32) (x2 : FVec Ideal S2x2816x1024 .f32) (x3 : FVec Ideal S8192x1024 .f32)

theorem sig_at (R : Fin 8192) (n : Fin 2816) : val_main_v2_2 (F := Ideal) x0 (ix2 R n) = sigmoid (x0 (ix2 R n)) := by
  unfold val_main_v2_2 val_main_call0_v4 val_main_call0_v3 val_main_call0_v2 val_main_call0_v1 val_main_call0_v0 val_main_call0_cst val_main_call0_cst_0 sigmoid
  pointwise

theorem at7 (R : Fin 8192) (n : Fin 2816) : val_main_v7 (F := Ideal) x2 x3 (ix2 R n) = arriving x2 x3 R n := by
  unfold val_main_v7 val_main_v1 val_main_v0 arriving
  pointwise [dot_S8192x1024_S2816x1024_S8192x2816_1_1_0_0_n_n]

/-- The gradient of the gate's argument by the chain rule. -/
def gate (R : Fin 8192) (n : Fin 2816) : EReal :=
  arriving x2 x3 R n * x1 (ix2 R n) * sigmoid (x0 (ix2 R n))
    + x0 (ix2 R n) * (arriving x2 x3 R n * x1 (ix2 R n)) * (sigmoid (x0 (ix2 R n)) * (Ideal.ofBits .f32 1065353216#32 - sigmoid (x0 (ix2 R n))))

theorem at10 (R : Fin 8192) (n : Fin 2816) : val_main_v10 (F := Ideal) x0 x1 x2 x3 (ix2 R n) = gate x0 x1 x2 x3 R n := by
  unfold val_main_v10 val_main_call1_v2 val_main_call1_v1 val_main_call1_v0 val_main_v9 val_main_v2_1 val_main_call0_v7 val_main_call0_v6 val_main_call0_cst_1 gate
  pointwise [at7, sig_at]

theorem at13 (a : Fin 4) (R : Fin 8192) (n : Fin 704) :
    val_main_v13 (F := Ideal) x0 x1 x2 x3 (ix3 a R n) = gate x0 x1 x2 x3 R ⟨a.val * 704 + n.val, by omega⟩ := by
  unfold val_main_v13 val_main_v12 val_main_v11
  pointwise [at10]

theorem at16 (a : Fin 4) (R : Fin 8192) (n : Fin 704) : val_main_v16 (F := Ideal) x0 x2 x3 (ix3 a R n)
    = arriving x2 x3 R ⟨a.val * 704 + n.val, by omega⟩ * (x0 (ix2 R ⟨a.val * 704 + n.val, by omega⟩) * sigmoid (x0 (ix2 R ⟨a.val * 704 + n.val, by omega⟩))) := by
  unfold val_main_v16 val_main_v15 val_main_v14 val_main_v8 val_main_v2_0
  pointwise [at7, sig_at]
  exact mul_comm _ _

theorem at6 (n : Fin 2816) (j : Fin 1024) : val_main_v6 (F := Ideal) x0 x1 x3 (ix2 n j)
    = ∑ R : Fin 8192, x0 (ix2 R n) * sigmoid (x0 (ix2 R n)) * x1 (ix2 R n) * x3 (ix2 R j) := by
  unfold val_main_v6 val_main_v5 val_main_v3 val_main_v2_0
  pointwise [sig_at, dot_S8192x1024_S8192x2816_S1024x2816_0_0_1_1_n_n]
  exact Finset.sum_congr rfl fun R _ => mul_comm _ _

theorem at17 (a : Fin 4) (n : Fin 704) (j : Fin 1024) : val_main_v17 (F := Ideal) x0 x1 x3 (ix3 a n j)
    = ∑ R : Fin 8192, x0 (ix2 R ⟨a.val * 704 + n.val, by omega⟩) * sigmoid (x0 (ix2 R ⟨a.val * 704 + n.val, by omega⟩)) * x1 (ix2 R ⟨a.val * 704 + n.val, by omega⟩) * x3 (ix2 R j) := by
  unfold val_main_v17
  pointwise [at6]

end Cert.DownRefIdeal.Read

end
-- ==== Proof.Down.Value.lean ====
/-
  The gradient through the last FFN product and its gate: both programs end with the same three results.
-/
module

public import proofs.«01_k».proof.Defs
public import proofs.«01_k».proof.Proof.Down.Reference
public import proofs.«01_k».proof.Proof.Gen.Pre_finite_down

@[expose] public section

noncomputable section

open Idealize.ShloMosaic Idealize.ShloMosaic.TcCoe Idealize.SL.Sem

namespace Cert.DownIdeal.Value
open Cert.DownIdeal Cert.DownIdeal.Gen
open Cert.DownRefIdeal.Read

variable (m : (ℓ : Loc nD τ sig) → Buf (Elt Ideal) ℓ)

theorem bits_one : Ideal.ofBits .f32 1065353216#32 = ((1 : ℝ) : EReal) := by
  simp [Ideal.ofBits, Ideal.ieee]; rw [← EReal.coe_mul]; norm_num

theorem sigmoid_coe (z : ℝ) : ∃ s : ℝ, sigmoid (z : EReal) = (s : EReal) := by
  refine ⟨1 / (1 + Real.exp (-z)), ?_⟩
  have hp : (1 + Real.exp (-z)) ≠ 0 := by positivity
  unfold sigmoid
  rw [bits_one, ← EReal.coe_neg, show Ideal.exp ((-z : ℝ) : EReal) = ((Real.exp (-z) : ℝ) : EReal) from rfl, ← EReal.coe_add, Lift.div_coe hp]

/-- On finite arguments the chain rule's row is the kernel's. -/
theorem gate_agrees (hpre : Cert.Pre_DownIdeal_finite_down m) (c : Dev nD) (R : Fin 8192) (n : Fin 2816) :
    gate (arg0 m c) (arg1 m c) (arg2 m c) (arg3 m c) R n = gateRow m c R n := by
  unfold gate gateRow arriving dsilu arg0 arg1 arg2 arg3
  obtain ⟨h0, h1, h2, h3⟩ := hpre c
  obtain ⟨X0, e0⟩ := Lift.exists_real h0
  obtain ⟨X1, e1⟩ := Lift.exists_real h1
  obtain ⟨X2, e2⟩ := Lift.exists_real h2
  obtain ⟨X3, e3⟩ := Lift.exists_real h3
  rw [e0, e1, e2, e3]
  dsimp only
  obtain ⟨s, hs⟩ := sigmoid_coe (X0 (ix2 R n))
  simp only [hs, bits_one, ← EReal.coe_mul, Lift.coe_sum, ← EReal.coe_add, ← EReal.coe_sub]
  congr 1
  ring

theorem value : Cert.algebraic_DownIdeal_DownRefIdeal_pre_finite_down := by
  intro m g m' g' hpre harg
  refine ⟨fun c => (dats m 0 c).arrAt 5 cfg0.N, fun c => (dats m 0 c).arrAt 6 cfg0.N, fun c => weightSum m c, ?_, ?_⟩
  · refine (θ_run defs _ _).mono (fun r h c => ?_) (run_blocks m g)
    obtain ⟨h0, h1, h2, hr⟩ := h c
    exact ⟨h0, h1, h2.trans (final7 m c), hr⟩
  · refine (θ_run Cert.DownRefIdeal.defs _ _).mono (fun r h c => ?_) (Cert.DownRefIdeal.Value.run m' g')
    obtain ⟨h0, h1, h2, hr⟩ := h c
    obtain ⟨a0, a1, a2, a3⟩ := harg c
    refine ⟨h0.trans ?_, h1.trans ?_, h2.trans ?_, hr⟩
    · refine (val_main_v13_eq _ _ _ _).trans ?_
      rw [a0, a1, a2, a3]
      funext i
      obtain ⟨a, R, n, rfl⟩ : ∃ a R n, i = ix3 a R n := ⟨i 0, i 1, i 2, eq_ix3 i⟩
      exact (at13 _ _ _ _ a R n).trans ((gate_agrees m hpre c R _).trans (final5 m c a R n).symm)
    · refine (val_main_v16_eq _ _ _).trans ?_
      rw [a0, a2, a3]
      funext i
      obtain ⟨a, R, n, rfl⟩ : ∃ a R n, i = ix3 a R n := ⟨i 0, i 1, i 2, eq_ix3 i⟩
      exact (at16 _ _ _ a R n).trans (final6 m c a R n).symm
    · refine (val_main_v17_eq _ _ _).trans ?_
      rw [a0, a1, a3]
      funext i
      obtain ⟨a, n, j, rfl⟩ : ∃ a n j, i = ix3 a n j := ⟨i 0, i 1, i 2, eq_ix3 i⟩
      exact (at17 _ _ _ a n j).trans (weight_last m c a n j).symm

/-- The reference leaves its arguments and its counters as they were. -/
theorem frame_ref : Cert.quiescent_DownRefIdeal := fun m g _ =>
  (θ_run Cert.DownRefIdeal.defs _ _).mono (fun r h => ⟨fun c => (h c).2.2.2, sem_eq_zero_of_no_sems (by decide) r.2⟩)
    (Cert.DownRefIdeal.Value.run (F := Ideal) m g)

end Cert.DownIdeal.Value

end
-- ==== Proof.Loss.Points.lean ====
/-
  The last FFN product with the loss, one grid point at a time: what a point leaves in its three output buffers, read at
  an index, in terms of the point's 512 rows.
-/
module

public import proofs.«01_k».proof.Proof.Norm
public import proofs.«01_k».proof.Proof.Gen.LossIdeal.Value

@[expose] public section

noncomputable section

open Idealize.ShloMosaic Idealize.ShloMosaic.TcCoe Idealize.SL.Sem
open Idealize.ShloMosaic.Pipeline (Dat)

namespace Cert.LossIdeal.Value
open Cert.LossIdeal Cert.LossIdeal.Gen

/-- The error of a row: the norm's result less the target. -/
def err (x g y : Fin 1024 → EReal) (j : Fin 1024) : EReal := x j * Norm.rstd x * g j - y j

/-- The gradient that arrives at the norm's result: the error over the row's length. -/
def arrives (x g y : Fin 1024 → EReal) (j : Fin 1024) : EReal := err x g y j * Ideal.ofBits .f32 981467136#32

/-- The row's mean square error. -/
def sqErr (x g y : Fin 1024 → EReal) : EReal := Ideal.div (∑ k, err x g y k * err x g y k) (Ideal.ofBits .f32 1149239296#32)

variable (m : (ℓ : Loc nD τ sig) → Buf (Elt Ideal) ℓ)

theorem hz : (![0, 0] : Fin 2 → Nat) = fun _ => 0 := funext fun a => by fin_cases a <;> rfl

/-- A block's row: the residual row and the four slab products, in the body's order. -/
def hh (x0 : Vec Ideal S4x512x704 .bf16) (x1 : Vec Ideal S4x1x704x1024 .bf16) (x2 : Vec Ideal S512x1024 .f32) (r : Fin 512) (j : Fin 1024) : EReal :=
  x2 (ix2 r j) + ∑ x, x0 (ix3 0 r x) * x1 (ix4 0 0 x j) + ∑ x, x0 (ix3 1 r x) * x1 (ix4 1 0 x j) + ∑ x, x0 (ix3 2 r x) * x1 (ix4 2 0 x j)
    + ∑ x, x0 (ix3 3 r x) * x1 (ix4 3 0 x j)

/-- Row `r` of point `t`, the norm's argument. -/
def row (c : Dev nD) (t : Fin cfg0.N) (r : Fin 512) (j : Fin 1024) : EReal := hh (iblk m c 0 t) (iblk m c 1 t) (iblk m c 2 t) r j

/-- The norm's gain. -/
def gains (c : Dev nD) (t : Fin cfg0.N) (j : Fin 1024) : EReal := (iblk m c 3 t : Vec Ideal S1x1024 .f32) (ix2 0 j)

/-- The target's row. -/
def goal (c : Dev nD) (t : Fin cfg0.N) (r : Fin 512) (j : Fin 1024) : EReal := (iblk m c 4 t : Vec Ideal S512x1024 .f32) (ix2 r j)

set_option maxHeartbeats 2000000 in
theorem out_A (c : Dev nD) (t : Fin cfg0.N) (h0 : t.val % 16 = 0) (r : Fin 512) (j : Fin 1024) :
    (outsAt0 m c t.val t.isLt).1 (ix2 r j) = Norm.out (row m c t r) (arrives (row m c t r) (gains m c t) (goal m c t r)) (gains m c t) (fun _ => 0) j := by
  rw [outsAt0_A m c t h0]
  dsimp only
  unfold out0_A_5
  rw [View.read_writes_eq_canon _ _ _ (fun _ => cover0_A_5 ..)]
  unfold kernelRun0_A row gains goal
  dsimp only
  sl_unfold_words
  rw [View.canon_unit_zero hz]
  simp only [View.readAt_eq_ld, (hs0_0 t).read_unread, (hs0_1 t).read_unread, (hs0_2 t).read_unread, (hs0_3 t).read_unread,
    (hs0_4 t).read_unread, View.ld_unit_zero (S := S512x1024) hz, View.ld_unit_zero (S := S1x1024) hz, View.ld_unit_zero (S := S1x1) hz]
  generalize iblk m c 0 t = x0, iblk m c 1 t = x1, iblk m c 2 t = x2, iblk m c 3 t = x3, iblk m c 4 t = x4
  unfold_payloads
  pointwise [dot_S512x704_S704x1024_S512x1024_1_0_0_1_n_n]
  exact (zero_add _).symm

set_option maxHeartbeats 2000000 in
theorem out_B (c : Dev nD) (t : Fin cfg0.N) (h0 : ¬t.val % 16 = 0) (r : Fin 512) (j : Fin 1024) :
    (outsAt0 m c t.val t.isLt).1 (ix2 r j) = Norm.out (row m c t r) (arrives (row m c t r) (gains m c t) (goal m c t r)) (gains m c t) (fun _ => 0) j := by
  rw [outsAt0_B m c t h0]
  dsimp only
  unfold out0_B_5
  rw [View.read_writes_eq_canon _ _ _ (fun _ => cover0_B_5 ..)]
  unfold kernelRun0_B row gains goal
  dsimp only
  sl_unfold_words
  rw [View.canon_unit_zero hz]
  simp only [View.readAt_eq_ld, (hs0_0 t).read_unread, (hs0_1 t).read_unread, (hs0_2 t).read_unread, (hs0_3 t).read_unread,
    (hs0_4 t).read_unread, View.ld_unit_zero (S := S512x1024) hz, View.ld_unit_zero (S := S1x1024) hz, View.ld_unit_zero (S := S1x1) hz]
  generalize iblk m c 0 t = x0, iblk m c 1 t = x1, iblk m c 2 t = x2, iblk m c 3 t = x3, iblk m c 4 t = x4
  unfold_payloads
  pointwise [dot_S512x704_S704x1024_S512x1024_1_0_0_1_n_n]
  exact (zero_add _).symm

set_option maxHeartbeats 2000000 in
theorem loss_A (c : Dev nD) (t : Fin cfg0.N) (h0 : t.val % 16 = 0)  :
    (outsAt0 m c t.val t.isLt).2.1 (ix2 0 0) = Ideal.ofBits .f32 1056964608#32 * ∑ r, sqErr (row m c t r) (gains m c t) (goal m c t r) := by
  rw [outsAt0_A m c t h0]
  dsimp only
  unfold out0_A_6
  rw [View.read_writes_eq_canon _ _ _ (fun _ => cover0_A_6 ..)]
  unfold kernelRun0_A row gains goal
  dsimp only
  sl_unfold_words
  rw [View.canon_cons_unit_zero (S := S1x1) hz, View.readCov_unit_zero (S := S1x1) _ hz]
  simp only [View.readAt_eq_ld, (hs0_0 t).read_unread, (hs0_1 t).read_unread, (hs0_2 t).read_unread, (hs0_3 t).read_unread,
    (hs0_4 t).read_unread, View.ld_unit_zero (S := S512x1024) hz, View.ld_unit_zero (S := S1x1024) hz, View.ld_unit_zero (S := S1x1) hz]
  generalize iblk m c 0 t = x0, iblk m c 1 t = x1, iblk m c 2 t = x2, iblk m c 3 t = x3, iblk m c 4 t = x4
  unfold_payloads
  pointwise [dot_S512x704_S704x1024_S512x1024_1_0_0_1_n_n]
  rfl

set_option maxHeartbeats 2000000 in
theorem loss_B (c : Dev nD) (t : Fin cfg0.N) (h0 : ¬t.val % 16 = 0)  :
    (outsAt0 m c t.val t.isLt).2.1 (ix2 0 0) = (outsAt0 m c (t.val - 1) (Nat.lt_of_le_of_lt (Nat.sub_le _ _) t.isLt)).2.1 (ix2 0 0)
      + Ideal.ofBits .f32 1056964608#32 * ∑ r, sqErr (row m c t r) (gains m c t) (goal m c t r) := by
  rw [outsAt0_B m c t h0]
  dsimp only
  unfold out0_B_6
  rw [View.read_writes_eq_canon _ _ _ (fun _ => cover0_B_6 ..)]
  unfold kernelRun0_B row gains goal
  dsimp only
  sl_unfold_words
  rw [View.canon_unit_zero hz]
  simp only [View.readAt_eq_ld, (hs0_0 t).read_unread, (hs0_1 t).read_unread, (hs0_2 t).read_unread, (hs0_3 t).read_unread,
    (hs0_4 t).read_unread, (hs0_6 t).read_unread, View.ld_unit_zero (S := S512x1024) hz, View.ld_unit_zero (S := S1x1024) hz, View.ld_unit_zero (S := S1x1) hz]
  generalize iblk m c 0 t = x0, iblk m c 1 t = x1, iblk m c 2 t = x2, iblk m c 3 t = x3, iblk m c 4 t = x4
  unfold_payloads
  pointwise [dot_S512x704_S704x1024_S512x1024_1_0_0_1_n_n]
  rfl

set_option maxHeartbeats 2000000 in
theorem gain_A (c : Dev nD) (t : Fin cfg0.N) (h0 : t.val % 16 = 0) (j : Fin 1024) :
    (outsAt0 m c t.val t.isLt).2.2 (ix2 0 j) = ∑ r, Norm.gain (row m c t r) (arrives (row m c t r) (gains m c t) (goal m c t r)) j := by
  rw [outsAt0_A m c t h0]
  dsimp only
  unfold out0_A_7
  rw [View.read_writes_eq_canon _ _ _ (fun _ => cover0_A_7 ..)]
  unfold kernelRun0_A row gains goal
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread, (hs0_3 t).read_unread,
    (hs0_4 t).read_unread, View.ld_unit_zero (S := S512x1024) hz, View.ld_unit_zero (S := S1x1024) hz, View.ld_unit_zero (S := S1x1) hz]
  generalize iblk m c 0 t = x0, iblk m c 1 t = x1, iblk m c 2 t = x2, iblk m c 3 t = x3, iblk m c 4 t = x4
  unfold_payloads
  pointwise [dot_S512x704_S704x1024_S512x1024_1_0_0_1_n_n]
  rfl

set_option maxHeartbeats 2000000 in
theorem gain_B (c : Dev nD) (t : Fin cfg0.N) (h0 : ¬t.val % 16 = 0) (j : Fin 1024) :
    (outsAt0 m c t.val t.isLt).2.2 (ix2 0 j) = (outsAt0 m c (t.val - 1) (Nat.lt_of_le_of_lt (Nat.sub_le _ _) t.isLt)).2.2 (ix2 0 j)
      + ∑ r, Norm.gain (row m c t r) (arrives (row m c t r) (gains m c t) (goal m c t r)) j := by
  rw [outsAt0_B m c t h0]
  dsimp only
  unfold out0_B_7
  rw [View.read_writes_eq_canon _ _ _ (fun _ => cover0_B_7 ..)]
  unfold kernelRun0_B row gains goal
  dsimp only
  sl_unfold_words
  rw [View.canon_unit_zero hz]
  simp only [View.readAt_eq_ld, (hs0_0 t).read_unread, (hs0_1 t).read_unread, (hs0_2 t).read_unread, (hs0_3 t).read_unread,
    (hs0_4 t).read_unread, (hs0_7 t).read_unread, View.ld_unit_zero (S := S512x1024) hz, View.ld_unit_zero (S := S1x1024) hz, View.ld_unit_zero (S := S1x1) hz]
  generalize iblk m c 0 t = x0, iblk m c 1 t = x1, iblk m c 2 t = x2, iblk m c 3 t = x3, iblk m c 4 t = x4
  unfold_payloads
  pointwise [dot_S512x704_S704x1024_S512x1024_1_0_0_1_n_n]
  rfl

end Cert.LossIdeal.Value

end
-- ==== Proof.Loss.Kernel.lean ====
/-
  The last FFN product with the loss: the three results as functions of the arguments. A block is a part of the array the
  host prepared, the host's slabs are parts of the arguments, the sixteen row blocks make up the first result, and the
  loss and the gain's gradient end as sums over all rows.
-/
module

public import proofs.«01_k».proof.Proof.Loss.Points
public import proofs.«01_k».proof.Proof.Slab

@[expose] public section

noncomputable section

open Idealize.ShloMosaic Idealize.ShloMosaic.TcCoe Idealize.SL.Sem
open Idealize.ShloMosaic.Pipeline (Dat)

namespace Cert.LossIdeal.Value
open Cert.LossIdeal Cert.LossIdeal.Gen

variable (m : (ℓ : Loc nD τ sig) → Buf (Elt Ideal) ℓ)

/-- The row the norm is taken of: the residual row and the product with the second layer's weights. -/
def hrow (a0 : FVec Ideal S8192x2816 .f32) (a1 : FVec Ideal S2x2816x1024 .f32) (a2 : FVec Ideal S8192x1024 .f32) (R : Fin 8192) (k : Fin 1024) : EReal :=
  a2 (ix2 R k) + ∑ n : Fin 2816, a0 (ix2 R n) * a1 (ix3 1 n k)

/-! ## What the host prepares -/

theorem v2 (c : Dev nD) (a : Fin 4) (R : Fin 8192) (x : Fin 704) :
    V m c main_v2 (ix3 a R x) = m ((c : Thread nD τ).loc main_arg0) (ix2 R ⟨a.val * 704 + x.val, by omega⟩) := by
  have e : V m c main_v2 = truncf (F := Ideal) .bf16 (transpose S4x8192x704 [1, 0, 2] (shapeCast S8192x4x704 (m ((c : Thread nD τ).loc main_arg0))
      shapeCasts_S8192x2816_S8192x4x704) transposes_S8192x4x704_S4x8192x704_1_0_2) bitsLt_bf16_f32 := by
    unfold V
    after_results_simp
    rfl
  rw [e]
  pointwise

theorem v5 (c : Dev nD) (a : Fin 4) (l : Fin 2) (x : Fin 704) (j : Fin 1024) :
    V m c main_v5 (ix4 a l x j) = m ((c : Thread nD τ).loc main_arg1) (ix3 l ⟨a.val * 704 + x.val, by omega⟩ j) := by
  have e : V m c main_v5 = truncf (F := Ideal) .bf16 (transpose S4x2x704x1024 [1, 0, 2, 3] (shapeCast S2x4x704x1024 (m ((c : Thread nD τ).loc main_arg1))
      shapeCasts_S2x2816x1024_S2x4x704x1024) transposes_S2x4x704x1024_S4x2x704x1024_1_0_2_3) bitsLt_bf16_f32 := by
    unfold V
    after_results_simp
    rfl
  rw [e]
  generalize hz : shapeCast S2x4x704x1024 (m ((c : Thread nD τ).loc main_arg1)) shapeCasts_S2x2816x1024_S2x4x704x1024 = z
  have hz' := fun l a x j => (congrFun hz (ix4 l a x j)).symm.trans (Slab.split _ _ l a x j)
  pointwise [hz']

theorem v6 (c : Dev nD) (j : Fin 1024) :
    V m c main_v6 (ix2 0 j) = m ((c : Thread nD τ).loc main_arg3) (ix1 j) := by
  have e : V m c main_v6 = shapeCast S1x1024 (m ((c : Thread nD τ).loc main_arg3)) shapeCasts_S1024_S1x1024 := by
    unfold V
    after_results_simp
    rfl
  rw [e]
  exact ValueIdx.shapeCast_a_1a_apply _ _ 0 j

/-! ## The blocks a point sees -/

theorem index0 : ∀ t : Fin grid0.N, win0_0.index t = ![0, t.val, 0] := by decide +kernel
theorem index1 : ∀ t : Fin grid0.N, win0_1.index t = ![0, 1, 0, 0] := by decide +kernel
theorem index2 : ∀ t : Fin grid0.N, win0_2.index t = ![t.val, 0] := by decide +kernel
theorem index3 : ∀ t : Fin grid0.N, win0_3.index t = ![0, 0] := by decide +kernel
theorem index4 : ∀ t : Fin grid0.N, win0_4.index t = ![t.val, 0] := by decide +kernel
theorem index5 : ∀ t : Fin grid0.N, win0_5.index t = ![t.val, 0] := by decide +kernel

/-- Row `r` of point `t`'s block, among all rows. -/
def at_ (t : Fin cfg0.N) (r : Fin 512) : Fin 8192 := ⟨t.val * 512 + r.val, by have := t.isLt; have : cfg0.N = 16 := N_0; omega⟩

theorem blk0 (c : Dev nD) (t : Fin cfg0.N) (a : Fin 4) (r : Fin 512) (x : Fin 704) :
    (iblk m c 0 t : Vec Ideal S4x512x704 .bf16) (ix3 a r x) = V m c main_v2 (ix3 a (at_ t r) x) := by
  unfold iblk
  rw [View.read_apply]
  show V m c main_v2 _ = _
  congr 1
  funext a'
  apply Fin.ext
  have hi := index0 t
  match a' with
  | ⟨0, _⟩ => show win0_0.index t 0 * 4 + 1 * a.val = a.val; rw [hi]; simp
  | ⟨1, _⟩ => show win0_0.index t 1 * 512 + 1 * r.val = t.val * 512 + r.val; rw [hi]; simp
  | ⟨2, _⟩ => show win0_0.index t 2 * 704 + 1 * x.val = x.val; rw [hi]; simp

theorem blk1 (c : Dev nD) (t : Fin cfg0.N) (a : Fin 4) (x : Fin 704) (j : Fin 1024) :
    (iblk m c 1 t : Vec Ideal S4x1x704x1024 .bf16) (ix4 a 0 x j) = V m c main_v5 (ix4 a 1 x j) := by
  unfold iblk
  rw [View.read_apply]
  show V m c main_v5 _ = _
  congr 1
  funext a'
  apply Fin.ext
  have hi := index1 t
  match a' with
  | ⟨0, _⟩ => show win0_1.index t 0 * 4 + 1 * a.val = a.val; rw [hi]; simp
  | ⟨1, _⟩ => show win0_1.index t 1 * 1 + 1 * 0 = 1; rw [hi]; simp
  | ⟨2, _⟩ => show win0_1.index t 2 * 704 + 1 * x.val = x.val; rw [hi]; simp
  | ⟨3, _⟩ => show win0_1.index t 3 * 1024 + 1 * j.val = j.val; rw [hi]; simp

theorem blk2 (c : Dev nD) (t : Fin cfg0.N) (r : Fin 512) (j : Fin 1024) :
    (iblk m c 2 t : Vec Ideal S512x1024 .f32) (ix2 r j) = V m c main_arg2 (ix2 (at_ t r) j) := by
  unfold iblk
  rw [View.read_apply]
  show V m c main_arg2 _ = _
  congr 1
  funext a'
  apply Fin.ext
  have hi := index2 t
  match a' with
  | ⟨0, _⟩ => show win0_2.index t 0 * 512 + 1 * r.val = t.val * 512 + r.val; rw [hi]; simp
  | ⟨1, _⟩ => show win0_2.index t 1 * 1024 + 1 * j.val = j.val; rw [hi]; simp

theorem blk3 (c : Dev nD) (t : Fin cfg0.N) (j : Fin 1024) :
    (iblk m c 3 t : Vec Ideal S1x1024 .f32) (ix2 0 j) = V m c main_v6 (ix2 0 j) := by
  unfold iblk
  rw [View.read_apply]
  show V m c main_v6 _ = _
  congr 1
  funext a'
  apply Fin.ext
  have hi := index3 t
  match a' with
  | ⟨0, _⟩ => show win0_3.index t 0 * 1 + 1 * 0 = 0; rw [hi]; simp
  | ⟨1, _⟩ => show win0_3.index t 1 * 1024 + 1 * j.val = j.val; rw [hi]; simp

theorem blk4 (c : Dev nD) (t : Fin cfg0.N) (r : Fin 512) (j : Fin 1024) :
    (iblk m c 4 t : Vec Ideal S512x1024 .f32) (ix2 r j) = V m c main_arg4 (ix2 (at_ t r) j) := by
  unfold iblk
  rw [View.read_apply]
  show V m c main_arg4 _ = _
  congr 1
  funext a'
  apply Fin.ext
  have hi := index4 t
  match a' with
  | ⟨0, _⟩ => show win0_4.index t 0 * 512 + 1 * r.val = t.val * 512 + r.val; rw [hi]; simp
  | ⟨1, _⟩ => show win0_4.index t 1 * 1024 + 1 * j.val = j.val; rw [hi]; simp

theorem row_eq (c : Dev nD) (t : Fin cfg0.N) (r : Fin 512) :
    row m c t r = hrow (m ((c : Thread nD τ).loc main_arg0)) (m ((c : Thread nD τ).loc main_arg1)) (m ((c : Thread nD τ).loc main_arg2)) (at_ t r) := by
  funext j
  unfold row hh hrow
  have e0 := fun a x => (blk0 m c t a r x).trans (v2 m c a (at_ t r) x)
  have e1 := fun a x => (blk1 m c t a x j).trans (v5 m c a 1 x j)
  have e2 := (blk2 m c t r j).trans (congrFun (V_main_arg2 m c) _)
  generalize (iblk m c 0 t : Vec Ideal S4x512x704 .bf16) = x0 at e0 ⊢
  generalize (iblk m c 1 t : Vec Ideal S4x1x704x1024 .bf16) = x1 at e1 ⊢
  generalize (iblk m c 2 t : Vec Ideal S512x1024 .f32) = x2 at e2 ⊢
  simp only [e0, e1, e2]
  rw [Slab.sum_slabs, ← add_assoc, ← add_assoc, ← add_assoc]
  rfl

theorem gains_eq (c : Dev nD) (t : Fin cfg0.N) : gains m c t = fun j => m ((c : Thread nD τ).loc main_arg3) (ix1 j) := by
  funext j
  unfold gains
  rw [blk3, v6]

theorem goal_eq (c : Dev nD) (t : Fin cfg0.N) (r : Fin 512) : goal m c t r = fun j => m ((c : Thread nD τ).loc main_arg4) (ix2 (at_ t r) j) := by
  funext j
  unfold goal
  rw [blk4, V_main_arg4]

/-! ## The results -/

/-- The gradient that arrives at the norm's result, of row `R`. -/
def arriving (c : Dev nD) (R : Fin 8192) : Fin 1024 → EReal :=
  arrives (hrow (m ((c : Thread nD τ).loc main_arg0)) (m ((c : Thread nD τ).loc main_arg1)) (m ((c : Thread nD τ).loc main_arg2)) R) (fun j => m ((c : Thread nD τ).loc main_arg3) (ix1 j))
    (fun j => m ((c : Thread nD τ).loc main_arg4) (ix2 R j))

/-- The first result's row `R`. -/
def outRow (c : Dev nD) (R : Fin 8192) (j : Fin 1024) : EReal :=
  Norm.out (hrow (m ((c : Thread nD τ).loc main_arg0)) (m ((c : Thread nD τ).loc main_arg1)) (m ((c : Thread nD τ).loc main_arg2)) R) (arriving m c R) (fun j => m ((c : Thread nD τ).loc main_arg3) (ix1 j)) (fun _ => 0) j

/-- Row `R`'s mean square error. -/
def sqRow (c : Dev nD) (R : Fin 8192) : EReal :=
  sqErr (hrow (m ((c : Thread nD τ).loc main_arg0)) (m ((c : Thread nD τ).loc main_arg1)) (m ((c : Thread nD τ).loc main_arg2)) R) (fun j => m ((c : Thread nD τ).loc main_arg3) (ix1 j))
    (fun j => m ((c : Thread nD τ).loc main_arg4) (ix2 R j))

/-- Row `R`'s part of the gain's gradient. -/
def gainRow (c : Dev nD) (R : Fin 8192) (j : Fin 1024) : EReal :=
  Norm.gain (hrow (m ((c : Thread nD τ).loc main_arg0)) (m ((c : Thread nD τ).loc main_arg1)) (m ((c : Thread nD τ).loc main_arg2)) R) (arriving m c R) j

theorem outsAt_1 (c : Dev nD) (t : Fin cfg0.N) (r : Fin 512) (j : Fin 1024) : (outsAt0 m c t.val t.isLt).1 (ix2 r j) = outRow m c (at_ t r) j := by
  unfold outRow arriving
  rw [← row_eq, ← gains_eq m c t, ← goal_eq]
  by_cases h0 : t.val % 16 = 0
  · exact out_A m c t h0 r j
  · exact out_B m c t h0 r j

theorem sqRow_eq (c : Dev nD) (t : Fin cfg0.N) (r : Fin 512) : sqErr (row m c t r) (gains m c t) (goal m c t r) = sqRow m c (at_ t r) := by
  rw [row_eq, gains_eq, goal_eq]; rfl

theorem gainRow_eq (c : Dev nD) (t : Fin cfg0.N) (r : Fin 512) (j : Fin 1024) :
    Norm.gain (row m c t r) (arrives (row m c t r) (gains m c t) (goal m c t r)) j = gainRow m c (at_ t r) j := by
  rw [row_eq, gains_eq, goal_eq]; rfl

theorem bits_half : Ideal.ofBits .f32 1056964608#32 = ((1 / 2 : ℝ) : EReal) := by
  simp [Ideal.ofBits, Ideal.ieee]; rw [← EReal.coe_mul]; norm_num

/-- A half of a sum is the sum of the halves, of all extended real numbers. -/
theorem half_sum {ι : Type*} (s : Finset ι) (f : ι → EReal) :
    Ideal.ofBits .f32 1056964608#32 * ∑ i ∈ s, f i = ∑ i ∈ s, Ideal.ofBits .f32 1056964608#32 * f i := by
  classical
  induction s using Finset.induction_on with
  | empty => simp
  | insert a s h ih =>
    rw [Finset.sum_insert h, Finset.sum_insert h, ← ih]
    exact EReal.left_distrib_of_nonneg_of_ne_top (by rw [bits_half]; exact_mod_cast (by norm_num : (0 : ℝ) ≤ 1 / 2))
      (by rw [bits_half]; exact EReal.coe_ne_top _) _ _

/-- The accumulated loss after the last point. -/
theorem loss_last (c : Dev nD) : (outsAt0 m c 15 (by decide)).2.1 (ix2 0 0) = Ideal.ofBits .f32 1056964608#32 * ∑ R, sqRow m c R := by
  rw [half_sum]
  refine Lift.sum_rows (T := 8192) (B := 512) (K := 15) rfl (fun R => Ideal.ofBits .f32 1056964608#32 * sqRow m c R) (fun n h => (outsAt0 m c n h).2.1 (ix2 0 0)) ?_ ?_
  · intro h
    refine (loss_A m c ⟨0, h⟩ rfl).trans ((half_sum _ _).trans (Finset.sum_congr rfl fun r _ => ?_))
    rw [sqRow_eq]; rfl
  · intro n h
    refine (loss_B m c ⟨n + 1, h⟩ (by dsimp only; omega)).trans (congrArg _ ((half_sum _ _).trans (Finset.sum_congr rfl fun r _ => ?_)))
    rw [sqRow_eq]; rfl

/-- The accumulated gain gradient after the last point. -/
theorem gain_last (c : Dev nD) (j : Fin 1024) : (outsAt0 m c 15 (by decide)).2.2 (ix2 0 j) = ∑ R, gainRow m c R j := by
  refine Lift.sum_rows (T := 8192) (B := 512) (K := 15) rfl (fun R => gainRow m c R j) (fun n h => (outsAt0 m c n h).2.2 (ix2 0 j)) ?_ ?_
  · intro h
    exact (gain_A m c ⟨0, h⟩ rfl j).trans (Finset.sum_congr rfl fun r _ => gainRow_eq m c ⟨0, h⟩ r j)
  · intro n h
    exact (gain_B m c ⟨n + 1, h⟩ (by dsimp only; omega) j).trans (congrArg _ (Finset.sum_congr rfl fun r _ => gainRow_eq m c ⟨n + 1, h⟩ r j))

theorem final5 (c : Dev nD) (R : Fin 8192) (j : Fin 1024) : (dats m 0 c).arrAt 5 cfg0.N (ix2 R j) = outRow m c R j := by
  have hN : cfg0.N = 16 := N_0
  have hR := R.isLt
  have ht : R.val / 512 < cfg0.N := by omega
  have h := congrFun (blocks5 m c ⟨R.val / 512, ht⟩ (flush0_5 _)) (ix2 ⟨R.val % 512, by omega⟩ j)
  rw [View.read_apply, flushed5] at h
  have e := outsAt_1 m c ⟨R.val / 512, ht⟩ ⟨R.val % 512, by omega⟩ j
  rw [show at_ ⟨R.val / 512, ht⟩ ⟨R.val % 512, by omega⟩ = R from Fin.ext (by unfold at_; dsimp only; omega)] at e
  rw [← e]
  refine Eq.trans (congrArg _ ?_) h
  funext a'
  apply Fin.ext
  have hi := index5 ⟨R.val / 512, ht⟩
  match a' with
  | ⟨0, _⟩ => show R.val = win0_5.index ⟨R.val / 512, _⟩ 0 * 512 + 1 * (R.val % 512); rw [hi]; simp; omega
  | ⟨1, _⟩ => show j.val = win0_5.index ⟨R.val / 512, _⟩ 1 * 1024 + 1 * j.val; rw [hi]; simp

/-- The last point. -/
abbrev last : Fin cfg0.N := ⟨15, by decide⟩

/-- What the second result ends as. -/
def lossSum (c : Dev nD) : Buf (Elt Ideal) ((c : Thread nD τ).loc main_v7_1) := (outsAt0 m c 15 (by decide)).2.1

/-- What the third result ends as. -/
def gainSum (c : Dev nD) : Buf (Elt Ideal) ((c : Thread nD τ).loc main_v7_2) := (outsAt0 m c 15 (by decide)).2.2

theorem final6 (c : Dev nD) : (dats m 0 c).arrAt 6 cfg0.N = lossSum m c := by
  have hN : cfg0.N = 16 := N_0
  have hz' : (fun a => win0_6.index last a * main_v7_1.ty.shape.size a) = fun _ => 0 := funext fun a => by fin_cases a <;> decide
  refine (dats m 0 c).arrAt_eq_of_cover 6 (lossSum m c) (fun t hf => ?_) fun i => ⟨last, (flush0_6 _).mpr (by decide), ?_⟩
  · obtain rfl : t = last := Fin.ext (by have := (flush0_6 t).mp hf; have := t.isLt; show t.val = 15; omega)
    rw [flushed6]
    exact (Memref.read_access_unit_zero (Elt Ideal) main_v7_1 hz' (fun a => by rw [congrFun hz' a]; simp) (lossSum m c)).symm
  · show i ∈ ((View.whole main_v7_1).slice (win0_6.rect last)).set
    rw [View.set_slice_whole, Rect.mem_set_unit]
    intro a
    have h0 : (i 0 : Nat) < 1 := (i 0).isLt
    have h1 : (i 1 : Nat) < 1 := (i 1).isLt
    match a with
    | ⟨0, _⟩ => show win0_6.index _ 0 * win0_6.size 0 ≤ (i 0 : Nat) ∧ (i 0 : Nat) < win0_6.index _ 0 * win0_6.size 0 + win0_6.xsize (grid0.coords _) 0
                rw [show win0_6.index last 0 * win0_6.size 0 = 0 from by decide +kernel, show win0_6.xsize (grid0.coords last) 0 = 1 from by decide +kernel]; omega
    | ⟨1, _⟩ => show win0_6.index _ 1 * win0_6.size 1 ≤ (i 1 : Nat) ∧ (i 1 : Nat) < win0_6.index _ 1 * win0_6.size 1 + win0_6.xsize (grid0.coords _) 1
                rw [show win0_6.index last 1 * win0_6.size 1 = 0 from by decide +kernel, show win0_6.xsize (grid0.coords last) 1 = 1 from by decide +kernel]; omega

theorem final7 (c : Dev nD) : (dats m 0 c).arrAt 7 cfg0.N = gainSum m c := by
  have hN : cfg0.N = 16 := N_0
  have hz' : (fun a => win0_7.index last a * main_v7_2.ty.shape.size a) = fun _ => 0 := funext fun a => by fin_cases a <;> decide
  refine (dats m 0 c).arrAt_eq_of_cover 7 (gainSum m c) (fun t hf => ?_) fun i => ⟨last, (flush0_7 _).mpr (by decide), ?_⟩
  · obtain rfl : t = last := Fin.ext (by have := (flush0_7 t).mp hf; have := t.isLt; show t.val = 15; omega)
    rw [flushed7]
    exact (Memref.read_access_unit_zero (Elt Ideal) main_v7_2 hz' (fun a => by rw [congrFun hz' a]; simp) (gainSum m c)).symm
  · show i ∈ ((View.whole main_v7_2).slice (win0_7.rect last)).set
    rw [View.set_slice_whole, Rect.mem_set_unit]
    intro a
    have h0 : (i 0 : Nat) < 1 := (i 0).isLt
    have h1 : (i 1 : Nat) < 1024 := (i 1).isLt
    match a with
    | ⟨0, _⟩ => show win0_7.index _ 0 * win0_7.size 0 ≤ (i 0 : Nat) ∧ (i 0 : Nat) < win0_7.index _ 0 * win0_7.size 0 + win0_7.xsize (grid0.coords _) 0
                rw [show win0_7.index last 0 * win0_7.size 0 = 0 from by decide +kernel, show win0_7.xsize (grid0.coords last) 0 = 1 from by decide +kernel]; omega
    | ⟨1, _⟩ => show win0_7.index _ 1 * win0_7.size 1 ≤ (i 1 : Nat) ∧ (i 1 : Nat) < win0_7.index _ 1 * win0_7.size 1 + win0_7.xsize (grid0.coords _) 1
                rw [show win0_7.index last 1 * win0_7.size 1 = 0 from by decide +kernel, show win0_7.xsize (grid0.coords last) 1 = 1024 from by decide +kernel]; omega

end Cert.LossIdeal.Value

end
-- ==== Proof.Loss.Reference.lean ====
/-
  The loss by its definition and its gradients by the chain rule: the reference's results, read at an index.
-/
module

public import proofs.«01_k».proof.Proof.Loss.Kernel
public import proofs.«01_k».proof.Proof.Gen.LossRefIdeal.Read

@[expose] public section

noncomputable section

open Idealize.ShloMosaic Idealize.ShloMosaic.TcCoe Idealize.SL.Sem

namespace Cert.LossRefIdeal.Read
open Cert.LossRefIdeal Cert.LossRefIdeal.Gen
open Cert.LossIdeal.Value (hrow err arrives sqErr)

variable (x0 : FVec Ideal S8192x2816 .f32) (x1 : FVec Ideal S2x2816x1024 .f32) (x2 : FVec Ideal S8192x1024 .f32)
  (x3 : FVec Ideal S1024 .f32) (x4 : FVec Ideal S8192x1024 .f32)

theorem at3 (R : Fin 8192) (j : Fin 1024) : val_main_v3 (F := Ideal) x0 x1 x2 (ix2 R j) = hrow x0 x1 x2 R j := by
  unfold val_main_v3 val_main_v2 val_main_v1 val_main_v0 hrow
  pointwise [dot_S8192x2816_S2816x1024_S8192x1024_1_0_0_1_n_n]

theorem at10 (R : Fin 8192) (z : Fin 1) : val_main_v10 (F := Ideal) x0 x1 x2 (ix2 R z)
    = Ideal.div (∑ k, hrow x0 x1 x2 R k * hrow x0 x1 x2 R k) (Ideal.ofBits .f32 1149239296#32) + Ideal.ofBits .f32 925353388#32 := by
  unfold val_main_v10 val_main_v9 val_main_v8 val_main_v7 val_main_v6 val_main_v5 val_main_v4 val_main_cst val_main_cst_0 val_main_cst_1
  pointwise [at3]

theorem at11 (R : Fin 8192) (z : Fin 1) : val_main_v11 (F := Ideal) x0 x1 x2 (ix2 R z) = Norm.rstd (hrow x0 x1 x2 R) := by
  unfold val_main_v11 Norm.rstd
  pointwise [at10]

theorem at20 (R : Fin 8192) (j : Fin 1024) : val_main_v20 (F := Ideal) x0 x1 x2 x3 x4 (ix2 R j) = err (hrow x0 x1 x2 R) (fun j => x3 (ix1 j)) (fun j => x4 (ix2 R j)) j := by
  unfold val_main_v20 val_main_v19 val_main_v18 val_main_v17 val_main_v16 val_main_v15 err
  pointwise [at3, at11]

theorem bits_two : Ideal.ofBits .f32 1073741824#32 = ((2 : ℝ) : EReal) := by
  simp [Ideal.ofBits, Ideal.ieee]; rw [← EReal.coe_mul]; norm_num

theorem bits_inv : Ideal.ofBits .f32 981467136#32 = ((1 / 1024 : ℝ) : EReal) := by
  simp [Ideal.ofBits, Ideal.ieee]; rw [← EReal.coe_mul]; norm_num

/-- The square's derivative times the two averages' factors is the kernel's factor. -/
theorem factor (e : EReal) : Ideal.div (Ideal.ofBits .f32 1056964608#32) (Ideal.ofBits .f32 1149239296#32)
    * (Ideal.ofBits .f32 1073741824#32 * e) = e * Ideal.ofBits .f32 981467136#32 := by
  rw [Cert.LossIdeal.Value.bits_half, bits_two, bits_inv, Lift.bits_1024, Lift.div_coe (by norm_num), ← mul_assoc, ← EReal.coe_mul, mul_comm]
  norm_num

theorem at34 (R : Fin 8192) (j : Fin 1024) : val_main_v34 (F := Ideal) x0 x1 x2 x3 x4 (ix2 R j) = arrives (hrow x0 x1 x2 R) (fun j => x3 (ix1 j)) (fun j => x4 (ix2 R j)) j := by
  unfold val_main_v34 val_main_v33 val_main_v32 val_main_v31 val_main_v30 val_main_v29 val_main_v23 val_main_v22 arrives
    val_main_cst_8 val_main_cst_9 val_main_cst_10 val_main_cst_3
  pointwise [at20]
  exact factor _

theorem at39 (R : Fin 8192) (j : Fin 1024) : val_main_v39 (F := Ideal) x0 x1 x2 x3 x4 (ix2 R j) = arrives (hrow x0 x1 x2 R) (fun j => x3 (ix1 j)) (fun j => x4 (ix2 R j)) j * x3 (ix1 j) := by
  unfold val_main_v39 val_main_v38 val_main_v17
  pointwise [at34]

theorem at50 (R : Fin 8192) (j : Fin 1024) : val_main_v50 (F := Ideal) x0 x1 x2 x3 x4 (ix2 R j)
    = Norm.chain (hrow x0 x1 x2 R) (arrives (hrow x0 x1 x2 R) (fun j => x3 (ix1 j)) (fun j => x4 (ix2 R j))) (fun j => x3 (ix1 j)) := by
  unfold val_main_v50 val_main_v49 val_main_v48 val_main_v47 val_main_v46 val_main_v43 val_main_v42 val_main_v41 val_main_v14 val_main_v13 val_main_v12
    Norm.chain val_main_cst_2 val_main_cst_13 val_main_cst_14 val_main_cst_15
  pointwise [at3, at39, at10, at11]
  exact Fintype.sum_unique _

theorem at54 (R : Fin 8192) (j : Fin 1024) : val_main_v54 (F := Ideal) x0 x1 x2 x3 x4 (ix2 R j)
    = Norm.vjp (hrow x0 x1 x2 R) (arrives (hrow x0 x1 x2 R) (fun j => x3 (ix1 j)) (fun j => x4 (ix2 R j))) (fun j => x3 (ix1 j)) (fun _ => 0) j := by
  have e44 : val_main_v44 (F := Ideal) x0 x1 x2 (ix2 R j) = Norm.rstd (hrow x0 x1 x2 R) := by
    unfold val_main_v44
    pointwise [at11]
  rw [val_main_v54_apply, val_main_v53_apply, val_main_v52_apply, val_main_v51_apply, val_main_v45_apply, e44, at3, at39, at50]
  unfold Norm.vjp
  rw [zero_add]
  rfl

theorem at56 (z : Fin 1) (j : Fin 1024) : val_main_v56 (F := Ideal) x0 x1 x2 x3 x4 (ix2 z j)
    = ∑ R, Norm.gain (hrow x0 x1 x2 R) (arrives (hrow x0 x1 x2 R) (fun j => x3 (ix1 j)) (fun j => x4 (ix2 R j))) j := by
  unfold val_main_v56 val_main_v40 val_main_v37 val_main_v36 val_main_v35 val_main_v16 val_main_v15 Norm.gain val_main_cst_11 val_main_cst_12
  pointwise [at3, at34, at11]
  refine (Fintype.sum_unique _).trans ?_
  exact Finset.sum_congr rfl fun R _ => mul_comm _ _

theorem at26 (R : Fin 8192) : val_main_v26 (F := Ideal) x0 x1 x2 x3 x4 (ix1 R) = sqErr (hrow x0 x1 x2 R) (fun j => x3 (ix1 j)) (fun j => x4 (ix2 R j)) := by
  unfold val_main_v26 val_main_v25 val_main_v24 val_main_v21 sqErr val_main_cst_4 val_main_cst_5
  pointwise [at20]

theorem at28 : val_main_v28 (F := Ideal) x0 x1 x2 x3 x4 ix0 = Ideal.ofBits .f32 1056964608#32 * ∑ R, sqErr (hrow x0 x1 x2 R) (fun j => x3 (ix1 j)) (fun j => x4 (ix2 R j)) := by
  unfold val_main_v28 val_main_v27 val_main_cst_6 val_main_cst_7
  pointwise [at26]

theorem at55 (z z' : Fin 1) : val_main_v55 (F := Ideal) x0 x1 x2 x3 x4 (ix2 z z')
    = Ideal.ofBits .f32 1056964608#32 * ∑ R, sqErr (hrow x0 x1 x2 R) (fun j => x3 (ix1 j)) (fun j => x4 (ix2 R j)) := by
  unfold val_main_v55
  pointwise [at28]

end Cert.LossRefIdeal.Read

end
-- ==== Proof.Loss.Value.lean ====
/-
  The last FFN product with the loss: both programs end with the same three results.
-/
module

public import proofs.«01_k».proof.Defs
public import proofs.«01_k».proof.Proof.Loss.Reference
public import proofs.«01_k».proof.Proof.Gen.Pre_finite_loss

@[expose] public section

noncomputable section

open Idealize.ShloMosaic Idealize.ShloMosaic.TcCoe Idealize.SL.Sem

namespace Cert.LossIdeal.Value
open Cert.LossIdeal Cert.LossIdeal.Gen
open Cert.LossRefIdeal.Read

variable (m : (ℓ : Loc nD τ sig) → Buf (Elt Ideal) ℓ)

/-- The error of a finite row is finite, and so is the gradient that arrives at the norm. -/
theorem arrives_real (X G Y : Fin 1024 → ℝ) :
    ∃ D : Fin 1024 → ℝ, arrives (fun k => (X k : EReal)) (fun k => (G k : EReal)) (fun k => (Y k : EReal)) = fun k => (D k : EReal) := by
  refine ⟨fun k => (X k * (Real.sqrt ((∑ k, X k * X k) / 1024 + Lift.eps))⁻¹ * G k - Y k) * (1 / 1024), ?_⟩
  funext k
  simp only [arrives, err, Norm.rstd, bits_inv, Lift.bits_1024, Lift.bits_eps, ← EReal.coe_mul, Lift.coe_sum, Lift.div_coe (show (1024 : ℝ) ≠ 0 by norm_num),
    ← EReal.coe_add, Lift.rsqrt_coe (Norm.meanSq_pos X), ← EReal.coe_sub]

/-- On finite arguments the chain rule's row is the kernel's. -/
theorem row_agrees (hpre : Cert.Pre_LossIdeal_finite_loss m) (c : Dev nD) (R : Fin 8192) (j : Fin 1024) :
    Norm.vjp (hrow (m ((c : Thread nD τ).loc main_arg0)) (m ((c : Thread nD τ).loc main_arg1)) (m ((c : Thread nD τ).loc main_arg2)) R) (arriving m c R) (fun j => m ((c : Thread nD τ).loc main_arg3) (ix1 j)) (fun _ => 0) j = outRow m c R j := by
  unfold outRow arriving
  obtain ⟨h0, h1, h2, h3, h4⟩ := hpre c
  obtain ⟨X0, e0⟩ := Lift.exists_real h0
  obtain ⟨X1, e1⟩ := Lift.exists_real h1
  obtain ⟨X2, e2⟩ := Lift.exists_real h2
  obtain ⟨X3, e3⟩ := Lift.exists_real h3
  obtain ⟨X4, e4⟩ := Lift.exists_real h4
  have eh : (hrow (m ((c : Thread nD τ).loc main_arg0)) (m ((c : Thread nD τ).loc main_arg1)) (m ((c : Thread nD τ).loc main_arg2)) R) = fun k => ((X2 (ix2 R k) + ∑ n : Fin 2816, X0 (ix2 R n) * X1 (ix3 1 n k) : ℝ) : EReal) := by
    funext k
    unfold hrow
    rw [e0, e1, e2]
    simp only [← EReal.coe_mul, Lift.coe_sum, ← EReal.coe_add]
  rw [eh, e3, e4]
  exact Norm.vjp_eq_out' ⟨_, rfl⟩ (arrives_real _ (fun j => X3 (ix1 j)) (fun j => X4 (ix2 R j))) ⟨fun j => X3 (ix1 j), rfl⟩ _ j

theorem value : Cert.algebraic_LossIdeal_LossRefIdeal_pre_finite_loss := by
  intro m g m' g' hpre harg
  refine ⟨fun c => (dats m 0 c).arrAt 5 cfg0.N, fun c => lossSum m c, fun c => gainSum m c, ?_, ?_⟩
  · refine (θ_run defs _ _).mono (fun r h c => ?_) (run_blocks m g)
    obtain ⟨h0, h1, h2, hr⟩ := h c
    exact ⟨h0, h1.trans (final6 m c), h2.trans (final7 m c), hr⟩
  · refine (θ_run Cert.LossRefIdeal.defs _ _).mono (fun r h c => ?_) (Cert.LossRefIdeal.Value.run m' g')
    obtain ⟨h0, h1, h2, hr⟩ := h c
    obtain ⟨a0, a1, a2, a3, a4⟩ := harg c
    refine ⟨h0.trans ?_, h1.trans ?_, h2.trans ?_, hr⟩
    · refine (val_main_v54_eq m' c).trans ?_
      rw [a0, a1, a2, a3, a4]
      funext i
      obtain ⟨R, j, rfl⟩ : ∃ R j, i = ix2 R j := ⟨i 0, i 1, eq_ix2 i⟩
      exact (at54 _ _ _ _ _ R j).trans ((row_agrees m hpre c R j).trans (final5 m c R j).symm)
    · refine (val_main_v55_eq _ _ _ _ _).trans ?_
      rw [a0, a1, a2, a3, a4]
      funext i
      obtain ⟨z, z', rfl⟩ : ∃ z z', i = ix2 z z' := ⟨i 0, i 1, eq_ix2 i⟩
      obtain rfl : z = 0 := Subsingleton.elim _ _
      obtain rfl : z' = 0 := Subsingleton.elim _ _
      exact (at55 _ _ _ _ _ 0 0).trans (loss_last m c).symm
    · refine (val_main_v56_eq _ _ _ _ _).trans ?_
      rw [a0, a1, a2, a3, a4]
      funext i
      obtain ⟨z, j, rfl⟩ : ∃ z j, i = ix2 z j := ⟨i 0, i 1, eq_ix2 i⟩
      obtain rfl : z = 0 := Subsingleton.elim _ _
      exact (at56 _ _ _ _ _ 0 j).trans (gain_last m c j).symm

/-- The reference leaves its arguments and its counters as they were. -/
theorem frame_ref : Cert.quiescent_LossRefIdeal := fun m g _ =>
  (θ_run Cert.LossRefIdeal.defs _ _).mono (fun r h => ⟨fun c => (h c).2.2.2, sem_eq_zero_of_no_sems (by decide) r.2⟩)
    (Cert.LossRefIdeal.Value.run (F := Ideal) m g)

end Cert.LossIdeal.Value

end
-- ==== Proof.Fwd.Scores.lean ====
/-
  The scores of one block of queries: the kernel keeps its sixteen heads one below the other, the heads of a group's pairs
  apart, and multiplies whole pairs of heads with keys that are zero in the lanes of the other head.
-/
module

public import proofs.«01_k».proof.Proof.Slab
public import proofs.«01_k».proof.Proof.Gen.FwdIdeal.Value
public import Idealize.ShloMosaic.Lib.Pipeline.ReadBack
public import Idealize.ShloMosaic.Lib.Pipeline.ValueKit.Tiles

@[expose] public section

noncomputable section

open Idealize.ShloMosaic Idealize.ShloMosaic.TcCoe Idealize.SL.Sem

namespace Cert.FwdIdeal.Value
open Cert.FwdIdeal Cert.FwdIdeal.Gen

/-- The row of the stacked heads that holds query `r` of the `i`-th head. -/
def row (i : Fin 16) (r : Fin 128) : Fin 2048 := ⟨128 * i.val + r.val, by omega⟩

/-- The `i`-th head of the stack: the even heads of a group, then its odd ones. -/
def head (i : Fin 16) : Fin 16 := ⟨8 * (i.val / 8) + 2 * (i.val % 4) + i.val / 4 % 2, by omega⟩

/-- A sum over the lanes of a pair of heads, of which one half is zero. -/
theorem sum_half (par : Fin 2) (f : Fin 128 → EReal) (g : Fin 64 → EReal) (hf : ∀ d : Fin 64, f ⟨64 * par.val + d.val, by omega⟩ = g d)
    (hz : ∀ d : Fin 64, f ⟨64 * (1 - par.val) + d.val, by omega⟩ = 0) : ∑ l, f l = ∑ d, g d := by
  have e : ∑ l, f l = ∑ d : Fin 64, f (Fin.castAdd 64 d) + ∑ d : Fin 64, f (Fin.natAdd 64 d) := Fin.sum_univ_add (a := 64) (b := 64) f
  rw [e]
  fin_cases par
  · rw [Finset.sum_congr rfl fun d _ => (show f (Fin.castAdd 64 d) = g d from (congrArg f (Fin.ext (by simp))).trans (hf d)),
      Finset.sum_eq_zero fun d _ => (show f (Fin.natAdd 64 d) = 0 from (congrArg f (Fin.ext (by simp [add_comm]))).trans (hz d)), add_zero]
  · rw [Finset.sum_eq_zero fun d _ => (show f (Fin.castAdd 64 d) = 0 from (congrArg f (Fin.ext (by simp))).trans (hz d)),
      Finset.sum_congr rfl fun d _ => (show f (Fin.natAdd 64 d) = g d from (congrArg f (Fin.ext (by simp [add_comm]))).trans (hf d)), zero_add]

/-- The product of query `r` of a head with key `c` of its group. -/
def raw (q : Fin 8 → Vec Ideal S128x128 .bf16) (K : Vec Ideal S128x128 .bf16) (i : Fin 16) (r c : Fin 128) : EReal :=
  ∑ d : Fin 64, q ⟨4 * (i.val / 8) + i.val % 4, by omega⟩ (ix2 r ⟨64 * (i.val / 4 % 2) + d.val, by omega⟩) * K (ix2 c ⟨64 * (i.val / 8) + d.val, by omega⟩)

/-- The choice between the two heads of a pair, by the lane. -/
theorem select_upper {α : Type} (x : Fin 128) (a b : α) :
    Scalar.select (IntOp.cmpi .sge (BitVec.ofNat 32 x.val) 64#32) a b = if 64 ≤ x.val then a else b := by
  have e : ∀ x : Fin 128, IntOp.cmpi .sge (BitVec.ofNat 32 x.val) 64#32 = if 64 ≤ x.val then 1#1 else 0#1 := by decide
  rw [e x]
  split <;> rfl

/-- The choice between the two blocks of keys, by key and query. -/
theorem select_after {α : Type} (c r : Fin 128) (a b : α) :
    Scalar.select (IntOp.cmpi .sgt (BitVec.ofNat 32 c.val) (BitVec.ofNat 32 r.val)) a b = if r < c then a else b := by
  have e : ∀ n : Fin 128, (BitVec.ofNat 32 n.val).toInt = n.val := by decide
  have h : IntOp.cmpi .sgt (BitVec.ofNat 32 c.val) (BitVec.ofNat 32 r.val) = if r < c then 1#1 else 0#1 := by
    simp only [IntOp.cmpi, BitVec.slt, e]
    by_cases h : r < c
    · simp [h, Fin.lt_def.mp h]
    · simp [h, Fin.lt_def] at h ⊢
  rw [h]
  split <;> rfl

set_option maxHeartbeats 4000000 in
theorem scores_prev (q : Fin 8 → Vec Ideal S128x128 .bf16) (K : Vec Ideal S128x128 .bf16) (i : Fin 16) (r c : Fin 128) :
    k0_pay21 (F := Ideal) (k0_pay6 (q 0) (q 1) (q 2) (q 3)) (k0_pay7 (q 4) (q 5) (q 6) (q 7)) (k0_pay11 K) (k0_pay12 K) (k0_pay13 K) (k0_pay14 K) (ix2 (row i r) c) = raw q K i r c := by
  unfold row
  unfold_payloads
  pointwise [dot_S512x128_S128x128_S512x128_1_1_0_0_n_n]
  simp only [select_upper]
  unfold raw
  fin_cases i <;> simp (disch := omega) only [dif_pos, dif_neg]
  all_goals first
    | exact sum_half 0 _ _
        (fun d => (if_neg (by show ¬64 ≤ 64 * 0 + d.val; omega)).trans (congrArg₂ (· * ·)
          (congrArg (q _) (congrArg₂ ix2 (Fin.ext (by dsimp only; omega)) (Fin.ext (by simp))))
          (congrArg K (congrArg (ix2 c) (Fin.ext (by simp <;> omega))))))
        (fun d => if_pos (by show 64 ≤ 64 * (1 - 0) + d.val; omega))
    | exact sum_half 1 _ _
        (fun d => (if_pos (by show 64 ≤ 64 * 1 + d.val; omega)).trans (congrArg₂ (· * ·)
          (congrArg (q _) (congrArg₂ ix2 (Fin.ext (by dsimp only; omega)) (Fin.ext (by simp))))
          (congrArg K (congrArg (ix2 c) (Fin.ext (by simp <;> omega))))))
        (fun d => if_neg (by show ¬64 ≤ 64 * (1 - 1) + d.val; omega))

set_option maxHeartbeats 4000000 in
theorem scores_cur (q : Fin 8 → Vec Ideal S128x128 .bf16) (K : Vec Ideal S128x128 .bf16) (i : Fin 16) (r c : Fin 128) :
    concatenate S2048x128 0 [⟨S512x128, k0_pay22 (F := Ideal) (k0_pay6 (q 0) (q 1) (q 2) (q 3)) K⟩, ⟨S512x128, k0_pay23 (k0_pay6 (q 0) (q 1) (q 2) (q 3)) K⟩, ⟨S512x128, k0_pay24 (k0_pay7 (q 4) (q 5) (q 6) (q 7)) K⟩, ⟨S512x128, k0_pay25 (k0_pay7 (q 4) (q 5) (q 6) (q 7)) K⟩] concatenates_S512x128_S512x128_S512x128_S512x128_S2048x128_d0 (ix2 (row i r) c) = raw q K i r c := by
  unfold row
  unfold_payloads
  pointwise [dot_S512x128_S128x128_S512x128_1_1_0_0_n_n]
  simp only [select_upper]
  unfold raw
  fin_cases i <;> simp (disch := omega) only [dif_pos, dif_neg]
  all_goals first
    | exact sum_half 0 _ _
        (fun d => (if_neg (by show ¬64 ≤ 64 * 0 + d.val; omega)).trans (congrArg₂ (· * ·)
          (congrArg (q _) (congrArg₂ ix2 (Fin.ext (by dsimp only; omega)) (Fin.ext (by simp))))
          (congrArg K (congrArg (ix2 c) (Fin.ext (by simp <;> omega))))))
        (fun d => if_pos (by show 64 ≤ 64 * (1 - 0) + d.val; omega))
    | exact sum_half 1 _ _
        (fun d => (if_pos (by show 64 ≤ 64 * 1 + d.val; omega)).trans (congrArg₂ (· * ·)
          (congrArg (q _) (congrArg₂ ix2 (Fin.ext (by dsimp only; omega)) (Fin.ext (by simp))))
          (congrArg K (congrArg (ix2 c) (Fin.ext (by simp <;> omega))))))
        (fun d => if_neg (by show ¬64 ≤ 64 * (1 - 1) + d.val; omega))

/-- A query's scores against its window: key `c` of the block before it if `c` is after the query, of its own block otherwise. -/
def score (b : BitVec 32) (q : Fin 8 → Vec Ideal S128x128 .bf16) (kp kc : Vec Ideal S128x128 .bf16) (i : Fin 16) (r c : Fin 128) : EReal :=
  (if r < c then Scalar.select (IntOp.cmpi .sgt b 0#32) (raw q kp i r c) ⊥ else raw q kc i r c) * Scalar.ofBits (F := Ideal) .f32 0x3E000000#32

/-- The kernel's scores, all heads one below the other. -/
abbrev scores (b : BitVec 32) (q : Fin 8 → Vec Ideal S128x128 .bf16) (kp kc : Vec Ideal S128x128 .bf16) : FVec Ideal S2048x128 .f32 :=
  k0_pay26 b k0_pay5 (k0_pay21 (k0_pay6 (q 0) (q 1) (q 2) (q 3)) (k0_pay7 (q 4) (q 5) (q 6) (q 7)) (k0_pay11 kp) (k0_pay12 kp) (k0_pay13 kp) (k0_pay14 kp))
    (k0_pay22 (k0_pay6 (q 0) (q 1) (q 2) (q 3)) kc) (k0_pay23 (k0_pay6 (q 0) (q 1) (q 2) (q 3)) kc) (k0_pay24 (k0_pay7 (q 4) (q 5) (q 6) (q 7)) kc) (k0_pay25 (k0_pay7 (q 4) (q 5) (q 6) (q 7)) kc)

set_option maxHeartbeats 4000000 in
/-- Whether the window's key `c` of a query is one of the block before. -/
theorem before_row (i : Fin 16) (r c : Fin 128) :
    k0_pay5 (ix2 (row i r) c) = IntOp.cmpi .sgt (BitVec.ofNat 32 c.val) (BitVec.ofNat 32 r.val) := by
  unfold row k0_pay5
  pointwise
  fin_cases i <;> simp (disch := omega) only [dif_pos, dif_neg]
  all_goals exact congrArg (fun n => IntOp.cmpi .sgt (BitVec.ofNat 32 c.val) (BitVec.ofNat 32 n)) (by omega)

theorem select_before {α : Type} (i : Fin 16) (r c : Fin 128) (a b : α) :
    Scalar.select (k0_pay5 (ix2 (row i r) c)) a b = if r < c then a else b := by
  rw [before_row, select_after]

theorem mask_eq : Named.named (F := Ideal) κ "mask" (φ := .f32) 4073321162#32 = (⊥ : EReal) :=
  IdealRules.named_const.ideal_named_scalar κ "mask" _ ⊥ rfl

set_option maxHeartbeats 4000000 in
theorem scores_at (b : BitVec 32) (q : Fin 8 → Vec Ideal S128x128 .bf16) (kp kc : Vec Ideal S128x128 .bf16) (i : Fin 16) (r c : Fin 128) :
    scores b q kp kc (ix2 (row i r) c) = score b q kp kc i r c := by
  have hp := scores_prev q kp i r c
  have hc := scores_cur q kc i r c
  unfold scores score k0_pay26
  generalize k0_pay21 (F := Ideal) _ _ _ _ _ _ = Sp at hp ⊢
  generalize concatenate S2048x128 0 _ _ = Sc at hc ⊢
  have hb := fun (x y : EReal) => select_before i r c x y
  generalize k0_pay5 = B at hb ⊢
  pointwise
  rw [hb, hp, hc, mask_eq]
  rfl

end Cert.FwdIdeal.Value
-- ==== Proof.Fwd.Row.lean ====
/-
  One row of a softmax with a sink: once over a window of 256 keys of which every key or its partner 128 places on is
  masked, once over the 128 keys that are left.
-/
module

public import proofs.«01_k».proof.Proof.Real
public import Idealize.ShloMosaic.Lib.IdealHost

@[expose] public section

noncomputable section

open Idealize.ShloMosaic

namespace Cert.Row

variable {n : ℕ}

/-- The largest of a row's scores and its sink. -/
def top (S : Fin n → EReal) (σ : EReal) : EReal := max (Finset.fold max ⊥ S Finset.univ) σ

/-- The sum of a row's exponentials, its sink's included. -/
def total (S : Fin n → EReal) (σ : EReal) : EReal := ∑ x, Ideal.exp (S x - top S σ) + Ideal.exp (σ - top S σ)

/-- A row's probabilities, with one reciprocal for the row. -/
def prob (S : Fin n → EReal) (σ : EReal) (c : Fin n) : EReal := Ideal.exp (S c - top S σ) * Ideal.div 1 (total S σ)

/-- What goes to the row's sink. -/
def sunk (S : Fin n → EReal) (σ : EReal) : EReal := Ideal.exp (σ - top S σ) * Ideal.div 1 (total S σ)

theorem bits_bot : Ideal.ofBits .f32 4286578688#32 = (⊥ : EReal) := by
  simp [Ideal.ofBits, Ideal.ieee]

theorem exp_nonneg (x : EReal) : 0 ≤ Ideal.exp x := by
  induction x with
  | bot => exact le_rfl
  | top => exact le_top
  | coe r => exact EReal.coe_nonneg.mpr (Real.exp_pos r).le

/-- With scores that are not infinite and a finite sink the sum of the exponentials is not zero. -/
theorem total_ne_zero (S : Fin n → EReal) (σ : ℝ) (h : ∀ x, S x ≠ ⊤) : total S σ ≠ 0 := by
  obtain ⟨t, ht⟩ : ∃ t : ℝ, top S σ = t := by
    have h1 : top S σ ≠ ⊤ := by
      have : ∀ s : Finset (Fin n), Finset.fold max ⊥ S s ≠ ⊤ := fun s => by
        induction s using Finset.induction_on with
        | empty => simp
        | insert a s ha ih =>
          rw [Finset.fold_insert ha]
          rcases max_choice (S a) (Finset.fold max ⊥ S s) with e | e <;> rw [e]
          · exact h a
          · exact ih
      unfold top
      rcases max_choice (Finset.fold max ⊥ S Finset.univ) (σ : EReal) with e | e <;> rw [e]
      · exact this _
      · exact EReal.coe_ne_top σ
    have h2 : top S σ ≠ ⊥ := fun e => EReal.coe_ne_bot σ (le_bot_iff.mp (e ▸ le_max_right _ _))
    exact ⟨(top S σ).toReal, (EReal.coe_toReal h1 h2).symm⟩
  unfold total
  rw [ht, ← EReal.coe_sub, Ideal.exp_coe]
  have h0 : (0 : EReal) ≤ ∑ x, Ideal.exp (S x - (t : EReal)) := Finset.sum_nonneg fun x _ => exp_nonneg _
  have h1 : (0 : EReal) < ((Real.exp (σ - t) : ℝ) : EReal) := EReal.coe_pos.mpr (Real.exp_pos _)
  exact (lt_of_lt_of_le h1 (le_add_of_nonneg_left h0)).ne'

/-- The window of a query: the keys of the block before, then those of its own. -/
structure Folds (W : Fin 256 → EReal) (S : Fin 128 → EReal) (before : Fin 128 → Prop) : Prop where
  left : ∀ c, W (Fin.castAdd 128 c) = open Classical in if before c then S c else ⊥
  right : ∀ c, W (Fin.natAdd 128 c) = open Classical in if before c then ⊥ else S c

theorem fold_max_top (f : Fin n → EReal) : Finset.fold max ⊥ f Finset.univ = Finset.univ.sup f := rfl

variable {W : Fin 256 → EReal} {S : Fin 128 → EReal} {before : Fin 128 → Prop} (h : Folds W S before)
include h

theorem Folds.top (σ : EReal) : Row.top W σ = Row.top S σ := by
  unfold Row.top
  rw [fold_max_top, fold_max_top]
  congr 1
  refine le_antisymm (Finset.sup_le fun x _ => ?_) (Finset.sup_le fun c _ => ?_)
  · refine Fin.addCases (m := 128) (n := 128) (motive := fun x => W x ≤ Finset.univ.sup S) (fun c => ?_) (fun c => ?_) x
    · rw [h.left]; split
      · exact Finset.le_sup (Finset.mem_univ c)
      · exact bot_le
    · rw [h.right]; split
      · exact bot_le
      · exact Finset.le_sup (Finset.mem_univ c)
  · by_cases hc : before c
    · exact ((h.left c).trans (if_pos hc)).ge.trans (Finset.le_sup (f := W) (Finset.mem_univ _))
    · exact ((h.right c).trans (if_neg hc)).ge.trans (Finset.le_sup (f := W) (Finset.mem_univ _))

/-- A sum over the window of terms that vanish at the masked keys. -/
theorem Folds.sum (f : Fin 256 → EReal) (g : Fin 128 → EReal)
    (hl : ∀ c, before c → f (Fin.castAdd 128 c) = g c) (hl' : ∀ c, ¬before c → f (Fin.castAdd 128 c) = 0)
    (hr : ∀ c, ¬before c → f (Fin.natAdd 128 c) = g c) (hr' : ∀ c, before c → f (Fin.natAdd 128 c) = 0) :
    ∑ x, f x = ∑ c, g c := by
  rw [show ∑ x, f x = ∑ c : Fin 128, f (Fin.castAdd 128 c) + ∑ c : Fin 128, f (Fin.natAdd 128 c) from
    Fin.sum_univ_add (a := 128) (b := 128) f, ← Finset.sum_add_distrib]
  refine Finset.sum_congr rfl fun c _ => ?_
  by_cases hc : before c
  · rw [hl c hc, hr' c hc, add_zero]
  · rw [hl' c hc, hr c hc, zero_add]

theorem Folds.total (σ : EReal) : Row.total W σ = Row.total S σ := by
  have e : ∀ x : EReal, Ideal.exp (⊥ - x) = 0 := fun x => by rw [EReal.bot_sub]; rfl
  unfold Row.total
  rw [h.top]
  congr 1
  refine h.sum _ _ (fun c hc => ?_) (fun c hc => ?_) (fun c hc => ?_) (fun c hc => ?_)
  · rw [h.left, if_pos hc]
  · rw [h.left, if_neg hc, e]
  · rw [h.right, if_neg hc]
  · rw [h.right, if_pos hc, e]

variable {σ : EReal} (h0 : Row.total S σ ≠ 0)
include h0

/-- The window's probability of a key that is not masked, as a quotient. -/
theorem Folds.left_prob (c : Fin 128) (hc : before c) :
    Ideal.div (Ideal.exp (W (Fin.castAdd 128 c) - Row.top W σ)) (Row.total W σ) = prob S σ c := by
  rw [h.total, h.top, h.left, if_pos hc, prob, Ideal.mul_one_div h0]

theorem Folds.right_prob (c : Fin 128) (hc : ¬before c) :
    Ideal.div (Ideal.exp (W (Fin.natAdd 128 c) - Row.top W σ)) (Row.total W σ) = prob S σ c := by
  rw [h.total, h.top, h.right, if_neg hc, prob, Ideal.mul_one_div h0]

theorem Folds.left_zero (c : Fin 128) (hc : ¬before c) :
    Ideal.div (Ideal.exp (W (Fin.castAdd 128 c) - Row.top W σ)) (Row.total W σ) = 0 := by
  rw [h.total, h.left, if_neg hc, EReal.bot_sub, Ideal.exp_bot, Ideal.zero_div h0]

theorem Folds.right_zero (c : Fin 128) (hc : before c) :
    Ideal.div (Ideal.exp (W (Fin.natAdd 128 c) - Row.top W σ)) (Row.total W σ) = 0 := by
  rw [h.total, h.right, if_pos hc, EReal.bot_sub, Ideal.exp_bot, Ideal.zero_div h0]

theorem Folds.sunk : Ideal.div (Ideal.exp (σ - Row.top W σ)) (Row.total W σ) = Row.sunk S σ := by
  rw [h.total, h.top, Row.sunk, Ideal.mul_one_div h0]

end Cert.Row

end
-- ==== Proof.Fwd.Probs.lean ====
/-
  The probabilities of one block of queries, and the sinks' part.
-/
module

public import proofs.«01_k».proof.Proof.Fwd.Scores
public import proofs.«01_k».proof.Proof.Fwd.Row
public import proofs.«01_k».proof.Proof.Gen.FwdIdeal.Value
public import Idealize.ShloMosaic.Lib.Pipeline.ReadBack
public import Idealize.ShloMosaic.Lib.Pipeline.ValueKit.Tiles

@[expose] public section

noncomputable section

open Idealize.ShloMosaic Idealize.ShloMosaic.TcCoe Idealize.SL.Sem

namespace Cert.FwdIdeal.Value
open Cert.FwdIdeal Cert.FwdIdeal.Gen

/-- The sinks' logits, one for every row. -/
abbrev sinks16 (s : Fin 16 → Vec Ideal S1x1 .f32) : FVec Ideal S2048x1 .f32 :=
  k0_pay37 (k0_pay27 (s 0)) (k0_pay28 (s 1)) (k0_pay29 (s 2)) (k0_pay30 (s 3)) (k0_pay31 (s 4)) (k0_pay32 (s 5)) (k0_pay33 (s 6)) (k0_pay34 (s 7)) (k0_pay35 (s 8)) (k0_pay36 (s 9)) (s 10) (s 11) (s 12) (s 13) (s 14) (s 15)

/-- The kernel's probabilities, all heads one below the other. -/
abbrev probs16 (S : FVec Ideal S2048x128 .f32) (s : Fin 16 → Vec Ideal S1x1 .f32) : FVec Ideal S2048x128 .f32 :=
  k0_pay42 S (k0_pay27 (s 0)) (k0_pay28 (s 1)) (k0_pay29 (s 2)) (k0_pay30 (s 3)) (k0_pay31 (s 4)) (k0_pay32 (s 5)) (k0_pay33 (s 6)) (k0_pay34 (s 7)) (k0_pay35 (s 8)) (k0_pay36 (s 9)) (s 10) (s 11) (s 12) (s 13) (s 14) (s 15)

set_option maxHeartbeats 4000000 in
theorem sinks_at (s : Fin 16 → Vec Ideal S1x1 .f32) (i : Fin 16) (r : Fin 128) :
    sinks16 s (ix2 (row i r) 0) = s i (ix2 0 0) := by
  unfold sinks16 row
  unfold_payloads
  pointwise
  fin_cases i <;> simp (disch := omega) only [dif_pos, dif_neg]
  all_goals rfl

/-- The part of every row that goes to its sink. -/
abbrev sunk16 (S : FVec Ideal S2048x128 .f32) (s : Fin 16 → Vec Ideal S1x1 .f32) : FVec Ideal S2048x1 .f32 :=
  k0_pay43 S (k0_pay27 (s 0)) (k0_pay28 (s 1)) (k0_pay29 (s 2)) (k0_pay30 (s 3)) (k0_pay31 (s 4)) (k0_pay32 (s 5)) (k0_pay33 (s 6)) (k0_pay34 (s 7)) (k0_pay35 (s 8)) (k0_pay36 (s 9)) (s 10) (s 11) (s 12) (s 13) (s 14) (s 15)

set_option maxHeartbeats 4000000 in
theorem probs_at (S : FVec Ideal S2048x128 .f32) (s : Fin 16 → Vec Ideal S1x1 .f32) (i : Fin 16) (r c : Fin 128) :
    probs16 S s (ix2 (row i r) c) = Row.prob (fun x => S (ix2 (row i r) x)) (s i (ix2 0 0)) c := by
  have hσ := sinks_at s i r
  unfold probs16 k0_pay42 k0_pay41 k0_pay40 k0_pay39 k0_pay38
  unfold sinks16 at hσ
  generalize k0_pay37 (F := Ideal) _ _ _ _ _ _ _ _ _ _ _ _ _ _ _ _ = σ at hσ ⊢
  rw [← hσ]
  generalize row i r = R
  pointwise
  rw [Row.bits_bot]
  rfl

set_option maxHeartbeats 4000000 in
theorem sunk_at (S : FVec Ideal S2048x128 .f32) (s : Fin 16 → Vec Ideal S1x1 .f32) (i : Fin 16) (r : Fin 128) :
    sunk16 S s (ix2 (row i r) 0) = Row.sunk (fun x => S (ix2 (row i r) x)) (s i (ix2 0 0)) := by
  have hσ := sinks_at s i r
  unfold sunk16 k0_pay43 k0_pay41 k0_pay40 k0_pay39 k0_pay38
  unfold sinks16 at hσ
  generalize k0_pay37 (F := Ideal) _ _ _ _ _ _ _ _ _ _ _ _ _ _ _ _ = σ at hσ ⊢
  rw [← hσ]
  generalize row i r = R
  pointwise
  rw [Row.bits_bot]
  rfl

end Cert.FwdIdeal.Value
-- ==== Proof.Fwd.Out.lean ====
/-
  The products of the probabilities with the values, and the sinks' parts by lane.
-/
module

public import proofs.«01_k».proof.Proof.Fwd.Scores
public import proofs.«01_k».proof.Proof.Gen.FwdIdeal.Value
public import Idealize.ShloMosaic.Lib.Pipeline.ReadBack
public import Idealize.ShloMosaic.Lib.Pipeline.ValueKit.Tiles

@[expose] public section

noncomputable section

open Idealize.ShloMosaic Idealize.ShloMosaic.TcCoe Idealize.SL.Sem

namespace Cert.FwdIdeal.Value
open Cert.FwdIdeal Cert.FwdIdeal.Gen

/-- A row's probabilities times the values of its window, at one column of its group. -/
def mix (P : FVec Ideal S2048x128 .f32) (vp vc : Vec Ideal S128x128 .bf16) (i : Fin 16) (r : Fin 128) (d : Fin 64) : EReal :=
  ∑ c : Fin 128, (if r < c then P (ix2 (row i r) c) else 0) * vp (ix2 c ⟨64 * (i.val / 8) + d.val, by omega⟩)
    + ∑ c : Fin 128, (if r < c then 0 else P (ix2 (row i r) c)) * vc (ix2 c ⟨64 * (i.val / 8) + d.val, by omega⟩)

theorem mix_row (P : FVec Ideal S2048x128 .f32) (vp vc : Vec Ideal S128x128 .bf16) (i : Fin 16) (r : Fin 128) (d : Fin 64)
    (R R' : Fin 2048) (hR : R = row i r) (hR' : R' = row i r) (e e' : Fin 128) (he : e.val = 64 * (i.val / 8) + d.val) (he' : e'.val = 64 * (i.val / 8) + d.val) :
    ∑ c : Fin 128, Scalar.select (k0_pay5 (ix2 R c)) (P (ix2 R c) * vp (ix2 c e)) 0
      + ∑ c : Fin 128, Scalar.select (k0_pay5 (ix2 R' c)) 0 (P (ix2 R' c) * vc (ix2 c e')) = mix P vp vc i r d := by
  subst hR hR'
  obtain rfl : e' = e := Fin.ext (he'.trans he.symm)
  have h : (⟨64 * (i.val / 8) + d.val, by omega⟩ : Fin 128) = e' := Fin.ext he.symm
  unfold mix
  simp only [select_before, ite_mul, zero_mul, h]

set_option maxHeartbeats 4000000 in
theorem mix_first (P : FVec Ideal S2048x128 .f32) (vp vc : Vec Ideal S128x128 .bf16) (k : Fin 4) (par : Fin 2) (r : Fin 128) (d : Fin 64) :
    k0_pay52 (F := Ideal) k0_pay5 (k0_pay48 P) k0_pay49 vp vc (ix2 ⟨128 * k.val + r.val, by omega⟩ ⟨64 * par.val + d.val, by omega⟩) = mix P vp vc ⟨4 * par.val + k.val, by omega⟩ r d := by
  unfold k0_pay52 k0_pay51 k0_pay50 k0_pay49 k0_pay48
  generalize hB : k0_pay5 = B
  pointwise [dot_S512x128_S128x128_S512x128_1_0_0_1_n_n]
  subst hB
  have hu := fun a b : EReal => select_upper ⟨64 * par.val + d.val, by omega⟩ a b
  dsimp only at hu
  simp only [hu]
  fin_cases par <;> simp (disch := omega) only [if_pos, if_neg, mul_zero, Finset.sum_const_zero, add_zero, zero_add]
  all_goals
    exact mix_row P vp vc _ r d _ _ (Fin.ext (by show _ = 128 * _ + r.val; simp <;> omega)) (Fin.ext (by show _ = 128 * _ + r.val; simp <;> omega)) _ _ (by simp <;> omega) (by simp <;> omega)

set_option maxHeartbeats 4000000 in
theorem mix_second (P : FVec Ideal S2048x128 .f32) (vp vc : Vec Ideal S128x128 .bf16) (k : Fin 4) (par : Fin 2) (r : Fin 128) (d : Fin 64) :
    k0_pay57 (F := Ideal) (k0_pay50 k0_pay5 (k0_pay48 P) k0_pay49) (k0_pay51 k0_pay5 (k0_pay48 P) k0_pay49) vp vc (ix2 ⟨128 * k.val + r.val, by omega⟩ ⟨64 * par.val + d.val, by omega⟩) = mix P vp vc ⟨8 + 4 * par.val + k.val, by omega⟩ r d := by
  unfold k0_pay57 k0_pay51 k0_pay50 k0_pay49 k0_pay48
  generalize hB : k0_pay5 = B
  pointwise [dot_S512x128_S128x128_S512x128_1_0_0_1_n_n]
  subst hB
  have hu := fun a b : EReal => select_upper ⟨64 * par.val + d.val, by omega⟩ a b
  dsimp only at hu
  simp only [hu]
  fin_cases par <;> simp (disch := omega) only [if_pos, if_neg, mul_zero, Finset.sum_const_zero, add_zero, zero_add]
  all_goals
    exact mix_row P vp vc _ r d _ _ (Fin.ext (by show _ = 128 * _ + r.val; simp <;> omega)) (Fin.ext (by show _ = 128 * _ + r.val; simp <;> omega)) _ _ (by simp <;> omega) (by simp <;> omega)

/-- The choice of one lane. -/
theorem select_lane {α : Type} (l : Fin 128) (k : ℕ) (hk : k < 128) (a b : α) :
    Scalar.select (IntOp.cmpi .eq (BitVec.ofNat 32 l.val) (BitVec.ofNat 32 k)) a b = if l.val = k then a else b := by
  have e : (BitVec.ofNat 32 l.val = BitVec.ofNat 32 k) ↔ l.val = k :=
    ⟨fun h => by
      have := congrArg BitVec.toNat h
      simp only [BitVec.toNat_ofNat] at this
      omega, fun h => by rw [h]⟩
  by_cases h : l.val = k
  · rw [if_pos h, h]; simp [IntOp.cmpi, Scalar.select]
  · have : (BitVec.ofNat 32 l.val == BitVec.ofNat 32 k) = false := beq_eq_false_iff_ne.mpr (mt e.mp h)
    rw [if_neg h]; simp [IntOp.cmpi, Scalar.select, this]

/-- Where the stack keeps the head of a lane. -/
def place (l : Fin 128) : Fin 16 := ⟨(8 * (l.val / 8) + 4 * (l.val % 2) + l.val % 8 / 2) % 16, Nat.mod_lt _ (by omega)⟩

set_option maxHeartbeats 4000000 in
theorem lanes_at (T : FVec Ideal S2048x1 .f32) (z : EReal) (r l : Fin 128) :
    k0_pay47 (F := Ideal) T (iota .tc S128x128 32 [1] iota_S128x128_d1_w32) (k0_pay45 T (iota .tc S128x128 32 [1] iota_S128x128_d1_w32) z) (k0_pay46 (iota .tc S128x128 32 [1] iota_S128x128_d1_w32)) (ix2 r l)
      = if l.val < 16 then T (ix2 (row (place l) r) 0) else z := by
  unfold k0_pay47 k0_pay46 k0_pay45
  pointwise
  rw [select_lane l 15 (by omega), select_lane l 13 (by omega), select_lane l 11 (by omega), select_lane l 9 (by omega), select_lane l 14 (by omega), select_lane l 12 (by omega), select_lane l 10 (by omega), select_lane l 8 (by omega), select_lane l 7 (by omega), select_lane l 5 (by omega), select_lane l 3 (by omega), select_lane l 1 (by omega), select_lane l 6 (by omega), select_lane l 4 (by omega), select_lane l 2 (by omega), select_lane l 0 (by omega)]
  by_cases h : l.val < 16
  · rw [if_pos h]
    obtain ⟨l, hl⟩ := l
    dsimp only at h ⊢
    interval_cases l <;> simp only [reduceIte, Nat.reduceEqDiff, OfNat.ofNat_ne_zero, OfNat.ofNat_ne_one, if_true, if_false]
    all_goals exact congrArg T (congrArg₂ ix2 (Fin.ext (by simp [row, place])) rfl)
  · simp (disch := omega) only [if_neg]

end Cert.FwdIdeal.Value
-- ==== Proof.Fwd.Points.lean ====
/-
  What a grid point leaves in its three output buffers, read at an index.
-/
module

public import proofs.«01_k».proof.Proof.Fwd.Probs
public import proofs.«01_k».proof.Proof.Fwd.Out
public import proofs.«01_k».proof.Proof.Gen.FwdIdeal.Value
public import Idealize.ShloMosaic.Lib.Pipeline.ReadBack
public import Idealize.ShloMosaic.Lib.Pipeline.ValueKit.Tiles

@[expose] public section

noncomputable section

open Idealize.ShloMosaic Idealize.ShloMosaic.TcCoe Idealize.SL.Sem

namespace Cert.FwdIdeal.Value
open Cert.FwdIdeal Cert.FwdIdeal.Gen

variable (m : (ℓ : Loc nD τ sig) → Buf (Elt Ideal) ℓ)

theorem hz : (![0, 0] : Fin 2 → Nat) = fun _ => 0 := funext fun a => by fin_cases a <;> rfl

/-- The lanes of a pair of heads. -/
def lanes (x : Vec Ideal S128x1024 .bf16) (p : Fin 8) : Vec Ideal S128x128 .bf16 :=
  fun y => x (ix2 (y 0) ⟨128 * p.val + (y 1).val, by have h : (y 1).val < 128 := (y 1).isLt; omega⟩)

/-- A head's sink. -/
def sink (x : Vec Ideal S1x16 .f32) (i : Fin 16) : Vec Ideal S1x1 .f32 := fun _ => x (ix2 0 (head i))

theorem ld_lanes (x : Vec Ideal S128x1024 .bf16) (o : ℕ) (p : Fin 8) (h : o = 128 * p.val) (hb) :
    View.ld x (Rect.unit (s := S128x1024) ![0, o] ![128, 128] hb) = lanes x p := by
  subst h
  rw [View.ld_unit]
  funext y
  refine congrArg x (funext fun a => ?_)
  fin_cases a
  · exact Fin.ext (Nat.zero_add _)
  · rfl

theorem ld_sink (x : Vec Ideal S1x16 .f32) (o : ℕ) (i : Fin 16) (h : o = (head i).val) (hb) :
    View.ld x (Rect.unit (s := S1x16) ![0, o] ![1, 1] hb) = sink x i := by
  subst h
  rw [View.ld_unit]
  funext y
  refine congrArg x (funext fun a => ?_)
  have hy : ∀ b, (y b).val = 0 := fun b => by have := (y b).isLt; fin_cases b <;> (revert this; simp)
  fin_cases a
  · exact Fin.ext (by simp [hy])
  · exact Fin.ext (by simp [hy])

/-- A row of the scores of a grid point, and its head's sink. -/
structure Block where
  q : Vec Ideal S128x1024 .bf16
  kc : Vec Ideal S128x128 .bf16
  kp : Vec Ideal S128x128 .bf16
  vc : Vec Ideal S128x128 .bf16
  vp : Vec Ideal S128x128 .bf16
  s : Vec Ideal S1x16 .f32

def block (c : Dev nD) (t : Fin cfg0.N) : Block := ⟨X0_0 m c t, iblk m c 1 t, iblk m c 2 t, iblk m c 3 t, iblk m c 4 t, iblk m c 5 t⟩

abbrev Block.probs (B : Block) (b : BitVec 32) : FVec Ideal S2048x128 .f32 := probs16 (scores b (lanes B.q) B.kp B.kc) (sink B.s)
abbrev Block.sunk (B : Block) (b : BitVec 32) : FVec Ideal S2048x1 .f32 := sunk16 (scores b (lanes B.q) B.kp B.kc) (sink B.s)

theorem Block.probs_at (B : Block) (b : BitVec 32) (i : Fin 16) (r k : Fin 128) :
    B.probs b (ix2 (row i r) k) = Row.prob (score b (lanes B.q) B.kp B.kc i r) (B.s (ix2 0 (head i))) k :=
  (Value.probs_at _ _ i r k).trans (congrArg (fun S => Row.prob S _ k) (funext fun x => scores_at b _ _ _ i r x))

theorem Block.sunk_at (B : Block) (b : BitVec 32) (i : Fin 16) (r : Fin 128) :
    B.sunk b (ix2 (row i r) 0) = Row.sunk (score b (lanes B.q) B.kp B.kc i r) (B.s (ix2 0 (head i))) :=
  (Value.sunk_at _ _ i r).trans (congrArg (fun S => Row.sunk S _) (funext fun x => scores_at b _ _ _ i r x))

set_option maxHeartbeats 4000000 in
theorem out7 (c : Dev nD) (t : Fin cfg0.N) (R : Fin 2048) (k : Fin 128) :
    (outsAt0 m c t).2.1 (ix3 0 R k) = (block m c t).probs (BitVec.ofNat 32 (grid0.coords t 0).val) (ix2 R k) := by
  unfold outsAt0
  dsimp only
  unfold out0_A_7
  rw [View.read_writes_eq_canon _ _ _ (fun _ => cover0_A_7 ..)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, View.ld_unit_zero (S := S128x128) hz]
  unfold block
  generalize X0_0 m c t = x0, iblk m c 1 t = x1, iblk m c 2 t = x2, iblk m c 3 t = x3, iblk m c 4 t = x4, iblk m c 5 t = x5
  canon_tiles
  rw [ld_lanes x0 0 0 rfl, ld_lanes x0 128 1 rfl, ld_lanes x0 256 2 rfl, ld_lanes x0 384 3 rfl, ld_lanes x0 512 4 rfl, ld_lanes x0 640 5 rfl, ld_lanes x0 768 6 rfl, ld_lanes x0 896 7 rfl,
    ld_sink x5 0 0 rfl, ld_sink x5 2 1 rfl, ld_sink x5 4 2 rfl, ld_sink x5 6 3 rfl, ld_sink x5 1 4 rfl, ld_sink x5 3 5 rfl, ld_sink x5 5 6 rfl, ld_sink x5 7 7 rfl, ld_sink x5 8 8 rfl, ld_sink x5 10 9 rfl, ld_sink x5 12 10 rfl, ld_sink x5 14 11 rfl, ld_sink x5 9 12 rfl, ld_sink x5 11 13 rfl, ld_sink x5 13 14 rfl, ld_sink x5 15 15 rfl]
  obtain ⟨z, p, q, rfl⟩ : ∃ (z : Fin 1) (p : Fin 2048) (q : Fin 128), x = ix3 z p q := ⟨x 0, x 1, x 2, eq_ix3 x⟩
  obtain rfl : R = p := Fin.ext h1
  obtain rfl : k = q := Fin.ext h2
  unfold k0_pay44 Block.probs probs16
  generalize k0_pay42 (F := Ideal) _ _ _ _ _ _ _ _ _ _ _ _ _ _ _ _ _ = P
  pointwise

set_option maxHeartbeats 4000000 in
theorem out8 (c : Dev nD) (t : Fin cfg0.N) (R : Fin 128) (k : Fin 128) :
    (outsAt0 m c t).2.2 (ix2 R k) = if k.val < 16 then (block m c t).sunk (BitVec.ofNat 32 (grid0.coords t 0).val) (ix2 (row (place k) R) 0) else 0 := by
  unfold outsAt0
  dsimp only
  unfold out0_A_8
  rw [View.read_writes_eq_canon _ _ _ (fun _ => cover0_A_8 ..)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, View.ld_unit_zero (S := S128x128) hz]
  unfold block
  generalize X0_0 m c t = x0, iblk m c 1 t = x1, iblk m c 2 t = x2, iblk m c 3 t = x3, iblk m c 4 t = x4, iblk m c 5 t = x5
  canon_tiles
  rw [ld_lanes x0 0 0 rfl, ld_lanes x0 128 1 rfl, ld_lanes x0 256 2 rfl, ld_lanes x0 384 3 rfl, ld_lanes x0 512 4 rfl, ld_lanes x0 640 5 rfl, ld_lanes x0 768 6 rfl, ld_lanes x0 896 7 rfl,
    ld_sink x5 0 0 rfl, ld_sink x5 2 1 rfl, ld_sink x5 4 2 rfl, ld_sink x5 6 3 rfl, ld_sink x5 1 4 rfl, ld_sink x5 3 5 rfl, ld_sink x5 5 6 rfl, ld_sink x5 7 7 rfl, ld_sink x5 8 8 rfl, ld_sink x5 10 9 rfl, ld_sink x5 12 10 rfl, ld_sink x5 14 11 rfl, ld_sink x5 9 12 rfl, ld_sink x5 11 13 rfl, ld_sink x5 13 14 rfl, ld_sink x5 15 15 rfl]
  obtain ⟨p, q, rfl⟩ : ∃ (p : Fin 128) (q : Fin 128), x = ix2 p q := ⟨x 0, x 1, eq_ix2 x⟩
  obtain rfl : R = p := Fin.ext h0
  obtain rfl : k = q := Fin.ext h1
  refine (lanes_at _ _ R k).trans ?_
  rw [show (FloatOps.ofBits (F := Ideal) .f32 0#32 : EReal) = 0 from Ideal.ofBits_zero .f32]

/-- The lanes of pair `j` are those of its heads. -/
theorem column (P : FVec Ideal S2048x128 .f32) (vp vc : Vec Ideal S128x128 .bf16) (r : Fin 128) (h : Fin 16) (d : Fin 64) (f : EReal) (j : Fin 8) (q : Fin 128)
    (hq : 64 * h.val + d.val = 128 * j.val + q.val) (hf : ∀ par : Fin 2, q.val = 64 * par.val + d.val → f = mix P vp vc ⟨8 * (j.val / 4) + 4 * par.val + j.val % 4, by omega⟩ r d) :
    f = mix P vp vc (place ⟨h.val, by omega⟩) r d := by
  have hj : j.val = h.val / 2 := by omega
  rw [hf ⟨h.val % 2, by omega⟩ (by dsimp only; omega)]
  refine congrArg (fun i => mix P vp vc i r d) (Fin.ext ?_)
  dsimp only
  rw [hj]
  exact (by decide : ∀ h : Fin 16, 8 * (h.val / 2 / 4) + 4 * (h.val % 2) + h.val / 2 % 4 = (8 * (h.val / 8) + 4 * (h.val % 2) + h.val % 8 / 2) % 16) h

set_option maxHeartbeats 4000000 in
theorem out6 (c : Dev nD) (t : Fin cfg0.N) (R : Fin 128) (h : Fin 16) (d : Fin 64) :
    (outsAt0 m c t).1 (ix2 R ⟨64 * h.val + d.val, by omega⟩) = mix ((block m c t).probs (BitVec.ofNat 32 (grid0.coords t 0).val)) (block m c t).vp (block m c t).vc (place ⟨h.val, by omega⟩) R d := by
  unfold outsAt0
  dsimp only
  unfold out0_A_6
  rw [View.read_writes_eq_canon _ _ _ (fun _ => cover0_A_6 ..)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, View.ld_unit_zero (S := S128x128) hz]
  unfold block
  generalize X0_0 m c t = x0, iblk m c 1 t = x1, iblk m c 2 t = x2, iblk m c 3 t = x3, iblk m c 4 t = x4, iblk m c 5 t = x5
  canon_tiles
  all_goals
    obtain ⟨p, q, rfl⟩ : ∃ (p : Fin 128) (q : Fin 128), x = ix2 p q := ⟨x 0, x 1, eq_ix2 x⟩
    obtain rfl : R = p := Fin.ext h0
    rw [ld_lanes x0 0 0 rfl, ld_lanes x0 128 1 rfl, ld_lanes x0 256 2 rfl, ld_lanes x0 384 3 rfl, ld_lanes x0 512 4 rfl, ld_lanes x0 640 5 rfl, ld_lanes x0 768 6 rfl, ld_lanes x0 896 7 rfl,
      ld_sink x5 0 0 rfl, ld_sink x5 2 1 rfl, ld_sink x5 4 2 rfl, ld_sink x5 6 3 rfl, ld_sink x5 1 4 rfl, ld_sink x5 3 5 rfl, ld_sink x5 5 6 rfl, ld_sink x5 7 7 rfl, ld_sink x5 8 8 rfl, ld_sink x5 10 9 rfl, ld_sink x5 12 10 rfl, ld_sink x5 14 11 rfl, ld_sink x5 9 12 rfl, ld_sink x5 11 13 rfl, ld_sink x5 13 14 rfl, ld_sink x5 15 15 rfl]
  · refine column _ x4 x3 R h d _ 7 q h1 (fun par hp => ?_)
    have hb : 64 * par.val + d.val < 128 := by omega
    obtain rfl : q = ⟨64 * par.val + d.val, hb⟩ := Fin.ext hp
    have e := mix_second ((Block.mk x0 x1 x2 x3 x4 x5).probs (BitVec.ofNat 32 (grid0.coords t 0).val)) x4 x3 3 par R d
    unfold k0_pay4
    unfold Block.probs probs16 at e
    generalize k0_pay57 (F := Ideal) _ _ _ _ = A at e ⊢
    pointwise
    refine Eq.trans ?_ (e.trans (congrArg (fun i => mix _ _ _ i R d) (Fin.ext (by show _ = _; dsimp only; omega))))
    exact congrArg A (congrArg₂ ix2 (Fin.ext (by simp)) rfl)
  · refine column _ x4 x3 R h d _ 6 q h1 (fun par hp => ?_)
    have hb : 64 * par.val + d.val < 128 := by omega
    obtain rfl : q = ⟨64 * par.val + d.val, hb⟩ := Fin.ext hp
    have e := mix_second ((Block.mk x0 x1 x2 x3 x4 x5).probs (BitVec.ofNat 32 (grid0.coords t 0).val)) x4 x3 2 par R d
    unfold k0_pay3
    unfold Block.probs probs16 at e
    generalize k0_pay57 (F := Ideal) _ _ _ _ = A at e ⊢
    pointwise
    refine Eq.trans ?_ (e.trans (congrArg (fun i => mix _ _ _ i R d) (Fin.ext (by show _ = _; dsimp only; omega))))
    exact congrArg A (congrArg₂ ix2 (Fin.ext (by simp)) rfl)
  · refine column _ x4 x3 R h d _ 5 q h1 (fun par hp => ?_)
    have hb : 64 * par.val + d.val < 128 := by omega
    obtain rfl : q = ⟨64 * par.val + d.val, hb⟩ := Fin.ext hp
    have e := mix_second ((Block.mk x0 x1 x2 x3 x4 x5).probs (BitVec.ofNat 32 (grid0.coords t 0).val)) x4 x3 1 par R d
    unfold k0_pay2
    unfold Block.probs probs16 at e
    generalize k0_pay57 (F := Ideal) _ _ _ _ = A at e ⊢
    pointwise
    refine Eq.trans ?_ (e.trans (congrArg (fun i => mix _ _ _ i R d) (Fin.ext (by show _ = _; dsimp only; omega))))
    exact congrArg A (congrArg₂ ix2 (Fin.ext (by simp)) rfl)
  · refine column _ x4 x3 R h d _ 4 q h1 (fun par hp => ?_)
    have hb : 64 * par.val + d.val < 128 := by omega
    obtain rfl : q = ⟨64 * par.val + d.val, hb⟩ := Fin.ext hp
    have e := mix_second ((Block.mk x0 x1 x2 x3 x4 x5).probs (BitVec.ofNat 32 (grid0.coords t 0).val)) x4 x3 0 par R d
    unfold k0_pay1
    unfold Block.probs probs16 at e
    generalize k0_pay57 (F := Ideal) _ _ _ _ = A at e ⊢
    pointwise
    refine Eq.trans ?_ (e.trans (congrArg (fun i => mix _ _ _ i R d) (Fin.ext (by show _ = _; dsimp only; omega))))
    exact congrArg A (congrArg₂ ix2 (Fin.ext (by simp)) rfl)
  · refine column _ x4 x3 R h d _ 3 q h1 (fun par hp => ?_)
    have hb : 64 * par.val + d.val < 128 := by omega
    obtain rfl : q = ⟨64 * par.val + d.val, hb⟩ := Fin.ext hp
    have e := mix_first ((Block.mk x0 x1 x2 x3 x4 x5).probs (BitVec.ofNat 32 (grid0.coords t 0).val)) x4 x3 3 par R d
    unfold k0_pay56
    unfold Block.probs probs16 at e
    generalize k0_pay52 (F := Ideal) _ _ _ _ _ = A at e ⊢
    pointwise
    refine Eq.trans ?_ (e.trans (congrArg (fun i => mix _ _ _ i R d) (Fin.ext (by show _ = _; dsimp only; omega))))
    exact congrArg A (congrArg₂ ix2 (Fin.ext (by simp)) rfl)
  · refine column _ x4 x3 R h d _ 2 q h1 (fun par hp => ?_)
    have hb : 64 * par.val + d.val < 128 := by omega
    obtain rfl : q = ⟨64 * par.val + d.val, hb⟩ := Fin.ext hp
    have e := mix_first ((Block.mk x0 x1 x2 x3 x4 x5).probs (BitVec.ofNat 32 (grid0.coords t 0).val)) x4 x3 2 par R d
    unfold k0_pay55
    unfold Block.probs probs16 at e
    generalize k0_pay52 (F := Ideal) _ _ _ _ _ = A at e ⊢
    pointwise
    refine Eq.trans ?_ (e.trans (congrArg (fun i => mix _ _ _ i R d) (Fin.ext (by show _ = _; dsimp only; omega))))
    exact congrArg A (congrArg₂ ix2 (Fin.ext (by simp)) rfl)
  · refine column _ x4 x3 R h d _ 1 q h1 (fun par hp => ?_)
    have hb : 64 * par.val + d.val < 128 := by omega
    obtain rfl : q = ⟨64 * par.val + d.val, hb⟩ := Fin.ext hp
    have e := mix_first ((Block.mk x0 x1 x2 x3 x4 x5).probs (BitVec.ofNat 32 (grid0.coords t 0).val)) x4 x3 1 par R d
    unfold k0_pay54
    unfold Block.probs probs16 at e
    generalize k0_pay52 (F := Ideal) _ _ _ _ _ = A at e ⊢
    pointwise
    refine Eq.trans ?_ (e.trans (congrArg (fun i => mix _ _ _ i R d) (Fin.ext (by show _ = _; dsimp only; omega))))
    exact congrArg A (congrArg₂ ix2 (Fin.ext (by simp)) rfl)
  · refine column _ x4 x3 R h d _ 0 q (h1.trans (Nat.zero_add q.val).symm) (fun par hp => ?_)
    have hb : 64 * par.val + d.val < 128 := by omega
    obtain rfl : q = ⟨64 * par.val + d.val, hb⟩ := Fin.ext hp
    have e := mix_first ((Block.mk x0 x1 x2 x3 x4 x5).probs (BitVec.ofNat 32 (grid0.coords t 0).val)) x4 x3 0 par R d
    unfold k0_pay53
    unfold Block.probs probs16 at e
    generalize k0_pay52 (F := Ideal) _ _ _ _ _ = A at e ⊢
    pointwise
    refine Eq.trans ?_ (e.trans (congrArg (fun i => mix _ _ _ i R d) (Fin.ext (by show _ = _; dsimp only; omega))))
    exact congrArg A (congrArg₂ ix2 (Fin.ext (by simp)) rfl)

end Cert.FwdIdeal.Value
-- ==== Proof.Fwd.Kernel.lean ====
/-
  The three results as functions of the arguments: a block is a part of the array the host prepared, and the sixty-four
  blocks make up the results.
-/
module

public import proofs.«01_k».proof.Proof.Fwd.Points

@[expose] public section

noncomputable section

open Idealize.ShloMosaic Idealize.ShloMosaic.TcCoe Idealize.SL.Sem

namespace Cert.FwdIdeal.Value
open Cert.FwdIdeal Cert.FwdIdeal.Gen

variable (m : (ℓ : Loc nD τ sig) → Buf (Elt Ideal) ℓ)

/-- The queries. -/
abbrev arg0 (c : Dev nD) : FVec Ideal S8192x16x64 .f32 := m ((c : Thread nD τ).loc main_arg0)
/-- The keys. -/
abbrev arg1 (c : Dev nD) : FVec Ideal S8192x2x64 .f32 := m ((c : Thread nD τ).loc main_arg1)
/-- The values. -/
abbrev arg2 (c : Dev nD) : FVec Ideal S8192x2x64 .f32 := m ((c : Thread nD τ).loc main_arg2)
/-- The sinks. -/
abbrev arg3 (c : Dev nD) : FVec Ideal S1x16 .f32 := m ((c : Thread nD τ).loc main_arg3)

/-! ## What the host prepares -/

/-- Queries, keys and values side by side. -/
def joined (q : FVec Ideal S8192x16x64 .f32) (k v : FVec Ideal S8192x2x64 .f32) : FVec Ideal S8192x1280 .bf16 :=
  truncf (F := Ideal) .bf16 (concatenate S8192x1280 1 [⟨S8192x1024, shapeCast S8192x1024 q shapeCasts_S8192x16x64_S8192x1024⟩, ⟨S8192x128, shapeCast S8192x128 k shapeCasts_S8192x2x64_S8192x128⟩, ⟨S8192x128, shapeCast S8192x128 v shapeCasts_S8192x2x64_S8192x128⟩] concatenates_S8192x1024_S8192x128_S8192x128_S8192x1280_d1) bitsLt_bf16_f32

theorem v4 (c : Dev nD) : V m c main_v4 = joined (arg0 m c) (arg1 m c) (arg2 m c) := by
  unfold V joined
  after_results_simp
  rfl

theorem joined_q (q : FVec Ideal S8192x16x64 .f32) (k v : FVec Ideal S8192x2x64 .f32) (R : Fin 8192) (h : Fin 16) (d : Fin 64) :
    joined q k v (ix2 R ⟨64 * h.val + d.val, by omega⟩) = q (ix3 R h d) := by
  unfold joined
  pointwise
  simp (disch := omega) only [dif_pos, dif_neg]

theorem joined_k (q : FVec Ideal S8192x16x64 .f32) (k v : FVec Ideal S8192x2x64 .f32) (R : Fin 8192) (g : Fin 2) (d : Fin 64) :
    joined q k v (ix2 R ⟨1024 + (64 * g.val + d.val), by omega⟩) = k (ix3 R g d) := by
  unfold joined
  pointwise
  simp (disch := omega) only [dif_pos, dif_neg]

theorem joined_v (q : FVec Ideal S8192x16x64 .f32) (k v : FVec Ideal S8192x2x64 .f32) (R : Fin 8192) (g : Fin 2) (d : Fin 64) :
    joined q k v (ix2 R ⟨1152 + (64 * g.val + d.val), by omega⟩) = v (ix3 R g d) := by
  unfold joined
  pointwise
  simp (disch := omega) only [dif_pos, dif_neg]
  exact congrArg v (congrArg₂ (ix3 R) (Fin.ext (by dsimp only; omega)) (Fin.ext (by dsimp only; omega)))

/-! ## The blocks a point sees -/

theorem coord : ∀ t : Fin cfg0.N, (grid0.coords t 0).val = t.val := by decide +kernel
theorem index0 : ∀ t : Fin grid0.N, win0_0.index t = ![t.val, 0] := by decide +kernel
theorem index1 : ∀ t : Fin grid0.N, win0_1.index t = ![t.val, 8] := by decide +kernel
theorem index2 : ∀ t : Fin grid0.N, win0_2.index t = ![t.val - 1, 8] := by decide +kernel
theorem index3 : ∀ t : Fin grid0.N, win0_3.index t = ![t.val, 9] := by decide +kernel
theorem index4 : ∀ t : Fin grid0.N, win0_4.index t = ![t.val - 1, 9] := by decide +kernel
theorem index5 : ∀ t : Fin grid0.N, win0_5.index t = ![0, 0] := by decide +kernel
theorem index6 : ∀ t : Fin grid0.N, win0_6.index t = ![t.val, 0] := by decide +kernel
theorem index7 : ∀ t : Fin grid0.N, win0_7.index t = ![t.val, 0, 0] := by decide +kernel
theorem index8 : ∀ t : Fin grid0.N, win0_8.index t = ![t.val, 0] := by decide +kernel

/-- Row `r` of block `t`, among all rows. -/
def at_ (t : Fin 64) (r : Fin 128) : Fin 8192 := ⟨128 * t.val + r.val, by omega⟩

/-- The block before, or the first. -/
def prev (t : Fin 64) : Fin 64 := ⟨t.val - 1, by omega⟩

/-- A grid point's block of rows. -/
def nth (t : Fin cfg0.N) : Fin 64 := ⟨t.val, Nat.lt_of_lt_of_eq t.isLt N_0⟩

theorem blk0 (c : Dev nD) (t : Fin cfg0.N) (r : Fin 128) (j : Fin 1024) :
    (X0_0 m c t : Vec Ideal S128x1024 .bf16) (ix2 r j) = V m c main_v4 (ix2 (at_ (nth t) r) ⟨j.val, by omega⟩) := by
  unfold X0_0 Pipeline.Window.fill
  rw [dif_pos (moved0_0 t _)]
  unfold iblk
  rw [View.read_apply]
  show V m c main_v4 _ = _
  congr 1
  funext a
  apply Fin.ext
  have hi := index0 t
  match a with
  | ⟨0, _⟩ => show win0_0.index t 0 * 128 + 1 * r.val = 128 * t.val + r.val; rw [hi]; simp <;> omega
  | ⟨1, _⟩ => show win0_0.index t 1 * 1024 + 1 * j.val = j.val; rw [hi]; simp

theorem blk1 (c : Dev nD) (t : Fin cfg0.N) (r j : Fin 128) :
    (iblk m c 1 t : Vec Ideal S128x128 .bf16) (ix2 r j) = V m c main_v4 (ix2 (at_ (nth t) r) ⟨1024 + j.val, by omega⟩) := by
  unfold iblk
  rw [View.read_apply]
  show V m c main_v4 _ = _
  congr 1
  funext a
  apply Fin.ext
  have hi := index1 t
  match a with
  | ⟨0, _⟩ => show win0_1.index t 0 * 128 + 1 * r.val = 128 * t.val + r.val; rw [hi]; simp <;> omega
  | ⟨1, _⟩ => show win0_1.index t 1 * 128 + 1 * j.val = 1024 + j.val; rw [hi]; simp <;> omega

theorem blk2 (c : Dev nD) (t : Fin cfg0.N) (r j : Fin 128) :
    (iblk m c 2 t : Vec Ideal S128x128 .bf16) (ix2 r j) = V m c main_v4 (ix2 (at_ (prev (nth t)) r) ⟨1024 + j.val, by omega⟩) := by
  unfold iblk
  rw [View.read_apply]
  show V m c main_v4 _ = _
  congr 1
  funext a
  apply Fin.ext
  have hi := index2 t
  match a with
  | ⟨0, _⟩ => show win0_2.index t 0 * 128 + 1 * r.val = 128 * (t.val - 1) + r.val; rw [hi]; simp <;> omega
  | ⟨1, _⟩ => show win0_2.index t 1 * 128 + 1 * j.val = 1024 + j.val; rw [hi]; simp <;> omega

theorem blk3 (c : Dev nD) (t : Fin cfg0.N) (r j : Fin 128) :
    (iblk m c 3 t : Vec Ideal S128x128 .bf16) (ix2 r j) = V m c main_v4 (ix2 (at_ (nth t) r) ⟨1152 + j.val, by omega⟩) := by
  unfold iblk
  rw [View.read_apply]
  show V m c main_v4 _ = _
  congr 1
  funext a
  apply Fin.ext
  have hi := index3 t
  match a with
  | ⟨0, _⟩ => show win0_3.index t 0 * 128 + 1 * r.val = 128 * t.val + r.val; rw [hi]; simp <;> omega
  | ⟨1, _⟩ => show win0_3.index t 1 * 128 + 1 * j.val = 1152 + j.val; rw [hi]; simp <;> omega

theorem blk4 (c : Dev nD) (t : Fin cfg0.N) (r j : Fin 128) :
    (iblk m c 4 t : Vec Ideal S128x128 .bf16) (ix2 r j) = V m c main_v4 (ix2 (at_ (prev (nth t)) r) ⟨1152 + j.val, by omega⟩) := by
  unfold iblk
  rw [View.read_apply]
  show V m c main_v4 _ = _
  congr 1
  funext a
  apply Fin.ext
  have hi := index4 t
  match a with
  | ⟨0, _⟩ => show win0_4.index t 0 * 128 + 1 * r.val = 128 * (t.val - 1) + r.val; rw [hi]; simp <;> omega
  | ⟨1, _⟩ => show win0_4.index t 1 * 128 + 1 * j.val = 1152 + j.val; rw [hi]; simp <;> omega

theorem blk5 (c : Dev nD) (t : Fin cfg0.N) (h : Fin 16) :
    (iblk m c 5 t : Vec Ideal S1x16 .f32) (ix2 0 h) = arg3 m c (ix2 0 h) := by
  unfold iblk
  rw [View.read_apply]
  show V m c main_arg3 _ = _
  congr 1
  funext a
  apply Fin.ext
  have hi := index5 t
  match a with
  | ⟨0, _⟩ => show win0_5.index t 0 * 1 + 1 * 0 = 0; rw [hi]; simp <;> omega
  | ⟨1, _⟩ => show win0_5.index t 1 * 16 + 1 * h.val = h.val; rw [hi]; simp <;> omega

/-! ## The scores -/

/-- The product of a query of head `h` with a key of its group. -/
def product (q : FVec Ideal S8192x16x64 .f32) (k : FVec Ideal S8192x2x64 .f32) (R : Fin 8192) (h : Fin 16) (C : Fin 8192) : EReal :=
  ∑ d : Fin 64, q (ix3 R h d) * k (ix3 C ⟨h.val / 8, by omega⟩ d)

/-- A query's scores: the key `x` places into the block before its own if that is within the window, into its own block otherwise. -/
def window (q : FVec Ideal S8192x16x64 .f32) (k : FVec Ideal S8192x2x64 .f32) (t : Fin 64) (h : Fin 16) (r x : Fin 128) : EReal :=
  (if r < x then if 0 < t.val then product q k (at_ t r) h (at_ (prev t) x) else ⊥ else product q k (at_ t r) h (at_ t x)) * Ideal.ofBits .f32 0x3E000000#32

theorem select_first {α : Type} (n : ℕ) (hn : n < 64) (a b : α) :
    Scalar.select (IntOp.cmpi .sgt (BitVec.ofNat 32 n) 0#32) a b = if 0 < n then a else b := by
  have e : ∀ x : Fin 64, IntOp.cmpi .sgt (BitVec.ofNat 32 x.val) 0#32 = if 0 < x.val then 1#1 else 0#1 := by decide
  rw [e ⟨n, hn⟩]
  dsimp only
  split <;> rfl

theorem raw_cur (c : Dev nD) (t : Fin cfg0.N) (i : Fin 16) (r x : Fin 128) :
    raw (lanes (block m c t).q) (block m c t).kc i r x = product (arg0 m c) (arg1 m c) (at_ (nth t) r) (head i) (at_ (nth t) x) := by
  unfold raw product
  refine Finset.sum_congr rfl fun d _ => congrArg₂ (· * ·) ?_ ?_
  · refine (blk0 m c t r ⟨128 * (4 * (i.val / 8) + i.val % 4) + (64 * (i.val / 4 % 2) + d.val), by omega⟩).trans ?_
    rw [v4, ← joined_q (arg0 m c) (arg1 m c) (arg2 m c) (at_ (nth t) r) (head i) d]
    exact congrArg (joined _ _ _) (congrArg (ix2 _) (Fin.ext (by unfold head; dsimp only; omega)))
  · refine (blk1 m c t x _).trans ?_
    rw [v4, ← joined_k (arg0 m c) (arg1 m c) (arg2 m c) (at_ (nth t) x) ⟨(head i).val / 8, by omega⟩ d]
    exact congrArg (joined _ _ _) (congrArg (ix2 _) (Fin.ext (by unfold head; dsimp only; omega)))

theorem raw_prev (c : Dev nD) (t : Fin cfg0.N) (i : Fin 16) (r x : Fin 128) :
    raw (lanes (block m c t).q) (block m c t).kp i r x = product (arg0 m c) (arg1 m c) (at_ (nth t) r) (head i) (at_ (prev (nth t)) x) := by
  unfold raw product
  refine Finset.sum_congr rfl fun d _ => congrArg₂ (· * ·) ?_ ?_
  · refine (blk0 m c t r ⟨128 * (4 * (i.val / 8) + i.val % 4) + (64 * (i.val / 4 % 2) + d.val), by omega⟩).trans ?_
    rw [v4, ← joined_q (arg0 m c) (arg1 m c) (arg2 m c) (at_ (nth t) r) (head i) d]
    exact congrArg (joined _ _ _) (congrArg (ix2 _) (Fin.ext (by unfold head; dsimp only; omega)))
  · refine (blk2 m c t x _).trans ?_
    rw [v4, ← joined_k (arg0 m c) (arg1 m c) (arg2 m c) (at_ (prev (nth t)) x) ⟨(head i).val / 8, by omega⟩ d]
    exact congrArg (joined _ _ _) (congrArg (ix2 _) (Fin.ext (by unfold head; dsimp only; omega)))

theorem score_eq (c : Dev nD) (t : Fin cfg0.N) (i : Fin 16) (r : Fin 128) :
    score (BitVec.ofNat 32 (grid0.coords t 0).val) (lanes (block m c t).q) (block m c t).kp (block m c t).kc i r = window (arg0 m c) (arg1 m c) (nth t) (head i) r := by
  funext x
  unfold score window
  rw [coord, select_first t.val (nth t).isLt, raw_cur, raw_prev]
  rfl

theorem head_place (h : Fin 16) : head (place ⟨h.val, by omega⟩) = h := (by decide : ∀ h : Fin 16, head (place ⟨h.val, by omega⟩) = h) h

/-- The probability of key `x`. -/
def probability (c : Dev nD) (t : Fin 64) (h : Fin 16) (r x : Fin 128) : EReal :=
  Row.prob (window (arg0 m c) (arg1 m c) t h r) (arg3 m c (ix2 0 h)) x

theorem probs_eq (c : Dev nD) (t : Fin cfg0.N) (i : Fin 16) (r x : Fin 128) :
    (block m c t).probs (BitVec.ofNat 32 (grid0.coords t 0).val) (ix2 (row i r) x) = probability m c (nth t) (head i) r x := by
  rw [Block.probs_at, score_eq]
  exact congrArg (Row.prob _ · x) (blk5 m c t (head i))

theorem sunk_eq (c : Dev nD) (t : Fin cfg0.N) (i : Fin 16) (r : Fin 128) :
    (block m c t).sunk (BitVec.ofNat 32 (grid0.coords t 0).val) (ix2 (row i r) 0) = Row.sunk (window (arg0 m c) (arg1 m c) (nth t) (head i) r) (arg3 m c (ix2 0 (head i))) := by
  rw [Block.sunk_at, score_eq]
  exact congrArg (Row.sunk _) (blk5 m c t (head i))

/-- A query's mixture of values. -/
def mixture (c : Dev nD) (t : Fin 64) (h : Fin 16) (r : Fin 128) (d : Fin 64) : EReal :=
  ∑ x : Fin 128, (if r < x then probability m c t h r x else 0) * arg2 m c (ix3 (at_ (prev t) x) ⟨h.val / 8, by omega⟩ d)
    + ∑ x : Fin 128, (if r < x then 0 else probability m c t h r x) * arg2 m c (ix3 (at_ t x) ⟨h.val / 8, by omega⟩ d)

theorem mix_eq (c : Dev nD) (t : Fin cfg0.N) (h : Fin 16) (r : Fin 128) (d : Fin 64) :
    mix ((block m c t).probs (BitVec.ofNat 32 (grid0.coords t 0).val)) (block m c t).vp (block m c t).vc (place ⟨h.val, by omega⟩) r d = mixture m c (nth t) h r d := by
  unfold mix mixture
  have hd : (place ⟨h.val, by omega⟩ : Fin 16).val / 8 = h.val / 8 := (by decide : ∀ h : Fin 16, (place ⟨h.val, by omega⟩ : Fin 16).val / 8 = h.val / 8) h
  simp only [probs_eq, head_place]
  refine congrArg₂ (· + ·) (Finset.sum_congr rfl fun x _ => congrArg₂ (· * ·) rfl ?_) (Finset.sum_congr rfl fun x _ => congrArg₂ (· * ·) rfl ?_)
  · refine (blk4 m c t x _).trans ?_
    rw [v4, ← joined_v (arg0 m c) (arg1 m c) (arg2 m c) (at_ (prev (nth t)) x) ⟨h.val / 8, by omega⟩ d]
    exact congrArg (joined _ _ _) (congrArg (ix2 _) (Fin.ext (by dsimp only; rw [hd])))
  · refine (blk3 m c t x _).trans ?_
    rw [v4, ← joined_v (arg0 m c) (arg1 m c) (arg2 m c) (at_ (nth t) x) ⟨h.val / 8, by omega⟩ d]
    exact congrArg (joined _ _ _) (congrArg (ix2 _) (Fin.ext (by dsimp only; rw [hd])))

/-! ## The results -/

theorem final6 (c : Dev nD) (t : Fin 64) (r : Fin 128) (h : Fin 16) (d : Fin 64) :
    (dats m 0 c).arrAt 6 cfg0.N (ix2 (at_ t r) ⟨64 * h.val + d.val, by omega⟩) = mixture m c t h r d := by
  have ht : t.val < cfg0.N := Nat.lt_of_lt_of_eq t.isLt N_0.symm
  have hb := congrFun (blocks6 m c ⟨t.val, ht⟩ (flush0_6 _)) (ix2 r ⟨64 * h.val + d.val, by omega⟩)
  rw [View.read_apply, flushed6] at hb
  refine Eq.trans (congrArg _ ?_) (hb.trans ((out6 m c ⟨t.val, ht⟩ r h d).trans (mix_eq m c ⟨t.val, ht⟩ h r d)))
  funext a
  apply Fin.ext
  have hi := index6 ⟨t.val, ht⟩
  match a with
  | ⟨0, _⟩ => show 128 * t.val + r.val = win0_6.index ⟨t.val, _⟩ 0 * 128 + 1 * r.val; rw [hi]; simp <;> omega
  | ⟨1, _⟩ => show 64 * h.val + d.val = win0_6.index ⟨t.val, _⟩ 1 * 1024 + 1 * (64 * h.val + d.val); rw [hi]; simp

theorem final7 (c : Dev nD) (t : Fin 64) (i : Fin 16) (r x : Fin 128) :
    (dats m 0 c).arrAt 7 cfg0.N (ix3 t (row i r) x) = probability m c t (head i) r x := by
  have ht : t.val < cfg0.N := Nat.lt_of_lt_of_eq t.isLt N_0.symm
  have hb := congrFun (blocks7 m c ⟨t.val, ht⟩ (flush0_7 _)) (ix3 0 (row i r) x)
  rw [View.read_apply, flushed7] at hb
  refine Eq.trans (congrArg _ ?_) (hb.trans ((out7 m c ⟨t.val, ht⟩ (row i r) x).trans (probs_eq m c ⟨t.val, ht⟩ i r x)))
  funext a
  apply Fin.ext
  have hi := index7 ⟨t.val, ht⟩
  match a with
  | ⟨0, _⟩ => show t.val = win0_7.index ⟨t.val, _⟩ 0 * 1 + 1 * 0; rw [hi]; simp
  | ⟨1, _⟩ => show (row i r).val = win0_7.index ⟨t.val, _⟩ 1 * 2048 + 1 * (row i r).val; rw [hi]; simp
  | ⟨2, _⟩ => show x.val = win0_7.index ⟨t.val, _⟩ 2 * 128 + 1 * x.val; rw [hi]; simp

theorem final8 (c : Dev nD) (t : Fin 64) (r l : Fin 128) :
    (dats m 0 c).arrAt 8 cfg0.N (ix2 (at_ t r) l) = if h : l.val < 16 then Row.sunk (window (arg0 m c) (arg1 m c) t ⟨l.val, h⟩ r) (arg3 m c (ix2 0 ⟨l.val, h⟩)) else 0 := by
  have ht : t.val < cfg0.N := Nat.lt_of_lt_of_eq t.isLt N_0.symm
  have hb := congrFun (blocks8 m c ⟨t.val, ht⟩ (flush0_8 _)) (ix2 r l)
  rw [View.read_apply, flushed8] at hb
  have e : (outsAt0 m c ⟨t.val, ht⟩).2.2 (ix2 r l) = if h : l.val < 16 then Row.sunk (window (arg0 m c) (arg1 m c) t ⟨l.val, h⟩ r) (arg3 m c (ix2 0 ⟨l.val, h⟩)) else 0 := by
    rw [out8, sunk_eq]
    by_cases h : l.val < 16
    · rw [if_pos h, dif_pos h, show head (place l) = ⟨l.val, h⟩ from head_place ⟨l.val, h⟩]
      rfl
    · rw [if_neg h, dif_neg h]
  refine Eq.trans (congrArg _ ?_) (hb.trans e)
  funext a
  apply Fin.ext
  have hi := index8 ⟨t.val, ht⟩
  match a with
  | ⟨0, _⟩ => show 128 * t.val + r.val = win0_8.index ⟨t.val, _⟩ 0 * 128 + 1 * r.val; rw [hi]; simp <;> omega
  | ⟨1, _⟩ => show l.val = win0_8.index ⟨t.val, _⟩ 1 * 128 + 1 * l.val; rw [hi]; simp

end Cert.FwdIdeal.Value
-- ==== Proof.Fwd.Softmax.lean ====
/-
  The reference's softmax, read at an index.
-/
module

public import proofs.«01_k».proof.Proof.Fwd.Kernel
public import proofs.«01_k».proof.Proof.Gen.FwdRefIdeal.Read

@[expose] public section

noncomputable section

open Idealize.ShloMosaic Idealize.ShloMosaic.TcCoe Idealize.SL.Sem

namespace Cert.FwdRefIdeal.Read
open Cert.FwdRefIdeal Cert.FwdRefIdeal.Gen
open Cert.FwdIdeal.Value (at_ prev product window head row place)

variable (x0 : FVec Ideal S8192x16x64 .f32) (x1 x2 : FVec Ideal S8192x2x64 .f32) (x3 : FVec Ideal S1x16 .f32)

/-- A head's sink. -/
abbrev sinkOf (g : Fin 2) (e : Fin 8) : EReal := x3 (ix2 0 ⟨8 * g.val + e.val, by omega⟩)

theorem at52 (g : Fin 2) (e : Fin 8) : val_main_v52 (F := Ideal) x3 (ix5 0 g e 0 0) = sinkOf x3 g e := by
  unfold val_main_v52 val_main_v51
  pointwise
  exact congrArg x3 (congrArg (ix2 0) (Fin.ext (by dsimp only; omega)))

theorem at53 (t : Fin 64) (g : Fin 2) (e : Fin 8) (r : Fin 128) :
    (val_main_v53 (F := Ideal) x0 x1 (ix4 t g e r) : EReal) = Finset.fold max (⊥ : EReal) (fun y => (val_main_v50 (F := Ideal) x0 x1 (ix5 t g e r y) : EReal)) Finset.univ := by
  unfold val_main_v53 val_main_cst_8
  generalize val_main_v50 (F := Ideal) x0 x1 = S
  pointwise
  rw [Row.bits_bot]

theorem maximum_eq (a b : EReal) : (FloatOps.maximumf (F := Ideal) (φ := .f32) a b : EReal) = max a b := rfl

theorem larger (t : Fin 64) (g : Fin 2) (e : Fin 8) (r : Fin 128) :
    (val_main_v56 (F := Ideal) x0 x1 x3 (ix5 t g e r 0) : EReal) = max (val_main_v53 (F := Ideal) x0 x1 (ix4 t g e r) : EReal) (val_main_v52 (F := Ideal) x3 (ix5 0 g e 0 0) : EReal) := by
  have h1 : val_main_v54 (F := Ideal) x0 x1 (ix5 t g e r 0) = val_main_v53 (F := Ideal) x0 x1 (ix4 t g e r) := by
    unfold val_main_v54
    generalize val_main_v53 (F := Ideal) x0 x1 = S
    pointwise
  have h2 : val_main_v55 (F := Ideal) x3 (ix5 t g e r 0) = val_main_v52 (F := Ideal) x3 (ix5 0 g e 0 0) := by
    unfold val_main_v55
    generalize val_main_v52 (F := Ideal) x3 = S
    pointwise
  rw [← h1, ← h2]
  generalize hA : val_main_v54 (F := Ideal) x0 x1 (ix5 t g e r 0) = A
  generalize hB : val_main_v55 (F := Ideal) x3 (ix5 t g e r 0) = B
  have h3 := val_main_v56_apply (F := Ideal) x0 x1 x3 (ix5 t g e r 0)
  rw [hA, hB] at h3
  exact h3.trans (maximum_eq A B)

theorem top_of (S : Fin 256 → EReal) (σ a b c : EReal) (h : c = max a b) (ha : a = Finset.fold max ⊥ S Finset.univ) (hb : b = σ) : c = Row.top S σ := by
  rw [h, ha, hb]
  rfl

theorem at56 (t : Fin 64) (g : Fin 2) (e : Fin 8) (r : Fin 128) :
    val_main_v56 (F := Ideal) x0 x1 x3 (ix5 t g e r 0) = Row.top (fun y => val_main_v50 (F := Ideal) x0 x1 (ix5 t g e r y)) (sinkOf x3 g e) :=
  top_of _ _ _ _ _ (larger x0 x1 x3 t g e r) (at53 x0 x1 t g e r) (at52 x3 g e)

theorem at59 (t : Fin 64) (g : Fin 2) (e : Fin 8) (r : Fin 128) (x : Fin 256) :
    val_main_v59 (F := Ideal) x0 x1 x3 (ix5 t g e r x) = Ideal.exp (val_main_v50 (F := Ideal) x0 x1 (ix5 t g e r x) - val_main_v56 (F := Ideal) x0 x1 x3 (ix5 t g e r 0)) := by
  unfold val_main_v59 val_main_v58 val_main_v57
  generalize val_main_v50 (F := Ideal) x0 x1 = S
  generalize val_main_v56 (F := Ideal) x0 x1 x3 = T
  pointwise

theorem at60 (t : Fin 64) (g : Fin 2) (e : Fin 8) (r : Fin 128) :
    val_main_v60 (F := Ideal) x0 x1 x3 (ix4 t g e r) = ∑ y : Fin 256, val_main_v59 (F := Ideal) x0 x1 x3 (ix5 t g e r y) := by
  unfold val_main_v60 val_main_cst_9
  generalize val_main_v59 (F := Ideal) x0 x1 x3 = S
  pointwise

theorem at65 (t : Fin 64) (g : Fin 2) (e : Fin 8) (r : Fin 128) :
    val_main_v65 (F := Ideal) x0 x1 x3 (ix5 t g e r 0) = Row.total (fun y => val_main_v50 (F := Ideal) x0 x1 (ix5 t g e r y)) (sinkOf x3 g e) := by
  have h1 := at60 x0 x1 x3 t g e r
  simp only [at59, at56] at h1
  have h2 := at52 x3 g e
  have h3 := at56 x0 x1 x3 t g e r
  unfold val_main_v65 val_main_v64 val_main_v63 val_main_v62 val_main_v61 Row.total
  rw [← h1, ← h3, ← h2]
  generalize val_main_v60 (F := Ideal) x0 x1 x3 = S
  generalize val_main_v52 (F := Ideal) x3 = s
  generalize val_main_v56 (F := Ideal) x0 x1 x3 = T
  pointwise

/-- A query's probabilities. -/
theorem at67 (t : Fin 64) (g : Fin 2) (e : Fin 8) (r : Fin 128) (x : Fin 256) :
    val_main_v67 (F := Ideal) x0 x1 x3 (ix5 t g e r x)
      = Ideal.div (Ideal.exp (val_main_v50 (F := Ideal) x0 x1 (ix5 t g e r x) - Row.top (fun y => val_main_v50 (F := Ideal) x0 x1 (ix5 t g e r y)) (sinkOf x3 g e))) (Row.total (fun y => val_main_v50 (F := Ideal) x0 x1 (ix5 t g e r y)) (sinkOf x3 g e)) := by
  rw [← at56, ← at65, ← at59]
  unfold val_main_v67 val_main_v66
  generalize val_main_v59 (F := Ideal) x0 x1 x3 = E
  generalize val_main_v65 (F := Ideal) x0 x1 x3 = T
  pointwise

/-- What goes to a query's sink. -/
theorem at71 (t : Fin 64) (g : Fin 2) (e : Fin 8) (r : Fin 128) :
    val_main_v71 (F := Ideal) x0 x1 x3 (ix5 t g e r 0)
      = Ideal.div (Ideal.exp (sinkOf x3 g e - Row.top (fun y => val_main_v50 (F := Ideal) x0 x1 (ix5 t g e r y)) (sinkOf x3 g e))) (Row.total (fun y => val_main_v50 (F := Ideal) x0 x1 (ix5 t g e r y)) (sinkOf x3 g e)) := by
  rw [← at56, ← at65, ← at52]
  unfold val_main_v71 val_main_v70 val_main_v69 val_main_v68
  generalize val_main_v52 (F := Ideal) x3 = s
  generalize val_main_v56 (F := Ideal) x0 x1 x3 = M
  generalize val_main_v65 (F := Ideal) x0 x1 x3 = T
  pointwise

end Cert.FwdRefIdeal.Read
-- ==== Proof.Fwd.Reference.lean ====
/-
  The reference's results, read at an index.
-/
module

public import proofs.«01_k».proof.Proof.Fwd.Softmax

@[expose] public section

noncomputable section

open Idealize.ShloMosaic Idealize.ShloMosaic.TcCoe Idealize.SL.Sem

namespace Cert.FwdRefIdeal.Read
open Cert.FwdRefIdeal Cert.FwdRefIdeal.Gen
open Cert.FwdIdeal.Value (at_ prev product window head row place)

variable (x0 : FVec Ideal S8192x16x64 .f32) (x1 x2 : FVec Ideal S8192x2x64 .f32) (x3 : FVec Ideal S1x16 .f32)

theorem at0 (t : Fin 64) (r : Fin 128) (g : Fin 2) (e : Fin 8) (d : Fin 64) :
    val_main_v0 (F := Ideal) x0 (ix5 t r g e d) = x0 (ix3 (at_ t r) ⟨8 * g.val + e.val, by omega⟩ d) := by
  unfold val_main_v0 at_
  pointwise
  exact congrArg x0 (congrArg₂ (ix3 · · d) (Fin.ext (by dsimp only; omega)) (Fin.ext (by dsimp only; omega)))

theorem at1 (t : Fin 64) (r : Fin 128) (g : Fin 2) (d : Fin 64) :
    val_main_v1 (F := Ideal) x1 (ix4 t r g d) = x1 (ix3 (at_ t r) g d) := by
  unfold val_main_v1 at_
  pointwise
  exact congrArg x1 (congrArg (ix3 · g d) (Fin.ext (by dsimp only; omega)))

theorem at2 (t : Fin 64) (r : Fin 128) (g : Fin 2) (d : Fin 64) :
    val_main_v2 (F := Ideal) x2 (ix4 t r g d) = x2 (ix3 (at_ t r) g d) := at1 x2 t r g d

theorem at7_left (t : Fin 64) (x : Fin 128) (g : Fin 2) (d : Fin 64) :
    val_main_v7 (F := Ideal) x1 (ix4 t (Fin.castAdd 128 x) g d) = if 0 < t.val then x1 (ix3 (at_ (prev t) x) g d) else 0 := by
  have hx : (Fin.castAdd 128 x).val < 128 := x.isLt
  unfold val_main_v7 val_main_v6 val_main_v5 val_main_v4 val_main_cst
  pointwise
  rw [dif_pos hx]
  by_cases ht : 0 < t.val
  · rw [dif_neg (by omega), if_pos ht]
    exact at1 x1 (prev t) x g d
  · rw [dif_pos (by omega), if_neg ht]
    try rfl

theorem at7_right (t : Fin 64) (x : Fin 128) (g : Fin 2) (d : Fin 64) :
    val_main_v7 (F := Ideal) x1 (ix4 t (Fin.natAdd 128 x) g d) = x1 (ix3 (at_ t x) g d) := by
  have hx : (Fin.natAdd 128 x).val = 128 + x.val := rfl
  unfold val_main_v7
  pointwise
  rw [dif_neg (by omega)]
  refine Eq.trans (congrArg (val_main_v1 (F := Ideal) x1) (congrArg (ix4 t · g d) (Fin.ext ?_))) (at1 x1 t x g d)
  dsimp only
  omega

theorem at12_left (t : Fin 64) (x : Fin 128) (g : Fin 2) (d : Fin 64) :
    val_main_v12 (F := Ideal) x2 (ix4 t (Fin.castAdd 128 x) g d) = if 0 < t.val then x2 (ix3 (at_ (prev t) x) g d) else 0 := at7_left x2 t x g d

theorem at12_right (t : Fin 64) (x : Fin 128) (g : Fin 2) (d : Fin 64) :
    val_main_v12 (F := Ideal) x2 (ix4 t (Fin.natAdd 128 x) g d) = x2 (ix3 (at_ t x) g d) := at7_right x2 t x g d

theorem at16 (t : Fin 64) (g : Fin 2) (e : Fin 8) (r : Fin 128) (x : Fin 256) :
    val_main_v16 (F := Ideal) x0 x1 (ix5 t g e r x) = (∑ d : Fin 64, val_main_v7 (F := Ideal) x1 (ix4 t x g d) * val_main_v0 (F := Ideal) x0 (ix5 t r g e d)) * Ideal.ofBits .f32 0x3E000000#32 := by
  unfold val_main_v16 val_main_v15 val_main_v14 val_main_v13 val_main_cst_1
  generalize val_main_v7 (F := Ideal) x1 = K
  generalize val_main_v0 (F := Ideal) x0 = Q
  pointwise [dot_S64x256x2x64_S64x128x2x8x64_S64x2x256x128x8_3_4_1_13_02_02]

/-- Whether a key is within a query's window, as the reference writes it. -/
def mask (t : Fin 64) (r : Fin 128) (x : Fin 256) : BitVec 1 :=
  IntOp.andi
    (IntOp.andi (IntOp.cmpi .sge (IntOp.subi (IntOp.addi (BitVec.ofNat 32 r.val) 128#32) (BitVec.ofNat 32 x.val)) 0#32)
      (IntOp.cmpi .slt (IntOp.subi (IntOp.addi (BitVec.ofNat 32 r.val) 128#32) (BitVec.ofNat 32 x.val)) 128#32))
    (IntOp.cmpi .sge (IntOp.addi (IntOp.subi (IntOp.muli (BitVec.ofNat 32 t.val) 128#32) 128#32) (BitVec.ofNat 32 x.val)) 0#32)

theorem at50 (t : Fin 64) (g : Fin 2) (e : Fin 8) (r : Fin 128) (x : Fin 256) :
    val_main_v50 (F := Ideal) x0 x1 (ix5 t g e r x) = Scalar.select (mask t r x) (val_main_v16 (F := Ideal) x0 x1 (ix5 t g e r x)) ⊥ := by
  unfold val_main_v50 val_main_call0_v2 val_main_call0_v1 val_main_call0_v0 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_c val_main_c_2 val_main_c_3 val_main_c_4 val_main_c_5 val_main_c_6 val_main_cst_7
  generalize val_main_v16 (F := Ideal) x0 x1 = S
  pointwise
  rw [← Row.bits_bot]
  rfl

theorem mask_left (t : Fin 64) (r x : Fin 128) : mask t r (Fin.castAdd 128 x) = if r < x ∧ 0 < t.val then 1#1 else 0#1 := by
  have e1 : ∀ a b : Fin 128, IntOp.andi (IntOp.cmpi .sge (IntOp.subi (IntOp.addi (BitVec.ofNat 32 a.val) 128#32) (BitVec.ofNat 32 b.val)) 0#32)
      (IntOp.cmpi .slt (IntOp.subi (IntOp.addi (BitVec.ofNat 32 a.val) 128#32) (BitVec.ofNat 32 b.val)) 128#32) = if a < b then 1#1 else 0#1 := by decide +kernel
  have e2 : ∀ (a : Fin 64) (b : Fin 128), IntOp.cmpi .sge (IntOp.addi (IntOp.subi (IntOp.muli (BitVec.ofNat 32 a.val) 128#32) 128#32) (BitVec.ofNat 32 b.val)) 0#32 = if 0 < a.val then 1#1 else 0#1 := by decide +kernel
  unfold mask
  rw [Fin.val_castAdd, e1, e2]
  by_cases h1 : r < x <;> by_cases h2 : 0 < t.val <;> simp [h1, h2, IntOp.andi]

theorem mask_right (t : Fin 64) (r x : Fin 128) : mask t r (Fin.natAdd 128 x) = if r < x then 0#1 else 1#1 := by
  have e1 : ∀ a b : Fin 128, IntOp.andi (IntOp.cmpi .sge (IntOp.subi (IntOp.addi (BitVec.ofNat 32 a.val) 128#32) (BitVec.ofNat 32 (128 + b.val))) 0#32)
      (IntOp.cmpi .slt (IntOp.subi (IntOp.addi (BitVec.ofNat 32 a.val) 128#32) (BitVec.ofNat 32 (128 + b.val))) 128#32) = if a < b then 0#1 else 1#1 := by decide +kernel
  have e2 : ∀ (a : Fin 64) (b : Fin 128), IntOp.cmpi .sge (IntOp.addi (IntOp.subi (IntOp.muli (BitVec.ofNat 32 a.val) 128#32) 128#32) (BitVec.ofNat 32 (128 + b.val))) 0#32 = 1#1 := by decide +kernel
  unfold mask
  rw [Fin.val_natAdd, e1, e2]
  by_cases h1 : r < x <;> simp [h1, IntOp.andi]
end Cert.FwdRefIdeal.Read
-- ==== Proof.Fwd.Results.lean ====
/-
  The reference's three results and its rows of scores, in the kernel's terms.
-/
module

public import proofs.«01_k».proof.Proof.Fwd.Reference

@[expose] public section

noncomputable section

open Idealize.ShloMosaic Idealize.ShloMosaic.TcCoe Idealize.SL.Sem

namespace Cert.FwdRefIdeal.Read
open Cert.FwdRefIdeal Cert.FwdRefIdeal.Gen
open Cert.FwdIdeal.Value (at_ prev product window head row place)

variable (x0 : FVec Ideal S8192x16x64 .f32) (x1 x2 : FVec Ideal S8192x2x64 .f32) (x3 : FVec Ideal S1x16 .f32)

theorem at92 (t : Fin 64) (r : Fin 128) (g : Fin 2) (e : Fin 8) (d : Fin 64) :
    val_main_v92 (F := Ideal) x0 x1 x2 x3 (ix2 (at_ t r) ⟨64 * (8 * g.val + e.val) + d.val, by omega⟩)
      = ∑ y : Fin 256, val_main_v12 (F := Ideal) x2 (ix4 t y g d) * val_main_v67 (F := Ideal) x0 x1 x3 (ix5 t g e r y) := by
  unfold val_main_v92 val_main_v74 val_main_v73 val_main_v72 at_
  generalize val_main_v12 (F := Ideal) x2 = V
  generalize val_main_v67 (F := Ideal) x0 x1 x3 = P
  pointwise [dot_S64x256x2x64_S64x2x8x128x256_S64x2x64x8x128_1_4_3_23_02_01]

theorem at93 (t : Fin 64) (i : Fin 16) (r x : Fin 128) :
    val_main_v93 (F := Ideal) x0 x1 x3 (ix3 t (row i r) x)
      = if r < x then val_main_v67 (F := Ideal) x0 x1 x3 (ix5 t ⟨i.val / 8, by omega⟩ ⟨i.val % 4 * 2 + i.val / 4 % 2, by omega⟩ r (Fin.castAdd 128 x))
        else val_main_v67 (F := Ideal) x0 x1 x3 (ix5 t ⟨i.val / 8, by omega⟩ ⟨i.val % 4 * 2 + i.val / 4 % 2, by omega⟩ r (Fin.natAdd 128 x)) := by
  unfold val_main_v93 val_main_v87 val_main_v86 val_main_v85 val_main_v84 val_main_call1_v0 val_main_v83 val_main_v82 val_main_v81 val_main_v80 val_main_v79 val_main_v78 val_main_v77 val_main_v76 val_main_v75 row
  generalize val_main_v67 (F := Ideal) x0 x1 x3 = P
  pointwise
  have h1 : (128 * i.val + r.val) / 1024 = i.val / 8 := by omega
  have h2 : (128 * i.val + r.val) / 128 % 4 * 2 + (128 * i.val + r.val) / 512 % 2 = i.val % 4 * 2 + i.val / 4 % 2 := by omega
  refine (Cert.FwdIdeal.Value.select_after x r _ _).trans ?_
  simp only [h1, h2]
  rfl

theorem at91 (t : Fin 64) (r l : Fin 128) :
    val_main_v91 (F := Ideal) x0 x1 x3 (ix2 (at_ t r) l)
      = if h : l.val < 16 then val_main_v71 (F := Ideal) x0 x1 x3 (ix5 t ⟨l.val / 8, by omega⟩ ⟨l.val % 8, by omega⟩ r 0) else 0 := by
  unfold val_main_v91 val_main_v90 val_main_v89 val_main_v88 val_main_cst_10 at_
  generalize val_main_v71 (F := Ideal) x0 x1 x3 = P
  pointwise

theorem bot_scaled : (⊥ : EReal) * Ideal.ofBits .f32 0x3E000000#32 = ⊥ := by
  have e : Ideal.ofBits .f32 0x3E000000#32 = ((1 / 8 : ℝ) : EReal) := by
    simp [Ideal.ofBits, Ideal.ieee]; rw [← EReal.coe_mul]; norm_num
  rw [e, EReal.bot_mul_coe_of_pos (by norm_num)]

/-- The reference's row of 256 scores is the kernel's row of 128 and −∞ elsewhere. -/
theorem folds (t : Fin 64) (g : Fin 2) (e : Fin 8) (r : Fin 128) :
    Row.Folds (fun y => val_main_v50 (F := Ideal) x0 x1 (ix5 t g e r y)) (window x0 x1 t ⟨8 * g.val + e.val, by omega⟩ r) (fun c => r < c) where
  left c := by
    rw [at50, mask_left]
    unfold window product
    by_cases hc : r < c
    · by_cases ht : 0 < t.val
      · rw [if_pos ⟨hc, ht⟩, if_pos hc, if_pos hc, if_pos ht]
        refine (at16 x0 x1 t g e r _).trans (congrArg₂ (· * ·) (Finset.sum_congr rfl fun d _ => ?_) rfl)
        rw [at7_left, if_pos ht, at0, mul_comm]
        exact congrArg₂ (· * ·) rfl (congrArg x1 (congrArg (ix3 _ · d) (Fin.ext (by dsimp only; omega))))
      · rw [if_neg (fun h => ht h.2), if_pos hc, if_pos hc, if_neg ht, bot_scaled]
        rfl
    · rw [if_neg (fun h => hc h.1), if_neg hc]
      rfl
  right c := by
    rw [at50, mask_right]
    unfold window product
    by_cases hc : r < c
    · rw [if_pos hc, if_pos hc]
      rfl
    · rw [if_neg hc, if_neg hc, if_neg hc]
      refine (at16 x0 x1 t g e r _).trans (congrArg₂ (· * ·) (Finset.sum_congr rfl fun d _ => ?_) rfl)
      rw [at7_right, at0, mul_comm]
      exact congrArg₂ (· * ·) rfl (congrArg x1 (congrArg (ix3 _ · d) (Fin.ext (by dsimp only; omega))))

end Cert.FwdRefIdeal.Read
-- ==== Proof.Fwd.Value.lean ====
/-
  The forward attention: both programs end with the same three results.
-/
module

public import proofs.«01_k».proof.Defs
public import proofs.«01_k».proof.Proof.Fwd.Results
public import proofs.«01_k».proof.Proof.Gen.Pre_finite_fwd

@[expose] public section

noncomputable section

open Idealize.ShloMosaic Idealize.ShloMosaic.TcCoe Idealize.SL.Sem

namespace Cert.FwdIdeal.Value
open Cert.FwdIdeal Cert.FwdIdeal.Gen
open Cert.FwdRefIdeal.Read

variable (m : (ℓ : Loc nD τ sig) → Buf (Elt Ideal) ℓ)

/-- On finite queries, keys and sinks a row's sum of exponentials is not zero. -/
theorem total_ne_zero (hpre : Cert.Pre_FwdIdeal_finite_fwd m) (c : Dev nD) (t : Fin 64) (h : Fin 16) (r : Fin 128) :
    Row.total (window (arg0 m c) (arg1 m c) t h r) (arg3 m c (ix2 0 h)) ≠ 0 := by
  unfold arg0 arg1 arg3
  obtain ⟨h0, h1, h3⟩ := hpre c
  obtain ⟨Q, e0⟩ := Lift.exists_real h0
  obtain ⟨K, e1⟩ := Lift.exists_real h1
  obtain ⟨S, e3⟩ := Lift.exists_real h3
  rw [e0, e1, e3]
  have e : Ideal.ofBits .f32 0x3E000000#32 = ((1 / 8 : ℝ) : EReal) := by
    simp [Ideal.ofBits, Ideal.ieee]; rw [← EReal.coe_mul]; norm_num
  refine Row.total_ne_zero _ _ fun x => ?_
  unfold window product
  dsimp only
  simp only [← EReal.coe_mul, Lift.coe_sum]
  by_cases hx : r < x
  · by_cases ht : 0 < t.val
    · rw [if_pos hx, if_pos ht, e, ← EReal.coe_mul]
      exact EReal.coe_ne_top _
    · rw [if_pos hx, if_neg ht, bot_scaled]
      exact bot_ne_top
  · rw [if_neg hx, e, ← EReal.coe_mul]
    exact EReal.coe_ne_top _

section
variable (hpre : Cert.Pre_FwdIdeal_finite_fwd m) (c : Dev nD) (t : Fin 64) (g : Fin 2) (e : Fin 8) (r : Fin 128)
include hpre

theorem left (x : Fin 128) :
    val_main_v67 (F := Ideal) (arg0 m c) (arg1 m c) (arg3 m c) (ix5 t g e r (Fin.castAdd 128 x))
      = if r < x then probability m c t ⟨8 * g.val + e.val, by omega⟩ r x else 0 := by
  refine (at67 _ _ _ t g e r _).trans ?_
  have f := folds (arg0 m c) (arg1 m c) t g e r
  have h0 := total_ne_zero m hpre c t ⟨8 * g.val + e.val, by omega⟩ r
  by_cases hx : r < x
  · rw [if_pos hx]
    exact f.left_prob h0 x hx
  · rw [if_neg hx]
    exact f.left_zero h0 x hx

theorem right (x : Fin 128) :
    val_main_v67 (F := Ideal) (arg0 m c) (arg1 m c) (arg3 m c) (ix5 t g e r (Fin.natAdd 128 x))
      = if r < x then 0 else probability m c t ⟨8 * g.val + e.val, by omega⟩ r x := by
  refine (at67 _ _ _ t g e r _).trans ?_
  have f := folds (arg0 m c) (arg1 m c) t g e r
  have h0 := total_ne_zero m hpre c t ⟨8 * g.val + e.val, by omega⟩ r
  by_cases hx : r < x
  · rw [if_pos hx]
    exact f.right_zero h0 x hx
  · rw [if_neg hx]
    exact f.right_prob h0 x hx

theorem sink_part :
    val_main_v71 (F := Ideal) (arg0 m c) (arg1 m c) (arg3 m c) (ix5 t g e r 0)
      = Row.sunk (window (arg0 m c) (arg1 m c) t ⟨8 * g.val + e.val, by omega⟩ r) (arg3 m c (ix2 0 ⟨8 * g.val + e.val, by omega⟩)) :=
  (at71 _ _ _ t g e r).trans ((folds (arg0 m c) (arg1 m c) t g e r).sunk (total_ne_zero m hpre c t ⟨8 * g.val + e.val, by omega⟩ r))

/-- In the first block no key of a block before has any weight. -/
theorem first_zero (ht : ¬0 < t.val) (h : Fin 16) (x : Fin 128) (hx : r < x) : probability m c t h r x = 0 := by
  have h0 := total_ne_zero m hpre c t h r
  unfold probability Row.prob
  rw [show window (arg0 m c) (arg1 m c) t h r x = ⊥ from by unfold window; rw [if_pos hx, if_neg ht, bot_scaled], EReal.bot_sub, Ideal.exp_bot, zero_mul]

theorem mixes (d : Fin 64) :
    val_main_v92 (F := Ideal) (arg0 m c) (arg1 m c) (arg2 m c) (arg3 m c) (ix2 (at_ t r) ⟨64 * (8 * g.val + e.val) + d.val, by omega⟩)
      = mixture m c t ⟨8 * g.val + e.val, by omega⟩ r d := by
  refine (at92 _ _ _ _ t r g e d).trans ?_
  refine (Fin.sum_univ_add (a := 128) (b := 128) _).trans ?_
  have hg : (⟨(8 * g.val + e.val) / 8, by omega⟩ : Fin 2) = g := Fin.ext (by dsimp only; omega)
  unfold mixture
  dsimp only
  rw [hg]
  refine congrArg₂ (· + ·) (Finset.sum_congr rfl fun x _ => ?_) (Finset.sum_congr rfl fun x _ => ?_)
  · rw [left m hpre, at12_left, mul_comm]
    by_cases hx : r < x
    · by_cases ht : 0 < t.val
      · rw [if_pos hx, if_pos ht]
      · rw [if_pos hx, first_zero m hpre c t r ht _ x hx, zero_mul, zero_mul]
    · rw [if_neg hx, zero_mul, zero_mul]
  · rw [right m hpre, at12_right, mul_comm]

end

theorem value : Cert.algebraic_FwdIdeal_FwdRefIdeal_pre_finite_fwd := by
  intro m g m' g' hpre harg
  refine ⟨fun c => (dats m 0 c).arrAt 6 cfg0.N, fun c => (dats m 0 c).arrAt 7 cfg0.N, fun c => (dats m 0 c).arrAt 8 cfg0.N, ?_, ?_⟩
  · exact (θ_run defs _ _).mono (fun r h c => h c) (run_blocks m g)
  · refine (θ_run Cert.FwdRefIdeal.defs _ _).mono (fun r h c => ?_) (Cert.FwdRefIdeal.Value.run m' g')
    obtain ⟨h0, h1, h2, hr⟩ := h c
    obtain ⟨a0, a1, a2, a3⟩ := harg c
    refine ⟨h0.trans ?_, h1.trans ?_, h2.trans ?_, hr⟩
    · refine (val_main_v92_eq _ _).trans ?_
      rw [a0, a1, a2, a3]
      funext i
      obtain ⟨R, n, rfl⟩ : ∃ R n, i = ix2 R n := ⟨i 0, i 1, eq_ix2 i⟩
      obtain ⟨t, r, rfl⟩ : ∃ t r, R = at_ t r := ⟨⟨R.val / 128, by omega⟩, ⟨R.val % 128, by omega⟩, Fin.ext (by unfold at_; dsimp only; omega)⟩
      obtain ⟨k, e, d, rfl⟩ : ∃ (k : Fin 2) (e : Fin 8) (d : Fin 64), n = ⟨64 * (8 * k.val + e.val) + d.val, by omega⟩ :=
        ⟨⟨n.val / 512, by omega⟩, ⟨n.val / 64 % 8, by omega⟩, ⟨n.val % 64, by omega⟩, Fin.ext (by dsimp only; omega)⟩
      exact (mixes m hpre c t k e r d).trans (final6 m c t r ⟨8 * k.val + e.val, by omega⟩ d).symm
    · refine (val_main_v93_eq _ _).trans ?_
      rw [a0, a1, a3]
      funext i
      obtain ⟨t, j, x, rfl⟩ : ∃ t j x, i = ix3 t j x := ⟨i 0, i 1, i 2, eq_ix3 i⟩
      obtain ⟨k, r, rfl⟩ : ∃ k r, j = row k r := ⟨⟨j.val / 128, by omega⟩, ⟨j.val % 128, by omega⟩, Fin.ext (by unfold row; dsimp only; omega)⟩
      refine (at93 _ _ _ t k r x).trans (Eq.trans ?_ (final7 m c t k r x).symm)
      have hh : (⟨8 * (k.val / 8) + (k.val % 4 * 2 + k.val / 4 % 2), by omega⟩ : Fin 16) = head k := Fin.ext (by unfold head; dsimp only; omega)
      rw [left m hpre, right m hpre]
      dsimp only
      rw [hh]
      by_cases hx : r < x
      · rw [if_pos hx, if_pos hx]
      · rw [if_neg hx, if_neg hx]
    · refine (val_main_v91_eq _ _).trans ?_
      rw [a0, a1, a3]
      funext i
      obtain ⟨R, l, rfl⟩ : ∃ R l, i = ix2 R l := ⟨i 0, i 1, eq_ix2 i⟩
      obtain ⟨t, r, rfl⟩ : ∃ t r, R = at_ t r := ⟨⟨R.val / 128, by omega⟩, ⟨R.val % 128, by omega⟩, Fin.ext (by unfold at_; dsimp only; omega)⟩
      refine (at91 _ _ _ t r l).trans (Eq.trans ?_ (final8 m c t r l).symm)
      by_cases hl : l.val < 16
      · rw [dif_pos hl, dif_pos hl]
        refine (sink_part m hpre c t _ _ r).trans ?_
        have hh : (⟨8 * (l.val / 8) + l.val % 8, by omega⟩ : Fin 16) = ⟨l.val, hl⟩ := Fin.ext (by dsimp only; omega)
        dsimp only
        rw [hh]
      · rw [dif_neg hl, dif_neg hl]

/-- The reference leaves its arguments and its counters as they were. -/
theorem frame_ref : Cert.quiescent_FwdRefIdeal := fun m g _ =>
  (θ_run Cert.FwdRefIdeal.defs _ _).mono (fun r h => ⟨fun c => (h c).2.2.2, sem_eq_zero_of_no_sems (by decide) r.2⟩)
    (Cert.FwdRefIdeal.Value.run (F := Ideal) m g)

end Cert.FwdIdeal.Value

end
-- ==== Proof.Up.Kernel.lean ====
/-
  An FFN's two input products and its gate, read at an index: what a grid point (a slab of the hidden width and 1024 rows)
  leaves in its three output buffers, the blocks as parts of the arguments, and the three result arrays.
-/
module

public import proofs.«01_k».proof.Proof.Slab
public import proofs.«01_k».proof.Proof.Gen.UpIdeal.Value

@[expose] public section

noncomputable section

open Idealize.ShloMosaic Idealize.ShloMosaic.TcCoe Idealize.SL.Sem
open Idealize.ShloMosaic.Pipeline (Dat)

namespace Cert.UpIdeal.Value
open Cert.UpIdeal Cert.UpIdeal.Gen

variable (m : (ℓ : Loc nD τ sig) → Buf (Elt Ideal) ℓ)

/-- The norm's result. -/
abbrev arg0 (c : Dev nD) : FVec Ideal S8192x1024 .f32 := m ((c : Thread nD τ).loc main_arg0)
/-- The gate's weights. -/
abbrev arg1 (c : Dev nD) : FVec Ideal S2x1024x2816 .f32 := m ((c : Thread nD τ).loc main_arg1)
/-- The factor's weights. -/
abbrev arg2 (c : Dev nD) : FVec Ideal S2x1024x2816 .f32 := m ((c : Thread nD τ).loc main_arg2)

/-- An input product. -/
def prod (f : FVec Ideal S8192x1024 .f32) (w : FVec Ideal S2x1024x2816 .f32) (R : Fin 8192) (n : Fin 2816) : EReal :=
  ∑ k, f (ix2 R k) * w (ix3 1 k n)

/-- The gate. -/
def silu (z : EReal) : EReal := z * Ideal.logistic z

/-- The gate's derivative as the kernel writes it. -/
def dsilu (z : EReal) : EReal :=
  Ideal.logistic z * (Ideal.ofBits .f32 1065353216#32 + z * (Ideal.ofBits .f32 1065353216#32 - Ideal.logistic z))

/-! ## A grid point -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem logistic_at {S : Shape} (x : FVec Ideal S .f32) (i : S.Idx) : logistic x i = Ideal.logistic (x i) := rfl

/-- A block's product with a slab of a weight. -/
def blockProd (x : Vec Ideal S1024x1024 .bf16) (w : Vec Ideal S1x1x704x1024 .bf16) (r : Fin 1024) (n : Fin 704) : EReal :=
  ∑ k, x (ix2 r k) * w (ix4 0 0 n k)

variable (x0 : Vec Ideal S1024x1024 .bf16) (x1 x2 : Vec Ideal S1x1x704x1024 .bf16)

theorem gate_at (r : Fin 1024) (n : Fin 704) : k0_pay2 (F := Ideal) x0 x1 (ix2 r n) = blockProd x0 x1 r n := by
  unfold blockProd k0_pay2 k0_pay1
  pointwise [dot_S1024x1024_S704x1024_S1024x704_1_1_0_0_n_n]

theorem factor_at (r : Fin 1024) (n : Fin 704) : k0_pay3 (F := Ideal) x0 x2 (ix2 r n) = blockProd x0 x2 r n := gate_at x0 x2 r n

theorem out3 (r : Fin 1024) (n : Fin 704) : out0_3 (F := Ideal) x0 x1 x2 (ix3 0 r n) = silu (blockProd x0 x1 r n) := by
  unfold out0_3
  rw [View.canon_unit_zero hz3]
  simp only [View.ld_unit_zero (S := S1024x1024) hz2, View.ld_unit_zero (S := S1x1x704x1024) hz4]
  unfold k0_pay6 k0_pay5 k0_pay4 silu
  pointwise [gate_at, logistic_at]

theorem out4 (r : Fin 1024) (n : Fin 704) : out0_4 (F := Ideal) x0 x1 x2 (ix3 0 r n) = blockProd x0 x2 r n * dsilu (blockProd x0 x1 r n) := by
  unfold out0_4
  rw [View.canon_unit_zero hz3]
  simp only [View.ld_unit_zero (S := S1024x1024) hz2, View.ld_unit_zero (S := S1x1x704x1024) hz4]
  unfold k0_pay7 k0_pay4 dsilu
  pointwise [gate_at, factor_at, logistic_at]

theorem out5 (r : Fin 1024) (n : Fin 704) : out0_5 (F := Ideal) x0 x1 x2 (ix3 0 r n) = silu (blockProd x0 x1 r n) * blockProd x0 x2 r n := by
  unfold out0_5
  rw [View.canon_unit_zero hz3]
  simp only [View.ld_unit_zero (S := S1024x1024) hz2, View.ld_unit_zero (S := S1x1x704x1024) hz4]
  unfold k0_pay8 k0_pay5 k0_pay4 silu
  pointwise [gate_at, factor_at, logistic_at]

/-! ## The blocks -/

theorem index0 : ∀ t : Fin grid0.N, win0_0.index t = ![t.val % 8, 0] := by decide +kernel
theorem index1 : ∀ t : Fin grid0.N, win0_1.index t = ![t.val / 8, 1, 0, 0] := by decide +kernel
theorem index2 : ∀ t : Fin grid0.N, win0_2.index t = ![t.val / 8, 1, 0, 0] := by decide +kernel
theorem index3 : ∀ t : Fin grid0.N, win0_3.index t = ![t.val / 8, t.val % 8, 0] := by decide +kernel
theorem index4 : ∀ t : Fin grid0.N, win0_4.index t = ![t.val / 8, t.val % 8, 0] := by decide +kernel
theorem index5 : ∀ t : Fin grid0.N, win0_5.index t = ![t.val / 8, t.val % 8, 0] := by decide +kernel

/-- The point of slab `a` and row block `i`. -/
def point (a : Fin 4) (i : Fin 8) : Fin cfg0.N := ⟨a.val * 8 + i.val, by have : cfg0.N = 32 := N_0; omega⟩

/-- Row `r` of row block `i`, among all rows. -/
def at_ (i : Fin 8) (r : Fin 1024) : Fin 8192 := ⟨i.val * 1024 + r.val, by omega⟩

/-- A weight as the host prepares it: its hidden width in four slabs, transposed. -/
def slabs (w : FVec Ideal S2x1024x2816 .f32) : FVec Ideal S4x2x704x1024 .bf16 :=
  truncf (F := Ideal) .bf16 (transpose S4x2x704x1024 [2, 0, 3, 1] (shapeCast S2x1024x4x704 w shapeCasts_S2x1024x2816_S2x1024x4x704)
    transposes_S2x1024x4x704_S4x2x704x1024_2_0_3_1) bitsLt_bf16_f32

theorem slabs_apply (w : FVec Ideal S2x1024x2816 .f32) (a : Fin 4) (l : Fin 2) (x : Fin 704) (k : Fin 1024) :
    slabs w (ix4 a l x k) = w (ix3 l k ⟨a.val * 704 + x.val, by omega⟩) := by
  unfold slabs
  generalize hy : shapeCast S2x1024x4x704 w shapeCasts_S2x1024x2816_S2x1024x4x704 = y
  have e : ∀ l k a x, y (ix4 l k a x) = w (ix3 l k ⟨a.val * 704 + x.val, by omega⟩) := fun l k a x =>
    (congrFun hy _).symm.trans (shapeCast_apply w _ _ _ (by
      rw [Shape.rowMajor_val_three, Shape.rowMajor_val_four]
      show (l.val * 1024 + k.val) * 2816 + (a.val * 704 + x.val) = ((l.val * 1024 + k.val) * 4 + a.val) * 704 + x.val
      omega))
  pointwise [e]

theorem v0 (c : Dev nD) : V m c main_v0 = truncf (F := Ideal) .bf16 (arg0 m c) bitsLt_bf16_f32 := by
  unfold V
  after_results_simp

theorem v3 (c : Dev nD) : V m c main_v3 = slabs (arg1 m c) := by
  unfold V slabs
  after_results_simp
  rfl

theorem v6 (c : Dev nD) : V m c main_v6 = slabs (arg2 m c) := by
  unfold V slabs
  after_results_simp
  rfl

theorem blk0 (c : Dev nD) (a : Fin 4) (i : Fin 8) (r k : Fin 1024) :
    (iblk m c 0 (point a i) : Vec Ideal S1024x1024 .bf16) (ix2 r k) = arg0 m c (ix2 (at_ i r) k) := by
  refine Eq.trans ?_ (congrFun (v0 m c) (ix2 (at_ i r) k))
  unfold iblk
  rw [View.read_apply]
  show V m c main_v0 _ = _
  congr 1
  funext a'
  apply Fin.ext
  have hi := index0 (point a i)
  match a' with
  | ⟨0, _⟩ => show win0_0.index (point a i) 0 * 1024 + 1 * r.val = i.val * 1024 + r.val; rw [hi]; simp [point]
  | ⟨1, _⟩ => show win0_0.index (point a i) 1 * 1024 + 1 * k.val = k.val; rw [hi]; simp

theorem blk1 (c : Dev nD) (a : Fin 4) (i : Fin 8) (n : Fin 704) (k : Fin 1024) :
    (iblk m c 1 (point a i) : Vec Ideal S1x1x704x1024 .bf16) (ix4 0 0 n k) = arg1 m c (ix3 1 k ⟨a.val * 704 + n.val, by omega⟩) := by
  refine Eq.trans ?_ ((congrFun (v3 m c) (ix4 a 1 n k)).trans (slabs_apply _ a 1 n k))
  unfold iblk
  rw [View.read_apply]
  show V m c main_v3 _ = _
  congr 1
  funext a'
  apply Fin.ext
  have hi := index1 (point a i)
  match a' with
  | ⟨0, _⟩ => show win0_1.index (point a i) 0 * 1 + 1 * 0 = a.val; rw [hi]; simp [point]; omega
  | ⟨1, _⟩ => show win0_1.index (point a i) 1 * 1 + 1 * 0 = 1; rw [hi]; simp
  | ⟨2, _⟩ => show win0_1.index (point a i) 2 * 704 + 1 * n.val = n.val; rw [hi]; simp
  | ⟨3, _⟩ => show win0_1.index (point a i) 3 * 1024 + 1 * k.val = k.val; rw [hi]; simp

theorem blk2 (c : Dev nD) (a : Fin 4) (i : Fin 8) (n : Fin 704) (k : Fin 1024) :
    (iblk m c 2 (point a i) : Vec Ideal S1x1x704x1024 .bf16) (ix4 0 0 n k) = arg2 m c (ix3 1 k ⟨a.val * 704 + n.val, by omega⟩) := by
  refine Eq.trans ?_ ((congrFun (v6 m c) (ix4 a 1 n k)).trans (slabs_apply _ a 1 n k))
  unfold iblk
  rw [View.read_apply]
  show V m c main_v6 _ = _
  congr 1
  funext a'
  apply Fin.ext
  have hi := index2 (point a i)
  match a' with
  | ⟨0, _⟩ => show win0_2.index (point a i) 0 * 1 + 1 * 0 = a.val; rw [hi]; simp [point]; omega
  | ⟨1, _⟩ => show win0_2.index (point a i) 1 * 1 + 1 * 0 = 1; rw [hi]; simp
  | ⟨2, _⟩ => show win0_2.index (point a i) 2 * 704 + 1 * n.val = n.val; rw [hi]; simp
  | ⟨3, _⟩ => show win0_2.index (point a i) 3 * 1024 + 1 * k.val = k.val; rw [hi]; simp

theorem prod_eq (c : Dev nD) (w : FVec Ideal S2x1024x2816 .f32) (y : Vec Ideal S1x1x704x1024 .bf16) (a : Fin 4) (i : Fin 8) (r : Fin 1024) (n : Fin 704)
    (h : ∀ k, y (ix4 0 0 n k) = w (ix3 1 k ⟨a.val * 704 + n.val, by omega⟩)) :
    blockProd (iblk m c 0 (point a i)) y r n = prod (arg0 m c) w (at_ i r) ⟨a.val * 704 + n.val, by omega⟩ := by
  have e := blk0 m c a i r
  unfold blockProd prod
  generalize (iblk m c 0 (point a i) : Vec Ideal S1024x1024 .bf16) = x at e ⊢
  exact Finset.sum_congr rfl fun k _ => by rw [e, h]

/-! ## The results -/

/-- The row block of a row. -/
abbrev rowBlock (R : Fin 8192) : Fin 8 := ⟨R.val / 1024, by have := R.isLt; omega⟩
/-- The row's place in its block. -/
abbrev inBlock (R : Fin 8192) : Fin 1024 := ⟨R.val % 1024, by omega⟩

theorem at_block (R : Fin 8192) : at_ (rowBlock R) (inBlock R) = R := Fin.ext (by unfold at_; dsimp only; omega)

theorem final3 (c : Dev nD) (a : Fin 4) (R : Fin 8192) (n : Fin 704) :
    (dats m 0 c).arrAt 3 cfg0.N (ix3 a R n) = silu (prod (arg0 m c) (arg1 m c) R ⟨a.val * 704 + n.val, by omega⟩) := by
  have h := congrFun (blocks3 m c (point a (rowBlock R)) (flush0_3 _)) (ix3 0 (inBlock R) n)
  rw [View.read_apply, flushed3] at h
  have e := out3 (iblk m c 0 (point a (rowBlock R))) (iblk m c 1 (point a (rowBlock R))) (iblk m c 2 (point a (rowBlock R))) (inBlock R) n
  rw [prod_eq m c (arg1 m c) _ a _ _ n (blk1 m c a _ n), at_block] at e
  rw [← e]
  refine Eq.trans (congrArg _ ?_) h
  funext a'
  apply Fin.ext
  have hi := index3 (point a (rowBlock R))
  match a' with
  | ⟨0, _⟩ => show a.val = win0_3.index (point a _) 0 * 1 + 1 * 0; rw [hi]; simp [point]; omega
  | ⟨1, _⟩ => show R.val = win0_3.index (point a _) 1 * 1024 + 1 * (R.val % 1024); rw [hi]; simp [point]; omega
  | ⟨2, _⟩ => show n.val = win0_3.index (point a _) 2 * 704 + 1 * n.val; rw [hi]; simp

theorem final4 (c : Dev nD) (a : Fin 4) (R : Fin 8192) (n : Fin 704) :
    (dats m 0 c).arrAt 4 cfg0.N (ix3 a R n) = prod (arg0 m c) (arg2 m c) R ⟨a.val * 704 + n.val, by omega⟩ * dsilu (prod (arg0 m c) (arg1 m c) R ⟨a.val * 704 + n.val, by omega⟩) := by
  have h := congrFun (blocks4 m c (point a (rowBlock R)) (flush0_4 _)) (ix3 0 (inBlock R) n)
  rw [View.read_apply, flushed4] at h
  have e := out4 (iblk m c 0 (point a (rowBlock R))) (iblk m c 1 (point a (rowBlock R))) (iblk m c 2 (point a (rowBlock R))) (inBlock R) n
  rw [prod_eq m c (arg1 m c) _ a _ _ n (blk1 m c a _ n), prod_eq m c (arg2 m c) _ a _ _ n (blk2 m c a _ n), at_block] at e
  rw [← e]
  refine Eq.trans (congrArg _ ?_) h
  funext a'
  apply Fin.ext
  have hi := index4 (point a (rowBlock R))
  match a' with
  | ⟨0, _⟩ => show a.val = win0_4.index (point a _) 0 * 1 + 1 * 0; rw [hi]; simp [point]; omega
  | ⟨1, _⟩ => show R.val = win0_4.index (point a _) 1 * 1024 + 1 * (R.val % 1024); rw [hi]; simp [point]; omega
  | ⟨2, _⟩ => show n.val = win0_4.index (point a _) 2 * 704 + 1 * n.val; rw [hi]; simp

theorem final5 (c : Dev nD) (a : Fin 4) (R : Fin 8192) (n : Fin 704) :
    (dats m 0 c).arrAt 5 cfg0.N (ix3 a R n) = silu (prod (arg0 m c) (arg1 m c) R ⟨a.val * 704 + n.val, by omega⟩) * prod (arg0 m c) (arg2 m c) R ⟨a.val * 704 + n.val, by omega⟩ := by
  have h := congrFun (blocks5 m c (point a (rowBlock R)) (flush0_5 _)) (ix3 0 (inBlock R) n)
  rw [View.read_apply, flushed5] at h
  have e := out5 (iblk m c 0 (point a (rowBlock R))) (iblk m c 1 (point a (rowBlock R))) (iblk m c 2 (point a (rowBlock R))) (inBlock R) n
  rw [prod_eq m c (arg1 m c) _ a _ _ n (blk1 m c a _ n), prod_eq m c (arg2 m c) _ a _ _ n (blk2 m c a _ n), at_block] at e
  rw [← e]
  refine Eq.trans (congrArg _ ?_) h
  funext a'
  apply Fin.ext
  have hi := index5 (point a (rowBlock R))
  match a' with
  | ⟨0, _⟩ => show a.val = win0_5.index (point a _) 0 * 1 + 1 * 0; rw [hi]; simp [point]; omega
  | ⟨1, _⟩ => show R.val = win0_5.index (point a _) 1 * 1024 + 1 * (R.val % 1024); rw [hi]; simp [point]; omega
  | ⟨2, _⟩ => show n.val = win0_5.index (point a _) 2 * 704 + 1 * n.val; rw [hi]; simp

end Cert.UpIdeal.Value

end
-- ==== Proof.Up.Value.lean ====
/-
  An FFN's two input products and its gate: the reference's results at an index, with the gate's derivative by the chain
  rule, and that both programs end with the same three results.
-/
module

public import proofs.«01_k».proof.Defs
public import proofs.«01_k».proof.Proof.Up.Kernel
public import proofs.«01_k».proof.Proof.Gen.UpRefIdeal.Read
public import proofs.«01_k».proof.Proof.Gen.Pre_finite_up

@[expose] public section

noncomputable section

open Idealize.ShloMosaic Idealize.ShloMosaic.TcCoe Idealize.SL.Sem

namespace Cert.UpRefIdeal.Read
open Cert.UpRefIdeal Cert.UpRefIdeal.Gen
open Cert.UpIdeal.Value (prod silu dsilu)

variable (x0 : FVec Ideal S8192x1024 .f32) (x1 x2 : FVec Ideal S2x1024x2816 .f32)

theorem bits_one : Ideal.ofBits .f32 1065353216#32 = ((1 : ℝ) : EReal) := by
  simp [Ideal.ofBits, Ideal.ieee]; rw [← EReal.coe_mul]; norm_num

theorem at5 (R : Fin 8192) (n : Fin 2816) : val_main_v5 (F := Ideal) x0 x1 (ix2 R n) = prod x0 x1 R n := by
  unfold val_main_v5 val_main_v4 val_main_v3 prod
  pointwise [dot_S8192x1024_S1024x2816_S8192x2816_1_0_0_1_n_n]

theorem at2 (R : Fin 8192) (n : Fin 2816) : val_main_v2 (F := Ideal) x0 x2 (ix2 R n) = prod x0 x2 R n := at5 x0 x2 R n

theorem sig_at (R : Fin 8192) (n : Fin 2816) : val_main_v6_2 (F := Ideal) x0 x1 (ix2 R n) = Ideal.logistic (prod x0 x1 R n) := by
  unfold val_main_v6_2 val_main_call0_v4 val_main_call0_v3 val_main_call0_v2 val_main_call0_v1 val_main_call0_v0 val_main_call0_cst val_main_call0_cst_0 Ideal.logistic
  pointwise [at5]

/-- The factor through the gate's derivative by the chain rule. -/
def chain (g s p : EReal) : EReal := p * s + g * p * (s * (Ideal.ofBits .f32 1065353216#32 - s))

theorem at10 (R : Fin 8192) (n : Fin 2816) :
    val_main_v10 (F := Ideal) x0 x1 x2 (ix2 R n) = chain (prod x0 x1 R n) (Ideal.logistic (prod x0 x1 R n)) (prod x0 x2 R n) := by
  unfold val_main_v10 val_main_call1_v2 val_main_call1_v1 val_main_call1_v0 val_main_v6_1 val_main_call0_v7 val_main_call0_v6 val_main_call0_cst_1 chain
  pointwise [at2, at5, sig_at]

theorem at9 (a : Fin 4) (R : Fin 8192) (n : Fin 704) :
    val_main_v9 (F := Ideal) x0 x1 (ix3 a R n) = silu (prod x0 x1 R ⟨a.val * 704 + n.val, by omega⟩) := by
  unfold val_main_v9 val_main_v8 val_main_v7 val_main_v6_0 silu
  pointwise [at5, sig_at]

theorem at13 (a : Fin 4) (R : Fin 8192) (n : Fin 704) :
    val_main_v13 (F := Ideal) x0 x1 x2 (ix3 a R n) = chain (prod x0 x1 R ⟨a.val * 704 + n.val, by omega⟩)
      (Ideal.logistic (prod x0 x1 R ⟨a.val * 704 + n.val, by omega⟩)) (prod x0 x2 R ⟨a.val * 704 + n.val, by omega⟩) := by
  unfold val_main_v13 val_main_v12 val_main_v11
  pointwise [at10]

theorem at17 (a : Fin 4) (R : Fin 8192) (n : Fin 704) :
    val_main_v17 (F := Ideal) x0 x1 x2 (ix3 a R n) = silu (prod x0 x1 R ⟨a.val * 704 + n.val, by omega⟩) * prod x0 x2 R ⟨a.val * 704 + n.val, by omega⟩ := by
  unfold val_main_v17 val_main_v16 val_main_v15 val_main_v14 val_main_v6_0 silu
  pointwise [at2, at5, sig_at]

end Cert.UpRefIdeal.Read

namespace Cert.UpIdeal.Value
open Cert.UpIdeal Cert.UpIdeal.Gen
open Cert.UpRefIdeal.Read

variable (m : (ℓ : Loc nD τ sig) → Buf (Elt Ideal) ℓ)

theorem logistic_coe (z : ℝ) : ∃ s : ℝ, Ideal.logistic (z : EReal) = (s : EReal) := by
  refine ⟨1 / (1 + Real.exp (-z)), ?_⟩
  have hp : (1 + Real.exp (-z)) ≠ 0 := by positivity
  unfold Ideal.logistic
  rw [← EReal.coe_neg, show Ideal.exp ((-z : ℝ) : EReal) = ((Real.exp (-z) : ℝ) : EReal) from rfl, ← EReal.coe_one, ← EReal.coe_add, Lift.div_coe hp]

/-- On finite arguments the chain rule's derivative is the kernel's. -/
theorem chain_agrees (hpre : Cert.Pre_UpIdeal_finite_up m) (c : Dev nD) (R : Fin 8192) (n : Fin 2816) :
    chain (prod (arg0 m c) (arg1 m c) R n) (Ideal.logistic (prod (arg0 m c) (arg1 m c) R n)) (prod (arg0 m c) (arg2 m c) R n)
      = prod (arg0 m c) (arg2 m c) R n * dsilu (prod (arg0 m c) (arg1 m c) R n) := by
  unfold chain dsilu arg0 arg1 arg2
  obtain ⟨h0, h1, h2⟩ := hpre c
  obtain ⟨X0, e0⟩ := Lift.exists_real h0
  obtain ⟨X1, e1⟩ := Lift.exists_real h1
  obtain ⟨X2, e2⟩ := Lift.exists_real h2
  rw [e0, e1, e2]
  simp only [prod, ← EReal.coe_mul, Lift.coe_sum]
  generalize (∑ k, X0 (ix2 R k) * X1 (ix3 1 k n)) = g
  generalize (∑ k, X0 (ix2 R k) * X2 (ix3 1 k n)) = p
  obtain ⟨s, hs⟩ := logistic_coe g
  simp only [hs, bits_one, ← EReal.coe_mul, ← EReal.coe_add, ← EReal.coe_sub]
  congr 1
  ring

theorem value : Cert.algebraic_UpIdeal_UpRefIdeal_pre_finite_up := by
  intro m g m' g' hpre harg
  refine ⟨fun c => (dats m 0 c).arrAt 3 cfg0.N, fun c => (dats m 0 c).arrAt 4 cfg0.N, fun c => (dats m 0 c).arrAt 5 cfg0.N, run_blocks m g, ?_⟩
  refine (θ_run Cert.UpRefIdeal.defs _ _).mono (fun r h c => ?_) (Cert.UpRefIdeal.Value.run m' g')
  obtain ⟨h0, h1, h2, hr⟩ := h c
  obtain ⟨a0, a1, a2⟩ := harg c
  refine ⟨h0.trans ?_, h1.trans ?_, h2.trans ?_, hr⟩
  · refine (val_main_v9_eq _ _).trans ?_
    rw [a0, a1]
    funext i
    obtain ⟨a, R, n, rfl⟩ : ∃ a R n, i = ix3 a R n := ⟨i 0, i 1, i 2, eq_ix3 i⟩
    exact (at9 _ _ a R n).trans (final3 m c a R n).symm
  · refine (val_main_v13_eq _ _ _).trans ?_
    rw [a0, a1, a2]
    funext i
    obtain ⟨a, R, n, rfl⟩ : ∃ a R n, i = ix3 a R n := ⟨i 0, i 1, i 2, eq_ix3 i⟩
    exact (at13 _ _ _ a R n).trans ((chain_agrees m hpre c R _).trans (final4 m c a R n).symm)
  · refine (val_main_v17_eq _ _ _).trans ?_
    rw [a0, a1, a2]
    funext i
    obtain ⟨a, R, n, rfl⟩ : ∃ a R n, i = ix3 a R n := ⟨i 0, i 1, i 2, eq_ix3 i⟩
    exact (at17 _ _ _ a R n).trans (final5 m c a R n).symm

/-- The reference leaves its arguments and its counters as they were. -/
theorem frame_ref : Cert.quiescent_UpRefIdeal := fun m g _ =>
  (θ_run Cert.UpRefIdeal.defs _ _).mono (fun r h => ⟨fun c => (h c).2.2.2, sem_eq_zero_of_no_sems (by decide) r.2⟩)
    (Cert.UpRefIdeal.Value.run (F := Ideal) m g)

end Cert.UpIdeal.Value

end
-- ==== Proof.Pw1.Kernel.lean ====
/-
  The norm in front of the convolution and its input product, read at an index: what a grid point leaves in its two
  output buffers, the blocks as parts of the arguments, and the two result arrays.
-/
module

public import proofs.«01_k».proof.Proof.Norm
public import proofs.«01_k».proof.Proof.Gen.Pw1Ideal.Value
public import Idealize.ShloMosaic.Lib.Pipeline.ReadBack
public import Idealize.ShloMosaic.Lib.Pipeline.ValueKit.Tiles

@[expose] public section

noncomputable section

open Idealize.ShloMosaic Idealize.ShloMosaic.TcCoe Idealize.SL.Sem
open Idealize.ShloMosaic.Pipeline (Dat)

namespace Cert.Pw1Ideal.Value
open Cert.Pw1Ideal Cert.Pw1Ideal.Gen

variable (m : (ℓ : Loc nD τ sig) → Buf (Elt Ideal) ℓ)

/-- The norm's argument. -/
abbrev arg0 (c : Dev nD) : FVec Ideal S8192x1024 .f32 := m ((c : Thread nD τ).loc main_arg0)
/-- The norms' gains. -/
abbrev arg1 (c : Dev nD) : FVec Ideal S2x1024 .f32 := m ((c : Thread nD τ).loc main_arg1)
/-- The weights. -/
abbrev arg2 (c : Dev nD) : FVec Ideal S1x1024x2048 .f32 := m ((c : Thread nD τ).loc main_arg2)
/-- The bias. -/
abbrev arg3 (c : Dev nD) : FVec Ideal S1x2048 .f32 := m ((c : Thread nD τ).loc main_arg3)

/-- The norm of a row. -/
def normed (x g : Fin 1024 → EReal) (j : Fin 1024) : EReal := x j * Norm.rstd x * g j

/-- The norm's result. -/
def yrow (a0 : FVec Ideal S8192x1024 .f32) (a1 : FVec Ideal S2x1024 .f32) (R : Fin 8192) (j : Fin 1024) : EReal :=
  normed (fun k => a0 (ix2 R k)) (fun k => a1 (ix2 1 k)) j

/-- The product's result. -/
def arow (a0 : FVec Ideal S8192x1024 .f32) (a1 : FVec Ideal S2x1024 .f32) (a2 : FVec Ideal S1x1024x2048 .f32) (a3 : FVec Ideal S1x2048 .f32)
    (R : Fin 8192) (n : Fin 2048) : EReal :=
  (∑ k, yrow a0 a1 R k * a2 (ix3 0 k n)) + a3 (ix2 0 n)

/-! ## A grid point -/

theorem hz : (![0, 0] : Fin 2 → Nat) = fun _ => 0 := funext fun a => by fin_cases a <;> rfl

variable (x0 : Vec Ideal S512x1024 .f32) (x1 : Vec Ideal S1x1024 .f32) (x2 : Vec Ideal S4x1024x512 .bf16) (x3 : Vec Ideal S1x2048 .f32)

theorem normed_at (r : Fin 512) (j : Fin 1024) : k0_pay3 (F := Ideal) x0 x1 (ix2 r j) = normed (fun k => x0 (ix2 r k)) (fun k => x1 (ix2 0 k)) j := by
  unfold k0_pay3 normed Norm.rstd
  pointwise

theorem out4 (r : Fin 512) (j : Fin 1024) : out0_4 (F := Ideal) x0 x1 x2 x3 (ix2 r j) = normed (fun k => x0 (ix2 r k)) (fun k => x1 (ix2 0 k)) j := by
  unfold out0_4
  rw [View.canon_unit_zero hz]
  simp only [View.ld_unit_zero (S := S512x1024) hz, View.ld_unit_zero (S := S1x1024) hz]
  exact normed_at x0 x1 r j

/-- A quarter of the product's columns. -/
theorem quarter (y : FVec Ideal S512x1024 .bf16) (w : Vec Ideal S1x1024x512 .bf16) (b : Vec Ideal S1x512 .f32) (r n : Fin 512) :
    k0_pay1 (F := Ideal) y w b (ix2 r n) = (∑ k, y (ix2 r k) * w (ix3 0 k n)) + b (ix2 0 n) := by
  unfold k0_pay1
  pointwise [dot_S512x1024_S1024x512_S512x512_1_0_0_1_n_n]

theorem ld_quarter (x : Vec Ideal S4x1024x512 .bf16) (o : ℕ) (a : Fin 4) (h : o = a.val) (hb) (k : Fin 1024) (n : Fin 512) :
    View.ld x (Rect.unit (s := S4x1024x512) ![o, 0, 0] S1x1024x512.size hb) (ix3 0 k n) = x (ix3 a k n) := by
  subst h
  rw [View.ld_unit]
  refine congrArg x (funext fun b => Fin.ext ?_)
  fin_cases b
  · show a.val + 0 = a.val; omega
  · show 0 + k.val = k.val; omega
  · show 0 + n.val = n.val; omega

theorem ld_bias (x : Vec Ideal S1x2048 .f32) (o : ℕ) (a : Fin 4) (h : o = a.val * 512) (hb) (n : Fin 512) :
    View.ld x (Rect.unit (s := S1x2048) ![0, o] S1x512.size hb) (ix2 0 n) = x (ix2 0 ⟨a.val * 512 + n.val, by omega⟩) := by
  subst h
  rw [View.ld_unit]
  refine congrArg x (funext fun b => Fin.ext ?_)
  fin_cases b
  · rfl
  · rfl

theorem quarter_at (o o' : ℕ) (a : Fin 4) (h : o = a.val) (h' : o' = a.val * 512) (hb) (hb') (r n : Fin 512) :
    k0_pay1 (F := Ideal) (k0_pay3 (F := Ideal) x0 x1) (View.ld x2 (Rect.unit (s := S4x1024x512) ![o, 0, 0] S1x1024x512.size hb))
      (View.ld x3 (Rect.unit (s := S1x2048) ![0, o'] S1x512.size hb')) (ix2 r n)
      = (∑ k, normed (fun k => x0 (ix2 r k)) (fun k => x1 (ix2 0 k)) k * x2 (ix3 a k n)) + x3 (ix2 0 ⟨a.val * 512 + n.val, by omega⟩) := by
  rw [quarter, ld_bias x3 o' a h' hb' n]
  exact congrArg₂ (· + ·) (Finset.sum_congr rfl fun k _ => by rw [normed_at, ld_quarter x2 o a h hb k n]) rfl

theorem out5 (a : Fin 4) (r n : Fin 512) : out0_5 (F := Ideal) x0 x1 x2 x3 (ix2 r ⟨a.val * 512 + n.val, by omega⟩)
    = (∑ k, normed (fun k => x0 (ix2 r k)) (fun k => x1 (ix2 0 k)) k * x2 (ix3 a k n)) + x3 (ix2 0 ⟨a.val * 512 + n.val, by omega⟩) := by
  unfold out0_5 k0_pay6
  simp only [View.ld_unit_zero (S := S512x1024) hz, View.ld_unit_zero (S := S1x1024) hz]
  canon_tiles
  · obtain ⟨p, q, rfl⟩ : ∃ (p q : Fin 512), x = ix2 p q := ⟨x 0, x 1, eq_ix2 x⟩
    obtain rfl : r = p := Fin.ext h0
    have h : a.val * 512 + n.val = 1536 + q.val := h1
    obtain rfl : a = 3 := Fin.ext (by show a.val = 3; omega)
    obtain rfl : n = q := Fin.ext (by change 3 * 512 + n.val = 1536 + q.val at h; omega)
    exact quarter_at x0 x1 x2 x3 3 1536 3 rfl rfl _ _ r n
  · obtain ⟨p, q, rfl⟩ : ∃ (p q : Fin 512), x = ix2 p q := ⟨x 0, x 1, eq_ix2 x⟩
    obtain rfl : r = p := Fin.ext h0
    have h : a.val * 512 + n.val = 1024 + q.val := h1
    obtain rfl : a = 2 := Fin.ext (by show a.val = 2; omega)
    obtain rfl : n = q := Fin.ext (by change 2 * 512 + n.val = 1024 + q.val at h; omega)
    exact quarter_at x0 x1 x2 x3 2 1024 2 rfl rfl _ _ r n
  · obtain ⟨p, q, rfl⟩ : ∃ (p q : Fin 512), x = ix2 p q := ⟨x 0, x 1, eq_ix2 x⟩
    obtain rfl : r = p := Fin.ext h0
    have h : a.val * 512 + n.val = 512 + q.val := h1
    obtain rfl : a = 1 := Fin.ext (by show a.val = 1; omega)
    obtain rfl : n = q := Fin.ext (by change 1 * 512 + n.val = 512 + q.val at h; omega)
    exact quarter_at x0 x1 x2 x3 1 512 1 rfl rfl _ _ r n
  · obtain ⟨p, q, rfl⟩ : ∃ (p q : Fin 512), x = ix2 p q := ⟨x 0, x 1, eq_ix2 x⟩
    obtain rfl : r = p := Fin.ext h0
    have h : a.val * 512 + n.val = 0 + q.val := h1.trans (Nat.zero_add _).symm
    obtain rfl : a = 0 := Fin.ext (by show a.val = 0; omega)
    obtain rfl : n = q := Fin.ext (by change 0 * 512 + n.val = 0 + q.val at h; omega)
    exact quarter_at x0 x1 x2 x3 0 0 0 rfl rfl _ _ r n

/-! ## The blocks -/

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0, 0] := by decide +kernel
theorem index3 : ∀ t : Fin grid0.N, win0_3.index t = ![0, 0] := by decide +kernel
theorem index4 : ∀ t : Fin grid0.N, win0_4.index t = ![t.val, 0] := by decide +kernel
theorem index5 : ∀ t : Fin grid0.N, win0_5.index t = ![t.val, 0] := by decide +kernel

/-- Row `r` of point `t`'s block, among all rows. -/
def at_ (t : Fin cfg0.N) (r : Fin 512) : Fin 8192 := ⟨t.val * 512 + r.val, by have := t.isLt; have : cfg0.N = 16 := N_0; omega⟩

/-- The point whose block a row lies in. -/
def point (R : Fin 8192) : Fin cfg0.N := ⟨R.val / 512, by have := R.isLt; have : cfg0.N = 16 := N_0; omega⟩
/-- The row's place in its block. -/
abbrev inBlock (R : Fin 8192) : Fin 512 := ⟨R.val % 512, by omega⟩

theorem at_block (R : Fin 8192) : at_ (point R) (inBlock R) = R := Fin.ext (by unfold at_ point; dsimp only; omega)

theorem v0 (c : Dev nD) (j : Fin 1024) : V m c main_v0 (ix2 0 j) = arg1 m c (ix2 1 j) := by
  have e : V m c main_v0 = extractStridedSlice S1x1024 ![1, 0] (arg1 m c) slices_S2x1024_S1x1024_1_0 := by
    unfold V
    after_results_simp
  rw [e]
  pointwise

theorem v4 (c : Dev nD) (a : Fin 4) (k : Fin 1024) (n : Fin 512) : V m c main_v4 (ix3 a k n) = arg2 m c (ix3 0 k ⟨a.val * 512 + n.val, by omega⟩) := by
  have e : V m c main_v4 = truncf (F := Ideal) .bf16 (transpose S4x1024x512 [1, 0, 2] (shapeCast S1024x4x512 (shapeCast S1024x2048 (arg2 m c)
      shapeCasts_S1x1024x2048_S1024x2048) shapeCasts_S1024x2048_S1024x4x512) transposes_S1024x4x512_S4x1024x512_1_0_2) bitsLt_bf16_f32 := by
    unfold V
    after_results_simp
    rfl
  rw [e]
  pointwise

theorem blk0 (c : Dev nD) (t : Fin cfg0.N) (r : Fin 512) (j : Fin 1024) : (iblk m c 0 t : Vec Ideal S512x1024 .f32) (ix2 r j) = arg0 m c (ix2 (at_ t r) j) := by
  refine Eq.trans ?_ (congrFun (V_main_arg0 m c) _)
  unfold iblk
  rw [View.read_apply]
  show V m c main_arg0 _ = _
  congr 1
  funext a'
  apply Fin.ext
  have hi := index0 t
  match a' with
  | ⟨0, _⟩ => show win0_0.index t 0 * 512 + 1 * r.val = t.val * 512 + r.val; rw [hi]; simp
  | ⟨1, _⟩ => show win0_0.index t 1 * 1024 + 1 * j.val = j.val; rw [hi]; simp

theorem blk1 (c : Dev nD) (t : Fin cfg0.N) (j : Fin 1024) : (iblk m c 1 t : Vec Ideal S1x1024 .f32) (ix2 0 j) = arg1 m c (ix2 1 j) := by
  rw [← v0]
  unfold iblk
  rw [View.read_apply]
  show V m c main_v0 _ = _
  congr 1
  funext a'
  apply Fin.ext
  have hi := index1 t
  match a' with
  | ⟨0, _⟩ => show win0_1.index t 0 * 1 + 1 * 0 = 0; rw [hi]; simp
  | ⟨1, _⟩ => show win0_1.index t 1 * 1024 + 1 * j.val = j.val; rw [hi]; simp

theorem blk2 (c : Dev nD) (t : Fin cfg0.N) (a : Fin 4) (k : Fin 1024) (n : Fin 512) :
    (iblk m c 2 t : Vec Ideal S4x1024x512 .bf16) (ix3 a k n) = arg2 m c (ix3 0 k ⟨a.val * 512 + n.val, by omega⟩) := by
  rw [← v4]
  unfold iblk
  rw [View.read_apply]
  show V m c main_v4 _ = _
  congr 1
  funext a'
  apply Fin.ext
  have hi := index2 t
  match a' with
  | ⟨0, _⟩ => show win0_2.index t 0 * 4 + 1 * a.val = a.val; rw [hi]; simp
  | ⟨1, _⟩ => show win0_2.index t 1 * 1024 + 1 * k.val = k.val; rw [hi]; simp
  | ⟨2, _⟩ => show win0_2.index t 2 * 512 + 1 * n.val = n.val; rw [hi]; simp

theorem blk3 (c : Dev nD) (t : Fin cfg0.N) (n : Fin 2048) : (iblk m c 3 t : Vec Ideal S1x2048 .f32) (ix2 0 n) = arg3 m c (ix2 0 n) := by
  refine Eq.trans ?_ (congrFun (V_main_arg3 m c) _)
  unfold iblk
  rw [View.read_apply]
  show V m c main_arg3 _ = _
  congr 1
  funext a'
  apply Fin.ext
  have hi := index3 t
  match a' with
  | ⟨0, _⟩ => show win0_3.index t 0 * 1 + 1 * 0 = 0; rw [hi]; simp
  | ⟨1, _⟩ => show win0_3.index t 1 * 2048 + 1 * n.val = n.val; rw [hi]; simp

theorem row_eq (c : Dev nD) (t : Fin cfg0.N) (r : Fin 512) :
    normed (fun k => (iblk m c 0 t : Vec Ideal S512x1024 .f32) (ix2 r k)) (fun k => (iblk m c 1 t : Vec Ideal S1x1024 .f32) (ix2 0 k))
      = yrow (arg0 m c) (arg1 m c) (at_ t r) := by
  unfold yrow
  have e0 := funext (blk0 m c t r)
  have e1 := funext (blk1 m c t)
  rw [e0, e1]

/-! ## The results -/

theorem final4 (c : Dev nD) (R : Fin 8192) (j : Fin 1024) : (dats m 0 c).arrAt 4 cfg0.N (ix2 R j) = yrow (arg0 m c) (arg1 m c) R j := by
  have h := congrFun (blocks4 m c (point R) (flush0_4 _)) (ix2 (inBlock R) j)
  rw [View.read_apply, flushed4] at h
  have e := (out4 (iblk m c 0 (point R)) (iblk m c 1 (point R)) (iblk m c 2 (point R)) (iblk m c 3 (point R)) (inBlock R) j).trans (congrFun (row_eq m c _ _) j)
  rw [at_block] at e
  rw [← e]
  refine Eq.trans (congrArg _ ?_) h
  funext a'
  apply Fin.ext
  have hi := index4 (point R)
  match a' with
  | ⟨0, _⟩ => show R.val = win0_4.index (point R) 0 * 512 + 1 * (R.val % 512); rw [hi]; simp [point]; omega
  | ⟨1, _⟩ => show j.val = win0_4.index (point R) 1 * 1024 + 1 * j.val; rw [hi]; simp

theorem final5 (c : Dev nD) (R : Fin 8192) (a : Fin 4) (n : Fin 512) : (dats m 0 c).arrAt 5 cfg0.N (ix2 R ⟨a.val * 512 + n.val, by omega⟩)
    = arow (arg0 m c) (arg1 m c) (arg2 m c) (arg3 m c) R ⟨a.val * 512 + n.val, by omega⟩ := by
  have h := congrFun (blocks5 m c (point R) (flush0_5 _)) (ix2 (inBlock R) ⟨a.val * 512 + n.val, by omega⟩)
  rw [View.read_apply, flushed5] at h
  have e := out5 (iblk m c 0 (point R)) (iblk m c 1 (point R)) (iblk m c 2 (point R)) (iblk m c 3 (point R)) a (inBlock R) n
  rw [row_eq, at_block, blk3] at e
  have e' : arow (arg0 m c) (arg1 m c) (arg2 m c) (arg3 m c) R ⟨a.val * 512 + n.val, by omega⟩ = _ :=
    (congrArg₂ (· + ·) (Finset.sum_congr rfl fun k _ => congrArg₂ (· * ·) rfl (blk2 m c (point R) a k n).symm) rfl).trans e.symm
  rw [e']
  refine Eq.trans (congrArg _ ?_) h
  funext a'
  apply Fin.ext
  have hi := index5 (point R)
  match a' with
  | ⟨0, _⟩ => show R.val = win0_5.index (point R) 0 * 512 + 1 * (R.val % 512); rw [hi]; simp [point]; omega
  | ⟨1, _⟩ => show a.val * 512 + n.val = win0_5.index (point R) 1 * 2048 + 1 * (a.val * 512 + n.val); rw [hi]; simp

end Cert.Pw1Ideal.Value

end
-- ==== Proof.Pw1.Value.lean ====
/-
  The norm in front of the convolution and its input product: the reference's results at an index, and that both programs
  end with the same two results.
-/
module

public import proofs.«01_k».proof.Defs
public import proofs.«01_k».proof.Proof.Pw1.Kernel
public import proofs.«01_k».proof.Proof.Gen.Pw1RefIdeal.Read

@[expose] public section

noncomputable section

open Idealize.ShloMosaic Idealize.ShloMosaic.TcCoe Idealize.SL.Sem

namespace Cert.Pw1RefIdeal.Read
open Cert.Pw1RefIdeal Cert.Pw1RefIdeal.Gen
open Cert.Pw1Ideal.Value (normed yrow arow)

variable (x0 : FVec Ideal S8192x1024 .f32) (x1 : FVec Ideal S2x1024 .f32) (x2 : FVec Ideal S1x1024x2048 .f32) (x3 : FVec Ideal S1x2048 .f32)

theorem at14 (R : Fin 8192) (j : Fin 1024) : val_main_v14 (F := Ideal) x0 x1 (ix2 R j) = yrow x0 x1 R j := by
  unfold val_main_v14 val_main_v13 val_main_v12 val_main_v11 val_main_v10 val_main_v9 val_main_v8 val_main_v7 val_main_v6 val_main_v5 val_main_v4 val_main_v3
    val_main_v2 val_main_v1 val_main_v0 val_main_cst val_main_cst_0 val_main_cst_1 yrow normed Norm.rstd
  pointwise

theorem at19 (R : Fin 8192) (n : Fin 2048) : val_main_v19 (F := Ideal) x0 x1 x2 x3 (ix2 R n) = arow x0 x1 x2 x3 R n := by
  unfold val_main_v19 val_main_v18 val_main_v17 val_main_v16 arow
  pointwise [at14, dot_S8192x1024_S1024x2048_S8192x2048_1_0_0_1_n_n]

end Cert.Pw1RefIdeal.Read

namespace Cert.Pw1Ideal.Value
open Cert.Pw1Ideal Cert.Pw1Ideal.Gen
open Cert.Pw1RefIdeal.Read

theorem value : Cert.algebraic_Pw1Ideal_Pw1RefIdeal := by
  intro m g m' g' _ harg
  refine ⟨fun c => (dats m 0 c).arrAt 4 cfg0.N, fun c => (dats m 0 c).arrAt 5 cfg0.N, run_blocks m g, ?_⟩
  refine (θ_run Cert.Pw1RefIdeal.defs _ _).mono (fun r h c => ?_) (Cert.Pw1RefIdeal.Value.run m' g')
  obtain ⟨h0, h1, hr⟩ := h c
  obtain ⟨a0, a1, a2, a3⟩ := harg c
  refine ⟨h0.trans ?_, h1.trans ?_, hr⟩
  · refine (val_main_v15_eq _ _).trans ?_
    rw [a0, a1]
    funext i
    obtain ⟨R, j, rfl⟩ : ∃ R j, i = ix2 R j := ⟨i 0, i 1, eq_ix2 i⟩
    exact (at14 _ _ R j).trans (final4 m c R j).symm
  · refine (val_main_v19_eq _ _ _ _).trans ?_
    rw [a0, a1, a2, a3]
    funext i
    obtain ⟨R, n, rfl⟩ : ∃ R n, i = ix2 R n := ⟨i 0, i 1, eq_ix2 i⟩
    have e : n = ⟨(⟨n.val / 512, by omega⟩ : Fin 4).val * 512 + (⟨n.val % 512, by omega⟩ : Fin 512).val, by dsimp only; omega⟩ := Fin.ext (by dsimp only; omega)
    rw [e]
    exact (at19 _ _ _ _ R _).trans (final5 m c R _ _).symm

/-- The reference leaves its arguments and its counters as they were. -/
theorem frame_ref : Cert.quiescent_Pw1RefIdeal := fun m g _ =>
  (θ_run Cert.Pw1RefIdeal.defs _ _).mono (fun r h => ⟨fun c => (h c).2.2, sem_eq_zero_of_no_sems (by decide) r.2⟩)
    (Cert.Pw1RefIdeal.Value.run (F := Ideal) m g)

end Cert.Pw1Ideal.Value

end
-- ==== Proof.Res.Kernel.lean ====
/-
  The attention's output product with the residual and the norm that follows, read at an index: what a grid point leaves
  in its two output buffers, the blocks as parts of the arguments, and the two result arrays.
-/
module

public import proofs.«01_k».proof.Proof.Norm
public import proofs.«01_k».proof.Proof.Gen.ResIdeal.Value

@[expose] public section

noncomputable section

open Idealize.ShloMosaic Idealize.ShloMosaic.TcCoe Idealize.SL.Sem
open Idealize.ShloMosaic.Pipeline (Dat)

namespace Cert.ResIdeal.Value
open Cert.ResIdeal Cert.ResIdeal.Gen

variable (m : (ℓ : Loc nD τ sig) → Buf (Elt Ideal) ℓ)

/-- The attention's output. -/
abbrev arg0 (c : Dev nD) : FVec Ideal S8192x1024 .f32 := m ((c : Thread nD τ).loc main_arg0)
/-- The weights. -/
abbrev arg1 (c : Dev nD) : FVec Ideal S1x1024x1024 .f32 := m ((c : Thread nD τ).loc main_arg1)
/-- The bias. -/
abbrev arg2 (c : Dev nD) : FVec Ideal S1x1024 .f32 := m ((c : Thread nD τ).loc main_arg2)
/-- The residual. -/
abbrev arg3 (c : Dev nD) : FVec Ideal S8192x1024 .f32 := m ((c : Thread nD τ).loc main_arg3)
/-- The norms' gains. -/
abbrev arg4 (c : Dev nD) : FVec Ideal S2x1024 .f32 := m ((c : Thread nD τ).loc main_arg4)

/-- A row of the sum: product, bias, residual. -/
def hrow (a0 : FVec Ideal S8192x1024 .f32) (a1 : FVec Ideal S1x1024x1024 .f32) (a2 : FVec Ideal S1x1024 .f32) (a3 : FVec Ideal S8192x1024 .f32)
    (R : Fin 8192) (j : Fin 1024) : EReal :=
  (∑ k, a0 (ix2 R k) * a1 (ix3 0 k j)) + a2 (ix2 0 j) + a3 (ix2 R j)

/-! ## A grid point -/

theorem hz : (![0, 0] : Fin 2 → Nat) = fun _ => 0 := funext fun a => by fin_cases a <;> rfl

/-- The same row of a block. -/
def blockRow (x0 : Vec Ideal S512x1024 .bf16) (x1 : Vec Ideal S1024x1024 .bf16) (x2 : Vec Ideal S1x1024 .f32) (x3 : Vec Ideal S512x1024 .f32)
    (r : Fin 512) (j : Fin 1024) : EReal :=
  (∑ k, x0 (ix2 r k) * x1 (ix2 k j)) + x2 (ix2 0 j) + x3 (ix2 r j)

theorem sum_at (x0 : Vec Ideal S512x1024 .bf16) (x1 : Vec Ideal S1024x1024 .bf16) (x2 : Vec Ideal S1x1024 .f32) (x3 : Vec Ideal S512x1024 .f32)
    (r : Fin 512) (j : Fin 1024) : k0_pay1 (F := Ideal) x0 x1 x2 x3 (ix2 r j) = blockRow x0 x1 x2 x3 r j := by
  unfold blockRow k0_pay1
  pointwise [dot_S512x1024_S1024x1024_S512x1024_1_0_0_1_n_n]

theorem out5 (x0 : Vec Ideal S512x1024 .bf16) (x1 : Vec Ideal S1024x1024 .bf16) (x2 : Vec Ideal S1x1024 .f32) (x3 : Vec Ideal S512x1024 .f32)
    (x4 : Vec Ideal S1x1024 .f32) (r : Fin 512) (j : Fin 1024) : out0_5 (F := Ideal) x0 x1 x2 x3 x4 (ix2 r j) = blockRow x0 x1 x2 x3 r j := by
  unfold out0_5
  rw [View.canon_unit_zero hz]
  simp only [View.ld_unit_zero (S := S512x1024) hz, View.ld_unit_zero (S := S1024x1024) hz, View.ld_unit_zero (S := S1x1024) hz]
  exact sum_at x0 x1 x2 x3 r j

theorem out6 (x0 : Vec Ideal S512x1024 .bf16) (x1 : Vec Ideal S1024x1024 .bf16) (x2 : Vec Ideal S1x1024 .f32) (x3 : Vec Ideal S512x1024 .f32)
    (x4 : Vec Ideal S1x1024 .f32) (r : Fin 512) (j : Fin 1024) :
    out0_6 (F := Ideal) x0 x1 x2 x3 x4 (ix2 r j) = blockRow x0 x1 x2 x3 r j * Norm.rstd (blockRow x0 x1 x2 x3 r) * x4 (ix2 0 j) := by
  unfold out0_6
  rw [View.canon_unit_zero hz]
  simp only [View.ld_unit_zero (S := S512x1024) hz, View.ld_unit_zero (S := S1024x1024) hz, View.ld_unit_zero (S := S1x1024) hz]
  unfold k0_pay2 Norm.rstd
  have e := sum_at x0 x1 x2 x3
  generalize k0_pay1 (F := Ideal) x0 x1 x2 x3 = z at e ⊢
  pointwise [e]

/-! ## The blocks -/

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![t.val, 0] := by decide +kernel
theorem index4 : ∀ t : Fin grid0.N, win0_4.index t = ![0, 0] := by decide +kernel
theorem index5 : ∀ t : Fin grid0.N, win0_5.index t = ![t.val, 0] := by decide +kernel
theorem index6 : ∀ t : Fin grid0.N, win0_6.index t = ![t.val, 0] := by decide +kernel

/-- Row `r` of point `t`'s block, among all rows. -/
def at_ (t : Fin cfg0.N) (r : Fin 512) : Fin 8192 := ⟨t.val * 512 + r.val, by have := t.isLt; have : cfg0.N = 16 := N_0; omega⟩

theorem v0 (c : Dev nD) (R : Fin 8192) (j : Fin 1024) : V m c main_v0 (ix2 R j) = arg0 m c (ix2 R j) := by
  have e : V m c main_v0 = truncf (F := Ideal) .bf16 (arg0 m c) bitsLt_bf16_f32 := by
    unfold V
    after_results_simp
  rw [e]
  rfl

theorem v2 (c : Dev nD) (k j : Fin 1024) : V m c main_v2 (ix2 k j) = arg1 m c (ix3 0 k j) := by
  have e : V m c main_v2 = truncf (F := Ideal) .bf16 (shapeCast S1024x1024 (arg1 m c) shapeCasts_S1x1024x1024_S1024x1024) bitsLt_bf16_f32 := by
    unfold V
    after_results_simp
    rfl
  rw [e]
  pointwise

theorem v3 (c : Dev nD) (j : Fin 1024) : V m c main_v3 (ix2 0 j) = arg4 m c (ix2 0 j) := by
  have e : V m c main_v3 = extractStridedSlice S1x1024 ![0, 0] (arg4 m c) slices_S2x1024_S1x1024_0_0 := by
    unfold V
    after_results_simp
  rw [e]
  pointwise

theorem blk0 (c : Dev nD) (t : Fin cfg0.N) (r : Fin 512) (j : Fin 1024) : (iblk m c 0 t : Vec Ideal S512x1024 .bf16) (ix2 r j) = arg0 m c (ix2 (at_ t r) j) := by
  rw [← v0]
  unfold iblk
  rw [View.read_apply]
  show V m c main_v0 _ = _
  congr 1
  funext a'
  apply Fin.ext
  have hi := index0 t
  match a' with
  | ⟨0, _⟩ => show win0_0.index t 0 * 512 + 1 * r.val = t.val * 512 + r.val; rw [hi]; simp
  | ⟨1, _⟩ => show win0_0.index t 1 * 1024 + 1 * j.val = j.val; rw [hi]; simp

theorem blk1 (c : Dev nD) (t : Fin cfg0.N) (k j : Fin 1024) : (iblk m c 1 t : Vec Ideal S1024x1024 .bf16) (ix2 k j) = arg1 m c (ix3 0 k j) := by
  rw [← v2]
  unfold iblk
  rw [View.read_apply]
  show V m c main_v2 _ = _
  congr 1
  funext a'
  apply Fin.ext
  have hi := index1 t
  match a' with
  | ⟨0, _⟩ => show win0_1.index t 0 * 1024 + 1 * k.val = k.val; rw [hi]; simp
  | ⟨1, _⟩ => show win0_1.index t 1 * 1024 + 1 * j.val = j.val; rw [hi]; simp

theorem blk2 (c : Dev nD) (t : Fin cfg0.N) (j : Fin 1024) : (iblk m c 2 t : Vec Ideal S1x1024 .f32) (ix2 0 j) = arg2 m c (ix2 0 j) := by
  refine Eq.trans ?_ (congrFun (V_main_arg2 m c) _)
  unfold iblk
  rw [View.read_apply]
  show V m c main_arg2 _ = _
  congr 1
  funext a'
  apply Fin.ext
  have hi := index2 t
  match a' with
  | ⟨0, _⟩ => show win0_2.index t 0 * 1 + 1 * 0 = 0; rw [hi]; simp
  | ⟨1, _⟩ => show win0_2.index t 1 * 1024 + 1 * j.val = j.val; rw [hi]; simp

theorem blk3 (c : Dev nD) (t : Fin cfg0.N) (r : Fin 512) (j : Fin 1024) : (iblk m c 3 t : Vec Ideal S512x1024 .f32) (ix2 r j) = arg3 m c (ix2 (at_ t r) j) := by
  refine Eq.trans ?_ (congrFun (V_main_arg3 m c) _)
  unfold iblk
  rw [View.read_apply]
  show V m c main_arg3 _ = _
  congr 1
  funext a'
  apply Fin.ext
  have hi := index3 t
  match a' with
  | ⟨0, _⟩ => show win0_3.index t 0 * 512 + 1 * r.val = t.val * 512 + r.val; rw [hi]; simp
  | ⟨1, _⟩ => show win0_3.index t 1 * 1024 + 1 * j.val = j.val; rw [hi]; simp

theorem blk4 (c : Dev nD) (t : Fin cfg0.N) (j : Fin 1024) : (iblk m c 4 t : Vec Ideal S1x1024 .f32) (ix2 0 j) = arg4 m c (ix2 0 j) := by
  rw [← v3]
  unfold iblk
  rw [View.read_apply]
  show V m c main_v3 _ = _
  congr 1
  funext a'
  apply Fin.ext
  have hi := index4 t
  match a' with
  | ⟨0, _⟩ => show win0_4.index t 0 * 1 + 1 * 0 = 0; rw [hi]; simp
  | ⟨1, _⟩ => show win0_4.index t 1 * 1024 + 1 * j.val = j.val; rw [hi]; simp

theorem row_eq (c : Dev nD) (t : Fin cfg0.N) (r : Fin 512) :
    blockRow (iblk m c 0 t) (iblk m c 1 t) (iblk m c 2 t) (iblk m c 3 t) r = hrow (arg0 m c) (arg1 m c) (arg2 m c) (arg3 m c) (at_ t r) := by
  funext j
  have e0 := blk0 m c t r
  have e1 := blk1 m c t
  have e2 := blk2 m c t j
  have e3 := blk3 m c t r j
  unfold blockRow hrow
  generalize (iblk m c 0 t : Vec Ideal S512x1024 .bf16) = x0 at e0 ⊢
  generalize (iblk m c 1 t : Vec Ideal S1024x1024 .bf16) = x1 at e1 ⊢
  rw [e2, e3]
  congr 2
  exact Finset.sum_congr rfl fun k _ => by rw [e0, e1]

/-! ## The results -/

theorem final5 (c : Dev nD) (R : Fin 8192) (j : Fin 1024) :
    (dats m 0 c).arrAt 5 cfg0.N (ix2 R j) = hrow (arg0 m c) (arg1 m c) (arg2 m c) (arg3 m c) R j := by
  have hN : cfg0.N = 16 := N_0
  have hR := R.isLt
  have ht : R.val / 512 < cfg0.N := by omega
  have h := congrFun (blocks5 m c ⟨R.val / 512, ht⟩ (flush0_5 _)) (ix2 ⟨R.val % 512, by omega⟩ j)
  rw [View.read_apply, flushed5] at h
  have e := (out5 (iblk m c 0 ⟨R.val / 512, ht⟩) (iblk m c 1 ⟨R.val / 512, ht⟩) (iblk m c 2 ⟨R.val / 512, ht⟩) (iblk m c 3 ⟨R.val / 512, ht⟩)
    (iblk m c 4 ⟨R.val / 512, ht⟩) ⟨R.val % 512, by omega⟩ j).trans (congrFun (row_eq m c _ _) j)
  rw [show at_ ⟨R.val / 512, ht⟩ ⟨R.val % 512, by omega⟩ = R from Fin.ext (by unfold at_; dsimp only; omega)] at e
  rw [← e]
  refine Eq.trans (congrArg _ ?_) h
  funext a'
  apply Fin.ext
  have hi := index5 ⟨R.val / 512, ht⟩
  match a' with
  | ⟨0, _⟩ => show R.val = win0_5.index ⟨R.val / 512, _⟩ 0 * 512 + 1 * (R.val % 512); rw [hi]; simp; omega
  | ⟨1, _⟩ => show j.val = win0_5.index ⟨R.val / 512, _⟩ 1 * 1024 + 1 * j.val; rw [hi]; simp

/-- The norm of a row of the sum. -/
def normed (a0 : FVec Ideal S8192x1024 .f32) (a1 : FVec Ideal S1x1024x1024 .f32) (a2 : FVec Ideal S1x1024 .f32) (a3 : FVec Ideal S8192x1024 .f32)
    (a4 : FVec Ideal S2x1024 .f32) (R : Fin 8192) (j : Fin 1024) : EReal :=
  hrow a0 a1 a2 a3 R j * Norm.rstd (hrow a0 a1 a2 a3 R) * a4 (ix2 0 j)

theorem final6 (c : Dev nD) (R : Fin 8192) (j : Fin 1024) :
    (dats m 0 c).arrAt 6 cfg0.N (ix2 R j) = normed (arg0 m c) (arg1 m c) (arg2 m c) (arg3 m c) (arg4 m c) R j := by
  have hN : cfg0.N = 16 := N_0
  have hR := R.isLt
  have ht : R.val / 512 < cfg0.N := by omega
  have h := congrFun (blocks6 m c ⟨R.val / 512, ht⟩ (flush0_6 _)) (ix2 ⟨R.val % 512, by omega⟩ j)
  rw [View.read_apply, flushed6] at h
  have e := out6 (iblk m c 0 ⟨R.val / 512, ht⟩) (iblk m c 1 ⟨R.val / 512, ht⟩) (iblk m c 2 ⟨R.val / 512, ht⟩) (iblk m c 3 ⟨R.val / 512, ht⟩)
    (iblk m c 4 ⟨R.val / 512, ht⟩) ⟨R.val % 512, by omega⟩ j
  rw [row_eq, blk4, show at_ ⟨R.val / 512, ht⟩ ⟨R.val % 512, by omega⟩ = R from Fin.ext (by unfold at_; dsimp only; omega)] at e
  unfold normed
  rw [← e]
  refine Eq.trans (congrArg _ ?_) h
  funext a'
  apply Fin.ext
  have hi := index6 ⟨R.val / 512, ht⟩
  match a' with
  | ⟨0, _⟩ => show R.val = win0_6.index ⟨R.val / 512, _⟩ 0 * 512 + 1 * (R.val % 512); rw [hi]; simp; omega
  | ⟨1, _⟩ => show j.val = win0_6.index ⟨R.val / 512, _⟩ 1 * 1024 + 1 * j.val; rw [hi]; simp

end Cert.ResIdeal.Value

end
-- ==== Proof.Res.Value.lean ====
/-
  The attention's output product with the residual and the norm that follows: the reference's results at an index, and
  that both programs end with the same two results.
-/
module

public import proofs.«01_k».proof.Defs
public import proofs.«01_k».proof.Proof.Res.Kernel
public import proofs.«01_k».proof.Proof.Gen.ResRefIdeal.Read

@[expose] public section

noncomputable section

open Idealize.ShloMosaic Idealize.ShloMosaic.TcCoe Idealize.SL.Sem

namespace Cert.ResRefIdeal.Read
open Cert.ResRefIdeal Cert.ResRefIdeal.Gen
open Cert.ResIdeal.Value (hrow normed)

variable (x0 : FVec Ideal S8192x1024 .f32) (x1 : FVec Ideal S1x1024x1024 .f32) (x2 : FVec Ideal S1x1024 .f32) (x3 : FVec Ideal S8192x1024 .f32)
  (x4 : FVec Ideal S2x1024 .f32)

theorem at4 (R : Fin 8192) (j : Fin 1024) : val_main_v4 (F := Ideal) x0 x1 x2 x3 (ix2 R j) = hrow x0 x1 x2 x3 R j := by
  unfold val_main_v4 val_main_v3 val_main_v2 val_main_v1 val_main_v0 hrow
  pointwise [dot_S8192x1024_S1024x1024_S8192x1024_1_0_0_1_n_n]
  exact add_comm _ _

theorem at14 (R : Fin 8192) : val_main_v14 (F := Ideal) x0 x1 x2 x3 (ix2 R 0) = Norm.rstd (hrow x0 x1 x2 x3 R) := by
  unfold val_main_v14 val_main_v13 val_main_v12 val_main_v11 val_main_v10 val_main_v9 val_main_v8 val_main_v7 val_main_cst val_main_cst_0 val_main_cst_1 Norm.rstd
  pointwise [at4]

theorem at20 (R : Fin 8192) (j : Fin 1024) : val_main_v20 (F := Ideal) x0 x1 x2 x3 x4 (ix2 R j) = normed x0 x1 x2 x3 x4 R j := by
  unfold val_main_v20 val_main_v19 val_main_v18 val_main_v17 val_main_v16 val_main_v15 val_main_v6 val_main_v5 normed
  pointwise [at4, at14]

end Cert.ResRefIdeal.Read

namespace Cert.ResIdeal.Value
open Cert.ResIdeal Cert.ResIdeal.Gen
open Cert.ResRefIdeal.Read

variable (m : (ℓ : Loc nD τ sig) → Buf (Elt Ideal) ℓ)

theorem value : Cert.algebraic_ResIdeal_ResRefIdeal := by
  intro m g m' g' _ harg
  refine ⟨fun c => (dats m 0 c).arrAt 5 cfg0.N, fun c => (dats m 0 c).arrAt 6 cfg0.N, run_blocks m g, ?_⟩
  refine (θ_run Cert.ResRefIdeal.defs _ _).mono (fun r h c => ?_) (Cert.ResRefIdeal.Value.run m' g')
  obtain ⟨h0, h1, hr⟩ := h c
  obtain ⟨a0, a1, a2, a3, a4⟩ := harg c
  refine ⟨h0.trans ?_, h1.trans ?_, hr⟩
  · refine (val_main_v4_eq _ _ _ _).trans ?_
    rw [a0, a1, a2, a3]
    funext i
    obtain ⟨R, j, rfl⟩ : ∃ R j, i = ix2 R j := ⟨i 0, i 1, eq_ix2 i⟩
    exact (at4 _ _ _ _ R j).trans (final5 m c R j).symm
  · refine (val_main_v20_eq _ _ _ _ _).trans ?_
    rw [a0, a1, a2, a3, a4]
    funext i
    obtain ⟨R, j, rfl⟩ : ∃ R j, i = ix2 R j := ⟨i 0, i 1, eq_ix2 i⟩
    exact (at20 _ _ _ _ _ R j).trans (final6 m c R j).symm

/-- The reference leaves its arguments and its counters as they were. -/
theorem frame_ref : Cert.quiescent_ResRefIdeal := fun m g _ =>
  (θ_run Cert.ResRefIdeal.defs _ _).mono (fun r h => ⟨fun c => (h c).2.2, sem_eq_zero_of_no_sems (by decide) r.2⟩)
    (Cert.ResRefIdeal.Value.run (F := Ideal) m g)

end Cert.ResIdeal.Value

end
-- ==== Proof.Dn.Value.lean ====
/-
  An FFN's last product with the residual: the kernel adds the products of the four slabs one by one to the residual, the
  reference takes one product over all columns.
-/
module

public import proofs.«01_k».proof.Defs
public import proofs.«01_k».proof.Proof.Slab
public import proofs.«01_k».proof.Proof.Gen.DnIdeal.Value
public import proofs.«01_k».proof.Proof.Gen.DnRefIdeal.Read
public import Idealize.ShloMosaic.Lib.Pipeline.ReadBack
public import Idealize.ShloMosaic.Lib.Pipeline.ValueKit.Tiles

@[expose] public section

noncomputable section

open Idealize.ShloMosaic Idealize.ShloMosaic.TcCoe Idealize.SL.Sem
open Idealize.ShloMosaic.Pipeline (Dat)

namespace Cert.DnIdeal.Value
open Cert.DnIdeal Cert.DnIdeal.Gen

variable (m : (ℓ : Loc nD τ sig) → Buf (Elt Ideal) ℓ)

/-- The gated activations. -/
abbrev arg0 (c : Dev nD) : FVec Ideal S8192x2816 .f32 := m ((c : Thread nD τ).loc main_arg0)
/-- The weights. -/
abbrev arg1 (c : Dev nD) : FVec Ideal S2x2816x1024 .f32 := m ((c : Thread nD τ).loc main_arg1)
/-- The residual. -/
abbrev arg2 (c : Dev nD) : FVec Ideal S8192x1024 .f32 := m ((c : Thread nD τ).loc main_arg2)

/-- An element of the result. -/
def elem (a0 : FVec Ideal S8192x2816 .f32) (a1 : FVec Ideal S2x2816x1024 .f32) (a2 : FVec Ideal S8192x1024 .f32) (R : Fin 8192) (j : Fin 1024) : EReal :=
  a2 (ix2 R j) + ∑ n, a0 (ix2 R n) * a1 (ix3 0 n j)

theorem hz : (![0, 0] : Fin 2 → Nat) = fun _ => 0 := funext fun a => by fin_cases a <;> rfl

/-- Row `r` of point `t`'s block, among all rows. -/
def at_ (t : Fin cfg0.N) (r : Fin 512) : Fin 8192 := ⟨t.val * 512 + r.val, by have := t.isLt; have : cfg0.N = 16 := N_0; omega⟩

/-- The point whose block a row lies in. -/
def point (R : Fin 8192) : Fin cfg0.N := ⟨R.val / 512, by have := R.isLt; have : cfg0.N = 16 := N_0; omega⟩
/-- The row's place in its block. -/
abbrev inBlock (R : Fin 8192) : Fin 512 := ⟨R.val % 512, by omega⟩

theorem at_block (R : Fin 8192) : at_ (point R) (inBlock R) = R := Fin.ext (by unfold at_ point; dsimp only; omega)

theorem index0 : ∀ t : Fin grid0.N, win0_0.index t = ![0, t.val, 0] := by decide +kernel
theorem index1 : ∀ t : Fin grid0.N, win0_1.index t = ![0, 0, 0, 0] := by decide +kernel
theorem index2 : ∀ t : Fin grid0.N, win0_2.index t = ![t.val, 0] := by decide +kernel
theorem index3 : ∀ t : Fin grid0.N, win0_3.index t = ![t.val, 0] := by decide +kernel

theorem ld_act (x : Vec Ideal S4x512x704 .bf16) (o : ℕ) (a : Fin 4) (h : o = a.val) (hb) (r : Fin 512) (n : Fin 704) :
    View.ld x (Rect.unit (s := S4x512x704) ![o, 0, 0] S1x512x704.size hb) (ix3 0 r n) = x (ix3 a r n) := by
  subst h
  rw [View.ld_unit]
  refine congrArg x (funext fun b => Fin.ext ?_)
  fin_cases b
  · show a.val + 0 = a.val; omega
  · show 0 + r.val = r.val; omega
  · show 0 + n.val = n.val; omega

theorem ld_wt (x : Vec Ideal S4x1x704x1024 .bf16) (o : ℕ) (a : Fin 4) (h : o = a.val) (hb) (n : Fin 704) (j : Fin 1024) :
    View.ld x (Rect.unit (s := S4x1x704x1024) ![o, 0, 0, 0] S1x1x704x1024.size hb) (ix4 0 0 n j) = x (ix4 a 0 n j) := by
  subst h
  rw [View.ld_unit]
  refine congrArg x (funext fun b => Fin.ext ?_)
  fin_cases b
  · show a.val + 0 = a.val; omega
  · rfl
  · show 0 + n.val = n.val; omega
  · show 0 + j.val = j.val; omega

theorem out3 (x0 : Vec Ideal S4x512x704 .bf16) (x1 : Vec Ideal S4x1x704x1024 .bf16) (x2 : Vec Ideal S512x1024 .f32) (r : Fin 512) (j : Fin 1024) :
    out0_3 (F := Ideal) x0 x1 x2 (ix2 r j) = x2 (ix2 r j) + ∑ a : Fin 4, ∑ n, x0 (ix3 a r n) * x1 (ix4 a 0 n j) := by
  unfold out0_3
  rw [View.canon_unit_zero hz]
  simp only [View.ld_unit_zero (S := S512x1024) hz]
  unfold k0_pay1
  pointwise [dot_S512x704_S704x1024_S512x1024_1_0_0_1_n_n, ld_act x0 0 0 rfl, ld_act x0 1 1 rfl, ld_act x0 2 2 rfl, ld_act x0 3 3 rfl,
    ld_wt x1 0 0 rfl, ld_wt x1 1 1 rfl, ld_wt x1 2 2 rfl, ld_wt x1 3 3 rfl]
  simp only [Fin.sum_univ_four, add_assoc]

theorem v2 (c : Dev nD) (a : Fin 4) (R : Fin 8192) (n : Fin 704) : V m c main_v2 (ix3 a R n) = arg0 m c (ix2 R ⟨a.val * 704 + n.val, by omega⟩) := by
  have e : V m c main_v2 = truncf (F := Ideal) .bf16 (transpose S4x8192x704 [1, 0, 2] (shapeCast S8192x4x704 (arg0 m c) shapeCasts_S8192x2816_S8192x4x704)
      transposes_S8192x4x704_S4x8192x704_1_0_2) bitsLt_bf16_f32 := by
    unfold V
    after_results_simp
    rfl
  rw [e]
  pointwise

theorem v5 (c : Dev nD) (a : Fin 4) (n : Fin 704) (j : Fin 1024) : V m c main_v5 (ix4 a 0 n j) = arg1 m c (ix3 0 ⟨a.val * 704 + n.val, by omega⟩ j) := by
  have e : V m c main_v5 = truncf (F := Ideal) .bf16 (transpose S4x2x704x1024 [1, 0, 2, 3] (shapeCast S2x4x704x1024 (arg1 m c)
      shapeCasts_S2x2816x1024_S2x4x704x1024) transposes_S2x4x704x1024_S4x2x704x1024_1_0_2_3) bitsLt_bf16_f32 := by
    unfold V
    after_results_simp
    rfl
  rw [e]
  pointwise

theorem blk0 (c : Dev nD) (t : Fin cfg0.N) (a : Fin 4) (r : Fin 512) (n : Fin 704) : (iblk m c 0 t : Vec Ideal S4x512x704 .bf16) (ix3 a r n) = arg0 m c (ix2 (at_ t r) ⟨a.val * 704 + n.val, by omega⟩) := by
  rw [← v2]
  unfold iblk
  rw [View.read_apply]
  show V m c main_v2 _ = _
  congr 1
  funext a'
  apply Fin.ext
  have hi := index0 t
  match a' with
  | ⟨0, _⟩ => show win0_0.index t 0 * 4 + 1 * a.val = a.val; rw [hi]; simp
  | ⟨1, _⟩ => show win0_0.index t 1 * 512 + 1 * r.val = t.val * 512 + r.val; rw [hi]; simp
  | ⟨2, _⟩ => show win0_0.index t 2 * 704 + 1 * n.val = n.val; rw [hi]; simp

theorem blk1 (c : Dev nD) (t : Fin cfg0.N) (a : Fin 4) (n : Fin 704) (j : Fin 1024) : (iblk m c 1 t : Vec Ideal S4x1x704x1024 .bf16) (ix4 a 0 n j) = arg1 m c (ix3 0 ⟨a.val * 704 + n.val, by omega⟩ j) := by
  rw [← v5]
  unfold iblk
  rw [View.read_apply]
  show V m c main_v5 _ = _
  congr 1
  funext a'
  apply Fin.ext
  have hi := index1 t
  match a' with
  | ⟨0, _⟩ => show win0_1.index t 0 * 4 + 1 * a.val = a.val; rw [hi]; simp
  | ⟨1, _⟩ => show win0_1.index t 1 * 1 + 1 * 0 = 0; rw [hi]; simp
  | ⟨2, _⟩ => show win0_1.index t 2 * 704 + 1 * n.val = n.val; rw [hi]; simp
  | ⟨3, _⟩ => show win0_1.index t 3 * 1024 + 1 * j.val = j.val; rw [hi]; simp

theorem blk2 (c : Dev nD) (t : Fin cfg0.N) (r : Fin 512) (j : Fin 1024) : (iblk m c 2 t : Vec Ideal S512x1024 .f32) (ix2 r j) = arg2 m c (ix2 (at_ t r) j) := by
  refine Eq.trans ?_ (congrFun (V_main_arg2 m c) _)
  unfold iblk
  rw [View.read_apply]
  show V m c main_arg2 _ = _
  congr 1
  funext a'
  apply Fin.ext
  have hi := index2 t
  match a' with
  | ⟨0, _⟩ => show win0_2.index t 0 * 512 + 1 * r.val = t.val * 512 + r.val; rw [hi]; simp
  | ⟨1, _⟩ => show win0_2.index t 1 * 1024 + 1 * j.val = j.val; rw [hi]; simp

theorem final3 (c : Dev nD) (R : Fin 8192) (j : Fin 1024) : (dats m 0 c).arrAt 3 cfg0.N (ix2 R j) = elem (arg0 m c) (arg1 m c) (arg2 m c) R j := by
  have h := congrFun (blocks3 m c (point R) (flush0_3 _)) (ix2 (inBlock R) j)
  rw [View.read_apply, flushed3] at h
  have e := (out3 (iblk m c 0 (point R)) (iblk m c 1 (point R)) (iblk m c 2 (point R)) (inBlock R) j).trans
    (congrArg₂ (· + ·) (blk2 m c (point R) (inBlock R) j) (Finset.sum_congr rfl fun a _ => Finset.sum_congr rfl fun n _ =>
      congrArg₂ (· * ·) (blk0 m c (point R) a (inBlock R) n) (blk1 m c (point R) a n j)))
  rw [at_block, Fin.sum_univ_four] at e
  unfold elem
  rw [Slab.sum_slabs]
  refine Eq.trans ?_ e
  refine Eq.trans (congrArg _ ?_) h
  funext a'
  apply Fin.ext
  have hi := index3 (point R)
  match a' with
  | ⟨0, _⟩ => show R.val = win0_3.index (point R) 0 * 512 + 1 * (R.val % 512); rw [hi]; simp [point]; omega
  | ⟨1, _⟩ => show j.val = win0_3.index (point R) 1 * 1024 + 1 * j.val; rw [hi]; simp

theorem ref_at (x0 : FVec Ideal S8192x2816 .f32) (x1 : FVec Ideal S2x2816x1024 .f32) (x2 : FVec Ideal S8192x1024 .f32) (R : Fin 8192) (j : Fin 1024) :
    Cert.DnRefIdeal.Read.val_main_v3 (F := Ideal) x0 x1 x2 (ix2 R j) = elem x0 x1 x2 R j := by
  unfold Cert.DnRefIdeal.Read.val_main_v3 Cert.DnRefIdeal.Read.val_main_v2 Cert.DnRefIdeal.Read.val_main_v1 Cert.DnRefIdeal.Read.val_main_v0 elem
  pointwise [Cert.DnRefIdeal.dot_S8192x2816_S2816x1024_S8192x1024_1_0_0_1_n_n]

theorem value : Cert.algebraic_DnIdeal_DnRefIdeal := by
  intro m g m' g' _ harg
  refine ⟨fun c => (dats m 0 c).arrAt 3 cfg0.N, run_blocks m g, ?_⟩
  refine (θ_run Cert.DnRefIdeal.defs _ _).mono (fun r h c => ?_) (Cert.DnRefIdeal.Value.run m' g')
  obtain ⟨h0, hr⟩ := h c
  obtain ⟨a0, a1, a2⟩ := harg c
  refine ⟨h0.trans ?_, hr⟩
  refine (Cert.DnRefIdeal.Read.val_main_v3_eq _ _ _).trans ?_
  rw [a0, a1, a2]
  funext i
  obtain ⟨R, j, rfl⟩ : ∃ R j, i = ix2 R j := ⟨i 0, i 1, eq_ix2 i⟩
  exact (ref_at _ _ _ R j).trans (final3 m c R j).symm

/-- The reference leaves its arguments and its counters as they were. -/
theorem frame_ref : Cert.quiescent_DnRefIdeal := fun m g _ =>
  (θ_run Cert.DnRefIdeal.defs _ _).mono (fun r h => ⟨fun c => (h c).2, sem_eq_zero_of_no_sems (by decide) r.2⟩)
    (Cert.DnRefIdeal.Value.run (F := Ideal) m g)

end Cert.DnIdeal.Value

end
-- ==== Proof.Nt.Value.lean ====
/-
  The gradient of the attention's output product by its values: the kernel's result and the reference's at an index.
-/
module

public import proofs.«01_k».proof.Defs
public import proofs.«01_k».proof.Proof.Slab
public import proofs.«01_k».proof.Proof.Gen.NtIdeal.Value
public import proofs.«01_k».proof.Proof.Gen.NtRefIdeal.Read
public import Idealize.ShloMosaic.Lib.Pipeline.ReadBack
public import Idealize.ShloMosaic.Lib.Pipeline.ValueKit.Tiles

@[expose] public section

noncomputable section

open Idealize.ShloMosaic Idealize.ShloMosaic.TcCoe Idealize.SL.Sem
open Idealize.ShloMosaic.Pipeline (Dat)

namespace Cert.NtIdeal.Value
open Cert.NtIdeal Cert.NtIdeal.Gen

variable (m : (ℓ : Loc nD τ sig) → Buf (Elt Ideal) ℓ)

/-- The arriving gradient. -/
abbrev arg0 (c : Dev nD) : FVec Ideal S8192x1024 .f32 := m ((c : Thread nD τ).loc main_arg0)
/-- The weight. -/
abbrev arg1 (c : Dev nD) : FVec Ideal S1x1024x1024 .f32 := m ((c : Thread nD τ).loc main_arg1)

/-- An element of the result. -/
def elem (a0 : FVec Ideal S8192x1024 .f32) (a1 : FVec Ideal S1x1024x1024 .f32) (R : Fin 8192) (k : Fin 1024) : EReal := ∑ n, a0 (ix2 R n) * a1 (ix3 0 k n)

theorem hz : (![0, 0] : Fin 2 → Nat) = fun _ => 0 := funext fun a => by fin_cases a <;> rfl

/-- Row `r` of point `t`'s block, among all rows. -/
def at_ (t : Fin cfg0.N) (r : Fin 512) : Fin 8192 := ⟨t.val * 512 + r.val, by have := t.isLt; have : cfg0.N = 16 := N_0; omega⟩

/-- The point whose block a row lies in. -/
def point (R : Fin 8192) : Fin cfg0.N := ⟨R.val / 512, by have := R.isLt; have : cfg0.N = 16 := N_0; omega⟩
/-- The row's place in its block. -/
abbrev inBlock (R : Fin 8192) : Fin 512 := ⟨R.val % 512, by omega⟩

theorem at_block (R : Fin 8192) : at_ (point R) (inBlock R) = R := Fin.ext (by unfold at_ point; dsimp only; omega)

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel

theorem out2 (x0 : Vec Ideal S512x1024 .f32) (x1 : Vec Ideal S1024x1024 .bf16) (r : Fin 512) (k : Fin 1024) :
    out0_2 (F := Ideal) x0 x1 (ix2 r k) = ∑ n, x0 (ix2 r n) * x1 (ix2 k n) := by
  unfold out0_2
  rw [View.canon_unit_zero hz]
  simp only [View.ld_unit_zero (S := S512x1024) hz, View.ld_unit_zero (S := S1024x1024) hz]
  unfold k0_pay1
  pointwise [dot_S512x1024_S1024x1024_S512x1024_1_1_0_0_n_n]

theorem v1 (c : Dev nD) (k j : Fin 1024) : V m c main_v1 (ix2 k j) = arg1 m c (ix3 0 k j) := by
  have e : V m c main_v1 = truncf (F := Ideal) .bf16 (shapeCast S1024x1024 (arg1 m c) shapeCasts_S1x1024x1024_S1024x1024) bitsLt_bf16_f32 := by
    unfold V
    after_results_simp
    rfl
  rw [e]
  pointwise

theorem blk0 (c : Dev nD) (t : Fin cfg0.N) (r : Fin 512) (j : Fin 1024) : (iblk m c 0 t : Vec Ideal S512x1024 .f32) (ix2 r j) = arg0 m c (ix2 (at_ t r) j) := by
  refine Eq.trans ?_ (congrFun (V_main_arg0 m c) _)
  unfold iblk
  rw [View.read_apply]
  show V m c main_arg0 _ = _
  congr 1
  funext a'
  apply Fin.ext
  have hi := index0 t
  match a' with
  | ⟨0, _⟩ => show win0_0.index t 0 * 512 + 1 * r.val = t.val * 512 + r.val; rw [hi]; simp
  | ⟨1, _⟩ => show win0_0.index t 1 * 1024 + 1 * j.val = j.val; rw [hi]; simp

theorem blk1 (c : Dev nD) (t : Fin cfg0.N) (k j : Fin 1024) : (iblk m c 1 t : Vec Ideal S1024x1024 .bf16) (ix2 k j) = arg1 m c (ix3 0 k j) := by
  rw [← v1]
  unfold iblk
  rw [View.read_apply]
  show V m c main_v1 _ = _
  congr 1
  funext a'
  apply Fin.ext
  have hi := index1 t
  match a' with
  | ⟨0, _⟩ => show win0_1.index t 0 * 1024 + 1 * k.val = k.val; rw [hi]; simp
  | ⟨1, _⟩ => show win0_1.index t 1 * 1024 + 1 * j.val = j.val; rw [hi]; simp

theorem final2 (c : Dev nD) (R : Fin 8192) (j : Fin 1024) : (dats m 0 c).arrAt 2 cfg0.N (ix2 R j) = elem (arg0 m c) (arg1 m c) R j := by
  have h := congrFun (blocks2 m c (point R) (flush0_2 _)) (ix2 (inBlock R) j)
  rw [View.read_apply, flushed2] at h
  have e := (out2 (iblk m c 0 (point R)) (iblk m c 1 (point R)) (inBlock R) j).trans
    (Finset.sum_congr rfl fun n _ => congrArg₂ (· * ·) (blk0 m c (point R) (inBlock R) n) (blk1 m c (point R) j n))
  rw [at_block] at e
  unfold elem
  rw [← e]
  refine Eq.trans (congrArg _ ?_) h
  funext a'
  apply Fin.ext
  have hi := index2 (point R)
  match a' with
  | ⟨0, _⟩ => show R.val = win0_2.index (point R) 0 * 512 + 1 * (R.val % 512); rw [hi]; simp [point]; omega
  | ⟨1, _⟩ => show j.val = win0_2.index (point R) 1 * 1024 + 1 * j.val; rw [hi]; simp

theorem ref_at (x0 : FVec Ideal S8192x1024 .f32) (x1 : FVec Ideal S1x1024x1024 .f32) (R : Fin 8192) (j : Fin 1024) :
    Cert.NtRefIdeal.Read.val_main_v4 (F := Ideal) x0 x1 (ix2 R j) = elem x0 x1 R j := by
  unfold Cert.NtRefIdeal.Read.val_main_v4 Cert.NtRefIdeal.Read.val_main_v3 Cert.NtRefIdeal.Read.val_main_v1 elem
  pointwise [Cert.NtRefIdeal.dot_S8192x1024_S1024x1024_S8192x1024_1_1_0_0_n_n]

theorem value : Cert.algebraic_NtIdeal_NtRefIdeal := by
  intro m g m' g' _ harg
  refine ⟨fun c => (dats m 0 c).arrAt 2 cfg0.N, run_blocks m g, ?_⟩
  refine (θ_run Cert.NtRefIdeal.defs _ _).mono (fun r h c => ?_) (Cert.NtRefIdeal.Value.run m' g')
  obtain ⟨h0, hr⟩ := h c
  obtain ⟨a0, a1⟩ := harg c
  refine ⟨h0.trans ?_, hr⟩
  refine (Cert.NtRefIdeal.Read.val_main_v4_eq _ _).trans ?_
  rw [a0, a1]
  funext i
  obtain ⟨R, j, rfl⟩ : ∃ R j, i = ix2 R j := ⟨i 0, i 1, eq_ix2 i⟩
  exact (ref_at _ _ R j).trans (final2 m c R j).symm

/-- The reference leaves its arguments and its counters as they were. -/
theorem frame_ref : Cert.quiescent_NtRefIdeal := fun m g _ =>
  (θ_run Cert.NtRefIdeal.defs _ _).mono (fun r h => ⟨fun c => (h c).2, sem_eq_zero_of_no_sems (by decide) r.2⟩)
    (Cert.NtRefIdeal.Value.run (F := Ideal) m g)

end Cert.NtIdeal.Value

end
-- ==== Proof.Adam.Value.lean ====
/-
  The optimiser's step: both programs take each element's step from that element alone, so a block of the kernel's result is
  the reference's result on the arguments' blocks.
-/
module

public import proofs.«01_k».proof.Defs
public import proofs.«01_k».proof.Proof.Slab
public import proofs.«01_k».proof.Proof.Gen.AdamIdeal.Value
public import proofs.«01_k».proof.Proof.Gen.AdamRefIdeal.Read
public import Idealize.ShloMosaic.Lib.Pipeline.ReadBack
public import Idealize.ShloMosaic.Lib.Pipeline.ValueKit.Tiles

@[expose] public section

noncomputable section

open Idealize.ShloMosaic Idealize.ShloMosaic.TcCoe Idealize.SL.Sem
open Idealize.ShloMosaic.Pipeline (Dat)

namespace Cert.AdamIdeal.Value
open Cert.AdamIdeal Cert.AdamIdeal.Gen

variable (m : (ℓ : Loc nD τ sig) → Buf (Elt Ideal) ℓ)

/-- The weights. -/
abbrev arg0 (c : Dev nD) : FVec Ideal S1408x1024 .f32 := m ((c : Thread nD τ).loc main_arg0)
/-- Their gradient. -/
abbrev arg1 (c : Dev nD) : FVec Ideal S1408x1024 .f32 := m ((c : Thread nD τ).loc main_arg1)
/-- The first moment. -/
abbrev arg2 (c : Dev nD) : FVec Ideal S1408x1024 .f32 := m ((c : Thread nD τ).loc main_arg2)
/-- The second moment. -/
abbrev arg3 (c : Dev nD) : FVec Ideal S1408x1024 .f32 := m ((c : Thread nD τ).loc main_arg3)

theorem hz : (![0, 0] : Fin 2 → Nat) = fun _ => 0 := funext fun a => by fin_cases a <;> rfl

/-- Row `r` of point `t`'s block, among all rows. -/
def at_ (t : Fin cfg0.N) (r : Fin 352) : Fin 1408 := ⟨t.val * 352 + r.val, by have := t.isLt; have : cfg0.N = 4 := N_0; omega⟩

/-- The point whose block a row lies in. -/
def point (R : Fin 1408) : Fin cfg0.N := ⟨R.val / 352, by have := R.isLt; have : cfg0.N = 4 := N_0; omega⟩
/-- The row's place in its block. -/
abbrev inBlock (R : Fin 1408) : Fin 352 := ⟨R.val % 352, by omega⟩

theorem at_block (R : Fin 1408) : at_ (point R) (inBlock R) = R := Fin.ext (by unfold at_ point; dsimp only; omega)

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![t.val, 0] := by decide +kernel
theorem index4 : ∀ t : Fin grid0.N, win0_4.index t = ![t.val, 0] := by decide +kernel
theorem index5 : ∀ t : Fin grid0.N, win0_5.index t = ![t.val, 0] := by decide +kernel
theorem index6 : ∀ t : Fin grid0.N, win0_6.index t = ![t.val, 0] := by decide +kernel
theorem index7 : ∀ t : Fin grid0.N, win0_7.index t = ![t.val, 0] := by decide +kernel

theorem blk0 (c : Dev nD) (t : Fin cfg0.N) (r : Fin 352) (j : Fin 1024) : (iblk m c 0 t : Vec Ideal S352x1024 .f32) (ix2 r j) = arg0 m c (ix2 (at_ t r) j) := by
  refine Eq.trans ?_ (congrFun (V_main_arg0 m c) _)
  unfold iblk
  rw [View.read_apply]
  show V m c main_arg0 _ = _
  congr 1
  funext a'
  apply Fin.ext
  have hi := index0 t
  match a' with
  | ⟨0, _⟩ => show win0_0.index t 0 * 352 + 1 * r.val = t.val * 352 + r.val; rw [hi]; simp
  | ⟨1, _⟩ => show win0_0.index t 1 * 1024 + 1 * j.val = j.val; rw [hi]; simp

theorem blk1 (c : Dev nD) (t : Fin cfg0.N) (r : Fin 352) (j : Fin 1024) : (iblk m c 1 t : Vec Ideal S352x1024 .f32) (ix2 r j) = arg1 m c (ix2 (at_ t r) j) := by
  refine Eq.trans ?_ (congrFun (V_main_arg1 m c) _)
  unfold iblk
  rw [View.read_apply]
  show V m c main_arg1 _ = _
  congr 1
  funext a'
  apply Fin.ext
  have hi := index1 t
  match a' with
  | ⟨0, _⟩ => show win0_1.index t 0 * 352 + 1 * r.val = t.val * 352 + r.val; rw [hi]; simp
  | ⟨1, _⟩ => show win0_1.index t 1 * 1024 + 1 * j.val = j.val; rw [hi]; simp

theorem blk2 (c : Dev nD) (t : Fin cfg0.N) (r : Fin 352) (j : Fin 1024) : (iblk m c 2 t : Vec Ideal S352x1024 .f32) (ix2 r j) = arg2 m c (ix2 (at_ t r) j) := by
  refine Eq.trans ?_ (congrFun (V_main_arg2 m c) _)
  unfold iblk
  rw [View.read_apply]
  show V m c main_arg2 _ = _
  congr 1
  funext a'
  apply Fin.ext
  have hi := index2 t
  match a' with
  | ⟨0, _⟩ => show win0_2.index t 0 * 352 + 1 * r.val = t.val * 352 + r.val; rw [hi]; simp
  | ⟨1, _⟩ => show win0_2.index t 1 * 1024 + 1 * j.val = j.val; rw [hi]; simp

theorem blk3 (c : Dev nD) (t : Fin cfg0.N) (r : Fin 352) (j : Fin 1024) : (iblk m c 3 t : Vec Ideal S352x1024 .f32) (ix2 r j) = arg3 m c (ix2 (at_ t r) j) := by
  refine Eq.trans ?_ (congrFun (V_main_arg3 m c) _)
  unfold iblk
  rw [View.read_apply]
  show V m c main_arg3 _ = _
  congr 1
  funext a'
  apply Fin.ext
  have hi := index3 t
  match a' with
  | ⟨0, _⟩ => show win0_3.index t 0 * 352 + 1 * r.val = t.val * 352 + r.val; rw [hi]; simp
  | ⟨1, _⟩ => show win0_3.index t 1 * 1024 + 1 * j.val = j.val; rw [hi]; simp

/-- The new first moment of an element. -/
def mom (g m : EReal) : EReal := Ideal.ofBits .f32 0x3F666666#32 * m + Ideal.ofBits .f32 0x3DCCCCCD#32 * g
/-- The new second moment of an element. -/
def sq (g v : EReal) : EReal := Ideal.ofBits .f32 0x3F7FBE77#32 * v + Ideal.ofBits .f32 0x3A83126F#32 * (g * g)
/-- The step of an element. -/
def step (w g m v : EReal) : EReal :=
  Ideal.ofBits .f32 0xBA83126F#32 * (Ideal.div (Ideal.div (mom g m) (Ideal.ofBits .f32 0x3F26BD02#32))
    (Ideal.sqrt (Ideal.div (sq g v) (Ideal.ofBits .f32 0x3C231ACC#32)) + Ideal.ofBits .f32 0x322BCC77#32) + Ideal.ofBits .f32 0x3C23D70A#32 * w)

section
variable (x0 x1 x2 x3 : Vec Ideal S352x1024 .f32) (r : Fin 352) (j : Fin 1024)

theorem out4 : out0_4 (F := Ideal) x0 x1 x2 x3 (ix2 r j) = x1 (ix2 r j) := by
  unfold out0_4
  rw [View.canon_unit_zero hz]
  exact congrFun (View.ld_unit_zero (S := S352x1024) hz _ _) _

theorem mom_at : k0_pay1 (F := Ideal) x1 x2 (ix2 r j) = mom (x1 (ix2 r j)) (x2 (ix2 r j)) := by
  unfold k0_pay1 mom
  pointwise

theorem sq_at : k0_pay2 (F := Ideal) x1 x3 (ix2 r j) = sq (x1 (ix2 r j)) (x3 (ix2 r j)) := by
  unfold k0_pay2 sq
  pointwise

theorem out5 : out0_5 (F := Ideal) x0 x1 x2 x3 (ix2 r j) = step (x0 (ix2 r j)) (x1 (ix2 r j)) (x2 (ix2 r j)) (x3 (ix2 r j)) := by
  unfold out0_5
  rw [View.canon_unit_zero hz]
  simp only [View.ld_unit_zero (S := S352x1024) hz]
  unfold k0_pay3 step
  pointwise [mom_at, sq_at]

theorem out6 : out0_6 (F := Ideal) x0 x1 x2 x3 (ix2 r j) = mom (x1 (ix2 r j)) (x2 (ix2 r j)) := by
  unfold out0_6
  rw [View.canon_unit_zero hz]
  simp only [View.ld_unit_zero (S := S352x1024) hz]
  exact mom_at ..

theorem out7 : out0_7 (F := Ideal) x0 x1 x2 x3 (ix2 r j) = sq (x1 (ix2 r j)) (x3 (ix2 r j)) := by
  unfold out0_7
  rw [View.canon_unit_zero hz]
  simp only [View.ld_unit_zero (S := S352x1024) hz]
  exact sq_at ..

end

theorem final4 (c : Dev nD) (R : Fin 1408) (j : Fin 1024) : (dats m 0 c).arrAt 4 cfg0.N (ix2 R j) = arg1 m c (ix2 R j) := by
  have h := congrFun (blocks4 m c (point R) (flush0_4 _)) (ix2 (inBlock R) j)
  rw [View.read_apply, flushed4] at h
  have e := out4 (iblk m c 0 (point R)) (iblk m c 1 (point R)) (iblk m c 2 (point R)) (iblk m c 3 (point R)) (inBlock R) j
  rw [blk1, at_block] at e
  rw [← e]
  refine Eq.trans (congrArg _ ?_) h
  funext a'
  apply Fin.ext
  have hi := index4 (point R)
  match a' with
  | ⟨0, _⟩ => show R.val = win0_4.index (point R) 0 * 352 + 1 * (R.val % 352); rw [hi]; simp [point]; omega
  | ⟨1, _⟩ => show j.val = win0_4.index (point R) 1 * 1024 + 1 * j.val; rw [hi]; simp

theorem final5 (c : Dev nD) (R : Fin 1408) (j : Fin 1024) : (dats m 0 c).arrAt 5 cfg0.N (ix2 R j) = step (arg0 m c (ix2 R j)) (arg1 m c (ix2 R j)) (arg2 m c (ix2 R j)) (arg3 m c (ix2 R j)) := by
  have h := congrFun (blocks5 m c (point R) (flush0_5 _)) (ix2 (inBlock R) j)
  rw [View.read_apply, flushed5] at h
  have e := out5 (iblk m c 0 (point R)) (iblk m c 1 (point R)) (iblk m c 2 (point R)) (iblk m c 3 (point R)) (inBlock R) j
  rw [blk0, blk1, blk2, blk3, at_block] at e
  rw [← e]
  refine Eq.trans (congrArg _ ?_) h
  funext a'
  apply Fin.ext
  have hi := index5 (point R)
  match a' with
  | ⟨0, _⟩ => show R.val = win0_5.index (point R) 0 * 352 + 1 * (R.val % 352); rw [hi]; simp [point]; omega
  | ⟨1, _⟩ => show j.val = win0_5.index (point R) 1 * 1024 + 1 * j.val; rw [hi]; simp

theorem final6 (c : Dev nD) (R : Fin 1408) (j : Fin 1024) : (dats m 0 c).arrAt 6 cfg0.N (ix2 R j) = mom (arg1 m c (ix2 R j)) (arg2 m c (ix2 R j)) := by
  have h := congrFun (blocks6 m c (point R) (flush0_6 _)) (ix2 (inBlock R) j)
  rw [View.read_apply, flushed6] at h
  have e := out6 (iblk m c 0 (point R)) (iblk m c 1 (point R)) (iblk m c 2 (point R)) (iblk m c 3 (point R)) (inBlock R) j
  rw [blk1, blk2, at_block] at e
  rw [← e]
  refine Eq.trans (congrArg _ ?_) h
  funext a'
  apply Fin.ext
  have hi := index6 (point R)
  match a' with
  | ⟨0, _⟩ => show R.val = win0_6.index (point R) 0 * 352 + 1 * (R.val % 352); rw [hi]; simp [point]; omega
  | ⟨1, _⟩ => show j.val = win0_6.index (point R) 1 * 1024 + 1 * j.val; rw [hi]; simp

theorem final7 (c : Dev nD) (R : Fin 1408) (j : Fin 1024) : (dats m 0 c).arrAt 7 cfg0.N (ix2 R j) = sq (arg1 m c (ix2 R j)) (arg3 m c (ix2 R j)) := by
  have h := congrFun (blocks7 m c (point R) (flush0_7 _)) (ix2 (inBlock R) j)
  rw [View.read_apply, flushed7] at h
  have e := out7 (iblk m c 0 (point R)) (iblk m c 1 (point R)) (iblk m c 2 (point R)) (iblk m c 3 (point R)) (inBlock R) j
  rw [blk1, blk3, at_block] at e
  rw [← e]
  refine Eq.trans (congrArg _ ?_) h
  funext a'
  apply Fin.ext
  have hi := index7 (point R)
  match a' with
  | ⟨0, _⟩ => show R.val = win0_7.index (point R) 0 * 352 + 1 * (R.val % 352); rw [hi]; simp [point]; omega
  | ⟨1, _⟩ => show j.val = win0_7.index (point R) 1 * 1024 + 1 * j.val; rw [hi]; simp

namespace Ref
open Cert.AdamRefIdeal.Read
variable (x0 x1 x2 x3 : FVec Ideal S1408x1024 .f32) (R : Fin 1408) (j : Fin 1024)

theorem at4 : val_main_v4 (F := Ideal) x1 x2 (ix2 R j) = mom (x1 (ix2 R j)) (x2 (ix2 R j)) := by
  unfold val_main_v4 val_main_v3 val_main_v2 val_main_v1 val_main_v0 val_main_cst val_main_cst_0 mom
  pointwise

theorem at10 : val_main_v10 (F := Ideal) x1 x3 (ix2 R j) = sq (x1 (ix2 R j)) (x3 (ix2 R j)) := by
  unfold val_main_v10 val_main_v9 val_main_v8 val_main_v7 val_main_v6 val_main_v5 val_main_cst_1 val_main_cst_2 sq
  pointwise

theorem at23 : val_main_v23 (F := Ideal) x0 x1 x2 x3 (ix2 R j) = step (x0 (ix2 R j)) (x1 (ix2 R j)) (x2 (ix2 R j)) (x3 (ix2 R j)) := by
  unfold val_main_v23 val_main_v22 val_main_v21 val_main_v20 val_main_v19 val_main_v18 val_main_v17 val_main_v16 val_main_v15 val_main_v14 val_main_v13
    val_main_v12 val_main_v11 val_main_cst_3 val_main_cst_4 val_main_cst_5 val_main_cst_6 val_main_cst_7 step
  pointwise [at4, at10]

end Ref

theorem value : Cert.algebraic_AdamIdeal_AdamRefIdeal := by
  intro m g m' g' _ harg
  refine ⟨fun c => (dats m 0 c).arrAt 4 cfg0.N, fun c => (dats m 0 c).arrAt 5 cfg0.N, fun c => (dats m 0 c).arrAt 6 cfg0.N,
    fun c => (dats m 0 c).arrAt 7 cfg0.N, run_blocks m g, ?_⟩
  refine (θ_run Cert.AdamRefIdeal.defs _ _).mono (fun r h c => ?_) (Cert.AdamRefIdeal.Value.run m' g')
  obtain ⟨h0, h1, h2, h3, hr⟩ := h c
  obtain ⟨a0, a1, a2, a3⟩ := harg c
  refine ⟨h0.trans ?_, h1.trans ?_, h2.trans ?_, h3.trans ?_, hr⟩
  · rw [a1]
    funext i
    obtain ⟨R, j, rfl⟩ : ∃ R j, i = ix2 R j := ⟨i 0, i 1, eq_ix2 i⟩
    exact (final4 m c R j).symm
  · refine (Cert.AdamRefIdeal.Read.val_main_v23_eq _ _ _ _).trans ?_
    rw [a0, a1, a2, a3]
    funext i
    obtain ⟨R, j, rfl⟩ : ∃ R j, i = ix2 R j := ⟨i 0, i 1, eq_ix2 i⟩
    exact (Ref.at23 _ _ _ _ R j).trans (final5 m c R j).symm
  · refine (Cert.AdamRefIdeal.Read.val_main_v4_eq _ _).trans ?_
    rw [a1, a2]
    funext i
    obtain ⟨R, j, rfl⟩ : ∃ R j, i = ix2 R j := ⟨i 0, i 1, eq_ix2 i⟩
    exact (Ref.at4 _ _ R j).trans (final6 m c R j).symm
  · refine (Cert.AdamRefIdeal.Read.val_main_v10_eq _ _).trans ?_
    rw [a1, a3]
    funext i
    obtain ⟨R, j, rfl⟩ : ∃ R j, i = ix2 R j := ⟨i 0, i 1, eq_ix2 i⟩
    exact (Ref.at10 _ _ R j).trans (final7 m c R j).symm

/-- The reference leaves its arguments and its counters as they were. -/
theorem frame_ref : Cert.quiescent_AdamRefIdeal := fun m g _ =>
  (θ_run Cert.AdamRefIdeal.defs _ _).mono (fun r h => ⟨fun c => (h c).2.2.2.2, sem_eq_zero_of_no_sems (by decide) r.2⟩)
    (Cert.AdamRefIdeal.Value.run (F := Ideal) m g)

end Cert.AdamIdeal.Value

end
-- ==== Proof.Qkv.Points.lean ====
/-
  The attention's input product, one grid point at a time: what a point leaves in its two output buffers, read at an
  index. The kernel rotates queries and keys by one product with the cosines and one, of the row with its halves
  exchanged, with the signed sines.
-/
module

public import proofs.«01_k».proof.Proof.Norm
public import proofs.«01_k».proof.Proof.Gen.QkvIdeal.Value
public import Idealize.ShloMosaic.Lib.Pipeline.ReadBack
public import Idealize.ShloMosaic.Lib.KernelVsHost
public import Idealize.ShloMosaic.Lib.Pipeline.ValueKit.Tiles

@[expose] public section

noncomputable section

open Idealize.ShloMosaic Idealize.ShloMosaic.TcCoe Idealize.SL.Sem
open Idealize.ShloMosaic.Pipeline (Dat)

namespace Cert.QkvIdeal.Value
open Cert.QkvIdeal Cert.QkvIdeal.Gen

variable (m : (ℓ : Loc nD τ sig) → Buf (Elt Ideal) ℓ)

theorem hz : (![0, 0] : Fin 2 → Nat) = fun _ => 0 := funext fun a => by fin_cases a <;> rfl

/-- A row after the norm. -/
def normed (x g : Fin 1024 → EReal) (k : Fin 1024) : EReal := x k * Norm.rstd x * g k

/-- The column that the rotation pairs with a column: the same place in the other half of its head. -/
def partner (n : Fin 1280) : Fin 1280 := if h : n.val % 64 < 32 then ⟨n.val + 32, by omega⟩ else ⟨n.val - 32, by omega⟩

/-- A block's input product. -/
def product (x0 : Vec Ideal S512x1024 .f32) (x1 : Vec Ideal S1x1024 .f32) (x2 : Vec Ideal S1280x1024 .bf16) (x3 : Vec Ideal S1x1280 .f32)
    (r : Fin 512) (n : Fin 1280) : EReal :=
  ∑ k, normed (fun k => x0 (ix2 r k)) (fun k => x1 (ix2 0 k)) k * x2 (ix2 n k) + x3 (ix2 0 n)

theorem pay3 (x0 : Vec Ideal S512x1024 .f32) (x1 : Vec Ideal S1x1024 .f32) (r : Fin 512) (k : Fin 1024) :
    k0_pay3 (F := Ideal) x0 x1 (ix2 r k) = normed (fun k => x0 (ix2 r k)) (fun k => x1 (ix2 0 k)) k := by
  unfold k0_pay3 normed Norm.rstd
  pointwise

theorem pay4 (x0 : Vec Ideal S512x1024 .f32) (x1 : Vec Ideal S1x1024 .f32) (x2 : Vec Ideal S1280x1024 .bf16) (x3 : Vec Ideal S1x1280 .f32)
    (r : Fin 512) (n : Fin 1280) : k0_pay4 (F := Ideal) x0 x1 x2 x3 (ix2 r n) = product x0 x1 x2 x3 r n := by
  unfold k0_pay4 product
  pointwise [pay3, dot_S512x1024_S1280x1024_S512x1280_1_1_0_0_n_n]

theorem pay5 (x0 : Vec Ideal S512x1024 .f32) (x1 : Vec Ideal S1x1024 .f32) (x2 : Vec Ideal S1280x1024 .bf16) (x3 : Vec Ideal S1x1280 .f32)
    (r : Fin 512) (n : Fin 1152) : k0_pay5 (F := Ideal) x0 x1 x2 x3 (ix2 r n) = product x0 x1 x2 x3 r ⟨n.val, by omega⟩ := by
  unfold k0_pay5
  pointwise [pay4]

/-- Nine copies of a table of 128 columns, side by side. -/
theorem copies (x : Vec Ideal S512x128 .f32) (h) (r : Fin 512) (n : Fin 1152) :
    concatenate S512x1152 1 (List.replicate 9 ⟨S512x128, x⟩) h (ix2 r n) = x (ix2 r ⟨n.val % 128, by omega⟩) := by
  refine concatenate_replicate_apply (t := S512x1152) 1 9 x h rfl (ix2 r n) (ix2 r ⟨n.val % 128, by omega⟩) rfl ?_
  intro b hb
  match b with
  | ⟨0, _⟩ => rfl
  | ⟨1, _⟩ => exact absurd rfl hb

/-- Which columns take their partner from the right, as the kernel writes it. -/
def mask (n : Fin 1152) : BitVec 1 :=
  let w : BitVec 32 := Scalar.select (Scalar.cmpi .eq 64#32 0#32) 1#32 64#32
  let q := IntOp.remsi .vector (BitVec.ofNat 32 n.val) w
  IntOp.cmpi .slt (Scalar.select (IntOp.andi (IntOp.xori (IntOp.cmpi .slt q 0#32) (Scalar.cmpi .slt w 0#32)) (IntOp.cmpi .ne q 0#32)) (IntOp.addi q w) q) 32#32

theorem mask_at : ∀ n : Fin 1152, mask n = if n.val % 64 < 32 then 1#1 else 0#1 := by decide +kernel

theorem pay1 (v29 v30 v32 v33 : FVec Ideal S512x1152 .f32) (r : Fin 512) (n : Fin 1152) :
    k0_pay1 (F := Ideal) v29 v30 (iota .tc S512x1152 32 [1] iota_S512x1152_d1_w32) v32 v33 64#32 (Scalar.cmpi .eq 64#32 0#32) 1#32 (ix2 r n)
      = v30 (ix2 r n) + (if n.val % 64 < 32 then v32 (ix2 r n) else v33 (ix2 r n)) * v29 (ix2 r n) := by
  have e : k0_pay1 (F := Ideal) v29 v30 (iota .tc S512x1152 32 [1] iota_S512x1152_d1_w32) v32 v33 64#32 (Scalar.cmpi .eq 64#32 0#32) 1#32 (ix2 r n)
      = v30 (ix2 r n) + Scalar.select (mask n) (v32 (ix2 r n)) (v33 (ix2 r n)) * v29 (ix2 r n) := by
    unfold k0_pay1 mask
    pointwise
  rw [e, mask_at]
  by_cases h : n.val % 64 < 32 <;> simp [h, Scalar.select]

theorem pay6 (x : Vec Ideal S512x128 .f32) (r : Fin 512) (n : Fin 1152) : k0_pay6 (F := Ideal) x (ix2 r n) = x (ix2 r ⟨n.val % 128, by omega⟩) := by
  unfold k0_pay6
  refine (copies _ _ r n).trans ?_
  pointwise

theorem pay7 (x0 : Vec Ideal S512x1024 .f32) (x1 : Vec Ideal S1x1024 .f32) (x2 : Vec Ideal S1280x1024 .bf16) (x3 : Vec Ideal S1x1280 .f32)
    (x : Vec Ideal S512x128 .f32) (r : Fin 512) (n : Fin 1152) :
    k0_pay7 (F := Ideal) x0 x1 x2 x3 x (ix2 r n) = product x0 x1 x2 x3 r ⟨n.val, by omega⟩ * x (ix2 r ⟨n.val % 128, by omega⟩) :=
  congrArg₂ (· * ·) (pay5 x0 x1 x2 x3 r n) (pay6 x r n)

/-- The row's columns moved to the left by half a head. -/
theorem pay8 (x0 : Vec Ideal S512x1024 .f32) (x1 : Vec Ideal S1x1024 .f32) (x2 : Vec Ideal S1280x1024 .bf16) (x3 : Vec Ideal S1x1280 .f32)
    (r : Fin 512) (n : Fin 1152) (h : n.val % 64 < 32) :
    k0_pay8 (F := Ideal) x0 x1 x2 x3 (ix2 r n) = product x0 x1 x2 x3 r (partner ⟨n.val, by omega⟩) := by
  unfold k0_pay8
  refine (dynamicRotate_apply 1 1120#32 _ _ (ix2 r n) (ix2 r ⟨n.val + 32, by omega⟩) ?_).trans ((pay5 x0 x1 x2 x3 r _).trans ?_)
  · intro b
    match b with
    | ⟨0, _⟩ => rfl
    | ⟨1, _⟩ => show n.val + 32 = (n.val + 1152 - 1120 % 1152) % 1152; omega
  · unfold partner
    rw [dif_pos h]

/-- The row's columns moved to the right by half a head. -/
theorem pay9 (x0 : Vec Ideal S512x1024 .f32) (x1 : Vec Ideal S1x1024 .f32) (x2 : Vec Ideal S1280x1024 .bf16) (x3 : Vec Ideal S1x1280 .f32)
    (r : Fin 512) (n : Fin 1152) (h : ¬n.val % 64 < 32) :
    k0_pay9 (F := Ideal) x0 x1 x2 x3 (ix2 r n) = product x0 x1 x2 x3 r (partner ⟨n.val, by omega⟩) := by
  unfold k0_pay9
  refine (dynamicRotate_apply 1 32#32 _ _ (ix2 r n) (ix2 r ⟨n.val - 32, by omega⟩) ?_).trans ((pay5 x0 x1 x2 x3 r _).trans ?_)
  · intro b
    match b with
    | ⟨0, _⟩ => rfl
    | ⟨1, _⟩ => show n.val - 32 = (n.val + 1152 - 32 % 1152) % 1152; omega
  · unfold partner
    rw [dif_neg h]

/-- A row of the second result. -/
def rotated (p : Fin 1280 → EReal) (cs sn : Fin 128 → EReal) (n : Fin 1280) : EReal :=
  if n.val < 1152 then p n * cs ⟨n.val % 128, by omega⟩ + p (partner n) * sn ⟨n.val % 128, by omega⟩ else p n

set_option maxHeartbeats 4000000 in
theorem out6 (c : Dev nD) (t : Fin cfg0.N) (r : Fin 512) (k : Fin 1024) :
    (outsAt0 m c t).1 (ix2 r k) = normed (fun k => (iblk m c 0 t : Vec Ideal S512x1024 .f32) (ix2 r k)) (fun k => (iblk m c 1 t : Vec Ideal S1x1024 .f32) (ix2 0 k)) k := by
  unfold outsAt0
  dsimp only
  unfold out0_A_6
  rw [View.read_writes_eq_canon _ _ _ (fun _ => cover0_A_6 ..)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, View.ld_unit_zero (S := S512x1024) hz, View.ld_unit_zero (S := S1x1024) hz,
    View.ld_unit_zero (S := S1280x1024) hz, View.ld_unit_zero (S := S1x1280) hz, View.ld_unit_zero (S := S512x128) hz]
  generalize iblk m c 0 t = x0, iblk m c 1 t = x1, iblk m c 2 t = x2, iblk m c 3 t = x3, iblk m c 4 t = x4, iblk m c 5 t = x5
  rw [View.canon_unit_zero hz]
  exact pay3 x0 x1 r k

set_option maxHeartbeats 4000000 in
theorem out7 (c : Dev nD) (t : Fin cfg0.N) (r : Fin 512) (n : Fin 1280) :
    (outsAt0 m c t).2 (ix2 r n) = rotated (product (iblk m c 0 t) (iblk m c 1 t) (iblk m c 2 t) (iblk m c 3 t) r)
      (fun l => (iblk m c 4 t : Vec Ideal S512x128 .f32) (ix2 r l)) (fun l => (iblk m c 5 t : Vec Ideal S512x128 .f32) (ix2 r l)) n := by
  unfold outsAt0
  dsimp only
  unfold out0_A_7
  rw [View.read_writes_eq_canon _ _ _ (fun _ => cover0_A_7 ..)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, View.ld_unit_zero (S := S512x1024) hz, View.ld_unit_zero (S := S1x1024) hz,
    View.ld_unit_zero (S := S1280x1024) hz, View.ld_unit_zero (S := S1x1280) hz, View.ld_unit_zero (S := S512x128) hz]
  generalize iblk m c 0 t = x0, iblk m c 1 t = x1, iblk m c 2 t = x2, iblk m c 3 t = x3, iblk m c 4 t = x4, iblk m c 5 t = x5
  canon_tiles using View.cover_of_tiledBy _ ![512, 128] (by sl_kernel_rfl) _
  · obtain ⟨p, q, rfl⟩ : ∃ (p : Fin 512) (q : Fin 128), x = ix2 p q := ⟨x 0, x 1, eq_ix2 x⟩
    obtain rfl : r = p := Fin.ext h0
    have hn : n.val = 1152 + q.val := h1
    unfold rotated k0_pay2
    rw [if_neg (by omega)]
    pointwise [pay4]
    exact congrArg (product x0 x1 x2 x3 r) (Fin.ext (by dsimp only; omega))
  · obtain ⟨p, q, rfl⟩ : ∃ (p : Fin 512) (q : Fin 1152), x = ix2 p q := ⟨x 0, x 1, eq_ix2 x⟩
    obtain rfl : r = p := Fin.ext h0
    obtain rfl : n = ⟨q.val, Nat.lt_trans q.isLt (by decide)⟩ := Fin.ext h1
    unfold rotated
    rw [if_pos q.isLt]
    refine (pay1 _ _ _ _ r q).trans ?_
    rw [pay7, pay6]
    by_cases h : q.val % 64 < 32
    · rw [if_pos h, pay8 _ _ _ _ _ _ h]
    · rw [if_neg h, pay9 _ _ _ _ _ _ h]

end Cert.QkvIdeal.Value

end
-- ==== Proof.Qkv.Kernel.lean ====
/-
  The attention's input product: the kernel's tables and blocks, the reference's rotation by halves, and their equality.
-/
module

public import proofs.«01_k».proof.Defs
public import proofs.«01_k».proof.Proof.Qkv.Points
public import proofs.«01_k».proof.Proof.Gen.QkvRefIdeal.Read

@[expose] public section

noncomputable section

open Idealize.ShloMosaic Idealize.ShloMosaic.TcCoe Idealize.SL.Sem
open Idealize.ShloMosaic.Pipeline (Dat)

namespace Cert.QkvIdeal.Value
open Cert.QkvIdeal Cert.QkvIdeal.Gen
open Cert.QkvRefIdeal.Read (val_main_v0 val_main_v10)

variable (m : (ℓ : Loc nD τ sig) → Buf (Elt Ideal) ℓ)

/-- The rows. -/
abbrev arg0 (c : Dev nD) : FVec Ideal S8192x1024 .f32 := m ((c : Thread nD τ).loc main_arg0)
/-- The norms' gains. -/
abbrev arg1 (c : Dev nD) : FVec Ideal S2x1024 .f32 := m ((c : Thread nD τ).loc main_arg1)
/-- The weight. -/
abbrev arg2 (c : Dev nD) : FVec Ideal S1x1024x1280 .f32 := m ((c : Thread nD τ).loc main_arg2)
/-- The bias. -/
abbrev arg3 (c : Dev nD) : FVec Ideal S1x1280 .f32 := m ((c : Thread nD τ).loc main_arg3)

/-- The angle of a position at a frequency. -/
def angle (R : Fin 8192) (h : Fin 32) : EReal := val_main_v0 (F := Ideal) (ix1 R) * val_main_v10 (F := Ideal) (ix1 h)

/-- The table of cosines, over two heads. -/
def cosines (R : Fin 8192) (l : Fin 128) : EReal := Ideal.cos (angle R ⟨l.val % 32, by omega⟩)
/-- The table of signed sines, over two heads. -/
def sines (R : Fin 8192) (l : Fin 128) : EReal :=
  if l.val % 64 < 32 then -Ideal.sin (angle R ⟨l.val % 32, by omega⟩) else Ideal.sin (angle R ⟨l.val % 32, by omega⟩)

/-- A row of the input product. -/
def row (a0 : FVec Ideal S8192x1024 .f32) (a1 : FVec Ideal S2x1024 .f32) (a2 : FVec Ideal S1x1024x1280 .f32) (a3 : FVec Ideal S1x1280 .f32)
    (R : Fin 8192) (n : Fin 1280) : EReal :=
  ∑ k, normed (fun k => a0 (ix2 R k)) (fun k => a1 (ix2 0 k)) k * a2 (ix3 0 k n) + a3 (ix2 0 n)

/-- Row `r` of point `t`'s block, among all rows. -/
def at_ (t : Fin cfg0.N) (r : Fin 512) : Fin 8192 := ⟨t.val * 512 + r.val, by have := t.isLt; have : cfg0.N = 16 := N_0; omega⟩

/-- The point whose block a row lies in. -/
def point (R : Fin 8192) : Fin cfg0.N := ⟨R.val / 512, by have := R.isLt; have : cfg0.N = 16 := N_0; omega⟩
/-- The row's place in its block. -/
abbrev inBlock (R : Fin 8192) : Fin 512 := ⟨R.val % 512, by omega⟩

theorem at_block (R : Fin 8192) : at_ (point R) (inBlock R) = R := Fin.ext (by unfold at_ point; dsimp only; omega)

/-! ## What the host prepares -/

theorem v10 (c : Dev nD) : V m c main_v10 = val_main_v10 (F := Ideal) := by
  unfold V
  simp only [List.flatten_cons, List.flatten_nil, List.append_nil, List.cons_append, List.nil_append]
  after_results_simp
  rfl

theorem v0 (c : Dev nD) : V m c main_v0 = val_main_v0 (F := Ideal) := by
  unfold V
  simp only [List.flatten_cons, List.flatten_nil, List.append_nil, List.cons_append, List.nil_append]
  after_results_simp
  rfl

theorem v14 (c : Dev nD) (l : Fin 128) : V m c main_v14 (ix1 l) = val_main_v10 (F := Ideal) (ix1 ⟨l.val % 32, by omega⟩) := by
  rw [← v10 m c]
  have e : V m c main_v14 = shapeCast S128 (broadcastInDim S4x32 ![0, 1] bcast_S1x32_S4x32_0_1
      (shapeCast S1x32 (V m c main_v10 : FVec Ideal S32 .f32) shapeCasts_S32_S1x32)) shapeCasts_S4x32_S128 := by
    unfold V
    simp only [List.flatten_cons, List.flatten_nil, List.append_nil, List.cons_append, List.nil_append]
    after_results_simp
    rfl
  rw [e]
  generalize V m c main_v10 = T
  pointwise

/-- The angles, over two heads. -/
theorem v18 (c : Dev nD) (R : Fin 8192) (l : Fin 128) : V m c main_v18 (ix2 R l) = angle R ⟨l.val % 32, by omega⟩ := by
  have e : V m c main_v18 = mulf (F := Ideal) (φ := .f32)
      (broadcastInDim S8192x128 ![0, 1] bcast_S8192x1_S8192x128_0_1 (broadcastInDim S8192x1 ![0] bcast_S8192_S8192x1_0 (V m c main_v0 : FVec Ideal S8192 .f32)))
      (broadcastInDim S8192x128 ![0, 1] bcast_S1x128_S8192x128_0_1 (broadcastInDim S1x128 ![1] bcast_S128_S1x128_1
        (V m c main_v14 : FVec Ideal S128 .f32))) := by
    unfold V
    simp only [List.flatten_cons, List.flatten_nil, List.append_nil, List.cons_append, List.nil_append]
    after_results_simp
  rw [e, v0 m c]
  have h := v14 m c l
  generalize V m c main_v14 = T at h ⊢
  unfold angle
  rw [← h]
  generalize val_main_v0 (F := Ideal) = P
  pointwise

theorem v23 (c : Dev nD) (R : Fin 8192) (l : Fin 128) : V m c main_v23 (ix2 R l) = cosines R l := by
  have e : V m c main_v23 = Host.cos (F := Ideal) (φ := .f32) (V m c main_v18 : FVec Ideal S8192x128 .f32) := by
    unfold V
    simp only [List.flatten_cons, List.flatten_nil, List.append_nil, List.cons_append, List.nil_append]
    after_results_simp
  rw [e]
  have h := v18 m c R l
  generalize V m c main_v18 = T at h ⊢
  unfold cosines
  rw [← h]
  rfl

/-- Which columns lie in the second half of a head, as the host writes it. -/
def half (l : Fin 128) : BitVec 1 :=
  let w : BitVec 32 := Scalar.select (IntOp.cmpi .eq 64#32 0#32) 1#32 64#32
  let q := IntOp.remsi .host (BitVec.ofNat 32 l.val) w
  IntOp.cmpi .sge (Scalar.select (IntOp.andi (IntOp.cmpi .ne (IntOp.cmpi .slt q 0#32) (IntOp.cmpi .slt w 0#32)) (IntOp.cmpi .ne q 0#32)) (IntOp.addi q w) q) 32#32

theorem half_at : ∀ l : Fin 128, half l = if l.val % 64 < 32 then 0#1 else 1#1 := by decide +kernel

/-- The divisor, as the host writes it: one where it would be zero. -/
abbrev divisor : IVec S_ 32 := select (cmpi .eq (constantI S_ 32 64#32) (constantI S_ 32 0#32)) (constantI S_ 32 1#32) (constantI S_ 32 64#32)

theorem v22 (c : Dev nD) (l : Fin 128) : V m c main_v22 (ix1 l) = half l := by
  have e : V m c main_v22 = cmpi .sge (select (andi (cmpi .ne
        (cmpi .slt (Host.remsi (iotaInDim S128 32 0) (broadcastInDim S128 ![] bcast_S_S128 divisor)) (broadcastInDim S128 ![] bcast_S_S128 (constantI S_ 32 0#32)))
        (broadcastInDim S128 ![] bcast_S_S128 (cmpi .slt divisor (constantI S_ 32 0#32))))
      (cmpi .ne (Host.remsi (iotaInDim S128 32 0) (broadcastInDim S128 ![] bcast_S_S128 divisor)) (broadcastInDim S128 ![] bcast_S_S128 (constantI S_ 32 0#32))))
      (addi (Host.remsi (iotaInDim S128 32 0) (broadcastInDim S128 ![] bcast_S_S128 divisor)) (broadcastInDim S128 ![] bcast_S_S128 divisor))
      (Host.remsi (iotaInDim S128 32 0) (broadcastInDim S128 ![] bcast_S_S128 divisor))) (broadcastInDim S128 ![] bcast_S_S128 (constantI S_ 32 32#32)) := by
    unfold V
    simp only [List.flatten_cons, List.flatten_nil, List.append_nil, List.cons_append, List.nil_append]
    after_results_simp
    rfl
  rw [e]
  unfold half
  pointwise

theorem v28 (c : Dev nD) (R : Fin 8192) (l : Fin 128) : V m c main_v28 (ix2 R l) = sines R l := by
  have e : V m c main_v28 = select (broadcastInDim S8192x128 ![0, 1] bcast_S1x128_S8192x128_0_1 (broadcastInDim S1x128 ![1] bcast_S128_S1x128_1
        (V m c main_v22 : IVec S128 1)))
      (Host.sin (F := Ideal) (φ := .f32) (V m c main_v18 : FVec Ideal S8192x128 .f32)) (Host.negf (F := Ideal) (φ := .f32) (Host.sin (F := Ideal) (φ := .f32) (V m c main_v18 : FVec Ideal S8192x128 .f32))) := by
    unfold V
    simp only [List.flatten_cons, List.flatten_nil, List.append_nil, List.cons_append, List.nil_append]
    after_results_simp
    rfl
  rw [e]
  have h := v18 m c R l
  have hm := (v22 m c l).trans (half_at l)
  generalize V m c main_v18 = T at h ⊢
  generalize V m c main_v22 = M at hm ⊢
  unfold sines
  rw [← h]
  pointwise [hm]
  by_cases hl : l.val % 64 < 32 <;> simp [hl, Scalar.select]

theorem v29 (c : Dev nD) (j : Fin 1024) : V m c main_v29 (ix2 0 j) = arg1 m c (ix2 0 j) := by
  have e : V m c main_v29 = extractStridedSlice S1x1024 ![0, 0] (arg1 m c) slices_S2x1024_S1x1024_0_0 := by
    unfold V
    simp only [List.flatten_cons, List.flatten_nil, List.append_nil, List.cons_append, List.nil_append]
    after_results_simp
  rw [e]
  pointwise

theorem v32 (c : Dev nD) (n : Fin 1280) (k : Fin 1024) : V m c main_v32 (ix2 n k) = arg2 m c (ix3 0 k n) := by
  have e : V m c main_v32 = truncf (F := Ideal) .bf16 (transpose S1280x1024 [1, 0] (shapeCast S1024x1280 (arg2 m c) shapeCasts_S1x1024x1280_S1024x1280)
      transposes_S1024x1280_S1280x1024_1_0) bitsLt_bf16_f32 := by
    unfold V
    simp only [List.flatten_cons, List.flatten_nil, List.append_nil, List.cons_append, List.nil_append]
    after_results_simp
    rfl
  rw [e]
  pointwise

/-! ## The blocks a point sees -/

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![t.val, 0] := by decide +kernel
theorem index5 : ∀ t : Fin grid0.N, win0_5.index t = ![t.val, 0] := by decide +kernel
theorem index6 : ∀ t : Fin grid0.N, win0_6.index t = ![t.val, 0] := by decide +kernel
theorem index7 : ∀ t : Fin grid0.N, win0_7.index t = ![t.val, 0] := by decide +kernel

theorem blk0 (c : Dev nD) (t : Fin cfg0.N) (r : Fin 512) (j : Fin 1024) : (iblk m c 0 t : Vec Ideal S512x1024 .f32) (ix2 r j) = arg0 m c (ix2 (at_ t r) j) := by
  refine Eq.trans ?_ (congrFun (V_main_arg0 m c) _)
  unfold iblk
  rw [View.read_apply]
  show V m c main_arg0 _ = _
  congr 1
  funext a'
  apply Fin.ext
  have hi := index0 t
  match a' with
  | ⟨0, _⟩ => show win0_0.index t 0 * 512 + 1 * r.val = t.val * 512 + r.val; rw [hi]; simp
  | ⟨1, _⟩ => show win0_0.index t 1 * 1024 + 1 * j.val = j.val; rw [hi]; simp

theorem blk1 (c : Dev nD) (t : Fin cfg0.N) (j : Fin 1024) : (iblk m c 1 t : Vec Ideal S1x1024 .f32) (ix2 0 j) = arg1 m c (ix2 0 j) := by
  rw [← v29]
  unfold iblk
  rw [View.read_apply]
  show V m c main_v29 _ = _
  congr 1
  funext a'
  apply Fin.ext
  have hi := index1 t
  match a' with
  | ⟨0, _⟩ => show win0_1.index t 0 * 1 + 1 * 0 = 0; rw [hi]; simp
  | ⟨1, _⟩ => show win0_1.index t 1 * 1024 + 1 * j.val = j.val; rw [hi]; simp

theorem blk2 (c : Dev nD) (t : Fin cfg0.N) (n : Fin 1280) (k : Fin 1024) : (iblk m c 2 t : Vec Ideal S1280x1024 .bf16) (ix2 n k) = arg2 m c (ix3 0 k n) := by
  rw [← v32]
  unfold iblk
  rw [View.read_apply]
  show V m c main_v32 _ = _
  congr 1
  funext a'
  apply Fin.ext
  have hi := index2 t
  match a' with
  | ⟨0, _⟩ => show win0_2.index t 0 * 1280 + 1 * n.val = n.val; rw [hi]; simp
  | ⟨1, _⟩ => show win0_2.index t 1 * 1024 + 1 * k.val = k.val; rw [hi]; simp

theorem blk3 (c : Dev nD) (t : Fin cfg0.N) (n : Fin 1280) : (iblk m c 3 t : Vec Ideal S1x1280 .f32) (ix2 0 n) = arg3 m c (ix2 0 n) := by
  refine Eq.trans ?_ (congrFun (V_main_arg3 m c) _)
  unfold iblk
  rw [View.read_apply]
  show V m c main_arg3 _ = _
  congr 1
  funext a'
  apply Fin.ext
  have hi := index3 t
  match a' with
  | ⟨0, _⟩ => show win0_3.index t 0 * 1 + 1 * 0 = 0; rw [hi]; simp
  | ⟨1, _⟩ => show win0_3.index t 1 * 1280 + 1 * n.val = n.val; rw [hi]; simp

theorem blk4 (c : Dev nD) (t : Fin cfg0.N) (r : Fin 512) (l : Fin 128) : (iblk m c 4 t : Vec Ideal S512x128 .f32) (ix2 r l) = cosines (at_ t r) l := by
  rw [← v23 m]
  unfold iblk
  rw [View.read_apply]
  show V m c main_v23 _ = _
  congr 1
  funext a'
  apply Fin.ext
  have hi := index4 t
  match a' with
  | ⟨0, _⟩ => show win0_4.index t 0 * 512 + 1 * r.val = t.val * 512 + r.val; rw [hi]; simp
  | ⟨1, _⟩ => show win0_4.index t 1 * 128 + 1 * l.val = l.val; rw [hi]; simp

theorem blk5 (c : Dev nD) (t : Fin cfg0.N) (r : Fin 512) (l : Fin 128) : (iblk m c 5 t : Vec Ideal S512x128 .f32) (ix2 r l) = sines (at_ t r) l := by
  rw [← v28 m]
  unfold iblk
  rw [View.read_apply]
  show V m c main_v28 _ = _
  congr 1
  funext a'
  apply Fin.ext
  have hi := index5 t
  match a' with
  | ⟨0, _⟩ => show win0_5.index t 0 * 512 + 1 * r.val = t.val * 512 + r.val; rw [hi]; simp
  | ⟨1, _⟩ => show win0_5.index t 1 * 128 + 1 * l.val = l.val; rw [hi]; simp

/-! ## The two results -/

theorem final6 (c : Dev nD) (R : Fin 8192) (j : Fin 1024) : (dats m 0 c).arrAt 6 cfg0.N (ix2 R j)
    = normed (fun k => arg0 m c (ix2 R k)) (fun k => arg1 m c (ix2 0 k)) j := by
  have h := congrFun (blocks6 m c (point R) (flush0_6 _)) (ix2 (inBlock R) j)
  rw [View.read_apply, flushed6] at h
  have e := (out6 m c (point R) (inBlock R) j).trans
    (congrArg₂ (normed · · j) (funext fun k => blk0 m c (point R) (inBlock R) k) (funext fun k => blk1 m c (point R) k))
  rw [at_block] at e
  rw [← e]
  refine Eq.trans (congrArg _ ?_) h
  funext a'
  apply Fin.ext
  have hi := index6 (point R)
  match a' with
  | ⟨0, _⟩ => show R.val = win0_6.index (point R) 0 * 512 + 1 * (R.val % 512); rw [hi]; simp [point]; omega
  | ⟨1, _⟩ => show j.val = win0_6.index (point R) 1 * 1024 + 1 * j.val; rw [hi]; simp

theorem product_block (c : Dev nD) (t : Fin cfg0.N) (r : Fin 512) :
    product (iblk m c 0 t) (iblk m c 1 t) (iblk m c 2 t) (iblk m c 3 t) r = row (arg0 m c) (arg1 m c) (arg2 m c) (arg3 m c) (at_ t r) := by
  funext n
  unfold product row
  have e0 : (fun k => (iblk m c 0 t : Vec Ideal S512x1024 .f32) (ix2 r k)) = fun k => arg0 m c (ix2 (at_ t r) k) := funext fun k => blk0 m c t r k
  have e1 : (fun k => (iblk m c 1 t : Vec Ideal S1x1024 .f32) (ix2 0 k)) = fun k => arg1 m c (ix2 0 k) := funext fun k => blk1 m c t k
  refine congrArg₂ (· + ·) (Finset.sum_congr rfl fun k _ => congrArg₂ (· * ·) ?_ (blk2 m c t n k)) (blk3 m c t n)
  exact congrArg₂ (normed · · k) e0 e1

theorem final7 (c : Dev nD) (R : Fin 8192) (j : Fin 1280) : (dats m 0 c).arrAt 7 cfg0.N (ix2 R j)
    = rotated (row (arg0 m c) (arg1 m c) (arg2 m c) (arg3 m c) R) (cosines R) (sines R) j := by
  have h := congrFun (blocks7 m c (point R) (flush0_7 _)) (ix2 (inBlock R) j)
  rw [View.read_apply, flushed7] at h
  have e4 : (fun l => (iblk m c 4 (point R) : Vec Ideal S512x128 .f32) (ix2 (inBlock R) l)) = cosines (at_ (point R) (inBlock R)) :=
    funext fun l => blk4 m c (point R) (inBlock R) l
  have e5 : (fun l => (iblk m c 5 (point R) : Vec Ideal S512x128 .f32) (ix2 (inBlock R) l)) = sines (at_ (point R) (inBlock R)) :=
    funext fun l => blk5 m c (point R) (inBlock R) l
  have e := out7 m c (point R) (inBlock R) j
  rw [product_block, e4, e5, at_block] at e
  rw [← e]
  refine Eq.trans (congrArg _ ?_) h
  funext a'
  apply Fin.ext
  have hi := index7 (point R)
  match a' with
  | ⟨0, _⟩ => show R.val = win0_7.index (point R) 0 * 512 + 1 * (R.val % 512); rw [hi]; simp [point]; omega
  | ⟨1, _⟩ => show j.val = win0_7.index (point R) 1 * 1280 + 1 * j.val; rw [hi]; simp

end Cert.QkvIdeal.Value

end
-- ==== Proof.Qkv.Value.lean ====
/-
  The attention's input product: the reference's rotation by halves read at an index, and both programs end with the same
  two results. The kernel adds the product with a negated sine where the reference subtracts.
-/
module

public import proofs.«01_k».proof.Proof.Qkv.Kernel

@[expose] public section

noncomputable section

open Idealize.ShloMosaic Idealize.ShloMosaic.TcCoe Idealize.SL.Sem

namespace Cert.QkvRefIdeal.Read
open Cert.QkvRefIdeal Cert.QkvRefIdeal.Gen
open Cert.QkvIdeal.Value (normed row angle rotated cosines sines partner)

variable (x0 : FVec Ideal S8192x1024 .f32) (x1 : FVec Ideal S2x1024 .f32) (x2 : FVec Ideal S1x1024x1280 .f32) (x3 : FVec Ideal S1x1280 .f32)

theorem at15 (R : Fin 8192) (h : Fin 32) : val_main_v15 (F := Ideal) (ix2 R h) = angle R h := by
  unfold val_main_v15 val_main_v14 val_main_v13 val_main_v12 val_main_v11 angle
  generalize val_main_v0 (F := Ideal) = P, val_main_v10 (F := Ideal) = Q
  pointwise

theorem at17 (R : Fin 8192) (h : Fin 32) : val_main_v17 (F := Ideal) (ix3 R 0 h) = Ideal.cos (angle R h) := by
  rw [← at15]
  unfold val_main_v17 val_main_v16
  generalize val_main_v15 (F := Ideal) = T
  pointwise

theorem at19 (R : Fin 8192) (h : Fin 32) : val_main_v19 (F := Ideal) (ix3 R 0 h) = Ideal.sin (angle R h) := by
  rw [← at15]
  unfold val_main_v19 val_main_v18
  generalize val_main_v15 (F := Ideal) = T
  pointwise

theorem at34 (R : Fin 8192) (j : Fin 1024) : val_main_v34 (F := Ideal) x0 x1 (ix2 R j) = normed (fun k => x0 (ix2 R k)) (fun k => x1 (ix2 0 k)) j := by
  unfold val_main_v34 val_main_v33 val_main_v32 val_main_v31 val_main_v30 val_main_v29 val_main_v28 val_main_v27 val_main_v26 val_main_v25 val_main_v24
    val_main_v23 val_main_v22 val_main_v21 val_main_v20 val_main_cst_3 val_main_cst_4 val_main_cst_5 normed Cert.Norm.rstd
  pointwise

theorem at38 (R : Fin 8192) (n : Fin 1280) : val_main_v38 (F := Ideal) x0 x1 x2 x3 (ix2 R n) = row x0 x1 x2 x3 R n := by
  unfold val_main_v38 val_main_v37 val_main_v36 val_main_v35 row
  pointwise [at34, dot_S8192x1024_S1024x1280_S8192x1280_1_0_0_1_n_n]

theorem at41 (R : Fin 8192) (H : Fin 16) (d : Fin 32) :
    val_main_v41 (F := Ideal) x0 x1 x2 x3 (ix3 R H d) = row x0 x1 x2 x3 R ⟨64 * H.val + d.val, by omega⟩ := by
  unfold val_main_v41 val_main_v40 val_main_v39
  pointwise [at38]
  exact congrArg (row x0 x1 x2 x3 _) (Fin.ext (by dsimp only; omega))

theorem at42 (R : Fin 8192) (H : Fin 16) (d : Fin 32) :
    val_main_v42 (F := Ideal) x0 x1 x2 x3 (ix3 R H d) = row x0 x1 x2 x3 R ⟨64 * H.val + d.val + 32, by omega⟩ := by
  unfold val_main_v42 val_main_v40 val_main_v39
  pointwise [at38]
  exact congrArg (row x0 x1 x2 x3 _) (Fin.ext (by dsimp only; omega))

theorem at47 (R : Fin 8192) (H : Fin 16) (d : Fin 32) :
    val_main_v47 (F := Ideal) x0 x1 x2 x3 (ix3 R H d) = row x0 x1 x2 x3 R ⟨64 * H.val + d.val, by omega⟩ * Ideal.cos (angle R d)
      - row x0 x1 x2 x3 R ⟨64 * H.val + d.val + 32, by omega⟩ * Ideal.sin (angle R d) := by
  unfold val_main_v47 val_main_v46 val_main_v45 val_main_v44 val_main_v43
  pointwise [at41, at42, at17, at19]

theorem at52 (R : Fin 8192) (H : Fin 16) (d : Fin 32) :
    val_main_v52 (F := Ideal) x0 x1 x2 x3 (ix3 R H d) = row x0 x1 x2 x3 R ⟨64 * H.val + d.val + 32, by omega⟩ * Ideal.cos (angle R d)
      + row x0 x1 x2 x3 R ⟨64 * H.val + d.val, by omega⟩ * Ideal.sin (angle R d) := by
  unfold val_main_v52 val_main_v51 val_main_v50 val_main_v49 val_main_v48
  pointwise [at41, at42, at17, at19]

theorem at56 (R : Fin 8192) (H : Fin 2) (d : Fin 32) :
    val_main_v56 (F := Ideal) x0 x1 x2 x3 (ix3 R H d) = row x0 x1 x2 x3 R ⟨1024 + 64 * H.val + d.val, by omega⟩ := by
  unfold val_main_v56 val_main_v55 val_main_v54
  pointwise [at38]
  exact congrArg (row x0 x1 x2 x3 _) (Fin.ext (by dsimp only; omega))

theorem at57 (R : Fin 8192) (H : Fin 2) (d : Fin 32) :
    val_main_v57 (F := Ideal) x0 x1 x2 x3 (ix3 R H d) = row x0 x1 x2 x3 R ⟨1024 + 64 * H.val + d.val + 32, by omega⟩ := by
  unfold val_main_v57 val_main_v55 val_main_v54
  pointwise [at38]
  exact congrArg (row x0 x1 x2 x3 _) (Fin.ext (by dsimp only; omega))

theorem at62 (R : Fin 8192) (H : Fin 2) (d : Fin 32) :
    val_main_v62 (F := Ideal) x0 x1 x2 x3 (ix3 R H d) = row x0 x1 x2 x3 R ⟨1024 + 64 * H.val + d.val, by omega⟩ * Ideal.cos (angle R d)
      - row x0 x1 x2 x3 R ⟨1024 + 64 * H.val + d.val + 32, by omega⟩ * Ideal.sin (angle R d) := by
  unfold val_main_v62 val_main_v61 val_main_v60 val_main_v59 val_main_v58
  pointwise [at56, at57, at17, at19]

theorem at67 (R : Fin 8192) (H : Fin 2) (d : Fin 32) :
    val_main_v67 (F := Ideal) x0 x1 x2 x3 (ix3 R H d) = row x0 x1 x2 x3 R ⟨1024 + 64 * H.val + d.val + 32, by omega⟩ * Ideal.cos (angle R d)
      + row x0 x1 x2 x3 R ⟨1024 + 64 * H.val + d.val, by omega⟩ * Ideal.sin (angle R d) := by
  unfold val_main_v67 val_main_v66 val_main_v65 val_main_v64 val_main_v63
  pointwise [at56, at57, at17, at19]

/-- The rotation of a column in the first half of its head, and of one in the second half. -/
theorem rotated_lo (p : Fin 1280 → EReal) (R : Fin 8192) (n : Fin 1280) (hn : n.val < 1152) (h : n.val % 64 < 32) :
    rotated p (cosines R) (sines R) n = p n * Ideal.cos (angle R ⟨n.val % 32, by omega⟩) - p ⟨n.val + 32, by omega⟩ * Ideal.sin (angle R ⟨n.val % 32, by omega⟩) := by
  have e : (⟨n.val % 128 % 32, by omega⟩ : Fin 32) = ⟨n.val % 32, by omega⟩ := Fin.ext (by dsimp only; omega)
  have h' : n.val % 128 % 64 < 32 := by omega
  unfold rotated cosines sines partner
  dsimp only
  rw [if_pos hn, dif_pos h, if_pos h', e, mul_neg, ← sub_eq_add_neg]

theorem rotated_hi (p : Fin 1280 → EReal) (R : Fin 8192) (n : Fin 1280) (hn : n.val < 1152) (h : ¬n.val % 64 < 32) :
    rotated p (cosines R) (sines R) n = p n * Ideal.cos (angle R ⟨n.val % 32, by omega⟩) + p ⟨n.val - 32, by omega⟩ * Ideal.sin (angle R ⟨n.val % 32, by omega⟩) := by
  have e : (⟨n.val % 128 % 32, by omega⟩ : Fin 32) = ⟨n.val % 32, by omega⟩ := Fin.ext (by dsimp only; omega)
  have h' : ¬n.val % 128 % 64 < 32 := by omega
  unfold rotated cosines sines partner
  dsimp only
  rw [if_pos hn, dif_neg h, if_neg h', e]

theorem at69 (R : Fin 8192) (n : Fin 1024) : val_main_v69 (F := Ideal) x0 x1 x2 x3 (ix2 R n)
    = rotated (row x0 x1 x2 x3 R) (cosines R) (sines R) ⟨n.val, by omega⟩ := by
  unfold val_main_v69 val_main_v53
  have hA := at47 x0 x1 x2 x3
  have hB := at52 x0 x1 x2 x3
  generalize val_main_v47 (F := Ideal) x0 x1 x2 x3 = A at hA ⊢
  generalize val_main_v52 (F := Ideal) x0 x1 x2 x3 = B at hB ⊢
  pointwise
  by_cases h : n.val % 64 < 32
  · rw [dif_pos (by omega), hA, rotated_lo _ _ _ (by dsimp only; omega) (by dsimp only; omega)]
    congr 4 <;> (first | (dsimp only; omega) | (apply Fin.ext; dsimp only; omega) | (congr 1; dsimp only; omega))
  · rw [dif_neg (by omega), hB, rotated_hi _ _ _ (by dsimp only; omega) (by dsimp only; omega)]
    congr 4 <;> (first | (dsimp only; omega) | (apply Fin.ext; dsimp only; omega) | (congr 1; dsimp only; omega))

theorem at70 (R : Fin 8192) (n : Fin 128) : val_main_v70 (F := Ideal) x0 x1 x2 x3 (ix2 R n)
    = rotated (row x0 x1 x2 x3 R) (cosines R) (sines R) ⟨1024 + n.val, by omega⟩ := by
  unfold val_main_v70 val_main_v68
  have hA := at62 x0 x1 x2 x3
  have hB := at67 x0 x1 x2 x3
  generalize val_main_v62 (F := Ideal) x0 x1 x2 x3 = A at hA ⊢
  generalize val_main_v67 (F := Ideal) x0 x1 x2 x3 = B at hB ⊢
  pointwise
  by_cases h : n.val % 64 < 32
  · rw [dif_pos (by omega), hA, rotated_lo _ _ _ (by dsimp only; omega) (by dsimp only; omega)]
    congr 4 <;> (first | (dsimp only; omega) | (apply Fin.ext; dsimp only; omega) | (congr 1; dsimp only; omega))
  · rw [dif_neg (by omega), hB, rotated_hi _ _ _ (by dsimp only; omega) (by dsimp only; omega)]
    congr 4 <;> (first | (dsimp only; omega) | (apply Fin.ext; dsimp only; omega) | (congr 1; dsimp only; omega))

theorem at72 (R : Fin 8192) (n : Fin 1280) : val_main_v72 (F := Ideal) x0 x1 x2 x3 (ix2 R n)
    = rotated (row x0 x1 x2 x3 R) (cosines R) (sines R) n := by
  unfold val_main_v72 val_main_v71
  have hA := at69 x0 x1 x2 x3
  have hB := at70 x0 x1 x2 x3
  generalize val_main_v69 (F := Ideal) x0 x1 x2 x3 = A at hA ⊢
  generalize val_main_v70 (F := Ideal) x0 x1 x2 x3 = B at hB ⊢
  pointwise [at38]
  by_cases h1 : n.val < 1024
  · rw [dif_pos h1, hA]
  · rw [dif_neg h1]
    by_cases h2 : n.val - 1024 < 128
    · rw [dif_pos h2, hB]
      exact congrArg (rotated _ _ _) (Fin.ext (by dsimp only; omega))
    · rw [dif_neg h2]
      have e : rotated (row x0 x1 x2 x3 R) (cosines R) (sines R) n = row x0 x1 x2 x3 R n := if_neg (by omega)
      refine Eq.trans ?_ e.symm
      exact congrArg (row x0 x1 x2 x3 R) (Fin.ext (by dsimp only; omega))

end Cert.QkvRefIdeal.Read

namespace Cert.QkvIdeal.Value
open Cert.QkvIdeal Cert.QkvIdeal.Gen
open Cert.QkvRefIdeal.Read

theorem value : Cert.algebraic_QkvIdeal_QkvRefIdeal := by
  intro m g m' g' _ harg
  refine ⟨fun c => (dats m 0 c).arrAt 6 cfg0.N, fun c => (dats m 0 c).arrAt 7 cfg0.N, run_blocks m g, ?_⟩
  refine (θ_run Cert.QkvRefIdeal.defs _ _).mono (fun r h c => ?_) (Cert.QkvRefIdeal.Value.run m' g')
  obtain ⟨h0, h1, hr⟩ := h c
  obtain ⟨a0, a1, a2, a3⟩ := harg c
  refine ⟨h0.trans ?_, h1.trans ?_, hr⟩
  · refine (val_main_v73_eq _ _).trans ?_
    rw [a0, a1]
    funext i
    obtain ⟨R, j, rfl⟩ : ∃ R j, i = ix2 R j := ⟨i 0, i 1, eq_ix2 i⟩
    exact (at34 _ _ R j).trans (final6 m c R j).symm
  · refine (val_main_v74_eq m' c).trans ?_
    rw [a0, a1, a2, a3]
    funext i
    obtain ⟨R, j, rfl⟩ : ∃ R j, i = ix2 R j := ⟨i 0, i 1, eq_ix2 i⟩
    exact (at72 _ _ _ _ R j).trans (final7 m c R j).symm

/-- The reference leaves its arguments and its counters as they were. -/
theorem frame_ref : Cert.quiescent_QkvRefIdeal := fun m g _ =>
  (θ_run Cert.QkvRefIdeal.defs _ _).mono (fun r h => ⟨fun c => (h c).2.2, sem_eq_zero_of_no_sems (by decide) r.2⟩)
    (Cert.QkvRefIdeal.Value.run (F := Ideal) m g)

end Cert.QkvIdeal.Value

end
-- ==== Proof.Tn.Value.lean ====
/-
  The gradient of an FFN's input weight: the kernel adds the product of one block of rows after another, slab by slab, the
  reference takes one product over all rows.
-/
module

public import proofs.«01_k».proof.Defs
public import proofs.«01_k».proof.Proof.Slab
public import proofs.«01_k».proof.Proof.Gen.TnIdeal.Value
public import proofs.«01_k».proof.Proof.Gen.TnRefIdeal.Read
public import Idealize.ShloMosaic.Lib.Pipeline.ReadBack
public import Idealize.ShloMosaic.Lib.Pipeline.ValueKit.Tiles

@[expose] public section

noncomputable section

open Idealize.ShloMosaic Idealize.ShloMosaic.TcCoe Idealize.SL.Sem
open Idealize.ShloMosaic.Pipeline (Dat)

namespace Cert.TnIdeal.Value
open Cert.TnIdeal Cert.TnIdeal.Gen

variable (m : (ℓ : Loc nD τ sig) → Buf (Elt Ideal) ℓ)

/-- The rows in front of the product. -/
abbrev arg0 (c : Dev nD) : FVec Ideal S8192x1024 .f32 := m ((c : Thread nD τ).loc main_arg0)
/-- The gradient that arrives. -/
abbrev arg1 (c : Dev nD) : FVec Ideal S8192x2816 .f32 := m ((c : Thread nD τ).loc main_arg1)

/-- A row's part of an element of the result. -/
def part (a0 : FVec Ideal S8192x1024 .f32) (a1 : FVec Ideal S8192x2816 .f32) (n : Fin 2816) (j : Fin 1024) (R : Fin 8192) : EReal :=
  a1 (ix2 R n) * a0 (ix2 R j)

theorem hz : (![0, 0] : Fin 2 → Nat) = fun _ => 0 := funext fun a => by fin_cases a <;> rfl

/-- Row `r` of point `t`'s block, among all rows. -/
def at_ (t : Fin cfg0.N) (r : Fin 1024) : Fin 8192 := ⟨t.val * 1024 + r.val, by have := t.isLt; have : cfg0.N = 8 := N_0; omega⟩

/-- A block's part of slab `a` of the result. -/
def dw (x0 : Vec Ideal S4x1024x704 .bf16) (x1 : Vec Ideal S1024x1024 .bf16) (a : Fin 4) (n : Fin 704) (j : Fin 1024) : EReal :=
  ∑ r : Fin 1024, x0 (ix3 a r n) * x1 (ix2 r j)

set_option maxHeartbeats 4000000 in
theorem acc_A (c : Dev nD) (t : Fin cfg0.N) (hc : t.val % 8 = 0) (a : Fin 4) (n : Fin 704) (j : Fin 1024) :
    outsAt0 m c t.val t.isLt (ix3 a n j) = dw (iblk m c 0 t) (iblk m c 1 t) a n j := by
  rw [outsAt0_A m c t hc]
  unfold out0_A_2
  rw [View.read_writes_eq_canon _ _ _ (fun _ => cover0_A_2 ..)]
  unfold kernelRun0_A dw
  dsimp only
  sl_unfold_words
  simp only [View.readAt_eq_ld, (hs0_0 t).read_unread, (hs0_1 t).read_unread, View.ld_unit_zero (S := S1024x1024) hz]
  generalize iblk m c 0 t = x0, iblk m c 1 t = x1
  simp (disch := first | rfl | decide | (intro a; fin_cases a <;> rfl)) only [↓View.readCov_skip, ↓View.readCov_fill]
  refine Slab.canon_over [_] [_, _, _, _] _ _ (View.cover_of_tiled_head _ _ _ (by rfl) _) ?_
  refine View.allAt_cons_unit _ _ _ _ _ ?_ (View.allAt_cons_unit _ _ _ _ _ ?_ (View.allAt_cons_unit _ _ _ _ _ ?_ (View.allAt_cons_unit _ _ _ _ _ ?_ (View.allAt_nil _ _))))
  · intro x hx
    have h0 : a.val = 3 + (x 0).val := hx 0
    have h1 : n.val = 0 + (x 1).val := hx 1
    have h2 : j.val = 0 + (x 2).val := hx 2
    rw [Nat.zero_add] at h1 h2
    obtain ⟨z, p, q, rfl⟩ : ∃ (z : Fin 1) (p : Fin 704) (q : Fin 1024), x = ix3 z p q := ⟨x 0, x 1, x 2, eq_ix3 x⟩
    obtain rfl : n = p := Fin.ext h1
    obtain rfl : j = q := Fin.ext h2
    obtain rfl : a = 3 := Fin.ext (Eq.trans h0 (by show 3 + z.val = 3; omega))
    unfold_payloads
    pointwise [dot_S1024x704_S1024x1024_S704x1024_0_0_1_1_n_n]
  · intro x hx
    have h0 : a.val = 2 + (x 0).val := hx 0
    have h1 : n.val = 0 + (x 1).val := hx 1
    have h2 : j.val = 0 + (x 2).val := hx 2
    rw [Nat.zero_add] at h1 h2
    obtain ⟨z, p, q, rfl⟩ : ∃ (z : Fin 1) (p : Fin 704) (q : Fin 1024), x = ix3 z p q := ⟨x 0, x 1, x 2, eq_ix3 x⟩
    obtain rfl : n = p := Fin.ext h1
    obtain rfl : j = q := Fin.ext h2
    obtain rfl : a = 2 := Fin.ext (Eq.trans h0 (by show 2 + z.val = 2; omega))
    unfold_payloads
    pointwise [dot_S1024x704_S1024x1024_S704x1024_0_0_1_1_n_n]
  · intro x hx
    have h0 : a.val = 1 + (x 0).val := hx 0
    have h1 : n.val = 0 + (x 1).val := hx 1
    have h2 : j.val = 0 + (x 2).val := hx 2
    rw [Nat.zero_add] at h1 h2
    obtain ⟨z, p, q, rfl⟩ : ∃ (z : Fin 1) (p : Fin 704) (q : Fin 1024), x = ix3 z p q := ⟨x 0, x 1, x 2, eq_ix3 x⟩
    obtain rfl : n = p := Fin.ext h1
    obtain rfl : j = q := Fin.ext h2
    obtain rfl : a = 1 := Fin.ext (Eq.trans h0 (by show 1 + z.val = 1; omega))
    unfold_payloads
    pointwise [dot_S1024x704_S1024x1024_S704x1024_0_0_1_1_n_n]
  · intro x hx
    have h0 : a.val = 0 + (x 0).val := hx 0
    have h1 : n.val = 0 + (x 1).val := hx 1
    have h2 : j.val = 0 + (x 2).val := hx 2
    rw [Nat.zero_add] at h1 h2
    obtain ⟨z, p, q, rfl⟩ : ∃ (z : Fin 1) (p : Fin 704) (q : Fin 1024), x = ix3 z p q := ⟨x 0, x 1, x 2, eq_ix3 x⟩
    obtain rfl : n = p := Fin.ext h1
    obtain rfl : j = q := Fin.ext h2
    obtain rfl : a = 0 := Fin.ext (Eq.trans h0 (by show 0 + z.val = 0; omega))
    unfold_payloads
    pointwise [dot_S1024x704_S1024x1024_S704x1024_0_0_1_1_n_n]

set_option maxHeartbeats 4000000 in
theorem acc_B (c : Dev nD) (t : Fin cfg0.N) (hc : ¬t.val % 8 = 0) (a : Fin 4) (n : Fin 704) (j : Fin 1024) :
    outsAt0 m c t.val t.isLt (ix3 a n j) = outsAt0 m c (t.val - 1) (Nat.lt_of_le_of_lt (Nat.sub_le _ _) t.isLt) (ix3 a n j)
      + dw (iblk m c 0 t) (iblk m c 1 t) a n j := by
  rw [outsAt0_B m c t hc]
  unfold out0_B_2
  rw [View.read_writes_eq_canon _ _ _ (fun _ => cover0_B_2 ..)]
  unfold kernelRun0_B dw
  dsimp only
  sl_unfold_words
  simp only [View.readAt_eq_ld, (hs0_0 t).read_unread, (hs0_1 t).read_unread, (hs0_2 t).read_unread, View.ld_unit_zero (S := S1024x1024) hz]
  generalize iblk m c 0 t = x0, iblk m c 1 t = x1
  generalize outsAt0 m c (t.val - 1) (Nat.lt_of_le_of_lt (Nat.sub_le _ _) t.isLt) = before
  canon_tiles
  · obtain ⟨z, p, q, rfl⟩ : ∃ (z : Fin 1) (p : Fin 704) (q : Fin 1024), x = ix3 z p q := ⟨x 0, x 1, x 2, eq_ix3 x⟩
    obtain rfl : n = p := Fin.ext h1
    obtain rfl : j = q := Fin.ext h2
    obtain rfl : a = 3 := Fin.ext (Eq.trans h0 (by show 3 + z.val = 3; omega))
    unfold_payloads
    pointwise [dot_S1024x704_S1024x1024_S704x1024_0_0_1_1_n_n]
  · obtain ⟨z, p, q, rfl⟩ : ∃ (z : Fin 1) (p : Fin 704) (q : Fin 1024), x = ix3 z p q := ⟨x 0, x 1, x 2, eq_ix3 x⟩
    obtain rfl : n = p := Fin.ext h1
    obtain rfl : j = q := Fin.ext h2
    obtain rfl : a = 2 := Fin.ext (Eq.trans h0 (by show 2 + z.val = 2; omega))
    unfold_payloads
    pointwise [dot_S1024x704_S1024x1024_S704x1024_0_0_1_1_n_n]
  · obtain ⟨z, p, q, rfl⟩ : ∃ (z : Fin 1) (p : Fin 704) (q : Fin 1024), x = ix3 z p q := ⟨x 0, x 1, x 2, eq_ix3 x⟩
    obtain rfl : n = p := Fin.ext h1
    obtain rfl : j = q := Fin.ext h2
    obtain rfl : a = 1 := Fin.ext (Eq.trans h0 (by show 1 + z.val = 1; omega))
    unfold_payloads
    pointwise [dot_S1024x704_S1024x1024_S704x1024_0_0_1_1_n_n]
  · obtain ⟨z, p, q, rfl⟩ : ∃ (z : Fin 1) (p : Fin 704) (q : Fin 1024), x = ix3 z p q := ⟨x 0, x 1, x 2, eq_ix3 x⟩
    obtain rfl : n = p := Fin.ext h1
    obtain rfl : j = q := Fin.ext h2
    obtain rfl : a = 0 := Fin.ext (Eq.trans h0 (by show z.val = 0; omega))
    unfold_payloads
    pointwise [dot_S1024x704_S1024x1024_S704x1024_0_0_1_1_n_n]

/-! ## What the host prepares, and the blocks -/

theorem v2 (c : Dev nD) (a : Fin 4) (R : Fin 8192) (n : Fin 704) : V m c main_v2 (ix3 a R n) = arg1 m c (ix2 R ⟨a.val * 704 + n.val, by omega⟩) := by
  have e : V m c main_v2 = truncf (F := Ideal) .bf16 (transpose S4x8192x704 [1, 0, 2] (shapeCast S8192x4x704 (arg1 m c) shapeCasts_S8192x2816_S8192x4x704)
      transposes_S8192x4x704_S4x8192x704_1_0_2) bitsLt_bf16_f32 := by
    unfold V
    after_results_simp
    rfl
  rw [e]
  pointwise

theorem v3 (c : Dev nD) (R : Fin 8192) (j : Fin 1024) : V m c main_v3 (ix2 R j) = arg0 m c (ix2 R j) := by
  have e : V m c main_v3 = truncf (F := Ideal) .bf16 (arg0 m c) bitsLt_bf16_f32 := by
    unfold V
    after_results_simp
  rw [e]
  pointwise

theorem index0 : ∀ t : Fin grid0.N, win0_0.index t = ![0, t.val, 0] := by decide +kernel
theorem index1 : ∀ t : Fin grid0.N, win0_1.index t = ![t.val, 0] := by decide +kernel

theorem blk0 (c : Dev nD) (t : Fin cfg0.N) (a : Fin 4) (r : Fin 1024) (n : Fin 704) :
    (iblk m c 0 t : Vec Ideal S4x1024x704 .bf16) (ix3 a r n) = arg1 m c (ix2 (at_ t r) ⟨a.val * 704 + n.val, by omega⟩) := by
  rw [← v2]
  unfold iblk
  rw [View.read_apply]
  show V m c main_v2 _ = _
  congr 1
  funext a'
  apply Fin.ext
  have hi := index0 t
  match a' with
  | ⟨0, _⟩ => show win0_0.index t 0 * 4 + 1 * a.val = a.val; rw [hi]; simp
  | ⟨1, _⟩ => show win0_0.index t 1 * 1024 + 1 * r.val = t.val * 1024 + r.val; rw [hi]; simp
  | ⟨2, _⟩ => show win0_0.index t 2 * 704 + 1 * n.val = n.val; rw [hi]; simp

theorem blk1 (c : Dev nD) (t : Fin cfg0.N) (r : Fin 1024) (j : Fin 1024) :
    (iblk m c 1 t : Vec Ideal S1024x1024 .bf16) (ix2 r j) = arg0 m c (ix2 (at_ t r) j) := by
  rw [← v3]
  unfold iblk
  rw [View.read_apply]
  show V m c main_v3 _ = _
  congr 1
  funext a'
  apply Fin.ext
  have hi := index1 t
  match a' with
  | ⟨0, _⟩ => show win0_1.index t 0 * 1024 + 1 * r.val = t.val * 1024 + r.val; rw [hi]; simp
  | ⟨1, _⟩ => show win0_1.index t 1 * 1024 + 1 * j.val = j.val; rw [hi]; simp

theorem dw_eq (c : Dev nD) (t : Fin cfg0.N) (a : Fin 4) (n : Fin 704) (j : Fin 1024) :
    dw (iblk m c 0 t) (iblk m c 1 t) a n j = ∑ r, part (arg0 m c) (arg1 m c) ⟨a.val * 704 + n.val, by omega⟩ j (at_ t r) := by
  unfold dw part
  exact Finset.sum_congr rfl fun r _ => congrArg₂ (· * ·) (blk0 m c t a r n) (blk1 m c t r j)

/-! ## The result -/

/-- What has been added up after point `k`. -/
@[irreducible] def accum (c : Dev nD) (k : Nat) (h : k < cfg0.N) : FVec Ideal S4x704x1024 .f32 := outsAt0 m c k h

theorem accum_eq (c : Dev nD) (t : Fin cfg0.N) : outsAt0 m c t.val t.isLt = accum m c t.val t.isLt := by
  unfold accum
  rfl

theorem accum_last (c : Dev nD) (a : Fin 4) (n : Fin 704) (j : Fin 1024) :
    accum m c 7 (by decide) (ix3 a n j) = ∑ R, part (arg0 m c) (arg1 m c) ⟨a.val * 704 + n.val, by omega⟩ j R := by
  refine Lift.sum_rows (T := 8192) (B := 1024) (K := 7) rfl (part (arg0 m c) (arg1 m c) ⟨a.val * 704 + n.val, by omega⟩ j) (fun k h => accum m c k h (ix3 a n j)) ?_ ?_
  · intro h
    unfold accum
    exact (acc_A m c ⟨0, h⟩ rfl a n j).trans (dw_eq m c ⟨0, h⟩ a n j)
  · intro k h
    unfold accum
    exact (acc_B m c ⟨k + 1, h⟩ (by dsimp only; have : cfg0.N = 8 := N_0; omega) a n j).trans (congrArg _ (dw_eq m c ⟨k + 1, h⟩ a n j))

/-- The last point. -/
abbrev last : Fin cfg0.N := ⟨7, by decide⟩

/-- What has been added up after the last point, as the result's buffer holds it. -/
def total (c : Dev nD) : Buf (Elt Ideal) ((c : Thread nD τ).loc main_v4) := accum m c 7 (by decide)

theorem final2 (c : Dev nD) : (dats m 0 c).arrAt 2 cfg0.N = total m c := by
  have hz' : (fun a => win0_2.index last a * main_v4.ty.shape.size a) = fun _ => 0 := funext fun a => by fin_cases a <;> decide
  refine (dats m 0 c).arrAt_eq_of_cover 2 (total m c) (fun t hf => ?_) fun i => ⟨last, (flush0_2 _).mpr (by decide), ?_⟩
  · obtain rfl : t = last := Fin.ext (by have := (flush0_2 t).mp hf; have := t.isLt; have : cfg0.N = 8 := N_0; show t.val = 7; omega)
    rw [flushed2, accum_eq]
    exact (Memref.read_access_unit_zero (Elt Ideal) main_v4 hz' (fun a => by rw [congrFun hz' a]; simp) (total m c)).symm
  · show i ∈ ((View.whole main_v4).slice (win0_2.rect last)).set
    rw [View.set_slice_whole, Rect.mem_set_unit]
    intro a
    have h0 : (i 0 : Nat) < 4 := (i 0).isLt
    have h1 : (i 1 : Nat) < 704 := (i 1).isLt
    have h2 : (i 2 : Nat) < 1024 := (i 2).isLt
    match a with
    | ⟨0, _⟩ => show win0_2.index _ 0 * win0_2.size 0 ≤ (i 0 : Nat) ∧ (i 0 : Nat) < win0_2.index _ 0 * win0_2.size 0 + win0_2.xsize (grid0.coords _) 0
                rw [show win0_2.index last 0 * win0_2.size 0 = 0 from by decide +kernel, show win0_2.xsize (grid0.coords last) 0 = 4 from by decide +kernel]; omega
    | ⟨1, _⟩ => show win0_2.index _ 1 * win0_2.size 1 ≤ (i 1 : Nat) ∧ (i 1 : Nat) < win0_2.index _ 1 * win0_2.size 1 + win0_2.xsize (grid0.coords _) 1
                rw [show win0_2.index last 1 * win0_2.size 1 = 0 from by decide +kernel, show win0_2.xsize (grid0.coords last) 1 = 704 from by decide +kernel]; omega
    | ⟨2, _⟩ => show win0_2.index _ 2 * win0_2.size 2 ≤ (i 2 : Nat) ∧ (i 2 : Nat) < win0_2.index _ 2 * win0_2.size 2 + win0_2.xsize (grid0.coords _) 2
                rw [show win0_2.index last 2 * win0_2.size 2 = 0 from by decide +kernel, show win0_2.xsize (grid0.coords last) 2 = 1024 from by decide +kernel]; omega

theorem ref_at (x0 : FVec Ideal S8192x1024 .f32) (x1 : FVec Ideal S8192x2816 .f32) (a : Fin 4) (n : Fin 704) (j : Fin 1024) :
    Cert.TnRefIdeal.Read.val_main_v5 (F := Ideal) x0 x1 (ix3 a n j) = ∑ R, part x0 x1 ⟨a.val * 704 + n.val, by omega⟩ j R := by
  unfold Cert.TnRefIdeal.Read.val_main_v5 Cert.TnRefIdeal.Read.val_main_v4 Cert.TnRefIdeal.Read.val_main_v3 Cert.TnRefIdeal.Read.val_main_v2 part
  pointwise [Cert.TnRefIdeal.dot_S8192x2816_S8192x1024_S2816x1024_0_0_1_1_n_n]

theorem value : Cert.algebraic_TnIdeal_TnRefIdeal := by
  intro m g m' g' _ harg
  refine ⟨fun c => (dats m 0 c).arrAt 2 cfg0.N, run_blocks m g, ?_⟩
  refine (θ_run Cert.TnRefIdeal.defs _ _).mono (fun r h c => ?_) (Cert.TnRefIdeal.Value.run m' g')
  obtain ⟨h0, hr⟩ := h c
  obtain ⟨a0, a1⟩ := harg c
  refine ⟨h0.trans ?_, hr⟩
  refine (Cert.TnRefIdeal.Read.val_main_v5_eq _ _).trans ?_
  rw [a0, a1]
  refine Eq.trans ?_ (final2 m c).symm
  funext i
  obtain ⟨a, n, j, rfl⟩ : ∃ a n j, i = ix3 a n j := ⟨i 0, i 1, i 2, eq_ix3 i⟩
  exact (ref_at _ _ a n j).trans (accum_last m c a n j).symm

/-- The reference leaves its arguments and its counters as they were. -/
theorem frame_ref : Cert.quiescent_TnRefIdeal := fun m g _ =>
  (θ_run Cert.TnRefIdeal.defs _ _).mono (fun r h => ⟨fun c => (h c).2, sem_eq_zero_of_no_sems (by decide) r.2⟩)
    (Cert.TnRefIdeal.Value.run (F := Ideal) m g)

end Cert.TnIdeal.Value

end
-- ==== Proof.Half.Table.lean ====
/-
  The sum of a gradient's halves: the table of one core index that the host passes is the constant one, so that every block the kernel
  fetches lies inside its array.
-/
module

public import proofs.«01_k».proof.Proof.Gen.Half.Frame
public import proofs.«01_k».proof.Proof.Gen.HalfIdeal.Frame
public import Idealize.ShloMosaic.Lib.Pipeline.ReadBack

@[expose] public section

noncomputable section

open Idealize.ShloMosaic Idealize.ShloMosaic.TcCoe Idealize.SL.Sem

namespace Cert.Half.Gen

variable {F : FTy → Type} [FloatOps F]
variable (m : (ℓ : Loc nD τ sig) → Buf (Elt F) ℓ)

/-- The table holds the core index one. -/
theorem table (c : Dev nD) : V m c main_v0 = fun _ => (1#32 : BitVec 32) := by
  unfold V
  after_results_simp
  rfl

theorem start (i : grid0.Coords) : cc0_transform_0 inb_S1_S1_0 numel1_S1 (tbl m) i = ![(i 0).val, 1, 0] := by
  have e : ∀ x, tbl m 0 x = (1#32 : BitVec 32) := fun x => congrFun (table m 0) x
  have h0 : (i 0).val < 4 := (i 0).isLt
  have h1 : (i 1).val < 1 := (i 1).isLt
  have hi : (i 1).val = 0 := by omega
  unfold cc0_transform_0
  dsimp only [Pipeline.Prefetch.Contents.at]
  rw [e, hi]
  funext a
  fin_cases a
  · show (BitVec.ofNat 32 (i 0).val).toNat = (i 0).val
    rw [BitVec.toNat_ofNat]; omega
  · rfl
  · rfl

/-- Every block lies inside its array. -/
theorem ok : Ok m := by
  intro i
  have h0 : (i 0).val < 4 := (i 0).isLt
  refine ⟨fun a => ?_, Or.inl rfl⟩
  rw [start]
  fin_cases a
  · show ((i 0).val + 1) * 1 ≤ 4; omega
  · show (1 + 1) * 352 ≤ 704; omega
  · show (0 + 1) * 1024 ≤ 1024; omega

end Cert.Half.Gen

namespace Cert.HalfIdeal.Gen

variable {F : FTy → Type} [FloatOps F]
variable (m : (ℓ : Loc nD τ sig) → Buf (Elt F) ℓ)

/-- The table holds the core index one. -/
theorem table (c : Dev nD) : V m c main_v0 = fun _ => (1#32 : BitVec 32) := by
  unfold V
  after_results_simp
  rfl

theorem start (i : grid0.Coords) : cc0_transform_0 inb_S1_S1_0 numel1_S1 (tbl m) i = ![(i 0).val, 1, 0] := by
  have e : ∀ x, tbl m 0 x = (1#32 : BitVec 32) := fun x => congrFun (table m 0) x
  have h0 : (i 0).val < 4 := (i 0).isLt
  have h1 : (i 1).val < 1 := (i 1).isLt
  have hi : (i 1).val = 0 := by omega
  unfold cc0_transform_0
  dsimp only [Pipeline.Prefetch.Contents.at]
  rw [e, hi]
  funext a
  fin_cases a
  · show (BitVec.ofNat 32 (i 0).val).toNat = (i 0).val
    rw [BitVec.toNat_ofNat]; omega
  · rfl
  · rfl

/-- Every block lies inside its array. -/
theorem ok : Ok m := by
  intro i
  have h0 : (i 0).val < 4 := (i 0).isLt
  refine ⟨fun a => ?_, Or.inl rfl⟩
  rw [start]
  fin_cases a
  · show ((i 0).val + 1) * 1 ≤ 4; omega
  · show (1 + 1) * 352 ≤ 704; omega
  · show (0 + 1) * 1024 ≤ 1024; omega

end Cert.HalfIdeal.Gen

end
-- ==== Proof.Half.Value.lean ====
/-
  The sum of a gradient's halves: at each point the kernel adds one slab's second half and what the sibling sent, and rounds.
-/
module

public import proofs.«01_k».proof.Defs
public import proofs.«01_k».proof.Proof.Slab
public import proofs.«01_k».proof.Proof.Half.Table
public import proofs.«01_k».proof.Proof.Gen.HalfRefIdeal.Read
public import Idealize.ShloMosaic.Lib.Pipeline.ReadBack
public import Idealize.ShloMosaic.Lib.Pipeline.Value
public import Idealize.ShloMosaic.Lib.Pipeline.ValueKit.Tiles

@[expose] public section

noncomputable section

open Idealize.ShloMosaic Idealize.ShloMosaic.TcCoe Idealize.SL.Sem
open Idealize.ShloMosaic.Pipeline (Dat)

namespace Cert.HalfIdeal.Value
open Cert.HalfIdeal Cert.HalfIdeal.Gen

variable (m : (ℓ : Loc nD τ sig) → Buf (Elt Ideal) ℓ) (ρ : Dev nD → PrngReg)

/-- The gradient. -/
abbrev arg0 (c : Dev nD) : FVec Ideal S4x704x1024 .f32 := m ((c : Thread nD τ).loc main_arg0)
/-- The sibling's part of it. -/
abbrev arg1 (c : Dev nD) : FVec Ideal S4x352x1024 .f32 := m ((c : Thread nD τ).loc main_arg1)

/-- An element of the result. -/
def elem (a0 : FVec Ideal S4x704x1024 .f32) (a1 : FVec Ideal S4x352x1024 .f32) (k : Fin 4) (r : Fin 352) (j : Fin 1024) : EReal :=
  a0 (ix3 k ⟨352 + r.val, by omega⟩ j) + a1 (ix3 k r j)

theorem hz : (![0, 0, 0] : Fin 3 → Nat) = fun _ => 0 := funext fun a => by fin_cases a <;> rfl

/-- The pipeline at the host's table, and its proof data. -/
abbrev cfg := cfgM m (ok m)
abbrev dat (c : Dev nD) := dats m (ok m) 0 c

/-- The input windows' blocks. -/
abbrev b0 (c : Dev nD) (t : Fin (cfg m).N) : FVec Ideal S1x352x1024 .f32 := iblk m (ok m) c 0 t
abbrev b1 (c : Dev nD) (t : Fin (cfg m).N) : FVec Ideal S1x352x1024 .f32 := iblk m (ok m) c 1 t

/-- The point of a slab. -/
def point (k : Fin 4) : Fin (cfg m).N := ⟨k.val, by have := k.isLt; have : grid0.N = 4 := N_0; show k.val < grid0.N; omega⟩

theorem coords : ∀ t : Fin grid0.N, (grid0.coords t 0).val = t.val := by decide +kernel
theorem index1 : ∀ t : Fin grid0.N, cc0_transform_1 (grid0.coords t) = ![t.val, 0, 0] := by decide +kernel
theorem index2 : ∀ t : Fin grid0.N, cc0_transform_2 (grid0.coords t) = ![t.val, 0, 0] := by decide +kernel

theorem index0 (t : Fin grid0.N) : cc0_transform_0 inb_S1_S1_0 numel1_S1 (tbl m) (grid0.coords t) = ![t.val, 1, 0] := by
  rw [start, coords]

theorem disjoint2 : ∀ t t' : Fin (cfg m).N, ((cfg m).win 2).flush t = true → ((cfg m).win 2).flush t' = true → t ≠ t' →
    Disjoint (((cfg m).win 2).blk t).view.set (((cfg m).win 2).blk t').view.set :=
  fun t t' _ _ hne => ((cfg m).win 2).disjoint_blk fun h => hne (Fin.ext (by
    have h' : cc0_transform_2 (grid0.coords t) = cc0_transform_2 (grid0.coords t') := h
    rw [index2, index2] at h'
    exact congrFun h' 0))

theorem blocks2 (c : Dev nD) (t : Fin (cfg m).N) :
    (((cfg m).win 2).blk t).view.read (Elt Ideal) ((dat m c).arrAt 2 (cfg m).N) = (dat m c).flushed 2 t :=
  (dat m c).read_blk_arrAt_eq_flushed 2 (disjoint2 m) (cfg m).N t t.isLt (flush0_2 _ t)

theorem flushed2 (c : Dev nD) (t : Fin (cfg m).N) :
    (dat m c).flushed 2 t = ((cfg m).win 2).cut (grid0.coords t) (outsAt0 m (ok m) c t) := by
  show ((cfg m).win 2).cut (grid0.coords t) ((dat m c).after 2 t) = _
  rw [after0_2]

theorem out (c : Dev nD) (i : grid0.Coords) (arg3 : Memref sig .tc .vmem S1x352x1024 .f32) (harg3 : arg3.IsWhole)
    (arg4 : Memref sig .tc .vmem S1x352x1024 .f32) (harg4 : arg4.IsWhole) (arg5 : Memref sig .tc .vmem S1x352x1024 .bf16) (harg5 : arg5.IsWhole)
    (x0 x1 : FVec Ideal S1x352x1024 .f32) (xt) (r : Fin 352) (j : Fin 1024) :
    out0_A_2 (F := Ideal) c i arg3 harg3 arg4 harg4 arg5 harg5 x0 x1 xt (ix3 0 r j) = x0 (ix3 0 r j) + x1 (ix3 0 r j) := by
  unfold out0_A_2
  rw [View.read_writes_eq_canon _ _ _ (cover0_A_2 c i arg3 harg3 arg4 harg4 arg5 harg5 x0 x1 xt)]
  unfold kernelRun0_A
  dsimp only
  rw [View.canon_unit_zero hz]
  have e (a : Memref sig .tc .vmem S1x352x1024 .f32) (ha : a.IsWhole) (x : FVec Ideal S1x352x1024 .f32) :
      View.readAt (Elt Ideal) a.view (Rect.unit (s := S1x352x1024) ![0, 0, 0] S1x352x1024.size inb_S1x352x1024_S1x352x1024_0_0_0).toLoadRect (ha.unread x) = x := by
    refine Eq.trans ?_ (View.ld_unit_zero (Val := Elt Ideal) (S := S1x352x1024) (e := .f32) hz inb_S1x352x1024_S1x352x1024_0_0_0 x)
    exact congrArg (fun y : Vec Ideal S1x352x1024 .f32 => View.ld y (Rect.unit (s := S1x352x1024) ![0, 0, 0] S1x352x1024.size inb_S1x352x1024_S1x352x1024_0_0_0)) (ha.read_unread (Val := Elt Ideal) x)
  rw [e, e]
  unfold k0_pay1
  pointwise

theorem out2 (c : Dev nD) (t : Fin (cfg m).N) (r : Fin 352) (j : Fin 1024) :
    outsAt0 m (ok m) c t (ix3 0 r j) = b0 m c t (ix3 0 r j) + b1 m c t (ix3 0 r j) := by
  unfold outsAt0
  exact out c _ _ _ _ _ _ _ (b0 m c t) (b1 m c t) _ r j

theorem blk0 (c : Dev nD) (t : Fin 4) (r : Fin 352) (j : Fin 1024) : b0 m c (point m t) (ix3 0 r j) = arg0 m c (ix3 t ⟨352 + r.val, by omega⟩ j) := by
  refine Eq.trans ?_ (congrFun (V_main_arg0 m c) _)
  show V m c main_arg0 _ = _
  congr 1
  funext a'
  apply Fin.ext
  have hi := index0 m (point m t)
  match a' with
  | ⟨0, _⟩ => show cc0_transform_0 inb_S1_S1_0 numel1_S1 (tbl m) (grid0.coords (point m t)) 0 * 1 + 1 * 0 = t.val; rw [hi]; simp [point]
  | ⟨1, _⟩ => show cc0_transform_0 inb_S1_S1_0 numel1_S1 (tbl m) (grid0.coords (point m t)) 1 * 352 + 1 * r.val = 352 + r.val; rw [hi]; simp
  | ⟨2, _⟩ => show cc0_transform_0 inb_S1_S1_0 numel1_S1 (tbl m) (grid0.coords (point m t)) 2 * 1024 + 1 * j.val = j.val; rw [hi]; simp

theorem blk1 (c : Dev nD) (t : Fin 4) (r : Fin 352) (j : Fin 1024) : b1 m c (point m t) (ix3 0 r j) = arg1 m c (ix3 t r j) := by
  refine Eq.trans ?_ (congrFun (V_main_arg1 m c) _)
  show V m c main_arg1 _ = _
  congr 1
  funext a'
  apply Fin.ext
  have hi := index1 (point m t)
  match a' with
  | ⟨0, _⟩ => show cc0_transform_1 (grid0.coords (point m t)) 0 * 1 + 1 * 0 = t.val; rw [hi]; simp [point]
  | ⟨1, _⟩ => show cc0_transform_1 (grid0.coords (point m t)) 1 * 352 + 1 * r.val = r.val; rw [hi]; simp
  | ⟨2, _⟩ => show cc0_transform_1 (grid0.coords (point m t)) 2 * 1024 + 1 * j.val = j.val; rw [hi]; simp

/-- Where the result's block of a slab lies. -/
theorem read2 (x : FVec Ideal S4x352x1024 .bf16) (k : Fin 4) (r : Fin 352) (j : Fin 1024) :
    (((cfg m).win 2).blk (point m k)).view.read (Elt Ideal) x (ix3 0 r j) = x (ix3 k r j) := by
  show x _ = _
  congr 1
  funext a'
  apply Fin.ext
  have hi := index2 (point m k)
  match a' with
  | ⟨0, _⟩ => show cc0_transform_2 (grid0.coords (point m k)) 0 * 1 + 1 * 0 = k.val; rw [hi]; simp [point]
  | ⟨1, _⟩ => show cc0_transform_2 (grid0.coords (point m k)) 1 * 352 + 1 * r.val = r.val; rw [hi]; simp
  | ⟨2, _⟩ => show cc0_transform_2 (grid0.coords (point m k)) 2 * 1024 + 1 * j.val = j.val; rw [hi]; simp

theorem final2 (c : Dev nD) (k : Fin 4) (r : Fin 352) (j : Fin 1024) : (dat m c).arrAt 2 (cfg m).N (ix3 k r j) = elem (arg0 m c) (arg1 m c) k r j :=
  (read2 m ((dat m c).arrAt 2 (cfg m).N) k r j).symm.trans ((congrFun (blocks2 m c (point m k)) (ix3 0 r j)).trans
    ((congrFun (flushed2 m c (point m k)) (ix3 0 r j)).trans ((out2 m c (point m k) r j).trans
      (congrArg₂ (· + ·) (blk0 m c k r j) (blk1 m c k r j)))))

theorem ref_at (x0 : FVec Ideal S4x704x1024 .f32) (x1 : FVec Ideal S4x352x1024 .f32) (k : Fin 4) (r : Fin 352) (j : Fin 1024) :
    Cert.HalfRefIdeal.Read.val_main_v2 (F := Ideal) x0 x1 (ix3 k r j) = elem x0 x1 k r j := by
  unfold Cert.HalfRefIdeal.Read.val_main_v2 Cert.HalfRefIdeal.Read.val_main_v1 Cert.HalfRefIdeal.Read.val_main_v0 elem
  pointwise

theorem run_blocks : θ_run defs (onTc (τ := τ) (main (F := Ideal))) ⟨m, fun _ => 0, ρ⟩ fun r => ∀ c : Dev nD,
      r.2.mem ((c : Thread nD τ).loc main_v1) = (dat m c).arrAt 2 (cfg m).N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1 2,
      ((h c).1 0).trans (((dat m c).arrAt_in 0 rfl _).trans ((A_eq m (ok m) c 0).trans (V_main_arg0 m c))),
      ((h c).1 1).trans (((dat m c).arrAt_in 1 rfl _).trans ((A_eq m (ok m) c 1).trans (V_main_arg1 m c)))⟩)
    (run_main m ρ (ok m))

theorem value : Cert.algebraic_HalfIdeal_HalfRefIdeal := by
  intro m g m' g' _ harg
  refine ⟨fun c => (dat m c).arrAt 2 (cfg m).N, run_blocks m g, ?_⟩
  refine (θ_run Cert.HalfRefIdeal.defs _ _).mono (fun r h c => ?_) (Cert.HalfRefIdeal.Value.run m' g')
  obtain ⟨h0, hr⟩ := h c
  obtain ⟨a0, a1⟩ := harg c
  refine ⟨h0.trans ?_, hr⟩
  refine (Cert.HalfRefIdeal.Read.val_main_v2_eq _ _).trans ?_
  rw [a0, a1]
  funext i
  obtain ⟨k, r, j, rfl⟩ : ∃ k r j, i = ix3 k r j := ⟨i 0, i 1, i 2, eq_ix3 i⟩
  exact (ref_at _ _ k r j).trans (final2 m c k r j).symm

/-- The reference leaves its arguments and its counters as they were. -/
theorem frame_ref : Cert.quiescent_HalfRefIdeal := fun m g _ =>
  (θ_run Cert.HalfRefIdeal.defs _ _).mono (fun r h => ⟨fun c => (h c).2, sem_eq_zero_of_no_sems (by decide) r.2⟩)
    (Cert.HalfRefIdeal.Value.run (F := Ideal) m g)

end Cert.HalfIdeal.Value

end
-- ==== Proof.Part.Table.lean ====
/-
  The sum of what the chips sent: the table that the host passes holds chip two and core one, so that every block the kernel fetches or
  writes lies inside its array.
-/
module

public import proofs.«01_k».proof.Proof.Gen.Part.Frame
public import proofs.«01_k».proof.Proof.Gen.PartIdeal.Frame
public import Idealize.ShloMosaic.Lib.Pipeline.ReadBack

@[expose] public section

noncomputable section

open Idealize.ShloMosaic Idealize.ShloMosaic.TcCoe Idealize.SL.Sem

namespace Cert.Part.Gen

variable {F : FTy → Type} [FloatOps F]
variable (m : (ℓ : Loc nD τ sig) → Buf (Elt F) ℓ)

/-- The table's entries. -/
theorem table (c : Dev nD) : V m c main_c = fun i => lit0 (S2.rowMajor i) := by
  unfold V
  after_results_simp
  rfl

theorem chip : (tbl m).at 0 (Rect.unit (s := S2) ![0] S1.size inb_S2_S1_0) numel1_S1 = (2#32 : BitVec 32) := by
  refine (congrFun (table m 0) _).trans ?_
  rfl

theorem core : (tbl m).at 0 (Rect.unit (s := S2) ![1] S1.size inb_S2_S1_1) numel1_S1 = (1#32 : BitVec 32) := by
  refine (congrFun (table m 0) _).trans ?_
  rfl

theorem first (i : grid0.Coords) : (i 0).val = 0 := by
  have h : (i 0).val < 1 := (i 0).isLt
  omega

theorem start0 (i : grid0.Coords) : cc0_transform_0 inb_S2_S1_0 numel1_S1 inb_S2_S1_1 (tbl m) i = ![2, 1, 0] := by
  unfold cc0_transform_0
  rw [chip, core, first]
  rfl

theorem start1 (i : grid0.Coords) : cc0_transform_1 inb_S2_S1_0 numel1_S1 (tbl m) i = ![2, 0, 0] := by
  unfold cc0_transform_1
  rw [chip, first]
  rfl

theorem start4 (i : grid0.Coords) : cc0_transform_4 inb_S2_S1_1 numel1_S1 (tbl m) i = ![3, 0] := by
  unfold cc0_transform_4
  rw [core, first]
  rfl

/-- Every block lies inside its array. -/
theorem ok : Ok m := by
  refine ⟨fun i => ⟨fun a => ?_, Or.inl rfl⟩, fun i => ⟨fun a => ?_, Or.inl rfl⟩, fun i => ⟨fun a => ?_, Or.inl rfl⟩⟩
  · rw [start0]; revert a; decide
  · rw [start1]; revert a; decide
  · rw [start4]; revert a; decide

end Cert.Part.Gen

namespace Cert.PartIdeal.Gen

variable {F : FTy → Type} [FloatOps F]
variable (m : (ℓ : Loc nD τ sig) → Buf (Elt F) ℓ)

/-- The table's entries. -/
theorem table (c : Dev nD) : V m c main_c = fun i => lit0 (S2.rowMajor i) := by
  unfold V
  after_results_simp
  rfl

theorem chip : (tbl m).at 0 (Rect.unit (s := S2) ![0] S1.size inb_S2_S1_0) numel1_S1 = (2#32 : BitVec 32) := by
  refine (congrFun (table m 0) _).trans ?_
  rfl

theorem core : (tbl m).at 0 (Rect.unit (s := S2) ![1] S1.size inb_S2_S1_1) numel1_S1 = (1#32 : BitVec 32) := by
  refine (congrFun (table m 0) _).trans ?_
  rfl

theorem first (i : grid0.Coords) : (i 0).val = 0 := by
  have h : (i 0).val < 1 := (i 0).isLt
  omega

theorem start0 (i : grid0.Coords) : cc0_transform_0 inb_S2_S1_0 numel1_S1 inb_S2_S1_1 (tbl m) i = ![2, 1, 0] := by
  unfold cc0_transform_0
  rw [chip, core, first]
  rfl

theorem start1 (i : grid0.Coords) : cc0_transform_1 inb_S2_S1_0 numel1_S1 (tbl m) i = ![2, 0, 0] := by
  unfold cc0_transform_1
  rw [chip, first]
  rfl

theorem start4 (i : grid0.Coords) : cc0_transform_4 inb_S2_S1_1 numel1_S1 (tbl m) i = ![3, 0] := by
  unfold cc0_transform_4
  rw [core, first]
  rfl

/-- Every block lies inside its array. -/
theorem ok : Ok m := by
  refine ⟨fun i => ⟨fun a => ?_, Or.inl rfl⟩, fun i => ⟨fun a => ?_, Or.inl rfl⟩, fun i => ⟨fun a => ?_, Or.inl rfl⟩⟩
  · rw [start0]; revert a; decide
  · rw [start1]; revert a; decide
  · rw [start4]; revert a; decide

end Cert.PartIdeal.Gen

end
-- ==== Proof.Part.Value.lean ====
/-
  The sum of what the chips sent: one point adds this chip's half, its sibling's part and the three arrived ones, and writes the sum
  over one block of the shard; the shard's other rows stay.
-/
module

public import proofs.«01_k».proof.Defs
public import proofs.«01_k».proof.Proof.Slab
public import proofs.«01_k».proof.Proof.Part.Table
public import proofs.«01_k».proof.Proof.Gen.PartRefIdeal.Read
public import Idealize.ShloMosaic.Lib.Pipeline.ReadBack
public import Idealize.ShloMosaic.Lib.Pipeline.Value
public import Idealize.ShloMosaic.Lib.Pipeline.ValueKit.Tiles

@[expose] public section

noncomputable section

open Idealize.ShloMosaic Idealize.ShloMosaic.TcCoe Idealize.SL.Sem
open Idealize.ShloMosaic.Pipeline (Dat)

namespace Cert.PartIdeal.Value
open Cert.PartIdeal Cert.PartIdeal.Gen

variable (m : (ℓ : Loc nD τ sig) → Buf (Elt Ideal) ℓ) (ρ : Dev nD → PrngReg)

/-- The gradient. -/
abbrev arg0 (c : Dev nD) : FVec Ideal S4x704x1024 .f32 := m ((c : Thread nD τ).loc main_arg0)
/-- The sibling's part of it. -/
abbrev arg1 (c : Dev nD) : FVec Ideal S4x352x1024 .f32 := m ((c : Thread nD τ).loc main_arg1)
/-- What the other chips sent. -/
abbrev arg2 (c : Dev nD) : FVec Ideal S3x352x1024 .f32 := m ((c : Thread nD τ).loc main_arg2)
/-- The shard as it was. -/
abbrev arg3 (c : Dev nD) : FVec Ideal S1408x1024 .f32 := m ((c : Thread nD τ).loc main_arg3)

/-- An element of the sum. -/
def elem (a0 : FVec Ideal S4x704x1024 .f32) (a1 : FVec Ideal S4x352x1024 .f32) (a2 : FVec Ideal S3x352x1024 .f32) (r : Fin 352) (j : Fin 1024) : EReal :=
  a0 (ix3 2 ⟨352 + r.val, by omega⟩ j) + a1 (ix3 2 r j) + a2 (ix3 0 r j) + a2 (ix3 1 r j) + a2 (ix3 2 r j)

theorem hz : (![0, 0] : Fin 2 → Nat) = fun _ => 0 := funext fun a => by fin_cases a <;> rfl
theorem hz3 : (![0, 0, 0] : Fin 3 → Nat) = fun _ => 0 := funext fun a => by fin_cases a <;> rfl

/-- The pipeline at the host's table, and its proof data. -/
abbrev cfg := cfgM m (ok m)
abbrev dat (c : Dev nD) := dats m (ok m) 0 c

/-- The one point. -/
abbrev t0 : Fin (cfg m).N := t0_0

/-- The input windows' blocks. -/
abbrev b0 (c : Dev nD) : FVec Ideal S1x352x1024 .f32 := iblk m (ok m) c 0 (t0 m)
abbrev b1 (c : Dev nD) : FVec Ideal S1x352x1024 .f32 := iblk m (ok m) c 1 (t0 m)
abbrev b2 (c : Dev nD) : FVec Ideal S3x352x1024 .bf16 := iblk m (ok m) c 2 (t0 m)

theorem index2 : ∀ t : Fin grid0.N, cc0_transform_2 (grid0.coords t) = ![0, 0, 0] := by decide +kernel

theorem one (t : Fin (cfg m).N) : t = t0 m := Fin.ext (by
  have h : t.val < grid0.N := t.isLt
  rw [N_0] at h
  have h0 : (t0 m).val = 0 := rfl
  omega)

theorem flush3 : ((cfg m).win 3).flush (t0 m) = true := by
  unfold Pipeline.Window.flush
  have h : (t0 m).val + 1 = (cfg m).grid.N := N_0.symm
  simp only [h, decide_true, Bool.true_or, Bool.and_true]
  rfl

theorem blocks3 (c : Dev nD) :
    (((cfg m).win 3).blk (t0 m)).view.read (Elt Ideal) ((dat m c).arrAt 3 (cfg m).N) = (dat m c).flushed 3 (t0 m) :=
  (dat m c).read_blk_arrAt_eq_flushed 3 (fun t t' _ _ h => absurd ((one m t).trans (one m t').symm) h) (cfg m).N (t0 m) (t0 m).isLt (flush3 m)

theorem flushed3 (c : Dev nD) :
    (dat m c).flushed 3 (t0 m) = ((cfg m).win 3).cut (grid0.coords (t0 m)) (outsAt0 m (ok m) c (t0 m)) := by
  show ((cfg m).win 3).cut (grid0.coords (t0 m)) ((dat m c).after 3 (t0 m)) = _
  rw [after0_3]

theorem ld (a : Memref sig .tc .vmem S1x352x1024 .f32) (ha : a.IsWhole) (x : FVec Ideal S1x352x1024 .f32) :
    View.readAt (Elt Ideal) a.view (Rect.unit (s := S1x352x1024) ![0, 0, 0] S1x352x1024.size inb_S1x352x1024_S1x352x1024_0_0_0).toLoadRect (ha.unread x) = x := by
  refine Eq.trans ?_ (View.ld_unit_zero (Val := Elt Ideal) (S := S1x352x1024) (e := .f32) hz3 inb_S1x352x1024_S1x352x1024_0_0_0 x)
  exact congrArg (fun y : Vec Ideal S1x352x1024 .f32 => View.ld y (Rect.unit (s := S1x352x1024) ![0, 0, 0] S1x352x1024.size inb_S1x352x1024_S1x352x1024_0_0_0)) (ha.read_unread (Val := Elt Ideal) x)

theorem ldk (a : Memref sig .tc .vmem S3x352x1024 .bf16) (ha : a.IsWhole) (x : FVec Ideal S3x352x1024 .bf16) (o : ℕ) (k : Fin 3) (h : o = k.val) (hb)
    (r : Fin 352) (j : Fin 1024) :
    View.readAt (Elt Ideal) a.view (Rect.unit (s := S3x352x1024) ![o, 0, 0] S1x352x1024.size hb).toLoadRect (ha.unread x) (ix3 0 r j) = x (ix3 k r j) := by
  subst h
  refine (congrFun (congrArg (fun y : Vec Ideal S3x352x1024 .bf16 => View.ld y (Rect.unit (s := S3x352x1024) ![k.val, 0, 0] S1x352x1024.size hb)) (ha.read_unread (Val := Elt Ideal) x)) (ix3 0 r j)).trans ?_
  rw [View.ld_unit]
  refine congrArg x (funext fun b => Fin.ext ?_)
  fin_cases b
  · show k.val + 0 = k.val; omega
  · show 0 + r.val = r.val; omega
  · show 0 + j.val = j.val; omega

theorem out (c : Dev nD) (i : grid0.Coords) (arg2 : Memref sig .tc .vmem S1x352x1024 .f32) (harg2 : arg2.IsWhole)
    (arg3 : Memref sig .tc .vmem S1x352x1024 .f32) (harg3 : arg3.IsWhole) (arg4 : Memref sig .tc .vmem S3x352x1024 .bf16) (harg4 : arg4.IsWhole)
    (arg6 : Memref sig .tc .vmem S352x1024 .f32) (harg6 : arg6.IsWhole)
    (x0 x1 : FVec Ideal S1x352x1024 .f32) (x2 : FVec Ideal S3x352x1024 .bf16) (xt) (r : Fin 352) (j : Fin 1024) :
    out0_A_3 (F := Ideal) c i arg2 harg2 arg3 harg3 arg4 harg4 arg6 harg6 x0 x1 x2 xt (ix2 r j)
      = x0 (ix3 0 r j) + x1 (ix3 0 r j) + x2 (ix3 0 r j) + x2 (ix3 1 r j) + x2 (ix3 2 r j) := by
  unfold out0_A_3
  rw [View.read_writes_eq_canon _ _ _ (cover0_A_3 c i arg2 harg2 arg3 harg3 arg4 harg4 arg6 harg6 x0 x1 x2 xt)]
  unfold kernelRun0_A
  dsimp only
  rw [View.canon_unit_zero hz]
  rw [ld, ld]
  unfold k0_pay1
  pointwise [ldk arg4 harg4 x2 0 0 rfl, ldk arg4 harg4 x2 1 1 rfl, ldk arg4 harg4 x2 2 2 rfl]

theorem out3 (c : Dev nD) (r : Fin 352) (j : Fin 1024) :
    outsAt0 m (ok m) c (t0 m) (ix2 r j) = b0 m c (ix3 0 r j) + b1 m c (ix3 0 r j) + b2 m c (ix3 0 r j) + b2 m c (ix3 1 r j) + b2 m c (ix3 2 r j) := by
  unfold outsAt0
  exact out c _ _ _ _ _ _ _ _ _ (b0 m c) (b1 m c) (b2 m c) _ r j

theorem v0 (c : Dev nD) : (V m c main_v0 : FVec Ideal S3x352x1024 .bf16) = arg2 m c := by
  have e : V m c main_v0 = truncf (F := Ideal) .bf16 (arg2 m c) bitsLt_bf16_f32 := by
    unfold V
    after_results_simp
  rw [e]
  rfl

theorem v1 (c : Dev nD) : V m c main_v1 = arg3 m c := by
  unfold V
  after_results_simp
  rfl

theorem blk0 (c : Dev nD) (r : Fin 352) (j : Fin 1024) : b0 m c (ix3 0 r j) = arg0 m c (ix3 2 ⟨352 + r.val, by omega⟩ j) := by
  refine Eq.trans ?_ (congrFun (V_main_arg0 m c) _)
  show V m c main_arg0 _ = _
  congr 1
  funext a'
  apply Fin.ext
  have hi := start0 m (grid0.coords (t0 m))
  match a' with
  | ⟨0, _⟩ => show cc0_transform_0 inb_S2_S1_0 numel1_S1 inb_S2_S1_1 (tbl m) (grid0.coords (t0 m)) 0 * 1 + 1 * 0 = 2; rw [hi]; simp
  | ⟨1, _⟩ => show cc0_transform_0 inb_S2_S1_0 numel1_S1 inb_S2_S1_1 (tbl m) (grid0.coords (t0 m)) 1 * 352 + 1 * r.val = 352 + r.val; rw [hi]; simp
  | ⟨2, _⟩ => show cc0_transform_0 inb_S2_S1_0 numel1_S1 inb_S2_S1_1 (tbl m) (grid0.coords (t0 m)) 2 * 1024 + 1 * j.val = j.val; rw [hi]; simp

theorem blk1 (c : Dev nD) (r : Fin 352) (j : Fin 1024) : b1 m c (ix3 0 r j) = arg1 m c (ix3 2 r j) := by
  refine Eq.trans ?_ (congrFun (V_main_arg1 m c) _)
  show V m c main_arg1 _ = _
  congr 1
  funext a'
  apply Fin.ext
  have hi := start1 m (grid0.coords (t0 m))
  match a' with
  | ⟨0, _⟩ => show cc0_transform_1 inb_S2_S1_0 numel1_S1 (tbl m) (grid0.coords (t0 m)) 0 * 1 + 1 * 0 = 2; rw [hi]; simp
  | ⟨1, _⟩ => show cc0_transform_1 inb_S2_S1_0 numel1_S1 (tbl m) (grid0.coords (t0 m)) 1 * 352 + 1 * r.val = r.val; rw [hi]; simp
  | ⟨2, _⟩ => show cc0_transform_1 inb_S2_S1_0 numel1_S1 (tbl m) (grid0.coords (t0 m)) 2 * 1024 + 1 * j.val = j.val; rw [hi]; simp

theorem blk2 (c : Dev nD) (k : Fin 3) (r : Fin 352) (j : Fin 1024) : b2 m c (ix3 k r j) = arg2 m c (ix3 k r j) := by
  refine Eq.trans ?_ (congrFun (v0 m c) _)
  show V m c main_v0 _ = _
  congr 1
  funext a'
  apply Fin.ext
  have hi := index2 (t0 m)
  match a' with
  | ⟨0, _⟩ => show cc0_transform_2 (grid0.coords (t0 m)) 0 * 3 + 1 * k.val = k.val; rw [hi]; simp
  | ⟨1, _⟩ => show cc0_transform_2 (grid0.coords (t0 m)) 1 * 352 + 1 * r.val = r.val; rw [hi]; simp
  | ⟨2, _⟩ => show cc0_transform_2 (grid0.coords (t0 m)) 2 * 1024 + 1 * j.val = j.val; rw [hi]; simp

theorem pair (y : S352x1024.Idx) : ∃ r j, y = (ix2 r j : S352x1024.Idx) := ⟨y 0, y 1, eq_ix2 y⟩

/-- The written block holds the shard's last rows. -/
theorem emb3 (r : Fin 352) (j : Fin 1024) :
    (((cfg m).win 3).blk (t0 m)).view.emb (ix2 r j) = (ix2 ⟨1056 + r.val, by omega⟩ j : S1408x1024.Idx) := by
  funext a'
  apply Fin.ext
  have hi := start4 m (grid0.coords (t0 m))
  match a' with
  | ⟨0, _⟩ => show cc0_transform_4 inb_S2_S1_1 numel1_S1 (tbl m) (grid0.coords (t0 m)) 0 * 352 + 1 * r.val = 1056 + r.val; rw [hi]; simp
  | ⟨1, _⟩ => show cc0_transform_4 inb_S2_S1_1 numel1_S1 (tbl m) (grid0.coords (t0 m)) 1 * 1024 + 1 * j.val = j.val; rw [hi]; simp

theorem read3 (x : FVec Ideal S1408x1024 .f32) (r : Fin 352) (j : Fin 1024) :
    (((cfg m).win 3).blk (t0 m)).view.read (Elt Ideal) x (ix2 r j) = x (ix2 ⟨1056 + r.val, by omega⟩ j) :=
  congrArg x (emb3 m r j)

theorem written (c : Dev nD) (r : Fin 352) (j : Fin 1024) :
    (dat m c).arrAt 3 (cfg m).N (ix2 ⟨1056 + r.val, by omega⟩ j : S1408x1024.Idx) = elem (arg0 m c) (arg1 m c) (arg2 m c) r j :=
  (read3 m ((dat m c).arrAt 3 (cfg m).N) r j).symm.trans ((congrFun (blocks3 m c) (ix2 r j)).trans
    ((congrFun (flushed3 m c) (ix2 r j)).trans ((out3 m c r j).trans (by rw [blk0, blk1, blk2, blk2, blk2]; rfl))))

theorem kept (c : Dev nD) (R : Fin 1408) (h : R.val < 1056) (j : Fin 1024) :
    (dat m c).arrAt 3 (cfg m).N (ix2 R j : S1408x1024.Idx) = arg3 m c (ix2 R j) := by
  refine ((dat m c).arrAt_apply_of_forall_not_mem 3 (cfg m).N (ix2 R j : S1408x1024.Idx) fun t _ _ hm => ?_).trans
    ((congrFun (A_eq m (ok m) c 3) _).trans (congrFun (v1 m c) _))
  rw [one m t] at hm
  obtain ⟨y, hy⟩ := View.exists_emb_of_mem_set _ hm
  obtain ⟨r, j', rfl⟩ : ∃ r j', y = (ix2 r j' : S352x1024.Idx) := pair y
  have e := congrArg (fun z : S1408x1024.Idx => (z 0).val) ((emb3 m r j').symm.trans hy)
  have e' : 1056 + r.val = R.val := e
  omega

theorem sum_at (x0 : FVec Ideal S4x704x1024 .f32) (x1 : FVec Ideal S4x352x1024 .f32) (x2 : FVec Ideal S3x352x1024 .f32) (r : Fin 352) (j : Fin 1024) :
    Cert.PartRefIdeal.Read.val_main_v13 (F := Ideal) x0 x1 x2 (ix2 r j) = elem x0 x1 x2 r j := by
  unfold Cert.PartRefIdeal.Read.val_main_v13 Cert.PartRefIdeal.Read.val_main_v12 Cert.PartRefIdeal.Read.val_main_v11 Cert.PartRefIdeal.Read.val_main_v10
    Cert.PartRefIdeal.Read.val_main_v9 Cert.PartRefIdeal.Read.val_main_v8 Cert.PartRefIdeal.Read.val_main_v7 Cert.PartRefIdeal.Read.val_main_v6
    Cert.PartRefIdeal.Read.val_main_v5 Cert.PartRefIdeal.Read.val_main_v4 Cert.PartRefIdeal.Read.val_main_v3 Cert.PartRefIdeal.Read.val_main_v2
    Cert.PartRefIdeal.Read.val_main_v1 Cert.PartRefIdeal.Read.val_main_v0 elem
  pointwise

theorem ref_new (x0 : FVec Ideal S4x704x1024 .f32) (x1 : FVec Ideal S4x352x1024 .f32) (x2 : FVec Ideal S3x352x1024 .f32) (x3 : FVec Ideal S1408x1024 .f32)
    (r : Fin 352) (j : Fin 1024) :
    Cert.PartRefIdeal.Read.val_main_v15 (F := Ideal) x0 x1 x2 x3 (ix2 ⟨1056 + r.val, by omega⟩ j) = elem x0 x1 x2 r j := by
  rw [← sum_at]
  unfold Cert.PartRefIdeal.Read.val_main_v15
  refine concatenate_pair_apply_right (t := Cert.PartRefIdeal.S1408x1024) (s₁ := Cert.PartRefIdeal.S1056x1024) (s₂ := Cert.PartRefIdeal.S352x1024) 0 _ _ _ _ rfl rfl (ix2 r j : Cert.PartRefIdeal.S352x1024.Idx) (fun b hb => ?_) ?_
  · fin_cases b
    · exact absurd rfl hb
    · rfl
  · show r.val + 1056 = 1056 + r.val; omega

theorem ref_old (x0 : FVec Ideal S4x704x1024 .f32) (x1 : FVec Ideal S4x352x1024 .f32) (x2 : FVec Ideal S3x352x1024 .f32) (x3 : FVec Ideal S1408x1024 .f32)
    (R : Fin 1408) (h : R.val < 1056) (j : Fin 1024) :
    Cert.PartRefIdeal.Read.val_main_v15 (F := Ideal) x0 x1 x2 x3 (ix2 R j) = x3 (ix2 R j) := by
  unfold Cert.PartRefIdeal.Read.val_main_v15
  refine (concatenate_pair_apply_left (t := Cert.PartRefIdeal.S1408x1024) (s₁ := Cert.PartRefIdeal.S1056x1024) (s₂ := Cert.PartRefIdeal.S352x1024) 0 _ _ _ _ rfl (ix2 ⟨R.val, h⟩ j : Cert.PartRefIdeal.S1056x1024.Idx) (fun b => ?_)).trans ?_
  · fin_cases b <;> rfl
  · unfold Cert.PartRefIdeal.Read.val_main_v14
    pointwise

theorem run_blocks : θ_run defs (onTc (τ := τ) (main (F := Ideal))) ⟨m, fun _ => 0, ρ⟩ fun r => ∀ c : Dev nD,
      r.2.mem ((c : Thread nD τ).loc main_v1) = (dat m c).arrAt 3 (cfg m).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1 3,
      ((h c).1 0).trans (((dat m c).arrAt_in 0 rfl _).trans ((A_eq m (ok m) c 0).trans (V_main_arg0 m c))),
      ((h c).1 1).trans (((dat m c).arrAt_in 1 rfl _).trans ((A_eq m (ok m) c 1).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩)
    (run_main m ρ (ok m))

theorem value : Cert.algebraic_PartIdeal_PartRefIdeal := by
  intro m g m' g' _ harg
  refine ⟨fun c => (dat m c).arrAt 3 (cfg m).N, run_blocks m g, ?_⟩
  refine (θ_run Cert.PartRefIdeal.defs _ _).mono (fun r h c => ?_) (Cert.PartRefIdeal.Value.run m' g')
  obtain ⟨h0, hr⟩ := h c
  obtain ⟨a0, a1, a2, a3⟩ := harg c
  refine ⟨h0.trans ?_, hr⟩
  refine (Cert.PartRefIdeal.Read.val_main_v15_eq _ _ _ _).trans ?_
  rw [a0, a1, a2, a3]
  funext i
  obtain ⟨R, j, rfl⟩ : ∃ R j, i = ix2 R j := ⟨i 0, i 1, eq_ix2 i⟩
  by_cases hR : R.val < 1056
  · exact (ref_old _ _ _ _ R hR j).trans (kept m c R hR j).symm
  · obtain ⟨k, hk⟩ : ∃ k : Fin 352, R = ⟨1056 + k.val, by omega⟩ := ⟨⟨R.val - 1056, by omega⟩, Fin.ext (by show R.val = 1056 + (R.val - 1056); omega)⟩
    rw [hk]
    exact (ref_new _ _ _ _ k j).trans (written m c k j).symm

/-- The reference leaves its arguments and its counters as they were. -/
theorem frame_ref : Cert.quiescent_PartRefIdeal := fun m g _ =>
  (θ_run Cert.PartRefIdeal.defs _ _).mono (fun r h => ⟨fun c => (h c).2, sem_eq_zero_of_no_sems (by decide) r.2⟩)
    (Cert.PartRefIdeal.Value.run (F := Ideal) m g)

end Cert.PartIdeal.Value

end
-- ==== Proof.Cast.Table.lean ====
/-
  A weight's shard cast into its slot: the table that the host passes holds chip three, so that every block the kernel writes lies inside
  its array.
-/
module

public import proofs.«01_k».proof.Proof.Gen.Cast.Frame
public import proofs.«01_k».proof.Proof.Gen.CastIdeal.Frame
public import Idealize.ShloMosaic.Lib.Pipeline.ReadBack

@[expose] public section

noncomputable section

open Idealize.ShloMosaic Idealize.ShloMosaic.TcCoe Idealize.SL.Sem

namespace Cert.Cast.Gen

variable {F : FTy → Type} [FloatOps F]
variable (m : (ℓ : Loc nD τ sig) → Buf (Elt F) ℓ)

/-- The table's entry. -/
theorem table (c : Dev nD) : V m c main_v1 = fun _ => (3#32 : BitVec 32) := by
  unfold V
  after_results_simp
  rfl

theorem chip : (tbl m).at 0 (Rect.unit (s := S1) ![0] S1.size inb_S1_S1_0) numel1_S1 = (3#32 : BitVec 32) := congrFun (table m 0) _

theorem start2 (i : grid0.Coords) : cc0_transform_2 inb_S1_S1_0 numel1_S1 (tbl m) i = ![3, (i 0).val, 0] := by
  have h : (i 0).val < 4 := (i 0).isLt
  unfold cc0_transform_2
  rw [chip]
  funext a
  fin_cases a
  · rfl
  · show (BitVec.ofNat 32 (i 0).val).toNat = (i 0).val
    rw [BitVec.toNat_ofNat]; omega
  · rfl

/-- Every block lies inside its array and takes whole words. -/
theorem ok : Ok m := by
  intro i
  have h : (i 0).val < 4 := (i 0).isLt
  refine ⟨fun a => ?_, Or.inr ?_⟩
  · rw [start2]
    fin_cases a
    · show (3 + 1) * 1 ≤ 4; omega
    · show ((i 0).val + 1) * 352 ≤ 1408; omega
    · show (0 + 1) * 1024 ≤ 1024; omega
  · exact Affine.block_words_dvd (of_decide_eq_true rfl) (by decide)

end Cert.Cast.Gen

namespace Cert.CastIdeal.Gen

variable {F : FTy → Type} [FloatOps F]
variable (m : (ℓ : Loc nD τ sig) → Buf (Elt F) ℓ)

/-- The table's entry. -/
theorem table (c : Dev nD) : V m c main_v1 = fun _ => (3#32 : BitVec 32) := by
  unfold V
  after_results_simp
  rfl

theorem chip : (tbl m).at 0 (Rect.unit (s := S1) ![0] S1.size inb_S1_S1_0) numel1_S1 = (3#32 : BitVec 32) := congrFun (table m 0) _

theorem start2 (i : grid0.Coords) : cc0_transform_2 inb_S1_S1_0 numel1_S1 (tbl m) i = ![3, (i 0).val, 0] := by
  have h : (i 0).val < 4 := (i 0).isLt
  unfold cc0_transform_2
  rw [chip]
  funext a
  fin_cases a
  · rfl
  · show (BitVec.ofNat 32 (i 0).val).toNat = (i 0).val
    rw [BitVec.toNat_ofNat]; omega
  · rfl

/-- Every block lies inside its array and takes whole words. -/
theorem ok : Ok m := by
  intro i
  have h : (i 0).val < 4 := (i 0).isLt
  refine ⟨fun a => ?_, Or.inr ?_⟩
  · rw [start2]
    fin_cases a
    · show (3 + 1) * 1 ≤ 4; omega
    · show ((i 0).val + 1) * 352 ≤ 1408; omega
    · show (0 + 1) * 1024 ≤ 1024; omega
  · exact Affine.block_words_dvd (of_decide_eq_true rfl) (by decide)

end Cert.CastIdeal.Gen

end
-- ==== Proof.Cast.Value.lean ====
/-
  A weight's shard cast into its slot: the points round the shard block by block and write it over the slot of chip three; the other
  slots stay.
-/
module

public import proofs.«01_k».proof.Defs
public import proofs.«01_k».proof.Proof.Slab
public import proofs.«01_k».proof.Proof.Cast.Table
public import proofs.«01_k».proof.Proof.Gen.CastRefIdeal.Read
public import Idealize.ShloMosaic.Lib.Pipeline.ReadBack
public import Idealize.ShloMosaic.Lib.Pipeline.Value
public import Idealize.ShloMosaic.Lib.Pipeline.ValueKit.Tiles

@[expose] public section

noncomputable section

open Idealize.ShloMosaic Idealize.ShloMosaic.TcCoe Idealize.SL.Sem
open Idealize.ShloMosaic.Pipeline (Dat)

namespace Cert.CastIdeal.Value
open Cert.CastIdeal Cert.CastIdeal.Gen

variable (m : (ℓ : Loc nD τ sig) → Buf (Elt Ideal) ℓ) (ρ : Dev nD → PrngReg)

/-- The slots as they were. -/
abbrev arg0 (c : Dev nD) : FVec Ideal S4x1408x1024 .f32 := m ((c : Thread nD τ).loc main_arg0)
/-- The shard. -/
abbrev arg1 (c : Dev nD) : FVec Ideal S1408x1024 .f32 := m ((c : Thread nD τ).loc main_arg1)

theorem hz : (![0, 0] : Fin 2 → Nat) = fun _ => 0 := funext fun a => by fin_cases a <;> rfl
theorem hz3 : (![0, 0, 0] : Fin 3 → Nat) = fun _ => 0 := funext fun a => by fin_cases a <;> rfl

/-- The pipeline at the host's table, and its proof data. -/
abbrev cfg := cfgM m (ok m)
abbrev dat (c : Dev nD) := dats m (ok m) 0 c

/-- The input window's block. -/
abbrev b0 (c : Dev nD) (t : Fin (cfg m).N) : FVec Ideal S352x1024 .f32 := iblk m (ok m) c 0 t

/-- The point of a block of rows. -/
def point (k : Fin 4) : Fin (cfg m).N := ⟨k.val, by have := k.isLt; have : grid0.N = 4 := N_0; show k.val < grid0.N; omega⟩

theorem point_surj (t : Fin (cfg m).N) : ∃ k, t = point m k :=
  ⟨⟨t.val, by have h : t.val < grid0.N := t.isLt; have : grid0.N = 4 := N_0; omega⟩, rfl⟩

theorem coords : ∀ t : Fin grid0.N, (grid0.coords t 0).val = t.val := by decide +kernel
theorem index0 : ∀ t : Fin grid0.N, cc0_transform_0 (grid0.coords t) = ![t.val, 0] := by decide +kernel
theorem index1 (t : Fin grid0.N) : cc0_transform_2 inb_S1_S1_0 numel1_S1 (tbl m) (grid0.coords t) = ![3, t.val, 0] := by
  rw [start2, coords]

theorem inj1 (t t' : Fin (cfg m).N) (h : ((cfg m).win 1).index t = ((cfg m).win 1).index t') : t = t' := Fin.ext (by
  have h' : cc0_transform_2 inb_S1_S1_0 numel1_S1 (tbl m) (grid0.coords t) = cc0_transform_2 inb_S1_S1_0 numel1_S1 (tbl m) (grid0.coords t') := h
  rw [index1, index1] at h'
  exact congrFun h' 1)

theorem flush1 (t : Fin (cfg m).N) : ((cfg m).win 1).flush t = true := by
  have hN : (cfg m).grid.N = 4 := N_0
  unfold Pipeline.Window.flush
  by_cases h : t.val + 1 = (cfg m).grid.N
  · simp only [h, decide_true, Bool.true_or, Bool.and_true]
    rfl
  · have hlt : t.val + 1 < (cfg m).grid.N := by have h4 : t.val < (cfg m).grid.N := t.isLt; omega
    have hne : ∃ h : t.val + 1 < (cfg m).grid.N, ((cfg m).win 1).index ⟨t.val + 1, h⟩ ≠ ((cfg m).win 1).index t :=
      ⟨hlt, fun e => by have := congrArg Fin.val (inj1 m _ _ e); simp at this⟩
    simp only [hne, decide_true, Bool.or_true, Bool.and_true]
    rfl

theorem blocks1 (c : Dev nD) (t : Fin (cfg m).N) :
    (((cfg m).win 1).blk t).view.read (Elt Ideal) ((dat m c).arrAt 1 (cfg m).N) = (dat m c).flushed 1 t :=
  (dat m c).read_blk_arrAt_eq_flushed 1 (fun t t' _ _ hne => ((cfg m).win 1).disjoint_blk fun h => hne (inj1 m t t' h)) (cfg m).N t t.isLt (flush1 m t)

theorem flushed1 (c : Dev nD) (t : Fin (cfg m).N) :
    (dat m c).flushed 1 t = ((cfg m).win 1).cut (grid0.coords t) (outsAt0 m (ok m) c t) := by
  show ((cfg m).win 1).cut (grid0.coords t) ((dat m c).after 1 t) = _
  rw [after0_1]

theorem ld (a : Memref sig .tc .vmem S352x1024 .f32) (ha : a.IsWhole) (x : FVec Ideal S352x1024 .f32) :
    View.readAt (Elt Ideal) a.view (Rect.unit (s := S352x1024) ![0, 0] S352x1024.size inb_S352x1024_S352x1024_0_0).toLoadRect (ha.unread x) = x := by
  refine Eq.trans ?_ (View.ld_unit_zero (Val := Elt Ideal) (S := S352x1024) (e := .f32) hz inb_S352x1024_S352x1024_0_0 x)
  exact congrArg (fun y : Vec Ideal S352x1024 .f32 => View.ld y (Rect.unit (s := S352x1024) ![0, 0] S352x1024.size inb_S352x1024_S352x1024_0_0)) (ha.read_unread (Val := Elt Ideal) x)

theorem out (c : Dev nD) (i : grid0.Coords) (arg2 : Memref sig .tc .vmem S352x1024 .f32) (harg2 : arg2.IsWhole)
    (arg4 : Memref sig .tc .vmem S1x352x1024 .bf16) (harg4 : arg4.IsWhole) (x0 : FVec Ideal S352x1024 .f32) (xt) (r : Fin 352) (j : Fin 1024) :
    out0_A_1 (F := Ideal) c i arg2 harg2 arg4 harg4 x0 xt (ix3 0 r j) = x0 (ix2 r j) := by
  unfold out0_A_1
  rw [View.read_writes_eq_canon _ _ _ (cover0_A_1 c i arg2 harg2 arg4 harg4 x0 xt)]
  unfold kernelRun0_A
  dsimp only
  rw [View.canon_unit_zero hz3]
  rw [ld]
  unfold k0_pay1
  pointwise

theorem out1 (c : Dev nD) (t : Fin (cfg m).N) (r : Fin 352) (j : Fin 1024) : outsAt0 m (ok m) c t (ix3 0 r j) = b0 m c t (ix2 r j) := by
  unfold outsAt0
  exact out c _ _ _ _ _ (b0 m c t) _ r j

theorem v2 (c : Dev nD) : (V m c main_v2 : FVec Ideal S4x1408x1024 .bf16) = arg0 m c := by
  have e : V m c main_v2 = truncf (F := Ideal) .bf16 (arg0 m c) bitsLt_bf16_f32 := by
    unfold V
    after_results_simp
    rfl
  rw [e]
  rfl

theorem blk0 (c : Dev nD) (k : Fin 4) (r : Fin 352) (j : Fin 1024) : b0 m c (point m k) (ix2 r j) = arg1 m c (ix2 ⟨k.val * 352 + r.val, by omega⟩ j) := by
  refine Eq.trans ?_ (congrFun (V_main_arg1 m c) _)
  show V m c main_arg1 _ = _
  congr 1
  funext a'
  apply Fin.ext
  have hi := index0 (point m k)
  match a' with
  | ⟨0, _⟩ => show cc0_transform_0 (grid0.coords (point m k)) 0 * 352 + 1 * r.val = k.val * 352 + r.val; rw [hi]; simp [point]
  | ⟨1, _⟩ => show cc0_transform_0 (grid0.coords (point m k)) 1 * 1024 + 1 * j.val = j.val; rw [hi]; simp

theorem triple (y : S1x352x1024.Idx) : ∃ r j, y = (ix3 0 r j : S1x352x1024.Idx) :=
  ⟨y 1, y 2, (eq_ix3 y).trans (congrArg (fun z : Fin 1 => (ix3 z (y 1) (y 2) : S1x352x1024.Idx)) (@Subsingleton.elim (Fin 1) _ (y 0) 0))⟩

/-- The written blocks lie in the slot of chip three. -/
theorem emb1 (k : Fin 4) (r : Fin 352) (j : Fin 1024) :
    (((cfg m).win 1).blk (point m k)).view.emb (ix3 0 r j) = (ix3 3 ⟨k.val * 352 + r.val, by omega⟩ j : S4x1408x1024.Idx) := by
  funext a'
  apply Fin.ext
  have hi := index1 m (point m k)
  match a' with
  | ⟨0, _⟩ => show cc0_transform_2 inb_S1_S1_0 numel1_S1 (tbl m) (grid0.coords (point m k)) 0 * 1 + 1 * 0 = 3; rw [hi]; simp
  | ⟨1, _⟩ => show cc0_transform_2 inb_S1_S1_0 numel1_S1 (tbl m) (grid0.coords (point m k)) 1 * 352 + 1 * r.val = k.val * 352 + r.val; rw [hi]; simp [point]
  | ⟨2, _⟩ => show cc0_transform_2 inb_S1_S1_0 numel1_S1 (tbl m) (grid0.coords (point m k)) 2 * 1024 + 1 * j.val = j.val; rw [hi]; simp

theorem read1 (x : FVec Ideal S4x1408x1024 .bf16) (k : Fin 4) (r : Fin 352) (j : Fin 1024) :
    (((cfg m).win 1).blk (point m k)).view.read (Elt Ideal) x (ix3 0 r j) = x (ix3 3 ⟨k.val * 352 + r.val, by omega⟩ j) :=
  congrArg x (emb1 m k r j)

theorem written (c : Dev nD) (R : Fin 1408) (j : Fin 1024) :
    (dat m c).arrAt 1 (cfg m).N (ix3 3 R j : S4x1408x1024.Idx) = arg1 m c (ix2 R j) := by
  have e : ∀ (k : Fin 4) (r : Fin 352), (dat m c).arrAt 1 (cfg m).N (ix3 3 ⟨k.val * 352 + r.val, by omega⟩ j : S4x1408x1024.Idx)
      = arg1 m c (ix2 ⟨k.val * 352 + r.val, by omega⟩ j) := fun k r =>
    (read1 m ((dat m c).arrAt 1 (cfg m).N) k r j).symm.trans ((congrFun (blocks1 m c (point m k)) (ix3 0 r j)).trans
      ((congrFun (flushed1 m c (point m k)) (ix3 0 r j)).trans ((out1 m c (point m k) r j).trans (blk0 m c k r j))))
  obtain ⟨k, r, h⟩ : ∃ (k : Fin 4) (r : Fin 352), R = ⟨k.val * 352 + r.val, by omega⟩ :=
    ⟨⟨R.val / 352, by omega⟩, ⟨R.val % 352, by omega⟩, Fin.ext (by show R.val = R.val / 352 * 352 + R.val % 352; omega)⟩
  rw [h]
  exact e k r

theorem kept (c : Dev nD) (s : Fin 4) (h : s.val < 3) (R : Fin 1408) (j : Fin 1024) :
    (dat m c).arrAt 1 (cfg m).N (ix3 s R j : S4x1408x1024.Idx) = arg0 m c (ix3 s R j) := by
  refine ((dat m c).arrAt_apply_of_forall_not_mem 1 (cfg m).N (ix3 s R j : S4x1408x1024.Idx) fun t _ _ hm => ?_).trans
    ((congrFun (A_eq m (ok m) c 1) _).trans (congrFun (v2 m c) _))
  obtain ⟨k, rfl⟩ := point_surj m t
  obtain ⟨y, hy⟩ := View.exists_emb_of_mem_set _ hm
  obtain ⟨r, j', rfl⟩ : ∃ r j', y = (ix3 0 r j' : S1x352x1024.Idx) := triple y
  have e := congrArg (fun z : S4x1408x1024.Idx => (z 0).val) ((emb1 m k r j').symm.trans hy)
  have e' : 3 = s.val := e
  omega

theorem ref_new_v2 (x0 : FVec Ideal S4x1408x1024 .f32) (x1 : FVec Ideal S1408x1024 .f32) (R : Fin 1408) (j : Fin 1024) :
    Cert.CastRefIdeal.Read.val_main_v2 (F := Ideal) x0 x1 (ix3 3 R j) = x1 (ix2 R j) := by
  unfold Cert.CastRefIdeal.Read.val_main_v2
  refine (concatenate_pair_apply_right (t := Cert.CastRefIdeal.S4x1408x1024) (s₁ := Cert.CastRefIdeal.S3x1408x1024) (s₂ := Cert.CastRefIdeal.S1x1408x1024) 0 _ _ _ _ rfl rfl
    (ix3 0 R j : Cert.CastRefIdeal.S1x1408x1024.Idx) (fun b hb => ?_) ?_).trans ?_
  · fin_cases b
    · exact absurd rfl hb
    · rfl
    · rfl
  · rfl
  · unfold Cert.CastRefIdeal.Read.val_main_v1
    pointwise

theorem ref_new (x0 : FVec Ideal S4x1408x1024 .f32) (x1 : FVec Ideal S1408x1024 .f32) (R : Fin 1408) (j : Fin 1024) :
    Cert.CastRefIdeal.Read.val_main_v3 (F := Ideal) x0 x1 (ix3 3 R j) = x1 (ix2 R j) :=
  ref_new_v2 x0 x1 R j

theorem ref_old_v2 (x0 : FVec Ideal S4x1408x1024 .f32) (x1 : FVec Ideal S1408x1024 .f32) (s : Fin 4) (h : s.val < 3) (R : Fin 1408) (j : Fin 1024) :
    Cert.CastRefIdeal.Read.val_main_v2 (F := Ideal) x0 x1 (ix3 s R j) = x0 (ix3 s R j) := by
  unfold Cert.CastRefIdeal.Read.val_main_v2
  refine (concatenate_pair_apply_left (t := Cert.CastRefIdeal.S4x1408x1024) (s₁ := Cert.CastRefIdeal.S3x1408x1024) (s₂ := Cert.CastRefIdeal.S1x1408x1024) 0 _ _ _ _ rfl
    (ix3 ⟨s.val, h⟩ R j : Cert.CastRefIdeal.S3x1408x1024.Idx) (fun b => ?_)).trans ?_
  · fin_cases b <;> rfl
  · unfold Cert.CastRefIdeal.Read.val_main_v0
    pointwise

theorem ref_old (x0 : FVec Ideal S4x1408x1024 .f32) (x1 : FVec Ideal S1408x1024 .f32) (s : Fin 4) (h : s.val < 3) (R : Fin 1408) (j : Fin 1024) :
    Cert.CastRefIdeal.Read.val_main_v3 (F := Ideal) x0 x1 (ix3 s R j) = x0 (ix3 s R j) :=
  ref_old_v2 x0 x1 s h R j

theorem run_blocks : θ_run defs (onTc (τ := τ) (main (F := Ideal))) ⟨m, fun _ => 0, ρ⟩ fun r => ∀ c : Dev nD,
      r.2.mem ((c : Thread nD τ).loc main_v2) = (dat m c).arrAt 1 (cfg m).N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1 1,
      ((h c).2 main_arg0 (by decide : main_arg0 ∈ Pipeline.restRefs sig spec0)).trans (V_main_arg0 m c),
      ((h c).1 0).trans (((dat m c).arrAt_in 0 rfl _).trans ((A_eq m (ok m) c 0).trans (V_main_arg1 m c)))⟩)
    (run_main m ρ (ok m))

theorem value : Cert.algebraic_CastIdeal_CastRefIdeal := by
  intro m g m' g' _ harg
  refine ⟨fun c => (dat m c).arrAt 1 (cfg m).N, run_blocks m g, ?_⟩
  refine (θ_run Cert.CastRefIdeal.defs _ _).mono (fun r h c => ?_) (Cert.CastRefIdeal.Value.run m' g')
  obtain ⟨h0, hr⟩ := h c
  obtain ⟨a0, a1⟩ := harg c
  refine ⟨h0.trans ?_, hr⟩
  refine (Cert.CastRefIdeal.Read.val_main_v3_eq _ _).trans ?_
  rw [a0, a1]
  funext i
  obtain ⟨s, R, j, rfl⟩ : ∃ s R j, i = ix3 s R j := ⟨i 0, i 1, i 2, eq_ix3 i⟩
  by_cases hs : s.val < 3
  · exact (ref_old _ _ s hs R j).trans (kept m c s hs R j).symm
  · rw [show s = 3 from Fin.ext (by show s.val = 3; omega)]
    exact (ref_new _ _ R j).trans (written m c R j).symm

/-- The reference leaves its arguments and its counters as they were. -/
theorem frame_ref : Cert.quiescent_CastRefIdeal := fun m g _ =>
  (θ_run Cert.CastRefIdeal.defs _ _).mono (fun r h => ⟨fun c => (h c).2, sem_eq_zero_of_no_sems (by decide) r.2⟩)
    (Cert.CastRefIdeal.Value.run (F := Ideal) m g)

end Cert.CastIdeal.Value

end
-- ==== Proof.lean ====
module

public import proofs.«01_k».proof.Defs
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInRefIdeal
public import proofs.«01_k».proof.Proof.Gen.ConvIn
public import proofs.«01_k».proof.Proof.Gen.ConvIn.Skeleton
public import proofs.«01_k».proof.Proof.Gen.ConvIn.Launch
public import proofs.«01_k».proof.Proof.Gen.ConvIn.Points
public import proofs.«01_k».proof.Proof.Gen.ConvIn.Frame
public import proofs.«01_k».proof.Proof.Gen.ConvInIdeal
public import proofs.«01_k».proof.Proof.Gen.ConvInIdeal.Skeleton
public import proofs.«01_k».proof.Proof.Gen.ConvInIdeal.Launch
public import proofs.«01_k».proof.Proof.Gen.ConvInIdeal.Points
public import proofs.«01_k».proof.Proof.Gen.ConvInIdeal.Frame
public import proofs.«01_k».proof.Proof.Gen.ConvInRefIdeal
public import proofs.«01_k».proof.Proof.Gen.AttnIn
public import proofs.«01_k».proof.Proof.Gen.AttnIn.Skeleton
public import proofs.«01_k».proof.Proof.Gen.AttnIn.Launch
public import proofs.«01_k».proof.Proof.Gen.AttnIn.Points
public import proofs.«01_k».proof.Proof.Gen.AttnIn.Frame
public import proofs.«01_k».proof.Proof.Gen.AttnInIdeal
public import proofs.«01_k».proof.Proof.Gen.AttnInIdeal.Skeleton
public import proofs.«01_k».proof.Proof.Gen.AttnInIdeal.Launch
public import proofs.«01_k».proof.Proof.Gen.AttnInIdeal.Points
public import proofs.«01_k».proof.Proof.Gen.AttnInIdeal.Frame
public import proofs.«01_k».proof.Proof.Gen.AttnInRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.FwdRefIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.Pw1
public import proofs.«01_k».proof.Proof.Gen.Pw1.Skeleton
public import proofs.«01_k».proof.Proof.Gen.Pw1.Launch
public import proofs.«01_k».proof.Proof.Gen.Pw1.Points
public import proofs.«01_k».proof.Proof.Gen.Pw1.Frame
public import proofs.«01_k».proof.Proof.Gen.Pw1Ideal
public import proofs.«01_k».proof.Proof.Gen.Pw1Ideal.Skeleton
public import proofs.«01_k».proof.Proof.Gen.Pw1Ideal.Launch
public import proofs.«01_k».proof.Proof.Gen.Pw1Ideal.Points
public import proofs.«01_k».proof.Proof.Gen.Pw1Ideal.Frame
public import proofs.«01_k».proof.Proof.Gen.Pw1RefIdeal
public import proofs.«01_k».proof.Proof.Gen.Res
public import proofs.«01_k».proof.Proof.Gen.Res.Skeleton
public import proofs.«01_k».proof.Proof.Gen.Res.Launch
public import proofs.«01_k».proof.Proof.Gen.Res.Points
public import proofs.«01_k».proof.Proof.Gen.Res.Frame
public import proofs.«01_k».proof.Proof.Gen.ResIdeal
public import proofs.«01_k».proof.Proof.Gen.ResIdeal.Skeleton
public import proofs.«01_k».proof.Proof.Gen.ResIdeal.Launch
public import proofs.«01_k».proof.Proof.Gen.ResIdeal.Points
public import proofs.«01_k».proof.Proof.Gen.ResIdeal.Frame
public import proofs.«01_k».proof.Proof.Gen.ResRefIdeal
public import proofs.«01_k».proof.Proof.Gen.Dn
public import proofs.«01_k».proof.Proof.Gen.Dn.Skeleton
public import proofs.«01_k».proof.Proof.Gen.Dn.Launch
public import proofs.«01_k».proof.Proof.Gen.Dn.Points
public import proofs.«01_k».proof.Proof.Gen.Dn.Frame
public import proofs.«01_k».proof.Proof.Gen.DnIdeal
public import proofs.«01_k».proof.Proof.Gen.DnIdeal.Skeleton
public import proofs.«01_k».proof.Proof.Gen.DnIdeal.Launch
public import proofs.«01_k».proof.Proof.Gen.DnIdeal.Points
public import proofs.«01_k».proof.Proof.Gen.DnIdeal.Frame
public import proofs.«01_k».proof.Proof.Gen.DnRefIdeal
public import proofs.«01_k».proof.Proof.Gen.Nt
public import proofs.«01_k».proof.Proof.Gen.Nt.Skeleton
public import proofs.«01_k».proof.Proof.Gen.Nt.Launch
public import proofs.«01_k».proof.Proof.Gen.Nt.Points
public import proofs.«01_k».proof.Proof.Gen.Nt.Frame
public import proofs.«01_k».proof.Proof.Gen.NtIdeal
public import proofs.«01_k».proof.Proof.Gen.NtIdeal.Skeleton
public import proofs.«01_k».proof.Proof.Gen.NtIdeal.Launch
public import proofs.«01_k».proof.Proof.Gen.NtIdeal.Points
public import proofs.«01_k».proof.Proof.Gen.NtIdeal.Frame
public import proofs.«01_k».proof.Proof.Gen.NtRefIdeal
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamRefIdeal
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.Tn
public import proofs.«01_k».proof.Proof.Gen.Tn.Skeleton
public import proofs.«01_k».proof.Proof.Gen.Tn.Launch
public import proofs.«01_k».proof.Proof.Gen.Tn.Points
public import proofs.«01_k».proof.Proof.Gen.Tn.Frame
public import proofs.«01_k».proof.Proof.Gen.TnIdeal
public import proofs.«01_k».proof.Proof.Gen.TnIdeal.Skeleton
public import proofs.«01_k».proof.Proof.Gen.TnIdeal.Launch
public import proofs.«01_k».proof.Proof.Gen.TnIdeal.Points
public import proofs.«01_k».proof.Proof.Gen.TnIdeal.Frame
public import proofs.«01_k».proof.Proof.Gen.TnRefIdeal
public import proofs.«01_k».proof.Proof.Gen.Half
public import proofs.«01_k».proof.Proof.Gen.Half.Skeleton
public import proofs.«01_k».proof.Proof.Gen.Half.Launch
public import proofs.«01_k».proof.Proof.Gen.Half.Points
public import proofs.«01_k».proof.Proof.Gen.Half.Frame
public import proofs.«01_k».proof.Proof.Gen.HalfIdeal
public import proofs.«01_k».proof.Proof.Gen.HalfIdeal.Skeleton
public import proofs.«01_k».proof.Proof.Gen.HalfIdeal.Launch
public import proofs.«01_k».proof.Proof.Gen.HalfIdeal.Points
public import proofs.«01_k».proof.Proof.Gen.HalfIdeal.Frame
public import proofs.«01_k».proof.Proof.Gen.HalfRefIdeal
public import proofs.«01_k».proof.Proof.Gen.Part
public import proofs.«01_k».proof.Proof.Gen.Part.Skeleton
public import proofs.«01_k».proof.Proof.Gen.Part.Launch
public import proofs.«01_k».proof.Proof.Gen.Part.Points
public import proofs.«01_k».proof.Proof.Gen.Part.Frame
public import proofs.«01_k».proof.Proof.Gen.PartIdeal
public import proofs.«01_k».proof.Proof.Gen.PartIdeal.Skeleton
public import proofs.«01_k».proof.Proof.Gen.PartIdeal.Launch
public import proofs.«01_k».proof.Proof.Gen.PartIdeal.Points
public import proofs.«01_k».proof.Proof.Gen.PartIdeal.Frame
public import proofs.«01_k».proof.Proof.Gen.PartRefIdeal
public import proofs.«01_k».proof.Proof.Gen.Cast
public import proofs.«01_k».proof.Proof.Gen.Cast.Skeleton
public import proofs.«01_k».proof.Proof.Gen.Cast.Launch
public import proofs.«01_k».proof.Proof.Gen.Cast.Points
public import proofs.«01_k».proof.Proof.Gen.Cast.Frame
public import proofs.«01_k».proof.Proof.Gen.CastIdeal
public import proofs.«01_k».proof.Proof.Gen.CastIdeal.Skeleton
public import proofs.«01_k».proof.Proof.Gen.CastIdeal.Launch
public import proofs.«01_k».proof.Proof.Gen.CastIdeal.Points
public import proofs.«01_k».proof.Proof.Gen.CastIdeal.Frame
public import proofs.«01_k».proof.Proof.Gen.CastRefIdeal
public import proofs.«01_k».proof.Proof.Gen.Pre_finite_ffn_in
public import proofs.«01_k».proof.Proof.Gen.Pre_finite_conv_in
public import proofs.«01_k».proof.Proof.Gen.Pre_finite_attn_in
public import proofs.«01_k».proof.Proof.Gen.Pre_finite_down
public import proofs.«01_k».proof.Proof.Gen.Pre_finite_loss
public import proofs.«01_k».proof.Proof.Gen.Pre_finite_fwd
public import proofs.«01_k».proof.Proof.Gen.Pre_finite_up
public import proofs.«01_k».proof.Proof.Gen.FfnInIdeal.Value
public import proofs.«01_k».proof.Proof.Gen.FfnInRefIdeal.Read
public import proofs.«01_k».proof.Proof.Gen.ConvInIdeal.Value
public import proofs.«01_k».proof.Proof.Gen.ConvInRefIdeal.Read
public import proofs.«01_k».proof.Proof.Gen.AttnInIdeal.Value
public import proofs.«01_k».proof.Proof.Gen.AttnInRefIdeal.Read
public import proofs.«01_k».proof.Proof.Gen.DownIdeal.Value
public import proofs.«01_k».proof.Proof.Gen.DownRefIdeal.Read
public import proofs.«01_k».proof.Proof.Gen.LossIdeal.Value
public import proofs.«01_k».proof.Proof.Gen.LossRefIdeal.Read
public import proofs.«01_k».proof.Proof.Gen.FwdIdeal.Value
public import proofs.«01_k».proof.Proof.Gen.FwdRefIdeal.Read
public import proofs.«01_k».proof.Proof.Gen.UpIdeal.Value
public import proofs.«01_k».proof.Proof.Gen.UpRefIdeal.Read
public import proofs.«01_k».proof.Proof.Gen.Pw1Ideal.Value
public import proofs.«01_k».proof.Proof.Gen.Pw1RefIdeal.Read
public import proofs.«01_k».proof.Proof.Gen.ResIdeal.Value
public import proofs.«01_k».proof.Proof.Gen.ResRefIdeal.Read
public import proofs.«01_k».proof.Proof.Gen.DnIdeal.Value
public import proofs.«01_k».proof.Proof.Gen.DnRefIdeal.Read
public import proofs.«01_k».proof.Proof.Gen.NtIdeal.Value
public import proofs.«01_k».proof.Proof.Gen.NtRefIdeal.Read
public import proofs.«01_k».proof.Proof.Gen.AdamIdeal.Value
public import proofs.«01_k».proof.Proof.Gen.AdamRefIdeal.Read
public import proofs.«01_k».proof.Proof.Gen.QkvIdeal.Value
public import proofs.«01_k».proof.Proof.Gen.QkvRefIdeal.Read
public import proofs.«01_k».proof.Proof.Gen.TnIdeal.Value
public import proofs.«01_k».proof.Proof.Gen.TnRefIdeal.Read
public import proofs.«01_k».proof.Proof.Gen.HalfRefIdeal.Read
public import proofs.«01_k».proof.Proof.Gen.PartRefIdeal.Read
public import proofs.«01_k».proof.Proof.Gen.CastRefIdeal.Read
public import proofs.«01_k».proof.Proof.FfnIn.Value
public import proofs.«01_k».proof.Proof.ConvIn.Value
public import proofs.«01_k».proof.Proof.AttnIn.Value
public import proofs.«01_k».proof.Proof.Down.Value
public import proofs.«01_k».proof.Proof.Loss.Value
public import proofs.«01_k».proof.Proof.Fwd.Value
public import proofs.«01_k».proof.Proof.Up.Value
public import proofs.«01_k».proof.Proof.Pw1.Value
public import proofs.«01_k».proof.Proof.Res.Value
public import proofs.«01_k».proof.Proof.Dn.Value
public import proofs.«01_k».proof.Proof.Nt.Value
public import proofs.«01_k».proof.Proof.Adam.Value
public import proofs.«01_k».proof.Proof.Qkv.Value
public import proofs.«01_k».proof.Proof.Tn.Value
public import proofs.«01_k».proof.Proof.Half.Value
public import proofs.«01_k».proof.Proof.Part.Value
public import proofs.«01_k».proof.Proof.Cast.Value
public import Idealize.ShloMosaic.Adequacy
public import Idealize.ShloMosaic.Init

@[expose] public section

noncomputable section

namespace Cert.Proof

open Idealize.ShloMosaic Idealize.SL.Sem

theorem claim : Cert.Claim := ⟨Cert.FfnIn.Gen.facts, Cert.FfnInIdeal.Gen.facts, Cert.FfnInRefIdeal.Gen.facts, Cert.ConvIn.Gen.facts, Cert.ConvInIdeal.Gen.facts, Cert.ConvInRefIdeal.Gen.facts, Cert.AttnIn.Gen.facts, Cert.AttnInIdeal.Gen.facts, Cert.AttnInRefIdeal.Gen.facts, Cert.Down.Gen.facts, Cert.DownIdeal.Gen.facts, Cert.DownRefIdeal.Gen.facts, Cert.Loss.Gen.facts, Cert.LossIdeal.Gen.facts, Cert.LossRefIdeal.Gen.facts, Cert.Fwd.Gen.facts, Cert.FwdIdeal.Gen.facts, Cert.FwdRefIdeal.Gen.facts, Cert.Up.Gen.facts, Cert.UpIdeal.Gen.facts, Cert.UpRefIdeal.Gen.facts, Cert.Pw1.Gen.facts, Cert.Pw1Ideal.Gen.facts, Cert.Pw1RefIdeal.Gen.facts, Cert.Res.Gen.facts, Cert.ResIdeal.Gen.facts, Cert.ResRefIdeal.Gen.facts, Cert.Dn.Gen.facts, Cert.DnIdeal.Gen.facts, Cert.DnRefIdeal.Gen.facts, Cert.Nt.Gen.facts, Cert.NtIdeal.Gen.facts, Cert.NtRefIdeal.Gen.facts, Cert.Adam.Gen.facts, Cert.AdamIdeal.Gen.facts, Cert.AdamRefIdeal.Gen.facts, Cert.Qkv.Gen.facts, Cert.QkvIdeal.Gen.facts, Cert.QkvRefIdeal.Gen.facts, Cert.Tn.Gen.facts, Cert.TnIdeal.Gen.facts, Cert.TnRefIdeal.Gen.facts, Cert.Half.Gen.facts, Cert.HalfIdeal.Gen.facts, Cert.HalfRefIdeal.Gen.facts, Cert.Part.Gen.facts, Cert.PartIdeal.Gen.facts, Cert.PartRefIdeal.Gen.facts, Cert.Cast.Gen.facts, Cert.CastIdeal.Gen.facts, Cert.CastRefIdeal.Gen.facts, Cert.Pre_finite_ffn_in.Gen.facts, Cert.Pre_finite_conv_in.Gen.facts, Cert.Pre_finite_attn_in.Gen.facts, Cert.Pre_finite_down.Gen.facts, Cert.Pre_finite_loss.Gen.facts, Cert.Pre_finite_fwd.Gen.facts, Cert.Pre_finite_up.Gen.facts,
    fun m ρ _ => Cert.FfnIn.Gen.frame m ρ,
    fun m ρ _ => Cert.FfnInIdeal.Gen.frame m ρ,
    fun m ρ _ => Cert.FfnInIdeal.Gen.frame m ρ,
    Cert.FfnInIdeal.Value.frame_ref,
    fun m ρ _ => Cert.FfnInIdeal.Value.frame_ref m ρ trivial,
    fun m ρ _ => Cert.ConvIn.Gen.frame m ρ,
    fun m ρ _ => Cert.ConvInIdeal.Gen.frame m ρ,
    fun m ρ _ => Cert.ConvInIdeal.Gen.frame m ρ,
    Cert.ConvInIdeal.Value.frame_ref,
    fun m ρ _ => Cert.ConvInIdeal.Value.frame_ref m ρ trivial,
    fun m ρ _ => Cert.AttnIn.Gen.frame m ρ,
    fun m ρ _ => Cert.AttnInIdeal.Gen.frame m ρ,
    fun m ρ _ => Cert.AttnInIdeal.Gen.frame m ρ,
    Cert.AttnInIdeal.Value.frame_ref,
    fun m ρ _ => Cert.AttnInIdeal.Value.frame_ref m ρ trivial,
    fun m ρ _ => Cert.Down.Gen.frame m ρ,
    fun m ρ _ => Cert.DownIdeal.Gen.frame m ρ,
    fun m ρ _ => Cert.DownIdeal.Gen.frame m ρ,
    Cert.DownIdeal.Value.frame_ref,
    fun m ρ _ => Cert.DownIdeal.Value.frame_ref m ρ trivial,
    fun m ρ _ => Cert.Loss.Gen.frame m ρ,
    fun m ρ _ => Cert.LossIdeal.Gen.frame m ρ,
    fun m ρ _ => Cert.LossIdeal.Gen.frame m ρ,
    Cert.LossIdeal.Value.frame_ref,
    fun m ρ _ => Cert.LossIdeal.Value.frame_ref m ρ trivial,
    fun m ρ _ => Cert.Fwd.Gen.frame m ρ,
    fun m ρ _ => Cert.FwdIdeal.Gen.frame m ρ,
    fun m ρ _ => Cert.FwdIdeal.Gen.frame m ρ,
    Cert.FwdIdeal.Value.frame_ref,
    fun m ρ _ => Cert.FwdIdeal.Value.frame_ref m ρ trivial,
    fun m ρ _ => Cert.Up.Gen.frame m ρ,
    fun m ρ _ => Cert.UpIdeal.Gen.frame m ρ,
    fun m ρ _ => Cert.UpIdeal.Gen.frame m ρ,
    Cert.UpIdeal.Value.frame_ref,
    fun m ρ _ => Cert.UpIdeal.Value.frame_ref m ρ trivial,
    fun m ρ _ => Cert.Pw1.Gen.frame m ρ,
    fun m ρ _ => Cert.Pw1Ideal.Gen.frame m ρ,
    Cert.Pw1Ideal.Value.frame_ref,
    fun m ρ _ => Cert.Res.Gen.frame m ρ,
    fun m ρ _ => Cert.ResIdeal.Gen.frame m ρ,
    Cert.ResIdeal.Value.frame_ref,
    fun m ρ _ => Cert.Dn.Gen.frame m ρ,
    fun m ρ _ => Cert.DnIdeal.Gen.frame m ρ,
    Cert.DnIdeal.Value.frame_ref,
    fun m ρ _ => Cert.Nt.Gen.frame m ρ,
    fun m ρ _ => Cert.NtIdeal.Gen.frame m ρ,
    Cert.NtIdeal.Value.frame_ref,
    fun m ρ _ => Cert.Adam.Gen.frame m ρ,
    fun m ρ _ => Cert.AdamIdeal.Gen.frame m ρ,
    Cert.AdamIdeal.Value.frame_ref,
    fun m ρ _ => Cert.Qkv.Gen.frame m ρ,
    fun m ρ _ => Cert.QkvIdeal.Gen.frame m ρ,
    Cert.QkvIdeal.Value.frame_ref,
    fun m ρ _ => Cert.Tn.Gen.frame m ρ,
    fun m ρ _ => Cert.TnIdeal.Gen.frame m ρ,
    Cert.TnIdeal.Value.frame_ref,
    fun m ρ _ => Cert.Half.Gen.frame m ρ (Cert.Half.Gen.ok m),
    fun m ρ _ => Cert.HalfIdeal.Gen.frame m ρ (Cert.HalfIdeal.Gen.ok m),
    Cert.HalfIdeal.Value.frame_ref,
    fun m ρ _ => Cert.Part.Gen.frame m ρ (Cert.Part.Gen.ok m),
    fun m ρ _ => Cert.PartIdeal.Gen.frame m ρ (Cert.PartIdeal.Gen.ok m),
    Cert.PartIdeal.Value.frame_ref,
    fun m ρ _ => Cert.Cast.Gen.frame m ρ (Cert.Cast.Gen.ok m),
    fun m ρ _ => Cert.CastIdeal.Gen.frame m ρ (Cert.CastIdeal.Gen.ok m),
    Cert.CastIdeal.Value.frame_ref,
    trivial,
    Cert.FfnInIdeal.Value.value,
    trivial,
    Cert.ConvInIdeal.Value.value,
    trivial,
    Cert.AttnInIdeal.Value.value,
    trivial,
    Cert.DownIdeal.Value.value,
    trivial,
    Cert.LossIdeal.Value.value,
    IdealRules.named_const.statement Cert.FwdIdeal.κ "mask" .f32 0xF2C9F2CA#32 ⊥ rfl,
    Cert.FwdIdeal.Value.value,
    trivial,
    Cert.UpIdeal.Value.value,
    trivial,
    Cert.Pw1Ideal.Value.value,
    trivial,
    Cert.ResIdeal.Value.value,
    trivial,
    Cert.DnIdeal.Value.value,
    trivial,
    Cert.NtIdeal.Value.value,
    trivial,
    Cert.AdamIdeal.Value.value,
    trivial,
    Cert.QkvIdeal.Value.value,
    trivial,
    Cert.TnIdeal.Value.value,
    trivial,
    Cert.HalfIdeal.Value.value,
    trivial,
    Cert.PartIdeal.Value.value,
    trivial,
    Cert.CastIdeal.Value.value⟩

end Cert.Proof

end
